-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownRefIdeal (m : (ℓ : Loc Cert.DownRefIdeal.nD Cert.DownRefIdeal.τ Cert.DownRefIdeal.sig) → Buf (Elt Ideal) ℓ) : Prop :=
  True

def Pre_HgrnInDx (m : (ℓ : Loc Cert.HgrnInDx.nD Cert.HgrnInDx.τ Cert.HgrnInDx.sig) → Buf (Elt Bits) ℓ) : Prop :=
  True

def Pre_HgrnInDxIdeal (m : (ℓ : Loc Cert.HgrnInDxIdeal.nD Cert.HgrnInDxIdeal.τ Cert.HgrnInDxIdeal.sig) → Buf (Elt Ideal) ℓ) : Prop :=
  True

def Pre_HgrnInDxRefIdeal (m : (ℓ : Loc Cert.HgrnInDxRefIdeal.nD Cert.HgrnInDxRefIdeal.τ Cert.HgrnInDxRefIdeal.sig) → Buf (Elt Ideal) ℓ) : Prop :=
  True

def Pre_HgrnInDw (m : (ℓ : Loc Cert.HgrnInDw.nD Cert.HgrnInDw.τ Cert.HgrnInDw.sig) → Buf (Elt Bits) ℓ) : Prop :=
  True

def Pre_HgrnInDwIdeal (m : (ℓ : Loc Cert.HgrnInDwIdeal.nD Cert.HgrnInDwIdeal.τ Cert.HgrnInDwIdeal.sig) → Buf (Elt Ideal) ℓ) : Prop :=
  True

def Pre_HgrnInDwRefIdeal (m : (ℓ : Loc Cert.HgrnInDwRefIdeal.nD Cert.HgrnInDwRefIdeal.τ Cert.HgrnInDwRefIdeal.sig) → Buf (Elt Ideal) ℓ) : Prop :=
  True

def Pre_HgrnIn (m : (ℓ : Loc Cert.HgrnIn.nD Cert.HgrnIn.τ Cert.HgrnIn.sig) → Buf (Elt Bits) ℓ) : Prop :=
  True

def Pre_HgrnInIdeal (m : (ℓ : Loc Cert.HgrnInIdeal.nD Cert.HgrnInIdeal.τ Cert.HgrnInIdeal.sig) → Buf (Elt Ideal) ℓ) : Prop :=
  True

def Pre_HgrnInRefIdeal (m : (ℓ : Loc Cert.HgrnInRefIdeal.nD Cert.HgrnInRefIdeal.τ Cert.HgrnInRefIdeal.sig) → Buf (Elt Ideal) ℓ) : Prop :=
  True

def Pre_ConvInDx (m : (ℓ : Loc Cert.ConvInDx.nD Cert.ConvInDx.τ Cert.ConvInDx.sig) → Buf (Elt Bits) ℓ) : Prop :=
  True

def Pre_ConvInDxIdeal (m : (ℓ : Loc Cert.ConvInDxIdeal.nD Cert.ConvInDxIdeal.τ Cert.ConvInDxIdeal.sig) → Buf (Elt Ideal) ℓ) : Prop :=
  True

def Pre_ConvInDxRefIdeal (m : (ℓ : Loc Cert.ConvInDxRefIdeal.nD Cert.ConvInDxRefIdeal.τ Cert.ConvInDxRefIdeal.sig) → Buf (Elt Ideal) ℓ) : Prop :=
  True

def Pre_ConvInDw (m : (ℓ : Loc Cert.ConvInDw.nD Cert.ConvInDw.τ Cert.ConvInDw.sig) → Buf (Elt Bits) ℓ) : Prop :=
  True

def Pre_ConvInDwIdeal (m : (ℓ : Loc Cert.ConvInDwIdeal.nD Cert.ConvInDwIdeal.τ Cert.ConvInDwIdeal.sig) → Buf (Elt Ideal) ℓ) : Prop :=
  True

def Pre_ConvInDwRefIdeal (m : (ℓ : Loc Cert.ConvInDwRefIdeal.nD Cert.ConvInDwRefIdeal.τ Cert.ConvInDwRefIdeal.sig) → Buf (Elt Ideal) ℓ) : Prop :=
  True

def Pre_ConvIn (m : (ℓ : Loc Cert.ConvIn.nD Cert.ConvIn.τ Cert.ConvIn.sig) → Buf (Elt Bits) ℓ) : Prop :=
  True

def Pre_ConvInIdeal (m : (ℓ : Loc Cert.ConvInIdeal.nD Cert.ConvInIdeal.τ Cert.ConvInIdeal.sig) → Buf (Elt Ideal) ℓ) : Prop :=
  True

def Pre_ConvInRefIdeal (m : (ℓ : Loc Cert.ConvInRefIdeal.nD Cert.ConvInRefIdeal.τ Cert.ConvInRefIdeal.sig) → Buf (Elt Ideal) ℓ) : Prop :=
  True

def Pre_ConvOutDx (m : (ℓ : Loc Cert.ConvOutDx.nD Cert.ConvOutDx.τ Cert.ConvOutDx.sig) → Buf (Elt Bits) ℓ) : Prop :=
  True

def Pre_ConvOutDxIdeal (m : (ℓ : Loc Cert.ConvOutDxIdeal.nD Cert.ConvOutDxIdeal.τ Cert.ConvOutDxIdeal.sig) → Buf (Elt Ideal) ℓ) : Prop :=
  True

def Pre_ConvOutDxRefIdeal (m : (ℓ : Loc Cert.ConvOutDxRefIdeal.nD Cert.ConvOutDxRefIdeal.τ Cert.ConvOutDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_ConvOut (m : (ℓ : Loc Cert.ConvOut.nD Cert.ConvOut.τ Cert.ConvOut.sig) → Buf (Elt Bits) ℓ) : Prop :=
  True

def Pre_ConvOutIdeal (m : (ℓ : Loc Cert.ConvOutIdeal.nD Cert.ConvOutIdeal.τ Cert.ConvOutIdeal.sig) → Buf (Elt Ideal) ℓ) : Prop :=
  True

def Pre_ConvOutRefIdeal (m : (ℓ : Loc Cert.ConvOutRefIdeal.nD Cert.ConvOutRefIdeal.τ Cert.ConvOutRefIdeal.sig) → Buf (Elt Ideal) ℓ) : Prop :=
  True

def Pre_HgrnOutDx (m : (ℓ : Loc Cert.HgrnOutDx.nD Cert.HgrnOutDx.τ Cert.HgrnOutDx.sig) → Buf (Elt Bits) ℓ) : Prop :=
  True

def Pre_HgrnOutDxIdeal (m : (ℓ : Loc Cert.HgrnOutDxIdeal.nD Cert.HgrnOutDxIdeal.τ Cert.HgrnOutDxIdeal.sig) → Buf (Elt Ideal) ℓ) : Prop :=
  True

def Pre_HgrnOutDxRefIdeal (m : (ℓ : Loc Cert.HgrnOutDxRefIdeal.nD Cert.HgrnOutDxRefIdeal.τ Cert.HgrnOutDxRefIdeal.sig) → Buf (Elt Ideal) ℓ) : Prop :=
  True

def Pre_HgrnOut (m : (ℓ : Loc Cert.HgrnOut.nD Cert.HgrnOut.τ Cert.HgrnOut.sig) → Buf (Elt Bits) ℓ) : Prop :=
  True

def Pre_HgrnOutIdeal (m : (ℓ : Loc Cert.HgrnOutIdeal.nD Cert.HgrnOutIdeal.τ Cert.HgrnOutIdeal.sig) → Buf (Elt Ideal) ℓ) : Prop :=
  True

def Pre_HgrnOutRefIdeal (m : (ℓ : Loc Cert.HgrnOutRefIdeal.nD Cert.HgrnOutRefIdeal.τ Cert.HgrnOutRefIdeal.sig) → Buf (Elt Ideal) ℓ) : Prop :=
  True

def Pre_PrenormBwd (m : (ℓ : Loc Cert.PrenormBwd.nD Cert.PrenormBwd.τ Cert.PrenormBwd.sig) → Buf (Elt Bits) ℓ) : Prop :=
  True

def Pre_PrenormBwdIdeal (m : (ℓ : Loc Cert.PrenormBwdIdeal.nD Cert.PrenormBwdIdeal.τ Cert.PrenormBwdIdeal.sig) → Buf (Elt Ideal) ℓ) : Prop :=
  True

def Pre_PrenormBwdRefIdeal (m : (ℓ : Loc Cert.PrenormBwdRefIdeal.nD Cert.PrenormBwdRefIdeal.τ Cert.PrenormBwdRefIdeal.sig) → Buf (Elt Ideal) ℓ) : Prop :=
  True

def Pre_PrenormPostBwd (m : (ℓ : Loc Cert.PrenormPostBwd.nD Cert.PrenormPostBwd.τ Cert.PrenormPostBwd.sig) → Buf (Elt Bits) ℓ) : Prop :=
  True

def Pre_PrenormPostBwdIdeal (m : (ℓ : Loc Cert.PrenormPostBwdIdeal.nD Cert.PrenormPostBwdIdeal.τ Cert.PrenormPostBwdIdeal.sig) → Buf (Elt Ideal) ℓ) : Prop :=
  True

def Pre_PrenormPostBwdRefIdeal (m : (ℓ : Loc Cert.PrenormPostBwdRefIdeal.nD Cert.PrenormPostBwdRefIdeal.τ Cert.PrenormPostBwdRefIdeal.sig) → Buf (Elt Ideal) ℓ) : Prop :=
  True

def Pre_PostLoss (m : (ℓ : Loc Cert.PostLoss.nD Cert.PostLoss.τ Cert.PostLoss.sig) → Buf (Elt Bits) ℓ) : Prop :=
  True

def Pre_PostLossIdeal (m : (ℓ : Loc Cert.PostLossIdeal.nD Cert.PostLossIdeal.τ Cert.PostLossIdeal.sig) → Buf (Elt Ideal) ℓ) : Prop :=
  True

def Pre_PostLossRefIdeal (m : (ℓ : Loc Cert.PostLossRefIdeal.nD Cert.PostLossRefIdeal.τ Cert.PostLossRefIdeal.sig) → Buf (Elt Ideal) ℓ) : Prop :=
  True

def Pre_Prenorm (m : (ℓ : Loc Cert.Prenorm.nD Cert.Prenorm.τ Cert.Prenorm.sig) → Buf (Elt Bits) ℓ) : Prop :=
  True

def Pre_PrenormIdeal (m : (ℓ : Loc Cert.PrenormIdeal.nD Cert.PrenormIdeal.τ Cert.PrenormIdeal.sig) → Buf (Elt Ideal) ℓ) : Prop :=
  True

def Pre_PrenormRefIdeal (m : (ℓ : Loc Cert.PrenormRefIdeal.nD Cert.PrenormRefIdeal.τ Cert.PrenormRefIdeal.sig) → Buf (Elt Ideal) ℓ) : Prop :=
  True

def Pre_PostPrenorm (m : (ℓ : Loc Cert.PostPrenorm.nD Cert.PostPrenorm.τ Cert.PostPrenorm.sig) → Buf (Elt Bits) ℓ) : Prop :=
  True

def Pre_PostPrenormIdeal (m : (ℓ : Loc Cert.PostPrenormIdeal.nD Cert.PostPrenormIdeal.τ Cert.PostPrenormIdeal.sig) → Buf (Elt Ideal) ℓ) : Prop :=
  True

def Pre_PostPrenormRefIdeal (m : (ℓ : Loc Cert.PostPrenormRefIdeal.nD Cert.PostPrenormRefIdeal.τ Cert.PostPrenormRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def Pre_AdamWDown (m : (ℓ : Loc Cert.AdamWDown.nD Cert.AdamWDown.τ Cert.AdamWDown.sig) → Buf (Elt Bits) ℓ) : Prop :=
  True

def Pre_AdamWDownIdeal (m : (ℓ : Loc Cert.AdamWDownIdeal.nD Cert.AdamWDownIdeal.τ Cert.AdamWDownIdeal.sig) → Buf (Elt Ideal) ℓ) : Prop :=
  True

def Pre_AdamWDownRefIdeal (m : (ℓ : Loc Cert.AdamWDownRefIdeal.nD Cert.AdamWDownRefIdeal.τ Cert.AdamWDownRefIdeal.sig) → Buf (Elt Ideal) ℓ) : Prop :=
  True

def Pre_AdamWConvIn (m : (ℓ : Loc Cert.AdamWConvIn.nD Cert.AdamWConvIn.τ Cert.AdamWConvIn.sig) → Buf (Elt Bits) ℓ) : Prop :=
  True

def Pre_AdamWConvInIdeal (m : (ℓ : Loc Cert.AdamWConvInIdeal.nD Cert.AdamWConvInIdeal.τ Cert.AdamWConvInIdeal.sig) → Buf (Elt Ideal) ℓ) : Prop :=
  True

def Pre_AdamWConvInRefIdeal (m : (ℓ : Loc Cert.AdamWConvInRefIdeal.nD Cert.AdamWConvInRefIdeal.τ Cert.AdamWConvInRefIdeal.sig) → Buf (Elt Ideal) ℓ) : Prop :=
  True

def Pre_AdamWConvOut (m : (ℓ : Loc Cert.AdamWConvOut.nD Cert.AdamWConvOut.τ Cert.AdamWConvOut.sig) → Buf (Elt Bits) ℓ) : Prop :=
  True

def Pre_AdamWConvOutIdeal (m : (ℓ : Loc Cert.AdamWConvOutIdeal.nD Cert.AdamWConvOutIdeal.τ Cert.AdamWConvOutIdeal.sig) → Buf (Elt Ideal) ℓ) : Prop :=
  True

def Pre_AdamWConvOutRefIdeal (m : (ℓ : Loc Cert.AdamWConvOutRefIdeal.nD Cert.AdamWConvOutRefIdeal.τ Cert.AdamWConvOutRefIdeal.sig) → Buf (Elt Ideal) ℓ) : Prop :=
  True

def Pre_AdamWAda (m : (ℓ : Loc Cert.AdamWAda.nD Cert.AdamWAda.τ Cert.AdamWAda.sig) → Buf (Elt Bits) ℓ) : Prop :=
  True

def Pre_AdamWAdaIdeal (m : (ℓ : Loc Cert.AdamWAdaIdeal.nD Cert.AdamWAdaIdeal.τ Cert.AdamWAdaIdeal.sig) → Buf (Elt Ideal) ℓ) : Prop :=
  True

def Pre_AdamWAdaRefIdeal (m : (ℓ : Loc Cert.AdamWAdaRefIdeal.nD Cert.AdamWAdaRefIdeal.τ Cert.AdamWAdaRefIdeal.sig) → Buf (Elt Ideal) ℓ) : Prop :=
  True

def Pre_AdamWHgrnIn (m : (ℓ : Loc Cert.AdamWHgrnIn.nD Cert.AdamWHgrnIn.τ Cert.AdamWHgrnIn.sig) → Buf (Elt Bits) ℓ) : Prop :=
  True

def Pre_AdamWHgrnInIdeal (m : (ℓ : Loc Cert.AdamWHgrnInIdeal.nD Cert.AdamWHgrnInIdeal.τ Cert.AdamWHgrnInIdeal.sig) → Buf (Elt Ideal) ℓ) : Prop :=
  True

def Pre_AdamWHgrnInRefIdeal (m : (ℓ : Loc Cert.AdamWHgrnInRefIdeal.nD Cert.AdamWHgrnInRefIdeal.τ Cert.AdamWHgrnInRefIdeal.sig) → Buf (Elt Ideal) ℓ) : Prop :=
  True

def Pre_AdamWHgrnOut (m : (ℓ : Loc Cert.AdamWHgrnOut.nD Cert.AdamWHgrnOut.τ Cert.AdamWHgrnOut.sig) → Buf (Elt Bits) ℓ) : Prop :=
  True

def Pre_AdamWHgrnOutIdeal (m : (ℓ : Loc Cert.AdamWHgrnOutIdeal.nD Cert.AdamWHgrnOutIdeal.τ Cert.AdamWHgrnOutIdeal.sig) → Buf (Elt Ideal) ℓ) : Prop :=
  True

def Pre_AdamWHgrnOutRefIdeal (m : (ℓ : Loc Cert.AdamWHgrnOutRefIdeal.nD Cert.AdamWHgrnOutRefIdeal.τ Cert.AdamWHgrnOutRefIdeal.sig) → Buf (Elt Ideal) ℓ) : Prop :=
  True

def Pre_AdamWSmall (m : (ℓ : Loc Cert.AdamWSmall.nD Cert.AdamWSmall.τ Cert.AdamWSmall.sig) → Buf (Elt Bits) ℓ) : Prop :=
  True

def Pre_AdamWSmallIdeal (m : (ℓ : Loc Cert.AdamWSmallIdeal.nD Cert.AdamWSmallIdeal.τ Cert.AdamWSmallIdeal.sig) → Buf (Elt Ideal) ℓ) : Prop :=
  True

def Pre_AdamWSmallRefIdeal (m : (ℓ : Loc Cert.AdamWSmallRefIdeal.nD Cert.AdamWSmallRefIdeal.τ Cert.AdamWSmallRefIdeal.sig) → Buf (Elt Ideal) ℓ) : Prop :=
  True

def Pre_AdaWgrad (m : (ℓ : Loc Cert.AdaWgrad.nD Cert.AdaWgrad.τ Cert.AdaWgrad.sig) → Buf (Elt Bits) ℓ) : Prop :=
  True

def Pre_AdaWgradIdeal (m : (ℓ : Loc Cert.AdaWgradIdeal.nD Cert.AdaWgradIdeal.τ Cert.AdaWgradIdeal.sig) → Buf (Elt Ideal) ℓ) : Prop :=
  True

def Pre_AdaWgradRefIdeal (m : (ℓ : Loc Cert.AdaWgradRefIdeal.nD Cert.AdaWgradRefIdeal.τ Cert.AdaWgradRefIdeal.sig) → Buf (Elt Ideal) ℓ) : Prop :=
  True

def Pre_SumSmall (m : (ℓ : Loc Cert.SumSmall.nD Cert.SumSmall.τ Cert.SumSmall.sig) → Buf (Elt Bits) ℓ) : Prop :=
  True

def Pre_SumSmallIdeal (m : (ℓ : Loc Cert.SumSmallIdeal.nD Cert.SumSmallIdeal.τ Cert.SumSmallIdeal.sig) → Buf (Elt Ideal) ℓ) : Prop :=
  True

def Pre_SumSmallRefIdeal (m : (ℓ : Loc Cert.SumSmallRefIdeal.nD Cert.SumSmallRefIdeal.τ Cert.SumSmallRefIdeal.sig) → Buf (Elt Ideal) ℓ) : Prop :=
  True

def Pre_GateBwd (m : (ℓ : Loc Cert.GateBwd.nD Cert.GateBwd.τ Cert.GateBwd.sig) → Buf (Elt Bits) ℓ) : Prop :=
  True

def Pre_GateBwdIdeal (m : (ℓ : Loc Cert.GateBwdIdeal.nD Cert.GateBwdIdeal.τ Cert.GateBwdIdeal.sig) → Buf (Elt Ideal) ℓ) : Prop :=
  True

def Pre_GateBwdRefIdeal (m : (ℓ : Loc Cert.GateBwdRefIdeal.nD Cert.GateBwdRefIdeal.τ Cert.GateBwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1))
      ∧ r.2.sem = fun _ => 0)

def quiescent_HgrnInDx [hHgrnInDx : Cert.HgrnInDx.Facts] : Prop :=
  ∀ (m : (ℓ : Loc Cert.HgrnInDx.nD Cert.HgrnInDx.τ Cert.HgrnInDx.sig) → Buf (Elt Bits) ℓ) (g : Dev Cert.HgrnInDx.nD → PrngReg), Pre_HgrnInDx m →
    θ_run (Cert.HgrnInDx.defs (F := Bits)) (onTc (τ := Cert.HgrnInDx.τ) (Cert.HgrnInDx.main (F := Bits))) ⟨m, fun _ => 0, g⟩ (fun r => (∀ c : Dev Cert.HgrnInDx.nD,
      r.2.mem ((c.tc : Thread Cert.HgrnInDx.nD Cert.HgrnInDx.τ).loc Cert.HgrnInDx.main_arg0) = m ((c.tc : Thread Cert.HgrnInDx.nD Cert.HgrnInDx.τ).loc Cert.HgrnInDx.main_arg0)
      ∧ r.2.mem ((c.tc : Thread Cert.HgrnInDx.nD Cert.HgrnInDx.τ).loc Cert.HgrnInDx.main_arg1) = m ((c.tc : Thread Cert.HgrnInDx.nD Cert.HgrnInDx.τ).loc Cert.HgrnInDx.main_arg1)
      ∧ r.2.mem ((c.tc : Thread Cert.HgrnInDx.nD Cert.HgrnInDx.τ).loc Cert.HgrnInDx.main_arg2) = m ((c.tc : Thread Cert.HgrnInDx.nD Cert.HgrnInDx.τ).loc Cert.HgrnInDx.main_arg2)
      ∧ r.2.mem ((c.tc : Thread Cert.HgrnInDx.nD Cert.HgrnInDx.τ).loc Cert.HgrnInDx.main_arg3) = m ((c.tc : Thread Cert.HgrnInDx.nD Cert.HgrnInDx.τ).loc Cert.HgrnInDx.main_arg3))
      ∧ r.2.sem = fun _ => 0)

def quiescent_HgrnInDxIdeal [hHgrnInDxIdeal : Cert.HgrnInDxIdeal.Facts] : Prop :=
  ∀ (m : (ℓ : Loc Cert.HgrnInDxIdeal.nD Cert.HgrnInDxIdeal.τ Cert.HgrnInDxIdeal.sig) → Buf (Elt Ideal) ℓ) (g : Dev Cert.HgrnInDxIdeal.nD → PrngReg), Pre_HgrnInDxIdeal m →
    θ_run (Cert.HgrnInDxIdeal.defs (F := Ideal)) (onTc (τ := Cert.HgrnInDxIdeal.τ) (Cert.HgrnInDxIdeal.main (F := Ideal))) ⟨m, fun _ => 0, g⟩ (fun r => (∀ c : Dev Cert.HgrnInDxIdeal.nD,
      r.2.mem ((c.tc : Thread Cert.HgrnInDxIdeal.nD Cert.HgrnInDxIdeal.τ).loc Cert.HgrnInDxIdeal.main_arg0) = m ((c.tc : Thread Cert.HgrnInDxIdeal.nD Cert.HgrnInDxIdeal.τ).loc Cert.HgrnInDxIdeal.main_arg0)
      ∧ r.2.mem ((c.tc : Thread Cert.HgrnInDxIdeal.nD Cert.HgrnInDxIdeal.τ).loc Cert.HgrnInDxIdeal.main_arg1) = m ((c.tc : Thread Cert.HgrnInDxIdeal.nD Cert.HgrnInDxIdeal.τ).loc Cert.HgrnInDxIdeal.main_arg1)
      ∧ r.2.mem ((c.tc : Thread Cert.HgrnInDxIdeal.nD Cert.HgrnInDxIdeal.τ).loc Cert.HgrnInDxIdeal.main_arg2) = m ((c.tc : Thread Cert.HgrnInDxIdeal.nD Cert.HgrnInDxIdeal.τ).loc Cert.HgrnInDxIdeal.main_arg2)
      ∧ r.2.mem ((c.tc : Thread Cert.HgrnInDxIdeal.nD Cert.HgrnInDxIdeal.τ).loc Cert.HgrnInDxIdeal.main_arg3) = m ((c.tc : Thread Cert.HgrnInDxIdeal.nD Cert.HgrnInDxIdeal.τ).loc Cert.HgrnInDxIdeal.main_arg3))
      ∧ r.2.sem = fun _ => 0)

def quiescent_HgrnInDxRefIdeal [hHgrnInDxRefIdeal : Cert.HgrnInDxRefIdeal.Facts] : Prop :=
  ∀ (m : (ℓ : Loc Cert.HgrnInDxRefIdeal.nD Cert.HgrnInDxRefIdeal.τ Cert.HgrnInDxRefIdeal.sig) → Buf (Elt Ideal) ℓ) (g : Dev Cert.HgrnInDxRefIdeal.nD → PrngReg), Pre_HgrnInDxRefIdeal m →
    θ_run (Cert.HgrnInDxRefIdeal.defs (F := Ideal)) (onTc (τ := Cert.HgrnInDxRefIdeal.τ) (Cert.HgrnInDxRefIdeal.main (F := Ideal))) ⟨m, fun _ => 0, g⟩ (fun r => (∀ c : Dev Cert.HgrnInDxRefIdeal.nD,
      r.2.mem ((c.tc : Thread Cert.HgrnInDxRefIdeal.nD Cert.HgrnInDxRefIdeal.τ).loc Cert.HgrnInDxRefIdeal.main_arg0) = m ((c.tc : Thread Cert.HgrnInDxRefIdeal.nD Cert.HgrnInDxRefIdeal.τ).loc Cert.HgrnInDxRefIdeal.main_arg0)
      ∧ r.2.mem ((c.tc : Thread Cert.HgrnInDxRefIdeal.nD Cert.HgrnInDxRefIdeal.τ).loc Cert.HgrnInDxRefIdeal.main_arg1) = m ((c.tc : Thread Cert.HgrnInDxRefIdeal.nD Cert.HgrnInDxRefIdeal.τ).loc Cert.HgrnInDxRefIdeal.main_arg1)
      ∧ r.2.mem ((c.tc : Thread Cert.HgrnInDxRefIdeal.nD Cert.HgrnInDxRefIdeal.τ).loc Cert.HgrnInDxRefIdeal.main_arg2) = m ((c.tc : Thread Cert.HgrnInDxRefIdeal.nD Cert.HgrnInDxRefIdeal.τ).loc Cert.HgrnInDxRefIdeal.main_arg2)
      ∧ r.2.mem ((c.tc : Thread Cert.HgrnInDxRefIdeal.nD Cert.HgrnInDxRefIdeal.τ).loc Cert.HgrnInDxRefIdeal.main_arg3) = m ((c.tc : Thread Cert.HgrnInDxRefIdeal.nD Cert.HgrnInDxRefIdeal.τ).loc Cert.HgrnInDxRefIdeal.main_arg3))
      ∧ r.2.sem = fun _ => 0)

def quiescent_HgrnInDw [hHgrnInDw : Cert.HgrnInDw.Facts] : Prop :=
  ∀ (m : (ℓ : Loc Cert.HgrnInDw.nD Cert.HgrnInDw.τ Cert.HgrnInDw.sig) → Buf (Elt Bits) ℓ) (g : Dev Cert.HgrnInDw.nD → PrngReg), Pre_HgrnInDw m →
    θ_run (Cert.HgrnInDw.defs (F := Bits)) (onTc (τ := Cert.HgrnInDw.τ) (Cert.HgrnInDw.main (F := Bits))) ⟨m, fun _ => 0, g⟩ (fun r => (∀ c : Dev Cert.HgrnInDw.nD,
      r.2.mem ((c.tc : Thread Cert.HgrnInDw.nD Cert.HgrnInDw.τ).loc Cert.HgrnInDw.main_arg0) = m ((c.tc : Thread Cert.HgrnInDw.nD Cert.HgrnInDw.τ).loc Cert.HgrnInDw.main_arg0)
      ∧ r.2.mem ((c.tc : Thread Cert.HgrnInDw.nD Cert.HgrnInDw.τ).loc Cert.HgrnInDw.main_arg1) = m ((c.tc : Thread Cert.HgrnInDw.nD Cert.HgrnInDw.τ).loc Cert.HgrnInDw.main_arg1)
      ∧ r.2.mem ((c.tc : Thread Cert.HgrnInDw.nD Cert.HgrnInDw.τ).loc Cert.HgrnInDw.main_arg2) = m ((c.tc : Thread Cert.HgrnInDw.nD Cert.HgrnInDw.τ).loc Cert.HgrnInDw.main_arg2))
      ∧ r.2.sem = fun _ => 0)

def quiescent_HgrnInDwIdeal [hHgrnInDwIdeal : Cert.HgrnInDwIdeal.Facts] : Prop :=
  ∀ (m : (ℓ : Loc Cert.HgrnInDwIdeal.nD Cert.HgrnInDwIdeal.τ Cert.HgrnInDwIdeal.sig) → Buf (Elt Ideal) ℓ) (g : Dev Cert.HgrnInDwIdeal.nD → PrngReg), Pre_HgrnInDwIdeal m →
    θ_run (Cert.HgrnInDwIdeal.defs (F := Ideal)) (onTc (τ := Cert.HgrnInDwIdeal.τ) (Cert.HgrnInDwIdeal.main (F := Ideal))) ⟨m, fun _ => 0, g⟩ (fun r => (∀ c : Dev Cert.HgrnInDwIdeal.nD,
      r.2.mem ((c.tc : Thread Cert.HgrnInDwIdeal.nD Cert.HgrnInDwIdeal.τ).loc Cert.HgrnInDwIdeal.main_arg0) = m ((c.tc : Thread Cert.HgrnInDwIdeal.nD Cert.HgrnInDwIdeal.τ).loc Cert.HgrnInDwIdeal.main_arg0)
      ∧ r.2.mem ((c.tc : Thread Cert.HgrnInDwIdeal.nD Cert.HgrnInDwIdeal.τ).loc Cert.HgrnInDwIdeal.main_arg1) = m ((c.tc : Thread Cert.HgrnInDwIdeal.nD Cert.HgrnInDwIdeal.τ).loc Cert.HgrnInDwIdeal.main_arg1)
      ∧ r.2.mem ((c.tc : Thread Cert.HgrnInDwIdeal.nD Cert.HgrnInDwIdeal.τ).loc Cert.HgrnInDwIdeal.main_arg2) = m ((c.tc : Thread Cert.HgrnInDwIdeal.nD Cert.HgrnInDwIdeal.τ).loc Cert.HgrnInDwIdeal.main_arg2))
      ∧ r.2.sem = fun _ => 0)

def quiescent_HgrnInDwRefIdeal [hHgrnInDwRefIdeal : Cert.HgrnInDwRefIdeal.Facts] : Prop :=
  ∀ (m : (ℓ : Loc Cert.HgrnInDwRefIdeal.nD Cert.HgrnInDwRefIdeal.τ Cert.HgrnInDwRefIdeal.sig) → Buf (Elt Ideal) ℓ) (g : Dev Cert.HgrnInDwRefIdeal.nD → PrngReg), Pre_HgrnInDwRefIdeal m →
    θ_run (Cert.HgrnInDwRefIdeal.defs (F := Ideal)) (onTc (τ := Cert.HgrnInDwRefIdeal.τ) (Cert.HgrnInDwRefIdeal.main (F := Ideal))) ⟨m, fun _ => 0, g⟩ (fun r => (∀ c : Dev Cert.HgrnInDwRefIdeal.nD,
      r.2.mem ((c.tc : Thread Cert.HgrnInDwRefIdeal.nD Cert.HgrnInDwRefIdeal.τ).loc Cert.HgrnInDwRefIdeal.main_arg0) = m ((c.tc : Thread Cert.HgrnInDwRefIdeal.nD Cert.HgrnInDwRefIdeal.τ).loc Cert.HgrnInDwRefIdeal.main_arg0)
      ∧ r.2.mem ((c.tc : Thread Cert.HgrnInDwRefIdeal.nD Cert.HgrnInDwRefIdeal.τ).loc Cert.HgrnInDwRefIdeal.main_arg1) = m ((c.tc : Thread Cert.HgrnInDwRefIdeal.nD Cert.HgrnInDwRefIdeal.τ).loc Cert.HgrnInDwRefIdeal.main_arg1)
      ∧ r.2.mem ((c.tc : Thread Cert.HgrnInDwRefIdeal.nD Cert.HgrnInDwRefIdeal.τ).loc Cert.HgrnInDwRefIdeal.main_arg2) = m ((c.tc : Thread Cert.HgrnInDwRefIdeal.nD Cert.HgrnInDwRefIdeal.τ).loc Cert.HgrnInDwRefIdeal.main_arg2))
      ∧ r.2.sem = fun _ => 0)

def quiescent_HgrnIn [hHgrnIn : Cert.HgrnIn.Facts] : Prop :=
  ∀ (m : (ℓ : Loc Cert.HgrnIn.nD Cert.HgrnIn.τ Cert.HgrnIn.sig) → Buf (Elt Bits) ℓ) (g : Dev Cert.HgrnIn.nD → PrngReg), Pre_HgrnIn m →
    θ_run (Cert.HgrnIn.defs (F := Bits)) (onTc (τ := Cert.HgrnIn.τ) (Cert.HgrnIn.main (F := Bits))) ⟨m, fun _ => 0, g⟩ (fun r => (∀ c : Dev Cert.HgrnIn.nD,
      r.2.mem ((c.tc : Thread Cert.HgrnIn.nD Cert.HgrnIn.τ).loc Cert.HgrnIn.main_arg0) = m ((c.tc : Thread Cert.HgrnIn.nD Cert.HgrnIn.τ).loc Cert.HgrnIn.main_arg0)
      ∧ r.2.mem ((c.tc : Thread Cert.HgrnIn.nD Cert.HgrnIn.τ).loc Cert.HgrnIn.main_arg1) = m ((c.tc : Thread Cert.HgrnIn.nD Cert.HgrnIn.τ).loc Cert.HgrnIn.main_arg1)
      ∧ r.2.mem ((c.tc : Thread Cert.HgrnIn.nD Cert.HgrnIn.τ).loc Cert.HgrnIn.main_arg2) = m ((c.tc : Thread Cert.HgrnIn.nD Cert.HgrnIn.τ).loc Cert.HgrnIn.main_arg2))
      ∧ r.2.sem = fun _ => 0)

def quiescent_HgrnInIdeal [hHgrnInIdeal : Cert.HgrnInIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg), Pre_HgrnInIdeal m →
    θ_run (Cert.HgrnInIdeal.defs (F := Ideal)) (onTc (τ := Cert.HgrnInIdeal.τ) (Cert.HgrnInIdeal.main (F := Ideal))) ⟨m, fun _ => 0, g⟩ (fun r => (∀ c : Dev Cert.HgrnInIdeal.nD,
      r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
      ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
      ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2))
      ∧ r.2.sem = fun _ => 0)

def quiescent_HgrnInRefIdeal [hHgrnInRefIdeal : Cert.HgrnInRefIdeal.Facts] : Prop :=
  ∀ (m : (ℓ : Loc Cert.HgrnInRefIdeal.nD Cert.HgrnInRefIdeal.τ Cert.HgrnInRefIdeal.sig) → Buf (Elt Ideal) ℓ) (g : Dev Cert.HgrnInRefIdeal.nD → PrngReg), Pre_HgrnInRefIdeal m →
    θ_run (Cert.HgrnInRefIdeal.defs (F := Ideal)) (onTc (τ := Cert.HgrnInRefIdeal.τ) (Cert.HgrnInRefIdeal.main (F := Ideal))) ⟨m, fun _ => 0, g⟩ (fun r => (∀ c : Dev Cert.HgrnInRefIdeal.nD,
      r.2.mem ((c.tc : Thread Cert.HgrnInRefIdeal.nD Cert.HgrnInRefIdeal.τ).loc Cert.HgrnInRefIdeal.main_arg0) = m ((c.tc : Thread Cert.HgrnInRefIdeal.nD Cert.HgrnInRefIdeal.τ).loc Cert.HgrnInRefIdeal.main_arg0)
      ∧ r.2.mem ((c.tc : Thread Cert.HgrnInRefIdeal.nD Cert.HgrnInRefIdeal.τ).loc Cert.HgrnInRefIdeal.main_arg1) = m ((c.tc : Thread Cert.HgrnInRefIdeal.nD Cert.HgrnInRefIdeal.τ).loc Cert.HgrnInRefIdeal.main_arg1)
      ∧ r.2.mem ((c.tc : Thread Cert.HgrnInRefIdeal.nD Cert.HgrnInRefIdeal.τ).loc Cert.HgrnInRefIdeal.main_arg2) = m ((c.tc : Thread Cert.HgrnInRefIdeal.nD Cert.HgrnInRefIdeal.τ).loc Cert.HgrnInRefIdeal.main_arg2))
      ∧ r.2.sem = fun _ => 0)

def quiescent_ConvInDx [hConvInDx : Cert.ConvInDx.Facts] : Prop :=
  ∀ (m : (ℓ : Loc Cert.ConvInDx.nD Cert.ConvInDx.τ Cert.ConvInDx.sig) → Buf (Elt Bits) ℓ) (g : Dev Cert.ConvInDx.nD → PrngReg), Pre_ConvInDx m →
    θ_run (Cert.ConvInDx.defs (F := Bits)) (onTc (τ := Cert.ConvInDx.τ) (Cert.ConvInDx.main (F := Bits))) ⟨m, fun _ => 0, g⟩ (fun r => (∀ c : Dev Cert.ConvInDx.nD,
      r.2.mem ((c.tc : Thread Cert.ConvInDx.nD Cert.ConvInDx.τ).loc Cert.ConvInDx.main_arg0) = m ((c.tc : Thread Cert.ConvInDx.nD Cert.ConvInDx.τ).loc Cert.ConvInDx.main_arg0)
      ∧ r.2.mem ((c.tc : Thread Cert.ConvInDx.nD Cert.ConvInDx.τ).loc Cert.ConvInDx.main_arg1) = m ((c.tc : Thread Cert.ConvInDx.nD Cert.ConvInDx.τ).loc Cert.ConvInDx.main_arg1))
      ∧ r.2.sem = fun _ => 0)

def quiescent_ConvInDxIdeal [hConvInDxIdeal : Cert.ConvInDxIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg), Pre_ConvInDxIdeal m →
    θ_run (Cert.ConvInDxIdeal.defs (F := Ideal)) (onTc (τ := Cert.ConvInDxIdeal.τ) (Cert.ConvInDxIdeal.main (F := Ideal))) ⟨m, fun _ => 0, g⟩ (fun r => (∀ c : Dev Cert.ConvInDxIdeal.nD,
      r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
      ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1))
      ∧ r.2.sem = fun _ => 0)

def quiescent_ConvInDxRefIdeal [hConvInDxRefIdeal : Cert.ConvInDxRefIdeal.Facts] : Prop :=
  ∀ (m : (ℓ : Loc Cert.ConvInDxRefIdeal.nD Cert.ConvInDxRefIdeal.τ Cert.ConvInDxRefIdeal.sig) → Buf (Elt Ideal) ℓ) (g : Dev Cert.ConvInDxRefIdeal.nD → PrngReg), Pre_ConvInDxRefIdeal m →
    θ_run (Cert.ConvInDxRefIdeal.defs (F := Ideal)) (onTc (τ := Cert.ConvInDxRefIdeal.τ) (Cert.ConvInDxRefIdeal.main (F := Ideal))) ⟨m, fun _ => 0, g⟩ (fun r => (∀ c : Dev Cert.ConvInDxRefIdeal.nD,
      r.2.mem ((c.tc : Thread Cert.ConvInDxRefIdeal.nD Cert.ConvInDxRefIdeal.τ).loc Cert.ConvInDxRefIdeal.main_arg0) = m ((c.tc : Thread Cert.ConvInDxRefIdeal.nD Cert.ConvInDxRefIdeal.τ).loc Cert.ConvInDxRefIdeal.main_arg0)
      ∧ r.2.mem ((c.tc : Thread Cert.ConvInDxRefIdeal.nD Cert.ConvInDxRefIdeal.τ).loc Cert.ConvInDxRefIdeal.main_arg1) = m ((c.tc : Thread Cert.ConvInDxRefIdeal.nD Cert.ConvInDxRefIdeal.τ).loc Cert.ConvInDxRefIdeal.main_arg1))
      ∧ r.2.sem = fun _ => 0)

def quiescent_ConvInDw [hConvInDw : Cert.ConvInDw.Facts] : Prop :=
  ∀ (m : (ℓ : Loc Cert.ConvInDw.nD Cert.ConvInDw.τ Cert.ConvInDw.sig) → Buf (Elt Bits) ℓ) (g : Dev Cert.ConvInDw.nD → PrngReg), Pre_ConvInDw m →
    θ_run (Cert.ConvInDw.defs (F := Bits)) (onTc (τ := Cert.ConvInDw.τ) (Cert.ConvInDw.main (F := Bits))) ⟨m, fun _ => 0, g⟩ (fun r => (∀ c : Dev Cert.ConvInDw.nD,
      r.2.mem ((c.tc : Thread Cert.ConvInDw.nD Cert.ConvInDw.τ).loc Cert.ConvInDw.main_arg0) = m ((c.tc : Thread Cert.ConvInDw.nD Cert.ConvInDw.τ).loc Cert.ConvInDw.main_arg0)
      ∧ r.2.mem ((c.tc : Thread Cert.ConvInDw.nD Cert.ConvInDw.τ).loc Cert.ConvInDw.main_arg1) = m ((c.tc : Thread Cert.ConvInDw.nD Cert.ConvInDw.τ).loc Cert.ConvInDw.main_arg1))
      ∧ r.2.sem = fun _ => 0)

def quiescent_ConvInDwIdeal [hConvInDwIdeal : Cert.ConvInDwIdeal.Facts] : Prop :=
  ∀ (m : (ℓ : Loc Cert.ConvInDwIdeal.nD Cert.ConvInDwIdeal.τ Cert.ConvInDwIdeal.sig) → Buf (Elt Ideal) ℓ) (g : Dev Cert.ConvInDwIdeal.nD → PrngReg), Pre_ConvInDwIdeal m →
    θ_run (Cert.ConvInDwIdeal.defs (F := Ideal)) (onTc (τ := Cert.ConvInDwIdeal.τ) (Cert.ConvInDwIdeal.main (F := Ideal))) ⟨m, fun _ => 0, g⟩ (fun r => (∀ c : Dev Cert.ConvInDwIdeal.nD,
      r.2.mem ((c.tc : Thread Cert.ConvInDwIdeal.nD Cert.ConvInDwIdeal.τ).loc Cert.ConvInDwIdeal.main_arg0) = m ((c.tc : Thread Cert.ConvInDwIdeal.nD Cert.ConvInDwIdeal.τ).loc Cert.ConvInDwIdeal.main_arg0)
      ∧ r.2.mem ((c.tc : Thread Cert.ConvInDwIdeal.nD Cert.ConvInDwIdeal.τ).loc Cert.ConvInDwIdeal.main_arg1) = m ((c.tc : Thread Cert.ConvInDwIdeal.nD Cert.ConvInDwIdeal.τ).loc Cert.ConvInDwIdeal.main_arg1))
      ∧ r.2.sem = fun _ => 0)

def quiescent_ConvInDwRefIdeal [hConvInDwRefIdeal : Cert.ConvInDwRefIdeal.Facts] : Prop :=
  ∀ (m : (ℓ : Loc Cert.ConvInDwRefIdeal.nD Cert.ConvInDwRefIdeal.τ Cert.ConvInDwRefIdeal.sig) → Buf (Elt Ideal) ℓ) (g : Dev Cert.ConvInDwRefIdeal.nD → PrngReg), Pre_ConvInDwRefIdeal m →
    θ_run (Cert.ConvInDwRefIdeal.defs (F := Ideal)) (onTc (τ := Cert.ConvInDwRefIdeal.τ) (Cert.ConvInDwRefIdeal.main (F := Ideal))) ⟨m, fun _ => 0, g⟩ (fun r => (∀ c : Dev Cert.ConvInDwRefIdeal.nD,
      r.2.mem ((c.tc : Thread Cert.ConvInDwRefIdeal.nD Cert.ConvInDwRefIdeal.τ).loc Cert.ConvInDwRefIdeal.main_arg0) = m ((c.tc : Thread Cert.ConvInDwRefIdeal.nD Cert.ConvInDwRefIdeal.τ).loc Cert.ConvInDwRefIdeal.main_arg0)
      ∧ r.2.mem ((c.tc : Thread Cert.ConvInDwRefIdeal.nD Cert.ConvInDwRefIdeal.τ).loc Cert.ConvInDwRefIdeal.main_arg1) = m ((c.tc : Thread Cert.ConvInDwRefIdeal.nD Cert.ConvInDwRefIdeal.τ).loc Cert.ConvInDwRefIdeal.main_arg1))
      ∧ r.2.sem = fun _ => 0)

def quiescent_ConvIn [hConvIn : Cert.ConvIn.Facts] : Prop :=
  ∀ (m : (ℓ : Loc Cert.ConvIn.nD Cert.ConvIn.τ Cert.ConvIn.sig) → Buf (Elt Bits) ℓ) (g : Dev Cert.ConvIn.nD → PrngReg), Pre_ConvIn m →
    θ_run (Cert.ConvIn.defs (F := Bits)) (onTc (τ := Cert.ConvIn.τ) (Cert.ConvIn.main (F := Bits))) ⟨m, fun _ => 0, g⟩ (fun r => (∀ c : Dev Cert.ConvIn.nD,
      r.2.mem ((c.tc : Thread Cert.ConvIn.nD Cert.ConvIn.τ).loc Cert.ConvIn.main_arg0) = m ((c.tc : Thread Cert.ConvIn.nD Cert.ConvIn.τ).loc Cert.ConvIn.main_arg0)
      ∧ r.2.mem ((c.tc : Thread Cert.ConvIn.nD Cert.ConvIn.τ).loc Cert.ConvIn.main_arg1) = m ((c.tc : Thread Cert.ConvIn.nD Cert.ConvIn.τ).loc Cert.ConvIn.main_arg1)
      ∧ r.2.mem ((c.tc : Thread Cert.ConvIn.nD Cert.ConvIn.τ).loc Cert.ConvIn.main_arg2) = m ((c.tc : Thread Cert.ConvIn.nD Cert.ConvIn.τ).loc Cert.ConvIn.main_arg2))
      ∧ r.2.sem = fun _ => 0)

def quiescent_ConvInIdeal [hConvInIdeal : Cert.ConvInIdeal.Facts] : Prop :=
  ∀ (m : (ℓ : Loc Cert.ConvInIdeal.nD Cert.ConvInIdeal.τ Cert.ConvInIdeal.sig) → Buf (Elt Ideal) ℓ) (g : Dev Cert.ConvInIdeal.nD → PrngReg), Pre_ConvInIdeal m →
    θ_run (Cert.ConvInIdeal.defs (F := Ideal)) (onTc (τ := Cert.ConvInIdeal.τ) (Cert.ConvInIdeal.main (F := Ideal))) ⟨m, fun _ => 0, g⟩ (fun r => (∀ c : Dev Cert.ConvInIdeal.nD,
      r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
      ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
      ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ r.2.sem = fun _ => 0)

def quiescent_ConvInRefIdeal [hConvInRefIdeal : Cert.ConvInRefIdeal.Facts] : Prop :=
  ∀ (m : (ℓ : Loc Cert.ConvInRefIdeal.nD Cert.ConvInRefIdeal.τ Cert.ConvInRefIdeal.sig) → Buf (Elt Ideal) ℓ) (g : Dev Cert.ConvInRefIdeal.nD → PrngReg), Pre_ConvInRefIdeal m →
    θ_run (Cert.ConvInRefIdeal.defs (F := Ideal)) (onTc (τ := Cert.ConvInRefIdeal.τ) (Cert.ConvInRefIdeal.main (F := Ideal))) ⟨m, fun _ => 0, g⟩ (fun r => (∀ c : Dev Cert.ConvInRefIdeal.nD,
      r.2.mem ((c.tc : Thread Cert.ConvInRefIdeal.nD Cert.ConvInRefIdeal.τ).loc Cert.ConvInRefIdeal.main_arg0) = m ((c.tc : Thread Cert.ConvInRefIdeal.nD Cert.ConvInRefIdeal.τ).loc Cert.ConvInRefIdeal.main_arg0)
      ∧ r.2.mem ((c.tc : Thread Cert.ConvInRefIdeal.nD Cert.ConvInRefIdeal.τ).loc Cert.ConvInRefIdeal.main_arg1) = m ((c.tc : Thread Cert.ConvInRefIdeal.nD Cert.ConvInRefIdeal.τ).loc Cert.ConvInRefIdeal.main_arg1)
      ∧ r.2.mem ((c.tc : Thread Cert.ConvInRefIdeal.nD Cert.ConvInRefIdeal.τ).loc Cert.ConvInRefIdeal.main_arg2) = m ((c.tc : Thread Cert.ConvInRefIdeal.nD Cert.ConvInRefIdeal.τ).loc Cert.ConvInRefIdeal.main_arg2))
      ∧ r.2.sem = fun _ => 0)

def quiescent_ConvOutDx [hConvOutDx : Cert.ConvOutDx.Facts] : Prop :=
  ∀ (m : (ℓ : Loc Cert.ConvOutDx.nD Cert.ConvOutDx.τ Cert.ConvOutDx.sig) → Buf (Elt Bits) ℓ) (g : Dev Cert.ConvOutDx.nD → PrngReg), Pre_ConvOutDx m →
    θ_run (Cert.ConvOutDx.defs (F := Bits)) (onTc (τ := Cert.ConvOutDx.τ) (Cert.ConvOutDx.main (F := Bits))) ⟨m, fun _ => 0, g⟩ (fun r => (∀ c : Dev Cert.ConvOutDx.nD,
      r.2.mem ((c.tc : Thread Cert.ConvOutDx.nD Cert.ConvOutDx.τ).loc Cert.ConvOutDx.main_arg0) = m ((c.tc : Thread Cert.ConvOutDx.nD Cert.ConvOutDx.τ).loc Cert.ConvOutDx.main_arg0)
      ∧ r.2.mem ((c.tc : Thread Cert.ConvOutDx.nD Cert.ConvOutDx.τ).loc Cert.ConvOutDx.main_arg1) = m ((c.tc : Thread Cert.ConvOutDx.nD Cert.ConvOutDx.τ).loc Cert.ConvOutDx.main_arg1))
      ∧ r.2.sem = fun _ => 0)

def quiescent_ConvOutDxIdeal [hConvOutDxIdeal : Cert.ConvOutDxIdeal.Facts] : Prop :=
  ∀ (m : (ℓ : Loc Cert.ConvOutDxIdeal.nD Cert.ConvOutDxIdeal.τ Cert.ConvOutDxIdeal.sig) → Buf (Elt Ideal) ℓ) (g : Dev Cert.ConvOutDxIdeal.nD → PrngReg), Pre_ConvOutDxIdeal m →
    θ_run (Cert.ConvOutDxIdeal.defs (F := Ideal)) (onTc (τ := Cert.ConvOutDxIdeal.τ) (Cert.ConvOutDxIdeal.main (F := Ideal))) ⟨m, fun _ => 0, g⟩ (fun r => (∀ c : Dev Cert.ConvOutDxIdeal.nD,
      r.2.mem ((c.tc : Thread Cert.ConvOutDxIdeal.nD Cert.ConvOutDxIdeal.τ).loc Cert.ConvOutDxIdeal.main_arg0) = m ((c.tc : Thread Cert.ConvOutDxIdeal.nD Cert.ConvOutDxIdeal.τ).loc Cert.ConvOutDxIdeal.main_arg0)
      ∧ r.2.mem ((c.tc : Thread Cert.ConvOutDxIdeal.nD Cert.ConvOutDxIdeal.τ).loc Cert.ConvOutDxIdeal.main_arg1) = m ((c.tc : Thread Cert.ConvOutDxIdeal.nD Cert.ConvOutDxIdeal.τ).loc Cert.ConvOutDxIdeal.main_arg1))
      ∧ r.2.sem = fun _ => 0)

def quiescent_ConvOutDxRefIdeal [hConvOutDxRefIdeal : Cert.ConvOutDxRefIdeal.Facts] : Prop :=
  ∀ (m : (ℓ : Loc Cert.ConvOutDxRefIdeal.nD Cert.ConvOutDxRefIdeal.τ Cert.ConvOutDxRefIdeal.sig) → Buf (Elt Ideal) ℓ) (g : Dev Cert.ConvOutDxRefIdeal.nD → PrngReg), Pre_ConvOutDxRefIdeal m →
    θ_run (Cert.ConvOutDxRefIdeal.defs (F := Ideal)) (onTc (τ := Cert.ConvOutDxRefIdeal.τ) (Cert.ConvOutDxRefIdeal.main (F := Ideal))) ⟨m, fun _ => 0, g⟩ (fun r => (∀ c : Dev Cert.ConvOutDxRefIdeal.nD,
      r.2.mem ((c.tc : Thread Cert.ConvOutDxRefIdeal.nD Cert.ConvOutDxRefIdeal.τ).loc Cert.ConvOutDxRefIdeal.main_arg0) = m ((c.tc : Thread Cert.ConvOutDxRefIdeal.nD Cert.ConvOutDxRefIdeal.τ).loc Cert.ConvOutDxRefIdeal.main_arg0)
      ∧ r.2.mem ((c.tc : Thread Cert.ConvOutDxRefIdeal.nD Cert.ConvOutDxRefIdeal.τ).loc Cert.ConvOutDxRefIdeal.main_arg1) = m ((c.tc : Thread Cert.ConvOutDxRefIdeal.nD Cert.ConvOutDxRefIdeal.τ).loc Cert.ConvOutDxRefIdeal.main_arg1))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_ConvOut [hConvOut : Cert.ConvOut.Facts] : Prop :=
  ∀ (m : (ℓ : Loc Cert.ConvOut.nD Cert.ConvOut.τ Cert.ConvOut.sig) → Buf (Elt Bits) ℓ) (g : Dev Cert.ConvOut.nD → PrngReg), Pre_ConvOut m →
    θ_run (Cert.ConvOut.defs (F := Bits)) (onTc (τ := Cert.ConvOut.τ) (Cert.ConvOut.main (F := Bits))) ⟨m, fun _ => 0, g⟩ (fun r => (∀ c : Dev Cert.ConvOut.nD,
      r.2.mem ((c.tc : Thread Cert.ConvOut.nD Cert.ConvOut.τ).loc Cert.ConvOut.main_arg0) = m ((c.tc : Thread Cert.ConvOut.nD Cert.ConvOut.τ).loc Cert.ConvOut.main_arg0)
      ∧ r.2.mem ((c.tc : Thread Cert.ConvOut.nD Cert.ConvOut.τ).loc Cert.ConvOut.main_arg1) = m ((c.tc : Thread Cert.ConvOut.nD Cert.ConvOut.τ).loc Cert.ConvOut.main_arg1)
      ∧ r.2.mem ((c.tc : Thread Cert.ConvOut.nD Cert.ConvOut.τ).loc Cert.ConvOut.main_arg2) = m ((c.tc : Thread Cert.ConvOut.nD Cert.ConvOut.τ).loc Cert.ConvOut.main_arg2))
      ∧ r.2.sem = fun _ => 0)

def quiescent_ConvOutIdeal [hConvOutIdeal : Cert.ConvOutIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg), Pre_ConvOutIdeal m →
    θ_run (Cert.ConvOutIdeal.defs (F := Ideal)) (onTc (τ := Cert.ConvOutIdeal.τ) (Cert.ConvOutIdeal.main (F := Ideal))) ⟨m, fun _ => 0, g⟩ (fun r => (∀ c : Dev Cert.ConvOutIdeal.nD,
      r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
      ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
      ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2))
      ∧ r.2.sem = fun _ => 0)

def quiescent_ConvOutRefIdeal [hConvOutRefIdeal : Cert.ConvOutRefIdeal.Facts] : Prop :=
  ∀ (m : (ℓ : Loc Cert.ConvOutRefIdeal.nD Cert.ConvOutRefIdeal.τ Cert.ConvOutRefIdeal.sig) → Buf (Elt Ideal) ℓ) (g : Dev Cert.ConvOutRefIdeal.nD → PrngReg), Pre_ConvOutRefIdeal m →
    θ_run (Cert.ConvOutRefIdeal.defs (F := Ideal)) (onTc (τ := Cert.ConvOutRefIdeal.τ) (Cert.ConvOutRefIdeal.main (F := Ideal))) ⟨m, fun _ => 0, g⟩ (fun r => (∀ c : Dev Cert.ConvOutRefIdeal.nD,
      r.2.mem ((c.tc : Thread Cert.ConvOutRefIdeal.nD Cert.ConvOutRefIdeal.τ).loc Cert.ConvOutRefIdeal.main_arg0) = m ((c.tc : Thread Cert.ConvOutRefIdeal.nD Cert.ConvOutRefIdeal.τ).loc Cert.ConvOutRefIdeal.main_arg0)
      ∧ r.2.mem ((c.tc : Thread Cert.ConvOutRefIdeal.nD Cert.ConvOutRefIdeal.τ).loc Cert.ConvOutRefIdeal.main_arg1) = m ((c.tc : Thread Cert.ConvOutRefIdeal.nD Cert.ConvOutRefIdeal.τ).loc Cert.ConvOutRefIdeal.main_arg1)
      ∧ r.2.mem ((c.tc : Thread Cert.ConvOutRefIdeal.nD Cert.ConvOutRefIdeal.τ).loc Cert.ConvOutRefIdeal.main_arg2) = m ((c.tc : Thread Cert.ConvOutRefIdeal.nD Cert.ConvOutRefIdeal.τ).loc Cert.ConvOutRefIdeal.main_arg2))
      ∧ r.2.sem = fun _ => 0)

def quiescent_HgrnOutDx [hHgrnOutDx : Cert.HgrnOutDx.Facts] : Prop :=
  ∀ (m : (ℓ : Loc Cert.HgrnOutDx.nD Cert.HgrnOutDx.τ Cert.HgrnOutDx.sig) → Buf (Elt Bits) ℓ) (g : Dev Cert.HgrnOutDx.nD → PrngReg), Pre_HgrnOutDx m →
    θ_run (Cert.HgrnOutDx.defs (F := Bits)) (onTc (τ := Cert.HgrnOutDx.τ) (Cert.HgrnOutDx.main (F := Bits))) ⟨m, fun _ => 0, g⟩ (fun r => (∀ c : Dev Cert.HgrnOutDx.nD,
      r.2.mem ((c.tc : Thread Cert.HgrnOutDx.nD Cert.HgrnOutDx.τ).loc Cert.HgrnOutDx.main_arg0) = m ((c.tc : Thread Cert.HgrnOutDx.nD Cert.HgrnOutDx.τ).loc Cert.HgrnOutDx.main_arg0)
      ∧ r.2.mem ((c.tc : Thread Cert.HgrnOutDx.nD Cert.HgrnOutDx.τ).loc Cert.HgrnOutDx.main_arg1) = m ((c.tc : Thread Cert.HgrnOutDx.nD Cert.HgrnOutDx.τ).loc Cert.HgrnOutDx.main_arg1)
      ∧ r.2.mem ((c.tc : Thread Cert.HgrnOutDx.nD Cert.HgrnOutDx.τ).loc Cert.HgrnOutDx.main_arg2) = m ((c.tc : Thread Cert.HgrnOutDx.nD Cert.HgrnOutDx.τ).loc Cert.HgrnOutDx.main_arg2))
      ∧ r.2.sem = fun _ => 0)

def quiescent_HgrnOutDxIdeal [hHgrnOutDxIdeal : Cert.HgrnOutDxIdeal.Facts] : Prop :=
  ∀ (m : (ℓ : Loc Cert.HgrnOutDxIdeal.nD Cert.HgrnOutDxIdeal.τ Cert.HgrnOutDxIdeal.sig) → Buf (Elt Ideal) ℓ) (g : Dev Cert.HgrnOutDxIdeal.nD → PrngReg), Pre_HgrnOutDxIdeal m →
    θ_run (Cert.HgrnOutDxIdeal.defs (F := Ideal)) (onTc (τ := Cert.HgrnOutDxIdeal.τ) (Cert.HgrnOutDxIdeal.main (F := Ideal))) ⟨m, fun _ => 0, g⟩ (fun r => (∀ c : Dev Cert.HgrnOutDxIdeal.nD,
      r.2.mem ((c.tc : Thread Cert.HgrnOutDxIdeal.nD Cert.HgrnOutDxIdeal.τ).loc Cert.HgrnOutDxIdeal.main_arg0) = m ((c.tc : Thread Cert.HgrnOutDxIdeal.nD Cert.HgrnOutDxIdeal.τ).loc Cert.HgrnOutDxIdeal.main_arg0)
      ∧ r.2.mem ((c.tc : Thread Cert.HgrnOutDxIdeal.nD Cert.HgrnOutDxIdeal.τ).loc Cert.HgrnOutDxIdeal.main_arg1) = m ((c.tc : Thread Cert.HgrnOutDxIdeal.nD Cert.HgrnOutDxIdeal.τ).loc Cert.HgrnOutDxIdeal.main_arg1)
      ∧ r.2.mem ((c.tc : Thread Cert.HgrnOutDxIdeal.nD Cert.HgrnOutDxIdeal.τ).loc Cert.HgrnOutDxIdeal.main_arg2) = m ((c.tc : Thread Cert.HgrnOutDxIdeal.nD Cert.HgrnOutDxIdeal.τ).loc Cert.HgrnOutDxIdeal.main_arg2))
      ∧ r.2.sem = fun _ => 0)

def quiescent_HgrnOutDxRefIdeal [hHgrnOutDxRefIdeal : Cert.HgrnOutDxRefIdeal.Facts] : Prop :=
  ∀ (m : (ℓ : Loc Cert.HgrnOutDxRefIdeal.nD Cert.HgrnOutDxRefIdeal.τ Cert.HgrnOutDxRefIdeal.sig) → Buf (Elt Ideal) ℓ) (g : Dev Cert.HgrnOutDxRefIdeal.nD → PrngReg), Pre_HgrnOutDxRefIdeal m →
    θ_run (Cert.HgrnOutDxRefIdeal.defs (F := Ideal)) (onTc (τ := Cert.HgrnOutDxRefIdeal.τ) (Cert.HgrnOutDxRefIdeal.main (F := Ideal))) ⟨m, fun _ => 0, g⟩ (fun r => (∀ c : Dev Cert.HgrnOutDxRefIdeal.nD,
      r.2.mem ((c.tc : Thread Cert.HgrnOutDxRefIdeal.nD Cert.HgrnOutDxRefIdeal.τ).loc Cert.HgrnOutDxRefIdeal.main_arg0) = m ((c.tc : Thread Cert.HgrnOutDxRefIdeal.nD Cert.HgrnOutDxRefIdeal.τ).loc Cert.HgrnOutDxRefIdeal.main_arg0)
      ∧ r.2.mem ((c.tc : Thread Cert.HgrnOutDxRefIdeal.nD Cert.HgrnOutDxRefIdeal.τ).loc Cert.HgrnOutDxRefIdeal.main_arg1) = m ((c.tc : Thread Cert.HgrnOutDxRefIdeal.nD Cert.HgrnOutDxRefIdeal.τ).loc Cert.HgrnOutDxRefIdeal.main_arg1)
      ∧ r.2.mem ((c.tc : Thread Cert.HgrnOutDxRefIdeal.nD Cert.HgrnOutDxRefIdeal.τ).loc Cert.HgrnOutDxRefIdeal.main_arg2) = m ((c.tc : Thread Cert.HgrnOutDxRefIdeal.nD Cert.HgrnOutDxRefIdeal.τ).loc Cert.HgrnOutDxRefIdeal.main_arg2))
      ∧ r.2.sem = fun _ => 0)

def quiescent_HgrnOut [hHgrnOut : Cert.HgrnOut.Facts] : Prop :=
  ∀ (m : (ℓ : Loc Cert.HgrnOut.nD Cert.HgrnOut.τ Cert.HgrnOut.sig) → Buf (Elt Bits) ℓ) (g : Dev Cert.HgrnOut.nD → PrngReg), Pre_HgrnOut m →
    θ_run (Cert.HgrnOut.defs (F := Bits)) (onTc (τ := Cert.HgrnOut.τ) (Cert.HgrnOut.main (F := Bits))) ⟨m, fun _ => 0, g⟩ (fun r => (∀ c : Dev Cert.HgrnOut.nD,
      r.2.mem ((c.tc : Thread Cert.HgrnOut.nD Cert.HgrnOut.τ).loc Cert.HgrnOut.main_arg0) = m ((c.tc : Thread Cert.HgrnOut.nD Cert.HgrnOut.τ).loc Cert.HgrnOut.main_arg0)
      ∧ r.2.mem ((c.tc : Thread Cert.HgrnOut.nD Cert.HgrnOut.τ).loc Cert.HgrnOut.main_arg1) = m ((c.tc : Thread Cert.HgrnOut.nD Cert.HgrnOut.τ).loc Cert.HgrnOut.main_arg1))
      ∧ r.2.sem = fun _ => 0)

def quiescent_HgrnOutIdeal [hHgrnOutIdeal : Cert.HgrnOutIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg), Pre_HgrnOutIdeal m →
    θ_run (Cert.HgrnOutIdeal.defs (F := Ideal)) (onTc (τ := Cert.HgrnOutIdeal.τ) (Cert.HgrnOutIdeal.main (F := Ideal))) ⟨m, fun _ => 0, g⟩ (fun r => (∀ c : Dev Cert.HgrnOutIdeal.nD,
      r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
      ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1))
      ∧ r.2.sem = fun _ => 0)

def quiescent_HgrnOutRefIdeal [hHgrnOutRefIdeal : Cert.HgrnOutRefIdeal.Facts] : Prop :=
  ∀ (m : (ℓ : Loc Cert.HgrnOutRefIdeal.nD Cert.HgrnOutRefIdeal.τ Cert.HgrnOutRefIdeal.sig) → Buf (Elt Ideal) ℓ) (g : Dev Cert.HgrnOutRefIdeal.nD → PrngReg), Pre_HgrnOutRefIdeal m →
    θ_run (Cert.HgrnOutRefIdeal.defs (F := Ideal)) (onTc (τ := Cert.HgrnOutRefIdeal.τ) (Cert.HgrnOutRefIdeal.main (F := Ideal))) ⟨m, fun _ => 0, g⟩ (fun r => (∀ c : Dev Cert.HgrnOutRefIdeal.nD,
      r.2.mem ((c.tc : Thread Cert.HgrnOutRefIdeal.nD Cert.HgrnOutRefIdeal.τ).loc Cert.HgrnOutRefIdeal.main_arg0) = m ((c.tc : Thread Cert.HgrnOutRefIdeal.nD Cert.HgrnOutRefIdeal.τ).loc Cert.HgrnOutRefIdeal.main_arg0)
      ∧ r.2.mem ((c.tc : Thread Cert.HgrnOutRefIdeal.nD Cert.HgrnOutRefIdeal.τ).loc Cert.HgrnOutRefIdeal.main_arg1) = m ((c.tc : Thread Cert.HgrnOutRefIdeal.nD Cert.HgrnOutRefIdeal.τ).loc Cert.HgrnOutRefIdeal.main_arg1))
      ∧ r.2.sem = fun _ => 0)

def quiescent_PrenormBwd [hPrenormBwd : Cert.PrenormBwd.Facts] : Prop :=
  ∀ (m : (ℓ : Loc Cert.PrenormBwd.nD Cert.PrenormBwd.τ Cert.PrenormBwd.sig) → Buf (Elt Bits) ℓ) (g : Dev Cert.PrenormBwd.nD → PrngReg), Pre_PrenormBwd m →
    θ_run (Cert.PrenormBwd.defs (F := Bits)) (onTc (τ := Cert.PrenormBwd.τ) (Cert.PrenormBwd.main (F := Bits))) ⟨m, fun _ => 0, g⟩ (fun r => (∀ c : Dev Cert.PrenormBwd.nD,
      r.2.mem ((c.tc : Thread Cert.PrenormBwd.nD Cert.PrenormBwd.τ).loc Cert.PrenormBwd.main_arg0) = m ((c.tc : Thread Cert.PrenormBwd.nD Cert.PrenormBwd.τ).loc Cert.PrenormBwd.main_arg0)
      ∧ r.2.mem ((c.tc : Thread Cert.PrenormBwd.nD Cert.PrenormBwd.τ).loc Cert.PrenormBwd.main_arg1) = m ((c.tc : Thread Cert.PrenormBwd.nD Cert.PrenormBwd.τ).loc Cert.PrenormBwd.main_arg1)
      ∧ r.2.mem ((c.tc : Thread Cert.PrenormBwd.nD Cert.PrenormBwd.τ).loc Cert.PrenormBwd.main_arg2) = m ((c.tc : Thread Cert.PrenormBwd.nD Cert.PrenormBwd.τ).loc Cert.PrenormBwd.main_arg2)
      ∧ r.2.mem ((c.tc : Thread Cert.PrenormBwd.nD Cert.PrenormBwd.τ).loc Cert.PrenormBwd.main_arg3) = m ((c.tc : Thread Cert.PrenormBwd.nD Cert.PrenormBwd.τ).loc Cert.PrenormBwd.main_arg3)
      ∧ r.2.mem ((c.tc : Thread Cert.PrenormBwd.nD Cert.PrenormBwd.τ).loc Cert.PrenormBwd.main_arg4) = m ((c.tc : Thread Cert.PrenormBwd.nD Cert.PrenormBwd.τ).loc Cert.PrenormBwd.main_arg4))
      ∧ r.2.sem = fun _ => 0)

def quiescent_PrenormBwdIdeal [hPrenormBwdIdeal : Cert.PrenormBwdIdeal.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg), Pre_PrenormBwdIdeal m →
    θ_run (Cert.PrenormBwdIdeal.defs (F := Ideal)) (onTc (τ := Cert.PrenormBwdIdeal.τ) (Cert.PrenormBwdIdeal.main (F := Ideal))) ⟨m, fun _ => 0, g⟩ (fun r => (∀ c : Dev Cert.PrenormBwdIdeal.nD,
      r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
      ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
      ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
      ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3)
      ∧ r.2.mem ((c.tc : Thread Cert.PrenormBwdIdeal.nD Cert.PrenormBwdIdeal.τ).loc Cert.PrenormBwdIdeal.main_arg4) = m ((c.tc : Thread Cert.PrenormBwdIdeal.nD Cert.PrenormBwdIdeal.τ).loc Cert.PrenormBwdIdeal.main_arg4))
      ∧ r.2.sem = fun _ => 0)

def quiescent_PrenormBwdRefIdeal [hPrenormBwdRefIdeal : Cert.PrenormBwdRefIdeal.Facts] : Prop :=
  ∀ (m : (ℓ : Loc Cert.PrenormBwdRefIdeal.nD Cert.PrenormBwdRefIdeal.τ Cert.PrenormBwdRefIdeal.sig) → Buf (Elt Ideal) ℓ) (g : Dev Cert.PrenormBwdRefIdeal.nD → PrngReg), Pre_PrenormBwdRefIdeal m →
    θ_run (Cert.PrenormBwdRefIdeal.defs (F := Ideal)) (onTc (τ := Cert.PrenormBwdRefIdeal.τ) (Cert.PrenormBwdRefIdeal.main (F := Ideal))) ⟨m, fun _ => 0, g⟩ (fun r => (∀ c : Dev Cert.PrenormBwdRefIdeal.nD,
      r.2.mem ((c.tc : Thread Cert.PrenormBwdRefIdeal.nD Cert.PrenormBwdRefIdeal.τ).loc Cert.PrenormBwdRefIdeal.main_arg0) = m ((c.tc : Thread Cert.PrenormBwdRefIdeal.nD Cert.PrenormBwdRefIdeal.τ).loc Cert.PrenormBwdRefIdeal.main_arg0)
      ∧ r.2.mem ((c.tc : Thread Cert.PrenormBwdRefIdeal.nD Cert.PrenormBwdRefIdeal.τ).loc Cert.PrenormBwdRefIdeal.main_arg1) = m ((c.tc : Thread Cert.PrenormBwdRefIdeal.nD Cert.PrenormBwdRefIdeal.τ).loc Cert.PrenormBwdRefIdeal.main_arg1)
      ∧ r.2.mem ((c.tc : Thread Cert.PrenormBwdRefIdeal.nD Cert.PrenormBwdRefIdeal.τ).loc Cert.PrenormBwdRefIdeal.main_arg2) = m ((c.tc : Thread Cert.PrenormBwdRefIdeal.nD Cert.PrenormBwdRefIdeal.τ).loc Cert.PrenormBwdRefIdeal.main_arg2)
      ∧ r.2.mem ((c.tc : Thread Cert.PrenormBwdRefIdeal.nD Cert.PrenormBwdRefIdeal.τ).loc Cert.PrenormBwdRefIdeal.main_arg3) = m ((c.tc : Thread Cert.PrenormBwdRefIdeal.nD Cert.PrenormBwdRefIdeal.τ).loc Cert.PrenormBwdRefIdeal.main_arg3)
      ∧ r.2.mem ((c.tc : Thread Cert.PrenormBwdRefIdeal.nD Cert.PrenormBwdRefIdeal.τ).loc Cert.PrenormBwdRefIdeal.main_arg4) = m ((c.tc : Thread Cert.PrenormBwdRefIdeal.nD Cert.PrenormBwdRefIdeal.τ).loc Cert.PrenormBwdRefIdeal.main_arg4))
      ∧ r.2.sem = fun _ => 0)

def quiescent_PrenormPostBwd [hPrenormPostBwd : Cert.PrenormPostBwd.Facts] : Prop :=
  ∀ (m : (ℓ : Loc Cert.PrenormPostBwd.nD Cert.PrenormPostBwd.τ Cert.PrenormPostBwd.sig) → Buf (Elt Bits) ℓ) (g : Dev Cert.PrenormPostBwd.nD → PrngReg), Pre_PrenormPostBwd m →
    θ_run (Cert.PrenormPostBwd.defs (F := Bits)) (onTc (τ := Cert.PrenormPostBwd.τ) (Cert.PrenormPostBwd.main (F := Bits))) ⟨m, fun _ => 0, g⟩ (fun r => (∀ c : Dev Cert.PrenormPostBwd.nD,
      r.2.mem ((c.tc : Thread Cert.PrenormPostBwd.nD Cert.PrenormPostBwd.τ).loc Cert.PrenormPostBwd.main_arg0) = m ((c.tc : Thread Cert.PrenormPostBwd.nD Cert.PrenormPostBwd.τ).loc Cert.PrenormPostBwd.main_arg0)
      ∧ r.2.mem ((c.tc : Thread Cert.PrenormPostBwd.nD Cert.PrenormPostBwd.τ).loc Cert.PrenormPostBwd.main_arg1) = m ((c.tc : Thread Cert.PrenormPostBwd.nD Cert.PrenormPostBwd.τ).loc Cert.PrenormPostBwd.main_arg1)
      ∧ r.2.mem ((c.tc : Thread Cert.PrenormPostBwd.nD Cert.PrenormPostBwd.τ).loc Cert.PrenormPostBwd.main_arg2) = m ((c.tc : Thread Cert.PrenormPostBwd.nD Cert.PrenormPostBwd.τ).loc Cert.PrenormPostBwd.main_arg2)
      ∧ r.2.mem ((c.tc : Thread Cert.PrenormPostBwd.nD Cert.PrenormPostBwd.τ).loc Cert.PrenormPostBwd.main_arg3) = m ((c.tc : Thread Cert.PrenormPostBwd.nD Cert.PrenormPostBwd.τ).loc Cert.PrenormPostBwd.main_arg3)
      ∧ r.2.mem ((c.tc : Thread Cert.PrenormPostBwd.nD Cert.PrenormPostBwd.τ).loc Cert.PrenormPostBwd.main_arg4) = m ((c.tc : Thread Cert.PrenormPostBwd.nD Cert.PrenormPostBwd.τ).loc Cert.PrenormPostBwd.main_arg4)
      ∧ r.2.mem ((c.tc : Thread Cert.PrenormPostBwd.nD Cert.PrenormPostBwd.τ).loc Cert.PrenormPostBwd.main_arg5) = m ((c.tc : Thread Cert.PrenormPostBwd.nD Cert.PrenormPostBwd.τ).loc Cert.PrenormPostBwd.main_arg5)
      ∧ r.2.mem ((c.tc : Thread Cert.PrenormPostBwd.nD Cert.PrenormPostBwd.τ).loc Cert.PrenormPostBwd.main_arg6) = m ((c.tc : Thread Cert.PrenormPostBwd.nD Cert.PrenormPostBwd.τ).loc Cert.PrenormPostBwd.main_arg6)
      ∧ r.2.mem ((c.tc : Thread Cert.PrenormPostBwd.nD Cert.PrenormPostBwd.τ).loc Cert.PrenormPostBwd.main_arg7) = m ((c.tc : Thread Cert.PrenormPostBwd.nD Cert.PrenormPostBwd.τ).loc Cert.PrenormPostBwd.main_arg7))
      ∧ r.2.sem = fun _ => 0)

def quiescent_PrenormPostBwdIdeal [hPrenormPostBwdIdeal : Cert.PrenormPostBwdIdeal.Facts] : Prop :=
  ∀ (m : (ℓ : Loc Cert.PrenormPostBwdIdeal.nD Cert.PrenormPostBwdIdeal.τ Cert.PrenormPostBwdIdeal.sig) → Buf (Elt Ideal) ℓ) (g : Dev Cert.PrenormPostBwdIdeal.nD → PrngReg), Pre_PrenormPostBwdIdeal m →
    θ_run (Cert.PrenormPostBwdIdeal.defs (F := Ideal)) (onTc (τ := Cert.PrenormPostBwdIdeal.τ) (Cert.PrenormPostBwdIdeal.main (F := Ideal))) ⟨m, fun _ => 0, g⟩ (fun r => (∀ c : Dev Cert.PrenormPostBwdIdeal.nD,
      r.2.mem ((c.tc : Thread Cert.PrenormPostBwdIdeal.nD Cert.PrenormPostBwdIdeal.τ).loc Cert.PrenormPostBwdIdeal.main_arg0) = m ((c.tc : Thread Cert.PrenormPostBwdIdeal.nD Cert.PrenormPostBwdIdeal.τ).loc Cert.PrenormPostBwdIdeal.main_arg0)
      ∧ r.2.mem ((c.tc : Thread Cert.PrenormPostBwdIdeal.nD Cert.PrenormPostBwdIdeal.τ).loc Cert.PrenormPostBwdIdeal.main_arg1) = m ((c.tc : Thread Cert.PrenormPostBwdIdeal.nD Cert.PrenormPostBwdIdeal.τ).loc Cert.PrenormPostBwdIdeal.main_arg1)
      ∧ r.2.mem ((c.tc : Thread Cert.PrenormPostBwdIdeal.nD Cert.PrenormPostBwdIdeal.τ).loc Cert.PrenormPostBwdIdeal.main_arg2) = m ((c.tc : Thread Cert.PrenormPostBwdIdeal.nD Cert.PrenormPostBwdIdeal.τ).loc Cert.PrenormPostBwdIdeal.main_arg2)
      ∧ r.2.mem ((c.tc : Thread Cert.PrenormPostBwdIdeal.nD Cert.PrenormPostBwdIdeal.τ).loc Cert.PrenormPostBwdIdeal.main_arg3) = m ((c.tc : Thread Cert.PrenormPostBwdIdeal.nD Cert.PrenormPostBwdIdeal.τ).loc Cert.PrenormPostBwdIdeal.main_arg3)
      ∧ r.2.mem ((c.tc : Thread Cert.PrenormPostBwdIdeal.nD Cert.PrenormPostBwdIdeal.τ).loc Cert.PrenormPostBwdIdeal.main_arg4) = m ((c.tc : Thread Cert.PrenormPostBwdIdeal.nD Cert.PrenormPostBwdIdeal.τ).loc Cert.PrenormPostBwdIdeal.main_arg4)
      ∧ r.2.mem ((c.tc : Thread Cert.PrenormPostBwdIdeal.nD Cert.PrenormPostBwdIdeal.τ).loc Cert.PrenormPostBwdIdeal.main_arg5) = m ((c.tc : Thread Cert.PrenormPostBwdIdeal.nD Cert.PrenormPostBwdIdeal.τ).loc Cert.PrenormPostBwdIdeal.main_arg5)
      ∧ r.2.mem ((c.tc : Thread Cert.PrenormPostBwdIdeal.nD Cert.PrenormPostBwdIdeal.τ).loc Cert.PrenormPostBwdIdeal.main_arg6) = m ((c.tc : Thread Cert.PrenormPostBwdIdeal.nD Cert.PrenormPostBwdIdeal.τ).loc Cert.PrenormPostBwdIdeal.main_arg6)
      ∧ r.2.mem ((c.tc : Thread Cert.PrenormPostBwdIdeal.nD Cert.PrenormPostBwdIdeal.τ).loc Cert.PrenormPostBwdIdeal.main_arg7) = m ((c.tc : Thread Cert.PrenormPostBwdIdeal.nD Cert.PrenormPostBwdIdeal.τ).loc Cert.PrenormPostBwdIdeal.main_arg7))
      ∧ r.2.sem = fun _ => 0)

def quiescent_PrenormPostBwdRefIdeal [hPrenormPostBwdRefIdeal : Cert.PrenormPostBwdRefIdeal.Facts] : Prop :=
  ∀ (m : (ℓ : Loc Cert.PrenormPostBwdRefIdeal.nD Cert.PrenormPostBwdRefIdeal.τ Cert.PrenormPostBwdRefIdeal.sig) → Buf (Elt Ideal) ℓ) (g : Dev Cert.PrenormPostBwdRefIdeal.nD → PrngReg), Pre_PrenormPostBwdRefIdeal m →
    θ_run (Cert.PrenormPostBwdRefIdeal.defs (F := Ideal)) (onTc (τ := Cert.PrenormPostBwdRefIdeal.τ) (Cert.PrenormPostBwdRefIdeal.main (F := Ideal))) ⟨m, fun _ => 0, g⟩ (fun r => (∀ c : Dev Cert.PrenormPostBwdRefIdeal.nD,
      r.2.mem ((c.tc : Thread Cert.PrenormPostBwdRefIdeal.nD Cert.PrenormPostBwdRefIdeal.τ).loc Cert.PrenormPostBwdRefIdeal.main_arg0) = m ((c.tc : Thread Cert.PrenormPostBwdRefIdeal.nD Cert.PrenormPostBwdRefIdeal.τ).loc Cert.PrenormPostBwdRefIdeal.main_arg0)
      ∧ r.2.mem ((c.tc : Thread Cert.PrenormPostBwdRefIdeal.nD Cert.PrenormPostBwdRefIdeal.τ).loc Cert.PrenormPostBwdRefIdeal.main_arg1) = m ((c.tc : Thread Cert.PrenormPostBwdRefIdeal.nD Cert.PrenormPostBwdRefIdeal.τ).loc Cert.PrenormPostBwdRefIdeal.main_arg1)
      ∧ r.2.mem ((c.tc : Thread Cert.PrenormPostBwdRefIdeal.nD Cert.PrenormPostBwdRefIdeal.τ).loc Cert.PrenormPostBwdRefIdeal.main_arg2) = m ((c.tc : Thread Cert.PrenormPostBwdRefIdeal.nD Cert.PrenormPostBwdRefIdeal.τ).loc Cert.PrenormPostBwdRefIdeal.main_arg2)
      ∧ r.2.mem ((c.tc : Thread Cert.PrenormPostBwdRefIdeal.nD Cert.PrenormPostBwdRefIdeal.τ).loc Cert.PrenormPostBwdRefIdeal.main_arg3) = m ((c.tc : Thread Cert.PrenormPostBwdRefIdeal.nD Cert.PrenormPostBwdRefIdeal.τ).loc Cert.PrenormPostBwdRefIdeal.main_arg3)
      ∧ r.2.mem ((c.tc : Thread Cert.PrenormPostBwdRefIdeal.nD Cert.PrenormPostBwdRefIdeal.τ).loc Cert.PrenormPostBwdRefIdeal.main_arg4) = m ((c.tc : Thread Cert.PrenormPostBwdRefIdeal.nD Cert.PrenormPostBwdRefIdeal.τ).loc Cert.PrenormPostBwdRefIdeal.main_arg4)
      ∧ r.2.mem ((c.tc : Thread Cert.PrenormPostBwdRefIdeal.nD Cert.PrenormPostBwdRefIdeal.τ).loc Cert.PrenormPostBwdRefIdeal.main_arg5) = m ((c.tc : Thread Cert.PrenormPostBwdRefIdeal.nD Cert.PrenormPostBwdRefIdeal.τ).loc Cert.PrenormPostBwdRefIdeal.main_arg5)
      ∧ r.2.mem ((c.tc : Thread Cert.PrenormPostBwdRefIdeal.nD Cert.PrenormPostBwdRefIdeal.τ).loc Cert.PrenormPostBwdRefIdeal.main_arg6) = m ((c.tc : Thread Cert.PrenormPostBwdRefIdeal.nD Cert.PrenormPostBwdRefIdeal.τ).loc Cert.PrenormPostBwdRefIdeal.main_arg6)
      ∧ r.2.mem ((c.tc : Thread Cert.PrenormPostBwdRefIdeal.nD Cert.PrenormPostBwdRefIdeal.τ).loc Cert.PrenormPostBwdRefIdeal.main_arg7) = m ((c.tc : Thread Cert.PrenormPostBwdRefIdeal.nD Cert.PrenormPostBwdRefIdeal.τ).loc Cert.PrenormPostBwdRefIdeal.main_arg7))
      ∧ r.2.sem = fun _ => 0)

def quiescent_PostLoss [hPostLoss : Cert.PostLoss.Facts] : Prop :=
  ∀ (m : (ℓ : Loc Cert.PostLoss.nD Cert.PostLoss.τ Cert.PostLoss.sig) → Buf (Elt Bits) ℓ) (g : Dev Cert.PostLoss.nD → PrngReg), Pre_PostLoss m →
    θ_run (Cert.PostLoss.defs (F := Bits)) (onTc (τ := Cert.PostLoss.τ) (Cert.PostLoss.main (F := Bits))) ⟨m, fun _ => 0, g⟩ (fun r => (∀ c : Dev Cert.PostLoss.nD,
      r.2.mem ((c.tc : Thread Cert.PostLoss.nD Cert.PostLoss.τ).loc Cert.PostLoss.main_arg0) = m ((c.tc : Thread Cert.PostLoss.nD Cert.PostLoss.τ).loc Cert.PostLoss.main_arg0)
      ∧ r.2.mem ((c.tc : Thread Cert.PostLoss.nD Cert.PostLoss.τ).loc Cert.PostLoss.main_arg1) = m ((c.tc : Thread Cert.PostLoss.nD Cert.PostLoss.τ).loc Cert.PostLoss.main_arg1)
      ∧ r.2.mem ((c.tc : Thread Cert.PostLoss.nD Cert.PostLoss.τ).loc Cert.PostLoss.main_arg2) = m ((c.tc : Thread Cert.PostLoss.nD Cert.PostLoss.τ).loc Cert.PostLoss.main_arg2)
      ∧ r.2.mem ((c.tc : Thread Cert.PostLoss.nD Cert.PostLoss.τ).loc Cert.PostLoss.main_arg3) = m ((c.tc : Thread Cert.PostLoss.nD Cert.PostLoss.τ).loc Cert.PostLoss.main_arg3)
      ∧ r.2.mem ((c.tc : Thread Cert.PostLoss.nD Cert.PostLoss.τ).loc Cert.PostLoss.main_arg4) = m ((c.tc : Thread Cert.PostLoss.nD Cert.PostLoss.τ).loc Cert.PostLoss.main_arg4))
      ∧ r.2.sem = fun _ => 0)

def quiescent_PostLossIdeal [hPostLossIdeal : Cert.PostLossIdeal.Facts] : Prop :=
  ∀ (m : (ℓ : Loc Cert.PostLossIdeal.nD Cert.PostLossIdeal.τ Cert.PostLossIdeal.sig) → Buf (Elt Ideal) ℓ) (g : Dev Cert.PostLossIdeal.nD → PrngReg), Pre_PostLossIdeal m →
    θ_run (Cert.PostLossIdeal.defs (F := Ideal)) (onTc (τ := Cert.PostLossIdeal.τ) (Cert.PostLossIdeal.main (F := Ideal))) ⟨m, fun _ => 0, g⟩ (fun r => (∀ c : Dev Cert.PostLossIdeal.nD,
      r.2.mem ((c.tc : Thread Cert.PostLossIdeal.nD Cert.PostLossIdeal.τ).loc Cert.PostLossIdeal.main_arg0) = m ((c.tc : Thread Cert.PostLossIdeal.nD Cert.PostLossIdeal.τ).loc Cert.PostLossIdeal.main_arg0)
      ∧ r.2.mem ((c.tc : Thread Cert.PostLossIdeal.nD Cert.PostLossIdeal.τ).loc Cert.PostLossIdeal.main_arg1) = m ((c.tc : Thread Cert.PostLossIdeal.nD Cert.PostLossIdeal.τ).loc Cert.PostLossIdeal.main_arg1)
      ∧ r.2.mem ((c.tc : Thread Cert.PostLossIdeal.nD Cert.PostLossIdeal.τ).loc Cert.PostLossIdeal.main_arg2) = m ((c.tc : Thread Cert.PostLossIdeal.nD Cert.PostLossIdeal.τ).loc Cert.PostLossIdeal.main_arg2)
      ∧ r.2.mem ((c.tc : Thread Cert.PostLossIdeal.nD Cert.PostLossIdeal.τ).loc Cert.PostLossIdeal.main_arg3) = m ((c.tc : Thread Cert.PostLossIdeal.nD Cert.PostLossIdeal.τ).loc Cert.PostLossIdeal.main_arg3)
      ∧ r.2.mem ((c.tc : Thread Cert.PostLossIdeal.nD Cert.PostLossIdeal.τ).loc Cert.PostLossIdeal.main_arg4) = m ((c.tc : Thread Cert.PostLossIdeal.nD Cert.PostLossIdeal.τ).loc Cert.PostLossIdeal.main_arg4))
      ∧ r.2.sem = fun _ => 0)

def quiescent_PostLossRefIdeal [hPostLossRefIdeal : Cert.PostLossRefIdeal.Facts] : Prop :=
  ∀ (m : (ℓ : Loc Cert.PostLossRefIdeal.nD Cert.PostLossRefIdeal.τ Cert.PostLossRefIdeal.sig) → Buf (Elt Ideal) ℓ) (g : Dev Cert.PostLossRefIdeal.nD → PrngReg), Pre_PostLossRefIdeal m →
    θ_run (Cert.PostLossRefIdeal.defs (F := Ideal)) (onTc (τ := Cert.PostLossRefIdeal.τ) (Cert.PostLossRefIdeal.main (F := Ideal))) ⟨m, fun _ => 0, g⟩ (fun r => (∀ c : Dev Cert.PostLossRefIdeal.nD,
      r.2.mem ((c.tc : Thread Cert.PostLossRefIdeal.nD Cert.PostLossRefIdeal.τ).loc Cert.PostLossRefIdeal.main_arg0) = m ((c.tc : Thread Cert.PostLossRefIdeal.nD Cert.PostLossRefIdeal.τ).loc Cert.PostLossRefIdeal.main_arg0)
      ∧ r.2.mem ((c.tc : Thread Cert.PostLossRefIdeal.nD Cert.PostLossRefIdeal.τ).loc Cert.PostLossRefIdeal.main_arg1) = m ((c.tc : Thread Cert.PostLossRefIdeal.nD Cert.PostLossRefIdeal.τ).loc Cert.PostLossRefIdeal.main_arg1)
      ∧ r.2.mem ((c.tc : Thread Cert.PostLossRefIdeal.nD Cert.PostLossRefIdeal.τ).loc Cert.PostLossRefIdeal.main_arg2) = m ((c.tc : Thread Cert.PostLossRefIdeal.nD Cert.PostLossRefIdeal.τ).loc Cert.PostLossRefIdeal.main_arg2)
      ∧ r.2.mem ((c.tc : Thread Cert.PostLossRefIdeal.nD Cert.PostLossRefIdeal.τ).loc Cert.PostLossRefIdeal.main_arg3) = m ((c.tc : Thread Cert.PostLossRefIdeal.nD Cert.PostLossRefIdeal.τ).loc Cert.PostLossRefIdeal.main_arg3)
      ∧ r.2.mem ((c.tc : Thread Cert.PostLossRefIdeal.nD Cert.PostLossRefIdeal.τ).loc Cert.PostLossRefIdeal.main_arg4) = m ((c.tc : Thread Cert.PostLossRefIdeal.nD Cert.PostLossRefIdeal.τ).loc Cert.PostLossRefIdeal.main_arg4))
      ∧ r.2.sem = fun _ => 0)

def quiescent_Prenorm [hPrenorm : Cert.Prenorm.Facts] : Prop :=
  ∀ (m : (ℓ : Loc Cert.Prenorm.nD Cert.Prenorm.τ Cert.Prenorm.sig) → Buf (Elt Bits) ℓ) (g : Dev Cert.Prenorm.nD → PrngReg), Pre_Prenorm m →
    θ_run (Cert.Prenorm.defs (F := Bits)) (onTc (τ := Cert.Prenorm.τ) (Cert.Prenorm.main (F := Bits))) ⟨m, fun _ => 0, g⟩ (fun r => (∀ c : Dev Cert.Prenorm.nD,
      r.2.mem ((c.tc : Thread Cert.Prenorm.nD Cert.Prenorm.τ).loc Cert.Prenorm.main_arg0) = m ((c.tc : Thread Cert.Prenorm.nD Cert.Prenorm.τ).loc Cert.Prenorm.main_arg0)
      ∧ r.2.mem ((c.tc : Thread Cert.Prenorm.nD Cert.Prenorm.τ).loc Cert.Prenorm.main_arg1) = m ((c.tc : Thread Cert.Prenorm.nD Cert.Prenorm.τ).loc Cert.Prenorm.main_arg1)
      ∧ r.2.mem ((c.tc : Thread Cert.Prenorm.nD Cert.Prenorm.τ).loc Cert.Prenorm.main_arg2) = m ((c.tc : Thread Cert.Prenorm.nD Cert.Prenorm.τ).loc Cert.Prenorm.main_arg2)
      ∧ r.2.mem ((c.tc : Thread Cert.Prenorm.nD Cert.Prenorm.τ).loc Cert.Prenorm.main_arg3) = m ((c.tc : Thread Cert.Prenorm.nD Cert.Prenorm.τ).loc Cert.Prenorm.main_arg3))
      ∧ r.2.sem = fun _ => 0)

def quiescent_PrenormIdeal [hPrenormIdeal : Cert.PrenormIdeal.Facts] : Prop :=
  ∀ (m : (ℓ : Loc Cert.PrenormIdeal.nD Cert.PrenormIdeal.τ Cert.PrenormIdeal.sig) → Buf (Elt Ideal) ℓ) (g : Dev Cert.PrenormIdeal.nD → PrngReg), Pre_PrenormIdeal m →
    θ_run (Cert.PrenormIdeal.defs (F := Ideal)) (onTc (τ := Cert.PrenormIdeal.τ) (Cert.PrenormIdeal.main (F := Ideal))) ⟨m, fun _ => 0, g⟩ (fun r => (∀ c : Dev Cert.PrenormIdeal.nD,
      r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
      ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
      ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
      ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ r.2.sem = fun _ => 0)

def quiescent_PrenormRefIdeal [hPrenormRefIdeal : Cert.PrenormRefIdeal.Facts] : Prop :=
  ∀ (m : (ℓ : Loc Cert.PrenormRefIdeal.nD Cert.PrenormRefIdeal.τ Cert.PrenormRefIdeal.sig) → Buf (Elt Ideal) ℓ) (g : Dev Cert.PrenormRefIdeal.nD → PrngReg), Pre_PrenormRefIdeal m →
    θ_run (Cert.PrenormRefIdeal.defs (F := Ideal)) (onTc (τ := Cert.PrenormRefIdeal.τ) (Cert.PrenormRefIdeal.main (F := Ideal))) ⟨m, fun _ => 0, g⟩ (fun r => (∀ c : Dev Cert.PrenormRefIdeal.nD,
      r.2.mem ((c.tc : Thread Cert.PrenormRefIdeal.nD Cert.PrenormRefIdeal.τ).loc Cert.PrenormRefIdeal.main_arg0) = m ((c.tc : Thread Cert.PrenormRefIdeal.nD Cert.PrenormRefIdeal.τ).loc Cert.PrenormRefIdeal.main_arg0)
      ∧ r.2.mem ((c.tc : Thread Cert.PrenormRefIdeal.nD Cert.PrenormRefIdeal.τ).loc Cert.PrenormRefIdeal.main_arg1) = m ((c.tc : Thread Cert.PrenormRefIdeal.nD Cert.PrenormRefIdeal.τ).loc Cert.PrenormRefIdeal.main_arg1)
      ∧ r.2.mem ((c.tc : Thread Cert.PrenormRefIdeal.nD Cert.PrenormRefIdeal.τ).loc Cert.PrenormRefIdeal.main_arg2) = m ((c.tc : Thread Cert.PrenormRefIdeal.nD Cert.PrenormRefIdeal.τ).loc Cert.PrenormRefIdeal.main_arg2)
      ∧ r.2.mem ((c.tc : Thread Cert.PrenormRefIdeal.nD Cert.PrenormRefIdeal.τ).loc Cert.PrenormRefIdeal.main_arg3) = m ((c.tc : Thread Cert.PrenormRefIdeal.nD Cert.PrenormRefIdeal.τ).loc Cert.PrenormRefIdeal.main_arg3))
      ∧ r.2.sem = fun _ => 0)

def quiescent_PostPrenorm [hPostPrenorm : Cert.PostPrenorm.Facts] : Prop :=
  ∀ (m : (ℓ : Loc Cert.PostPrenorm.nD Cert.PostPrenorm.τ Cert.PostPrenorm.sig) → Buf (Elt Bits) ℓ) (g : Dev Cert.PostPrenorm.nD → PrngReg), Pre_PostPrenorm m →
    θ_run (Cert.PostPrenorm.defs (F := Bits)) (onTc (τ := Cert.PostPrenorm.τ) (Cert.PostPrenorm.main (F := Bits))) ⟨m, fun _ => 0, g⟩ (fun r => (∀ c : Dev Cert.PostPrenorm.nD,
      r.2.mem ((c.tc : Thread Cert.PostPrenorm.nD Cert.PostPrenorm.τ).loc Cert.PostPrenorm.main_arg0) = m ((c.tc : Thread Cert.PostPrenorm.nD Cert.PostPrenorm.τ).loc Cert.PostPrenorm.main_arg0)
      ∧ r.2.mem ((c.tc : Thread Cert.PostPrenorm.nD Cert.PostPrenorm.τ).loc Cert.PostPrenorm.main_arg1) = m ((c.tc : Thread Cert.PostPrenorm.nD Cert.PostPrenorm.τ).loc Cert.PostPrenorm.main_arg1)
      ∧ r.2.mem ((c.tc : Thread Cert.PostPrenorm.nD Cert.PostPrenorm.τ).loc Cert.PostPrenorm.main_arg2) = m ((c.tc : Thread Cert.PostPrenorm.nD Cert.PostPrenorm.τ).loc Cert.PostPrenorm.main_arg2)
      ∧ r.2.mem ((c.tc : Thread Cert.PostPrenorm.nD Cert.PostPrenorm.τ).loc Cert.PostPrenorm.main_arg3) = m ((c.tc : Thread Cert.PostPrenorm.nD Cert.PostPrenorm.τ).loc Cert.PostPrenorm.main_arg3)
      ∧ r.2.mem ((c.tc : Thread Cert.PostPrenorm.nD Cert.PostPrenorm.τ).loc Cert.PostPrenorm.main_arg4) = m ((c.tc : Thread Cert.PostPrenorm.nD Cert.PostPrenorm.τ).loc Cert.PostPrenorm.main_arg4)
      ∧ r.2.mem ((c.tc : Thread Cert.PostPrenorm.nD Cert.PostPrenorm.τ).loc Cert.PostPrenorm.main_arg5) = m ((c.tc : Thread Cert.PostPrenorm.nD Cert.PostPrenorm.τ).loc Cert.PostPrenorm.main_arg5)
      ∧ r.2.mem ((c.tc : Thread Cert.PostPrenorm.nD Cert.PostPrenorm.τ).loc Cert.PostPrenorm.main_arg6) = m ((c.tc : Thread Cert.PostPrenorm.nD Cert.PostPrenorm.τ).loc Cert.PostPrenorm.main_arg6))
      ∧ r.2.sem = fun _ => 0)

def quiescent_PostPrenormIdeal [hPostPrenormIdeal : Cert.PostPrenormIdeal.Facts] : Prop :=
  ∀ (m : (ℓ : Loc Cert.PostPrenormIdeal.nD Cert.PostPrenormIdeal.τ Cert.PostPrenormIdeal.sig) → Buf (Elt Ideal) ℓ) (g : Dev Cert.PostPrenormIdeal.nD → PrngReg), Pre_PostPrenormIdeal m →
    θ_run (Cert.PostPrenormIdeal.defs (F := Ideal)) (onTc (τ := Cert.PostPrenormIdeal.τ) (Cert.PostPrenormIdeal.main (F := Ideal))) ⟨m, fun _ => 0, g⟩ (fun r => (∀ c : Dev Cert.PostPrenormIdeal.nD,
      r.2.mem ((c.tc : Thread Cert.PostPrenormIdeal.nD Cert.PostPrenormIdeal.τ).loc Cert.PostPrenormIdeal.main_arg0) = m ((c.tc : Thread Cert.PostPrenormIdeal.nD Cert.PostPrenormIdeal.τ).loc Cert.PostPrenormIdeal.main_arg0)
      ∧ r.2.mem ((c.tc : Thread Cert.PostPrenormIdeal.nD Cert.PostPrenormIdeal.τ).loc Cert.PostPrenormIdeal.main_arg1) = m ((c.tc : Thread Cert.PostPrenormIdeal.nD Cert.PostPrenormIdeal.τ).loc Cert.PostPrenormIdeal.main_arg1)
      ∧ r.2.mem ((c.tc : Thread Cert.PostPrenormIdeal.nD Cert.PostPrenormIdeal.τ).loc Cert.PostPrenormIdeal.main_arg2) = m ((c.tc : Thread Cert.PostPrenormIdeal.nD Cert.PostPrenormIdeal.τ).loc Cert.PostPrenormIdeal.main_arg2)
      ∧ r.2.mem ((c.tc : Thread Cert.PostPrenormIdeal.nD Cert.PostPrenormIdeal.τ).loc Cert.PostPrenormIdeal.main_arg3) = m ((c.tc : Thread Cert.PostPrenormIdeal.nD Cert.PostPrenormIdeal.τ).loc Cert.PostPrenormIdeal.main_arg3)
      ∧ r.2.mem ((c.tc : Thread Cert.PostPrenormIdeal.nD Cert.PostPrenormIdeal.τ).loc Cert.PostPrenormIdeal.main_arg4) = m ((c.tc : Thread Cert.PostPrenormIdeal.nD Cert.PostPrenormIdeal.τ).loc Cert.PostPrenormIdeal.main_arg4)
      ∧ r.2.mem ((c.tc : Thread Cert.PostPrenormIdeal.nD Cert.PostPrenormIdeal.τ).loc Cert.PostPrenormIdeal.main_arg5) = m ((c.tc : Thread Cert.PostPrenormIdeal.nD Cert.PostPrenormIdeal.τ).loc Cert.PostPrenormIdeal.main_arg5)
      ∧ r.2.mem ((c.tc : Thread Cert.PostPrenormIdeal.nD Cert.PostPrenormIdeal.τ).loc Cert.PostPrenormIdeal.main_arg6) = m ((c.tc : Thread Cert.PostPrenormIdeal.nD Cert.PostPrenormIdeal.τ).loc Cert.PostPrenormIdeal.main_arg6))
      ∧ r.2.sem = fun _ => 0)

def quiescent_PostPrenormRefIdeal [hPostPrenormRefIdeal : Cert.PostPrenormRefIdeal.Facts] : Prop :=
  ∀ (m : (ℓ : Loc Cert.PostPrenormRefIdeal.nD Cert.PostPrenormRefIdeal.τ Cert.PostPrenormRefIdeal.sig) → Buf (Elt Ideal) ℓ) (g : Dev Cert.PostPrenormRefIdeal.nD → PrngReg), Pre_PostPrenormRefIdeal m →
    θ_run (Cert.PostPrenormRefIdeal.defs (F := Ideal)) (onTc (τ := Cert.PostPrenormRefIdeal.τ) (Cert.PostPrenormRefIdeal.main (F := Ideal))) ⟨m, fun _ => 0, g⟩ (fun r => (∀ c : Dev Cert.PostPrenormRefIdeal.nD,
      r.2.mem ((c.tc : Thread Cert.PostPrenormRefIdeal.nD Cert.PostPrenormRefIdeal.τ).loc Cert.PostPrenormRefIdeal.main_arg0) = m ((c.tc : Thread Cert.PostPrenormRefIdeal.nD Cert.PostPrenormRefIdeal.τ).loc Cert.PostPrenormRefIdeal.main_arg0)
      ∧ r.2.mem ((c.tc : Thread Cert.PostPrenormRefIdeal.nD Cert.PostPrenormRefIdeal.τ).loc Cert.PostPrenormRefIdeal.main_arg1) = m ((c.tc : Thread Cert.PostPrenormRefIdeal.nD Cert.PostPrenormRefIdeal.τ).loc Cert.PostPrenormRefIdeal.main_arg1)
      ∧ r.2.mem ((c.tc : Thread Cert.PostPrenormRefIdeal.nD Cert.PostPrenormRefIdeal.τ).loc Cert.PostPrenormRefIdeal.main_arg2) = m ((c.tc : Thread Cert.PostPrenormRefIdeal.nD Cert.PostPrenormRefIdeal.τ).loc Cert.PostPrenormRefIdeal.main_arg2)
      ∧ r.2.mem ((c.tc : Thread Cert.PostPrenormRefIdeal.nD Cert.PostPrenormRefIdeal.τ).loc Cert.PostPrenormRefIdeal.main_arg3) = m ((c.tc : Thread Cert.PostPrenormRefIdeal.nD Cert.PostPrenormRefIdeal.τ).loc Cert.PostPrenormRefIdeal.main_arg3)
      ∧ r.2.mem ((c.tc : Thread Cert.PostPrenormRefIdeal.nD Cert.PostPrenormRefIdeal.τ).loc Cert.PostPrenormRefIdeal.main_arg4) = m ((c.tc : Thread Cert.PostPrenormRefIdeal.nD Cert.PostPrenormRefIdeal.τ).loc Cert.PostPrenormRefIdeal.main_arg4)
      ∧ r.2.mem ((c.tc : Thread Cert.PostPrenormRefIdeal.nD Cert.PostPrenormRefIdeal.τ).loc Cert.PostPrenormRefIdeal.main_arg5) = m ((c.tc : Thread Cert.PostPrenormRefIdeal.nD Cert.PostPrenormRefIdeal.τ).loc Cert.PostPrenormRefIdeal.main_arg5)
      ∧ r.2.mem ((c.tc : Thread Cert.PostPrenormRefIdeal.nD Cert.PostPrenormRefIdeal.τ).loc Cert.PostPrenormRefIdeal.main_arg6) = m ((c.tc : Thread Cert.PostPrenormRefIdeal.nD Cert.PostPrenormRefIdeal.τ).loc Cert.PostPrenormRefIdeal.main_arg6))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3)
      ∧ r.2.mem ((c.tc : Thread Cert.AdamW.nD Cert.AdamW.τ).loc Cert.AdamW.main_arg4) = m ((c.tc : Thread Cert.AdamW.nD Cert.AdamW.τ).loc Cert.AdamW.main_arg4))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
      ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3)
      ∧ r.2.mem ((c.tc : Thread Cert.AdamWRefIdeal.nD Cert.AdamWRefIdeal.τ).loc Cert.AdamWRefIdeal.main_arg4) = m ((c.tc : Thread Cert.AdamWRefIdeal.nD Cert.AdamWRefIdeal.τ).loc Cert.AdamWRefIdeal.main_arg4))
      ∧ r.2.sem = fun _ => 0)

def quiescent_AdamWDown [hAdamWDown : Cert.AdamWDown.Facts] : Prop :=
  ∀ (m : (ℓ : Loc Cert.AdamWDown.nD Cert.AdamWDown.τ Cert.AdamWDown.sig) → Buf (Elt Bits) ℓ) (g : Dev Cert.AdamWDown.nD → PrngReg), Pre_AdamWDown m →
    θ_run (Cert.AdamWDown.defs (F := Bits)) (onTc (τ := Cert.AdamWDown.τ) (Cert.AdamWDown.main (F := Bits))) ⟨m, fun _ => 0, g⟩ (fun r => (∀ c : Dev Cert.AdamWDown.nD,
      r.2.mem ((c.tc : Thread Cert.AdamWDown.nD Cert.AdamWDown.τ).loc Cert.AdamWDown.main_arg0) = m ((c.tc : Thread Cert.AdamWDown.nD Cert.AdamWDown.τ).loc Cert.AdamWDown.main_arg0)
      ∧ r.2.mem ((c.tc : Thread Cert.AdamWDown.nD Cert.AdamWDown.τ).loc Cert.AdamWDown.main_arg1) = m ((c.tc : Thread Cert.AdamWDown.nD Cert.AdamWDown.τ).loc Cert.AdamWDown.main_arg1)
      ∧ r.2.mem ((c.tc : Thread Cert.AdamWDown.nD Cert.AdamWDown.τ).loc Cert.AdamWDown.main_arg2) = m ((c.tc : Thread Cert.AdamWDown.nD Cert.AdamWDown.τ).loc Cert.AdamWDown.main_arg2)
      ∧ r.2.mem ((c.tc : Thread Cert.AdamWDown.nD Cert.AdamWDown.τ).loc Cert.AdamWDown.main_arg3) = m ((c.tc : Thread Cert.AdamWDown.nD Cert.AdamWDown.τ).loc Cert.AdamWDown.main_arg3)
      ∧ r.2.mem ((c.tc : Thread Cert.AdamWDown.nD Cert.AdamWDown.τ).loc Cert.AdamWDown.main_arg4) = m ((c.tc : Thread Cert.AdamWDown.nD Cert.AdamWDown.τ).loc Cert.AdamWDown.main_arg4))
      ∧ r.2.sem = fun _ => 0)

def quiescent_AdamWDownIdeal [hAdamWDownIdeal : Cert.AdamWDownIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg), Pre_AdamWDownIdeal m →
    θ_run (Cert.AdamWDownIdeal.defs (F := Ideal)) (onTc (τ := Cert.AdamWDownIdeal.τ) (Cert.AdamWDownIdeal.main (F := Ideal))) ⟨m, fun _ => 0, g⟩ (fun r => (∀ c : Dev Cert.AdamWDownIdeal.nD,
      r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
      ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
      ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
      ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3)
      ∧ r.2.mem ((c.tc : Thread Cert.AdamWDownIdeal.nD Cert.AdamWDownIdeal.τ).loc Cert.AdamWDownIdeal.main_arg4) = m ((c.tc : Thread Cert.AdamWDownIdeal.nD Cert.AdamWDownIdeal.τ).loc Cert.AdamWDownIdeal.main_arg4))
      ∧ r.2.sem = fun _ => 0)

def quiescent_AdamWDownRefIdeal [hAdamWDownRefIdeal : Cert.AdamWDownRefIdeal.Facts] : Prop :=
  ∀ (m : (ℓ : Loc Cert.AdamWDownRefIdeal.nD Cert.AdamWDownRefIdeal.τ Cert.AdamWDownRefIdeal.sig) → Buf (Elt Ideal) ℓ) (g : Dev Cert.AdamWDownRefIdeal.nD → PrngReg), Pre_AdamWDownRefIdeal m →
    θ_run (Cert.AdamWDownRefIdeal.defs (F := Ideal)) (onTc (τ := Cert.AdamWDownRefIdeal.τ) (Cert.AdamWDownRefIdeal.main (F := Ideal))) ⟨m, fun _ => 0, g⟩ (fun r => (∀ c : Dev Cert.AdamWDownRefIdeal.nD,
      r.2.mem ((c.tc : Thread Cert.AdamWDownRefIdeal.nD Cert.AdamWDownRefIdeal.τ).loc Cert.AdamWDownRefIdeal.main_arg0) = m ((c.tc : Thread Cert.AdamWDownRefIdeal.nD Cert.AdamWDownRefIdeal.τ).loc Cert.AdamWDownRefIdeal.main_arg0)
      ∧ r.2.mem ((c.tc : Thread Cert.AdamWDownRefIdeal.nD Cert.AdamWDownRefIdeal.τ).loc Cert.AdamWDownRefIdeal.main_arg1) = m ((c.tc : Thread Cert.AdamWDownRefIdeal.nD Cert.AdamWDownRefIdeal.τ).loc Cert.AdamWDownRefIdeal.main_arg1)
      ∧ r.2.mem ((c.tc : Thread Cert.AdamWDownRefIdeal.nD Cert.AdamWDownRefIdeal.τ).loc Cert.AdamWDownRefIdeal.main_arg2) = m ((c.tc : Thread Cert.AdamWDownRefIdeal.nD Cert.AdamWDownRefIdeal.τ).loc Cert.AdamWDownRefIdeal.main_arg2)
      ∧ r.2.mem ((c.tc : Thread Cert.AdamWDownRefIdeal.nD Cert.AdamWDownRefIdeal.τ).loc Cert.AdamWDownRefIdeal.main_arg3) = m ((c.tc : Thread Cert.AdamWDownRefIdeal.nD Cert.AdamWDownRefIdeal.τ).loc Cert.AdamWDownRefIdeal.main_arg3)
      ∧ r.2.mem ((c.tc : Thread Cert.AdamWDownRefIdeal.nD Cert.AdamWDownRefIdeal.τ).loc Cert.AdamWDownRefIdeal.main_arg4) = m ((c.tc : Thread Cert.AdamWDownRefIdeal.nD Cert.AdamWDownRefIdeal.τ).loc Cert.AdamWDownRefIdeal.main_arg4))
      ∧ r.2.sem = fun _ => 0)

def quiescent_AdamWConvIn [hAdamWConvIn : Cert.AdamWConvIn.Facts] : Prop :=
  ∀ (m : (ℓ : Loc Cert.AdamWConvIn.nD Cert.AdamWConvIn.τ Cert.AdamWConvIn.sig) → Buf (Elt Bits) ℓ) (g : Dev Cert.AdamWConvIn.nD → PrngReg), Pre_AdamWConvIn m →
    θ_run (Cert.AdamWConvIn.defs (F := Bits)) (onTc (τ := Cert.AdamWConvIn.τ) (Cert.AdamWConvIn.main (F := Bits))) ⟨m, fun _ => 0, g⟩ (fun r => (∀ c : Dev Cert.AdamWConvIn.nD,
      r.2.mem ((c.tc : Thread Cert.AdamWConvIn.nD Cert.AdamWConvIn.τ).loc Cert.AdamWConvIn.main_arg0) = m ((c.tc : Thread Cert.AdamWConvIn.nD Cert.AdamWConvIn.τ).loc Cert.AdamWConvIn.main_arg0)
      ∧ r.2.mem ((c.tc : Thread Cert.AdamWConvIn.nD Cert.AdamWConvIn.τ).loc Cert.AdamWConvIn.main_arg1) = m ((c.tc : Thread Cert.AdamWConvIn.nD Cert.AdamWConvIn.τ).loc Cert.AdamWConvIn.main_arg1)
      ∧ r.2.mem ((c.tc : Thread Cert.AdamWConvIn.nD Cert.AdamWConvIn.τ).loc Cert.AdamWConvIn.main_arg2) = m ((c.tc : Thread Cert.AdamWConvIn.nD Cert.AdamWConvIn.τ).loc Cert.AdamWConvIn.main_arg2)
      ∧ r.2.mem ((c.tc : Thread Cert.AdamWConvIn.nD Cert.AdamWConvIn.τ).loc Cert.AdamWConvIn.main_arg3) = m ((c.tc : Thread Cert.AdamWConvIn.nD Cert.AdamWConvIn.τ).loc Cert.AdamWConvIn.main_arg3)
      ∧ r.2.mem ((c.tc : Thread Cert.AdamWConvIn.nD Cert.AdamWConvIn.τ).loc Cert.AdamWConvIn.main_arg4) = m ((c.tc : Thread Cert.AdamWConvIn.nD Cert.AdamWConvIn.τ).loc Cert.AdamWConvIn.main_arg4))
      ∧ r.2.sem = fun _ => 0)

def quiescent_AdamWConvInIdeal [hAdamWConvInIdeal : Cert.AdamWConvInIdeal.Facts] : Prop :=
  ∀ (m : (ℓ : Loc Cert.AdamWConvInIdeal.nD Cert.AdamWConvInIdeal.τ Cert.AdamWConvInIdeal.sig) → Buf (Elt Ideal) ℓ) (g : Dev Cert.AdamWConvInIdeal.nD → PrngReg), Pre_AdamWConvInIdeal m →
    θ_run (Cert.AdamWConvInIdeal.defs (F := Ideal)) (onTc (τ := Cert.AdamWConvInIdeal.τ) (Cert.AdamWConvInIdeal.main (F := Ideal))) ⟨m, fun _ => 0, g⟩ (fun r => (∀ c : Dev Cert.AdamWConvInIdeal.nD,
      r.2.mem ((c.tc : Thread Cert.AdamWConvInIdeal.nD Cert.AdamWConvInIdeal.τ).loc Cert.AdamWConvInIdeal.main_arg0) = m ((c.tc : Thread Cert.AdamWConvInIdeal.nD Cert.AdamWConvInIdeal.τ).loc Cert.AdamWConvInIdeal.main_arg0)
      ∧ r.2.mem ((c.tc : Thread Cert.AdamWConvInIdeal.nD Cert.AdamWConvInIdeal.τ).loc Cert.AdamWConvInIdeal.main_arg1) = m ((c.tc : Thread Cert.AdamWConvInIdeal.nD Cert.AdamWConvInIdeal.τ).loc Cert.AdamWConvInIdeal.main_arg1)
      ∧ r.2.mem ((c.tc : Thread Cert.AdamWConvInIdeal.nD Cert.AdamWConvInIdeal.τ).loc Cert.AdamWConvInIdeal.main_arg2) = m ((c.tc : Thread Cert.AdamWConvInIdeal.nD Cert.AdamWConvInIdeal.τ).loc Cert.AdamWConvInIdeal.main_arg2)
      ∧ r.2.mem ((c.tc : Thread Cert.AdamWConvInIdeal.nD Cert.AdamWConvInIdeal.τ).loc Cert.AdamWConvInIdeal.main_arg3) = m ((c.tc : Thread Cert.AdamWConvInIdeal.nD Cert.AdamWConvInIdeal.τ).loc Cert.AdamWConvInIdeal.main_arg3)
      ∧ r.2.mem ((c.tc : Thread Cert.AdamWConvInIdeal.nD Cert.AdamWConvInIdeal.τ).loc Cert.AdamWConvInIdeal.main_arg4) = m ((c.tc : Thread Cert.AdamWConvInIdeal.nD Cert.AdamWConvInIdeal.τ).loc Cert.AdamWConvInIdeal.main_arg4))
      ∧ r.2.sem = fun _ => 0)

def quiescent_AdamWConvInRefIdeal [hAdamWConvInRefIdeal : Cert.AdamWConvInRefIdeal.Facts] : Prop :=
  ∀ (m : (ℓ : Loc Cert.AdamWConvInRefIdeal.nD Cert.AdamWConvInRefIdeal.τ Cert.AdamWConvInRefIdeal.sig) → Buf (Elt Ideal) ℓ) (g : Dev Cert.AdamWConvInRefIdeal.nD → PrngReg), Pre_AdamWConvInRefIdeal m →
    θ_run (Cert.AdamWConvInRefIdeal.defs (F := Ideal)) (onTc (τ := Cert.AdamWConvInRefIdeal.τ) (Cert.AdamWConvInRefIdeal.main (F := Ideal))) ⟨m, fun _ => 0, g⟩ (fun r => (∀ c : Dev Cert.AdamWConvInRefIdeal.nD,
      r.2.mem ((c.tc : Thread Cert.AdamWConvInRefIdeal.nD Cert.AdamWConvInRefIdeal.τ).loc Cert.AdamWConvInRefIdeal.main_arg0) = m ((c.tc : Thread Cert.AdamWConvInRefIdeal.nD Cert.AdamWConvInRefIdeal.τ).loc Cert.AdamWConvInRefIdeal.main_arg0)
      ∧ r.2.mem ((c.tc : Thread Cert.AdamWConvInRefIdeal.nD Cert.AdamWConvInRefIdeal.τ).loc Cert.AdamWConvInRefIdeal.main_arg1) = m ((c.tc : Thread Cert.AdamWConvInRefIdeal.nD Cert.AdamWConvInRefIdeal.τ).loc Cert.AdamWConvInRefIdeal.main_arg1)
      ∧ r.2.mem ((c.tc : Thread Cert.AdamWConvInRefIdeal.nD Cert.AdamWConvInRefIdeal.τ).loc Cert.AdamWConvInRefIdeal.main_arg2) = m ((c.tc : Thread Cert.AdamWConvInRefIdeal.nD Cert.AdamWConvInRefIdeal.τ).loc Cert.AdamWConvInRefIdeal.main_arg2)
      ∧ r.2.mem ((c.tc : Thread Cert.AdamWConvInRefIdeal.nD Cert.AdamWConvInRefIdeal.τ).loc Cert.AdamWConvInRefIdeal.main_arg3) = m ((c.tc : Thread Cert.AdamWConvInRefIdeal.nD Cert.AdamWConvInRefIdeal.τ).loc Cert.AdamWConvInRefIdeal.main_arg3)
      ∧ r.2.mem ((c.tc : Thread Cert.AdamWConvInRefIdeal.nD Cert.AdamWConvInRefIdeal.τ).loc Cert.AdamWConvInRefIdeal.main_arg4) = m ((c.tc : Thread Cert.AdamWConvInRefIdeal.nD Cert.AdamWConvInRefIdeal.τ).loc Cert.AdamWConvInRefIdeal.main_arg4))
      ∧ r.2.sem = fun _ => 0)

def quiescent_AdamWConvOut [hAdamWConvOut : Cert.AdamWConvOut.Facts] : Prop :=
  ∀ (m : (ℓ : Loc Cert.AdamWConvOut.nD Cert.AdamWConvOut.τ Cert.AdamWConvOut.sig) → Buf (Elt Bits) ℓ) (g : Dev Cert.AdamWConvOut.nD → PrngReg), Pre_AdamWConvOut m →
    θ_run (Cert.AdamWConvOut.defs (F := Bits)) (onTc (τ := Cert.AdamWConvOut.τ) (Cert.AdamWConvOut.main (F := Bits))) ⟨m, fun _ => 0, g⟩ (fun r => (∀ c : Dev Cert.AdamWConvOut.nD,
      r.2.mem ((c.tc : Thread Cert.AdamWConvOut.nD Cert.AdamWConvOut.τ).loc Cert.AdamWConvOut.main_arg0) = m ((c.tc : Thread Cert.AdamWConvOut.nD Cert.AdamWConvOut.τ).loc Cert.AdamWConvOut.main_arg0)
      ∧ r.2.mem ((c.tc : Thread Cert.AdamWConvOut.nD Cert.AdamWConvOut.τ).loc Cert.AdamWConvOut.main_arg1) = m ((c.tc : Thread Cert.AdamWConvOut.nD Cert.AdamWConvOut.τ).loc Cert.AdamWConvOut.main_arg1)
      ∧ r.2.mem ((c.tc : Thread Cert.AdamWConvOut.nD Cert.AdamWConvOut.τ).loc Cert.AdamWConvOut.main_arg2) = m ((c.tc : Thread Cert.AdamWConvOut.nD Cert.AdamWConvOut.τ).loc Cert.AdamWConvOut.main_arg2)
      ∧ r.2.mem ((c.tc : Thread Cert.AdamWConvOut.nD Cert.AdamWConvOut.τ).loc Cert.AdamWConvOut.main_arg3) = m ((c.tc : Thread Cert.AdamWConvOut.nD Cert.AdamWConvOut.τ).loc Cert.AdamWConvOut.main_arg3)
      ∧ r.2.mem ((c.tc : Thread Cert.AdamWConvOut.nD Cert.AdamWConvOut.τ).loc Cert.AdamWConvOut.main_arg4) = m ((c.tc : Thread Cert.AdamWConvOut.nD Cert.AdamWConvOut.τ).loc Cert.AdamWConvOut.main_arg4))
      ∧ r.2.sem = fun _ => 0)

def quiescent_AdamWConvOutIdeal [hAdamWConvOutIdeal : Cert.AdamWConvOutIdeal.Facts] : Prop :=
  ∀ (m : (ℓ : Loc Cert.AdamWConvOutIdeal.nD Cert.AdamWConvOutIdeal.τ Cert.AdamWConvOutIdeal.sig) → Buf (Elt Ideal) ℓ) (g : Dev Cert.AdamWConvOutIdeal.nD → PrngReg), Pre_AdamWConvOutIdeal m →
    θ_run (Cert.AdamWConvOutIdeal.defs (F := Ideal)) (onTc (τ := Cert.AdamWConvOutIdeal.τ) (Cert.AdamWConvOutIdeal.main (F := Ideal))) ⟨m, fun _ => 0, g⟩ (fun r => (∀ c : Dev Cert.AdamWConvOutIdeal.nD,
      r.2.mem ((c.tc : Thread Cert.AdamWConvOutIdeal.nD Cert.AdamWConvOutIdeal.τ).loc Cert.AdamWConvOutIdeal.main_arg0) = m ((c.tc : Thread Cert.AdamWConvOutIdeal.nD Cert.AdamWConvOutIdeal.τ).loc Cert.AdamWConvOutIdeal.main_arg0)
      ∧ r.2.mem ((c.tc : Thread Cert.AdamWConvOutIdeal.nD Cert.AdamWConvOutIdeal.τ).loc Cert.AdamWConvOutIdeal.main_arg1) = m ((c.tc : Thread Cert.AdamWConvOutIdeal.nD Cert.AdamWConvOutIdeal.τ).loc Cert.AdamWConvOutIdeal.main_arg1)
      ∧ r.2.mem ((c.tc : Thread Cert.AdamWConvOutIdeal.nD Cert.AdamWConvOutIdeal.τ).loc Cert.AdamWConvOutIdeal.main_arg2) = m ((c.tc : Thread Cert.AdamWConvOutIdeal.nD Cert.AdamWConvOutIdeal.τ).loc Cert.AdamWConvOutIdeal.main_arg2)
      ∧ r.2.mem ((c.tc : Thread Cert.AdamWConvOutIdeal.nD Cert.AdamWConvOutIdeal.τ).loc Cert.AdamWConvOutIdeal.main_arg3) = m ((c.tc : Thread Cert.AdamWConvOutIdeal.nD Cert.AdamWConvOutIdeal.τ).loc Cert.AdamWConvOutIdeal.main_arg3)
      ∧ r.2.mem ((c.tc : Thread Cert.AdamWConvOutIdeal.nD Cert.AdamWConvOutIdeal.τ).loc Cert.AdamWConvOutIdeal.main_arg4) = m ((c.tc : Thread Cert.AdamWConvOutIdeal.nD Cert.AdamWConvOutIdeal.τ).loc Cert.AdamWConvOutIdeal.main_arg4))
      ∧ r.2.sem = fun _ => 0)

def quiescent_AdamWConvOutRefIdeal [hAdamWConvOutRefIdeal : Cert.AdamWConvOutRefIdeal.Facts] : Prop :=
  ∀ (m : (ℓ : Loc Cert.AdamWConvOutRefIdeal.nD Cert.AdamWConvOutRefIdeal.τ Cert.AdamWConvOutRefIdeal.sig) → Buf (Elt Ideal) ℓ) (g : Dev Cert.AdamWConvOutRefIdeal.nD → PrngReg), Pre_AdamWConvOutRefIdeal m →
    θ_run (Cert.AdamWConvOutRefIdeal.defs (F := Ideal)) (onTc (τ := Cert.AdamWConvOutRefIdeal.τ) (Cert.AdamWConvOutRefIdeal.main (F := Ideal))) ⟨m, fun _ => 0, g⟩ (fun r => (∀ c : Dev Cert.AdamWConvOutRefIdeal.nD,
      r.2.mem ((c.tc : Thread Cert.AdamWConvOutRefIdeal.nD Cert.AdamWConvOutRefIdeal.τ).loc Cert.AdamWConvOutRefIdeal.main_arg0) = m ((c.tc : Thread Cert.AdamWConvOutRefIdeal.nD Cert.AdamWConvOutRefIdeal.τ).loc Cert.AdamWConvOutRefIdeal.main_arg0)
      ∧ r.2.mem ((c.tc : Thread Cert.AdamWConvOutRefIdeal.nD Cert.AdamWConvOutRefIdeal.τ).loc Cert.AdamWConvOutRefIdeal.main_arg1) = m ((c.tc : Thread Cert.AdamWConvOutRefIdeal.nD Cert.AdamWConvOutRefIdeal.τ).loc Cert.AdamWConvOutRefIdeal.main_arg1)
      ∧ r.2.mem ((c.tc : Thread Cert.AdamWConvOutRefIdeal.nD Cert.AdamWConvOutRefIdeal.τ).loc Cert.AdamWConvOutRefIdeal.main_arg2) = m ((c.tc : Thread Cert.AdamWConvOutRefIdeal.nD Cert.AdamWConvOutRefIdeal.τ).loc Cert.AdamWConvOutRefIdeal.main_arg2)
      ∧ r.2.mem ((c.tc : Thread Cert.AdamWConvOutRefIdeal.nD Cert.AdamWConvOutRefIdeal.τ).loc Cert.AdamWConvOutRefIdeal.main_arg3) = m ((c.tc : Thread Cert.AdamWConvOutRefIdeal.nD Cert.AdamWConvOutRefIdeal.τ).loc Cert.AdamWConvOutRefIdeal.main_arg3)
      ∧ r.2.mem ((c.tc : Thread Cert.AdamWConvOutRefIdeal.nD Cert.AdamWConvOutRefIdeal.τ).loc Cert.AdamWConvOutRefIdeal.main_arg4) = m ((c.tc : Thread Cert.AdamWConvOutRefIdeal.nD Cert.AdamWConvOutRefIdeal.τ).loc Cert.AdamWConvOutRefIdeal.main_arg4))
      ∧ r.2.sem = fun _ => 0)

def quiescent_AdamWAda [hAdamWAda : Cert.AdamWAda.Facts] : Prop :=
  ∀ (m : (ℓ : Loc Cert.AdamWAda.nD Cert.AdamWAda.τ Cert.AdamWAda.sig) → Buf (Elt Bits) ℓ) (g : Dev Cert.AdamWAda.nD → PrngReg), Pre_AdamWAda m →
    θ_run (Cert.AdamWAda.defs (F := Bits)) (onTc (τ := Cert.AdamWAda.τ) (Cert.AdamWAda.main (F := Bits))) ⟨m, fun _ => 0, g⟩ (fun r => (∀ c : Dev Cert.AdamWAda.nD,
      r.2.mem ((c.tc : Thread Cert.AdamWAda.nD Cert.AdamWAda.τ).loc Cert.AdamWAda.main_arg0) = m ((c.tc : Thread Cert.AdamWAda.nD Cert.AdamWAda.τ).loc Cert.AdamWAda.main_arg0)
      ∧ r.2.mem ((c.tc : Thread Cert.AdamWAda.nD Cert.AdamWAda.τ).loc Cert.AdamWAda.main_arg1) = m ((c.tc : Thread Cert.AdamWAda.nD Cert.AdamWAda.τ).loc Cert.AdamWAda.main_arg1)
      ∧ r.2.mem ((c.tc : Thread Cert.AdamWAda.nD Cert.AdamWAda.τ).loc Cert.AdamWAda.main_arg2) = m ((c.tc : Thread Cert.AdamWAda.nD Cert.AdamWAda.τ).loc Cert.AdamWAda.main_arg2)
      ∧ r.2.mem ((c.tc : Thread Cert.AdamWAda.nD Cert.AdamWAda.τ).loc Cert.AdamWAda.main_arg3) = m ((c.tc : Thread Cert.AdamWAda.nD Cert.AdamWAda.τ).loc Cert.AdamWAda.main_arg3))
      ∧ r.2.sem = fun _ => 0)

def quiescent_AdamWAdaIdeal [hAdamWAdaIdeal : Cert.AdamWAdaIdeal.Facts] : Prop :=
  ∀ (m : (ℓ : Loc Cert.AdamWAdaIdeal.nD Cert.AdamWAdaIdeal.τ Cert.AdamWAdaIdeal.sig) → Buf (Elt Ideal) ℓ) (g : Dev Cert.AdamWAdaIdeal.nD → PrngReg), Pre_AdamWAdaIdeal m →
    θ_run (Cert.AdamWAdaIdeal.defs (F := Ideal)) (onTc (τ := Cert.AdamWAdaIdeal.τ) (Cert.AdamWAdaIdeal.main (F := Ideal))) ⟨m, fun _ => 0, g⟩ (fun r => (∀ c : Dev Cert.AdamWAdaIdeal.nD,
      r.2.mem ((c.tc : Thread Cert.AdamWAdaIdeal.nD Cert.AdamWAdaIdeal.τ).loc Cert.AdamWAdaIdeal.main_arg0) = m ((c.tc : Thread Cert.AdamWAdaIdeal.nD Cert.AdamWAdaIdeal.τ).loc Cert.AdamWAdaIdeal.main_arg0)
      ∧ r.2.mem ((c.tc : Thread Cert.AdamWAdaIdeal.nD Cert.AdamWAdaIdeal.τ).loc Cert.AdamWAdaIdeal.main_arg1) = m ((c.tc : Thread Cert.AdamWAdaIdeal.nD Cert.AdamWAdaIdeal.τ).loc Cert.AdamWAdaIdeal.main_arg1)
      ∧ r.2.mem ((c.tc : Thread Cert.AdamWAdaIdeal.nD Cert.AdamWAdaIdeal.τ).loc Cert.AdamWAdaIdeal.main_arg2) = m ((c.tc : Thread Cert.AdamWAdaIdeal.nD Cert.AdamWAdaIdeal.τ).loc Cert.AdamWAdaIdeal.main_arg2)
      ∧ r.2.mem ((c.tc : Thread Cert.AdamWAdaIdeal.nD Cert.AdamWAdaIdeal.τ).loc Cert.AdamWAdaIdeal.main_arg3) = m ((c.tc : Thread Cert.AdamWAdaIdeal.nD Cert.AdamWAdaIdeal.τ).loc Cert.AdamWAdaIdeal.main_arg3))
      ∧ r.2.sem = fun _ => 0)

def quiescent_AdamWAdaRefIdeal [hAdamWAdaRefIdeal : Cert.AdamWAdaRefIdeal.Facts] : Prop :=
  ∀ (m : (ℓ : Loc Cert.AdamWAdaRefIdeal.nD Cert.AdamWAdaRefIdeal.τ Cert.AdamWAdaRefIdeal.sig) → Buf (Elt Ideal) ℓ) (g : Dev Cert.AdamWAdaRefIdeal.nD → PrngReg), Pre_AdamWAdaRefIdeal m →
    θ_run (Cert.AdamWAdaRefIdeal.defs (F := Ideal)) (onTc (τ := Cert.AdamWAdaRefIdeal.τ) (Cert.AdamWAdaRefIdeal.main (F := Ideal))) ⟨m, fun _ => 0, g⟩ (fun r => (∀ c : Dev Cert.AdamWAdaRefIdeal.nD,
      r.2.mem ((c.tc : Thread Cert.AdamWAdaRefIdeal.nD Cert.AdamWAdaRefIdeal.τ).loc Cert.AdamWAdaRefIdeal.main_arg0) = m ((c.tc : Thread Cert.AdamWAdaRefIdeal.nD Cert.AdamWAdaRefIdeal.τ).loc Cert.AdamWAdaRefIdeal.main_arg0)
      ∧ r.2.mem ((c.tc : Thread Cert.AdamWAdaRefIdeal.nD Cert.AdamWAdaRefIdeal.τ).loc Cert.AdamWAdaRefIdeal.main_arg1) = m ((c.tc : Thread Cert.AdamWAdaRefIdeal.nD Cert.AdamWAdaRefIdeal.τ).loc Cert.AdamWAdaRefIdeal.main_arg1)
      ∧ r.2.mem ((c.tc : Thread Cert.AdamWAdaRefIdeal.nD Cert.AdamWAdaRefIdeal.τ).loc Cert.AdamWAdaRefIdeal.main_arg2) = m ((c.tc : Thread Cert.AdamWAdaRefIdeal.nD Cert.AdamWAdaRefIdeal.τ).loc Cert.AdamWAdaRefIdeal.main_arg2)
      ∧ r.2.mem ((c.tc : Thread Cert.AdamWAdaRefIdeal.nD Cert.AdamWAdaRefIdeal.τ).loc Cert.AdamWAdaRefIdeal.main_arg3) = m ((c.tc : Thread Cert.AdamWAdaRefIdeal.nD Cert.AdamWAdaRefIdeal.τ).loc Cert.AdamWAdaRefIdeal.main_arg3))
      ∧ r.2.sem = fun _ => 0)

def quiescent_AdamWHgrnIn [hAdamWHgrnIn : Cert.AdamWHgrnIn.Facts] : Prop :=
  ∀ (m : (ℓ : Loc Cert.AdamWHgrnIn.nD Cert.AdamWHgrnIn.τ Cert.AdamWHgrnIn.sig) → Buf (Elt Bits) ℓ) (g : Dev Cert.AdamWHgrnIn.nD → PrngReg), Pre_AdamWHgrnIn m →
    θ_run (Cert.AdamWHgrnIn.defs (F := Bits)) (onTc (τ := Cert.AdamWHgrnIn.τ) (Cert.AdamWHgrnIn.main (F := Bits))) ⟨m, fun _ => 0, g⟩ (fun r => (∀ c : Dev Cert.AdamWHgrnIn.nD,
      r.2.mem ((c.tc : Thread Cert.AdamWHgrnIn.nD Cert.AdamWHgrnIn.τ).loc Cert.AdamWHgrnIn.main_arg0) = m ((c.tc : Thread Cert.AdamWHgrnIn.nD Cert.AdamWHgrnIn.τ).loc Cert.AdamWHgrnIn.main_arg0)
      ∧ r.2.mem ((c.tc : Thread Cert.AdamWHgrnIn.nD Cert.AdamWHgrnIn.τ).loc Cert.AdamWHgrnIn.main_arg1) = m ((c.tc : Thread Cert.AdamWHgrnIn.nD Cert.AdamWHgrnIn.τ).loc Cert.AdamWHgrnIn.main_arg1)
      ∧ r.2.mem ((c.tc : Thread Cert.AdamWHgrnIn.nD Cert.AdamWHgrnIn.τ).loc Cert.AdamWHgrnIn.main_arg2) = m ((c.tc : Thread Cert.AdamWHgrnIn.nD Cert.AdamWHgrnIn.τ).loc Cert.AdamWHgrnIn.main_arg2)
      ∧ r.2.mem ((c.tc : Thread Cert.AdamWHgrnIn.nD Cert.AdamWHgrnIn.τ).loc Cert.AdamWHgrnIn.main_arg3) = m ((c.tc : Thread Cert.AdamWHgrnIn.nD Cert.AdamWHgrnIn.τ).loc Cert.AdamWHgrnIn.main_arg3))
      ∧ r.2.sem = fun _ => 0)

def quiescent_AdamWHgrnInIdeal [hAdamWHgrnInIdeal : Cert.AdamWHgrnInIdeal.Facts] : Prop :=
  ∀ (m : (ℓ : Loc Cert.AdamWHgrnInIdeal.nD Cert.AdamWHgrnInIdeal.τ Cert.AdamWHgrnInIdeal.sig) → Buf (Elt Ideal) ℓ) (g : Dev Cert.AdamWHgrnInIdeal.nD → PrngReg), Pre_AdamWHgrnInIdeal m →
    θ_run (Cert.AdamWHgrnInIdeal.defs (F := Ideal)) (onTc (τ := Cert.AdamWHgrnInIdeal.τ) (Cert.AdamWHgrnInIdeal.main (F := Ideal))) ⟨m, fun _ => 0, g⟩ (fun r => (∀ c : Dev Cert.AdamWHgrnInIdeal.nD,
      r.2.mem ((c.tc : Thread Cert.AdamWHgrnInIdeal.nD Cert.AdamWHgrnInIdeal.τ).loc Cert.AdamWHgrnInIdeal.main_arg0) = m ((c.tc : Thread Cert.AdamWHgrnInIdeal.nD Cert.AdamWHgrnInIdeal.τ).loc Cert.AdamWHgrnInIdeal.main_arg0)
      ∧ r.2.mem ((c.tc : Thread Cert.AdamWHgrnInIdeal.nD Cert.AdamWHgrnInIdeal.τ).loc Cert.AdamWHgrnInIdeal.main_arg1) = m ((c.tc : Thread Cert.AdamWHgrnInIdeal.nD Cert.AdamWHgrnInIdeal.τ).loc Cert.AdamWHgrnInIdeal.main_arg1)
      ∧ r.2.mem ((c.tc : Thread Cert.AdamWHgrnInIdeal.nD Cert.AdamWHgrnInIdeal.τ).loc Cert.AdamWHgrnInIdeal.main_arg2) = m ((c.tc : Thread Cert.AdamWHgrnInIdeal.nD Cert.AdamWHgrnInIdeal.τ).loc Cert.AdamWHgrnInIdeal.main_arg2)
      ∧ r.2.mem ((c.tc : Thread Cert.AdamWHgrnInIdeal.nD Cert.AdamWHgrnInIdeal.τ).loc Cert.AdamWHgrnInIdeal.main_arg3) = m ((c.tc : Thread Cert.AdamWHgrnInIdeal.nD Cert.AdamWHgrnInIdeal.τ).loc Cert.AdamWHgrnInIdeal.main_arg3))
      ∧ r.2.sem = fun _ => 0)

def quiescent_AdamWHgrnInRefIdeal [hAdamWHgrnInRefIdeal : Cert.AdamWHgrnInRefIdeal.Facts] : Prop :=
  ∀ (m : (ℓ : Loc Cert.AdamWHgrnInRefIdeal.nD Cert.AdamWHgrnInRefIdeal.τ Cert.AdamWHgrnInRefIdeal.sig) → Buf (Elt Ideal) ℓ) (g : Dev Cert.AdamWHgrnInRefIdeal.nD → PrngReg), Pre_AdamWHgrnInRefIdeal m →
    θ_run (Cert.AdamWHgrnInRefIdeal.defs (F := Ideal)) (onTc (τ := Cert.AdamWHgrnInRefIdeal.τ) (Cert.AdamWHgrnInRefIdeal.main (F := Ideal))) ⟨m, fun _ => 0, g⟩ (fun r => (∀ c : Dev Cert.AdamWHgrnInRefIdeal.nD,
      r.2.mem ((c.tc : Thread Cert.AdamWHgrnInRefIdeal.nD Cert.AdamWHgrnInRefIdeal.τ).loc Cert.AdamWHgrnInRefIdeal.main_arg0) = m ((c.tc : Thread Cert.AdamWHgrnInRefIdeal.nD Cert.AdamWHgrnInRefIdeal.τ).loc Cert.AdamWHgrnInRefIdeal.main_arg0)
      ∧ r.2.mem ((c.tc : Thread Cert.AdamWHgrnInRefIdeal.nD Cert.AdamWHgrnInRefIdeal.τ).loc Cert.AdamWHgrnInRefIdeal.main_arg1) = m ((c.tc : Thread Cert.AdamWHgrnInRefIdeal.nD Cert.AdamWHgrnInRefIdeal.τ).loc Cert.AdamWHgrnInRefIdeal.main_arg1)
      ∧ r.2.mem ((c.tc : Thread Cert.AdamWHgrnInRefIdeal.nD Cert.AdamWHgrnInRefIdeal.τ).loc Cert.AdamWHgrnInRefIdeal.main_arg2) = m ((c.tc : Thread Cert.AdamWHgrnInRefIdeal.nD Cert.AdamWHgrnInRefIdeal.τ).loc Cert.AdamWHgrnInRefIdeal.main_arg2)
      ∧ r.2.mem ((c.tc : Thread Cert.AdamWHgrnInRefIdeal.nD Cert.AdamWHgrnInRefIdeal.τ).loc Cert.AdamWHgrnInRefIdeal.main_arg3) = m ((c.tc : Thread Cert.AdamWHgrnInRefIdeal.nD Cert.AdamWHgrnInRefIdeal.τ).loc Cert.AdamWHgrnInRefIdeal.main_arg3))
      ∧ r.2.sem = fun _ => 0)

def quiescent_AdamWHgrnOut [hAdamWHgrnOut : Cert.AdamWHgrnOut.Facts] : Prop :=
  ∀ (m : (ℓ : Loc Cert.AdamWHgrnOut.nD Cert.AdamWHgrnOut.τ Cert.AdamWHgrnOut.sig) → Buf (Elt Bits) ℓ) (g : Dev Cert.AdamWHgrnOut.nD → PrngReg), Pre_AdamWHgrnOut m →
    θ_run (Cert.AdamWHgrnOut.defs (F := Bits)) (onTc (τ := Cert.AdamWHgrnOut.τ) (Cert.AdamWHgrnOut.main (F := Bits))) ⟨m, fun _ => 0, g⟩ (fun r => (∀ c : Dev Cert.AdamWHgrnOut.nD,
      r.2.mem ((c.tc : Thread Cert.AdamWHgrnOut.nD Cert.AdamWHgrnOut.τ).loc Cert.AdamWHgrnOut.main_arg0) = m ((c.tc : Thread Cert.AdamWHgrnOut.nD Cert.AdamWHgrnOut.τ).loc Cert.AdamWHgrnOut.main_arg0)
      ∧ r.2.mem ((c.tc : Thread Cert.AdamWHgrnOut.nD Cert.AdamWHgrnOut.τ).loc Cert.AdamWHgrnOut.main_arg1) = m ((c.tc : Thread Cert.AdamWHgrnOut.nD Cert.AdamWHgrnOut.τ).loc Cert.AdamWHgrnOut.main_arg1)
      ∧ r.2.mem ((c.tc : Thread Cert.AdamWHgrnOut.nD Cert.AdamWHgrnOut.τ).loc Cert.AdamWHgrnOut.main_arg2) = m ((c.tc : Thread Cert.AdamWHgrnOut.nD Cert.AdamWHgrnOut.τ).loc Cert.AdamWHgrnOut.main_arg2)
      ∧ r.2.mem ((c.tc : Thread Cert.AdamWHgrnOut.nD Cert.AdamWHgrnOut.τ).loc Cert.AdamWHgrnOut.main_arg3) = m ((c.tc : Thread Cert.AdamWHgrnOut.nD Cert.AdamWHgrnOut.τ).loc Cert.AdamWHgrnOut.main_arg3))
      ∧ r.2.sem = fun _ => 0)

def quiescent_AdamWHgrnOutIdeal [hAdamWHgrnOutIdeal : Cert.AdamWHgrnOutIdeal.Facts] : Prop :=
  ∀ (m : (ℓ : Loc Cert.AdamWHgrnOutIdeal.nD Cert.AdamWHgrnOutIdeal.τ Cert.AdamWHgrnOutIdeal.sig) → Buf (Elt Ideal) ℓ) (g : Dev Cert.AdamWHgrnOutIdeal.nD → PrngReg), Pre_AdamWHgrnOutIdeal m →
    θ_run (Cert.AdamWHgrnOutIdeal.defs (F := Ideal)) (onTc (τ := Cert.AdamWHgrnOutIdeal.τ) (Cert.AdamWHgrnOutIdeal.main (F := Ideal))) ⟨m, fun _ => 0, g⟩ (fun r => (∀ c : Dev Cert.AdamWHgrnOutIdeal.nD,
      r.2.mem ((c.tc : Thread Cert.AdamWHgrnOutIdeal.nD Cert.AdamWHgrnOutIdeal.τ).loc Cert.AdamWHgrnOutIdeal.main_arg0) = m ((c.tc : Thread Cert.AdamWHgrnOutIdeal.nD Cert.AdamWHgrnOutIdeal.τ).loc Cert.AdamWHgrnOutIdeal.main_arg0)
      ∧ r.2.mem ((c.tc : Thread Cert.AdamWHgrnOutIdeal.nD Cert.AdamWHgrnOutIdeal.τ).loc Cert.AdamWHgrnOutIdeal.main_arg1) = m ((c.tc : Thread Cert.AdamWHgrnOutIdeal.nD Cert.AdamWHgrnOutIdeal.τ).loc Cert.AdamWHgrnOutIdeal.main_arg1)
      ∧ r.2.mem ((c.tc : Thread Cert.AdamWHgrnOutIdeal.nD Cert.AdamWHgrnOutIdeal.τ).loc Cert.AdamWHgrnOutIdeal.main_arg2) = m ((c.tc : Thread Cert.AdamWHgrnOutIdeal.nD Cert.AdamWHgrnOutIdeal.τ).loc Cert.AdamWHgrnOutIdeal.main_arg2)
      ∧ r.2.mem ((c.tc : Thread Cert.AdamWHgrnOutIdeal.nD Cert.AdamWHgrnOutIdeal.τ).loc Cert.AdamWHgrnOutIdeal.main_arg3) = m ((c.tc : Thread Cert.AdamWHgrnOutIdeal.nD Cert.AdamWHgrnOutIdeal.τ).loc Cert.AdamWHgrnOutIdeal.main_arg3))
      ∧ r.2.sem = fun _ => 0)

def quiescent_AdamWHgrnOutRefIdeal [hAdamWHgrnOutRefIdeal : Cert.AdamWHgrnOutRefIdeal.Facts] : Prop :=
  ∀ (m : (ℓ : Loc Cert.AdamWHgrnOutRefIdeal.nD Cert.AdamWHgrnOutRefIdeal.τ Cert.AdamWHgrnOutRefIdeal.sig) → Buf (Elt Ideal) ℓ) (g : Dev Cert.AdamWHgrnOutRefIdeal.nD → PrngReg), Pre_AdamWHgrnOutRefIdeal m →
    θ_run (Cert.AdamWHgrnOutRefIdeal.defs (F := Ideal)) (onTc (τ := Cert.AdamWHgrnOutRefIdeal.τ) (Cert.AdamWHgrnOutRefIdeal.main (F := Ideal))) ⟨m, fun _ => 0, g⟩ (fun r => (∀ c : Dev Cert.AdamWHgrnOutRefIdeal.nD,
      r.2.mem ((c.tc : Thread Cert.AdamWHgrnOutRefIdeal.nD Cert.AdamWHgrnOutRefIdeal.τ).loc Cert.AdamWHgrnOutRefIdeal.main_arg0) = m ((c.tc : Thread Cert.AdamWHgrnOutRefIdeal.nD Cert.AdamWHgrnOutRefIdeal.τ).loc Cert.AdamWHgrnOutRefIdeal.main_arg0)
      ∧ r.2.mem ((c.tc : Thread Cert.AdamWHgrnOutRefIdeal.nD Cert.AdamWHgrnOutRefIdeal.τ).loc Cert.AdamWHgrnOutRefIdeal.main_arg1) = m ((c.tc : Thread Cert.AdamWHgrnOutRefIdeal.nD Cert.AdamWHgrnOutRefIdeal.τ).loc Cert.AdamWHgrnOutRefIdeal.main_arg1)
      ∧ r.2.mem ((c.tc : Thread Cert.AdamWHgrnOutRefIdeal.nD Cert.AdamWHgrnOutRefIdeal.τ).loc Cert.AdamWHgrnOutRefIdeal.main_arg2) = m ((c.tc : Thread Cert.AdamWHgrnOutRefIdeal.nD Cert.AdamWHgrnOutRefIdeal.τ).loc Cert.AdamWHgrnOutRefIdeal.main_arg2)
      ∧ r.2.mem ((c.tc : Thread Cert.AdamWHgrnOutRefIdeal.nD Cert.AdamWHgrnOutRefIdeal.τ).loc Cert.AdamWHgrnOutRefIdeal.main_arg3) = m ((c.tc : Thread Cert.AdamWHgrnOutRefIdeal.nD Cert.AdamWHgrnOutRefIdeal.τ).loc Cert.AdamWHgrnOutRefIdeal.main_arg3))
      ∧ r.2.sem = fun _ => 0)

def quiescent_AdamWSmall [hAdamWSmall : Cert.AdamWSmall.Facts] : Prop :=
  ∀ (m : (ℓ : Loc Cert.AdamWSmall.nD Cert.AdamWSmall.τ Cert.AdamWSmall.sig) → Buf (Elt Bits) ℓ) (g : Dev Cert.AdamWSmall.nD → PrngReg), Pre_AdamWSmall m →
    θ_run (Cert.AdamWSmall.defs (F := Bits)) (onTc (τ := Cert.AdamWSmall.τ) (Cert.AdamWSmall.main (F := Bits))) ⟨m, fun _ => 0, g⟩ (fun r => (∀ c : Dev Cert.AdamWSmall.nD,
      r.2.mem ((c.tc : Thread Cert.AdamWSmall.nD Cert.AdamWSmall.τ).loc Cert.AdamWSmall.main_arg0) = m ((c.tc : Thread Cert.AdamWSmall.nD Cert.AdamWSmall.τ).loc Cert.AdamWSmall.main_arg0)
      ∧ r.2.mem ((c.tc : Thread Cert.AdamWSmall.nD Cert.AdamWSmall.τ).loc Cert.AdamWSmall.main_arg1) = m ((c.tc : Thread Cert.AdamWSmall.nD Cert.AdamWSmall.τ).loc Cert.AdamWSmall.main_arg1)
      ∧ r.2.mem ((c.tc : Thread Cert.AdamWSmall.nD Cert.AdamWSmall.τ).loc Cert.AdamWSmall.main_arg2) = m ((c.tc : Thread Cert.AdamWSmall.nD Cert.AdamWSmall.τ).loc Cert.AdamWSmall.main_arg2)
      ∧ r.2.mem ((c.tc : Thread Cert.AdamWSmall.nD Cert.AdamWSmall.τ).loc Cert.AdamWSmall.main_arg3) = m ((c.tc : Thread Cert.AdamWSmall.nD Cert.AdamWSmall.τ).loc Cert.AdamWSmall.main_arg3))
      ∧ r.2.sem = fun _ => 0)

def quiescent_AdamWSmallIdeal [hAdamWSmallIdeal : Cert.AdamWSmallIdeal.Facts] : Prop :=
  ∀ (m : (ℓ : Loc Cert.AdamWSmallIdeal.nD Cert.AdamWSmallIdeal.τ Cert.AdamWSmallIdeal.sig) → Buf (Elt Ideal) ℓ) (g : Dev Cert.AdamWSmallIdeal.nD → PrngReg), Pre_AdamWSmallIdeal m →
    θ_run (Cert.AdamWSmallIdeal.defs (F := Ideal)) (onTc (τ := Cert.AdamWSmallIdeal.τ) (Cert.AdamWSmallIdeal.main (F := Ideal))) ⟨m, fun _ => 0, g⟩ (fun r => (∀ c : Dev Cert.AdamWSmallIdeal.nD,
      r.2.mem ((c.tc : Thread Cert.AdamWSmallIdeal.nD Cert.AdamWSmallIdeal.τ).loc Cert.AdamWSmallIdeal.main_arg0) = m ((c.tc : Thread Cert.AdamWSmallIdeal.nD Cert.AdamWSmallIdeal.τ).loc Cert.AdamWSmallIdeal.main_arg0)
      ∧ r.2.mem ((c.tc : Thread Cert.AdamWSmallIdeal.nD Cert.AdamWSmallIdeal.τ).loc Cert.AdamWSmallIdeal.main_arg1) = m ((c.tc : Thread Cert.AdamWSmallIdeal.nD Cert.AdamWSmallIdeal.τ).loc Cert.AdamWSmallIdeal.main_arg1)
      ∧ r.2.mem ((c.tc : Thread Cert.AdamWSmallIdeal.nD Cert.AdamWSmallIdeal.τ).loc Cert.AdamWSmallIdeal.main_arg2) = m ((c.tc : Thread Cert.AdamWSmallIdeal.nD Cert.AdamWSmallIdeal.τ).loc Cert.AdamWSmallIdeal.main_arg2)
      ∧ r.2.mem ((c.tc : Thread Cert.AdamWSmallIdeal.nD Cert.AdamWSmallIdeal.τ).loc Cert.AdamWSmallIdeal.main_arg3) = m ((c.tc : Thread Cert.AdamWSmallIdeal.nD Cert.AdamWSmallIdeal.τ).loc Cert.AdamWSmallIdeal.main_arg3))
      ∧ r.2.sem = fun _ => 0)

def quiescent_AdamWSmallRefIdeal [hAdamWSmallRefIdeal : Cert.AdamWSmallRefIdeal.Facts] : Prop :=
  ∀ (m : (ℓ : Loc Cert.AdamWSmallRefIdeal.nD Cert.AdamWSmallRefIdeal.τ Cert.AdamWSmallRefIdeal.sig) → Buf (Elt Ideal) ℓ) (g : Dev Cert.AdamWSmallRefIdeal.nD → PrngReg), Pre_AdamWSmallRefIdeal m →
    θ_run (Cert.AdamWSmallRefIdeal.defs (F := Ideal)) (onTc (τ := Cert.AdamWSmallRefIdeal.τ) (Cert.AdamWSmallRefIdeal.main (F := Ideal))) ⟨m, fun _ => 0, g⟩ (fun r => (∀ c : Dev Cert.AdamWSmallRefIdeal.nD,
      r.2.mem ((c.tc : Thread Cert.AdamWSmallRefIdeal.nD Cert.AdamWSmallRefIdeal.τ).loc Cert.AdamWSmallRefIdeal.main_arg0) = m ((c.tc : Thread Cert.AdamWSmallRefIdeal.nD Cert.AdamWSmallRefIdeal.τ).loc Cert.AdamWSmallRefIdeal.main_arg0)
      ∧ r.2.mem ((c.tc : Thread Cert.AdamWSmallRefIdeal.nD Cert.AdamWSmallRefIdeal.τ).loc Cert.AdamWSmallRefIdeal.main_arg1) = m ((c.tc : Thread Cert.AdamWSmallRefIdeal.nD Cert.AdamWSmallRefIdeal.τ).loc Cert.AdamWSmallRefIdeal.main_arg1)
      ∧ r.2.mem ((c.tc : Thread Cert.AdamWSmallRefIdeal.nD Cert.AdamWSmallRefIdeal.τ).loc Cert.AdamWSmallRefIdeal.main_arg2) = m ((c.tc : Thread Cert.AdamWSmallRefIdeal.nD Cert.AdamWSmallRefIdeal.τ).loc Cert.AdamWSmallRefIdeal.main_arg2)
      ∧ r.2.mem ((c.tc : Thread Cert.AdamWSmallRefIdeal.nD Cert.AdamWSmallRefIdeal.τ).loc Cert.AdamWSmallRefIdeal.main_arg3) = m ((c.tc : Thread Cert.AdamWSmallRefIdeal.nD Cert.AdamWSmallRefIdeal.τ).loc Cert.AdamWSmallRefIdeal.main_arg3))
      ∧ r.2.sem = fun _ => 0)

def quiescent_AdaWgrad [hAdaWgrad : Cert.AdaWgrad.Facts] : Prop :=
  ∀ (m : (ℓ : Loc Cert.AdaWgrad.nD Cert.AdaWgrad.τ Cert.AdaWgrad.sig) → Buf (Elt Bits) ℓ) (g : Dev Cert.AdaWgrad.nD → PrngReg), Pre_AdaWgrad m →
    θ_run (Cert.AdaWgrad.defs (F := Bits)) (onTc (τ := Cert.AdaWgrad.τ) (Cert.AdaWgrad.main (F := Bits))) ⟨m, fun _ => 0, g⟩ (fun r => (∀ c : Dev Cert.AdaWgrad.nD,
      r.2.mem ((c.tc : Thread Cert.AdaWgrad.nD Cert.AdaWgrad.τ).loc Cert.AdaWgrad.main_arg0) = m ((c.tc : Thread Cert.AdaWgrad.nD Cert.AdaWgrad.τ).loc Cert.AdaWgrad.main_arg0)
      ∧ r.2.mem ((c.tc : Thread Cert.AdaWgrad.nD Cert.AdaWgrad.τ).loc Cert.AdaWgrad.main_arg1) = m ((c.tc : Thread Cert.AdaWgrad.nD Cert.AdaWgrad.τ).loc Cert.AdaWgrad.main_arg1))
      ∧ r.2.sem = fun _ => 0)

def quiescent_AdaWgradIdeal [hAdaWgradIdeal : Cert.AdaWgradIdeal.Facts] : Prop :=
  ∀ (m : (ℓ : Loc Cert.AdaWgradIdeal.nD Cert.AdaWgradIdeal.τ Cert.AdaWgradIdeal.sig) → Buf (Elt Ideal) ℓ) (g : Dev Cert.AdaWgradIdeal.nD → PrngReg), Pre_AdaWgradIdeal m →
    θ_run (Cert.AdaWgradIdeal.defs (F := Ideal)) (onTc (τ := Cert.AdaWgradIdeal.τ) (Cert.AdaWgradIdeal.main (F := Ideal))) ⟨m, fun _ => 0, g⟩ (fun r => (∀ c : Dev Cert.AdaWgradIdeal.nD,
      r.2.mem ((c.tc : Thread Cert.AdaWgradIdeal.nD Cert.AdaWgradIdeal.τ).loc Cert.AdaWgradIdeal.main_arg0) = m ((c.tc : Thread Cert.AdaWgradIdeal.nD Cert.AdaWgradIdeal.τ).loc Cert.AdaWgradIdeal.main_arg0)
      ∧ r.2.mem ((c.tc : Thread Cert.AdaWgradIdeal.nD Cert.AdaWgradIdeal.τ).loc Cert.AdaWgradIdeal.main_arg1) = m ((c.tc : Thread Cert.AdaWgradIdeal.nD Cert.AdaWgradIdeal.τ).loc Cert.AdaWgradIdeal.main_arg1))
      ∧ r.2.sem = fun _ => 0)

def quiescent_AdaWgradRefIdeal [hAdaWgradRefIdeal : Cert.AdaWgradRefIdeal.Facts] : Prop :=
  ∀ (m : (ℓ : Loc Cert.AdaWgradRefIdeal.nD Cert.AdaWgradRefIdeal.τ Cert.AdaWgradRefIdeal.sig) → Buf (Elt Ideal) ℓ) (g : Dev Cert.AdaWgradRefIdeal.nD → PrngReg), Pre_AdaWgradRefIdeal m →
    θ_run (Cert.AdaWgradRefIdeal.defs (F := Ideal)) (onTc (τ := Cert.AdaWgradRefIdeal.τ) (Cert.AdaWgradRefIdeal.main (F := Ideal))) ⟨m, fun _ => 0, g⟩ (fun r => (∀ c : Dev Cert.AdaWgradRefIdeal.nD,
      r.2.mem ((c.tc : Thread Cert.AdaWgradRefIdeal.nD Cert.AdaWgradRefIdeal.τ).loc Cert.AdaWgradRefIdeal.main_arg0) = m ((c.tc : Thread Cert.AdaWgradRefIdeal.nD Cert.AdaWgradRefIdeal.τ).loc Cert.AdaWgradRefIdeal.main_arg0)
      ∧ r.2.mem ((c.tc : Thread Cert.AdaWgradRefIdeal.nD Cert.AdaWgradRefIdeal.τ).loc Cert.AdaWgradRefIdeal.main_arg1) = m ((c.tc : Thread Cert.AdaWgradRefIdeal.nD Cert.AdaWgradRefIdeal.τ).loc Cert.AdaWgradRefIdeal.main_arg1))
      ∧ r.2.sem = fun _ => 0)

def quiescent_SumSmall [hSumSmall : Cert.SumSmall.Facts] : Prop :=
  ∀ (m : (ℓ : Loc Cert.SumSmall.nD Cert.SumSmall.τ Cert.SumSmall.sig) → Buf (Elt Bits) ℓ) (g : Dev Cert.SumSmall.nD → PrngReg), Pre_SumSmall m →
    θ_run (Cert.SumSmall.defs (F := Bits)) (onTc (τ := Cert.SumSmall.τ) (Cert.SumSmall.main (F := Bits))) ⟨m, fun _ => 0, g⟩ (fun r => (∀ c : Dev Cert.SumSmall.nD,
      r.2.mem ((c.tc : Thread Cert.SumSmall.nD Cert.SumSmall.τ).loc Cert.SumSmall.main_arg0) = m ((c.tc : Thread Cert.SumSmall.nD Cert.SumSmall.τ).loc Cert.SumSmall.main_arg0))
      ∧ r.2.sem = fun _ => 0)

def quiescent_SumSmallIdeal [hSumSmallIdeal : Cert.SumSmallIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg), Pre_SumSmallIdeal m →
    θ_run (Cert.SumSmallIdeal.defs (F := Ideal)) (onTc (τ := Cert.SumSmallIdeal.τ) (Cert.SumSmallIdeal.main (F := Ideal))) ⟨m, fun _ => 0, g⟩ (fun r => (∀ c : Dev Cert.SumSmallIdeal.nD,
      r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ r.2.sem = fun _ => 0)

def quiescent_SumSmallRefIdeal [hSumSmallRefIdeal : Cert.SumSmallRefIdeal.Facts] : Prop :=
  ∀ (m : (ℓ : Loc Cert.SumSmallRefIdeal.nD Cert.SumSmallRefIdeal.τ Cert.SumSmallRefIdeal.sig) → Buf (Elt Ideal) ℓ) (g : Dev Cert.SumSmallRefIdeal.nD → PrngReg), Pre_SumSmallRefIdeal m →
    θ_run (Cert.SumSmallRefIdeal.defs (F := Ideal)) (onTc (τ := Cert.SumSmallRefIdeal.τ) (Cert.SumSmallRefIdeal.main (F := Ideal))) ⟨m, fun _ => 0, g⟩ (fun r => (∀ c : Dev Cert.SumSmallRefIdeal.nD,
      r.2.mem ((c.tc : Thread Cert.SumSmallRefIdeal.nD Cert.SumSmallRefIdeal.τ).loc Cert.SumSmallRefIdeal.main_arg0) = m ((c.tc : Thread Cert.SumSmallRefIdeal.nD Cert.SumSmallRefIdeal.τ).loc Cert.SumSmallRefIdeal.main_arg0))
      ∧ r.2.sem = fun _ => 0)

def quiescent_GateBwd [hGateBwd : Cert.GateBwd.Facts] : Prop :=
  ∀ (m : (ℓ : Loc Cert.GateBwd.nD Cert.GateBwd.τ Cert.GateBwd.sig) → Buf (Elt Bits) ℓ) (g : Dev Cert.GateBwd.nD → PrngReg), Pre_GateBwd m →
    θ_run (Cert.GateBwd.defs (F := Bits)) (onTc (τ := Cert.GateBwd.τ) (Cert.GateBwd.main (F := Bits))) ⟨m, fun _ => 0, g⟩ (fun r => (∀ c : Dev Cert.GateBwd.nD,
      r.2.mem ((c.tc : Thread Cert.GateBwd.nD Cert.GateBwd.τ).loc Cert.GateBwd.main_arg0) = m ((c.tc : Thread Cert.GateBwd.nD Cert.GateBwd.τ).loc Cert.GateBwd.main_arg0)
      ∧ r.2.mem ((c.tc : Thread Cert.GateBwd.nD Cert.GateBwd.τ).loc Cert.GateBwd.main_arg1) = m ((c.tc : Thread Cert.GateBwd.nD Cert.GateBwd.τ).loc Cert.GateBwd.main_arg1)
      ∧ r.2.mem ((c.tc : Thread Cert.GateBwd.nD Cert.GateBwd.τ).loc Cert.GateBwd.main_arg2) = m ((c.tc : Thread Cert.GateBwd.nD Cert.GateBwd.τ).loc Cert.GateBwd.main_arg2)
      ∧ r.2.mem ((c.tc : Thread Cert.GateBwd.nD Cert.GateBwd.τ).loc Cert.GateBwd.main_arg3) = m ((c.tc : Thread Cert.GateBwd.nD Cert.GateBwd.τ).loc Cert.GateBwd.main_arg3))
      ∧ r.2.sem = fun _ => 0)

def quiescent_GateBwdIdeal [hGateBwdIdeal : Cert.GateBwdIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg), Pre_GateBwdIdeal m →
    θ_run (Cert.GateBwdIdeal.defs (F := Ideal)) (onTc (τ := Cert.GateBwdIdeal.τ) (Cert.GateBwdIdeal.main (F := Ideal))) ⟨m, fun _ => 0, g⟩ (fun r => (∀ c : Dev Cert.GateBwdIdeal.nD,
      r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
      ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
      ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
      ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ r.2.sem = fun _ => 0)

def quiescent_GateBwdRefIdeal [hGateBwdRefIdeal : Cert.GateBwdRefIdeal.Facts] : Prop :=
  ∀ (m : (ℓ : Loc Cert.GateBwdRefIdeal.nD Cert.GateBwdRefIdeal.τ Cert.GateBwdRefIdeal.sig) → Buf (Elt Ideal) ℓ) (g : Dev Cert.GateBwdRefIdeal.nD → PrngReg), Pre_GateBwdRefIdeal m →
    θ_run (Cert.GateBwdRefIdeal.defs (F := Ideal)) (onTc (τ := Cert.GateBwdRefIdeal.τ) (Cert.GateBwdRefIdeal.main (F := Ideal))) ⟨m, fun _ => 0, g⟩ (fun r => (∀ c : Dev Cert.GateBwdRefIdeal.nD,
      r.2.mem ((c.tc : Thread Cert.GateBwdRefIdeal.nD Cert.GateBwdRefIdeal.τ).loc Cert.GateBwdRefIdeal.main_arg0) = m ((c.tc : Thread Cert.GateBwdRefIdeal.nD Cert.GateBwdRefIdeal.τ).loc Cert.GateBwdRefIdeal.main_arg0)
      ∧ r.2.mem ((c.tc : Thread Cert.GateBwdRefIdeal.nD Cert.GateBwdRefIdeal.τ).loc Cert.GateBwdRefIdeal.main_arg1) = m ((c.tc : Thread Cert.GateBwdRefIdeal.nD Cert.GateBwdRefIdeal.τ).loc Cert.GateBwdRefIdeal.main_arg1)
      ∧ r.2.mem ((c.tc : Thread Cert.GateBwdRefIdeal.nD Cert.GateBwdRefIdeal.τ).loc Cert.GateBwdRefIdeal.main_arg2) = m ((c.tc : Thread Cert.GateBwdRefIdeal.nD Cert.GateBwdRefIdeal.τ).loc Cert.GateBwdRefIdeal.main_arg2)
      ∧ r.2.mem ((c.tc : Thread Cert.GateBwdRefIdeal.nD Cert.GateBwdRefIdeal.τ).loc Cert.GateBwdRefIdeal.main_arg3) = m ((c.tc : Thread Cert.GateBwdRefIdeal.nD Cert.GateBwdRefIdeal.τ).loc Cert.GateBwdRefIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v456) = v0 c
          ∧ r.2.mem ((c.tc : Thread Cert.ReferenceIdeal.nD Cert.ReferenceIdeal.τ).loc Cert.ReferenceIdeal.main_v457) = v1 c
          ∧ r.2.mem ((c.tc : Thread Cert.ReferenceIdeal.nD Cert.ReferenceIdeal.τ).loc Cert.ReferenceIdeal.main_v459) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v9) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v10) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v8) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v7) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v7) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_Down_DownIdeal : Prop :=
  True

def algebraic_DownIdeal_DownRefIdeal [hDownIdeal : Cert.DownIdeal.Facts] [hDownRefIdeal : Cert.DownRefIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          r.2.mem ((c.tc : Thread Cert.DownRefIdeal.nD Cert.DownRefIdeal.τ).loc Cert.DownRefIdeal.main_v4) = v0 c
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1))

def preserves_HgrnInDx_HgrnInDxIdeal : Prop :=
  True

def algebraic_HgrnInDxIdeal_HgrnInDxRefIdeal [hHgrnInDxIdeal : Cert.HgrnInDxIdeal.Facts] [hHgrnInDxRefIdeal : Cert.HgrnInDxRefIdeal.Facts] : Prop :=
  ∀ (m : (ℓ : Loc Cert.HgrnInDxIdeal.nD Cert.HgrnInDxIdeal.τ Cert.HgrnInDxIdeal.sig) → Buf (Elt Ideal) ℓ) (g : Dev Cert.HgrnInDxIdeal.nD → PrngReg)
    (m' : (ℓ : Loc Cert.HgrnInDxRefIdeal.nD Cert.HgrnInDxRefIdeal.τ Cert.HgrnInDxRefIdeal.sig) → Buf (Elt Ideal) ℓ) (g' : Dev Cert.HgrnInDxRefIdeal.nD → PrngReg), Pre_HgrnInDxIdeal m →
    (∀ c : Dev Cert.HgrnInDxIdeal.nD,
      m' ((c.tc : Thread Cert.HgrnInDxRefIdeal.nD Cert.HgrnInDxRefIdeal.τ).loc Cert.HgrnInDxRefIdeal.main_arg0) = m ((c.tc : Thread Cert.HgrnInDxIdeal.nD Cert.HgrnInDxIdeal.τ).loc Cert.HgrnInDxIdeal.main_arg0)
      ∧ m' ((c.tc : Thread Cert.HgrnInDxRefIdeal.nD Cert.HgrnInDxRefIdeal.τ).loc Cert.HgrnInDxRefIdeal.main_arg1) = m ((c.tc : Thread Cert.HgrnInDxIdeal.nD Cert.HgrnInDxIdeal.τ).loc Cert.HgrnInDxIdeal.main_arg1)
      ∧ m' ((c.tc : Thread Cert.HgrnInDxRefIdeal.nD Cert.HgrnInDxRefIdeal.τ).loc Cert.HgrnInDxRefIdeal.main_arg2) = m ((c.tc : Thread Cert.HgrnInDxIdeal.nD Cert.HgrnInDxIdeal.τ).loc Cert.HgrnInDxIdeal.main_arg2)
      ∧ m' ((c.tc : Thread Cert.HgrnInDxRefIdeal.nD Cert.HgrnInDxRefIdeal.τ).loc Cert.HgrnInDxRefIdeal.main_arg3) = m ((c.tc : Thread Cert.HgrnInDxIdeal.nD Cert.HgrnInDxIdeal.τ).loc Cert.HgrnInDxIdeal.main_arg3)) →
    ∃ (v0 : (c : Dev Cert.HgrnInDxIdeal.nD) → Buf (Elt Ideal) ((c.tc : Thread Cert.HgrnInDxIdeal.nD Cert.HgrnInDxIdeal.τ).loc Cert.HgrnInDxIdeal.main_v0)),
      θ_run (Cert.HgrnInDxIdeal.defs (F := Ideal)) (onTc (τ := Cert.HgrnInDxIdeal.τ) (Cert.HgrnInDxIdeal.main (F := Ideal))) ⟨m, fun _ => 0, g⟩ (fun r => ∀ c : Dev Cert.HgrnInDxIdeal.nD,
          r.2.mem ((c.tc : Thread Cert.HgrnInDxIdeal.nD Cert.HgrnInDxIdeal.τ).loc Cert.HgrnInDxIdeal.main_v0) = v0 c
          ∧ r.2.mem ((c.tc : Thread Cert.HgrnInDxIdeal.nD Cert.HgrnInDxIdeal.τ).loc Cert.HgrnInDxIdeal.main_arg0) = m ((c.tc : Thread Cert.HgrnInDxIdeal.nD Cert.HgrnInDxIdeal.τ).loc Cert.HgrnInDxIdeal.main_arg0)
          ∧ r.2.mem ((c.tc : Thread Cert.HgrnInDxIdeal.nD Cert.HgrnInDxIdeal.τ).loc Cert.HgrnInDxIdeal.main_arg1) = m ((c.tc : Thread Cert.HgrnInDxIdeal.nD Cert.HgrnInDxIdeal.τ).loc Cert.HgrnInDxIdeal.main_arg1)
          ∧ r.2.mem ((c.tc : Thread Cert.HgrnInDxIdeal.nD Cert.HgrnInDxIdeal.τ).loc Cert.HgrnInDxIdeal.main_arg2) = m ((c.tc : Thread Cert.HgrnInDxIdeal.nD Cert.HgrnInDxIdeal.τ).loc Cert.HgrnInDxIdeal.main_arg2)
          ∧ r.2.mem ((c.tc : Thread Cert.HgrnInDxIdeal.nD Cert.HgrnInDxIdeal.τ).loc Cert.HgrnInDxIdeal.main_arg3) = m ((c.tc : Thread Cert.HgrnInDxIdeal.nD Cert.HgrnInDxIdeal.τ).loc Cert.HgrnInDxIdeal.main_arg3))
      ∧ θ_run (Cert.HgrnInDxRefIdeal.defs (F := Ideal)) (onTc (τ := Cert.HgrnInDxRefIdeal.τ) (Cert.HgrnInDxRefIdeal.main (F := Ideal))) ⟨m', fun _ => 0, g'⟩ (fun r => ∀ c : Dev Cert.HgrnInDxRefIdeal.nD,
          r.2.mem ((c.tc : Thread Cert.HgrnInDxRefIdeal.nD Cert.HgrnInDxRefIdeal.τ).loc Cert.HgrnInDxRefIdeal.main_v16) = v0 c
          ∧ r.2.mem ((c.tc : Thread Cert.HgrnInDxRefIdeal.nD Cert.HgrnInDxRefIdeal.τ).loc Cert.HgrnInDxRefIdeal.main_arg0) = m' ((c.tc : Thread Cert.HgrnInDxRefIdeal.nD Cert.HgrnInDxRefIdeal.τ).loc Cert.HgrnInDxRefIdeal.main_arg0)
          ∧ r.2.mem ((c.tc : Thread Cert.HgrnInDxRefIdeal.nD Cert.HgrnInDxRefIdeal.τ).loc Cert.HgrnInDxRefIdeal.main_arg1) = m' ((c.tc : Thread Cert.HgrnInDxRefIdeal.nD Cert.HgrnInDxRefIdeal.τ).loc Cert.HgrnInDxRefIdeal.main_arg1)
          ∧ r.2.mem ((c.tc : Thread Cert.HgrnInDxRefIdeal.nD Cert.HgrnInDxRefIdeal.τ).loc Cert.HgrnInDxRefIdeal.main_arg2) = m' ((c.tc : Thread Cert.HgrnInDxRefIdeal.nD Cert.HgrnInDxRefIdeal.τ).loc Cert.HgrnInDxRefIdeal.main_arg2)
          ∧ r.2.mem ((c.tc : Thread Cert.HgrnInDxRefIdeal.nD Cert.HgrnInDxRefIdeal.τ).loc Cert.HgrnInDxRefIdeal.main_arg3) = m' ((c.tc : Thread Cert.HgrnInDxRefIdeal.nD Cert.HgrnInDxRefIdeal.τ).loc Cert.HgrnInDxRefIdeal.main_arg3))

def preserves_HgrnInDw_HgrnInDwIdeal : Prop :=
  True

def algebraic_HgrnInDwIdeal_HgrnInDwRefIdeal [hHgrnInDwIdeal : Cert.HgrnInDwIdeal.Facts] [hHgrnInDwRefIdeal : Cert.HgrnInDwRefIdeal.Facts] : Prop :=
  ∀ (m : (ℓ : Loc Cert.HgrnInDwIdeal.nD Cert.HgrnInDwIdeal.τ Cert.HgrnInDwIdeal.sig) → Buf (Elt Ideal) ℓ) (g : Dev Cert.HgrnInDwIdeal.nD → PrngReg)
    (m' : (ℓ : Loc Cert.HgrnInDwRefIdeal.nD Cert.HgrnInDwRefIdeal.τ Cert.HgrnInDwRefIdeal.sig) → Buf (Elt Ideal) ℓ) (g' : Dev Cert.HgrnInDwRefIdeal.nD → PrngReg), Pre_HgrnInDwIdeal m →
    (∀ c : Dev Cert.HgrnInDwIdeal.nD,
      m' ((c.tc : Thread Cert.HgrnInDwRefIdeal.nD Cert.HgrnInDwRefIdeal.τ).loc Cert.HgrnInDwRefIdeal.main_arg0) = m ((c.tc : Thread Cert.HgrnInDwIdeal.nD Cert.HgrnInDwIdeal.τ).loc Cert.HgrnInDwIdeal.main_arg0)
      ∧ m' ((c.tc : Thread Cert.HgrnInDwRefIdeal.nD Cert.HgrnInDwRefIdeal.τ).loc Cert.HgrnInDwRefIdeal.main_arg1) = m ((c.tc : Thread Cert.HgrnInDwIdeal.nD Cert.HgrnInDwIdeal.τ).loc Cert.HgrnInDwIdeal.main_arg1)
      ∧ m' ((c.tc : Thread Cert.HgrnInDwRefIdeal.nD Cert.HgrnInDwRefIdeal.τ).loc Cert.HgrnInDwRefIdeal.main_arg2) = m ((c.tc : Thread Cert.HgrnInDwIdeal.nD Cert.HgrnInDwIdeal.τ).loc Cert.HgrnInDwIdeal.main_arg2)) →
    ∃ (v0 : (c : Dev Cert.HgrnInDwIdeal.nD) → Buf (Elt Ideal) ((c.tc : Thread Cert.HgrnInDwIdeal.nD Cert.HgrnInDwIdeal.τ).loc Cert.HgrnInDwIdeal.main_v0)),
      θ_run (Cert.HgrnInDwIdeal.defs (F := Ideal)) (onTc (τ := Cert.HgrnInDwIdeal.τ) (Cert.HgrnInDwIdeal.main (F := Ideal))) ⟨m, fun _ => 0, g⟩ (fun r => ∀ c : Dev Cert.HgrnInDwIdeal.nD,
          r.2.mem ((c.tc : Thread Cert.HgrnInDwIdeal.nD Cert.HgrnInDwIdeal.τ).loc Cert.HgrnInDwIdeal.main_v0) = v0 c
          ∧ r.2.mem ((c.tc : Thread Cert.HgrnInDwIdeal.nD Cert.HgrnInDwIdeal.τ).loc Cert.HgrnInDwIdeal.main_arg0) = m ((c.tc : Thread Cert.HgrnInDwIdeal.nD Cert.HgrnInDwIdeal.τ).loc Cert.HgrnInDwIdeal.main_arg0)
          ∧ r.2.mem ((c.tc : Thread Cert.HgrnInDwIdeal.nD Cert.HgrnInDwIdeal.τ).loc Cert.HgrnInDwIdeal.main_arg1) = m ((c.tc : Thread Cert.HgrnInDwIdeal.nD Cert.HgrnInDwIdeal.τ).loc Cert.HgrnInDwIdeal.main_arg1)
          ∧ r.2.mem ((c.tc : Thread Cert.HgrnInDwIdeal.nD Cert.HgrnInDwIdeal.τ).loc Cert.HgrnInDwIdeal.main_arg2) = m ((c.tc : Thread Cert.HgrnInDwIdeal.nD Cert.HgrnInDwIdeal.τ).loc Cert.HgrnInDwIdeal.main_arg2))
      ∧ θ_run (Cert.HgrnInDwRefIdeal.defs (F := Ideal)) (onTc (τ := Cert.HgrnInDwRefIdeal.τ) (Cert.HgrnInDwRefIdeal.main (F := Ideal))) ⟨m', fun _ => 0, g'⟩ (fun r => ∀ c : Dev Cert.HgrnInDwRefIdeal.nD,
          r.2.mem ((c.tc : Thread Cert.HgrnInDwRefIdeal.nD Cert.HgrnInDwRefIdeal.τ).loc Cert.HgrnInDwRefIdeal.main_v17) = v0 c
          ∧ r.2.mem ((c.tc : Thread Cert.HgrnInDwRefIdeal.nD Cert.HgrnInDwRefIdeal.τ).loc Cert.HgrnInDwRefIdeal.main_arg0) = m' ((c.tc : Thread Cert.HgrnInDwRefIdeal.nD Cert.HgrnInDwRefIdeal.τ).loc Cert.HgrnInDwRefIdeal.main_arg0)
          ∧ r.2.mem ((c.tc : Thread Cert.HgrnInDwRefIdeal.nD Cert.HgrnInDwRefIdeal.τ).loc Cert.HgrnInDwRefIdeal.main_arg1) = m' ((c.tc : Thread Cert.HgrnInDwRefIdeal.nD Cert.HgrnInDwRefIdeal.τ).loc Cert.HgrnInDwRefIdeal.main_arg1)
          ∧ r.2.mem ((c.tc : Thread Cert.HgrnInDwRefIdeal.nD Cert.HgrnInDwRefIdeal.τ).loc Cert.HgrnInDwRefIdeal.main_arg2) = m' ((c.tc : Thread Cert.HgrnInDwRefIdeal.nD Cert.HgrnInDwRefIdeal.τ).loc Cert.HgrnInDwRefIdeal.main_arg2))

def preserves_HgrnIn_HgrnInIdeal : Prop :=
  True

def algebraic_HgrnInIdeal_HgrnInRefIdeal [hHgrnInIdeal : Cert.HgrnInIdeal.Facts] [hHgrnInRefIdeal : Cert.HgrnInRefIdeal.Facts] : Prop :=
  ∀ (m : (ℓ : Loc Cert.HgrnInIdeal.nD Cert.HgrnInIdeal.τ Cert.HgrnInIdeal.sig) → Buf (Elt Ideal) ℓ) (g : Dev Cert.HgrnInIdeal.nD → PrngReg)
    (m' : (ℓ : Loc Cert.HgrnInRefIdeal.nD Cert.HgrnInRefIdeal.τ Cert.HgrnInRefIdeal.sig) → Buf (Elt Ideal) ℓ) (g' : Dev Cert.HgrnInRefIdeal.nD → PrngReg), Pre_HgrnInIdeal m →
    (∀ c : Dev Cert.HgrnInIdeal.nD,
      m' ((c.tc : Thread Cert.HgrnInRefIdeal.nD Cert.HgrnInRefIdeal.τ).loc Cert.HgrnInRefIdeal.main_arg0) = m ((c.tc : Thread Cert.HgrnInIdeal.nD Cert.HgrnInIdeal.τ).loc Cert.HgrnInIdeal.main_arg0)
      ∧ m' ((c.tc : Thread Cert.HgrnInRefIdeal.nD Cert.HgrnInRefIdeal.τ).loc Cert.HgrnInRefIdeal.main_arg1) = m ((c.tc : Thread Cert.HgrnInIdeal.nD Cert.HgrnInIdeal.τ).loc Cert.HgrnInIdeal.main_arg1)
      ∧ m' ((c.tc : Thread Cert.HgrnInRefIdeal.nD Cert.HgrnInRefIdeal.τ).loc Cert.HgrnInRefIdeal.main_arg2) = m ((c.tc : Thread Cert.HgrnInIdeal.nD Cert.HgrnInIdeal.τ).loc Cert.HgrnInIdeal.main_arg2)) →
    ∃ (v0 : (c : Dev Cert.HgrnInIdeal.nD) → Buf (Elt Ideal) ((c.tc : Thread Cert.HgrnInIdeal.nD Cert.HgrnInIdeal.τ).loc Cert.HgrnInIdeal.main_v0)),
      θ_run (Cert.HgrnInIdeal.defs (F := Ideal)) (onTc (τ := Cert.HgrnInIdeal.τ) (Cert.HgrnInIdeal.main (F := Ideal))) ⟨m, fun _ => 0, g⟩ (fun r => ∀ c : Dev Cert.HgrnInIdeal.nD,
          r.2.mem ((c.tc : Thread Cert.HgrnInIdeal.nD Cert.HgrnInIdeal.τ).loc Cert.HgrnInIdeal.main_v0) = v0 c
          ∧ r.2.mem ((c.tc : Thread Cert.HgrnInIdeal.nD Cert.HgrnInIdeal.τ).loc Cert.HgrnInIdeal.main_arg0) = m ((c.tc : Thread Cert.HgrnInIdeal.nD Cert.HgrnInIdeal.τ).loc Cert.HgrnInIdeal.main_arg0)
          ∧ r.2.mem ((c.tc : Thread Cert.HgrnInIdeal.nD Cert.HgrnInIdeal.τ).loc Cert.HgrnInIdeal.main_arg1) = m ((c.tc : Thread Cert.HgrnInIdeal.nD Cert.HgrnInIdeal.τ).loc Cert.HgrnInIdeal.main_arg1)
          ∧ r.2.mem ((c.tc : Thread Cert.HgrnInIdeal.nD Cert.HgrnInIdeal.τ).loc Cert.HgrnInIdeal.main_arg2) = m ((c.tc : Thread Cert.HgrnInIdeal.nD Cert.HgrnInIdeal.τ).loc Cert.HgrnInIdeal.main_arg2))
      ∧ θ_run (Cert.HgrnInRefIdeal.defs (F := Ideal)) (onTc (τ := Cert.HgrnInRefIdeal.τ) (Cert.HgrnInRefIdeal.main (F := Ideal))) ⟨m', fun _ => 0, g'⟩ (fun r => ∀ c : Dev Cert.HgrnInRefIdeal.nD,
          r.2.mem ((c.tc : Thread Cert.HgrnInRefIdeal.nD Cert.HgrnInRefIdeal.τ).loc Cert.HgrnInRefIdeal.main_v4) = v0 c
          ∧ r.2.mem ((c.tc : Thread Cert.HgrnInRefIdeal.nD Cert.HgrnInRefIdeal.τ).loc Cert.HgrnInRefIdeal.main_arg0) = m' ((c.tc : Thread Cert.HgrnInRefIdeal.nD Cert.HgrnInRefIdeal.τ).loc Cert.HgrnInRefIdeal.main_arg0)
          ∧ r.2.mem ((c.tc : Thread Cert.HgrnInRefIdeal.nD Cert.HgrnInRefIdeal.τ).loc Cert.HgrnInRefIdeal.main_arg1) = m' ((c.tc : Thread Cert.HgrnInRefIdeal.nD Cert.HgrnInRefIdeal.τ).loc Cert.HgrnInRefIdeal.main_arg1)
          ∧ r.2.mem ((c.tc : Thread Cert.HgrnInRefIdeal.nD Cert.HgrnInRefIdeal.τ).loc Cert.HgrnInRefIdeal.main_arg2) = m' ((c.tc : Thread Cert.HgrnInRefIdeal.nD Cert.HgrnInRefIdeal.τ).loc Cert.HgrnInRefIdeal.main_arg2))

def preserves_ConvInDx_ConvInDxIdeal : Prop :=
  True

def algebraic_ConvInDxIdeal_ConvInDxRefIdeal [hConvInDxIdeal : Cert.ConvInDxIdeal.Facts] [hConvInDxRefIdeal : Cert.ConvInDxRefIdeal.Facts] : Prop :=
  ∀ (m : (ℓ : Loc Cert.ConvInDxIdeal.nD Cert.ConvInDxIdeal.τ Cert.ConvInDxIdeal.sig) → Buf (Elt Ideal) ℓ) (g : Dev Cert.ConvInDxIdeal.nD → PrngReg)
    (m' : (ℓ : Loc Cert.ConvInDxRefIdeal.nD Cert.ConvInDxRefIdeal.τ Cert.ConvInDxRefIdeal.sig) → Buf (Elt Ideal) ℓ) (g' : Dev Cert.ConvInDxRefIdeal.nD → PrngReg), Pre_ConvInDxIdeal m →
    (∀ c : Dev Cert.ConvInDxIdeal.nD,
      m' ((c.tc : Thread Cert.ConvInDxRefIdeal.nD Cert.ConvInDxRefIdeal.τ).loc Cert.ConvInDxRefIdeal.main_arg0) = m ((c.tc : Thread Cert.ConvInDxIdeal.nD Cert.ConvInDxIdeal.τ).loc Cert.ConvInDxIdeal.main_arg0)
      ∧ m' ((c.tc : Thread Cert.ConvInDxRefIdeal.nD Cert.ConvInDxRefIdeal.τ).loc Cert.ConvInDxRefIdeal.main_arg1) = m ((c.tc : Thread Cert.ConvInDxIdeal.nD Cert.ConvInDxIdeal.τ).loc Cert.ConvInDxIdeal.main_arg1)) →
    ∃ (v0 : (c : Dev Cert.ConvInDxIdeal.nD) → Buf (Elt Ideal) ((c.tc : Thread Cert.ConvInDxIdeal.nD Cert.ConvInDxIdeal.τ).loc Cert.ConvInDxIdeal.main_v0)),
      θ_run (Cert.ConvInDxIdeal.defs (F := Ideal)) (onTc (τ := Cert.ConvInDxIdeal.τ) (Cert.ConvInDxIdeal.main (F := Ideal))) ⟨m, fun _ => 0, g⟩ (fun r => ∀ c : Dev Cert.ConvInDxIdeal.nD,
          r.2.mem ((c.tc : Thread Cert.ConvInDxIdeal.nD Cert.ConvInDxIdeal.τ).loc Cert.ConvInDxIdeal.main_v0) = v0 c
          ∧ r.2.mem ((c.tc : Thread Cert.ConvInDxIdeal.nD Cert.ConvInDxIdeal.τ).loc Cert.ConvInDxIdeal.main_arg0) = m ((c.tc : Thread Cert.ConvInDxIdeal.nD Cert.ConvInDxIdeal.τ).loc Cert.ConvInDxIdeal.main_arg0)
          ∧ r.2.mem ((c.tc : Thread Cert.ConvInDxIdeal.nD Cert.ConvInDxIdeal.τ).loc Cert.ConvInDxIdeal.main_arg1) = m ((c.tc : Thread Cert.ConvInDxIdeal.nD Cert.ConvInDxIdeal.τ).loc Cert.ConvInDxIdeal.main_arg1))
      ∧ θ_run (Cert.ConvInDxRefIdeal.defs (F := Ideal)) (onTc (τ := Cert.ConvInDxRefIdeal.τ) (Cert.ConvInDxRefIdeal.main (F := Ideal))) ⟨m', fun _ => 0, g'⟩ (fun r => ∀ c : Dev Cert.ConvInDxRefIdeal.nD,
          r.2.mem ((c.tc : Thread Cert.ConvInDxRefIdeal.nD Cert.ConvInDxRefIdeal.τ).loc Cert.ConvInDxRefIdeal.main_v6) = v0 c
          ∧ r.2.mem ((c.tc : Thread Cert.ConvInDxRefIdeal.nD Cert.ConvInDxRefIdeal.τ).loc Cert.ConvInDxRefIdeal.main_arg0) = m' ((c.tc : Thread Cert.ConvInDxRefIdeal.nD Cert.ConvInDxRefIdeal.τ).loc Cert.ConvInDxRefIdeal.main_arg0)
          ∧ r.2.mem ((c.tc : Thread Cert.ConvInDxRefIdeal.nD Cert.ConvInDxRefIdeal.τ).loc Cert.ConvInDxRefIdeal.main_arg1) = m' ((c.tc : Thread Cert.ConvInDxRefIdeal.nD Cert.ConvInDxRefIdeal.τ).loc Cert.ConvInDxRefIdeal.main_arg1))

def preserves_ConvInDw_ConvInDwIdeal : Prop :=
  True

def algebraic_ConvInDwIdeal_ConvInDwRefIdeal [hConvInDwIdeal : Cert.ConvInDwIdeal.Facts] [hConvInDwRefIdeal : Cert.ConvInDwRefIdeal.Facts] : Prop :=
  ∀ (m : (ℓ : Loc Cert.ConvInDwIdeal.nD Cert.ConvInDwIdeal.τ Cert.ConvInDwIdeal.sig) → Buf (Elt Ideal) ℓ) (g : Dev Cert.ConvInDwIdeal.nD → PrngReg)
    (m' : (ℓ : Loc Cert.ConvInDwRefIdeal.nD Cert.ConvInDwRefIdeal.τ Cert.ConvInDwRefIdeal.sig) → Buf (Elt Ideal) ℓ) (g' : Dev Cert.ConvInDwRefIdeal.nD → PrngReg), Pre_ConvInDwIdeal m →
    (∀ c : Dev Cert.ConvInDwIdeal.nD,
      m' ((c.tc : Thread Cert.ConvInDwRefIdeal.nD Cert.ConvInDwRefIdeal.τ).loc Cert.ConvInDwRefIdeal.main_arg0) = m ((c.tc : Thread Cert.ConvInDwIdeal.nD Cert.ConvInDwIdeal.τ).loc Cert.ConvInDwIdeal.main_arg0)
      ∧ m' ((c.tc : Thread Cert.ConvInDwRefIdeal.nD Cert.ConvInDwRefIdeal.τ).loc Cert.ConvInDwRefIdeal.main_arg1) = m ((c.tc : Thread Cert.ConvInDwIdeal.nD Cert.ConvInDwIdeal.τ).loc Cert.ConvInDwIdeal.main_arg1)) →
    ∃ (v0 : (c : Dev Cert.ConvInDwIdeal.nD) → Buf (Elt Ideal) ((c.tc : Thread Cert.ConvInDwIdeal.nD Cert.ConvInDwIdeal.τ).loc Cert.ConvInDwIdeal.main_v0)),
      θ_run (Cert.ConvInDwIdeal.defs (F := Ideal)) (onTc (τ := Cert.ConvInDwIdeal.τ) (Cert.ConvInDwIdeal.main (F := Ideal))) ⟨m, fun _ => 0, g⟩ (fun r => ∀ c : Dev Cert.ConvInDwIdeal.nD,
          r.2.mem ((c.tc : Thread Cert.ConvInDwIdeal.nD Cert.ConvInDwIdeal.τ).loc Cert.ConvInDwIdeal.main_v0) = v0 c
          ∧ r.2.mem ((c.tc : Thread Cert.ConvInDwIdeal.nD Cert.ConvInDwIdeal.τ).loc Cert.ConvInDwIdeal.main_arg0) = m ((c.tc : Thread Cert.ConvInDwIdeal.nD Cert.ConvInDwIdeal.τ).loc Cert.ConvInDwIdeal.main_arg0)
          ∧ r.2.mem ((c.tc : Thread Cert.ConvInDwIdeal.nD Cert.ConvInDwIdeal.τ).loc Cert.ConvInDwIdeal.main_arg1) = m ((c.tc : Thread Cert.ConvInDwIdeal.nD Cert.ConvInDwIdeal.τ).loc Cert.ConvInDwIdeal.main_arg1))
      ∧ θ_run (Cert.ConvInDwRefIdeal.defs (F := Ideal)) (onTc (τ := Cert.ConvInDwRefIdeal.τ) (Cert.ConvInDwRefIdeal.main (F := Ideal))) ⟨m', fun _ => 0, g'⟩ (fun r => ∀ c : Dev Cert.ConvInDwRefIdeal.nD,
          r.2.mem ((c.tc : Thread Cert.ConvInDwRefIdeal.nD Cert.ConvInDwRefIdeal.τ).loc Cert.ConvInDwRefIdeal.main_v7) = v0 c
          ∧ r.2.mem ((c.tc : Thread Cert.ConvInDwRefIdeal.nD Cert.ConvInDwRefIdeal.τ).loc Cert.ConvInDwRefIdeal.main_arg0) = m' ((c.tc : Thread Cert.ConvInDwRefIdeal.nD Cert.ConvInDwRefIdeal.τ).loc Cert.ConvInDwRefIdeal.main_arg0)
          ∧ r.2.mem ((c.tc : Thread Cert.ConvInDwRefIdeal.nD Cert.ConvInDwRefIdeal.τ).loc Cert.ConvInDwRefIdeal.main_arg1) = m' ((c.tc : Thread Cert.ConvInDwRefIdeal.nD Cert.ConvInDwRefIdeal.τ).loc Cert.ConvInDwRefIdeal.main_arg1))

def preserves_ConvIn_ConvInIdeal : Prop :=
  True

def algebraic_ConvInIdeal_ConvInRefIdeal [hConvInIdeal : Cert.ConvInIdeal.Facts] [hConvInRefIdeal : Cert.ConvInRefIdeal.Facts] : Prop :=
  ∀ (m : (ℓ : Loc Cert.ConvInIdeal.nD Cert.ConvInIdeal.τ Cert.ConvInIdeal.sig) → Buf (Elt Ideal) ℓ) (g : Dev Cert.ConvInIdeal.nD → PrngReg)
    (m' : (ℓ : Loc Cert.ConvInRefIdeal.nD Cert.ConvInRefIdeal.τ Cert.ConvInRefIdeal.sig) → Buf (Elt Ideal) ℓ) (g' : Dev Cert.ConvInRefIdeal.nD → PrngReg), Pre_ConvInIdeal m →
    (∀ c : Dev Cert.ConvInIdeal.nD,
      m' ((c.tc : Thread Cert.ConvInRefIdeal.nD Cert.ConvInRefIdeal.τ).loc Cert.ConvInRefIdeal.main_arg0) = m ((c.tc : Thread Cert.ConvInIdeal.nD Cert.ConvInIdeal.τ).loc Cert.ConvInIdeal.main_arg0)
      ∧ m' ((c.tc : Thread Cert.ConvInRefIdeal.nD Cert.ConvInRefIdeal.τ).loc Cert.ConvInRefIdeal.main_arg1) = m ((c.tc : Thread Cert.ConvInIdeal.nD Cert.ConvInIdeal.τ).loc Cert.ConvInIdeal.main_arg1)
      ∧ m' ((c.tc : Thread Cert.ConvInRefIdeal.nD Cert.ConvInRefIdeal.τ).loc Cert.ConvInRefIdeal.main_arg2) = m ((c.tc : Thread Cert.ConvInIdeal.nD Cert.ConvInIdeal.τ).loc Cert.ConvInIdeal.main_arg2)) →
    ∃ (v0 : (c : Dev Cert.ConvInIdeal.nD) → Buf (Elt Ideal) ((c.tc : Thread Cert.ConvInIdeal.nD Cert.ConvInIdeal.τ).loc Cert.ConvInIdeal.main_v0)),
      θ_run (Cert.ConvInIdeal.defs (F := Ideal)) (onTc (τ := Cert.ConvInIdeal.τ) (Cert.ConvInIdeal.main (F := Ideal))) ⟨m, fun _ => 0, g⟩ (fun r => ∀ c : Dev Cert.ConvInIdeal.nD,
          r.2.mem ((c.tc : Thread Cert.ConvInIdeal.nD Cert.ConvInIdeal.τ).loc Cert.ConvInIdeal.main_v0) = v0 c
          ∧ r.2.mem ((c.tc : Thread Cert.ConvInIdeal.nD Cert.ConvInIdeal.τ).loc Cert.ConvInIdeal.main_arg0) = m ((c.tc : Thread Cert.ConvInIdeal.nD Cert.ConvInIdeal.τ).loc Cert.ConvInIdeal.main_arg0)
          ∧ r.2.mem ((c.tc : Thread Cert.ConvInIdeal.nD Cert.ConvInIdeal.τ).loc Cert.ConvInIdeal.main_arg1) = m ((c.tc : Thread Cert.ConvInIdeal.nD Cert.ConvInIdeal.τ).loc Cert.ConvInIdeal.main_arg1)
          ∧ r.2.mem ((c.tc : Thread Cert.ConvInIdeal.nD Cert.ConvInIdeal.τ).loc Cert.ConvInIdeal.main_arg2) = m ((c.tc : Thread Cert.ConvInIdeal.nD Cert.ConvInIdeal.τ).loc Cert.ConvInIdeal.main_arg2))
      ∧ θ_run (Cert.ConvInRefIdeal.defs (F := Ideal)) (onTc (τ := Cert.ConvInRefIdeal.τ) (Cert.ConvInRefIdeal.main (F := Ideal))) ⟨m', fun _ => 0, g'⟩ (fun r => ∀ c : Dev Cert.ConvInRefIdeal.nD,
          r.2.mem ((c.tc : Thread Cert.ConvInRefIdeal.nD Cert.ConvInRefIdeal.τ).loc Cert.ConvInRefIdeal.main_v6) = v0 c
          ∧ r.2.mem ((c.tc : Thread Cert.ConvInRefIdeal.nD Cert.ConvInRefIdeal.τ).loc Cert.ConvInRefIdeal.main_arg0) = m' ((c.tc : Thread Cert.ConvInRefIdeal.nD Cert.ConvInRefIdeal.τ).loc Cert.ConvInRefIdeal.main_arg0)
          ∧ r.2.mem ((c.tc : Thread Cert.ConvInRefIdeal.nD Cert.ConvInRefIdeal.τ).loc Cert.ConvInRefIdeal.main_arg1) = m' ((c.tc : Thread Cert.ConvInRefIdeal.nD Cert.ConvInRefIdeal.τ).loc Cert.ConvInRefIdeal.main_arg1)
          ∧ r.2.mem ((c.tc : Thread Cert.ConvInRefIdeal.nD Cert.ConvInRefIdeal.τ).loc Cert.ConvInRefIdeal.main_arg2) = m' ((c.tc : Thread Cert.ConvInRefIdeal.nD Cert.ConvInRefIdeal.τ).loc Cert.ConvInRefIdeal.main_arg2))

def preserves_ConvOutDx_ConvOutDxIdeal : Prop :=
  True

def algebraic_ConvOutDxIdeal_ConvOutDxRefIdeal [hConvOutDxIdeal : Cert.ConvOutDxIdeal.Facts] [hConvOutDxRefIdeal : Cert.ConvOutDxRefIdeal.Facts] : Prop :=
  ∀ (m : (ℓ : Loc Cert.ConvOutDxIdeal.nD Cert.ConvOutDxIdeal.τ Cert.ConvOutDxIdeal.sig) → Buf (Elt Ideal) ℓ) (g : Dev Cert.ConvOutDxIdeal.nD → PrngReg)
    (m' : (ℓ : Loc Cert.ConvOutDxRefIdeal.nD Cert.ConvOutDxRefIdeal.τ Cert.ConvOutDxRefIdeal.sig) → Buf (Elt Ideal) ℓ) (g' : Dev Cert.ConvOutDxRefIdeal.nD → PrngReg), Pre_ConvOutDxIdeal m →
    (∀ c : Dev Cert.ConvOutDxIdeal.nD,
      m' ((c.tc : Thread Cert.ConvOutDxRefIdeal.nD Cert.ConvOutDxRefIdeal.τ).loc Cert.ConvOutDxRefIdeal.main_arg0) = m ((c.tc : Thread Cert.ConvOutDxIdeal.nD Cert.ConvOutDxIdeal.τ).loc Cert.ConvOutDxIdeal.main_arg0)
      ∧ m' ((c.tc : Thread Cert.ConvOutDxRefIdeal.nD Cert.ConvOutDxRefIdeal.τ).loc Cert.ConvOutDxRefIdeal.main_arg1) = m ((c.tc : Thread Cert.ConvOutDxIdeal.nD Cert.ConvOutDxIdeal.τ).loc Cert.ConvOutDxIdeal.main_arg1)) →
    ∃ (v0 : (c : Dev Cert.ConvOutDxIdeal.nD) → Buf (Elt Ideal) ((c.tc : Thread Cert.ConvOutDxIdeal.nD Cert.ConvOutDxIdeal.τ).loc Cert.ConvOutDxIdeal.main_v0)),
      θ_run (Cert.ConvOutDxIdeal.defs (F := Ideal)) (onTc (τ := Cert.ConvOutDxIdeal.τ) (Cert.ConvOutDxIdeal.main (F := Ideal))) ⟨m, fun _ => 0, g⟩ (fun r => ∀ c : Dev Cert.ConvOutDxIdeal.nD,
          r.2.mem ((c.tc : Thread Cert.ConvOutDxIdeal.nD Cert.ConvOutDxIdeal.τ).loc Cert.ConvOutDxIdeal.main_v0) = v0 c
          ∧ r.2.mem ((c.tc : Thread Cert.ConvOutDxIdeal.nD Cert.ConvOutDxIdeal.τ).loc Cert.ConvOutDxIdeal.main_arg0) = m ((c.tc : Thread Cert.ConvOutDxIdeal.nD Cert.ConvOutDxIdeal.τ).loc Cert.ConvOutDxIdeal.main_arg0)
          ∧ r.2.mem ((c.tc : Thread Cert.ConvOutDxIdeal.nD Cert.ConvOutDxIdeal.τ).loc Cert.ConvOutDxIdeal.main_arg1) = m ((c.tc : Thread Cert.ConvOutDxIdeal.nD Cert.ConvOutDxIdeal.τ).loc Cert.ConvOutDxIdeal.main_arg1))
      ∧ θ_run (Cert.ConvOutDxRefIdeal.defs (F := Ideal)) (onTc (τ := Cert.ConvOutDxRefIdeal.τ) (Cert.ConvOutDxRefIdeal.main (F := Ideal))) ⟨m', fun _ => 0, g'⟩ (fun r => ∀ c : Dev Cert.ConvOutDxRefIdeal.nD,
          r.2.mem ((c.tc : Thread Cert.ConvOutDxRefIdeal.nD Cert.ConvOutDxRefIdeal.τ).loc Cert.ConvOutDxRefIdeal.main_v6) = v0 c
          ∧ r.2.mem ((c.tc : Thread Cert.ConvOutDxRefIdeal.nD Cert.ConvOutDxRefIdeal.τ).loc Cert.ConvOutDxRefIdeal.main_arg0) = m' ((c.tc : Thread Cert.ConvOutDxRefIdeal.nD Cert.ConvOutDxRefIdeal.τ).loc Cert.ConvOutDxRefIdeal.main_arg0)
          ∧ r.2.mem ((c.tc : Thread Cert.ConvOutDxRefIdeal.nD Cert.ConvOutDxRefIdeal.τ).loc Cert.ConvOutDxRefIdeal.main_arg1) = m' ((c.tc : Thread Cert.ConvOutDxRefIdeal.nD Cert.ConvOutDxRefIdeal.τ).loc Cert.ConvOutDxRefIdeal.main_arg1))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v7) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_ConvOut_ConvOutIdeal : Prop :=
  True

def algebraic_ConvOutIdeal_ConvOutRefIdeal [hConvOutIdeal : Cert.ConvOutIdeal.Facts] [hConvOutRefIdeal : Cert.ConvOutRefIdeal.Facts] : Prop :=
  ∀ (m : (ℓ : Loc Cert.ConvOutIdeal.nD Cert.ConvOutIdeal.τ Cert.ConvOutIdeal.sig) → Buf (Elt Ideal) ℓ) (g : Dev Cert.ConvOutIdeal.nD → PrngReg)
    (m' : (ℓ : Loc Cert.ConvOutRefIdeal.nD Cert.ConvOutRefIdeal.τ Cert.ConvOutRefIdeal.sig) → Buf (Elt Ideal) ℓ) (g' : Dev Cert.ConvOutRefIdeal.nD → PrngReg), Pre_ConvOutIdeal m →
    (∀ c : Dev Cert.ConvOutIdeal.nD,
      m' ((c.tc : Thread Cert.ConvOutRefIdeal.nD Cert.ConvOutRefIdeal.τ).loc Cert.ConvOutRefIdeal.main_arg0) = m ((c.tc : Thread Cert.ConvOutIdeal.nD Cert.ConvOutIdeal.τ).loc Cert.ConvOutIdeal.main_arg0)
      ∧ m' ((c.tc : Thread Cert.ConvOutRefIdeal.nD Cert.ConvOutRefIdeal.τ).loc Cert.ConvOutRefIdeal.main_arg1) = m ((c.tc : Thread Cert.ConvOutIdeal.nD Cert.ConvOutIdeal.τ).loc Cert.ConvOutIdeal.main_arg1)
      ∧ m' ((c.tc : Thread Cert.ConvOutRefIdeal.nD Cert.ConvOutRefIdeal.τ).loc Cert.ConvOutRefIdeal.main_arg2) = m ((c.tc : Thread Cert.ConvOutIdeal.nD Cert.ConvOutIdeal.τ).loc Cert.ConvOutIdeal.main_arg2)) →
    ∃ (v0 : (c : Dev Cert.ConvOutIdeal.nD) → Buf (Elt Ideal) ((c.tc : Thread Cert.ConvOutIdeal.nD Cert.ConvOutIdeal.τ).loc Cert.ConvOutIdeal.main_v0)),
      θ_run (Cert.ConvOutIdeal.defs (F := Ideal)) (onTc (τ := Cert.ConvOutIdeal.τ) (Cert.ConvOutIdeal.main (F := Ideal))) ⟨m, fun _ => 0, g⟩ (fun r => ∀ c : Dev Cert.ConvOutIdeal.nD,
          r.2.mem ((c.tc : Thread Cert.ConvOutIdeal.nD Cert.ConvOutIdeal.τ).loc Cert.ConvOutIdeal.main_v0) = v0 c
          ∧ r.2.mem ((c.tc : Thread Cert.ConvOutIdeal.nD Cert.ConvOutIdeal.τ).loc Cert.ConvOutIdeal.main_arg0) = m ((c.tc : Thread Cert.ConvOutIdeal.nD Cert.ConvOutIdeal.τ).loc Cert.ConvOutIdeal.main_arg0)
          ∧ r.2.mem ((c.tc : Thread Cert.ConvOutIdeal.nD Cert.ConvOutIdeal.τ).loc Cert.ConvOutIdeal.main_arg1) = m ((c.tc : Thread Cert.ConvOutIdeal.nD Cert.ConvOutIdeal.τ).loc Cert.ConvOutIdeal.main_arg1)
          ∧ r.2.mem ((c.tc : Thread Cert.ConvOutIdeal.nD Cert.ConvOutIdeal.τ).loc Cert.ConvOutIdeal.main_arg2) = m ((c.tc : Thread Cert.ConvOutIdeal.nD Cert.ConvOutIdeal.τ).loc Cert.ConvOutIdeal.main_arg2))
      ∧ θ_run (Cert.ConvOutRefIdeal.defs (F := Ideal)) (onTc (τ := Cert.ConvOutRefIdeal.τ) (Cert.ConvOutRefIdeal.main (F := Ideal))) ⟨m', fun _ => 0, g'⟩ (fun r => ∀ c : Dev Cert.ConvOutRefIdeal.nD,
          r.2.mem ((c.tc : Thread Cert.ConvOutRefIdeal.nD Cert.ConvOutRefIdeal.τ).loc Cert.ConvOutRefIdeal.main_v6) = v0 c
          ∧ r.2.mem ((c.tc : Thread Cert.ConvOutRefIdeal.nD Cert.ConvOutRefIdeal.τ).loc Cert.ConvOutRefIdeal.main_arg0) = m' ((c.tc : Thread Cert.ConvOutRefIdeal.nD Cert.ConvOutRefIdeal.τ).loc Cert.ConvOutRefIdeal.main_arg0)
          ∧ r.2.mem ((c.tc : Thread Cert.ConvOutRefIdeal.nD Cert.ConvOutRefIdeal.τ).loc Cert.ConvOutRefIdeal.main_arg1) = m' ((c.tc : Thread Cert.ConvOutRefIdeal.nD Cert.ConvOutRefIdeal.τ).loc Cert.ConvOutRefIdeal.main_arg1)
          ∧ r.2.mem ((c.tc : Thread Cert.ConvOutRefIdeal.nD Cert.ConvOutRefIdeal.τ).loc Cert.ConvOutRefIdeal.main_arg2) = m' ((c.tc : Thread Cert.ConvOutRefIdeal.nD Cert.ConvOutRefIdeal.τ).loc Cert.ConvOutRefIdeal.main_arg2))

def preserves_HgrnOutDx_HgrnOutDxIdeal : Prop :=
  True

def algebraic_HgrnOutDxIdeal_HgrnOutDxRefIdeal [hHgrnOutDxIdeal : Cert.HgrnOutDxIdeal.Facts] [hHgrnOutDxRefIdeal : Cert.HgrnOutDxRefIdeal.Facts] : Prop :=
  ∀ (m : (ℓ : Loc Cert.HgrnOutDxIdeal.nD Cert.HgrnOutDxIdeal.τ Cert.HgrnOutDxIdeal.sig) → Buf (Elt Ideal) ℓ) (g : Dev Cert.HgrnOutDxIdeal.nD → PrngReg)
    (m' : (ℓ : Loc Cert.HgrnOutDxRefIdeal.nD Cert.HgrnOutDxRefIdeal.τ Cert.HgrnOutDxRefIdeal.sig) → Buf (Elt Ideal) ℓ) (g' : Dev Cert.HgrnOutDxRefIdeal.nD → PrngReg), Pre_HgrnOutDxIdeal m →
    (∀ c : Dev Cert.HgrnOutDxIdeal.nD,
      m' ((c.tc : Thread Cert.HgrnOutDxRefIdeal.nD Cert.HgrnOutDxRefIdeal.τ).loc Cert.HgrnOutDxRefIdeal.main_arg0) = m ((c.tc : Thread Cert.HgrnOutDxIdeal.nD Cert.HgrnOutDxIdeal.τ).loc Cert.HgrnOutDxIdeal.main_arg0)
      ∧ m' ((c.tc : Thread Cert.HgrnOutDxRefIdeal.nD Cert.HgrnOutDxRefIdeal.τ).loc Cert.HgrnOutDxRefIdeal.main_arg1) = m ((c.tc : Thread Cert.HgrnOutDxIdeal.nD Cert.HgrnOutDxIdeal.τ).loc Cert.HgrnOutDxIdeal.main_arg1)
      ∧ m' ((c.tc : Thread Cert.HgrnOutDxRefIdeal.nD Cert.HgrnOutDxRefIdeal.τ).loc Cert.HgrnOutDxRefIdeal.main_arg2) = m ((c.tc : Thread Cert.HgrnOutDxIdeal.nD Cert.HgrnOutDxIdeal.τ).loc Cert.HgrnOutDxIdeal.main_arg2)) →
    ∃ (v0 : (c : Dev Cert.HgrnOutDxIdeal.nD) → Buf (Elt Ideal) ((c.tc : Thread Cert.HgrnOutDxIdeal.nD Cert.HgrnOutDxIdeal.τ).loc Cert.HgrnOutDxIdeal.main_v0)),
      θ_run (Cert.HgrnOutDxIdeal.defs (F := Ideal)) (onTc (τ := Cert.HgrnOutDxIdeal.τ) (Cert.HgrnOutDxIdeal.main (F := Ideal))) ⟨m, fun _ => 0, g⟩ (fun r => ∀ c : Dev Cert.HgrnOutDxIdeal.nD,
          r.2.mem ((c.tc : Thread Cert.HgrnOutDxIdeal.nD Cert.HgrnOutDxIdeal.τ).loc Cert.HgrnOutDxIdeal.main_v0) = v0 c
          ∧ r.2.mem ((c.tc : Thread Cert.HgrnOutDxIdeal.nD Cert.HgrnOutDxIdeal.τ).loc Cert.HgrnOutDxIdeal.main_arg0) = m ((c.tc : Thread Cert.HgrnOutDxIdeal.nD Cert.HgrnOutDxIdeal.τ).loc Cert.HgrnOutDxIdeal.main_arg0)
          ∧ r.2.mem ((c.tc : Thread Cert.HgrnOutDxIdeal.nD Cert.HgrnOutDxIdeal.τ).loc Cert.HgrnOutDxIdeal.main_arg1) = m ((c.tc : Thread Cert.HgrnOutDxIdeal.nD Cert.HgrnOutDxIdeal.τ).loc Cert.HgrnOutDxIdeal.main_arg1)
          ∧ r.2.mem ((c.tc : Thread Cert.HgrnOutDxIdeal.nD Cert.HgrnOutDxIdeal.τ).loc Cert.HgrnOutDxIdeal.main_arg2) = m ((c.tc : Thread Cert.HgrnOutDxIdeal.nD Cert.HgrnOutDxIdeal.τ).loc Cert.HgrnOutDxIdeal.main_arg2))
      ∧ θ_run (Cert.HgrnOutDxRefIdeal.defs (F := Ideal)) (onTc (τ := Cert.HgrnOutDxRefIdeal.τ) (Cert.HgrnOutDxRefIdeal.main (F := Ideal))) ⟨m', fun _ => 0, g'⟩ (fun r => ∀ c : Dev Cert.HgrnOutDxRefIdeal.nD,
          r.2.mem ((c.tc : Thread Cert.HgrnOutDxRefIdeal.nD Cert.HgrnOutDxRefIdeal.τ).loc Cert.HgrnOutDxRefIdeal.main_v6) = v0 c
          ∧ r.2.mem ((c.tc : Thread Cert.HgrnOutDxRefIdeal.nD Cert.HgrnOutDxRefIdeal.τ).loc Cert.HgrnOutDxRefIdeal.main_arg0) = m' ((c.tc : Thread Cert.HgrnOutDxRefIdeal.nD Cert.HgrnOutDxRefIdeal.τ).loc Cert.HgrnOutDxRefIdeal.main_arg0)
          ∧ r.2.mem ((c.tc : Thread Cert.HgrnOutDxRefIdeal.nD Cert.HgrnOutDxRefIdeal.τ).loc Cert.HgrnOutDxRefIdeal.main_arg1) = m' ((c.tc : Thread Cert.HgrnOutDxRefIdeal.nD Cert.HgrnOutDxRefIdeal.τ).loc Cert.HgrnOutDxRefIdeal.main_arg1)
          ∧ r.2.mem ((c.tc : Thread Cert.HgrnOutDxRefIdeal.nD Cert.HgrnOutDxRefIdeal.τ).loc Cert.HgrnOutDxRefIdeal.main_arg2) = m' ((c.tc : Thread Cert.HgrnOutDxRefIdeal.nD Cert.HgrnOutDxRefIdeal.τ).loc Cert.HgrnOutDxRefIdeal.main_arg2))

def preserves_HgrnOut_HgrnOutIdeal : Prop :=
  True

def algebraic_HgrnOutIdeal_HgrnOutRefIdeal [hHgrnOutIdeal : Cert.HgrnOutIdeal.Facts] [hHgrnOutRefIdeal : Cert.HgrnOutRefIdeal.Facts] : Prop :=
  ∀ (m : (ℓ : Loc Cert.HgrnOutIdeal.nD Cert.HgrnOutIdeal.τ Cert.HgrnOutIdeal.sig) → Buf (Elt Ideal) ℓ) (g : Dev Cert.HgrnOutIdeal.nD → PrngReg)
    (m' : (ℓ : Loc Cert.HgrnOutRefIdeal.nD Cert.HgrnOutRefIdeal.τ Cert.HgrnOutRefIdeal.sig) → Buf (Elt Ideal) ℓ) (g' : Dev Cert.HgrnOutRefIdeal.nD → PrngReg), Pre_HgrnOutIdeal m →
    (∀ c : Dev Cert.HgrnOutIdeal.nD,
      m' ((c.tc : Thread Cert.HgrnOutRefIdeal.nD Cert.HgrnOutRefIdeal.τ).loc Cert.HgrnOutRefIdeal.main_arg0) = m ((c.tc : Thread Cert.HgrnOutIdeal.nD Cert.HgrnOutIdeal.τ).loc Cert.HgrnOutIdeal.main_arg0)
      ∧ m' ((c.tc : Thread Cert.HgrnOutRefIdeal.nD Cert.HgrnOutRefIdeal.τ).loc Cert.HgrnOutRefIdeal.main_arg1) = m ((c.tc : Thread Cert.HgrnOutIdeal.nD Cert.HgrnOutIdeal.τ).loc Cert.HgrnOutIdeal.main_arg1)) →
    ∃ (v0 : (c : Dev Cert.HgrnOutIdeal.nD) → Buf (Elt Ideal) ((c.tc : Thread Cert.HgrnOutIdeal.nD Cert.HgrnOutIdeal.τ).loc Cert.HgrnOutIdeal.main_v0)),
      θ_run (Cert.HgrnOutIdeal.defs (F := Ideal)) (onTc (τ := Cert.HgrnOutIdeal.τ) (Cert.HgrnOutIdeal.main (F := Ideal))) ⟨m, fun _ => 0, g⟩ (fun r => ∀ c : Dev Cert.HgrnOutIdeal.nD,
          r.2.mem ((c.tc : Thread Cert.HgrnOutIdeal.nD Cert.HgrnOutIdeal.τ).loc Cert.HgrnOutIdeal.main_v0) = v0 c
          ∧ r.2.mem ((c.tc : Thread Cert.HgrnOutIdeal.nD Cert.HgrnOutIdeal.τ).loc Cert.HgrnOutIdeal.main_arg0) = m ((c.tc : Thread Cert.HgrnOutIdeal.nD Cert.HgrnOutIdeal.τ).loc Cert.HgrnOutIdeal.main_arg0)
          ∧ r.2.mem ((c.tc : Thread Cert.HgrnOutIdeal.nD Cert.HgrnOutIdeal.τ).loc Cert.HgrnOutIdeal.main_arg1) = m ((c.tc : Thread Cert.HgrnOutIdeal.nD Cert.HgrnOutIdeal.τ).loc Cert.HgrnOutIdeal.main_arg1))
      ∧ θ_run (Cert.HgrnOutRefIdeal.defs (F := Ideal)) (onTc (τ := Cert.HgrnOutRefIdeal.τ) (Cert.HgrnOutRefIdeal.main (F := Ideal))) ⟨m', fun _ => 0, g'⟩ (fun r => ∀ c : Dev Cert.HgrnOutRefIdeal.nD,
          r.2.mem ((c.tc : Thread Cert.HgrnOutRefIdeal.nD Cert.HgrnOutRefIdeal.τ).loc Cert.HgrnOutRefIdeal.main_v4) = v0 c
          ∧ r.2.mem ((c.tc : Thread Cert.HgrnOutRefIdeal.nD Cert.HgrnOutRefIdeal.τ).loc Cert.HgrnOutRefIdeal.main_arg0) = m' ((c.tc : Thread Cert.HgrnOutRefIdeal.nD Cert.HgrnOutRefIdeal.τ).loc Cert.HgrnOutRefIdeal.main_arg0)
          ∧ r.2.mem ((c.tc : Thread Cert.HgrnOutRefIdeal.nD Cert.HgrnOutRefIdeal.τ).loc Cert.HgrnOutRefIdeal.main_arg1) = m' ((c.tc : Thread Cert.HgrnOutRefIdeal.nD Cert.HgrnOutRefIdeal.τ).loc Cert.HgrnOutRefIdeal.main_arg1))

def preserves_PrenormBwd_PrenormBwdIdeal : Prop :=
  True

def algebraic_PrenormBwdIdeal_PrenormBwdRefIdeal [hPrenormBwdIdeal : Cert.PrenormBwdIdeal.Facts] [hPrenormBwdRefIdeal : Cert.PrenormBwdRefIdeal.Facts] : Prop :=
  ∀ (m : (ℓ : Loc Cert.PrenormBwdIdeal.nD Cert.PrenormBwdIdeal.τ Cert.PrenormBwdIdeal.sig) → Buf (Elt Ideal) ℓ) (g : Dev Cert.PrenormBwdIdeal.nD → PrngReg)
    (m' : (ℓ : Loc Cert.PrenormBwdRefIdeal.nD Cert.PrenormBwdRefIdeal.τ Cert.PrenormBwdRefIdeal.sig) → Buf (Elt Ideal) ℓ) (g' : Dev Cert.PrenormBwdRefIdeal.nD → PrngReg), Pre_PrenormBwdIdeal m →
    (∀ c : Dev Cert.PrenormBwdIdeal.nD,
      m' ((c.tc : Thread Cert.PrenormBwdRefIdeal.nD Cert.PrenormBwdRefIdeal.τ).loc Cert.PrenormBwdRefIdeal.main_arg0) = m ((c.tc : Thread Cert.PrenormBwdIdeal.nD Cert.PrenormBwdIdeal.τ).loc Cert.PrenormBwdIdeal.main_arg0)
      ∧ m' ((c.tc : Thread Cert.PrenormBwdRefIdeal.nD Cert.PrenormBwdRefIdeal.τ).loc Cert.PrenormBwdRefIdeal.main_arg1) = m ((c.tc : Thread Cert.PrenormBwdIdeal.nD Cert.PrenormBwdIdeal.τ).loc Cert.PrenormBwdIdeal.main_arg1)
      ∧ m' ((c.tc : Thread Cert.PrenormBwdRefIdeal.nD Cert.PrenormBwdRefIdeal.τ).loc Cert.PrenormBwdRefIdeal.main_arg2) = m ((c.tc : Thread Cert.PrenormBwdIdeal.nD Cert.PrenormBwdIdeal.τ).loc Cert.PrenormBwdIdeal.main_arg2)
      ∧ m' ((c.tc : Thread Cert.PrenormBwdRefIdeal.nD Cert.PrenormBwdRefIdeal.τ).loc Cert.PrenormBwdRefIdeal.main_arg3) = m ((c.tc : Thread Cert.PrenormBwdIdeal.nD Cert.PrenormBwdIdeal.τ).loc Cert.PrenormBwdIdeal.main_arg3)
      ∧ m' ((c.tc : Thread Cert.PrenormBwdRefIdeal.nD Cert.PrenormBwdRefIdeal.τ).loc Cert.PrenormBwdRefIdeal.main_arg4) = m ((c.tc : Thread Cert.PrenormBwdIdeal.nD Cert.PrenormBwdIdeal.τ).loc Cert.PrenormBwdIdeal.main_arg4)) →
    ∃ (v0 : (c : Dev Cert.PrenormBwdIdeal.nD) → Buf (Elt Ideal) ((c.tc : Thread Cert.PrenormBwdIdeal.nD Cert.PrenormBwdIdeal.τ).loc Cert.PrenormBwdIdeal.main_v0_0)) (v1 : (c : Dev Cert.PrenormBwdIdeal.nD) → Buf (Elt Ideal) ((c.tc : Thread Cert.PrenormBwdIdeal.nD Cert.PrenormBwdIdeal.τ).loc Cert.PrenormBwdIdeal.main_v0_1)) (v2 : (c : Dev Cert.PrenormBwdIdeal.nD) → Buf (Elt Ideal) ((c.tc : Thread Cert.PrenormBwdIdeal.nD Cert.PrenormBwdIdeal.τ).loc Cert.PrenormBwdIdeal.main_v0_2)) (v3 : (c : Dev Cert.PrenormBwdIdeal.nD) → Buf (Elt Ideal) ((c.tc : Thread Cert.PrenormBwdIdeal.nD Cert.PrenormBwdIdeal.τ).loc Cert.PrenormBwdIdeal.main_v0_3)),
      θ_run (Cert.PrenormBwdIdeal.defs (F := Ideal)) (onTc (τ := Cert.PrenormBwdIdeal.τ) (Cert.PrenormBwdIdeal.main (F := Ideal))) ⟨m, fun _ => 0, g⟩ (fun r => ∀ c : Dev Cert.PrenormBwdIdeal.nD,
          r.2.mem ((c.tc : Thread Cert.PrenormBwdIdeal.nD Cert.PrenormBwdIdeal.τ).loc Cert.PrenormBwdIdeal.main_v0_0) = v0 c
          ∧ r.2.mem ((c.tc : Thread Cert.PrenormBwdIdeal.nD Cert.PrenormBwdIdeal.τ).loc Cert.PrenormBwdIdeal.main_v0_1) = v1 c
          ∧ r.2.mem ((c.tc : Thread Cert.PrenormBwdIdeal.nD Cert.PrenormBwdIdeal.τ).loc Cert.PrenormBwdIdeal.main_v0_2) = v2 c
          ∧ r.2.mem ((c.tc : Thread Cert.PrenormBwdIdeal.nD Cert.PrenormBwdIdeal.τ).loc Cert.PrenormBwdIdeal.main_v0_3) = v3 c
          ∧ r.2.mem ((c.tc : Thread Cert.PrenormBwdIdeal.nD Cert.PrenormBwdIdeal.τ).loc Cert.PrenormBwdIdeal.main_arg0) = m ((c.tc : Thread Cert.PrenormBwdIdeal.nD Cert.PrenormBwdIdeal.τ).loc Cert.PrenormBwdIdeal.main_arg0)
          ∧ r.2.mem ((c.tc : Thread Cert.PrenormBwdIdeal.nD Cert.PrenormBwdIdeal.τ).loc Cert.PrenormBwdIdeal.main_arg1) = m ((c.tc : Thread Cert.PrenormBwdIdeal.nD Cert.PrenormBwdIdeal.τ).loc Cert.PrenormBwdIdeal.main_arg1)
          ∧ r.2.mem ((c.tc : Thread Cert.PrenormBwdIdeal.nD Cert.PrenormBwdIdeal.τ).loc Cert.PrenormBwdIdeal.main_arg2) = m ((c.tc : Thread Cert.PrenormBwdIdeal.nD Cert.PrenormBwdIdeal.τ).loc Cert.PrenormBwdIdeal.main_arg2)
          ∧ r.2.mem ((c.tc : Thread Cert.PrenormBwdIdeal.nD Cert.PrenormBwdIdeal.τ).loc Cert.PrenormBwdIdeal.main_arg3) = m ((c.tc : Thread Cert.PrenormBwdIdeal.nD Cert.PrenormBwdIdeal.τ).loc Cert.PrenormBwdIdeal.main_arg3)
          ∧ r.2.mem ((c.tc : Thread Cert.PrenormBwdIdeal.nD Cert.PrenormBwdIdeal.τ).loc Cert.PrenormBwdIdeal.main_arg4) = m ((c.tc : Thread Cert.PrenormBwdIdeal.nD Cert.PrenormBwdIdeal.τ).loc Cert.PrenormBwdIdeal.main_arg4))
      ∧ θ_run (Cert.PrenormBwdRefIdeal.defs (F := Ideal)) (onTc (τ := Cert.PrenormBwdRefIdeal.τ) (Cert.PrenormBwdRefIdeal.main (F := Ideal))) ⟨m', fun _ => 0, g'⟩ (fun r => ∀ c : Dev Cert.PrenormBwdRefIdeal.nD,
          r.2.mem ((c.tc : Thread Cert.PrenormBwdRefIdeal.nD Cert.PrenormBwdRefIdeal.τ).loc Cert.PrenormBwdRefIdeal.main_v49) = v0 c
          ∧ r.2.mem ((c.tc : Thread Cert.PrenormBwdRefIdeal.nD Cert.PrenormBwdRefIdeal.τ).loc Cert.PrenormBwdRefIdeal.main_v24) = v1 c
          ∧ r.2.mem ((c.tc : Thread Cert.PrenormBwdRefIdeal.nD Cert.PrenormBwdRefIdeal.τ).loc Cert.PrenormBwdRefIdeal.main_v27) = v2 c
          ∧ r.2.mem ((c.tc : Thread Cert.PrenormBwdRefIdeal.nD Cert.PrenormBwdRefIdeal.τ).loc Cert.PrenormBwdRefIdeal.main_v32) = v3 c
          ∧ r.2.mem ((c.tc : Thread Cert.PrenormBwdRefIdeal.nD Cert.PrenormBwdRefIdeal.τ).loc Cert.PrenormBwdRefIdeal.main_arg0) = m' ((c.tc : Thread Cert.PrenormBwdRefIdeal.nD Cert.PrenormBwdRefIdeal.τ).loc Cert.PrenormBwdRefIdeal.main_arg0)
          ∧ r.2.mem ((c.tc : Thread Cert.PrenormBwdRefIdeal.nD Cert.PrenormBwdRefIdeal.τ).loc Cert.PrenormBwdRefIdeal.main_arg1) = m' ((c.tc : Thread Cert.PrenormBwdRefIdeal.nD Cert.PrenormBwdRefIdeal.τ).loc Cert.PrenormBwdRefIdeal.main_arg1)
          ∧ r.2.mem ((c.tc : Thread Cert.PrenormBwdRefIdeal.nD Cert.PrenormBwdRefIdeal.τ).loc Cert.PrenormBwdRefIdeal.main_arg2) = m' ((c.tc : Thread Cert.PrenormBwdRefIdeal.nD Cert.PrenormBwdRefIdeal.τ).loc Cert.PrenormBwdRefIdeal.main_arg2)
          ∧ r.2.mem ((c.tc : Thread Cert.PrenormBwdRefIdeal.nD Cert.PrenormBwdRefIdeal.τ).loc Cert.PrenormBwdRefIdeal.main_arg3) = m' ((c.tc : Thread Cert.PrenormBwdRefIdeal.nD Cert.PrenormBwdRefIdeal.τ).loc Cert.PrenormBwdRefIdeal.main_arg3)
          ∧ r.2.mem ((c.tc : Thread Cert.PrenormBwdRefIdeal.nD Cert.PrenormBwdRefIdeal.τ).loc Cert.PrenormBwdRefIdeal.main_arg4) = m' ((c.tc : Thread Cert.PrenormBwdRefIdeal.nD Cert.PrenormBwdRefIdeal.τ).loc Cert.PrenormBwdRefIdeal.main_arg4))

def preserves_PrenormPostBwd_PrenormPostBwdIdeal : Prop :=
  True

def algebraic_PrenormPostBwdIdeal_PrenormPostBwdRefIdeal [hPrenormPostBwdIdeal : Cert.PrenormPostBwdIdeal.Facts] [hPrenormPostBwdRefIdeal : Cert.PrenormPostBwdRefIdeal.Facts] : Prop :=
  ∀ (m : (ℓ : Loc Cert.PrenormPostBwdIdeal.nD Cert.PrenormPostBwdIdeal.τ Cert.PrenormPostBwdIdeal.sig) → Buf (Elt Ideal) ℓ) (g : Dev Cert.PrenormPostBwdIdeal.nD → PrngReg)
    (m' : (ℓ : Loc Cert.PrenormPostBwdRefIdeal.nD Cert.PrenormPostBwdRefIdeal.τ Cert.PrenormPostBwdRefIdeal.sig) → Buf (Elt Ideal) ℓ) (g' : Dev Cert.PrenormPostBwdRefIdeal.nD → PrngReg), Pre_PrenormPostBwdIdeal m →
    (∀ c : Dev Cert.PrenormPostBwdIdeal.nD,
      m' ((c.tc : Thread Cert.PrenormPostBwdRefIdeal.nD Cert.PrenormPostBwdRefIdeal.τ).loc Cert.PrenormPostBwdRefIdeal.main_arg0) = m ((c.tc : Thread Cert.PrenormPostBwdIdeal.nD Cert.PrenormPostBwdIdeal.τ).loc Cert.PrenormPostBwdIdeal.main_arg0)
      ∧ m' ((c.tc : Thread Cert.PrenormPostBwdRefIdeal.nD Cert.PrenormPostBwdRefIdeal.τ).loc Cert.PrenormPostBwdRefIdeal.main_arg1) = m ((c.tc : Thread Cert.PrenormPostBwdIdeal.nD Cert.PrenormPostBwdIdeal.τ).loc Cert.PrenormPostBwdIdeal.main_arg1)
      ∧ m' ((c.tc : Thread Cert.PrenormPostBwdRefIdeal.nD Cert.PrenormPostBwdRefIdeal.τ).loc Cert.PrenormPostBwdRefIdeal.main_arg2) = m ((c.tc : Thread Cert.PrenormPostBwdIdeal.nD Cert.PrenormPostBwdIdeal.τ).loc Cert.PrenormPostBwdIdeal.main_arg2)
      ∧ m' ((c.tc : Thread Cert.PrenormPostBwdRefIdeal.nD Cert.PrenormPostBwdRefIdeal.τ).loc Cert.PrenormPostBwdRefIdeal.main_arg3) = m ((c.tc : Thread Cert.PrenormPostBwdIdeal.nD Cert.PrenormPostBwdIdeal.τ).loc Cert.PrenormPostBwdIdeal.main_arg3)
      ∧ m' ((c.tc : Thread Cert.PrenormPostBwdRefIdeal.nD Cert.PrenormPostBwdRefIdeal.τ).loc Cert.PrenormPostBwdRefIdeal.main_arg4) = m ((c.tc : Thread Cert.PrenormPostBwdIdeal.nD Cert.PrenormPostBwdIdeal.τ).loc Cert.PrenormPostBwdIdeal.main_arg4)
      ∧ m' ((c.tc : Thread Cert.PrenormPostBwdRefIdeal.nD Cert.PrenormPostBwdRefIdeal.τ).loc Cert.PrenormPostBwdRefIdeal.main_arg5) = m ((c.tc : Thread Cert.PrenormPostBwdIdeal.nD Cert.PrenormPostBwdIdeal.τ).loc Cert.PrenormPostBwdIdeal.main_arg5)
      ∧ m' ((c.tc : Thread Cert.PrenormPostBwdRefIdeal.nD Cert.PrenormPostBwdRefIdeal.τ).loc Cert.PrenormPostBwdRefIdeal.main_arg6) = m ((c.tc : Thread Cert.PrenormPostBwdIdeal.nD Cert.PrenormPostBwdIdeal.τ).loc Cert.PrenormPostBwdIdeal.main_arg6)
      ∧ m' ((c.tc : Thread Cert.PrenormPostBwdRefIdeal.nD Cert.PrenormPostBwdRefIdeal.τ).loc Cert.PrenormPostBwdRefIdeal.main_arg7) = m ((c.tc : Thread Cert.PrenormPostBwdIdeal.nD Cert.PrenormPostBwdIdeal.τ).loc Cert.PrenormPostBwdIdeal.main_arg7)) →
    ∃ (v0 : (c : Dev Cert.PrenormPostBwdIdeal.nD) → Buf (Elt Ideal) ((c.tc : Thread Cert.PrenormPostBwdIdeal.nD Cert.PrenormPostBwdIdeal.τ).loc Cert.PrenormPostBwdIdeal.main_v0_0)) (v1 : (c : Dev Cert.PrenormPostBwdIdeal.nD) → Buf (Elt Ideal) ((c.tc : Thread Cert.PrenormPostBwdIdeal.nD Cert.PrenormPostBwdIdeal.τ).loc Cert.PrenormPostBwdIdeal.main_v0_1)) (v2 : (c : Dev Cert.PrenormPostBwdIdeal.nD) → Buf (Elt Ideal) ((c.tc : Thread Cert.PrenormPostBwdIdeal.nD Cert.PrenormPostBwdIdeal.τ).loc Cert.PrenormPostBwdIdeal.main_v0_2)) (v3 : (c : Dev Cert.PrenormPostBwdIdeal.nD) → Buf (Elt Ideal) ((c.tc : Thread Cert.PrenormPostBwdIdeal.nD Cert.PrenormPostBwdIdeal.τ).loc Cert.PrenormPostBwdIdeal.main_v0_3)) (v4 : (c : Dev Cert.PrenormPostBwdIdeal.nD) → Buf (Elt Ideal) ((c.tc : Thread Cert.PrenormPostBwdIdeal.nD Cert.PrenormPostBwdIdeal.τ).loc Cert.PrenormPostBwdIdeal.main_v0_4)) (v5 : (c : Dev Cert.PrenormPostBwdIdeal.nD) → Buf (Elt Ideal) ((c.tc : Thread Cert.PrenormPostBwdIdeal.nD Cert.PrenormPostBwdIdeal.τ).loc Cert.PrenormPostBwdIdeal.main_v0_5)) (v6 : (c : Dev Cert.PrenormPostBwdIdeal.nD) → Buf (Elt Ideal) ((c.tc : Thread Cert.PrenormPostBwdIdeal.nD Cert.PrenormPostBwdIdeal.τ).loc Cert.PrenormPostBwdIdeal.main_v0_6)) (v7 : (c : Dev Cert.PrenormPostBwdIdeal.nD) → Buf (Elt Ideal) ((c.tc : Thread Cert.PrenormPostBwdIdeal.nD Cert.PrenormPostBwdIdeal.τ).loc Cert.PrenormPostBwdIdeal.main_v0_7)),
      θ_run (Cert.PrenormPostBwdIdeal.defs (F := Ideal)) (onTc (τ := Cert.PrenormPostBwdIdeal.τ) (Cert.PrenormPostBwdIdeal.main (F := Ideal))) ⟨m, fun _ => 0, g⟩ (fun r => ∀ c : Dev Cert.PrenormPostBwdIdeal.nD,
          r.2.mem ((c.tc : Thread Cert.PrenormPostBwdIdeal.nD Cert.PrenormPostBwdIdeal.τ).loc Cert.PrenormPostBwdIdeal.main_v0_0) = v0 c
          ∧ r.2.mem ((c.tc : Thread Cert.PrenormPostBwdIdeal.nD Cert.PrenormPostBwdIdeal.τ).loc Cert.PrenormPostBwdIdeal.main_v0_1) = v1 c
          ∧ r.2.mem ((c.tc : Thread Cert.PrenormPostBwdIdeal.nD Cert.PrenormPostBwdIdeal.τ).loc Cert.PrenormPostBwdIdeal.main_v0_2) = v2 c
          ∧ r.2.mem ((c.tc : Thread Cert.PrenormPostBwdIdeal.nD Cert.PrenormPostBwdIdeal.τ).loc Cert.PrenormPostBwdIdeal.main_v0_3) = v3 c
          ∧ r.2.mem ((c.tc : Thread Cert.PrenormPostBwdIdeal.nD Cert.PrenormPostBwdIdeal.τ).loc Cert.PrenormPostBwdIdeal.main_v0_4) = v4 c
          ∧ r.2.mem ((c.tc : Thread Cert.PrenormPostBwdIdeal.nD Cert.PrenormPostBwdIdeal.τ).loc Cert.PrenormPostBwdIdeal.main_v0_5) = v5 c
          ∧ r.2.mem ((c.tc : Thread Cert.PrenormPostBwdIdeal.nD Cert.PrenormPostBwdIdeal.τ).loc Cert.PrenormPostBwdIdeal.main_v0_6) = v6 c
          ∧ r.2.mem ((c.tc : Thread Cert.PrenormPostBwdIdeal.nD Cert.PrenormPostBwdIdeal.τ).loc Cert.PrenormPostBwdIdeal.main_v0_7) = v7 c
          ∧ r.2.mem ((c.tc : Thread Cert.PrenormPostBwdIdeal.nD Cert.PrenormPostBwdIdeal.τ).loc Cert.PrenormPostBwdIdeal.main_arg0) = m ((c.tc : Thread Cert.PrenormPostBwdIdeal.nD Cert.PrenormPostBwdIdeal.τ).loc Cert.PrenormPostBwdIdeal.main_arg0)
          ∧ r.2.mem ((c.tc : Thread Cert.PrenormPostBwdIdeal.nD Cert.PrenormPostBwdIdeal.τ).loc Cert.PrenormPostBwdIdeal.main_arg1) = m ((c.tc : Thread Cert.PrenormPostBwdIdeal.nD Cert.PrenormPostBwdIdeal.τ).loc Cert.PrenormPostBwdIdeal.main_arg1)
          ∧ r.2.mem ((c.tc : Thread Cert.PrenormPostBwdIdeal.nD Cert.PrenormPostBwdIdeal.τ).loc Cert.PrenormPostBwdIdeal.main_arg2) = m ((c.tc : Thread Cert.PrenormPostBwdIdeal.nD Cert.PrenormPostBwdIdeal.τ).loc Cert.PrenormPostBwdIdeal.main_arg2)
          ∧ r.2.mem ((c.tc : Thread Cert.PrenormPostBwdIdeal.nD Cert.PrenormPostBwdIdeal.τ).loc Cert.PrenormPostBwdIdeal.main_arg3) = m ((c.tc : Thread Cert.PrenormPostBwdIdeal.nD Cert.PrenormPostBwdIdeal.τ).loc Cert.PrenormPostBwdIdeal.main_arg3)
          ∧ r.2.mem ((c.tc : Thread Cert.PrenormPostBwdIdeal.nD Cert.PrenormPostBwdIdeal.τ).loc Cert.PrenormPostBwdIdeal.main_arg4) = m ((c.tc : Thread Cert.PrenormPostBwdIdeal.nD Cert.PrenormPostBwdIdeal.τ).loc Cert.PrenormPostBwdIdeal.main_arg4)
          ∧ r.2.mem ((c.tc : Thread Cert.PrenormPostBwdIdeal.nD Cert.PrenormPostBwdIdeal.τ).loc Cert.PrenormPostBwdIdeal.main_arg5) = m ((c.tc : Thread Cert.PrenormPostBwdIdeal.nD Cert.PrenormPostBwdIdeal.τ).loc Cert.PrenormPostBwdIdeal.main_arg5)
          ∧ r.2.mem ((c.tc : Thread Cert.PrenormPostBwdIdeal.nD Cert.PrenormPostBwdIdeal.τ).loc Cert.PrenormPostBwdIdeal.main_arg6) = m ((c.tc : Thread Cert.PrenormPostBwdIdeal.nD Cert.PrenormPostBwdIdeal.τ).loc Cert.PrenormPostBwdIdeal.main_arg6)
          ∧ r.2.mem ((c.tc : Thread Cert.PrenormPostBwdIdeal.nD Cert.PrenormPostBwdIdeal.τ).loc Cert.PrenormPostBwdIdeal.main_arg7) = m ((c.tc : Thread Cert.PrenormPostBwdIdeal.nD Cert.PrenormPostBwdIdeal.τ).loc Cert.PrenormPostBwdIdeal.main_arg7))
      ∧ θ_run (Cert.PrenormPostBwdRefIdeal.defs (F := Ideal)) (onTc (τ := Cert.PrenormPostBwdRefIdeal.τ) (Cert.PrenormPostBwdRefIdeal.main (F := Ideal))) ⟨m', fun _ => 0, g'⟩ (fun r => ∀ c : Dev Cert.PrenormPostBwdRefIdeal.nD,
          r.2.mem ((c.tc : Thread Cert.PrenormPostBwdRefIdeal.nD Cert.PrenormPostBwdRefIdeal.τ).loc Cert.PrenormPostBwdRefIdeal.main_v49) = v0 c
          ∧ r.2.mem ((c.tc : Thread Cert.PrenormPostBwdRefIdeal.nD Cert.PrenormPostBwdRefIdeal.τ).loc Cert.PrenormPostBwdRefIdeal.main_v24) = v1 c
          ∧ r.2.mem ((c.tc : Thread Cert.PrenormPostBwdRefIdeal.nD Cert.PrenormPostBwdRefIdeal.τ).loc Cert.PrenormPostBwdRefIdeal.main_v27) = v2 c
          ∧ r.2.mem ((c.tc : Thread Cert.PrenormPostBwdRefIdeal.nD Cert.PrenormPostBwdRefIdeal.τ).loc Cert.PrenormPostBwdRefIdeal.main_v32) = v3 c
          ∧ r.2.mem ((c.tc : Thread Cert.PrenormPostBwdRefIdeal.nD Cert.PrenormPostBwdRefIdeal.τ).loc Cert.PrenormPostBwdRefIdeal.main_v93) = v4 c
          ∧ r.2.mem ((c.tc : Thread Cert.PrenormPostBwdRefIdeal.nD Cert.PrenormPostBwdRefIdeal.τ).loc Cert.PrenormPostBwdRefIdeal.main_v73) = v5 c
          ∧ r.2.mem ((c.tc : Thread Cert.PrenormPostBwdRefIdeal.nD Cert.PrenormPostBwdRefIdeal.τ).loc Cert.PrenormPostBwdRefIdeal.main_v76) = v6 c
          ∧ r.2.mem ((c.tc : Thread Cert.PrenormPostBwdRefIdeal.nD Cert.PrenormPostBwdRefIdeal.τ).loc Cert.PrenormPostBwdRefIdeal.main_v95) = v7 c
          ∧ r.2.mem ((c.tc : Thread Cert.PrenormPostBwdRefIdeal.nD Cert.PrenormPostBwdRefIdeal.τ).loc Cert.PrenormPostBwdRefIdeal.main_arg0) = m' ((c.tc : Thread Cert.PrenormPostBwdRefIdeal.nD Cert.PrenormPostBwdRefIdeal.τ).loc Cert.PrenormPostBwdRefIdeal.main_arg0)
          ∧ r.2.mem ((c.tc : Thread Cert.PrenormPostBwdRefIdeal.nD Cert.PrenormPostBwdRefIdeal.τ).loc Cert.PrenormPostBwdRefIdeal.main_arg1) = m' ((c.tc : Thread Cert.PrenormPostBwdRefIdeal.nD Cert.PrenormPostBwdRefIdeal.τ).loc Cert.PrenormPostBwdRefIdeal.main_arg1)
          ∧ r.2.mem ((c.tc : Thread Cert.PrenormPostBwdRefIdeal.nD Cert.PrenormPostBwdRefIdeal.τ).loc Cert.PrenormPostBwdRefIdeal.main_arg2) = m' ((c.tc : Thread Cert.PrenormPostBwdRefIdeal.nD Cert.PrenormPostBwdRefIdeal.τ).loc Cert.PrenormPostBwdRefIdeal.main_arg2)
          ∧ r.2.mem ((c.tc : Thread Cert.PrenormPostBwdRefIdeal.nD Cert.PrenormPostBwdRefIdeal.τ).loc Cert.PrenormPostBwdRefIdeal.main_arg3) = m' ((c.tc : Thread Cert.PrenormPostBwdRefIdeal.nD Cert.PrenormPostBwdRefIdeal.τ).loc Cert.PrenormPostBwdRefIdeal.main_arg3)
          ∧ r.2.mem ((c.tc : Thread Cert.PrenormPostBwdRefIdeal.nD Cert.PrenormPostBwdRefIdeal.τ).loc Cert.PrenormPostBwdRefIdeal.main_arg4) = m' ((c.tc : Thread Cert.PrenormPostBwdRefIdeal.nD Cert.PrenormPostBwdRefIdeal.τ).loc Cert.PrenormPostBwdRefIdeal.main_arg4)
          ∧ r.2.mem ((c.tc : Thread Cert.PrenormPostBwdRefIdeal.nD Cert.PrenormPostBwdRefIdeal.τ).loc Cert.PrenormPostBwdRefIdeal.main_arg5) = m' ((c.tc : Thread Cert.PrenormPostBwdRefIdeal.nD Cert.PrenormPostBwdRefIdeal.τ).loc Cert.PrenormPostBwdRefIdeal.main_arg5)
          ∧ r.2.mem ((c.tc : Thread Cert.PrenormPostBwdRefIdeal.nD Cert.PrenormPostBwdRefIdeal.τ).loc Cert.PrenormPostBwdRefIdeal.main_arg6) = m' ((c.tc : Thread Cert.PrenormPostBwdRefIdeal.nD Cert.PrenormPostBwdRefIdeal.τ).loc Cert.PrenormPostBwdRefIdeal.main_arg6)
          ∧ r.2.mem ((c.tc : Thread Cert.PrenormPostBwdRefIdeal.nD Cert.PrenormPostBwdRefIdeal.τ).loc Cert.PrenormPostBwdRefIdeal.main_arg7) = m' ((c.tc : Thread Cert.PrenormPostBwdRefIdeal.nD Cert.PrenormPostBwdRefIdeal.τ).loc Cert.PrenormPostBwdRefIdeal.main_arg7))

def preserves_PostLoss_PostLossIdeal : Prop :=
  True

def algebraic_PostLossIdeal_PostLossRefIdeal [hPostLossIdeal : Cert.PostLossIdeal.Facts] [hPostLossRefIdeal : Cert.PostLossRefIdeal.Facts] : Prop :=
  ∀ (m : (ℓ : Loc Cert.PostLossIdeal.nD Cert.PostLossIdeal.τ Cert.PostLossIdeal.sig) → Buf (Elt Ideal) ℓ) (g : Dev Cert.PostLossIdeal.nD → PrngReg)
    (m' : (ℓ : Loc Cert.PostLossRefIdeal.nD Cert.PostLossRefIdeal.τ Cert.PostLossRefIdeal.sig) → Buf (Elt Ideal) ℓ) (g' : Dev Cert.PostLossRefIdeal.nD → PrngReg), Pre_PostLossIdeal m →
    (∀ c : Dev Cert.PostLossIdeal.nD,
      m' ((c.tc : Thread Cert.PostLossRefIdeal.nD Cert.PostLossRefIdeal.τ).loc Cert.PostLossRefIdeal.main_arg0) = m ((c.tc : Thread Cert.PostLossIdeal.nD Cert.PostLossIdeal.τ).loc Cert.PostLossIdeal.main_arg0)
      ∧ m' ((c.tc : Thread Cert.PostLossRefIdeal.nD Cert.PostLossRefIdeal.τ).loc Cert.PostLossRefIdeal.main_arg1) = m ((c.tc : Thread Cert.PostLossIdeal.nD Cert.PostLossIdeal.τ).loc Cert.PostLossIdeal.main_arg1)
      ∧ m' ((c.tc : Thread Cert.PostLossRefIdeal.nD Cert.PostLossRefIdeal.τ).loc Cert.PostLossRefIdeal.main_arg2) = m ((c.tc : Thread Cert.PostLossIdeal.nD Cert.PostLossIdeal.τ).loc Cert.PostLossIdeal.main_arg2)
      ∧ m' ((c.tc : Thread Cert.PostLossRefIdeal.nD Cert.PostLossRefIdeal.τ).loc Cert.PostLossRefIdeal.main_arg3) = m ((c.tc : Thread Cert.PostLossIdeal.nD Cert.PostLossIdeal.τ).loc Cert.PostLossIdeal.main_arg3)
      ∧ m' ((c.tc : Thread Cert.PostLossRefIdeal.nD Cert.PostLossRefIdeal.τ).loc Cert.PostLossRefIdeal.main_arg4) = m ((c.tc : Thread Cert.PostLossIdeal.nD Cert.PostLossIdeal.τ).loc Cert.PostLossIdeal.main_arg4)) →
    ∃ (v0 : (c : Dev Cert.PostLossIdeal.nD) → Buf (Elt Ideal) ((c.tc : Thread Cert.PostLossIdeal.nD Cert.PostLossIdeal.τ).loc Cert.PostLossIdeal.main_v0_0)) (v1 : (c : Dev Cert.PostLossIdeal.nD) → Buf (Elt Ideal) ((c.tc : Thread Cert.PostLossIdeal.nD Cert.PostLossIdeal.τ).loc Cert.PostLossIdeal.main_v0_1)) (v2 : (c : Dev Cert.PostLossIdeal.nD) → Buf (Elt Ideal) ((c.tc : Thread Cert.PostLossIdeal.nD Cert.PostLossIdeal.τ).loc Cert.PostLossIdeal.main_v0_2)) (v3 : (c : Dev Cert.PostLossIdeal.nD) → Buf (Elt Ideal) ((c.tc : Thread Cert.PostLossIdeal.nD Cert.PostLossIdeal.τ).loc Cert.PostLossIdeal.main_v0_3)) (v4 : (c : Dev Cert.PostLossIdeal.nD) → Buf (Elt Ideal) ((c.tc : Thread Cert.PostLossIdeal.nD Cert.PostLossIdeal.τ).loc Cert.PostLossIdeal.main_v0_4)),
      θ_run (Cert.PostLossIdeal.defs (F := Ideal)) (onTc (τ := Cert.PostLossIdeal.τ) (Cert.PostLossIdeal.main (F := Ideal))) ⟨m, fun _ => 0, g⟩ (fun r => ∀ c : Dev Cert.PostLossIdeal.nD,
          r.2.mem ((c.tc : Thread Cert.PostLossIdeal.nD Cert.PostLossIdeal.τ).loc Cert.PostLossIdeal.main_v0_0) = v0 c
          ∧ r.2.mem ((c.tc : Thread Cert.PostLossIdeal.nD Cert.PostLossIdeal.τ).loc Cert.PostLossIdeal.main_v0_1) = v1 c
          ∧ r.2.mem ((c.tc : Thread Cert.PostLossIdeal.nD Cert.PostLossIdeal.τ).loc Cert.PostLossIdeal.main_v0_2) = v2 c
          ∧ r.2.mem ((c.tc : Thread Cert.PostLossIdeal.nD Cert.PostLossIdeal.τ).loc Cert.PostLossIdeal.main_v0_3) = v3 c
          ∧ r.2.mem ((c.tc : Thread Cert.PostLossIdeal.nD Cert.PostLossIdeal.τ).loc Cert.PostLossIdeal.main_v0_4) = v4 c
          ∧ r.2.mem ((c.tc : Thread Cert.PostLossIdeal.nD Cert.PostLossIdeal.τ).loc Cert.PostLossIdeal.main_arg0) = m ((c.tc : Thread Cert.PostLossIdeal.nD Cert.PostLossIdeal.τ).loc Cert.PostLossIdeal.main_arg0)
          ∧ r.2.mem ((c.tc : Thread Cert.PostLossIdeal.nD Cert.PostLossIdeal.τ).loc Cert.PostLossIdeal.main_arg1) = m ((c.tc : Thread Cert.PostLossIdeal.nD Cert.PostLossIdeal.τ).loc Cert.PostLossIdeal.main_arg1)
          ∧ r.2.mem ((c.tc : Thread Cert.PostLossIdeal.nD Cert.PostLossIdeal.τ).loc Cert.PostLossIdeal.main_arg2) = m ((c.tc : Thread Cert.PostLossIdeal.nD Cert.PostLossIdeal.τ).loc Cert.PostLossIdeal.main_arg2)
          ∧ r.2.mem ((c.tc : Thread Cert.PostLossIdeal.nD Cert.PostLossIdeal.τ).loc Cert.PostLossIdeal.main_arg3) = m ((c.tc : Thread Cert.PostLossIdeal.nD Cert.PostLossIdeal.τ).loc Cert.PostLossIdeal.main_arg3)
          ∧ r.2.mem ((c.tc : Thread Cert.PostLossIdeal.nD Cert.PostLossIdeal.τ).loc Cert.PostLossIdeal.main_arg4) = m ((c.tc : Thread Cert.PostLossIdeal.nD Cert.PostLossIdeal.τ).loc Cert.PostLossIdeal.main_arg4))
      ∧ θ_run (Cert.PostLossRefIdeal.defs (F := Ideal)) (onTc (τ := Cert.PostLossRefIdeal.τ) (Cert.PostLossRefIdeal.main (F := Ideal))) ⟨m', fun _ => 0, g'⟩ (fun r => ∀ c : Dev Cert.PostLossRefIdeal.nD,
          r.2.mem ((c.tc : Thread Cert.PostLossRefIdeal.nD Cert.PostLossRefIdeal.τ).loc Cert.PostLossRefIdeal.main_v32) = v0 c
          ∧ r.2.mem ((c.tc : Thread Cert.PostLossRefIdeal.nD Cert.PostLossRefIdeal.τ).loc Cert.PostLossRefIdeal.main_v75) = v1 c
          ∧ r.2.mem ((c.tc : Thread Cert.PostLossRefIdeal.nD Cert.PostLossRefIdeal.τ).loc Cert.PostLossRefIdeal.main_v76) = v2 c
          ∧ r.2.mem ((c.tc : Thread Cert.PostLossRefIdeal.nD Cert.PostLossRefIdeal.τ).loc Cert.PostLossRefIdeal.main_v37) = v3 c
          ∧ r.2.mem ((c.tc : Thread Cert.PostLossRefIdeal.nD Cert.PostLossRefIdeal.τ).loc Cert.PostLossRefIdeal.main_v40) = v4 c
          ∧ r.2.mem ((c.tc : Thread Cert.PostLossRefIdeal.nD Cert.PostLossRefIdeal.τ).loc Cert.PostLossRefIdeal.main_arg0) = m' ((c.tc : Thread Cert.PostLossRefIdeal.nD Cert.PostLossRefIdeal.τ).loc Cert.PostLossRefIdeal.main_arg0)
          ∧ r.2.mem ((c.tc : Thread Cert.PostLossRefIdeal.nD Cert.PostLossRefIdeal.τ).loc Cert.PostLossRefIdeal.main_arg1) = m' ((c.tc : Thread Cert.PostLossRefIdeal.nD Cert.PostLossRefIdeal.τ).loc Cert.PostLossRefIdeal.main_arg1)
          ∧ r.2.mem ((c.tc : Thread Cert.PostLossRefIdeal.nD Cert.PostLossRefIdeal.τ).loc Cert.PostLossRefIdeal.main_arg2) = m' ((c.tc : Thread Cert.PostLossRefIdeal.nD Cert.PostLossRefIdeal.τ).loc Cert.PostLossRefIdeal.main_arg2)
          ∧ r.2.mem ((c.tc : Thread Cert.PostLossRefIdeal.nD Cert.PostLossRefIdeal.τ).loc Cert.PostLossRefIdeal.main_arg3) = m' ((c.tc : Thread Cert.PostLossRefIdeal.nD Cert.PostLossRefIdeal.τ).loc Cert.PostLossRefIdeal.main_arg3)
          ∧ r.2.mem ((c.tc : Thread Cert.PostLossRefIdeal.nD Cert.PostLossRefIdeal.τ).loc Cert.PostLossRefIdeal.main_arg4) = m' ((c.tc : Thread Cert.PostLossRefIdeal.nD Cert.PostLossRefIdeal.τ).loc Cert.PostLossRefIdeal.main_arg4))

def preserves_Prenorm_PrenormIdeal : Prop :=
  True

def algebraic_PrenormIdeal_PrenormRefIdeal [hPrenormIdeal : Cert.PrenormIdeal.Facts] [hPrenormRefIdeal : Cert.PrenormRefIdeal.Facts] : Prop :=
  ∀ (m : (ℓ : Loc Cert.PrenormIdeal.nD Cert.PrenormIdeal.τ Cert.PrenormIdeal.sig) → Buf (Elt Ideal) ℓ) (g : Dev Cert.PrenormIdeal.nD → PrngReg)
    (m' : (ℓ : Loc Cert.PrenormRefIdeal.nD Cert.PrenormRefIdeal.τ Cert.PrenormRefIdeal.sig) → Buf (Elt Ideal) ℓ) (g' : Dev Cert.PrenormRefIdeal.nD → PrngReg), Pre_PrenormIdeal m →
    (∀ c : Dev Cert.PrenormIdeal.nD,
      m' ((c.tc : Thread Cert.PrenormRefIdeal.nD Cert.PrenormRefIdeal.τ).loc Cert.PrenormRefIdeal.main_arg0) = m ((c.tc : Thread Cert.PrenormIdeal.nD Cert.PrenormIdeal.τ).loc Cert.PrenormIdeal.main_arg0)
      ∧ m' ((c.tc : Thread Cert.PrenormRefIdeal.nD Cert.PrenormRefIdeal.τ).loc Cert.PrenormRefIdeal.main_arg1) = m ((c.tc : Thread Cert.PrenormIdeal.nD Cert.PrenormIdeal.τ).loc Cert.PrenormIdeal.main_arg1)
      ∧ m' ((c.tc : Thread Cert.PrenormRefIdeal.nD Cert.PrenormRefIdeal.τ).loc Cert.PrenormRefIdeal.main_arg2) = m ((c.tc : Thread Cert.PrenormIdeal.nD Cert.PrenormIdeal.τ).loc Cert.PrenormIdeal.main_arg2)
      ∧ m' ((c.tc : Thread Cert.PrenormRefIdeal.nD Cert.PrenormRefIdeal.τ).loc Cert.PrenormRefIdeal.main_arg3) = m ((c.tc : Thread Cert.PrenormIdeal.nD Cert.PrenormIdeal.τ).loc Cert.PrenormIdeal.main_arg3)) →
    ∃ (v0 : (c : Dev Cert.PrenormIdeal.nD) → Buf (Elt Ideal) ((c.tc : Thread Cert.PrenormIdeal.nD Cert.PrenormIdeal.τ).loc Cert.PrenormIdeal.main_v0)),
      θ_run (Cert.PrenormIdeal.defs (F := Ideal)) (onTc (τ := Cert.PrenormIdeal.τ) (Cert.PrenormIdeal.main (F := Ideal))) ⟨m, fun _ => 0, g⟩ (fun r => ∀ c : Dev Cert.PrenormIdeal.nD,
          r.2.mem ((c.tc : Thread Cert.PrenormIdeal.nD Cert.PrenormIdeal.τ).loc Cert.PrenormIdeal.main_v0) = v0 c
          ∧ r.2.mem ((c.tc : Thread Cert.PrenormIdeal.nD Cert.PrenormIdeal.τ).loc Cert.PrenormIdeal.main_arg0) = m ((c.tc : Thread Cert.PrenormIdeal.nD Cert.PrenormIdeal.τ).loc Cert.PrenormIdeal.main_arg0)
          ∧ r.2.mem ((c.tc : Thread Cert.PrenormIdeal.nD Cert.PrenormIdeal.τ).loc Cert.PrenormIdeal.main_arg1) = m ((c.tc : Thread Cert.PrenormIdeal.nD Cert.PrenormIdeal.τ).loc Cert.PrenormIdeal.main_arg1)
          ∧ r.2.mem ((c.tc : Thread Cert.PrenormIdeal.nD Cert.PrenormIdeal.τ).loc Cert.PrenormIdeal.main_arg2) = m ((c.tc : Thread Cert.PrenormIdeal.nD Cert.PrenormIdeal.τ).loc Cert.PrenormIdeal.main_arg2)
          ∧ r.2.mem ((c.tc : Thread Cert.PrenormIdeal.nD Cert.PrenormIdeal.τ).loc Cert.PrenormIdeal.main_arg3) = m ((c.tc : Thread Cert.PrenormIdeal.nD Cert.PrenormIdeal.τ).loc Cert.PrenormIdeal.main_arg3))
      ∧ θ_run (Cert.PrenormRefIdeal.defs (F := Ideal)) (onTc (τ := Cert.PrenormRefIdeal.τ) (Cert.PrenormRefIdeal.main (F := Ideal))) ⟨m', fun _ => 0, g'⟩ (fun r => ∀ c : Dev Cert.PrenormRefIdeal.nD,
          r.2.mem ((c.tc : Thread Cert.PrenormRefIdeal.nD Cert.PrenormRefIdeal.τ).loc Cert.PrenormRefIdeal.main_v18) = v0 c
          ∧ r.2.mem ((c.tc : Thread Cert.PrenormRefIdeal.nD Cert.PrenormRefIdeal.τ).loc Cert.PrenormRefIdeal.main_arg0) = m' ((c.tc : Thread Cert.PrenormRefIdeal.nD Cert.PrenormRefIdeal.τ).loc Cert.PrenormRefIdeal.main_arg0)
          ∧ r.2.mem ((c.tc : Thread Cert.PrenormRefIdeal.nD Cert.PrenormRefIdeal.τ).loc Cert.PrenormRefIdeal.main_arg1) = m' ((c.tc : Thread Cert.PrenormRefIdeal.nD Cert.PrenormRefIdeal.τ).loc Cert.PrenormRefIdeal.main_arg1)
          ∧ r.2.mem ((c.tc : Thread Cert.PrenormRefIdeal.nD Cert.PrenormRefIdeal.τ).loc Cert.PrenormRefIdeal.main_arg2) = m' ((c.tc : Thread Cert.PrenormRefIdeal.nD Cert.PrenormRefIdeal.τ).loc Cert.PrenormRefIdeal.main_arg2)
          ∧ r.2.mem ((c.tc : Thread Cert.PrenormRefIdeal.nD Cert.PrenormRefIdeal.τ).loc Cert.PrenormRefIdeal.main_arg3) = m' ((c.tc : Thread Cert.PrenormRefIdeal.nD Cert.PrenormRefIdeal.τ).loc Cert.PrenormRefIdeal.main_arg3))

def preserves_PostPrenorm_PostPrenormIdeal : Prop :=
  True

def algebraic_PostPrenormIdeal_PostPrenormRefIdeal [hPostPrenormIdeal : Cert.PostPrenormIdeal.Facts] [hPostPrenormRefIdeal : Cert.PostPrenormRefIdeal.Facts] : Prop :=
  ∀ (m : (ℓ : Loc Cert.PostPrenormIdeal.nD Cert.PostPrenormIdeal.τ Cert.PostPrenormIdeal.sig) → Buf (Elt Ideal) ℓ) (g : Dev Cert.PostPrenormIdeal.nD → PrngReg)
    (m' : (ℓ : Loc Cert.PostPrenormRefIdeal.nD Cert.PostPrenormRefIdeal.τ Cert.PostPrenormRefIdeal.sig) → Buf (Elt Ideal) ℓ) (g' : Dev Cert.PostPrenormRefIdeal.nD → PrngReg), Pre_PostPrenormIdeal m →
    (∀ c : Dev Cert.PostPrenormIdeal.nD,
      m' ((c.tc : Thread Cert.PostPrenormRefIdeal.nD Cert.PostPrenormRefIdeal.τ).loc Cert.PostPrenormRefIdeal.main_arg0) = m ((c.tc : Thread Cert.PostPrenormIdeal.nD Cert.PostPrenormIdeal.τ).loc Cert.PostPrenormIdeal.main_arg0)
      ∧ m' ((c.tc : Thread Cert.PostPrenormRefIdeal.nD Cert.PostPrenormRefIdeal.τ).loc Cert.PostPrenormRefIdeal.main_arg1) = m ((c.tc : Thread Cert.PostPrenormIdeal.nD Cert.PostPrenormIdeal.τ).loc Cert.PostPrenormIdeal.main_arg1)
      ∧ m' ((c.tc : Thread Cert.PostPrenormRefIdeal.nD Cert.PostPrenormRefIdeal.τ).loc Cert.PostPrenormRefIdeal.main_arg2) = m ((c.tc : Thread Cert.PostPrenormIdeal.nD Cert.PostPrenormIdeal.τ).loc Cert.PostPrenormIdeal.main_arg2)
      ∧ m' ((c.tc : Thread Cert.PostPrenormRefIdeal.nD Cert.PostPrenormRefIdeal.τ).loc Cert.PostPrenormRefIdeal.main_arg3) = m ((c.tc : Thread Cert.PostPrenormIdeal.nD Cert.PostPrenormIdeal.τ).loc Cert.PostPrenormIdeal.main_arg3)
      ∧ m' ((c.tc : Thread Cert.PostPrenormRefIdeal.nD Cert.PostPrenormRefIdeal.τ).loc Cert.PostPrenormRefIdeal.main_arg4) = m ((c.tc : Thread Cert.PostPrenormIdeal.nD Cert.PostPrenormIdeal.τ).loc Cert.PostPrenormIdeal.main_arg4)
      ∧ m' ((c.tc : Thread Cert.PostPrenormRefIdeal.nD Cert.PostPrenormRefIdeal.τ).loc Cert.PostPrenormRefIdeal.main_arg5) = m ((c.tc : Thread Cert.PostPrenormIdeal.nD Cert.PostPrenormIdeal.τ).loc Cert.PostPrenormIdeal.main_arg5)
      ∧ m' ((c.tc : Thread Cert.PostPrenormRefIdeal.nD Cert.PostPrenormRefIdeal.τ).loc Cert.PostPrenormRefIdeal.main_arg6) = m ((c.tc : Thread Cert.PostPrenormIdeal.nD Cert.PostPrenormIdeal.τ).loc Cert.PostPrenormIdeal.main_arg6)) →
    ∃ (v0 : (c : Dev Cert.PostPrenormIdeal.nD) → Buf (Elt Ideal) ((c.tc : Thread Cert.PostPrenormIdeal.nD Cert.PostPrenormIdeal.τ).loc Cert.PostPrenormIdeal.main_v0_0)) (v1 : (c : Dev Cert.PostPrenormIdeal.nD) → Buf (Elt Ideal) ((c.tc : Thread Cert.PostPrenormIdeal.nD Cert.PostPrenormIdeal.τ).loc Cert.PostPrenormIdeal.main_v0_1)),
      θ_run (Cert.PostPrenormIdeal.defs (F := Ideal)) (onTc (τ := Cert.PostPrenormIdeal.τ) (Cert.PostPrenormIdeal.main (F := Ideal))) ⟨m, fun _ => 0, g⟩ (fun r => ∀ c : Dev Cert.PostPrenormIdeal.nD,
          r.2.mem ((c.tc : Thread Cert.PostPrenormIdeal.nD Cert.PostPrenormIdeal.τ).loc Cert.PostPrenormIdeal.main_v0_0) = v0 c
          ∧ r.2.mem ((c.tc : Thread Cert.PostPrenormIdeal.nD Cert.PostPrenormIdeal.τ).loc Cert.PostPrenormIdeal.main_v0_1) = v1 c
          ∧ r.2.mem ((c.tc : Thread Cert.PostPrenormIdeal.nD Cert.PostPrenormIdeal.τ).loc Cert.PostPrenormIdeal.main_arg0) = m ((c.tc : Thread Cert.PostPrenormIdeal.nD Cert.PostPrenormIdeal.τ).loc Cert.PostPrenormIdeal.main_arg0)
          ∧ r.2.mem ((c.tc : Thread Cert.PostPrenormIdeal.nD Cert.PostPrenormIdeal.τ).loc Cert.PostPrenormIdeal.main_arg1) = m ((c.tc : Thread Cert.PostPrenormIdeal.nD Cert.PostPrenormIdeal.τ).loc Cert.PostPrenormIdeal.main_arg1)
          ∧ r.2.mem ((c.tc : Thread Cert.PostPrenormIdeal.nD Cert.PostPrenormIdeal.τ).loc Cert.PostPrenormIdeal.main_arg2) = m ((c.tc : Thread Cert.PostPrenormIdeal.nD Cert.PostPrenormIdeal.τ).loc Cert.PostPrenormIdeal.main_arg2)
          ∧ r.2.mem ((c.tc : Thread Cert.PostPrenormIdeal.nD Cert.PostPrenormIdeal.τ).loc Cert.PostPrenormIdeal.main_arg3) = m ((c.tc : Thread Cert.PostPrenormIdeal.nD Cert.PostPrenormIdeal.τ).loc Cert.PostPrenormIdeal.main_arg3)
          ∧ r.2.mem ((c.tc : Thread Cert.PostPrenormIdeal.nD Cert.PostPrenormIdeal.τ).loc Cert.PostPrenormIdeal.main_arg4) = m ((c.tc : Thread Cert.PostPrenormIdeal.nD Cert.PostPrenormIdeal.τ).loc Cert.PostPrenormIdeal.main_arg4)
          ∧ r.2.mem ((c.tc : Thread Cert.PostPrenormIdeal.nD Cert.PostPrenormIdeal.τ).loc Cert.PostPrenormIdeal.main_arg5) = m ((c.tc : Thread Cert.PostPrenormIdeal.nD Cert.PostPrenormIdeal.τ).loc Cert.PostPrenormIdeal.main_arg5)
          ∧ r.2.mem ((c.tc : Thread Cert.PostPrenormIdeal.nD Cert.PostPrenormIdeal.τ).loc Cert.PostPrenormIdeal.main_arg6) = m ((c.tc : Thread Cert.PostPrenormIdeal.nD Cert.PostPrenormIdeal.τ).loc Cert.PostPrenormIdeal.main_arg6))
      ∧ θ_run (Cert.PostPrenormRefIdeal.defs (F := Ideal)) (onTc (τ := Cert.PostPrenormRefIdeal.τ) (Cert.PostPrenormRefIdeal.main (F := Ideal))) ⟨m', fun _ => 0, g'⟩ (fun r => ∀ c : Dev Cert.PostPrenormRefIdeal.nD,
          r.2.mem ((c.tc : Thread Cert.PostPrenormRefIdeal.nD Cert.PostPrenormRefIdeal.τ).loc Cert.PostPrenormRefIdeal.main_v14) = v0 c
          ∧ r.2.mem ((c.tc : Thread Cert.PostPrenormRefIdeal.nD Cert.PostPrenormRefIdeal.τ).loc Cert.PostPrenormRefIdeal.main_v33) = v1 c
          ∧ r.2.mem ((c.tc : Thread Cert.PostPrenormRefIdeal.nD Cert.PostPrenormRefIdeal.τ).loc Cert.PostPrenormRefIdeal.main_arg0) = m' ((c.tc : Thread Cert.PostPrenormRefIdeal.nD Cert.PostPrenormRefIdeal.τ).loc Cert.PostPrenormRefIdeal.main_arg0)
          ∧ r.2.mem ((c.tc : Thread Cert.PostPrenormRefIdeal.nD Cert.PostPrenormRefIdeal.τ).loc Cert.PostPrenormRefIdeal.main_arg1) = m' ((c.tc : Thread Cert.PostPrenormRefIdeal.nD Cert.PostPrenormRefIdeal.τ).loc Cert.PostPrenormRefIdeal.main_arg1)
          ∧ r.2.mem ((c.tc : Thread Cert.PostPrenormRefIdeal.nD Cert.PostPrenormRefIdeal.τ).loc Cert.PostPrenormRefIdeal.main_arg2) = m' ((c.tc : Thread Cert.PostPrenormRefIdeal.nD Cert.PostPrenormRefIdeal.τ).loc Cert.PostPrenormRefIdeal.main_arg2)
          ∧ r.2.mem ((c.tc : Thread Cert.PostPrenormRefIdeal.nD Cert.PostPrenormRefIdeal.τ).loc Cert.PostPrenormRefIdeal.main_arg3) = m' ((c.tc : Thread Cert.PostPrenormRefIdeal.nD Cert.PostPrenormRefIdeal.τ).loc Cert.PostPrenormRefIdeal.main_arg3)
          ∧ r.2.mem ((c.tc : Thread Cert.PostPrenormRefIdeal.nD Cert.PostPrenormRefIdeal.τ).loc Cert.PostPrenormRefIdeal.main_arg4) = m' ((c.tc : Thread Cert.PostPrenormRefIdeal.nD Cert.PostPrenormRefIdeal.τ).loc Cert.PostPrenormRefIdeal.main_arg4)
          ∧ r.2.mem ((c.tc : Thread Cert.PostPrenormRefIdeal.nD Cert.PostPrenormRefIdeal.τ).loc Cert.PostPrenormRefIdeal.main_arg5) = m' ((c.tc : Thread Cert.PostPrenormRefIdeal.nD Cert.PostPrenormRefIdeal.τ).loc Cert.PostPrenormRefIdeal.main_arg5)
          ∧ r.2.mem ((c.tc : Thread Cert.PostPrenormRefIdeal.nD Cert.PostPrenormRefIdeal.τ).loc Cert.PostPrenormRefIdeal.main_arg6) = m' ((c.tc : Thread Cert.PostPrenormRefIdeal.nD Cert.PostPrenormRefIdeal.τ).loc Cert.PostPrenormRefIdeal.main_arg6))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)) →
    ∃ (v0 : (c : Dev Cert.GateIdeal.nD) → Buf (Elt Ideal) ((c.tc : Thread Cert.GateIdeal.nD Cert.GateIdeal.τ).loc Cert.GateIdeal.main_v0)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v0) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v18) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2))

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)
      ∧ m' ((c.tc : Thread Cert.AdamWRefIdeal.nD Cert.AdamWRefIdeal.τ).loc Cert.AdamWRefIdeal.main_arg4) = m ((c.tc : Thread Cert.AdamWIdeal.nD Cert.AdamWIdeal.τ).loc Cert.AdamWIdeal.main_arg4)) →
    ∃ (v0 : (c : Dev Cert.AdamWIdeal.nD) → Buf (Elt Ideal) ((c.tc : Thread Cert.AdamWIdeal.nD Cert.AdamWIdeal.τ).loc Cert.AdamWIdeal.main_v0_0)) (v1 : (c : Dev Cert.AdamWIdeal.nD) → Buf (Elt Ideal) ((c.tc : Thread Cert.AdamWIdeal.nD Cert.AdamWIdeal.τ).loc Cert.AdamWIdeal.main_v0_1)) (v2 : (c : Dev Cert.AdamWIdeal.nD) → Buf (Elt Ideal) ((c.tc : Thread Cert.AdamWIdeal.nD Cert.AdamWIdeal.τ).loc Cert.AdamWIdeal.main_v0_2)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_0) = v0 c
          ∧ r.2.mem ((c.tc : Thread Cert.AdamWIdeal.nD Cert.AdamWIdeal.τ).loc Cert.AdamWIdeal.main_v0_1) = v1 c
          ∧ r.2.mem ((c.tc : Thread Cert.AdamWIdeal.nD Cert.AdamWIdeal.τ).loc Cert.AdamWIdeal.main_v0_2) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3)
          ∧ r.2.mem ((c.tc : Thread Cert.AdamWIdeal.nD Cert.AdamWIdeal.τ).loc Cert.AdamWIdeal.main_arg4) = m ((c.tc : Thread Cert.AdamWIdeal.nD Cert.AdamWIdeal.τ).loc Cert.AdamWIdeal.main_arg4))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3)
          ∧ r.2.mem ((c.tc : Thread Cert.AdamWRefIdeal.nD Cert.AdamWRefIdeal.τ).loc Cert.AdamWRefIdeal.main_arg4) = m' ((c.tc : Thread Cert.AdamWRefIdeal.nD Cert.AdamWRefIdeal.τ).loc Cert.AdamWRefIdeal.main_arg4))

def preserves_AdamWDown_AdamWDownIdeal : Prop :=
  True

def algebraic_AdamWDownIdeal_AdamWDownRefIdeal [hAdamWDownIdeal : Cert.AdamWDownIdeal.Facts] [hAdamWDownRefIdeal : Cert.AdamWDownRefIdeal.Facts] : Prop :=
  ∀ (m : (ℓ : Loc Cert.AdamWDownIdeal.nD Cert.AdamWDownIdeal.τ Cert.AdamWDownIdeal.sig) → Buf (Elt Ideal) ℓ) (g : Dev Cert.AdamWDownIdeal.nD → PrngReg)
    (m' : (ℓ : Loc Cert.AdamWDownRefIdeal.nD Cert.AdamWDownRefIdeal.τ Cert.AdamWDownRefIdeal.sig) → Buf (Elt Ideal) ℓ) (g' : Dev Cert.AdamWDownRefIdeal.nD → PrngReg), Pre_AdamWDownIdeal m →
    (∀ c : Dev Cert.AdamWDownIdeal.nD,
      m' ((c.tc : Thread Cert.AdamWDownRefIdeal.nD Cert.AdamWDownRefIdeal.τ).loc Cert.AdamWDownRefIdeal.main_arg0) = m ((c.tc : Thread Cert.AdamWDownIdeal.nD Cert.AdamWDownIdeal.τ).loc Cert.AdamWDownIdeal.main_arg0)
      ∧ m' ((c.tc : Thread Cert.AdamWDownRefIdeal.nD Cert.AdamWDownRefIdeal.τ).loc Cert.AdamWDownRefIdeal.main_arg1) = m ((c.tc : Thread Cert.AdamWDownIdeal.nD Cert.AdamWDownIdeal.τ).loc Cert.AdamWDownIdeal.main_arg1)
      ∧ m' ((c.tc : Thread Cert.AdamWDownRefIdeal.nD Cert.AdamWDownRefIdeal.τ).loc Cert.AdamWDownRefIdeal.main_arg2) = m ((c.tc : Thread Cert.AdamWDownIdeal.nD Cert.AdamWDownIdeal.τ).loc Cert.AdamWDownIdeal.main_arg2)
      ∧ m' ((c.tc : Thread Cert.AdamWDownRefIdeal.nD Cert.AdamWDownRefIdeal.τ).loc Cert.AdamWDownRefIdeal.main_arg3) = m ((c.tc : Thread Cert.AdamWDownIdeal.nD Cert.AdamWDownIdeal.τ).loc Cert.AdamWDownIdeal.main_arg3)
      ∧ m' ((c.tc : Thread Cert.AdamWDownRefIdeal.nD Cert.AdamWDownRefIdeal.τ).loc Cert.AdamWDownRefIdeal.main_arg4) = m ((c.tc : Thread Cert.AdamWDownIdeal.nD Cert.AdamWDownIdeal.τ).loc Cert.AdamWDownIdeal.main_arg4)) →
    ∃ (v0 : (c : Dev Cert.AdamWDownIdeal.nD) → Buf (Elt Ideal) ((c.tc : Thread Cert.AdamWDownIdeal.nD Cert.AdamWDownIdeal.τ).loc Cert.AdamWDownIdeal.main_v0_0)) (v1 : (c : Dev Cert.AdamWDownIdeal.nD) → Buf (Elt Ideal) ((c.tc : Thread Cert.AdamWDownIdeal.nD Cert.AdamWDownIdeal.τ).loc Cert.AdamWDownIdeal.main_v0_1)) (v2 : (c : Dev Cert.AdamWDownIdeal.nD) → Buf (Elt Ideal) ((c.tc : Thread Cert.AdamWDownIdeal.nD Cert.AdamWDownIdeal.τ).loc Cert.AdamWDownIdeal.main_v0_2)),
      θ_run (Cert.AdamWDownIdeal.defs (F := Ideal)) (onTc (τ := Cert.AdamWDownIdeal.τ) (Cert.AdamWDownIdeal.main (F := Ideal))) ⟨m, fun _ => 0, g⟩ (fun r => ∀ c : Dev Cert.AdamWDownIdeal.nD,
          r.2.mem ((c.tc : Thread Cert.AdamWDownIdeal.nD Cert.AdamWDownIdeal.τ).loc Cert.AdamWDownIdeal.main_v0_0) = v0 c
          ∧ r.2.mem ((c.tc : Thread Cert.AdamWDownIdeal.nD Cert.AdamWDownIdeal.τ).loc Cert.AdamWDownIdeal.main_v0_1) = v1 c
          ∧ r.2.mem ((c.tc : Thread Cert.AdamWDownIdeal.nD Cert.AdamWDownIdeal.τ).loc Cert.AdamWDownIdeal.main_v0_2) = v2 c
          ∧ r.2.mem ((c.tc : Thread Cert.AdamWDownIdeal.nD Cert.AdamWDownIdeal.τ).loc Cert.AdamWDownIdeal.main_arg0) = m ((c.tc : Thread Cert.AdamWDownIdeal.nD Cert.AdamWDownIdeal.τ).loc Cert.AdamWDownIdeal.main_arg0)
          ∧ r.2.mem ((c.tc : Thread Cert.AdamWDownIdeal.nD Cert.AdamWDownIdeal.τ).loc Cert.AdamWDownIdeal.main_arg1) = m ((c.tc : Thread Cert.AdamWDownIdeal.nD Cert.AdamWDownIdeal.τ).loc Cert.AdamWDownIdeal.main_arg1)
          ∧ r.2.mem ((c.tc : Thread Cert.AdamWDownIdeal.nD Cert.AdamWDownIdeal.τ).loc Cert.AdamWDownIdeal.main_arg2) = m ((c.tc : Thread Cert.AdamWDownIdeal.nD Cert.AdamWDownIdeal.τ).loc Cert.AdamWDownIdeal.main_arg2)
          ∧ r.2.mem ((c.tc : Thread Cert.AdamWDownIdeal.nD Cert.AdamWDownIdeal.τ).loc Cert.AdamWDownIdeal.main_arg3) = m ((c.tc : Thread Cert.AdamWDownIdeal.nD Cert.AdamWDownIdeal.τ).loc Cert.AdamWDownIdeal.main_arg3)
          ∧ r.2.mem ((c.tc : Thread Cert.AdamWDownIdeal.nD Cert.AdamWDownIdeal.τ).loc Cert.AdamWDownIdeal.main_arg4) = m ((c.tc : Thread Cert.AdamWDownIdeal.nD Cert.AdamWDownIdeal.τ).loc Cert.AdamWDownIdeal.main_arg4))
      ∧ θ_run (Cert.AdamWDownRefIdeal.defs (F := Ideal)) (onTc (τ := Cert.AdamWDownRefIdeal.τ) (Cert.AdamWDownRefIdeal.main (F := Ideal))) ⟨m', fun _ => 0, g'⟩ (fun r => ∀ c : Dev Cert.AdamWDownRefIdeal.nD,
          r.2.mem ((c.tc : Thread Cert.AdamWDownRefIdeal.nD Cert.AdamWDownRefIdeal.τ).loc Cert.AdamWDownRefIdeal.main_v23) = v0 c
          ∧ r.2.mem ((c.tc : Thread Cert.AdamWDownRefIdeal.nD Cert.AdamWDownRefIdeal.τ).loc Cert.AdamWDownRefIdeal.main_v4) = v1 c
          ∧ r.2.mem ((c.tc : Thread Cert.AdamWDownRefIdeal.nD Cert.AdamWDownRefIdeal.τ).loc Cert.AdamWDownRefIdeal.main_v10) = v2 c
          ∧ r.2.mem ((c.tc : Thread Cert.AdamWDownRefIdeal.nD Cert.AdamWDownRefIdeal.τ).loc Cert.AdamWDownRefIdeal.main_arg0) = m' ((c.tc : Thread Cert.AdamWDownRefIdeal.nD Cert.AdamWDownRefIdeal.τ).loc Cert.AdamWDownRefIdeal.main_arg0)
          ∧ r.2.mem ((c.tc : Thread Cert.AdamWDownRefIdeal.nD Cert.AdamWDownRefIdeal.τ).loc Cert.AdamWDownRefIdeal.main_arg1) = m' ((c.tc : Thread Cert.AdamWDownRefIdeal.nD Cert.AdamWDownRefIdeal.τ).loc Cert.AdamWDownRefIdeal.main_arg1)
          ∧ r.2.mem ((c.tc : Thread Cert.AdamWDownRefIdeal.nD Cert.AdamWDownRefIdeal.τ).loc Cert.AdamWDownRefIdeal.main_arg2) = m' ((c.tc : Thread Cert.AdamWDownRefIdeal.nD Cert.AdamWDownRefIdeal.τ).loc Cert.AdamWDownRefIdeal.main_arg2)
          ∧ r.2.mem ((c.tc : Thread Cert.AdamWDownRefIdeal.nD Cert.AdamWDownRefIdeal.τ).loc Cert.AdamWDownRefIdeal.main_arg3) = m' ((c.tc : Thread Cert.AdamWDownRefIdeal.nD Cert.AdamWDownRefIdeal.τ).loc Cert.AdamWDownRefIdeal.main_arg3)
          ∧ r.2.mem ((c.tc : Thread Cert.AdamWDownRefIdeal.nD Cert.AdamWDownRefIdeal.τ).loc Cert.AdamWDownRefIdeal.main_arg4) = m' ((c.tc : Thread Cert.AdamWDownRefIdeal.nD Cert.AdamWDownRefIdeal.τ).loc Cert.AdamWDownRefIdeal.main_arg4))

def preserves_AdamWConvIn_AdamWConvInIdeal : Prop :=
  True

def algebraic_AdamWConvInIdeal_AdamWConvInRefIdeal [hAdamWConvInIdeal : Cert.AdamWConvInIdeal.Facts] [hAdamWConvInRefIdeal : Cert.AdamWConvInRefIdeal.Facts] : Prop :=
  ∀ (m : (ℓ : Loc Cert.AdamWConvInIdeal.nD Cert.AdamWConvInIdeal.τ Cert.AdamWConvInIdeal.sig) → Buf (Elt Ideal) ℓ) (g : Dev Cert.AdamWConvInIdeal.nD → PrngReg)
    (m' : (ℓ : Loc Cert.AdamWConvInRefIdeal.nD Cert.AdamWConvInRefIdeal.τ Cert.AdamWConvInRefIdeal.sig) → Buf (Elt Ideal) ℓ) (g' : Dev Cert.AdamWConvInRefIdeal.nD → PrngReg), Pre_AdamWConvInIdeal m →
    (∀ c : Dev Cert.AdamWConvInIdeal.nD,
      m' ((c.tc : Thread Cert.AdamWConvInRefIdeal.nD Cert.AdamWConvInRefIdeal.τ).loc Cert.AdamWConvInRefIdeal.main_arg0) = m ((c.tc : Thread Cert.AdamWConvInIdeal.nD Cert.AdamWConvInIdeal.τ).loc Cert.AdamWConvInIdeal.main_arg0)
      ∧ m' ((c.tc : Thread Cert.AdamWConvInRefIdeal.nD Cert.AdamWConvInRefIdeal.τ).loc Cert.AdamWConvInRefIdeal.main_arg1) = m ((c.tc : Thread Cert.AdamWConvInIdeal.nD Cert.AdamWConvInIdeal.τ).loc Cert.AdamWConvInIdeal.main_arg1)
      ∧ m' ((c.tc : Thread Cert.AdamWConvInRefIdeal.nD Cert.AdamWConvInRefIdeal.τ).loc Cert.AdamWConvInRefIdeal.main_arg2) = m ((c.tc : Thread Cert.AdamWConvInIdeal.nD Cert.AdamWConvInIdeal.τ).loc Cert.AdamWConvInIdeal.main_arg2)
      ∧ m' ((c.tc : Thread Cert.AdamWConvInRefIdeal.nD Cert.AdamWConvInRefIdeal.τ).loc Cert.AdamWConvInRefIdeal.main_arg3) = m ((c.tc : Thread Cert.AdamWConvInIdeal.nD Cert.AdamWConvInIdeal.τ).loc Cert.AdamWConvInIdeal.main_arg3)
      ∧ m' ((c.tc : Thread Cert.AdamWConvInRefIdeal.nD Cert.AdamWConvInRefIdeal.τ).loc Cert.AdamWConvInRefIdeal.main_arg4) = m ((c.tc : Thread Cert.AdamWConvInIdeal.nD Cert.AdamWConvInIdeal.τ).loc Cert.AdamWConvInIdeal.main_arg4)) →
    ∃ (v0 : (c : Dev Cert.AdamWConvInIdeal.nD) → Buf (Elt Ideal) ((c.tc : Thread Cert.AdamWConvInIdeal.nD Cert.AdamWConvInIdeal.τ).loc Cert.AdamWConvInIdeal.main_v0_0)) (v1 : (c : Dev Cert.AdamWConvInIdeal.nD) → Buf (Elt Ideal) ((c.tc : Thread Cert.AdamWConvInIdeal.nD Cert.AdamWConvInIdeal.τ).loc Cert.AdamWConvInIdeal.main_v0_1)) (v2 : (c : Dev Cert.AdamWConvInIdeal.nD) → Buf (Elt Ideal) ((c.tc : Thread Cert.AdamWConvInIdeal.nD Cert.AdamWConvInIdeal.τ).loc Cert.AdamWConvInIdeal.main_v0_2)),
      θ_run (Cert.AdamWConvInIdeal.defs (F := Ideal)) (onTc (τ := Cert.AdamWConvInIdeal.τ) (Cert.AdamWConvInIdeal.main (F := Ideal))) ⟨m, fun _ => 0, g⟩ (fun r => ∀ c : Dev Cert.AdamWConvInIdeal.nD,
          r.2.mem ((c.tc : Thread Cert.AdamWConvInIdeal.nD Cert.AdamWConvInIdeal.τ).loc Cert.AdamWConvInIdeal.main_v0_0) = v0 c
          ∧ r.2.mem ((c.tc : Thread Cert.AdamWConvInIdeal.nD Cert.AdamWConvInIdeal.τ).loc Cert.AdamWConvInIdeal.main_v0_1) = v1 c
          ∧ r.2.mem ((c.tc : Thread Cert.AdamWConvInIdeal.nD Cert.AdamWConvInIdeal.τ).loc Cert.AdamWConvInIdeal.main_v0_2) = v2 c
          ∧ r.2.mem ((c.tc : Thread Cert.AdamWConvInIdeal.nD Cert.AdamWConvInIdeal.τ).loc Cert.AdamWConvInIdeal.main_arg0) = m ((c.tc : Thread Cert.AdamWConvInIdeal.nD Cert.AdamWConvInIdeal.τ).loc Cert.AdamWConvInIdeal.main_arg0)
          ∧ r.2.mem ((c.tc : Thread Cert.AdamWConvInIdeal.nD Cert.AdamWConvInIdeal.τ).loc Cert.AdamWConvInIdeal.main_arg1) = m ((c.tc : Thread Cert.AdamWConvInIdeal.nD Cert.AdamWConvInIdeal.τ).loc Cert.AdamWConvInIdeal.main_arg1)
          ∧ r.2.mem ((c.tc : Thread Cert.AdamWConvInIdeal.nD Cert.AdamWConvInIdeal.τ).loc Cert.AdamWConvInIdeal.main_arg2) = m ((c.tc : Thread Cert.AdamWConvInIdeal.nD Cert.AdamWConvInIdeal.τ).loc Cert.AdamWConvInIdeal.main_arg2)
          ∧ r.2.mem ((c.tc : Thread Cert.AdamWConvInIdeal.nD Cert.AdamWConvInIdeal.τ).loc Cert.AdamWConvInIdeal.main_arg3) = m ((c.tc : Thread Cert.AdamWConvInIdeal.nD Cert.AdamWConvInIdeal.τ).loc Cert.AdamWConvInIdeal.main_arg3)
          ∧ r.2.mem ((c.tc : Thread Cert.AdamWConvInIdeal.nD Cert.AdamWConvInIdeal.τ).loc Cert.AdamWConvInIdeal.main_arg4) = m ((c.tc : Thread Cert.AdamWConvInIdeal.nD Cert.AdamWConvInIdeal.τ).loc Cert.AdamWConvInIdeal.main_arg4))
      ∧ θ_run (Cert.AdamWConvInRefIdeal.defs (F := Ideal)) (onTc (τ := Cert.AdamWConvInRefIdeal.τ) (Cert.AdamWConvInRefIdeal.main (F := Ideal))) ⟨m', fun _ => 0, g'⟩ (fun r => ∀ c : Dev Cert.AdamWConvInRefIdeal.nD,
          r.2.mem ((c.tc : Thread Cert.AdamWConvInRefIdeal.nD Cert.AdamWConvInRefIdeal.τ).loc Cert.AdamWConvInRefIdeal.main_v23) = v0 c
          ∧ r.2.mem ((c.tc : Thread Cert.AdamWConvInRefIdeal.nD Cert.AdamWConvInRefIdeal.τ).loc Cert.AdamWConvInRefIdeal.main_v4) = v1 c
          ∧ r.2.mem ((c.tc : Thread Cert.AdamWConvInRefIdeal.nD Cert.AdamWConvInRefIdeal.τ).loc Cert.AdamWConvInRefIdeal.main_v10) = v2 c
          ∧ r.2.mem ((c.tc : Thread Cert.AdamWConvInRefIdeal.nD Cert.AdamWConvInRefIdeal.τ).loc Cert.AdamWConvInRefIdeal.main_arg0) = m' ((c.tc : Thread Cert.AdamWConvInRefIdeal.nD Cert.AdamWConvInRefIdeal.τ).loc Cert.AdamWConvInRefIdeal.main_arg0)
          ∧ r.2.mem ((c.tc : Thread Cert.AdamWConvInRefIdeal.nD Cert.AdamWConvInRefIdeal.τ).loc Cert.AdamWConvInRefIdeal.main_arg1) = m' ((c.tc : Thread Cert.AdamWConvInRefIdeal.nD Cert.AdamWConvInRefIdeal.τ).loc Cert.AdamWConvInRefIdeal.main_arg1)
          ∧ r.2.mem ((c.tc : Thread Cert.AdamWConvInRefIdeal.nD Cert.AdamWConvInRefIdeal.τ).loc Cert.AdamWConvInRefIdeal.main_arg2) = m' ((c.tc : Thread Cert.AdamWConvInRefIdeal.nD Cert.AdamWConvInRefIdeal.τ).loc Cert.AdamWConvInRefIdeal.main_arg2)
          ∧ r.2.mem ((c.tc : Thread Cert.AdamWConvInRefIdeal.nD Cert.AdamWConvInRefIdeal.τ).loc Cert.AdamWConvInRefIdeal.main_arg3) = m' ((c.tc : Thread Cert.AdamWConvInRefIdeal.nD Cert.AdamWConvInRefIdeal.τ).loc Cert.AdamWConvInRefIdeal.main_arg3)
          ∧ r.2.mem ((c.tc : Thread Cert.AdamWConvInRefIdeal.nD Cert.AdamWConvInRefIdeal.τ).loc Cert.AdamWConvInRefIdeal.main_arg4) = m' ((c.tc : Thread Cert.AdamWConvInRefIdeal.nD Cert.AdamWConvInRefIdeal.τ).loc Cert.AdamWConvInRefIdeal.main_arg4))

def preserves_AdamWConvOut_AdamWConvOutIdeal : Prop :=
  True

def algebraic_AdamWConvOutIdeal_AdamWConvOutRefIdeal [hAdamWConvOutIdeal : Cert.AdamWConvOutIdeal.Facts] [hAdamWConvOutRefIdeal : Cert.AdamWConvOutRefIdeal.Facts] : Prop :=
  ∀ (m : (ℓ : Loc Cert.AdamWConvOutIdeal.nD Cert.AdamWConvOutIdeal.τ Cert.AdamWConvOutIdeal.sig) → Buf (Elt Ideal) ℓ) (g : Dev Cert.AdamWConvOutIdeal.nD → PrngReg)
    (m' : (ℓ : Loc Cert.AdamWConvOutRefIdeal.nD Cert.AdamWConvOutRefIdeal.τ Cert.AdamWConvOutRefIdeal.sig) → Buf (Elt Ideal) ℓ) (g' : Dev Cert.AdamWConvOutRefIdeal.nD → PrngReg), Pre_AdamWConvOutIdeal m →
    (∀ c : Dev Cert.AdamWConvOutIdeal.nD,
      m' ((c.tc : Thread Cert.AdamWConvOutRefIdeal.nD Cert.AdamWConvOutRefIdeal.τ).loc Cert.AdamWConvOutRefIdeal.main_arg0) = m ((c.tc : Thread Cert.AdamWConvOutIdeal.nD Cert.AdamWConvOutIdeal.τ).loc Cert.AdamWConvOutIdeal.main_arg0)
      ∧ m' ((c.tc : Thread Cert.AdamWConvOutRefIdeal.nD Cert.AdamWConvOutRefIdeal.τ).loc Cert.AdamWConvOutRefIdeal.main_arg1) = m ((c.tc : Thread Cert.AdamWConvOutIdeal.nD Cert.AdamWConvOutIdeal.τ).loc Cert.AdamWConvOutIdeal.main_arg1)
      ∧ m' ((c.tc : Thread Cert.AdamWConvOutRefIdeal.nD Cert.AdamWConvOutRefIdeal.τ).loc Cert.AdamWConvOutRefIdeal.main_arg2) = m ((c.tc : Thread Cert.AdamWConvOutIdeal.nD Cert.AdamWConvOutIdeal.τ).loc Cert.AdamWConvOutIdeal.main_arg2)
      ∧ m' ((c.tc : Thread Cert.AdamWConvOutRefIdeal.nD Cert.AdamWConvOutRefIdeal.τ).loc Cert.AdamWConvOutRefIdeal.main_arg3) = m ((c.tc : Thread Cert.AdamWConvOutIdeal.nD Cert.AdamWConvOutIdeal.τ).loc Cert.AdamWConvOutIdeal.main_arg3)
      ∧ m' ((c.tc : Thread Cert.AdamWConvOutRefIdeal.nD Cert.AdamWConvOutRefIdeal.τ).loc Cert.AdamWConvOutRefIdeal.main_arg4) = m ((c.tc : Thread Cert.AdamWConvOutIdeal.nD Cert.AdamWConvOutIdeal.τ).loc Cert.AdamWConvOutIdeal.main_arg4)) →
    ∃ (v0 : (c : Dev Cert.AdamWConvOutIdeal.nD) → Buf (Elt Ideal) ((c.tc : Thread Cert.AdamWConvOutIdeal.nD Cert.AdamWConvOutIdeal.τ).loc Cert.AdamWConvOutIdeal.main_v0_0)) (v1 : (c : Dev Cert.AdamWConvOutIdeal.nD) → Buf (Elt Ideal) ((c.tc : Thread Cert.AdamWConvOutIdeal.nD Cert.AdamWConvOutIdeal.τ).loc Cert.AdamWConvOutIdeal.main_v0_1)) (v2 : (c : Dev Cert.AdamWConvOutIdeal.nD) → Buf (Elt Ideal) ((c.tc : Thread Cert.AdamWConvOutIdeal.nD Cert.AdamWConvOutIdeal.τ).loc Cert.AdamWConvOutIdeal.main_v0_2)),
      θ_run (Cert.AdamWConvOutIdeal.defs (F := Ideal)) (onTc (τ := Cert.AdamWConvOutIdeal.τ) (Cert.AdamWConvOutIdeal.main (F := Ideal))) ⟨m, fun _ => 0, g⟩ (fun r => ∀ c : Dev Cert.AdamWConvOutIdeal.nD,
          r.2.mem ((c.tc : Thread Cert.AdamWConvOutIdeal.nD Cert.AdamWConvOutIdeal.τ).loc Cert.AdamWConvOutIdeal.main_v0_0) = v0 c
          ∧ r.2.mem ((c.tc : Thread Cert.AdamWConvOutIdeal.nD Cert.AdamWConvOutIdeal.τ).loc Cert.AdamWConvOutIdeal.main_v0_1) = v1 c
          ∧ r.2.mem ((c.tc : Thread Cert.AdamWConvOutIdeal.nD Cert.AdamWConvOutIdeal.τ).loc Cert.AdamWConvOutIdeal.main_v0_2) = v2 c
          ∧ r.2.mem ((c.tc : Thread Cert.AdamWConvOutIdeal.nD Cert.AdamWConvOutIdeal.τ).loc Cert.AdamWConvOutIdeal.main_arg0) = m ((c.tc : Thread Cert.AdamWConvOutIdeal.nD Cert.AdamWConvOutIdeal.τ).loc Cert.AdamWConvOutIdeal.main_arg0)
          ∧ r.2.mem ((c.tc : Thread Cert.AdamWConvOutIdeal.nD Cert.AdamWConvOutIdeal.τ).loc Cert.AdamWConvOutIdeal.main_arg1) = m ((c.tc : Thread Cert.AdamWConvOutIdeal.nD Cert.AdamWConvOutIdeal.τ).loc Cert.AdamWConvOutIdeal.main_arg1)
          ∧ r.2.mem ((c.tc : Thread Cert.AdamWConvOutIdeal.nD Cert.AdamWConvOutIdeal.τ).loc Cert.AdamWConvOutIdeal.main_arg2) = m ((c.tc : Thread Cert.AdamWConvOutIdeal.nD Cert.AdamWConvOutIdeal.τ).loc Cert.AdamWConvOutIdeal.main_arg2)
          ∧ r.2.mem ((c.tc : Thread Cert.AdamWConvOutIdeal.nD Cert.AdamWConvOutIdeal.τ).loc Cert.AdamWConvOutIdeal.main_arg3) = m ((c.tc : Thread Cert.AdamWConvOutIdeal.nD Cert.AdamWConvOutIdeal.τ).loc Cert.AdamWConvOutIdeal.main_arg3)
          ∧ r.2.mem ((c.tc : Thread Cert.AdamWConvOutIdeal.nD Cert.AdamWConvOutIdeal.τ).loc Cert.AdamWConvOutIdeal.main_arg4) = m ((c.tc : Thread Cert.AdamWConvOutIdeal.nD Cert.AdamWConvOutIdeal.τ).loc Cert.AdamWConvOutIdeal.main_arg4))
      ∧ θ_run (Cert.AdamWConvOutRefIdeal.defs (F := Ideal)) (onTc (τ := Cert.AdamWConvOutRefIdeal.τ) (Cert.AdamWConvOutRefIdeal.main (F := Ideal))) ⟨m', fun _ => 0, g'⟩ (fun r => ∀ c : Dev Cert.AdamWConvOutRefIdeal.nD,
          r.2.mem ((c.tc : Thread Cert.AdamWConvOutRefIdeal.nD Cert.AdamWConvOutRefIdeal.τ).loc Cert.AdamWConvOutRefIdeal.main_v23) = v0 c
          ∧ r.2.mem ((c.tc : Thread Cert.AdamWConvOutRefIdeal.nD Cert.AdamWConvOutRefIdeal.τ).loc Cert.AdamWConvOutRefIdeal.main_v4) = v1 c
          ∧ r.2.mem ((c.tc : Thread Cert.AdamWConvOutRefIdeal.nD Cert.AdamWConvOutRefIdeal.τ).loc Cert.AdamWConvOutRefIdeal.main_v10) = v2 c
          ∧ r.2.mem ((c.tc : Thread Cert.AdamWConvOutRefIdeal.nD Cert.AdamWConvOutRefIdeal.τ).loc Cert.AdamWConvOutRefIdeal.main_arg0) = m' ((c.tc : Thread Cert.AdamWConvOutRefIdeal.nD Cert.AdamWConvOutRefIdeal.τ).loc Cert.AdamWConvOutRefIdeal.main_arg0)
          ∧ r.2.mem ((c.tc : Thread Cert.AdamWConvOutRefIdeal.nD Cert.AdamWConvOutRefIdeal.τ).loc Cert.AdamWConvOutRefIdeal.main_arg1) = m' ((c.tc : Thread Cert.AdamWConvOutRefIdeal.nD Cert.AdamWConvOutRefIdeal.τ).loc Cert.AdamWConvOutRefIdeal.main_arg1)
          ∧ r.2.mem ((c.tc : Thread Cert.AdamWConvOutRefIdeal.nD Cert.AdamWConvOutRefIdeal.τ).loc Cert.AdamWConvOutRefIdeal.main_arg2) = m' ((c.tc : Thread Cert.AdamWConvOutRefIdeal.nD Cert.AdamWConvOutRefIdeal.τ).loc Cert.AdamWConvOutRefIdeal.main_arg2)
          ∧ r.2.mem ((c.tc : Thread Cert.AdamWConvOutRefIdeal.nD Cert.AdamWConvOutRefIdeal.τ).loc Cert.AdamWConvOutRefIdeal.main_arg3) = m' ((c.tc : Thread Cert.AdamWConvOutRefIdeal.nD Cert.AdamWConvOutRefIdeal.τ).loc Cert.AdamWConvOutRefIdeal.main_arg3)
          ∧ r.2.mem ((c.tc : Thread Cert.AdamWConvOutRefIdeal.nD Cert.AdamWConvOutRefIdeal.τ).loc Cert.AdamWConvOutRefIdeal.main_arg4) = m' ((c.tc : Thread Cert.AdamWConvOutRefIdeal.nD Cert.AdamWConvOutRefIdeal.τ).loc Cert.AdamWConvOutRefIdeal.main_arg4))

def preserves_AdamWAda_AdamWAdaIdeal : Prop :=
  True

def algebraic_AdamWAdaIdeal_AdamWAdaRefIdeal [hAdamWAdaIdeal : Cert.AdamWAdaIdeal.Facts] [hAdamWAdaRefIdeal : Cert.AdamWAdaRefIdeal.Facts] : Prop :=
  ∀ (m : (ℓ : Loc Cert.AdamWAdaIdeal.nD Cert.AdamWAdaIdeal.τ Cert.AdamWAdaIdeal.sig) → Buf (Elt Ideal) ℓ) (g : Dev Cert.AdamWAdaIdeal.nD → PrngReg)
    (m' : (ℓ : Loc Cert.AdamWAdaRefIdeal.nD Cert.AdamWAdaRefIdeal.τ Cert.AdamWAdaRefIdeal.sig) → Buf (Elt Ideal) ℓ) (g' : Dev Cert.AdamWAdaRefIdeal.nD → PrngReg), Pre_AdamWAdaIdeal m →
    (∀ c : Dev Cert.AdamWAdaIdeal.nD,
      m' ((c.tc : Thread Cert.AdamWAdaRefIdeal.nD Cert.AdamWAdaRefIdeal.τ).loc Cert.AdamWAdaRefIdeal.main_arg0) = m ((c.tc : Thread Cert.AdamWAdaIdeal.nD Cert.AdamWAdaIdeal.τ).loc Cert.AdamWAdaIdeal.main_arg0)
      ∧ m' ((c.tc : Thread Cert.AdamWAdaRefIdeal.nD Cert.AdamWAdaRefIdeal.τ).loc Cert.AdamWAdaRefIdeal.main_arg1) = m ((c.tc : Thread Cert.AdamWAdaIdeal.nD Cert.AdamWAdaIdeal.τ).loc Cert.AdamWAdaIdeal.main_arg1)
      ∧ m' ((c.tc : Thread Cert.AdamWAdaRefIdeal.nD Cert.AdamWAdaRefIdeal.τ).loc Cert.AdamWAdaRefIdeal.main_arg2) = m ((c.tc : Thread Cert.AdamWAdaIdeal.nD Cert.AdamWAdaIdeal.τ).loc Cert.AdamWAdaIdeal.main_arg2)
      ∧ m' ((c.tc : Thread Cert.AdamWAdaRefIdeal.nD Cert.AdamWAdaRefIdeal.τ).loc Cert.AdamWAdaRefIdeal.main_arg3) = m ((c.tc : Thread Cert.AdamWAdaIdeal.nD Cert.AdamWAdaIdeal.τ).loc Cert.AdamWAdaIdeal.main_arg3)) →
    ∃ (v0 : (c : Dev Cert.AdamWAdaIdeal.nD) → Buf (Elt Ideal) ((c.tc : Thread Cert.AdamWAdaIdeal.nD Cert.AdamWAdaIdeal.τ).loc Cert.AdamWAdaIdeal.main_v0_0)) (v1 : (c : Dev Cert.AdamWAdaIdeal.nD) → Buf (Elt Ideal) ((c.tc : Thread Cert.AdamWAdaIdeal.nD Cert.AdamWAdaIdeal.τ).loc Cert.AdamWAdaIdeal.main_v0_1)) (v2 : (c : Dev Cert.AdamWAdaIdeal.nD) → Buf (Elt Ideal) ((c.tc : Thread Cert.AdamWAdaIdeal.nD Cert.AdamWAdaIdeal.τ).loc Cert.AdamWAdaIdeal.main_v0_2)),
      θ_run (Cert.AdamWAdaIdeal.defs (F := Ideal)) (onTc (τ := Cert.AdamWAdaIdeal.τ) (Cert.AdamWAdaIdeal.main (F := Ideal))) ⟨m, fun _ => 0, g⟩ (fun r => ∀ c : Dev Cert.AdamWAdaIdeal.nD,
          r.2.mem ((c.tc : Thread Cert.AdamWAdaIdeal.nD Cert.AdamWAdaIdeal.τ).loc Cert.AdamWAdaIdeal.main_v0_0) = v0 c
          ∧ r.2.mem ((c.tc : Thread Cert.AdamWAdaIdeal.nD Cert.AdamWAdaIdeal.τ).loc Cert.AdamWAdaIdeal.main_v0_1) = v1 c
          ∧ r.2.mem ((c.tc : Thread Cert.AdamWAdaIdeal.nD Cert.AdamWAdaIdeal.τ).loc Cert.AdamWAdaIdeal.main_v0_2) = v2 c
          ∧ r.2.mem ((c.tc : Thread Cert.AdamWAdaIdeal.nD Cert.AdamWAdaIdeal.τ).loc Cert.AdamWAdaIdeal.main_arg0) = m ((c.tc : Thread Cert.AdamWAdaIdeal.nD Cert.AdamWAdaIdeal.τ).loc Cert.AdamWAdaIdeal.main_arg0)
          ∧ r.2.mem ((c.tc : Thread Cert.AdamWAdaIdeal.nD Cert.AdamWAdaIdeal.τ).loc Cert.AdamWAdaIdeal.main_arg1) = m ((c.tc : Thread Cert.AdamWAdaIdeal.nD Cert.AdamWAdaIdeal.τ).loc Cert.AdamWAdaIdeal.main_arg1)
          ∧ r.2.mem ((c.tc : Thread Cert.AdamWAdaIdeal.nD Cert.AdamWAdaIdeal.τ).loc Cert.AdamWAdaIdeal.main_arg2) = m ((c.tc : Thread Cert.AdamWAdaIdeal.nD Cert.AdamWAdaIdeal.τ).loc Cert.AdamWAdaIdeal.main_arg2)
          ∧ r.2.mem ((c.tc : Thread Cert.AdamWAdaIdeal.nD Cert.AdamWAdaIdeal.τ).loc Cert.AdamWAdaIdeal.main_arg3) = m ((c.tc : Thread Cert.AdamWAdaIdeal.nD Cert.AdamWAdaIdeal.τ).loc Cert.AdamWAdaIdeal.main_arg3))
      ∧ θ_run (Cert.AdamWAdaRefIdeal.defs (F := Ideal)) (onTc (τ := Cert.AdamWAdaRefIdeal.τ) (Cert.AdamWAdaRefIdeal.main (F := Ideal))) ⟨m', fun _ => 0, g'⟩ (fun r => ∀ c : Dev Cert.AdamWAdaRefIdeal.nD,
          r.2.mem ((c.tc : Thread Cert.AdamWAdaRefIdeal.nD Cert.AdamWAdaRefIdeal.τ).loc Cert.AdamWAdaRefIdeal.main_v23) = v0 c
          ∧ r.2.mem ((c.tc : Thread Cert.AdamWAdaRefIdeal.nD Cert.AdamWAdaRefIdeal.τ).loc Cert.AdamWAdaRefIdeal.main_v4) = v1 c
          ∧ r.2.mem ((c.tc : Thread Cert.AdamWAdaRefIdeal.nD Cert.AdamWAdaRefIdeal.τ).loc Cert.AdamWAdaRefIdeal.main_v10) = v2 c
          ∧ r.2.mem ((c.tc : Thread Cert.AdamWAdaRefIdeal.nD Cert.AdamWAdaRefIdeal.τ).loc Cert.AdamWAdaRefIdeal.main_arg0) = m' ((c.tc : Thread Cert.AdamWAdaRefIdeal.nD Cert.AdamWAdaRefIdeal.τ).loc Cert.AdamWAdaRefIdeal.main_arg0)
          ∧ r.2.mem ((c.tc : Thread Cert.AdamWAdaRefIdeal.nD Cert.AdamWAdaRefIdeal.τ).loc Cert.AdamWAdaRefIdeal.main_arg1) = m' ((c.tc : Thread Cert.AdamWAdaRefIdeal.nD Cert.AdamWAdaRefIdeal.τ).loc Cert.AdamWAdaRefIdeal.main_arg1)
          ∧ r.2.mem ((c.tc : Thread Cert.AdamWAdaRefIdeal.nD Cert.AdamWAdaRefIdeal.τ).loc Cert.AdamWAdaRefIdeal.main_arg2) = m' ((c.tc : Thread Cert.AdamWAdaRefIdeal.nD Cert.AdamWAdaRefIdeal.τ).loc Cert.AdamWAdaRefIdeal.main_arg2)
          ∧ r.2.mem ((c.tc : Thread Cert.AdamWAdaRefIdeal.nD Cert.AdamWAdaRefIdeal.τ).loc Cert.AdamWAdaRefIdeal.main_arg3) = m' ((c.tc : Thread Cert.AdamWAdaRefIdeal.nD Cert.AdamWAdaRefIdeal.τ).loc Cert.AdamWAdaRefIdeal.main_arg3))

def preserves_AdamWHgrnIn_AdamWHgrnInIdeal : Prop :=
  True

def algebraic_AdamWHgrnInIdeal_AdamWHgrnInRefIdeal [hAdamWHgrnInIdeal : Cert.AdamWHgrnInIdeal.Facts] [hAdamWHgrnInRefIdeal : Cert.AdamWHgrnInRefIdeal.Facts] : Prop :=
  ∀ (m : (ℓ : Loc Cert.AdamWHgrnInIdeal.nD Cert.AdamWHgrnInIdeal.τ Cert.AdamWHgrnInIdeal.sig) → Buf (Elt Ideal) ℓ) (g : Dev Cert.AdamWHgrnInIdeal.nD → PrngReg)
    (m' : (ℓ : Loc Cert.AdamWHgrnInRefIdeal.nD Cert.AdamWHgrnInRefIdeal.τ Cert.AdamWHgrnInRefIdeal.sig) → Buf (Elt Ideal) ℓ) (g' : Dev Cert.AdamWHgrnInRefIdeal.nD → PrngReg), Pre_AdamWHgrnInIdeal m →
    (∀ c : Dev Cert.AdamWHgrnInIdeal.nD,
      m' ((c.tc : Thread Cert.AdamWHgrnInRefIdeal.nD Cert.AdamWHgrnInRefIdeal.τ).loc Cert.AdamWHgrnInRefIdeal.main_arg0) = m ((c.tc : Thread Cert.AdamWHgrnInIdeal.nD Cert.AdamWHgrnInIdeal.τ).loc Cert.AdamWHgrnInIdeal.main_arg0)
      ∧ m' ((c.tc : Thread Cert.AdamWHgrnInRefIdeal.nD Cert.AdamWHgrnInRefIdeal.τ).loc Cert.AdamWHgrnInRefIdeal.main_arg1) = m ((c.tc : Thread Cert.AdamWHgrnInIdeal.nD Cert.AdamWHgrnInIdeal.τ).loc Cert.AdamWHgrnInIdeal.main_arg1)
      ∧ m' ((c.tc : Thread Cert.AdamWHgrnInRefIdeal.nD Cert.AdamWHgrnInRefIdeal.τ).loc Cert.AdamWHgrnInRefIdeal.main_arg2) = m ((c.tc : Thread Cert.AdamWHgrnInIdeal.nD Cert.AdamWHgrnInIdeal.τ).loc Cert.AdamWHgrnInIdeal.main_arg2)
      ∧ m' ((c.tc : Thread Cert.AdamWHgrnInRefIdeal.nD Cert.AdamWHgrnInRefIdeal.τ).loc Cert.AdamWHgrnInRefIdeal.main_arg3) = m ((c.tc : Thread Cert.AdamWHgrnInIdeal.nD Cert.AdamWHgrnInIdeal.τ).loc Cert.AdamWHgrnInIdeal.main_arg3)) →
    ∃ (v0 : (c : Dev Cert.AdamWHgrnInIdeal.nD) → Buf (Elt Ideal) ((c.tc : Thread Cert.AdamWHgrnInIdeal.nD Cert.AdamWHgrnInIdeal.τ).loc Cert.AdamWHgrnInIdeal.main_v0_0)) (v1 : (c : Dev Cert.AdamWHgrnInIdeal.nD) → Buf (Elt Ideal) ((c.tc : Thread Cert.AdamWHgrnInIdeal.nD Cert.AdamWHgrnInIdeal.τ).loc Cert.AdamWHgrnInIdeal.main_v0_1)) (v2 : (c : Dev Cert.AdamWHgrnInIdeal.nD) → Buf (Elt Ideal) ((c.tc : Thread Cert.AdamWHgrnInIdeal.nD Cert.AdamWHgrnInIdeal.τ).loc Cert.AdamWHgrnInIdeal.main_v0_2)),
      θ_run (Cert.AdamWHgrnInIdeal.defs (F := Ideal)) (onTc (τ := Cert.AdamWHgrnInIdeal.τ) (Cert.AdamWHgrnInIdeal.main (F := Ideal))) ⟨m, fun _ => 0, g⟩ (fun r => ∀ c : Dev Cert.AdamWHgrnInIdeal.nD,
          r.2.mem ((c.tc : Thread Cert.AdamWHgrnInIdeal.nD Cert.AdamWHgrnInIdeal.τ).loc Cert.AdamWHgrnInIdeal.main_v0_0) = v0 c
          ∧ r.2.mem ((c.tc : Thread Cert.AdamWHgrnInIdeal.nD Cert.AdamWHgrnInIdeal.τ).loc Cert.AdamWHgrnInIdeal.main_v0_1) = v1 c
          ∧ r.2.mem ((c.tc : Thread Cert.AdamWHgrnInIdeal.nD Cert.AdamWHgrnInIdeal.τ).loc Cert.AdamWHgrnInIdeal.main_v0_2) = v2 c
          ∧ r.2.mem ((c.tc : Thread Cert.AdamWHgrnInIdeal.nD Cert.AdamWHgrnInIdeal.τ).loc Cert.AdamWHgrnInIdeal.main_arg0) = m ((c.tc : Thread Cert.AdamWHgrnInIdeal.nD Cert.AdamWHgrnInIdeal.τ).loc Cert.AdamWHgrnInIdeal.main_arg0)
          ∧ r.2.mem ((c.tc : Thread Cert.AdamWHgrnInIdeal.nD Cert.AdamWHgrnInIdeal.τ).loc Cert.AdamWHgrnInIdeal.main_arg1) = m ((c.tc : Thread Cert.AdamWHgrnInIdeal.nD Cert.AdamWHgrnInIdeal.τ).loc Cert.AdamWHgrnInIdeal.main_arg1)
          ∧ r.2.mem ((c.tc : Thread Cert.AdamWHgrnInIdeal.nD Cert.AdamWHgrnInIdeal.τ).loc Cert.AdamWHgrnInIdeal.main_arg2) = m ((c.tc : Thread Cert.AdamWHgrnInIdeal.nD Cert.AdamWHgrnInIdeal.τ).loc Cert.AdamWHgrnInIdeal.main_arg2)
          ∧ r.2.mem ((c.tc : Thread Cert.AdamWHgrnInIdeal.nD Cert.AdamWHgrnInIdeal.τ).loc Cert.AdamWHgrnInIdeal.main_arg3) = m ((c.tc : Thread Cert.AdamWHgrnInIdeal.nD Cert.AdamWHgrnInIdeal.τ).loc Cert.AdamWHgrnInIdeal.main_arg3))
      ∧ θ_run (Cert.AdamWHgrnInRefIdeal.defs (F := Ideal)) (onTc (τ := Cert.AdamWHgrnInRefIdeal.τ) (Cert.AdamWHgrnInRefIdeal.main (F := Ideal))) ⟨m', fun _ => 0, g'⟩ (fun r => ∀ c : Dev Cert.AdamWHgrnInRefIdeal.nD,
          r.2.mem ((c.tc : Thread Cert.AdamWHgrnInRefIdeal.nD Cert.AdamWHgrnInRefIdeal.τ).loc Cert.AdamWHgrnInRefIdeal.main_v23) = v0 c
          ∧ r.2.mem ((c.tc : Thread Cert.AdamWHgrnInRefIdeal.nD Cert.AdamWHgrnInRefIdeal.τ).loc Cert.AdamWHgrnInRefIdeal.main_v4) = v1 c
          ∧ r.2.mem ((c.tc : Thread Cert.AdamWHgrnInRefIdeal.nD Cert.AdamWHgrnInRefIdeal.τ).loc Cert.AdamWHgrnInRefIdeal.main_v10) = v2 c
          ∧ r.2.mem ((c.tc : Thread Cert.AdamWHgrnInRefIdeal.nD Cert.AdamWHgrnInRefIdeal.τ).loc Cert.AdamWHgrnInRefIdeal.main_arg0) = m' ((c.tc : Thread Cert.AdamWHgrnInRefIdeal.nD Cert.AdamWHgrnInRefIdeal.τ).loc Cert.AdamWHgrnInRefIdeal.main_arg0)
          ∧ r.2.mem ((c.tc : Thread Cert.AdamWHgrnInRefIdeal.nD Cert.AdamWHgrnInRefIdeal.τ).loc Cert.AdamWHgrnInRefIdeal.main_arg1) = m' ((c.tc : Thread Cert.AdamWHgrnInRefIdeal.nD Cert.AdamWHgrnInRefIdeal.τ).loc Cert.AdamWHgrnInRefIdeal.main_arg1)
          ∧ r.2.mem ((c.tc : Thread Cert.AdamWHgrnInRefIdeal.nD Cert.AdamWHgrnInRefIdeal.τ).loc Cert.AdamWHgrnInRefIdeal.main_arg2) = m' ((c.tc : Thread Cert.AdamWHgrnInRefIdeal.nD Cert.AdamWHgrnInRefIdeal.τ).loc Cert.AdamWHgrnInRefIdeal.main_arg2)
          ∧ r.2.mem ((c.tc : Thread Cert.AdamWHgrnInRefIdeal.nD Cert.AdamWHgrnInRefIdeal.τ).loc Cert.AdamWHgrnInRefIdeal.main_arg3) = m' ((c.tc : Thread Cert.AdamWHgrnInRefIdeal.nD Cert.AdamWHgrnInRefIdeal.τ).loc Cert.AdamWHgrnInRefIdeal.main_arg3))

def preserves_AdamWHgrnOut_AdamWHgrnOutIdeal : Prop :=
  True

def algebraic_AdamWHgrnOutIdeal_AdamWHgrnOutRefIdeal [hAdamWHgrnOutIdeal : Cert.AdamWHgrnOutIdeal.Facts] [hAdamWHgrnOutRefIdeal : Cert.AdamWHgrnOutRefIdeal.Facts] : Prop :=
  ∀ (m : (ℓ : Loc Cert.AdamWHgrnOutIdeal.nD Cert.AdamWHgrnOutIdeal.τ Cert.AdamWHgrnOutIdeal.sig) → Buf (Elt Ideal) ℓ) (g : Dev Cert.AdamWHgrnOutIdeal.nD → PrngReg)
    (m' : (ℓ : Loc Cert.AdamWHgrnOutRefIdeal.nD Cert.AdamWHgrnOutRefIdeal.τ Cert.AdamWHgrnOutRefIdeal.sig) → Buf (Elt Ideal) ℓ) (g' : Dev Cert.AdamWHgrnOutRefIdeal.nD → PrngReg), Pre_AdamWHgrnOutIdeal m →
    (∀ c : Dev Cert.AdamWHgrnOutIdeal.nD,
      m' ((c.tc : Thread Cert.AdamWHgrnOutRefIdeal.nD Cert.AdamWHgrnOutRefIdeal.τ).loc Cert.AdamWHgrnOutRefIdeal.main_arg0) = m ((c.tc : Thread Cert.AdamWHgrnOutIdeal.nD Cert.AdamWHgrnOutIdeal.τ).loc Cert.AdamWHgrnOutIdeal.main_arg0)
      ∧ m' ((c.tc : Thread Cert.AdamWHgrnOutRefIdeal.nD Cert.AdamWHgrnOutRefIdeal.τ).loc Cert.AdamWHgrnOutRefIdeal.main_arg1) = m ((c.tc : Thread Cert.AdamWHgrnOutIdeal.nD Cert.AdamWHgrnOutIdeal.τ).loc Cert.AdamWHgrnOutIdeal.main_arg1)
      ∧ m' ((c.tc : Thread Cert.AdamWHgrnOutRefIdeal.nD Cert.AdamWHgrnOutRefIdeal.τ).loc Cert.AdamWHgrnOutRefIdeal.main_arg2) = m ((c.tc : Thread Cert.AdamWHgrnOutIdeal.nD Cert.AdamWHgrnOutIdeal.τ).loc Cert.AdamWHgrnOutIdeal.main_arg2)
      ∧ m' ((c.tc : Thread Cert.AdamWHgrnOutRefIdeal.nD Cert.AdamWHgrnOutRefIdeal.τ).loc Cert.AdamWHgrnOutRefIdeal.main_arg3) = m ((c.tc : Thread Cert.AdamWHgrnOutIdeal.nD Cert.AdamWHgrnOutIdeal.τ).loc Cert.AdamWHgrnOutIdeal.main_arg3)) →
    ∃ (v0 : (c : Dev Cert.AdamWHgrnOutIdeal.nD) → Buf (Elt Ideal) ((c.tc : Thread Cert.AdamWHgrnOutIdeal.nD Cert.AdamWHgrnOutIdeal.τ).loc Cert.AdamWHgrnOutIdeal.main_v0_0)) (v1 : (c : Dev Cert.AdamWHgrnOutIdeal.nD) → Buf (Elt Ideal) ((c.tc : Thread Cert.AdamWHgrnOutIdeal.nD Cert.AdamWHgrnOutIdeal.τ).loc Cert.AdamWHgrnOutIdeal.main_v0_1)) (v2 : (c : Dev Cert.AdamWHgrnOutIdeal.nD) → Buf (Elt Ideal) ((c.tc : Thread Cert.AdamWHgrnOutIdeal.nD Cert.AdamWHgrnOutIdeal.τ).loc Cert.AdamWHgrnOutIdeal.main_v0_2)),
      θ_run (Cert.AdamWHgrnOutIdeal.defs (F := Ideal)) (onTc (τ := Cert.AdamWHgrnOutIdeal.τ) (Cert.AdamWHgrnOutIdeal.main (F := Ideal))) ⟨m, fun _ => 0, g⟩ (fun r => ∀ c : Dev Cert.AdamWHgrnOutIdeal.nD,
          r.2.mem ((c.tc : Thread Cert.AdamWHgrnOutIdeal.nD Cert.AdamWHgrnOutIdeal.τ).loc Cert.AdamWHgrnOutIdeal.main_v0_0) = v0 c
          ∧ r.2.mem ((c.tc : Thread Cert.AdamWHgrnOutIdeal.nD Cert.AdamWHgrnOutIdeal.τ).loc Cert.AdamWHgrnOutIdeal.main_v0_1) = v1 c
          ∧ r.2.mem ((c.tc : Thread Cert.AdamWHgrnOutIdeal.nD Cert.AdamWHgrnOutIdeal.τ).loc Cert.AdamWHgrnOutIdeal.main_v0_2) = v2 c
          ∧ r.2.mem ((c.tc : Thread Cert.AdamWHgrnOutIdeal.nD Cert.AdamWHgrnOutIdeal.τ).loc Cert.AdamWHgrnOutIdeal.main_arg0) = m ((c.tc : Thread Cert.AdamWHgrnOutIdeal.nD Cert.AdamWHgrnOutIdeal.τ).loc Cert.AdamWHgrnOutIdeal.main_arg0)
          ∧ r.2.mem ((c.tc : Thread Cert.AdamWHgrnOutIdeal.nD Cert.AdamWHgrnOutIdeal.τ).loc Cert.AdamWHgrnOutIdeal.main_arg1) = m ((c.tc : Thread Cert.AdamWHgrnOutIdeal.nD Cert.AdamWHgrnOutIdeal.τ).loc Cert.AdamWHgrnOutIdeal.main_arg1)
          ∧ r.2.mem ((c.tc : Thread Cert.AdamWHgrnOutIdeal.nD Cert.AdamWHgrnOutIdeal.τ).loc Cert.AdamWHgrnOutIdeal.main_arg2) = m ((c.tc : Thread Cert.AdamWHgrnOutIdeal.nD Cert.AdamWHgrnOutIdeal.τ).loc Cert.AdamWHgrnOutIdeal.main_arg2)
          ∧ r.2.mem ((c.tc : Thread Cert.AdamWHgrnOutIdeal.nD Cert.AdamWHgrnOutIdeal.τ).loc Cert.AdamWHgrnOutIdeal.main_arg3) = m ((c.tc : Thread Cert.AdamWHgrnOutIdeal.nD Cert.AdamWHgrnOutIdeal.τ).loc Cert.AdamWHgrnOutIdeal.main_arg3))
      ∧ θ_run (Cert.AdamWHgrnOutRefIdeal.defs (F := Ideal)) (onTc (τ := Cert.AdamWHgrnOutRefIdeal.τ) (Cert.AdamWHgrnOutRefIdeal.main (F := Ideal))) ⟨m', fun _ => 0, g'⟩ (fun r => ∀ c : Dev Cert.AdamWHgrnOutRefIdeal.nD,
          r.2.mem ((c.tc : Thread Cert.AdamWHgrnOutRefIdeal.nD Cert.AdamWHgrnOutRefIdeal.τ).loc Cert.AdamWHgrnOutRefIdeal.main_v23) = v0 c
          ∧ r.2.mem ((c.tc : Thread Cert.AdamWHgrnOutRefIdeal.nD Cert.AdamWHgrnOutRefIdeal.τ).loc Cert.AdamWHgrnOutRefIdeal.main_v4) = v1 c
          ∧ r.2.mem ((c.tc : Thread Cert.AdamWHgrnOutRefIdeal.nD Cert.AdamWHgrnOutRefIdeal.τ).loc Cert.AdamWHgrnOutRefIdeal.main_v10) = v2 c
          ∧ r.2.mem ((c.tc : Thread Cert.AdamWHgrnOutRefIdeal.nD Cert.AdamWHgrnOutRefIdeal.τ).loc Cert.AdamWHgrnOutRefIdeal.main_arg0) = m' ((c.tc : Thread Cert.AdamWHgrnOutRefIdeal.nD Cert.AdamWHgrnOutRefIdeal.τ).loc Cert.AdamWHgrnOutRefIdeal.main_arg0)
          ∧ r.2.mem ((c.tc : Thread Cert.AdamWHgrnOutRefIdeal.nD Cert.AdamWHgrnOutRefIdeal.τ).loc Cert.AdamWHgrnOutRefIdeal.main_arg1) = m' ((c.tc : Thread Cert.AdamWHgrnOutRefIdeal.nD Cert.AdamWHgrnOutRefIdeal.τ).loc Cert.AdamWHgrnOutRefIdeal.main_arg1)
          ∧ r.2.mem ((c.tc : Thread Cert.AdamWHgrnOutRefIdeal.nD Cert.AdamWHgrnOutRefIdeal.τ).loc Cert.AdamWHgrnOutRefIdeal.main_arg2) = m' ((c.tc : Thread Cert.AdamWHgrnOutRefIdeal.nD Cert.AdamWHgrnOutRefIdeal.τ).loc Cert.AdamWHgrnOutRefIdeal.main_arg2)
          ∧ r.2.mem ((c.tc : Thread Cert.AdamWHgrnOutRefIdeal.nD Cert.AdamWHgrnOutRefIdeal.τ).loc Cert.AdamWHgrnOutRefIdeal.main_arg3) = m' ((c.tc : Thread Cert.AdamWHgrnOutRefIdeal.nD Cert.AdamWHgrnOutRefIdeal.τ).loc Cert.AdamWHgrnOutRefIdeal.main_arg3))

def preserves_AdamWSmall_AdamWSmallIdeal : Prop :=
  True

def algebraic_AdamWSmallIdeal_AdamWSmallRefIdeal [hAdamWSmallIdeal : Cert.AdamWSmallIdeal.Facts] [hAdamWSmallRefIdeal : Cert.AdamWSmallRefIdeal.Facts] : Prop :=
  ∀ (m : (ℓ : Loc Cert.AdamWSmallIdeal.nD Cert.AdamWSmallIdeal.τ Cert.AdamWSmallIdeal.sig) → Buf (Elt Ideal) ℓ) (g : Dev Cert.AdamWSmallIdeal.nD → PrngReg)
    (m' : (ℓ : Loc Cert.AdamWSmallRefIdeal.nD Cert.AdamWSmallRefIdeal.τ Cert.AdamWSmallRefIdeal.sig) → Buf (Elt Ideal) ℓ) (g' : Dev Cert.AdamWSmallRefIdeal.nD → PrngReg), Pre_AdamWSmallIdeal m →
    (∀ c : Dev Cert.AdamWSmallIdeal.nD,
      m' ((c.tc : Thread Cert.AdamWSmallRefIdeal.nD Cert.AdamWSmallRefIdeal.τ).loc Cert.AdamWSmallRefIdeal.main_arg0) = m ((c.tc : Thread Cert.AdamWSmallIdeal.nD Cert.AdamWSmallIdeal.τ).loc Cert.AdamWSmallIdeal.main_arg0)
      ∧ m' ((c.tc : Thread Cert.AdamWSmallRefIdeal.nD Cert.AdamWSmallRefIdeal.τ).loc Cert.AdamWSmallRefIdeal.main_arg1) = m ((c.tc : Thread Cert.AdamWSmallIdeal.nD Cert.AdamWSmallIdeal.τ).loc Cert.AdamWSmallIdeal.main_arg1)
      ∧ m' ((c.tc : Thread Cert.AdamWSmallRefIdeal.nD Cert.AdamWSmallRefIdeal.τ).loc Cert.AdamWSmallRefIdeal.main_arg2) = m ((c.tc : Thread Cert.AdamWSmallIdeal.nD Cert.AdamWSmallIdeal.τ).loc Cert.AdamWSmallIdeal.main_arg2)
      ∧ m' ((c.tc : Thread Cert.AdamWSmallRefIdeal.nD Cert.AdamWSmallRefIdeal.τ).loc Cert.AdamWSmallRefIdeal.main_arg3) = m ((c.tc : Thread Cert.AdamWSmallIdeal.nD Cert.AdamWSmallIdeal.τ).loc Cert.AdamWSmallIdeal.main_arg3)) →
    ∃ (v0 : (c : Dev Cert.AdamWSmallIdeal.nD) → Buf (Elt Ideal) ((c.tc : Thread Cert.AdamWSmallIdeal.nD Cert.AdamWSmallIdeal.τ).loc Cert.AdamWSmallIdeal.main_v0_0)) (v1 : (c : Dev Cert.AdamWSmallIdeal.nD) → Buf (Elt Ideal) ((c.tc : Thread Cert.AdamWSmallIdeal.nD Cert.AdamWSmallIdeal.τ).loc Cert.AdamWSmallIdeal.main_v0_1)) (v2 : (c : Dev Cert.AdamWSmallIdeal.nD) → Buf (Elt Ideal) ((c.tc : Thread Cert.AdamWSmallIdeal.nD Cert.AdamWSmallIdeal.τ).loc Cert.AdamWSmallIdeal.main_v0_2)),
      θ_run (Cert.AdamWSmallIdeal.defs (F := Ideal)) (onTc (τ := Cert.AdamWSmallIdeal.τ) (Cert.AdamWSmallIdeal.main (F := Ideal))) ⟨m, fun _ => 0, g⟩ (fun r => ∀ c : Dev Cert.AdamWSmallIdeal.nD,
          r.2.mem ((c.tc : Thread Cert.AdamWSmallIdeal.nD Cert.AdamWSmallIdeal.τ).loc Cert.AdamWSmallIdeal.main_v0_0) = v0 c
          ∧ r.2.mem ((c.tc : Thread Cert.AdamWSmallIdeal.nD Cert.AdamWSmallIdeal.τ).loc Cert.AdamWSmallIdeal.main_v0_1) = v1 c
          ∧ r.2.mem ((c.tc : Thread Cert.AdamWSmallIdeal.nD Cert.AdamWSmallIdeal.τ).loc Cert.AdamWSmallIdeal.main_v0_2) = v2 c
          ∧ r.2.mem ((c.tc : Thread Cert.AdamWSmallIdeal.nD Cert.AdamWSmallIdeal.τ).loc Cert.AdamWSmallIdeal.main_arg0) = m ((c.tc : Thread Cert.AdamWSmallIdeal.nD Cert.AdamWSmallIdeal.τ).loc Cert.AdamWSmallIdeal.main_arg0)
          ∧ r.2.mem ((c.tc : Thread Cert.AdamWSmallIdeal.nD Cert.AdamWSmallIdeal.τ).loc Cert.AdamWSmallIdeal.main_arg1) = m ((c.tc : Thread Cert.AdamWSmallIdeal.nD Cert.AdamWSmallIdeal.τ).loc Cert.AdamWSmallIdeal.main_arg1)
          ∧ r.2.mem ((c.tc : Thread Cert.AdamWSmallIdeal.nD Cert.AdamWSmallIdeal.τ).loc Cert.AdamWSmallIdeal.main_arg2) = m ((c.tc : Thread Cert.AdamWSmallIdeal.nD Cert.AdamWSmallIdeal.τ).loc Cert.AdamWSmallIdeal.main_arg2)
          ∧ r.2.mem ((c.tc : Thread Cert.AdamWSmallIdeal.nD Cert.AdamWSmallIdeal.τ).loc Cert.AdamWSmallIdeal.main_arg3) = m ((c.tc : Thread Cert.AdamWSmallIdeal.nD Cert.AdamWSmallIdeal.τ).loc Cert.AdamWSmallIdeal.main_arg3))
      ∧ θ_run (Cert.AdamWSmallRefIdeal.defs (F := Ideal)) (onTc (τ := Cert.AdamWSmallRefIdeal.τ) (Cert.AdamWSmallRefIdeal.main (F := Ideal))) ⟨m', fun _ => 0, g'⟩ (fun r => ∀ c : Dev Cert.AdamWSmallRefIdeal.nD,
          r.2.mem ((c.tc : Thread Cert.AdamWSmallRefIdeal.nD Cert.AdamWSmallRefIdeal.τ).loc Cert.AdamWSmallRefIdeal.main_v23) = v0 c
          ∧ r.2.mem ((c.tc : Thread Cert.AdamWSmallRefIdeal.nD Cert.AdamWSmallRefIdeal.τ).loc Cert.AdamWSmallRefIdeal.main_v4) = v1 c
          ∧ r.2.mem ((c.tc : Thread Cert.AdamWSmallRefIdeal.nD Cert.AdamWSmallRefIdeal.τ).loc Cert.AdamWSmallRefIdeal.main_v10) = v2 c
          ∧ r.2.mem ((c.tc : Thread Cert.AdamWSmallRefIdeal.nD Cert.AdamWSmallRefIdeal.τ).loc Cert.AdamWSmallRefIdeal.main_arg0) = m' ((c.tc : Thread Cert.AdamWSmallRefIdeal.nD Cert.AdamWSmallRefIdeal.τ).loc Cert.AdamWSmallRefIdeal.main_arg0)
          ∧ r.2.mem ((c.tc : Thread Cert.AdamWSmallRefIdeal.nD Cert.AdamWSmallRefIdeal.τ).loc Cert.AdamWSmallRefIdeal.main_arg1) = m' ((c.tc : Thread Cert.AdamWSmallRefIdeal.nD Cert.AdamWSmallRefIdeal.τ).loc Cert.AdamWSmallRefIdeal.main_arg1)
          ∧ r.2.mem ((c.tc : Thread Cert.AdamWSmallRefIdeal.nD Cert.AdamWSmallRefIdeal.τ).loc Cert.AdamWSmallRefIdeal.main_arg2) = m' ((c.tc : Thread Cert.AdamWSmallRefIdeal.nD Cert.AdamWSmallRefIdeal.τ).loc Cert.AdamWSmallRefIdeal.main_arg2)
          ∧ r.2.mem ((c.tc : Thread Cert.AdamWSmallRefIdeal.nD Cert.AdamWSmallRefIdeal.τ).loc Cert.AdamWSmallRefIdeal.main_arg3) = m' ((c.tc : Thread Cert.AdamWSmallRefIdeal.nD Cert.AdamWSmallRefIdeal.τ).loc Cert.AdamWSmallRefIdeal.main_arg3))

def preserves_AdaWgrad_AdaWgradIdeal : Prop :=
  True

def algebraic_AdaWgradIdeal_AdaWgradRefIdeal [hAdaWgradIdeal : Cert.AdaWgradIdeal.Facts] [hAdaWgradRefIdeal : Cert.AdaWgradRefIdeal.Facts] : Prop :=
  ∀ (m : (ℓ : Loc Cert.AdaWgradIdeal.nD Cert.AdaWgradIdeal.τ Cert.AdaWgradIdeal.sig) → Buf (Elt Ideal) ℓ) (g : Dev Cert.AdaWgradIdeal.nD → PrngReg)
    (m' : (ℓ : Loc Cert.AdaWgradRefIdeal.nD Cert.AdaWgradRefIdeal.τ Cert.AdaWgradRefIdeal.sig) → Buf (Elt Ideal) ℓ) (g' : Dev Cert.AdaWgradRefIdeal.nD → PrngReg), Pre_AdaWgradIdeal m →
    (∀ c : Dev Cert.AdaWgradIdeal.nD,
      m' ((c.tc : Thread Cert.AdaWgradRefIdeal.nD Cert.AdaWgradRefIdeal.τ).loc Cert.AdaWgradRefIdeal.main_arg0) = m ((c.tc : Thread Cert.AdaWgradIdeal.nD Cert.AdaWgradIdeal.τ).loc Cert.AdaWgradIdeal.main_arg0)
      ∧ m' ((c.tc : Thread Cert.AdaWgradRefIdeal.nD Cert.AdaWgradRefIdeal.τ).loc Cert.AdaWgradRefIdeal.main_arg1) = m ((c.tc : Thread Cert.AdaWgradIdeal.nD Cert.AdaWgradIdeal.τ).loc Cert.AdaWgradIdeal.main_arg1)) →
    ∃ (v0 : (c : Dev Cert.AdaWgradIdeal.nD) → Buf (Elt Ideal) ((c.tc : Thread Cert.AdaWgradIdeal.nD Cert.AdaWgradIdeal.τ).loc Cert.AdaWgradIdeal.main_v0)),
      θ_run (Cert.AdaWgradIdeal.defs (F := Ideal)) (onTc (τ := Cert.AdaWgradIdeal.τ) (Cert.AdaWgradIdeal.main (F := Ideal))) ⟨m, fun _ => 0, g⟩ (fun r => ∀ c : Dev Cert.AdaWgradIdeal.nD,
          r.2.mem ((c.tc : Thread Cert.AdaWgradIdeal.nD Cert.AdaWgradIdeal.τ).loc Cert.AdaWgradIdeal.main_v0) = v0 c
          ∧ r.2.mem ((c.tc : Thread Cert.AdaWgradIdeal.nD Cert.AdaWgradIdeal.τ).loc Cert.AdaWgradIdeal.main_arg0) = m ((c.tc : Thread Cert.AdaWgradIdeal.nD Cert.AdaWgradIdeal.τ).loc Cert.AdaWgradIdeal.main_arg0)
          ∧ r.2.mem ((c.tc : Thread Cert.AdaWgradIdeal.nD Cert.AdaWgradIdeal.τ).loc Cert.AdaWgradIdeal.main_arg1) = m ((c.tc : Thread Cert.AdaWgradIdeal.nD Cert.AdaWgradIdeal.τ).loc Cert.AdaWgradIdeal.main_arg1))
      ∧ θ_run (Cert.AdaWgradRefIdeal.defs (F := Ideal)) (onTc (τ := Cert.AdaWgradRefIdeal.τ) (Cert.AdaWgradRefIdeal.main (F := Ideal))) ⟨m', fun _ => 0, g'⟩ (fun r => ∀ c : Dev Cert.AdaWgradRefIdeal.nD,
          r.2.mem ((c.tc : Thread Cert.AdaWgradRefIdeal.nD Cert.AdaWgradRefIdeal.τ).loc Cert.AdaWgradRefIdeal.main_v7) = v0 c
          ∧ r.2.mem ((c.tc : Thread Cert.AdaWgradRefIdeal.nD Cert.AdaWgradRefIdeal.τ).loc Cert.AdaWgradRefIdeal.main_arg0) = m' ((c.tc : Thread Cert.AdaWgradRefIdeal.nD Cert.AdaWgradRefIdeal.τ).loc Cert.AdaWgradRefIdeal.main_arg0)
          ∧ r.2.mem ((c.tc : Thread Cert.AdaWgradRefIdeal.nD Cert.AdaWgradRefIdeal.τ).loc Cert.AdaWgradRefIdeal.main_arg1) = m' ((c.tc : Thread Cert.AdaWgradRefIdeal.nD Cert.AdaWgradRefIdeal.τ).loc Cert.AdaWgradRefIdeal.main_arg1))

def preserves_SumSmall_SumSmallIdeal : Prop :=
  True

def algebraic_SumSmallIdeal_SumSmallRefIdeal [hSumSmallIdeal : Cert.SumSmallIdeal.Facts] [hSumSmallRefIdeal : Cert.SumSmallRefIdeal.Facts] : Prop :=
  ∀ (m : (ℓ : Loc Cert.SumSmallIdeal.nD Cert.SumSmallIdeal.τ Cert.SumSmallIdeal.sig) → Buf (Elt Ideal) ℓ) (g : Dev Cert.SumSmallIdeal.nD → PrngReg)
    (m' : (ℓ : Loc Cert.SumSmallRefIdeal.nD Cert.SumSmallRefIdeal.τ Cert.SumSmallRefIdeal.sig) → Buf (Elt Ideal) ℓ) (g' : Dev Cert.SumSmallRefIdeal.nD → PrngReg), Pre_SumSmallIdeal m →
    (∀ c : Dev Cert.SumSmallIdeal.nD,
      m' ((c.tc : Thread Cert.SumSmallRefIdeal.nD Cert.SumSmallRefIdeal.τ).loc Cert.SumSmallRefIdeal.main_arg0) = m ((c.tc : Thread Cert.SumSmallIdeal.nD Cert.SumSmallIdeal.τ).loc Cert.SumSmallIdeal.main_arg0)) →
    ∃ (v0 : (c : Dev Cert.SumSmallIdeal.nD) → Buf (Elt Ideal) ((c.tc : Thread Cert.SumSmallIdeal.nD Cert.SumSmallIdeal.τ).loc Cert.SumSmallIdeal.main_v0)),
      θ_run (Cert.SumSmallIdeal.defs (F := Ideal)) (onTc (τ := Cert.SumSmallIdeal.τ) (Cert.SumSmallIdeal.main (F := Ideal))) ⟨m, fun _ => 0, g⟩ (fun r => ∀ c : Dev Cert.SumSmallIdeal.nD,
          r.2.mem ((c.tc : Thread Cert.SumSmallIdeal.nD Cert.SumSmallIdeal.τ).loc Cert.SumSmallIdeal.main_v0) = v0 c
          ∧ r.2.mem ((c.tc : Thread Cert.SumSmallIdeal.nD Cert.SumSmallIdeal.τ).loc Cert.SumSmallIdeal.main_arg0) = m ((c.tc : Thread Cert.SumSmallIdeal.nD Cert.SumSmallIdeal.τ).loc Cert.SumSmallIdeal.main_arg0))
      ∧ θ_run (Cert.SumSmallRefIdeal.defs (F := Ideal)) (onTc (τ := Cert.SumSmallRefIdeal.τ) (Cert.SumSmallRefIdeal.main (F := Ideal))) ⟨m', fun _ => 0, g'⟩ (fun r => ∀ c : Dev Cert.SumSmallRefIdeal.nD,
          r.2.mem ((c.tc : Thread Cert.SumSmallRefIdeal.nD Cert.SumSmallRefIdeal.τ).loc Cert.SumSmallRefIdeal.main_v0) = v0 c
          ∧ r.2.mem ((c.tc : Thread Cert.SumSmallRefIdeal.nD Cert.SumSmallRefIdeal.τ).loc Cert.SumSmallRefIdeal.main_arg0) = m' ((c.tc : Thread Cert.SumSmallRefIdeal.nD Cert.SumSmallRefIdeal.τ).loc Cert.SumSmallRefIdeal.main_arg0))

def preserves_GateBwd_GateBwdIdeal : Prop :=
  True

def algebraic_GateBwdIdeal_GateBwdRefIdeal [hGateBwdIdeal : Cert.GateBwdIdeal.Facts] [hGateBwdRefIdeal : Cert.GateBwdRefIdeal.Facts] : Prop :=
  ∀ (m : (ℓ : Loc Cert.GateBwdIdeal.nD Cert.GateBwdIdeal.τ Cert.GateBwdIdeal.sig) → Buf (Elt Ideal) ℓ) (g : Dev Cert.GateBwdIdeal.nD → PrngReg)
    (m' : (ℓ : Loc Cert.GateBwdRefIdeal.nD Cert.GateBwdRefIdeal.τ Cert.GateBwdRefIdeal.sig) → Buf (Elt Ideal) ℓ) (g' : Dev Cert.GateBwdRefIdeal.nD → PrngReg), Pre_GateBwdIdeal m →
    (∀ c : Dev Cert.GateBwdIdeal.nD,
      m' ((c.tc : Thread Cert.GateBwdRefIdeal.nD Cert.GateBwdRefIdeal.τ).loc Cert.GateBwdRefIdeal.main_arg0) = m ((c.tc : Thread Cert.GateBwdIdeal.nD Cert.GateBwdIdeal.τ).loc Cert.GateBwdIdeal.main_arg0)
      ∧ m' ((c.tc : Thread Cert.GateBwdRefIdeal.nD Cert.GateBwdRefIdeal.τ).loc Cert.GateBwdRefIdeal.main_arg1) = m ((c.tc : Thread Cert.GateBwdIdeal.nD Cert.GateBwdIdeal.τ).loc Cert.GateBwdIdeal.main_arg1)
      ∧ m' ((c.tc : Thread Cert.GateBwdRefIdeal.nD Cert.GateBwdRefIdeal.τ).loc Cert.GateBwdRefIdeal.main_arg2) = m ((c.tc : Thread Cert.GateBwdIdeal.nD Cert.GateBwdIdeal.τ).loc Cert.GateBwdIdeal.main_arg2)
      ∧ m' ((c.tc : Thread Cert.GateBwdRefIdeal.nD Cert.GateBwdRefIdeal.τ).loc Cert.GateBwdRefIdeal.main_arg3) = m ((c.tc : Thread Cert.GateBwdIdeal.nD Cert.GateBwdIdeal.τ).loc Cert.GateBwdIdeal.main_arg3)) →
    ∃ (v0 : (c : Dev Cert.GateBwdIdeal.nD) → Buf (Elt Ideal) ((c.tc : Thread Cert.GateBwdIdeal.nD Cert.GateBwdIdeal.τ).loc Cert.GateBwdIdeal.main_v0_0)) (v1 : (c : Dev Cert.GateBwdIdeal.nD) → Buf (Elt Ideal) ((c.tc : Thread Cert.GateBwdIdeal.nD Cert.GateBwdIdeal.τ).loc Cert.GateBwdIdeal.main_v0_1)) (v2 : (c : Dev Cert.GateBwdIdeal.nD) → Buf (Elt Ideal) ((c.tc : Thread Cert.GateBwdIdeal.nD Cert.GateBwdIdeal.τ).loc Cert.GateBwdIdeal.main_v0_2)),
      θ_run (Cert.GateBwdIdeal.defs (F := Ideal)) (onTc (τ := Cert.GateBwdIdeal.τ) (Cert.GateBwdIdeal.main (F := Ideal))) ⟨m, fun _ => 0, g⟩ (fun r => ∀ c : Dev Cert.GateBwdIdeal.nD,
          r.2.mem ((c.tc : Thread Cert.GateBwdIdeal.nD Cert.GateBwdIdeal.τ).loc Cert.GateBwdIdeal.main_v0_0) = v0 c
          ∧ r.2.mem ((c.tc : Thread Cert.GateBwdIdeal.nD Cert.GateBwdIdeal.τ).loc Cert.GateBwdIdeal.main_v0_1) = v1 c
          ∧ r.2.mem ((c.tc : Thread Cert.GateBwdIdeal.nD Cert.GateBwdIdeal.τ).loc Cert.GateBwdIdeal.main_v0_2) = v2 c
          ∧ r.2.mem ((c.tc : Thread Cert.GateBwdIdeal.nD Cert.GateBwdIdeal.τ).loc Cert.GateBwdIdeal.main_arg0) = m ((c.tc : Thread Cert.GateBwdIdeal.nD Cert.GateBwdIdeal.τ).loc Cert.GateBwdIdeal.main_arg0)
          ∧ r.2.mem ((c.tc : Thread Cert.GateBwdIdeal.nD Cert.GateBwdIdeal.τ).loc Cert.GateBwdIdeal.main_arg1) = m ((c.tc : Thread Cert.GateBwdIdeal.nD Cert.GateBwdIdeal.τ).loc Cert.GateBwdIdeal.main_arg1)
          ∧ r.2.mem ((c.tc : Thread Cert.GateBwdIdeal.nD Cert.GateBwdIdeal.τ).loc Cert.GateBwdIdeal.main_arg2) = m ((c.tc : Thread Cert.GateBwdIdeal.nD Cert.GateBwdIdeal.τ).loc Cert.GateBwdIdeal.main_arg2)
          ∧ r.2.mem ((c.tc : Thread Cert.GateBwdIdeal.nD Cert.GateBwdIdeal.τ).loc Cert.GateBwdIdeal.main_arg3) = m ((c.tc : Thread Cert.GateBwdIdeal.nD Cert.GateBwdIdeal.τ).loc Cert.GateBwdIdeal.main_arg3))
      ∧ θ_run (Cert.GateBwdRefIdeal.defs (F := Ideal)) (onTc (τ := Cert.GateBwdRefIdeal.τ) (Cert.GateBwdRefIdeal.main (F := Ideal))) ⟨m', fun _ => 0, g'⟩ (fun r => ∀ c : Dev Cert.GateBwdRefIdeal.nD,
          r.2.mem ((c.tc : Thread Cert.GateBwdRefIdeal.nD Cert.GateBwdRefIdeal.τ).loc Cert.GateBwdRefIdeal.main_v40) = v0 c
          ∧ r.2.mem ((c.tc : Thread Cert.GateBwdRefIdeal.nD Cert.GateBwdRefIdeal.τ).loc Cert.GateBwdRefIdeal.main_v45) = v1 c
          ∧ r.2.mem ((c.tc : Thread Cert.GateBwdRefIdeal.nD Cert.GateBwdRefIdeal.τ).loc Cert.GateBwdRefIdeal.main_v23) = v2 c
          ∧ r.2.mem ((c.tc : Thread Cert.GateBwdRefIdeal.nD Cert.GateBwdRefIdeal.τ).loc Cert.GateBwdRefIdeal.main_arg0) = m' ((c.tc : Thread Cert.GateBwdRefIdeal.nD Cert.GateBwdRefIdeal.τ).loc Cert.GateBwdRefIdeal.main_arg0)
          ∧ r.2.mem ((c.tc : Thread Cert.GateBwdRefIdeal.nD Cert.GateBwdRefIdeal.τ).loc Cert.GateBwdRefIdeal.main_arg1) = m' ((c.tc : Thread Cert.GateBwdRefIdeal.nD Cert.GateBwdRefIdeal.τ).loc Cert.GateBwdRefIdeal.main_arg1)
          ∧ r.2.mem ((c.tc : Thread Cert.GateBwdRefIdeal.nD Cert.GateBwdRefIdeal.τ).loc Cert.GateBwdRefIdeal.main_arg2) = m' ((c.tc : Thread Cert.GateBwdRefIdeal.nD Cert.GateBwdRefIdeal.τ).loc Cert.GateBwdRefIdeal.main_arg2)
          ∧ r.2.mem ((c.tc : Thread Cert.GateBwdRefIdeal.nD Cert.GateBwdRefIdeal.τ).loc Cert.GateBwdRefIdeal.main_arg3) = m' ((c.tc : Thread Cert.GateBwdRefIdeal.nD Cert.GateBwdRefIdeal.τ).loc Cert.GateBwdRefIdeal.main_arg3))

def Claim : Prop :=
  ∃ (hKernel : Cert.Kernel.Facts) (hKernelIdeal : Cert.KernelIdeal.Facts) (hReferenceIdeal : Cert.ReferenceIdeal.Facts) (hUpDx : Cert.UpDx.Facts) (hUpDxIdeal : Cert.UpDxIdeal.Facts) (hUpDxRefIdeal : Cert.UpDxRefIdeal.Facts) (hUpDw : Cert.UpDw.Facts) (hUpDwIdeal : Cert.UpDwIdeal.Facts) (hUpDwRefIdeal : Cert.UpDwRefIdeal.Facts) (hUp : Cert.Up.Facts) (hUpIdeal : Cert.UpIdeal.Facts) (hUpRefIdeal : Cert.UpRefIdeal.Facts) (hDownDx : Cert.DownDx.Facts) (hDownDxIdeal : Cert.DownDxIdeal.Facts) (hDownDxRefIdeal : Cert.DownDxRefIdeal.Facts) (hDownDw : Cert.DownDw.Facts) (hDownDwIdeal : Cert.DownDwIdeal.Facts) (hDownDwRefIdeal : Cert.DownDwRefIdeal.Facts) (hDown : Cert.Down.Facts) (hDownIdeal : Cert.DownIdeal.Facts) (hDownRefIdeal : Cert.DownRefIdeal.Facts) (hHgrnInDx : Cert.HgrnInDx.Facts) (hHgrnInDxIdeal : Cert.HgrnInDxIdeal.Facts) (hHgrnInDxRefIdeal : Cert.HgrnInDxRefIdeal.Facts) (hHgrnInDw : Cert.HgrnInDw.Facts) (hHgrnInDwIdeal : Cert.HgrnInDwIdeal.Facts) (hHgrnInDwRefIdeal : Cert.HgrnInDwRefIdeal.Facts) (hHgrnIn : Cert.HgrnIn.Facts) (hHgrnInIdeal : Cert.HgrnInIdeal.Facts) (hHgrnInRefIdeal : Cert.HgrnInRefIdeal.Facts) (hConvInDx : Cert.ConvInDx.Facts) (hConvInDxIdeal : Cert.ConvInDxIdeal.Facts) (hConvInDxRefIdeal : Cert.ConvInDxRefIdeal.Facts) (hConvInDw : Cert.ConvInDw.Facts) (hConvInDwIdeal : Cert.ConvInDwIdeal.Facts) (hConvInDwRefIdeal : Cert.ConvInDwRefIdeal.Facts) (hConvIn : Cert.ConvIn.Facts) (hConvInIdeal : Cert.ConvInIdeal.Facts) (hConvInRefIdeal : Cert.ConvInRefIdeal.Facts) (hConvOutDx : Cert.ConvOutDx.Facts) (hConvOutDxIdeal : Cert.ConvOutDxIdeal.Facts) (hConvOutDxRefIdeal : Cert.ConvOutDxRefIdeal.Facts) (hOutDw : Cert.OutDw.Facts) (hOutDwIdeal : Cert.OutDwIdeal.Facts) (hOutDwRefIdeal : Cert.OutDwRefIdeal.Facts) (hConvOut : Cert.ConvOut.Facts) (hConvOutIdeal : Cert.ConvOutIdeal.Facts) (hConvOutRefIdeal : Cert.ConvOutRefIdeal.Facts) (hHgrnOutDx : Cert.HgrnOutDx.Facts) (hHgrnOutDxIdeal : Cert.HgrnOutDxIdeal.Facts) (hHgrnOutDxRefIdeal : Cert.HgrnOutDxRefIdeal.Facts) (hHgrnOut : Cert.HgrnOut.Facts) (hHgrnOutIdeal : Cert.HgrnOutIdeal.Facts) (hHgrnOutRefIdeal : Cert.HgrnOutRefIdeal.Facts) (hPrenormBwd : Cert.PrenormBwd.Facts) (hPrenormBwdIdeal : Cert.PrenormBwdIdeal.Facts) (hPrenormBwdRefIdeal : Cert.PrenormBwdRefIdeal.Facts) (hPrenormPostBwd : Cert.PrenormPostBwd.Facts) (hPrenormPostBwdIdeal : Cert.PrenormPostBwdIdeal.Facts) (hPrenormPostBwdRefIdeal : Cert.PrenormPostBwdRefIdeal.Facts) (hPostLoss : Cert.PostLoss.Facts) (hPostLossIdeal : Cert.PostLossIdeal.Facts) (hPostLossRefIdeal : Cert.PostLossRefIdeal.Facts) (hPrenorm : Cert.Prenorm.Facts) (hPrenormIdeal : Cert.PrenormIdeal.Facts) (hPrenormRefIdeal : Cert.PrenormRefIdeal.Facts) (hPostPrenorm : Cert.PostPrenorm.Facts) (hPostPrenormIdeal : Cert.PostPrenormIdeal.Facts) (hPostPrenormRefIdeal : Cert.PostPrenormRefIdeal.Facts) (hGate : Cert.Gate.Facts) (hGateIdeal : Cert.GateIdeal.Facts) (hGateRefIdeal : Cert.GateRefIdeal.Facts) (hAdamW : Cert.AdamW.Facts) (hAdamWIdeal : Cert.AdamWIdeal.Facts) (hAdamWRefIdeal : Cert.AdamWRefIdeal.Facts) (hAdamWDown : Cert.AdamWDown.Facts) (hAdamWDownIdeal : Cert.AdamWDownIdeal.Facts) (hAdamWDownRefIdeal : Cert.AdamWDownRefIdeal.Facts) (hAdamWConvIn : Cert.AdamWConvIn.Facts) (hAdamWConvInIdeal : Cert.AdamWConvInIdeal.Facts) (hAdamWConvInRefIdeal : Cert.AdamWConvInRefIdeal.Facts) (hAdamWConvOut : Cert.AdamWConvOut.Facts) (hAdamWConvOutIdeal : Cert.AdamWConvOutIdeal.Facts) (hAdamWConvOutRefIdeal : Cert.AdamWConvOutRefIdeal.Facts) (hAdamWAda : Cert.AdamWAda.Facts) (hAdamWAdaIdeal : Cert.AdamWAdaIdeal.Facts) (hAdamWAdaRefIdeal : Cert.AdamWAdaRefIdeal.Facts) (hAdamWHgrnIn : Cert.AdamWHgrnIn.Facts) (hAdamWHgrnInIdeal : Cert.AdamWHgrnInIdeal.Facts) (hAdamWHgrnInRefIdeal : Cert.AdamWHgrnInRefIdeal.Facts) (hAdamWHgrnOut : Cert.AdamWHgrnOut.Facts) (hAdamWHgrnOutIdeal : Cert.AdamWHgrnOutIdeal.Facts) (hAdamWHgrnOutRefIdeal : Cert.AdamWHgrnOutRefIdeal.Facts) (hAdamWSmall : Cert.AdamWSmall.Facts) (hAdamWSmallIdeal : Cert.AdamWSmallIdeal.Facts) (hAdamWSmallRefIdeal : Cert.AdamWSmallRefIdeal.Facts) (hAdaWgrad : Cert.AdaWgrad.Facts) (hAdaWgradIdeal : Cert.AdaWgradIdeal.Facts) (hAdaWgradRefIdeal : Cert.AdaWgradRefIdeal.Facts) (hSumSmall : Cert.SumSmall.Facts) (hSumSmallIdeal : Cert.SumSmallIdeal.Facts) (hSumSmallRefIdeal : Cert.SumSmallRefIdeal.Facts) (hGateBwd : Cert.GateBwd.Facts) (hGateBwdIdeal : Cert.GateBwdIdeal.Facts) (hGateBwdRefIdeal : Cert.GateBwdRefIdeal.Facts),
    quiescent_Kernel (hKernel := hKernel)
    ∧ quiescent_KernelIdeal (hKernelIdeal := hKernelIdeal)
    ∧ quiescent_ReferenceIdeal (hReferenceIdeal := hReferenceIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_Up (hUp := hUp)
    ∧ quiescent_UpIdeal (hUpIdeal := hUpIdeal)
    ∧ quiescent_UpRefIdeal (hUpRefIdeal := hUpRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_Down (hDown := hDown)
    ∧ quiescent_DownIdeal (hDownIdeal := hDownIdeal)
    ∧ quiescent_DownRefIdeal (hDownRefIdeal := hDownRefIdeal)
    ∧ quiescent_HgrnInDx (hHgrnInDx := hHgrnInDx)
    ∧ quiescent_HgrnInDxIdeal (hHgrnInDxIdeal := hHgrnInDxIdeal)
    ∧ quiescent_HgrnInDxRefIdeal (hHgrnInDxRefIdeal := hHgrnInDxRefIdeal)
    ∧ quiescent_HgrnInDw (hHgrnInDw := hHgrnInDw)
    ∧ quiescent_HgrnInDwIdeal (hHgrnInDwIdeal := hHgrnInDwIdeal)
    ∧ quiescent_HgrnInDwRefIdeal (hHgrnInDwRefIdeal := hHgrnInDwRefIdeal)
    ∧ quiescent_HgrnIn (hHgrnIn := hHgrnIn)
    ∧ quiescent_HgrnInIdeal (hHgrnInIdeal := hHgrnInIdeal)
    ∧ quiescent_HgrnInRefIdeal (hHgrnInRefIdeal := hHgrnInRefIdeal)
    ∧ quiescent_ConvInDx (hConvInDx := hConvInDx)
    ∧ quiescent_ConvInDxIdeal (hConvInDxIdeal := hConvInDxIdeal)
    ∧ quiescent_ConvInDxRefIdeal (hConvInDxRefIdeal := hConvInDxRefIdeal)
    ∧ quiescent_ConvInDw (hConvInDw := hConvInDw)
    ∧ quiescent_ConvInDwIdeal (hConvInDwIdeal := hConvInDwIdeal)
    ∧ quiescent_ConvInDwRefIdeal (hConvInDwRefIdeal := hConvInDwRefIdeal)
    ∧ quiescent_ConvIn (hConvIn := hConvIn)
    ∧ quiescent_ConvInIdeal (hConvInIdeal := hConvInIdeal)
    ∧ quiescent_ConvInRefIdeal (hConvInRefIdeal := hConvInRefIdeal)
    ∧ quiescent_ConvOutDx (hConvOutDx := hConvOutDx)
    ∧ quiescent_ConvOutDxIdeal (hConvOutDxIdeal := hConvOutDxIdeal)
    ∧ quiescent_ConvOutDxRefIdeal (hConvOutDxRefIdeal := hConvOutDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_ConvOut (hConvOut := hConvOut)
    ∧ quiescent_ConvOutIdeal (hConvOutIdeal := hConvOutIdeal)
    ∧ quiescent_ConvOutRefIdeal (hConvOutRefIdeal := hConvOutRefIdeal)
    ∧ quiescent_HgrnOutDx (hHgrnOutDx := hHgrnOutDx)
    ∧ quiescent_HgrnOutDxIdeal (hHgrnOutDxIdeal := hHgrnOutDxIdeal)
    ∧ quiescent_HgrnOutDxRefIdeal (hHgrnOutDxRefIdeal := hHgrnOutDxRefIdeal)
    ∧ quiescent_HgrnOut (hHgrnOut := hHgrnOut)
    ∧ quiescent_HgrnOutIdeal (hHgrnOutIdeal := hHgrnOutIdeal)
    ∧ quiescent_HgrnOutRefIdeal (hHgrnOutRefIdeal := hHgrnOutRefIdeal)
    ∧ quiescent_PrenormBwd (hPrenormBwd := hPrenormBwd)
    ∧ quiescent_PrenormBwdIdeal (hPrenormBwdIdeal := hPrenormBwdIdeal)
    ∧ quiescent_PrenormBwdRefIdeal (hPrenormBwdRefIdeal := hPrenormBwdRefIdeal)
    ∧ quiescent_PrenormPostBwd (hPrenormPostBwd := hPrenormPostBwd)
    ∧ quiescent_PrenormPostBwdIdeal (hPrenormPostBwdIdeal := hPrenormPostBwdIdeal)
    ∧ quiescent_PrenormPostBwdRefIdeal (hPrenormPostBwdRefIdeal := hPrenormPostBwdRefIdeal)
    ∧ quiescent_PostLoss (hPostLoss := hPostLoss)
    ∧ quiescent_PostLossIdeal (hPostLossIdeal := hPostLossIdeal)
    ∧ quiescent_PostLossRefIdeal (hPostLossRefIdeal := hPostLossRefIdeal)
    ∧ quiescent_Prenorm (hPrenorm := hPrenorm)
    ∧ quiescent_PrenormIdeal (hPrenormIdeal := hPrenormIdeal)
    ∧ quiescent_PrenormRefIdeal (hPrenormRefIdeal := hPrenormRefIdeal)
    ∧ quiescent_PostPrenorm (hPostPrenorm := hPostPrenorm)
    ∧ quiescent_PostPrenormIdeal (hPostPrenormIdeal := hPostPrenormIdeal)
    ∧ quiescent_PostPrenormRefIdeal (hPostPrenormRefIdeal := hPostPrenormRefIdeal)
    ∧ quiescent_Gate (hGate := hGate)
    ∧ quiescent_GateIdeal (hGateIdeal := hGateIdeal)
    ∧ quiescent_GateRefIdeal (hGateRefIdeal := hGateRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ quiescent_AdamWDown (hAdamWDown := hAdamWDown)
    ∧ quiescent_AdamWDownIdeal (hAdamWDownIdeal := hAdamWDownIdeal)
    ∧ quiescent_AdamWDownRefIdeal (hAdamWDownRefIdeal := hAdamWDownRefIdeal)
    ∧ quiescent_AdamWConvIn (hAdamWConvIn := hAdamWConvIn)
    ∧ quiescent_AdamWConvInIdeal (hAdamWConvInIdeal := hAdamWConvInIdeal)
    ∧ quiescent_AdamWConvInRefIdeal (hAdamWConvInRefIdeal := hAdamWConvInRefIdeal)
    ∧ quiescent_AdamWConvOut (hAdamWConvOut := hAdamWConvOut)
    ∧ quiescent_AdamWConvOutIdeal (hAdamWConvOutIdeal := hAdamWConvOutIdeal)
    ∧ quiescent_AdamWConvOutRefIdeal (hAdamWConvOutRefIdeal := hAdamWConvOutRefIdeal)
    ∧ quiescent_AdamWAda (hAdamWAda := hAdamWAda)
    ∧ quiescent_AdamWAdaIdeal (hAdamWAdaIdeal := hAdamWAdaIdeal)
    ∧ quiescent_AdamWAdaRefIdeal (hAdamWAdaRefIdeal := hAdamWAdaRefIdeal)
    ∧ quiescent_AdamWHgrnIn (hAdamWHgrnIn := hAdamWHgrnIn)
    ∧ quiescent_AdamWHgrnInIdeal (hAdamWHgrnInIdeal := hAdamWHgrnInIdeal)
    ∧ quiescent_AdamWHgrnInRefIdeal (hAdamWHgrnInRefIdeal := hAdamWHgrnInRefIdeal)
    ∧ quiescent_AdamWHgrnOut (hAdamWHgrnOut := hAdamWHgrnOut)
    ∧ quiescent_AdamWHgrnOutIdeal (hAdamWHgrnOutIdeal := hAdamWHgrnOutIdeal)
    ∧ quiescent_AdamWHgrnOutRefIdeal (hAdamWHgrnOutRefIdeal := hAdamWHgrnOutRefIdeal)
    ∧ quiescent_AdamWSmall (hAdamWSmall := hAdamWSmall)
    ∧ quiescent_AdamWSmallIdeal (hAdamWSmallIdeal := hAdamWSmallIdeal)
    ∧ quiescent_AdamWSmallRefIdeal (hAdamWSmallRefIdeal := hAdamWSmallRefIdeal)
    ∧ quiescent_AdaWgrad (hAdaWgrad := hAdaWgrad)
    ∧ quiescent_AdaWgradIdeal (hAdaWgradIdeal := hAdaWgradIdeal)
    ∧ quiescent_AdaWgradRefIdeal (hAdaWgradRefIdeal := hAdaWgradRefIdeal)
    ∧ quiescent_SumSmall (hSumSmall := hSumSmall)
    ∧ quiescent_SumSmallIdeal (hSumSmallIdeal := hSumSmallIdeal)
    ∧ quiescent_SumSmallRefIdeal (hSumSmallRefIdeal := hSumSmallRefIdeal)
    ∧ quiescent_GateBwd (hGateBwd := hGateBwd)
    ∧ quiescent_GateBwdIdeal (hGateBwdIdeal := hGateBwdIdeal)
    ∧ quiescent_GateBwdRefIdeal (hGateBwdRefIdeal := hGateBwdRefIdeal)
    ∧ preserves_Kernel_KernelIdeal
    ∧ algebraic_KernelIdeal_ReferenceIdeal (hKernelIdeal := hKernelIdeal) (hReferenceIdeal := hReferenceIdeal)
    ∧ preserves_UpDx_UpDxIdeal
    ∧ algebraic_UpDxIdeal_UpDxRefIdeal (hUpDxIdeal := hUpDxIdeal) (hUpDxRefIdeal := hUpDxRefIdeal)
    ∧ preserves_UpDw_UpDwIdeal
    ∧ algebraic_UpDwIdeal_UpDwRefIdeal (hUpDwIdeal := hUpDwIdeal) (hUpDwRefIdeal := hUpDwRefIdeal)
    ∧ preserves_Up_UpIdeal
    ∧ algebraic_UpIdeal_UpRefIdeal (hUpIdeal := hUpIdeal) (hUpRefIdeal := hUpRefIdeal)
    ∧ preserves_DownDx_DownDxIdeal
    ∧ algebraic_DownDxIdeal_DownDxRefIdeal (hDownDxIdeal := hDownDxIdeal) (hDownDxRefIdeal := hDownDxRefIdeal)
    ∧ preserves_DownDw_DownDwIdeal
    ∧ algebraic_DownDwIdeal_DownDwRefIdeal (hDownDwIdeal := hDownDwIdeal) (hDownDwRefIdeal := hDownDwRefIdeal)
    ∧ preserves_Down_DownIdeal
    ∧ algebraic_DownIdeal_DownRefIdeal (hDownIdeal := hDownIdeal) (hDownRefIdeal := hDownRefIdeal)
    ∧ preserves_HgrnInDx_HgrnInDxIdeal
    ∧ algebraic_HgrnInDxIdeal_HgrnInDxRefIdeal (hHgrnInDxIdeal := hHgrnInDxIdeal) (hHgrnInDxRefIdeal := hHgrnInDxRefIdeal)
    ∧ preserves_HgrnInDw_HgrnInDwIdeal
    ∧ algebraic_HgrnInDwIdeal_HgrnInDwRefIdeal (hHgrnInDwIdeal := hHgrnInDwIdeal) (hHgrnInDwRefIdeal := hHgrnInDwRefIdeal)
    ∧ preserves_HgrnIn_HgrnInIdeal
    ∧ algebraic_HgrnInIdeal_HgrnInRefIdeal (hHgrnInIdeal := hHgrnInIdeal) (hHgrnInRefIdeal := hHgrnInRefIdeal)
    ∧ preserves_ConvInDx_ConvInDxIdeal
    ∧ algebraic_ConvInDxIdeal_ConvInDxRefIdeal (hConvInDxIdeal := hConvInDxIdeal) (hConvInDxRefIdeal := hConvInDxRefIdeal)
    ∧ preserves_ConvInDw_ConvInDwIdeal
    ∧ algebraic_ConvInDwIdeal_ConvInDwRefIdeal (hConvInDwIdeal := hConvInDwIdeal) (hConvInDwRefIdeal := hConvInDwRefIdeal)
    ∧ preserves_ConvIn_ConvInIdeal
    ∧ algebraic_ConvInIdeal_ConvInRefIdeal (hConvInIdeal := hConvInIdeal) (hConvInRefIdeal := hConvInRefIdeal)
    ∧ preserves_ConvOutDx_ConvOutDxIdeal
    ∧ algebraic_ConvOutDxIdeal_ConvOutDxRefIdeal (hConvOutDxIdeal := hConvOutDxIdeal) (hConvOutDxRefIdeal := hConvOutDxRefIdeal)
    ∧ preserves_OutDw_OutDwIdeal
    ∧ algebraic_OutDwIdeal_OutDwRefIdeal (hOutDwIdeal := hOutDwIdeal) (hOutDwRefIdeal := hOutDwRefIdeal)
    ∧ preserves_ConvOut_ConvOutIdeal
    ∧ algebraic_ConvOutIdeal_ConvOutRefIdeal (hConvOutIdeal := hConvOutIdeal) (hConvOutRefIdeal := hConvOutRefIdeal)
    ∧ preserves_HgrnOutDx_HgrnOutDxIdeal
    ∧ algebraic_HgrnOutDxIdeal_HgrnOutDxRefIdeal (hHgrnOutDxIdeal := hHgrnOutDxIdeal) (hHgrnOutDxRefIdeal := hHgrnOutDxRefIdeal)
    ∧ preserves_HgrnOut_HgrnOutIdeal
    ∧ algebraic_HgrnOutIdeal_HgrnOutRefIdeal (hHgrnOutIdeal := hHgrnOutIdeal) (hHgrnOutRefIdeal := hHgrnOutRefIdeal)
    ∧ preserves_PrenormBwd_PrenormBwdIdeal
    ∧ algebraic_PrenormBwdIdeal_PrenormBwdRefIdeal (hPrenormBwdIdeal := hPrenormBwdIdeal) (hPrenormBwdRefIdeal := hPrenormBwdRefIdeal)
    ∧ preserves_PrenormPostBwd_PrenormPostBwdIdeal
    ∧ algebraic_PrenormPostBwdIdeal_PrenormPostBwdRefIdeal (hPrenormPostBwdIdeal := hPrenormPostBwdIdeal) (hPrenormPostBwdRefIdeal := hPrenormPostBwdRefIdeal)
    ∧ preserves_PostLoss_PostLossIdeal
    ∧ algebraic_PostLossIdeal_PostLossRefIdeal (hPostLossIdeal := hPostLossIdeal) (hPostLossRefIdeal := hPostLossRefIdeal)
    ∧ preserves_Prenorm_PrenormIdeal
    ∧ algebraic_PrenormIdeal_PrenormRefIdeal (hPrenormIdeal := hPrenormIdeal) (hPrenormRefIdeal := hPrenormRefIdeal)
    ∧ preserves_PostPrenorm_PostPrenormIdeal
    ∧ algebraic_PostPrenormIdeal_PostPrenormRefIdeal (hPostPrenormIdeal := hPostPrenormIdeal) (hPostPrenormRefIdeal := hPostPrenormRefIdeal)
    ∧ preserves_Gate_GateIdeal
    ∧ algebraic_GateIdeal_GateRefIdeal (hGateIdeal := hGateIdeal) (hGateRefIdeal := hGateRefIdeal)
    ∧ preserves_AdamW_AdamWIdeal
    ∧ algebraic_AdamWIdeal_AdamWRefIdeal (hAdamWIdeal := hAdamWIdeal) (hAdamWRefIdeal := hAdamWRefIdeal)
    ∧ preserves_AdamWDown_AdamWDownIdeal
    ∧ algebraic_AdamWDownIdeal_AdamWDownRefIdeal (hAdamWDownIdeal := hAdamWDownIdeal) (hAdamWDownRefIdeal := hAdamWDownRefIdeal)
    ∧ preserves_AdamWConvIn_AdamWConvInIdeal
    ∧ algebraic_AdamWConvInIdeal_AdamWConvInRefIdeal (hAdamWConvInIdeal := hAdamWConvInIdeal) (hAdamWConvInRefIdeal := hAdamWConvInRefIdeal)
    ∧ preserves_AdamWConvOut_AdamWConvOutIdeal
    ∧ algebraic_AdamWConvOutIdeal_AdamWConvOutRefIdeal (hAdamWConvOutIdeal := hAdamWConvOutIdeal) (hAdamWConvOutRefIdeal := hAdamWConvOutRefIdeal)
    ∧ preserves_AdamWAda_AdamWAdaIdeal
    ∧ algebraic_AdamWAdaIdeal_AdamWAdaRefIdeal (hAdamWAdaIdeal := hAdamWAdaIdeal) (hAdamWAdaRefIdeal := hAdamWAdaRefIdeal)
    ∧ preserves_AdamWHgrnIn_AdamWHgrnInIdeal
    ∧ algebraic_AdamWHgrnInIdeal_AdamWHgrnInRefIdeal (hAdamWHgrnInIdeal := hAdamWHgrnInIdeal) (hAdamWHgrnInRefIdeal := hAdamWHgrnInRefIdeal)
    ∧ preserves_AdamWHgrnOut_AdamWHgrnOutIdeal
    ∧ algebraic_AdamWHgrnOutIdeal_AdamWHgrnOutRefIdeal (hAdamWHgrnOutIdeal := hAdamWHgrnOutIdeal) (hAdamWHgrnOutRefIdeal := hAdamWHgrnOutRefIdeal)
    ∧ preserves_AdamWSmall_AdamWSmallIdeal
    ∧ algebraic_AdamWSmallIdeal_AdamWSmallRefIdeal (hAdamWSmallIdeal := hAdamWSmallIdeal) (hAdamWSmallRefIdeal := hAdamWSmallRefIdeal)
    ∧ preserves_AdaWgrad_AdaWgradIdeal
    ∧ algebraic_AdaWgradIdeal_AdaWgradRefIdeal (hAdaWgradIdeal := hAdaWgradIdeal) (hAdaWgradRefIdeal := hAdaWgradRefIdeal)
    ∧ preserves_SumSmall_SumSmallIdeal
    ∧ algebraic_SumSmallIdeal_SumSmallRefIdeal (hSumSmallIdeal := hSumSmallIdeal) (hSumSmallRefIdeal := hSumSmallRefIdeal)
    ∧ preserves_GateBwd_GateBwdIdeal
    ∧ algebraic_GateBwdIdeal_GateBwdRefIdeal (hGateBwdIdeal := hGateBwdIdeal) (hGateBwdRefIdeal := hGateBwdRefIdeal)
-- ==== Kernel.lean ====
abbrev S8192x1024 : Shape := ⟨2, ![8192, 1024]⟩
abbrev S8192x2048 : Shape := ⟨2, ![8192, 2048]⟩
abbrev S31x1024 : Shape := ⟨2, ![31, 1024]⟩
abbrev S32x1024 : Shape := ⟨2, ![32, 1024]⟩
abbrev S1x2048 : Shape := ⟨2, ![1, 2048]⟩
abbrev S128x1024 : Shape := ⟨2, ![128, 1024]⟩
abbrev S128x2048 : Shape := ⟨2, ![128, 2048]⟩
abbrev S160x1024 : Shape := ⟨2, ![160, 1024]⟩
abbrev S7x160x1024 : Shape := ⟨3, ![7, 160, 1024]⟩
abbrev S152x1024 : Shape := ⟨2, ![152, 1024]⟩
abbrev S1x152x1024 : Shape := ⟨3, ![1, 152, 1024]⟩
abbrev S128x256 : Shape := ⟨2, ![128, 256]⟩
abbrev S1x160x1024 : Shape := ⟨3, ![1, 160, 1024]⟩
abbrev S1x256 : Shape := ⟨2, ![1, 256]⟩
abbrev S256 : Shape := ⟨1, ![256]⟩

abbrev nBuf : Space → Nat
  | .hbm => 6
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S31x1024, .f32⟩
  | .hbm, ⟨3, _⟩ => ⟨S8192x2048, .bf16⟩
  | .hbm, ⟨4, _⟩ => ⟨S32x1024, .f32⟩
  | .hbm, ⟨5, _⟩ => ⟨S1x2048, .f32⟩
  | .local _ .vmem, ⟨0, _⟩ => ⟨S128x1024, .f32⟩
  | .local _ .vmem, ⟨1, _⟩ => ⟨S128x1024, .f32⟩
  | .local _ .vmem, ⟨2, _⟩ => ⟨S32x1024, .f32⟩
  | .local _ .vmem, ⟨3, _⟩ => ⟨S32x1024, .f32⟩
  | .local _ .vmem, ⟨4, _⟩ => ⟨S128x2048, .f32⟩
  | .local _ .vmem, ⟨5, _⟩ => ⟨S128x2048, .f32⟩
  | .local _ .vmem, ⟨6, _⟩ => ⟨S31x1024, .f32⟩
  | .local _ .vmem, ⟨7, _⟩ => ⟨S128x2048, .bf16⟩
  | .local _ .vmem, ⟨8, _⟩ => ⟨S128x2048, .bf16⟩
  | .local _ .vmem, ⟨9, _⟩ => ⟨S32x1024, .f32⟩
  | .local _ .vmem, ⟨10, _⟩ => ⟨S1x2048, .f32⟩
  | .local _ .vmem, ⟨11, _⟩ => ⟨S160x1024, .f32⟩
  | .local _ .vmem, ⟨12, _⟩ => ⟨S7x160x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c4_i32 : BitVec 32 := 4#32
  let v1 : BitVec 32 := Scalar.muli v0 c4_i32
  let c255_i32 : BitVec 32 := 255#32
  let v2 : BitVec 32 := Scalar.minsi v1 c255_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S31x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S32x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S8192x1024 : Shape := ⟨2, ![8192, 1024]⟩
abbrev S8192x2048 : Shape := ⟨2, ![8192, 2048]⟩
abbrev S31x1024 : Shape := ⟨2, ![31, 1024]⟩
abbrev S_ : Shape := ⟨0, ![]⟩
abbrev S30x1024 : Shape := ⟨2, ![30, 1024]⟩
abbrev S8222x1024 : Shape := ⟨2, ![8222, 1024]⟩
abbrev S1x1024 : Shape := ⟨2, ![1, 1024]⟩
abbrev S1024 : Shape := ⟨1, ![1024]⟩
abbrev S32x1024 : Shape := ⟨2, ![32, 1024]⟩
abbrev S2048 : Shape := ⟨1, ![2048]⟩
abbrev S1x2048 : Shape := ⟨2, ![1, 2048]⟩

abbrev nBuf : Space → Nat
  | .hbm => 565
  | .vmem => 0
  | .smem => 0
  | _ => 0

abbrev hbmTy0_0 (i : Nat) : BufTy := match i % 128 with
  | 0 => ⟨S8192x1024, .f32⟩
  | 1 => ⟨S8192x2048, .f32⟩
  | 2 => ⟨S31x1024, .f32⟩
  | 3 => ⟨S8192x1024, .f32⟩
  | 4 => ⟨S8192x1024, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S_, .f32⟩
  | 14 => ⟨S8192x1024, .f32⟩
  | 15 => ⟨S8192x1024, .f32⟩
  | 16 => ⟨S8192x1024, .f32⟩
  | 17 => ⟨S8192x1024, .f32⟩
  | 18 => ⟨S_, .f32⟩
  | 19 => ⟨S30x1024, .f32⟩
  | 20 => ⟨S8222x1024, .f32⟩
  | 21 => ⟨S_, .f32⟩
  | 22 => ⟨S30x1024, .f32⟩
  | 23 => ⟨S1x1024, .f32⟩
  | 24 => ⟨S8192x1024, .f32⟩
  | 25 => ⟨S8192x1024, .f32⟩
  | 26 => ⟨S8192x1024, .f32⟩
  | 27 => ⟨S_, .f32⟩
  | 28 => ⟨S8192x1024, .f32⟩
  | 29 => ⟨S8192x1024, .f32⟩
  | 30 => ⟨S1x1024, .f32⟩
  | 31 => ⟨S8192x1024, .f32⟩
  | 32 => ⟨S8192x1024, .f32⟩
  | 33 => ⟨S8192x1024, .f32⟩
  | 34 => ⟨S8192x1024, .f32⟩
  | 35 => ⟨S1x1024, .f32⟩
  | 36 => ⟨S8192x1024, .f32⟩
  | 37 => ⟨S8192x1024, .f32⟩
  | 38 => ⟨S8192x1024, .f32⟩
  | 39 => ⟨S8192x1024, .f32⟩
  | 40 => ⟨S1x1024, .f32⟩
  | 41 => ⟨S8192x1024, .f32⟩
  | 42 => ⟨S8192x1024, .f32⟩
  | 43 => ⟨S8192x1024, .f32⟩
  | 44 => ⟨S8192x1024, .f32⟩
  | 45 => ⟨S1x1024, .f32⟩
  | 46 => ⟨S8192x1024, .f32⟩
  | 47 => ⟨S8192x1024, .f32⟩
  | 48 => ⟨S8192x1024, .f32⟩
  | 49 => ⟨S8192x1024, .f32⟩
  | 50 => ⟨S1x1024, .f32⟩
  | 51 => ⟨S8192x1024, .f32⟩
  | 52 => ⟨S8192x1024, .f32⟩
  | 53 => ⟨S8192x1024, .f32⟩
  | 54 => ⟨S8192x1024, .f32⟩
  | 55 => ⟨S1x1024, .f32⟩
  | 56 => ⟨S8192x1024, .f32⟩
  | 57 => ⟨S8192x1024, .f32⟩
  | 58 => ⟨S8192x1024, .f32⟩
  | 59 => ⟨S8192x1024, .f32⟩
  | 60 => ⟨S1x1024, .f32⟩
  | 61 => ⟨S8192x1024, .f32⟩
  | 62 => ⟨S8192x1024, .f32⟩
  | 63 => ⟨S8192x1024, .f32⟩
  | 64 => ⟨S8192x1024, .f32⟩
  | 65 => ⟨S1x1024, .f32⟩
  | 66 => ⟨S8192x1024, .f32⟩
  | 67 => ⟨S8192x1024, .f32⟩
  | 68 => ⟨S8192x1024, .f32⟩
  | 69 => ⟨S8192x1024, .f32⟩
  | 70 => ⟨S1x1024, .f32⟩
  | 71 => ⟨S8192x1024, .f32⟩
  | 72 => ⟨S8192x1024, .f32⟩
  | 73 => ⟨S8192x1024, .f32⟩
  | 74 => ⟨S8192x1024, .f32⟩
  | 75 => ⟨S1x1024, .f32⟩
  | 76 => ⟨S8192x1024, .f32⟩
  | 77 => ⟨S8192x1024, .f32⟩
  | 78 => ⟨S8192x1024, .f32⟩
  | 79 => ⟨S8192x1024, .f32⟩
  | 80 => ⟨S1x1024, .f32⟩
  | 81 => ⟨S8192x1024, .f32⟩
  | 82 => ⟨S8192x1024, .f32⟩
  | 83 => ⟨S8192x1024, .f32⟩
  | 84 => ⟨S8192x1024, .f32⟩
  | 85 => ⟨S1x1024, .f32⟩
  | 86 => ⟨S8192x1024, .f32⟩
  | 87 => ⟨S8192x1024, .f32⟩
  | 88 => ⟨S8192x1024, .f32⟩
  | 89 => ⟨S8192x1024, .f32⟩
  | 90 => ⟨S1x1024, .f32⟩
  | 91 => ⟨S8192x1024, .f32⟩
  | 92 => ⟨S8192x1024, .f32⟩
  | 93 => ⟨S8192x1024, .f32⟩
  | 94 => ⟨S8192x1024, .f32⟩
  | 95 => ⟨S1x1024, .f32⟩
  | 96 => ⟨S8192x1024, .f32⟩
  | 97 => ⟨S8192x1024, .f32⟩
  | 98 => ⟨S8192x1024, .f32⟩
  | 99 => ⟨S8192x1024, .f32⟩
  | 100 => ⟨S1x1024, .f32⟩
  | 101 => ⟨S8192x1024, .f32⟩
  | 102 => ⟨S8192x1024, .f32⟩
  | 103 => ⟨S8192x1024, .f32⟩
  | 104 => ⟨S8192x1024, .f32⟩
  | 105 => ⟨S1x1024, .f32⟩
  | 106 => ⟨S8192x1024, .f32⟩
  | 107 => ⟨S8192x1024, .f32⟩
  | 108 => ⟨S8192x1024, .f32⟩
  | 109 => ⟨S8192x1024, .f32⟩
  | 110 => ⟨S1x1024, .f32⟩
  | 111 => ⟨S8192x1024, .f32⟩
  | 112 => ⟨S8192x1024, .f32⟩
  | 113 => ⟨S8192x1024, .f32⟩
  | 114 => ⟨S8192x1024, .f32⟩
  | 115 => ⟨S1x1024, .f32⟩
  | 116 => ⟨S8192x1024, .f32⟩
  | 117 => ⟨S8192x1024, .f32⟩
  | 118 => ⟨S8192x1024, .f32⟩
  | 119 => ⟨S8192x1024, .f32⟩
  | 120 => ⟨S1x1024, .f32⟩
  | 121 => ⟨S8192x1024, .f32⟩
  | 122 => ⟨S8192x1024, .f32⟩
  | 123 => ⟨S8192x1024, .f32⟩
  | 124 => ⟨S8192x1024, .f32⟩
  | 125 => ⟨S1x1024, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .f32⟩
  | 1 => ⟨S8192x1024, .f32⟩
  | 2 => ⟨S1x1024, .f32⟩
  | 3 => ⟨S8192x1024, .f32⟩
  | 4 => ⟨S8192x1024, .f32⟩
  | 5 => ⟨S8192x1024, .f32⟩
  | 6 => ⟨S8192x1024, .f32⟩
  | 7 => ⟨S1x1024, .f32⟩
  | 8 => ⟨S8192x1024, .f32⟩
  | 9 => ⟨S8192x1024, .f32⟩
  | 10 => ⟨S8192x1024, .f32⟩
  | 11 => ⟨S8192x1024, .f32⟩
  | 12 => ⟨S1x1024, .f32⟩
  | 13 => ⟨S8192x1024, .f32⟩
  | 14 => ⟨S8192x1024, .f32⟩
  | 15 => ⟨S8192x1024, .f32⟩
  | 16 => ⟨S8192x1024, .f32⟩
  | 17 => ⟨S1x1024, .f32⟩
  | 18 => ⟨S8192x1024, .f32⟩
  | 19 => ⟨S8192x1024, .f32⟩
  | 20 => ⟨S8192x1024, .f32⟩
  | 21 => ⟨S8192x1024, .f32⟩
  | 22 => ⟨S1x1024, .f32⟩
  | 23 => ⟨S8192x1024, .f32⟩
  | 24 => ⟨S8192x1024, .f32⟩
  | 25 => ⟨S8192x1024, .f32⟩
  | 26 => ⟨S8192x1024, .f32⟩
  | 27 => ⟨S1x1024, .f32⟩
  | 28 => ⟨S8192x1024, .f32⟩
  | 29 => ⟨S8192x1024, .f32⟩
  | 30 => ⟨S8192x1024, .f32⟩
  | 31 => ⟨S8192x1024, .f32⟩
  | 32 => ⟨S1x1024, .f32⟩
  | 33 => ⟨S8192x1024, .f32⟩
  | 34 => ⟨S8192x1024, .f32⟩
  | 35 => ⟨S8192x1024, .f32⟩
  | 36 => ⟨S8192x1024, .f32⟩
  | 37 => ⟨S1x1024, .f32⟩
  | 38 => ⟨S8192x1024, .f32⟩
  | 39 => ⟨S8192x1024, .f32⟩
  | 40 => ⟨S8192x1024, .f32⟩
  | 41 => ⟨S8192x1024, .f32⟩
  | 42 => ⟨S1x1024, .f32⟩
  | 43 => ⟨S8192x1024, .f32⟩
  | 44 => ⟨S8192x1024, .f32⟩
  | 45 => ⟨S8192x1024, .f32⟩
  | 46 => ⟨S8192x1024, .f32⟩
  | 47 => ⟨S1x1024, .f32⟩
  | 48 => ⟨S8192x1024, .f32⟩
  | 49 => ⟨S8192x1024, .f32⟩
  | 50 => ⟨S8192x1024, .f32⟩
  | 51 => ⟨S8192x1024, .f32⟩
  | 52 => ⟨S8192x1024, .f32⟩
  | 53 => ⟨S8192x1024, .f32⟩
  | 54 => ⟨S8192x1024, .f32⟩
  | 55 => ⟨S8192x1024, .f32⟩
  | 56 => ⟨S8192x1024, .f32⟩
  | 57 => ⟨S_, .f32⟩
  | 58 => ⟨S1024, .f32⟩
  | 59 => ⟨S1x1024, .f32⟩
  | 60 => ⟨S_, .f32⟩
  | 61 => ⟨S8222x1024, .f32⟩
  | 62 => ⟨S_, .f32⟩
  | 63 => ⟨S31x1024, .f32⟩
  | 64 => ⟨S8192x1024, .f32⟩
  | 65 => ⟨S8192x1024, .f32⟩
  | 66 => ⟨S8192x1024, .f32⟩
  | 67 => ⟨S_, .f32⟩
  | 68 => ⟨S1024, .f32⟩
  | 69 => ⟨S1x1024, .f32⟩
  | 70 => ⟨S_, .f32⟩
  | 71 => ⟨S8222x1024, .f32⟩
  | 72 => ⟨S8222x1024, .f32⟩
  | 73 => ⟨S_, .f32⟩
  | 74 => ⟨S31x1024, .f32⟩
  | 75 => ⟨S31x1024, .f32⟩
  | 76 => ⟨S8192x1024, .f32⟩
  | 77 => ⟨S8192x1024, .f32⟩
  | 78 => ⟨S8192x1024, .f32⟩
  | 79 => ⟨S_, .f32⟩
  | 80 => ⟨S1024, .f32⟩
  | 81 => ⟨S1x1024, .f32⟩
  | 82 => ⟨S_, .f32⟩
  | 83 => ⟨S8222x1024, .f32⟩
  | 84 => ⟨S8222x1024, .f32⟩
  | 85 => ⟨S_, .f32⟩
  | 86 => ⟨S31x1024, .f32⟩
  | 87 => ⟨S31x1024, .f32⟩
  | 88 => ⟨S8192x1024, .f32⟩
  | 89 => ⟨S8192x1024, .f32⟩
  | 90 => ⟨S8192x1024, .f32⟩
  | 91 => ⟨S_, .f32⟩
  | 92 => ⟨S1024, .f32⟩
  | 93 => ⟨S1x1024, .f32⟩
  | 94 => ⟨S_, .f32⟩
  | 95 => ⟨S8222x1024, .f32⟩
  | 96 => ⟨S8222x1024, .f32⟩
  | 97 => ⟨S_, .f32⟩
  | 98 => ⟨S31x1024, .f32⟩
  | 99 => ⟨S31x1024, .f32⟩
  | 100 => ⟨S8192x1024, .f32⟩
  | 101 => ⟨S8192x1024, .f32⟩
  | 102 => ⟨S8192x1024, .f32⟩
  | 103 => ⟨S_, .f32⟩
  | 104 => ⟨S1024, .f32⟩
  | 105 => ⟨S1x1024, .f32⟩
  | 106 => ⟨S_, .f32⟩
  | 107 => ⟨S8222x1024, .f32⟩
  | 108 => ⟨S8222x1024, .f32⟩
  | 109 => ⟨S_, .f32⟩
  | 110 => ⟨S31x1024, .f32⟩
  | 111 => ⟨S31x1024, .f32⟩
  | 112 => ⟨S8192x1024, .f32⟩
  | 113 => ⟨S8192x1024, .f32⟩
  | 114 => ⟨S8192x1024, .f32⟩
  | 115 => ⟨S_, .f32⟩
  | 116 => ⟨S1024, .f32⟩
  | 117 => ⟨S1x1024, .f32⟩
  | 118 => ⟨S_, .f32⟩
  | 119 => ⟨S8222x1024, .f32⟩
  | 120 => ⟨S8222x1024, .f32⟩
  | 121 => ⟨S_, .f32⟩
  | 122 => ⟨S31x1024, .f32⟩
  | 123 => ⟨S31x1024, .f32⟩
  | 124 => ⟨S8192x1024, .f32⟩
  | 125 => ⟨S8192x1024, .f32⟩
  | 126 => ⟨S8192x1024, .f32⟩
  | 127 => ⟨S_, .f32⟩
  | _ => ⟨S8192x1024, .f32⟩

abbrev hbmTy0_2 (i : Nat) : BufTy := match i % 128 with
  | 0 => ⟨S1024, .f32⟩
  | 1 => ⟨S1x1024, .f32⟩
  | 2 => ⟨S_, .f32⟩
  | 3 => ⟨S8222x1024, .f32⟩
  | 4 => ⟨S8222x1024, .f32⟩
  | 5 => ⟨S_, .f32⟩
  | 6 => ⟨S31x1024, .f32⟩
  | 7 => ⟨S31x1024, .f32⟩
  | 8 => ⟨S8192x1024, .f32⟩
  | 9 => ⟨S8192x1024, .f32⟩
  | 10 => ⟨S8192x1024, .f32⟩
  | 11 => ⟨S_, .f32⟩
  | 12 => ⟨S1024, .f32⟩
  | 13 => ⟨S1x1024, .f32⟩
  | 14 => ⟨S_, .f32⟩
  | 15 => ⟨S8222x1024, .f32⟩
  | 16 => ⟨S8222x1024, .f32⟩
  | 17 => ⟨S_, .f32⟩
  | 18 => ⟨S31x1024, .f32⟩
  | 19 => ⟨S31x1024, .f32⟩
  | 20 => ⟨S8192x1024, .f32⟩
  | 21 => ⟨S8192x1024, .f32⟩
  | 22 => ⟨S8192x1024, .f32⟩
  | 23 => ⟨S_, .f32⟩
  | 24 => ⟨S1024, .f32⟩
  | 25 => ⟨S1x1024, .f32⟩
  | 26 => ⟨S_, .f32⟩
  | 27 => ⟨S8222x1024, .f32⟩
  | 28 => ⟨S8222x1024, .f32⟩
  | 29 => ⟨S_, .f32⟩
  | 30 => ⟨S31x1024, .f32⟩
  | 31 => ⟨S31x1024, .f32⟩
  | 32 => ⟨S8192x1024, .f32⟩
  | 33 => ⟨S8192x1024, .f32⟩
  | 34 => ⟨S8192x1024, .f32⟩
  | 35 => ⟨S_, .f32⟩
  | 36 => ⟨S1024, .f32⟩
  | 37 => ⟨S1x1024, .f32⟩
  | 38 => ⟨S_, .f32⟩
  | 39 => ⟨S8222x1024, .f32⟩
  | 40 => ⟨S8222x1024, .f32⟩
  | 41 => ⟨S_, .f32⟩
  | 42 => ⟨S31x1024, .f32⟩
  | 43 => ⟨S31x1024, .f32⟩
  | 44 => ⟨S8192x1024, .f32⟩
  | 45 => ⟨S8192x1024, .f32⟩
  | 46 => ⟨S8192x1024, .f32⟩
  | 47 => ⟨S_, .f32⟩
  | 48 => ⟨S1024, .f32⟩
  | 49 => ⟨S1x1024, .f32⟩
  | 50 => ⟨S_, .f32⟩
  | 51 => ⟨S8222x1024, .f32⟩
  | 52 => ⟨S8222x1024, .f32⟩
  | 53 => ⟨S_, .f32⟩
  | 54 => ⟨S31x1024, .f32⟩
  | 55 => ⟨S31x1024, .f32⟩
  | 56 => ⟨S8192x1024, .f32⟩
  | 57 => ⟨S8192x1024, .f32⟩
  | 58 => ⟨S8192x1024, .f32⟩
  | 59 => ⟨S_, .f32⟩
  | 60 => ⟨S1024, .f32⟩
  | 61 => ⟨S1x1024, .f32⟩
  | 62 => ⟨S_, .f32⟩
  | 63 => ⟨S8222x1024, .f32⟩
  | 64 => ⟨S8222x1024, .f32⟩
  | 65 => ⟨S_, .f32⟩
  | 66 => ⟨S31x1024, .f32⟩
  | 67 => ⟨S31x1024, .f32⟩
  | 68 => ⟨S8192x1024, .f32⟩
  | 69 => ⟨S8192x1024, .f32⟩
  | 70 => ⟨S8192x1024, .f32⟩
  | 71 => ⟨S_, .f32⟩
  | 72 => ⟨S1024, .f32⟩
  | 73 => ⟨S1x1024, .f32⟩
  | 74 => ⟨S_, .f32⟩
  | 75 => ⟨S8222x1024, .f32⟩
  | 76 => ⟨S8222x1024, .f32⟩
  | 77 => ⟨S_, .f32⟩
  | 78 => ⟨S31x1024, .f32⟩
  | 79 => ⟨S31x1024, .f32⟩
  | 80 => ⟨S8192x1024, .f32⟩
  | 81 => ⟨S8192x1024, .f32⟩
  | 82 => ⟨S8192x1024, .f32⟩
  | 83 => ⟨S_, .f32⟩
  | 84 => ⟨S1024, .f32⟩
  | 85 => ⟨S1x1024, .f32⟩
  | 86 => ⟨S_, .f32⟩
  | 87 => ⟨S8222x1024, .f32⟩
  | 88 => ⟨S8222x1024, .f32⟩
  | 89 => ⟨S_, .f32⟩
  | 90 => ⟨S31x1024, .f32⟩
  | 91 => ⟨S31x1024, .f32⟩
  | 92 => ⟨S8192x1024, .f32⟩
  | 93 => ⟨S8192x1024, .f32⟩
  | 94 => ⟨S8192x1024, .f32⟩
  | 95 => ⟨S_, .f32⟩
  | 96 => ⟨S1024, .f32⟩
  | 97 => ⟨S1x1024, .f32⟩
  | 98 => ⟨S_, .f32⟩
  | 99 => ⟨S8222x1024, .f32⟩
  | 100 => ⟨S8222x1024, .f32⟩
  | 101 => ⟨S_, .f32⟩
  | 102 => ⟨S31x1024, .f32⟩
  | 103 => ⟨S31x1024, .f32⟩
  | 104 => ⟨S8192x1024, .f32⟩
  | 105 => ⟨S8192x1024, .f32⟩
  | 106 => ⟨S8192x1024, .f32⟩
  | 107 => ⟨S_, .f32⟩
  | 108 => ⟨S1024, .f32⟩
  | 109 => ⟨S1x1024, .f32⟩
  | 110 => ⟨S_, .f32⟩
  | 111 => ⟨S8222x1024, .f32⟩
  | 112 => ⟨S8222x1024, .f32⟩
  | 113 => ⟨S_, .f32⟩
  | 114 => ⟨S31x1024, .f32⟩
  | 115 => ⟨S31x1024, .f32⟩
  | 116 => ⟨S8192x1024, .f32⟩
  | 117 => ⟨S8192x1024, .f32⟩
  | 118 => ⟨S8192x1024, .f32⟩
  | 119 => ⟨S_, .f32⟩
  | 120 => ⟨S1024, .f32⟩
  | 121 => ⟨S1x1024, .f32⟩
  | 122 => ⟨S_, .f32⟩
  | 123 => ⟨S8222x1024, .f32⟩
  | 124 => ⟨S8222x1024, .f32⟩
  | 125 => ⟨S_, .f32⟩
  | 126 => ⟨S31x1024, .f32⟩
  | 127 => ⟨S31x1024, .f32⟩
  | _ => ⟨S8192x1024, .f32⟩

abbrev hbmTy0_3 (i : Nat) : BufTy := match i % 128 with
  | 0 => ⟨S8192x1024, .f32⟩
  | 1 => ⟨S8192x1024, .f32⟩
  | 2 => ⟨S8192x1024, .f32⟩
  | 3 => ⟨S_, .f32⟩
  | 4 => ⟨S1024, .f32⟩
  | 5 => ⟨S1x1024, .f32⟩
  | 6 => ⟨S_, .f32⟩
  | 7 => ⟨S8222x1024, .f32⟩
  | 8 => ⟨S8222x1024, .f32⟩
  | 9 => ⟨S_, .f32⟩
  | 10 => ⟨S31x1024, .f32⟩
  | 11 => ⟨S31x1024, .f32⟩
  | 12 => ⟨S8192x1024, .f32⟩
  | 13 => ⟨S8192x1024, .f32⟩
  | 14 => ⟨S8192x1024, .f32⟩
  | 15 => ⟨S_, .f32⟩
  | 16 => ⟨S1024, .f32⟩
  | 17 => ⟨S1x1024, .f32⟩
  | 18 => ⟨S_, .f32⟩
  | 19 => ⟨S8222x1024, .f32⟩
  | 20 => ⟨S8222x1024, .f32⟩
  | 21 => ⟨S_, .f32⟩
  | 22 => ⟨S31x1024, .f32⟩
  | 23 => ⟨S31x1024, .f32⟩
  | 24 => ⟨S8192x1024, .f32⟩
  | 25 => ⟨S8192x1024, .f32⟩
  | 26 => ⟨S8192x1024, .f32⟩
  | 27 => ⟨S_, .f32⟩
  | 28 => ⟨S1024, .f32⟩
  | 29 => ⟨S1x1024, .f32⟩
  | 30 => ⟨S_, .f32⟩
  | 31 => ⟨S8222x1024, .f32⟩
  | 32 => ⟨S8222x1024, .f32⟩
  | 33 => ⟨S_, .f32⟩
  | 34 => ⟨S31x1024, .f32⟩
  | 35 => ⟨S31x1024, .f32⟩
  | 36 => ⟨S8192x1024, .f32⟩
  | 37 => ⟨S8192x1024, .f32⟩
  | 38 => ⟨S8192x1024, .f32⟩
  | 39 => ⟨S_, .f32⟩
  | 40 => ⟨S1024, .f32⟩
  | 41 => ⟨S1x1024, .f32⟩
  | 42 => ⟨S_, .f32⟩
  | 43 => ⟨S8222x1024, .f32⟩
  | 44 => ⟨S8222x1024, .f32⟩
  | 45 => ⟨S_, .f32⟩
  | 46 => ⟨S31x1024, .f32⟩
  | 47 => ⟨S31x1024, .f32⟩
  | 48 => ⟨S8192x1024, .f32⟩
  | 49 => ⟨S8192x1024, .f32⟩
  | 50 => ⟨S8192x1024, .f32⟩
  | 51 => ⟨S_, .f32⟩
  | 52 => ⟨S1024, .f32⟩
  | 53 => ⟨S1x1024, .f32⟩
  | 54 => ⟨S_, .f32⟩
  | 55 => ⟨S8222x1024, .f32⟩
  | 56 => ⟨S8222x1024, .f32⟩
  | 57 => ⟨S_, .f32⟩
  | 58 => ⟨S31x1024, .f32⟩
  | 59 => ⟨S31x1024, .f32⟩
  | 60 => ⟨S8192x1024, .f32⟩
  | 61 => ⟨S8192x1024, .f32⟩
  | 62 => ⟨S8192x1024, .f32⟩
  | 63 => ⟨S_, .f32⟩
  | 64 => ⟨S1024, .f32⟩
  | 65 => ⟨S1x1024, .f32⟩
  | 66 => ⟨S_, .f32⟩
  | 67 => ⟨S8222x1024, .f32⟩
  | 68 => ⟨S8222x1024, .f32⟩
  | 69 => ⟨S_, .f32⟩
  | 70 => ⟨S31x1024, .f32⟩
  | 71 => ⟨S31x1024, .f32⟩
  | 72 => ⟨S8192x1024, .f32⟩
  | 73 => ⟨S8192x1024, .f32⟩
  | 74 => ⟨S8192x1024, .f32⟩
  | 75 => ⟨S_, .f32⟩
  | 76 => ⟨S1024, .f32⟩
  | 77 => ⟨S1x1024, .f32⟩
  | 78 => ⟨S_, .f32⟩
  | 79 => ⟨S8222x1024, .f32⟩
  | 80 => ⟨S8222x1024, .f32⟩
  | 81 => ⟨S_, .f32⟩
  | 82 => ⟨S31x1024, .f32⟩
  | 83 => ⟨S31x1024, .f32⟩
  | 84 => ⟨S8192x1024, .f32⟩
  | 85 => ⟨S8192x1024, .f32⟩
  | 86 => ⟨S8192x1024, .f32⟩
  | 87 => ⟨S_, .f32⟩
  | 88 => ⟨S1024, .f32⟩
  | 89 => ⟨S1x1024, .f32⟩
  | 90 => ⟨S_, .f32⟩
  | 91 => ⟨S8222x1024, .f32⟩
  | 92 => ⟨S8222x1024, .f32⟩
  | 93 => ⟨S_, .f32⟩
  | 94 => ⟨S31x1024, .f32⟩
  | 95 => ⟨S31x1024, .f32⟩
  | 96 => ⟨S8192x1024, .f32⟩
  | 97 => ⟨S8192x1024, .f32⟩
  | 98 => ⟨S8192x1024, .f32⟩
  | 99 => ⟨S_, .f32⟩
  | 100 => ⟨S1024, .f32⟩
  | 101 => ⟨S1x1024, .f32⟩
  | 102 => ⟨S_, .f32⟩
  | 103 => ⟨S8222x1024, .f32⟩
  | 104 => ⟨S8222x1024, .f32⟩
  | 105 => ⟨S_, .f32⟩
  | 106 => ⟨S31x1024, .f32⟩
  | 107 => ⟨S31x1024, .f32⟩
  | 108 => ⟨S8192x1024, .f32⟩
  | 109 => ⟨S8192x1024, .f32⟩
  | 110 => ⟨S8192x1024, .f32⟩
  | 111 => ⟨S_, .f32⟩
  | 112 => ⟨S1024, .f32⟩
  | 113 => ⟨S1x1024, .f32⟩
  | 114 => ⟨S_, .f32⟩
  | 115 => ⟨S8222x1024, .f32⟩
  | 116 => ⟨S8222x1024, .f32⟩
  | 117 => ⟨S_, .f32⟩
  | 118 => ⟨S31x1024, .f32⟩
  | 119 => ⟨S31x1024, .f32⟩
  | 120 => ⟨S8192x1024, .f32⟩
  | 121 => ⟨S8192x1024, .f32⟩
  | 122 => ⟨S8192x1024, .f32⟩
  | 123 => ⟨S_, .f32⟩
  | 124 => ⟨S1024, .f32⟩
  | 125 => ⟨S1x1024, .f32⟩
  | 126 => ⟨S_, .f32⟩
  | 127 => ⟨S8222x1024, .f32⟩
  | _ => ⟨S8192x1024, .f32⟩

abbrev hbmTy0_4 (i : Nat) : BufTy := match i % 128 with
  | 0 => ⟨S8222x1024, .f32⟩
  | 1 => ⟨S_, .f32⟩
  | 2 => ⟨S31x1024, .f32⟩
  | 3 => ⟨S31x1024, .f32⟩
  | 4 => ⟨S8192x1024, .f32⟩
  | 5 => ⟨S8192x1024, .f32⟩
  | 6 => ⟨S8192x1024, .f32⟩
  | 7 => ⟨S_, .f32⟩
  | 8 => ⟨S1024, .f32⟩
  | 9 => ⟨S1x1024, .f32⟩
  | 10 => ⟨S_, .f32⟩
  | 11 => ⟨S8222x1024, .f32⟩
  | 12 => ⟨S8222x1024, .f32⟩
  | 13 => ⟨S_, .f32⟩
  | 14 => ⟨S31x1024, .f32⟩
  | 15 => ⟨S31x1024, .f32⟩
  | 16 => ⟨S8192x1024, .f32⟩
  | 17 => ⟨S8192x1024, .f32⟩
  | 18 => ⟨S8192x1024, .f32⟩
  | 19 => ⟨S_, .f32⟩
  | 20 => ⟨S1024, .f32⟩
  | 21 => ⟨S1x1024, .f32⟩
  | 22 => ⟨S_, .f32⟩
  | 23 => ⟨S8222x1024, .f32⟩
  | 24 => ⟨S8222x1024, .f32⟩
  | 25 => ⟨S_, .f32⟩
  | 26 => ⟨S31x1024, .f32⟩
  | 27 => ⟨S31x1024, .f32⟩
  | 28 => ⟨S8192x1024, .f32⟩
  | 29 => ⟨S8192x1024, .f32⟩
  | 30 => ⟨S8192x1024, .f32⟩
  | 31 => ⟨S_, .f32⟩
  | 32 => ⟨S1024, .f32⟩
  | 33 => ⟨S1x1024, .f32⟩
  | 34 => ⟨S_, .f32⟩
  | 35 => ⟨S8222x1024, .f32⟩
  | 36 => ⟨S8222x1024, .f32⟩
  | 37 => ⟨S_, .f32⟩
  | 38 => ⟨S31x1024, .f32⟩
  | 39 => ⟨S31x1024, .f32⟩
  | 40 => ⟨S30x1024, .f32⟩
  | 41 => ⟨S8192x1024, .f32⟩
  | 42 => ⟨S8192x1024, .f32⟩
  | 43 => ⟨S8192x1024, .f32⟩
  | 44 => ⟨S8192x1024, .f32⟩
  | 45 => ⟨S8192x2048, .f32⟩
  | 46 => ⟨S8192x2048, .bf16⟩
  | 47 => ⟨S_, .i32⟩
  | 48 => ⟨S_, .f32⟩
  | 49 => ⟨S32x1024, .f32⟩
  | 50 => ⟨S_, .f32⟩
  | 51 => ⟨S2048, .f32⟩
  | 52 => ⟨S1x2048, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_v56 : Ref sig .tc := ⟨.hbm, 65, rfl⟩
abbrev main_v57 : Ref sig .tc := ⟨.hbm, 66, rfl⟩
abbrev main_v58 : Ref sig .tc := ⟨.hbm, 67, rfl⟩
abbrev main_v59 : Ref sig .tc := ⟨.hbm, 68, rfl⟩
abbrev main_v60 : Ref sig .tc := ⟨.hbm, 69, rfl⟩
abbrev main_v61 : Ref sig .tc := ⟨.hbm, 70, rfl⟩
abbrev main_v62 : Ref sig .tc := ⟨.hbm, 71, rfl⟩
abbrev main_v63 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_v71 : Ref sig .tc := ⟨.hbm, 80, rfl⟩
abbrev main_v72 : Ref sig .tc := ⟨.hbm, 81, rfl⟩
abbrev main_v73 : Ref sig .tc := ⟨.hbm, 82, rfl⟩
abbrev main_v74 : Ref sig .tc := ⟨.hbm, 83, rfl⟩
abbrev main_v75 : Ref sig .tc := ⟨.hbm, 84, rfl⟩
abbrev main_v76 : Ref sig .tc := ⟨.hbm, 85, rfl⟩
abbrev main_v77 : Ref sig .tc := ⟨.hbm, 86, rfl⟩
abbrev main_v78 : Ref sig .tc := ⟨.hbm, 87, rfl⟩
abbrev main_v79 : Ref sig .tc := ⟨.hbm, 88, rfl⟩
abbrev main_v80 : Ref sig .tc := ⟨.hbm, 89, rfl⟩
abbrev main_v81 : Ref sig .tc := ⟨.hbm, 90, rfl⟩
abbrev main_v82 : Ref sig .tc := ⟨.hbm, 91, rfl⟩
abbrev main_v83 : Ref sig .tc := ⟨.hbm, 92, rfl⟩
abbrev main_v84 : Ref sig .tc := ⟨.hbm, 93, rfl⟩
abbrev main_v85 : Ref sig .tc := ⟨.hbm, 94, rfl⟩
abbrev main_v86 : Ref sig .tc := ⟨.hbm, 95, rfl⟩
abbrev main_v87 : Ref sig .tc := ⟨.hbm, 96, rfl⟩
abbrev main_v88 : Ref sig .tc := ⟨.hbm, 97, rfl⟩
abbrev main_v89 : Ref sig .tc := ⟨.hbm, 98, rfl⟩
abbrev main_v90 : Ref sig .tc := ⟨.hbm, 99, rfl⟩
abbrev main_v91 : Ref sig .tc := ⟨.hbm, 100, rfl⟩
abbrev main_v92 : Ref sig .tc := ⟨.hbm, 101, rfl⟩
abbrev main_v93 : Ref sig .tc := ⟨.hbm, 102, rfl⟩
abbrev main_v94 : Ref sig .tc := ⟨.hbm, 103, rfl⟩
abbrev main_v95 : Ref sig .tc := ⟨.hbm, 104, rfl⟩
abbrev main_v96 : Ref sig .tc := ⟨.hbm, 105, rfl⟩
abbrev main_v97 : Ref sig .tc := ⟨.hbm, 106, rfl⟩
abbrev main_v98 : Ref sig .tc := ⟨.hbm, 107, rfl⟩
abbrev main_v99 : Ref sig .tc := ⟨.hbm, 108, rfl⟩
abbrev main_v100 : Ref sig .tc := ⟨.hbm, 109, rfl⟩
abbrev main_v101 : Ref sig .tc := ⟨.hbm, 110, rfl⟩
abbrev main_v102 : Ref sig .tc := ⟨.hbm, 111, rfl⟩
abbrev main_v103 : Ref sig .tc := ⟨.hbm, 112, rfl⟩
abbrev main_v104 : Ref sig .tc := ⟨.hbm, 113, rfl⟩
abbrev main_v105 : Ref sig .tc := ⟨.hbm, 114, rfl⟩
abbrev main_v106 : Ref sig .tc := ⟨.hbm, 115, rfl⟩
abbrev main_v107 : Ref sig .tc := ⟨.hbm, 116, rfl⟩
abbrev main_v108 : Ref sig .tc := ⟨.hbm, 117, rfl⟩
abbrev main_v109 : Ref sig .tc := ⟨.hbm, 118, rfl⟩
abbrev main_v110 : Ref sig .tc := ⟨.hbm, 119, rfl⟩
abbrev main_v111 : Ref sig .tc := ⟨.hbm, 120, rfl⟩
abbrev main_v112 : Ref sig .tc := ⟨.hbm, 121, rfl⟩
abbrev main_v113 : Ref sig .tc := ⟨.hbm, 122, rfl⟩
abbrev main_v114 : Ref sig .tc := ⟨.hbm, 123, rfl⟩
abbrev main_v115 : Ref sig .tc := ⟨.hbm, 124, rfl⟩
abbrev main_v116 : Ref sig .tc := ⟨.hbm, 125, rfl⟩
abbrev main_v117 : Ref sig .tc := ⟨.hbm, 126, rfl⟩
abbrev main_v118 : Ref sig .tc := ⟨.hbm, 127, rfl⟩
abbrev main_v119 : Ref sig .tc := ⟨.hbm, 128, rfl⟩
abbrev main_v120 : Ref sig .tc := ⟨.hbm, 129, rfl⟩
abbrev main_v121 : Ref sig .tc := ⟨.hbm, 130, rfl⟩
abbrev main_v122 : Ref sig .tc := ⟨.hbm, 131, rfl⟩
abbrev main_v123 : Ref sig .tc := ⟨.hbm, 132, rfl⟩
abbrev main_v124 : Ref sig .tc := ⟨.hbm, 133, rfl⟩
abbrev main_v125 : Ref sig .tc := ⟨.hbm, 134, rfl⟩
abbrev main_v126 : Ref sig .tc := ⟨.hbm, 135, rfl⟩
abbrev main_v127 : Ref sig .tc := ⟨.hbm, 136, rfl⟩
abbrev main_v128 : Ref sig .tc := ⟨.hbm, 137, rfl⟩
abbrev main_v129 : Ref sig .tc := ⟨.hbm, 138, rfl⟩
abbrev main_v130 : Ref sig .tc := ⟨.hbm, 139, rfl⟩
abbrev main_v131 : Ref sig .tc := ⟨.hbm, 140, rfl⟩
abbrev main_v132 : Ref sig .tc := ⟨.hbm, 141, rfl⟩
abbrev main_v133 : Ref sig .tc := ⟨.hbm, 142, rfl⟩
abbrev main_v134 : Ref sig .tc := ⟨.hbm, 143, rfl⟩
abbrev main_v135 : Ref sig .tc := ⟨.hbm, 144, rfl⟩
abbrev main_v136 : Ref sig .tc := ⟨.hbm, 145, rfl⟩
abbrev main_v137 : Ref sig .tc := ⟨.hbm, 146, rfl⟩
abbrev main_v138 : Ref sig .tc := ⟨.hbm, 147, rfl⟩
abbrev main_v139 : Ref sig .tc := ⟨.hbm, 148, rfl⟩
abbrev main_v140 : Ref sig .tc := ⟨.hbm, 149, rfl⟩
abbrev main_v141 : Ref sig .tc := ⟨.hbm, 150, rfl⟩
abbrev main_v142 : Ref sig .tc := ⟨.hbm, 151, rfl⟩
abbrev main_v143 : Ref sig .tc := ⟨.hbm, 152, rfl⟩
abbrev main_v144 : Ref sig .tc := ⟨.hbm, 153, rfl⟩
abbrev main_v145 : Ref sig .tc := ⟨.hbm, 154, rfl⟩
abbrev main_v146 : Ref sig .tc := ⟨.hbm, 155, rfl⟩
abbrev main_v147 : Ref sig .tc := ⟨.hbm, 156, rfl⟩
abbrev main_v148 : Ref sig .tc := ⟨.hbm, 157, rfl⟩
abbrev main_v149 : Ref sig .tc := ⟨.hbm, 158, rfl⟩
abbrev main_v150 : Ref sig .tc := ⟨.hbm, 159, rfl⟩
abbrev main_v151 : Ref sig .tc := ⟨.hbm, 160, rfl⟩
abbrev main_v152 : Ref sig .tc := ⟨.hbm, 161, rfl⟩
abbrev main_v153 : Ref sig .tc := ⟨.hbm, 162, rfl⟩
abbrev main_v154 : Ref sig .tc := ⟨.hbm, 163, rfl⟩
abbrev main_v155 : Ref sig .tc := ⟨.hbm, 164, rfl⟩
abbrev main_v156 : Ref sig .tc := ⟨.hbm, 165, rfl⟩
abbrev main_v157 : Ref sig .tc := ⟨.hbm, 166, rfl⟩
abbrev main_v158 : Ref sig .tc := ⟨.hbm, 167, rfl⟩
abbrev main_v159 : Ref sig .tc := ⟨.hbm, 168, rfl⟩
abbrev main_v160 : Ref sig .tc := ⟨.hbm, 169, rfl⟩
abbrev main_v161 : Ref sig .tc := ⟨.hbm, 170, rfl⟩
abbrev main_v162 : Ref sig .tc := ⟨.hbm, 171, rfl⟩
abbrev main_v163 : Ref sig .tc := ⟨.hbm, 172, rfl⟩
abbrev main_v164 : Ref sig .tc := ⟨.hbm, 173, rfl⟩
abbrev main_v165 : Ref sig .tc := ⟨.hbm, 174, rfl⟩
abbrev main_v166 : Ref sig .tc := ⟨.hbm, 175, rfl⟩
abbrev main_v167 : Ref sig .tc := ⟨.hbm, 176, rfl⟩
abbrev main_v168 : Ref sig .tc := ⟨.hbm, 177, rfl⟩
abbrev main_v169 : Ref sig .tc := ⟨.hbm, 178, rfl⟩
abbrev main_v170 : Ref sig .tc := ⟨.hbm, 179, rfl⟩
abbrev main_v171 : Ref sig .tc := ⟨.hbm, 180, rfl⟩
abbrev main_v172 : Ref sig .tc := ⟨.hbm, 181, rfl⟩
abbrev main_v173 : Ref sig .tc := ⟨.hbm, 182, rfl⟩
abbrev main_v174 : Ref sig .tc := ⟨.hbm, 183, rfl⟩
abbrev main_v175 : Ref sig .tc := ⟨.hbm, 184, rfl⟩
abbrev main_cst_5 : Ref sig .tc := ⟨.hbm, 185, rfl⟩
abbrev main_v176 : Ref sig .tc := ⟨.hbm, 186, rfl⟩
abbrev main_v177 : Ref sig .tc := ⟨.hbm, 187, rfl⟩
abbrev main_cst_6 : Ref sig .tc := ⟨.hbm, 188, rfl⟩
abbrev main_v178 : Ref sig .tc := ⟨.hbm, 189, rfl⟩
abbrev main_cst_7 : Ref sig .tc := ⟨.hbm, 190, rfl⟩
abbrev main_v179 : Ref sig .tc := ⟨.hbm, 191, rfl⟩
abbrev main_v180 : Ref sig .tc := ⟨.hbm, 192, rfl⟩
abbrev main_v181 : Ref sig .tc := ⟨.hbm, 193, rfl⟩
abbrev main_v182 : Ref sig .tc := ⟨.hbm, 194, rfl⟩
abbrev main_cst_8 : Ref sig .tc := ⟨.hbm, 195, rfl⟩
abbrev main_v183 : Ref sig .tc := ⟨.hbm, 196, rfl⟩
abbrev main_v184 : Ref sig .tc := ⟨.hbm, 197, rfl⟩
abbrev main_cst_9 : Ref sig .tc := ⟨.hbm, 198, rfl⟩
abbrev main_v185 : Ref sig .tc := ⟨.hbm, 199, rfl⟩
abbrev main_v186 : Ref sig .tc := ⟨.hbm, 200, rfl⟩
abbrev main_cst_10 : Ref sig .tc := ⟨.hbm, 201, rfl⟩
abbrev main_v187 : Ref sig .tc := ⟨.hbm, 202, rfl⟩
abbrev main_v188 : Ref sig .tc := ⟨.hbm, 203, rfl⟩
abbrev main_v189 : Ref sig .tc := ⟨.hbm, 204, rfl⟩
abbrev main_v190 : Ref sig .tc := ⟨.hbm, 205, rfl⟩
abbrev main_v191 : Ref sig .tc := ⟨.hbm, 206, rfl⟩
abbrev main_cst_11 : Ref sig .tc := ⟨.hbm, 207, rfl⟩
abbrev main_v192 : Ref sig .tc := ⟨.hbm, 208, rfl⟩
abbrev main_v193 : Ref sig .tc := ⟨.hbm, 209, rfl⟩
abbrev main_cst_12 : Ref sig .tc := ⟨.hbm, 210, rfl⟩
abbrev main_v194 : Ref sig .tc := ⟨.hbm, 211, rfl⟩
abbrev main_v195 : Ref sig .tc := ⟨.hbm, 212, rfl⟩
abbrev main_cst_13 : Ref sig .tc := ⟨.hbm, 213, rfl⟩
abbrev main_v196 : Ref sig .tc := ⟨.hbm, 214, rfl⟩
abbrev main_v197 : Ref sig .tc := ⟨.hbm, 215, rfl⟩
abbrev main_v198 : Ref sig .tc := ⟨.hbm, 216, rfl⟩
abbrev main_v199 : Ref sig .tc := ⟨.hbm, 217, rfl⟩
abbrev main_v200 : Ref sig .tc := ⟨.hbm, 218, rfl⟩
abbrev main_cst_14 : Ref sig .tc := ⟨.hbm, 219, rfl⟩
abbrev main_v201 : Ref sig .tc := ⟨.hbm, 220, rfl⟩
abbrev main_v202 : Ref sig .tc := ⟨.hbm, 221, rfl⟩
abbrev main_cst_15 : Ref sig .tc := ⟨.hbm, 222, rfl⟩
abbrev main_v203 : Ref sig .tc := ⟨.hbm, 223, rfl⟩
abbrev main_v204 : Ref sig .tc := ⟨.hbm, 224, rfl⟩
abbrev main_cst_16 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_cst_17 : Ref sig .tc := ⟨.hbm, 231, rfl⟩
abbrev main_v210 : Ref sig .tc := ⟨.hbm, 232, rfl⟩
abbrev main_v211 : Ref sig .tc := ⟨.hbm, 233, rfl⟩
abbrev main_cst_18 : Ref sig .tc := ⟨.hbm, 234, rfl⟩
abbrev main_v212 : Ref sig .tc := ⟨.hbm, 235, rfl⟩
abbrev main_v213 : Ref sig .tc := ⟨.hbm, 236, rfl⟩
abbrev main_cst_19 : Ref sig .tc := ⟨.hbm, 237, rfl⟩
abbrev main_v214 : Ref sig .tc := ⟨.hbm, 238, rfl⟩
abbrev main_v215 : Ref sig .tc := ⟨.hbm, 239, rfl⟩
abbrev main_v216 : Ref sig .tc := ⟨.hbm, 240, rfl⟩
abbrev main_v217 : Ref sig .tc := ⟨.hbm, 241, rfl⟩
abbrev main_v218 : Ref sig .tc := ⟨.hbm, 242, rfl⟩
abbrev main_cst_20 : Ref sig .tc := ⟨.hbm, 243, rfl⟩
abbrev main_v219 : Ref sig .tc := ⟨.hbm, 244, rfl⟩
abbrev main_v220 : Ref sig .tc := ⟨.hbm, 245, rfl⟩
abbrev main_cst_21 : Ref sig .tc := ⟨.hbm, 246, rfl⟩
abbrev main_v221 : Ref sig .tc := ⟨.hbm, 247, rfl⟩
abbrev main_v222 : Ref sig .tc := ⟨.hbm, 248, rfl⟩
abbrev main_cst_22 : Ref sig .tc := ⟨.hbm, 249, rfl⟩
abbrev main_v223 : Ref sig .tc := ⟨.hbm, 250, rfl⟩
abbrev main_v224 : Ref sig .tc := ⟨.hbm, 251, rfl⟩
abbrev main_v225 : Ref sig .tc := ⟨.hbm, 252, rfl⟩
abbrev main_v226 : Ref sig .tc := ⟨.hbm, 253, rfl⟩
abbrev main_v227 : Ref sig .tc := ⟨.hbm, 254, rfl⟩
abbrev main_cst_23 : Ref sig .tc := ⟨.hbm, 255, rfl⟩
abbrev main_v228 : Ref sig .tc := ⟨.hbm, 256, rfl⟩
abbrev main_v229 : Ref sig .tc := ⟨.hbm, 257, rfl⟩
abbrev main_cst_24 : Ref sig .tc := ⟨.hbm, 258, rfl⟩
abbrev main_v230 : Ref sig .tc := ⟨.hbm, 259, rfl⟩
abbrev main_v231 : Ref sig .tc := ⟨.hbm, 260, rfl⟩
abbrev main_cst_25 : Ref sig .tc := ⟨.hbm, 261, rfl⟩
abbrev main_v232 : Ref sig .tc := ⟨.hbm, 262, rfl⟩
abbrev main_v233 : Ref sig .tc := ⟨.hbm, 263, rfl⟩
abbrev main_v234 : Ref sig .tc := ⟨.hbm, 264, rfl⟩
abbrev main_v235 : Ref sig .tc := ⟨.hbm, 265, rfl⟩
abbrev main_v236 : Ref sig .tc := ⟨.hbm, 266, rfl⟩
abbrev main_cst_26 : Ref sig .tc := ⟨.hbm, 267, rfl⟩
abbrev main_v237 : Ref sig .tc := ⟨.hbm, 268, rfl⟩
abbrev main_v238 : Ref sig .tc := ⟨.hbm, 269, rfl⟩
abbrev main_cst_27 : Ref sig .tc := ⟨.hbm, 270, rfl⟩
abbrev main_v239 : Ref sig .tc := ⟨.hbm, 271, rfl⟩
abbrev main_v240 : Ref sig .tc := ⟨.hbm, 272, rfl⟩
abbrev main_cst_28 : Ref sig .tc := ⟨.hbm, 273, rfl⟩
abbrev main_v241 : Ref sig .tc := ⟨.hbm, 274, rfl⟩
abbrev main_v242 : Ref sig .tc := ⟨.hbm, 275, rfl⟩
abbrev main_v243 : Ref sig .tc := ⟨.hbm, 276, rfl⟩
abbrev main_v244 : Ref sig .tc := ⟨.hbm, 277, rfl⟩
abbrev main_v245 : Ref sig .tc := ⟨.hbm, 278, rfl⟩
abbrev main_cst_29 : Ref sig .tc := ⟨.hbm, 279, rfl⟩
abbrev main_v246 : Ref sig .tc := ⟨.hbm, 280, rfl⟩
abbrev main_v247 : Ref sig .tc := ⟨.hbm, 281, rfl⟩
abbrev main_cst_30 : Ref sig .tc := ⟨.hbm, 282, rfl⟩
abbrev main_v248 : Ref sig .tc := ⟨.hbm, 283, rfl⟩
abbrev main_v249 : Ref sig .tc := ⟨.hbm, 284, rfl⟩
abbrev main_cst_31 : Ref sig .tc := ⟨.hbm, 285, rfl⟩
abbrev main_v250 : Ref sig .tc := ⟨.hbm, 286, rfl⟩
abbrev main_v251 : Ref sig .tc := ⟨.hbm, 287, rfl⟩
abbrev main_v252 : Ref sig .tc := ⟨.hbm, 288, rfl⟩
abbrev main_v253 : Ref sig .tc := ⟨.hbm, 289, rfl⟩
abbrev main_v254 : Ref sig .tc := ⟨.hbm, 290, rfl⟩
abbrev main_cst_32 : Ref sig .tc := ⟨.hbm, 291, rfl⟩
abbrev main_v255 : Ref sig .tc := ⟨.hbm, 292, rfl⟩
abbrev main_v256 : Ref sig .tc := ⟨.hbm, 293, rfl⟩
abbrev main_cst_33 : Ref sig .tc := ⟨.hbm, 294, rfl⟩
abbrev main_v257 : Ref sig .tc := ⟨.hbm, 295, rfl⟩
abbrev main_v258 : Ref sig .tc := ⟨.hbm, 296, rfl⟩
abbrev main_cst_34 : Ref sig .tc := ⟨.hbm, 297, rfl⟩
abbrev main_v259 : Ref sig .tc := ⟨.hbm, 298, rfl⟩
abbrev main_v260 : Ref sig .tc := ⟨.hbm, 299, rfl⟩
abbrev main_v261 : Ref sig .tc := ⟨.hbm, 300, rfl⟩
abbrev main_v262 : Ref sig .tc := ⟨.hbm, 301, rfl⟩
abbrev main_v263 : Ref sig .tc := ⟨.hbm, 302, rfl⟩
abbrev main_cst_35 : Ref sig .tc := ⟨.hbm, 303, rfl⟩
abbrev main_v264 : Ref sig .tc := ⟨.hbm, 304, rfl⟩
abbrev main_v265 : Ref sig .tc := ⟨.hbm, 305, rfl⟩
abbrev main_cst_36 : Ref sig .tc := ⟨.hbm, 306, rfl⟩
abbrev main_v266 : Ref sig .tc := ⟨.hbm, 307, rfl⟩
abbrev main_v267 : Ref sig .tc := ⟨.hbm, 308, rfl⟩
abbrev main_cst_37 : Ref sig .tc := ⟨.hbm, 309, rfl⟩
abbrev main_v268 : Ref sig .tc := ⟨.hbm, 310, rfl⟩
abbrev main_v269 : Ref sig .tc := ⟨.hbm, 311, rfl⟩
abbrev main_v270 : Ref sig .tc := ⟨.hbm, 312, rfl⟩
abbrev main_v271 : Ref sig .tc := ⟨.hbm, 313, rfl⟩
abbrev main_v272 : Ref sig .tc := ⟨.hbm, 314, rfl⟩
abbrev main_cst_38 : Ref sig .tc := ⟨.hbm, 315, rfl⟩
abbrev main_v273 : Ref sig .tc := ⟨.hbm, 316, rfl⟩
abbrev main_v274 : Ref sig .tc := ⟨.hbm, 317, rfl⟩
abbrev main_cst_39 : Ref sig .tc := ⟨.hbm, 318, rfl⟩
abbrev main_v275 : Ref sig .tc := ⟨.hbm, 319, rfl⟩
abbrev main_v276 : Ref sig .tc := ⟨.hbm, 320, rfl⟩
abbrev main_cst_40 : Ref sig .tc := ⟨.hbm, 321, rfl⟩
abbrev main_v277 : Ref sig .tc := ⟨.hbm, 322, rfl⟩
abbrev main_v278 : Ref sig .tc := ⟨.hbm, 323, rfl⟩
abbrev main_v279 : Ref sig .tc := ⟨.hbm, 324, rfl⟩
abbrev main_v280 : Ref sig .tc := ⟨.hbm, 325, rfl⟩
abbrev main_v281 : Ref sig .tc := ⟨.hbm, 326, rfl⟩
abbrev main_cst_41 : Ref sig .tc := ⟨.hbm, 327, rfl⟩
abbrev main_v282 : Ref sig .tc := ⟨.hbm, 328, rfl⟩
abbrev main_v283 : Ref sig .tc := ⟨.hbm, 329, rfl⟩
abbrev main_cst_42 : Ref sig .tc := ⟨.hbm, 330, rfl⟩
abbrev main_v284 : Ref sig .tc := ⟨.hbm, 331, rfl⟩
abbrev main_v285 : Ref sig .tc := ⟨.hbm, 332, rfl⟩
abbrev main_cst_43 : Ref sig .tc := ⟨.hbm, 333, rfl⟩
abbrev main_v286 : Ref sig .tc := ⟨.hbm, 334, rfl⟩
abbrev main_v287 : Ref sig .tc := ⟨.hbm, 335, rfl⟩
abbrev main_v288 : Ref sig .tc := ⟨.hbm, 336, rfl⟩
abbrev main_v289 : Ref sig .tc := ⟨.hbm, 337, rfl⟩
abbrev main_v290 : Ref sig .tc := ⟨.hbm, 338, rfl⟩
abbrev main_cst_44 : Ref sig .tc := ⟨.hbm, 339, rfl⟩
abbrev main_v291 : Ref sig .tc := ⟨.hbm, 340, rfl⟩
abbrev main_v292 : Ref sig .tc := ⟨.hbm, 341, rfl⟩
abbrev main_cst_45 : Ref sig .tc := ⟨.hbm, 342, rfl⟩
abbrev main_v293 : Ref sig .tc := ⟨.hbm, 343, rfl⟩
abbrev main_v294 : Ref sig .tc := ⟨.hbm, 344, rfl⟩
abbrev main_cst_46 : Ref sig .tc := ⟨.hbm, 345, rfl⟩
abbrev main_v295 : Ref sig .tc := ⟨.hbm, 346, rfl⟩
abbrev main_v296 : Ref sig .tc := ⟨.hbm, 347, rfl⟩
abbrev main_v297 : Ref sig .tc := ⟨.hbm, 348, rfl⟩
abbrev main_v298 : Ref sig .tc := ⟨.hbm, 349, rfl⟩
abbrev main_v299 : Ref sig .tc := ⟨.hbm, 350, rfl⟩
abbrev main_cst_47 : Ref sig .tc := ⟨.hbm, 351, rfl⟩
abbrev main_v300 : Ref sig .tc := ⟨.hbm, 352, rfl⟩
abbrev main_v301 : Ref sig .tc := ⟨.hbm, 353, rfl⟩
abbrev main_cst_48 : Ref sig .tc := ⟨.hbm, 354, rfl⟩
abbrev main_v302 : Ref sig .tc := ⟨.hbm, 355, rfl⟩
abbrev main_v303 : Ref sig .tc := ⟨.hbm, 356, rfl⟩
abbrev main_cst_49 : Ref sig .tc := ⟨.hbm, 357, rfl⟩
abbrev main_v304 : Ref sig .tc := ⟨.hbm, 358, rfl⟩
abbrev main_v305 : Ref sig .tc := ⟨.hbm, 359, rfl⟩
abbrev main_v306 : Ref sig .tc := ⟨.hbm, 360, rfl⟩
abbrev main_v307 : Ref sig .tc := ⟨.hbm, 361, rfl⟩
abbrev main_v308 : Ref sig .tc := ⟨.hbm, 362, rfl⟩
abbrev main_cst_50 : Ref sig .tc := ⟨.hbm, 363, rfl⟩
abbrev main_v309 : Ref sig .tc := ⟨.hbm, 364, rfl⟩
abbrev main_v310 : Ref sig .tc := ⟨.hbm, 365, rfl⟩
abbrev main_cst_51 : Ref sig .tc := ⟨.hbm, 366, rfl⟩
abbrev main_v311 : Ref sig .tc := ⟨.hbm, 367, rfl⟩
abbrev main_v312 : Ref sig .tc := ⟨.hbm, 368, rfl⟩
abbrev main_cst_52 : Ref sig .tc := ⟨.hbm, 369, rfl⟩
abbrev main_v313 : Ref sig .tc := ⟨.hbm, 370, rfl⟩
abbrev main_v314 : Ref sig .tc := ⟨.hbm, 371, rfl⟩
abbrev main_v315 : Ref sig .tc := ⟨.hbm, 372, rfl⟩
abbrev main_v316 : Ref sig .tc := ⟨.hbm, 373, rfl⟩
abbrev main_v317 : Ref sig .tc := ⟨.hbm, 374, rfl⟩
abbrev main_cst_53 : Ref sig .tc := ⟨.hbm, 375, rfl⟩
abbrev main_v318 : Ref sig .tc := ⟨.hbm, 376, rfl⟩
abbrev main_v319 : Ref sig .tc := ⟨.hbm, 377, rfl⟩
abbrev main_cst_54 : Ref sig .tc := ⟨.hbm, 378, rfl⟩
abbrev main_v320 : Ref sig .tc := ⟨.hbm, 379, rfl⟩
abbrev main_v321 : Ref sig .tc := ⟨.hbm, 380, rfl⟩
abbrev main_cst_55 : Ref sig .tc := ⟨.hbm, 381, rfl⟩
abbrev main_v322 : Ref sig .tc := ⟨.hbm, 382, rfl⟩
abbrev main_v323 : Ref sig .tc := ⟨.hbm, 383, rfl⟩
abbrev main_v324 : Ref sig .tc := ⟨.hbm, 384, rfl⟩
abbrev main_v325 : Ref sig .tc := ⟨.hbm, 385, rfl⟩
abbrev main_v326 : Ref sig .tc := ⟨.hbm, 386, rfl⟩
abbrev main_cst_56 : Ref sig .tc := ⟨.hbm, 387, rfl⟩
abbrev main_v327 : Ref sig .tc := ⟨.hbm, 388, rfl⟩
abbrev main_v328 : Ref sig .tc := ⟨.hbm, 389, rfl⟩
abbrev main_cst_57 : Ref sig .tc := ⟨.hbm, 390, rfl⟩
abbrev main_v329 : Ref sig .tc := ⟨.hbm, 391, rfl⟩
abbrev main_v330 : Ref sig .tc := ⟨.hbm, 392, rfl⟩
abbrev main_cst_58 : Ref sig .tc := ⟨.hbm, 393, rfl⟩
abbrev main_v331 : Ref sig .tc := ⟨.hbm, 394, rfl⟩
abbrev main_v332 : Ref sig .tc := ⟨.hbm, 395, rfl⟩
abbrev main_v333 : Ref sig .tc := ⟨.hbm, 396, rfl⟩
abbrev main_v334 : Ref sig .tc := ⟨.hbm, 397, rfl⟩
abbrev main_v335 : Ref sig .tc := ⟨.hbm, 398, rfl⟩
abbrev main_cst_59 : Ref sig .tc := ⟨.hbm, 399, rfl⟩
abbrev main_v336 : Ref sig .tc := ⟨.hbm, 400, rfl⟩
abbrev main_v337 : Ref sig .tc := ⟨.hbm, 401, rfl⟩
abbrev main_cst_60 : Ref sig .tc := ⟨.hbm, 402, rfl⟩
abbrev main_v338 : Ref sig .tc := ⟨.hbm, 403, rfl⟩
abbrev main_v339 : Ref sig .tc := ⟨.hbm, 404, rfl⟩
abbrev main_cst_61 : Ref sig .tc := ⟨.hbm, 405, rfl⟩
abbrev main_v340 : Ref sig .tc := ⟨.hbm, 406, rfl⟩
abbrev main_v341 : Ref sig .tc := ⟨.hbm, 407, rfl⟩
abbrev main_v342 : Ref sig .tc := ⟨.hbm, 408, rfl⟩
abbrev main_v343 : Ref sig .tc := ⟨.hbm, 409, rfl⟩
abbrev main_v344 : Ref sig .tc := ⟨.hbm, 410, rfl⟩
abbrev main_cst_62 : Ref sig .tc := ⟨.hbm, 411, rfl⟩
abbrev main_v345 : Ref sig .tc := ⟨.hbm, 412, rfl⟩
abbrev main_v346 : Ref sig .tc := ⟨.hbm, 413, rfl⟩
abbrev main_cst_63 : Ref sig .tc := ⟨.hbm, 414, rfl⟩
abbrev main_v347 : Ref sig .tc := ⟨.hbm, 415, rfl⟩
abbrev main_v348 : Ref sig .tc := ⟨.hbm, 416, rfl⟩
abbrev main_cst_64 : Ref sig .tc := ⟨.hbm, 417, rfl⟩
abbrev main_v349 : Ref sig .tc := ⟨.hbm, 418, rfl⟩
abbrev main_v350 : Ref sig .tc := ⟨.hbm, 419, rfl⟩
abbrev main_v351 : Ref sig .tc := ⟨.hbm, 420, rfl⟩
abbrev main_v352 : Ref sig .tc := ⟨.hbm, 421, rfl⟩
abbrev main_v353 : Ref sig .tc := ⟨.hbm, 422, rfl⟩
abbrev main_cst_65 : Ref sig .tc := ⟨.hbm, 423, rfl⟩
abbrev main_v354 : Ref sig .tc := ⟨.hbm, 424, rfl⟩
abbrev main_v355 : Ref sig .tc := ⟨.hbm, 425, rfl⟩
abbrev main_cst_66 : Ref sig .tc := ⟨.hbm, 426, rfl⟩
abbrev main_v356 : Ref sig .tc := ⟨.hbm, 427, rfl⟩
abbrev main_v357 : Ref sig .tc := ⟨.hbm, 428, rfl⟩
abbrev main_cst_67 : Ref sig .tc := ⟨.hbm, 429, rfl⟩
abbrev main_v358 : Ref sig .tc := ⟨.hbm, 430, rfl⟩
abbrev main_v359 : Ref sig .tc := ⟨.hbm, 431, rfl⟩
abbrev main_v360 : Ref sig .tc := ⟨.hbm, 432, rfl⟩
abbrev main_v361 : Ref sig .tc := ⟨.hbm, 433, rfl⟩
abbrev main_v362 : Ref sig .tc := ⟨.hbm, 434, rfl⟩
abbrev main_cst_68 : Ref sig .tc := ⟨.hbm, 435, rfl⟩
abbrev main_v363 : Ref sig .tc := ⟨.hbm, 436, rfl⟩
abbrev main_v364 : Ref sig .tc := ⟨.hbm, 437, rfl⟩
abbrev main_cst_69 : Ref sig .tc := ⟨.hbm, 438, rfl⟩
abbrev main_v365 : Ref sig .tc := ⟨.hbm, 439, rfl⟩
abbrev main_v366 : Ref sig .tc := ⟨.hbm, 440, rfl⟩
abbrev main_cst_70 : Ref sig .tc := ⟨.hbm, 441, rfl⟩
abbrev main_v367 : Ref sig .tc := ⟨.hbm, 442, rfl⟩
abbrev main_v368 : Ref sig .tc := ⟨.hbm, 443, rfl⟩
abbrev main_v369 : Ref sig .tc := ⟨.hbm, 444, rfl⟩
abbrev main_v370 : Ref sig .tc := ⟨.hbm, 445, rfl⟩
abbrev main_v371 : Ref sig .tc := ⟨.hbm, 446, rfl⟩
abbrev main_cst_71 : Ref sig .tc := ⟨.hbm, 447, rfl⟩
abbrev main_v372 : Ref sig .tc := ⟨.hbm, 448, rfl⟩
abbrev main_v373 : Ref sig .tc := ⟨.hbm, 449, rfl⟩
abbrev main_cst_72 : Ref sig .tc := ⟨.hbm, 450, rfl⟩
abbrev main_v374 : Ref sig .tc := ⟨.hbm, 451, rfl⟩
abbrev main_v375 : Ref sig .tc := ⟨.hbm, 452, rfl⟩
abbrev main_cst_73 : Ref sig .tc := ⟨.hbm, 453, rfl⟩
abbrev main_v376 : Ref sig .tc := ⟨.hbm, 454, rfl⟩
abbrev main_v377 : Ref sig .tc := ⟨.hbm, 455, rfl⟩
abbrev main_v378 : Ref sig .tc := ⟨.hbm, 456, rfl⟩
abbrev main_v379 : Ref sig .tc := ⟨.hbm, 457, rfl⟩
abbrev main_v380 : Ref sig .tc := ⟨.hbm, 458, rfl⟩
abbrev main_cst_74 : Ref sig .tc := ⟨.hbm, 459, rfl⟩
abbrev main_v381 : Ref sig .tc := ⟨.hbm, 460, rfl⟩
abbrev main_v382 : Ref sig .tc := ⟨.hbm, 461, rfl⟩
abbrev main_cst_75 : Ref sig .tc := ⟨.hbm, 462, rfl⟩
abbrev main_v383 : Ref sig .tc := ⟨.hbm, 463, rfl⟩
abbrev main_v384 : Ref sig .tc := ⟨.hbm, 464, rfl⟩
abbrev main_cst_76 : Ref sig .tc := ⟨.hbm, 465, rfl⟩
abbrev main_v385 : Ref sig .tc := ⟨.hbm, 466, rfl⟩
abbrev main_v386 : Ref sig .tc := ⟨.hbm, 467, rfl⟩
abbrev main_v387 : Ref sig .tc := ⟨.hbm, 468, rfl⟩
abbrev main_v388 : Ref sig .tc := ⟨.hbm, 469, rfl⟩
abbrev main_v389 : Ref sig .tc := ⟨.hbm, 470, rfl⟩
abbrev main_cst_77 : Ref sig .tc := ⟨.hbm, 471, rfl⟩
abbrev main_v390 : Ref sig .tc := ⟨.hbm, 472, rfl⟩
abbrev main_v391 : Ref sig .tc := ⟨.hbm, 473, rfl⟩
abbrev main_cst_78 : Ref sig .tc := ⟨.hbm, 474, rfl⟩
abbrev main_v392 : Ref sig .tc := ⟨.hbm, 475, rfl⟩
abbrev main_v393 : Ref sig .tc := ⟨.hbm, 476, rfl⟩
abbrev main_cst_79 : Ref sig .tc := ⟨.hbm, 477, rfl⟩
abbrev main_v394 : Ref sig .tc := ⟨.hbm, 478, rfl⟩
abbrev main_v395 : Ref sig .tc := ⟨.hbm, 479, rfl⟩
abbrev main_v396 : Ref sig .tc := ⟨.hbm, 480, rfl⟩
abbrev main_v397 : Ref sig .tc := ⟨.hbm, 481, rfl⟩
abbrev main_v398 : Ref sig .tc := ⟨.hbm, 482, rfl⟩
abbrev main_cst_80 : Ref sig .tc := ⟨.hbm, 483, rfl⟩
abbrev main_v399 : Ref sig .tc := ⟨.hbm, 484, rfl⟩
abbrev main_v400 : Ref sig .tc := ⟨.hbm, 485, rfl⟩
abbrev main_cst_81 : Ref sig .tc := ⟨.hbm, 486, rfl⟩
abbrev main_v401 : Ref sig .tc := ⟨.hbm, 487, rfl⟩
abbrev main_v402 : Ref sig .tc := ⟨.hbm, 488, rfl⟩
abbrev main_cst_82 : Ref sig .tc := ⟨.hbm, 489, rfl⟩
abbrev main_v403 : Ref sig .tc := ⟨.hbm, 490, rfl⟩
abbrev main_v404 : Ref sig .tc := ⟨.hbm, 491, rfl⟩
abbrev main_v405 : Ref sig .tc := ⟨.hbm, 492, rfl⟩
abbrev main_v406 : Ref sig .tc := ⟨.hbm, 493, rfl⟩
abbrev main_v407 : Ref sig .tc := ⟨.hbm, 494, rfl⟩
abbrev main_cst_83 : Ref sig .tc := ⟨.hbm, 495, rfl⟩
abbrev main_v408 : Ref sig .tc := ⟨.hbm, 496, rfl⟩
abbrev main_v409 : Ref sig .tc := ⟨.hbm, 497, rfl⟩
abbrev main_cst_84 : Ref sig .tc := ⟨.hbm, 498, rfl⟩
abbrev main_v410 : Ref sig .tc := ⟨.hbm, 499, rfl⟩
abbrev main_v411 : Ref sig .tc := ⟨.hbm, 500, rfl⟩
abbrev main_cst_85 : Ref sig .tc := ⟨.hbm, 501, rfl⟩
abbrev main_v412 : Ref sig .tc := ⟨.hbm, 502, rfl⟩
abbrev main_v413 : Ref sig .tc := ⟨.hbm, 503, rfl⟩
abbrev main_v414 : Ref sig .tc := ⟨.hbm, 504, rfl⟩
abbrev main_v415 : Ref sig .tc := ⟨.hbm, 505, rfl⟩
abbrev main_v416 : Ref sig .tc := ⟨.hbm, 506, rfl⟩
abbrev main_cst_86 : Ref sig .tc := ⟨.hbm, 507, rfl⟩
abbrev main_v417 : Ref sig .tc := ⟨.hbm, 508, rfl⟩
abbrev main_v418 : Ref sig .tc := ⟨.hbm, 509, rfl⟩
abbrev main_cst_87 : Ref sig .tc := ⟨.hbm, 510, rfl⟩
abbrev main_v419 : Ref sig .tc := ⟨.hbm, 511, rfl⟩
abbrev main_v420 : Ref sig .tc := ⟨.hbm, 512, rfl⟩
abbrev main_cst_88 : Ref sig .tc := ⟨.hbm, 513, rfl⟩
abbrev main_v421 : Ref sig .tc := ⟨.hbm, 514, rfl⟩
abbrev main_v422 : Ref sig .tc := ⟨.hbm, 515, rfl⟩
abbrev main_v423 : Ref sig .tc := ⟨.hbm, 516, rfl⟩
abbrev main_v424 : Ref sig .tc := ⟨.hbm, 517, rfl⟩
abbrev main_v425 : Ref sig .tc := ⟨.hbm, 518, rfl⟩
abbrev main_cst_89 : Ref sig .tc := ⟨.hbm, 519, rfl⟩
abbrev main_v426 : Ref sig .tc := ⟨.hbm, 520, rfl⟩
abbrev main_v427 : Ref sig .tc := ⟨.hbm, 521, rfl⟩
abbrev main_cst_90 : Ref sig .tc := ⟨.hbm, 522, rfl⟩
abbrev main_v428 : Ref sig .tc := ⟨.hbm, 523, rfl⟩
abbrev main_v429 : Ref sig .tc := ⟨.hbm, 524, rfl⟩
abbrev main_cst_91 : Ref sig .tc := ⟨.hbm, 525, rfl⟩
abbrev main_v430 : Ref sig .tc := ⟨.hbm, 526, rfl⟩
abbrev main_v431 : Ref sig .tc := ⟨.hbm, 527, rfl⟩
abbrev main_v432 : Ref sig .tc := ⟨.hbm, 528, rfl⟩
abbrev main_v433 : Ref sig .tc := ⟨.hbm, 529, rfl⟩
abbrev main_v434 : Ref sig .tc := ⟨.hbm, 530, rfl⟩
abbrev main_cst_92 : Ref sig .tc := ⟨.hbm, 531, rfl⟩
abbrev main_v435 : Ref sig .tc := ⟨.hbm, 532, rfl⟩
abbrev main_v436 : Ref sig .tc := ⟨.hbm, 533, rfl⟩
abbrev main_cst_93 : Ref sig .tc := ⟨.hbm, 534, rfl⟩
abbrev main_v437 : Ref sig .tc := ⟨.hbm, 535, rfl⟩
abbrev main_v438 : Ref sig .tc := ⟨.hbm, 536, rfl⟩
abbrev main_cst_94 : Ref sig .tc := ⟨.hbm, 537, rfl⟩
abbrev main_v439 : Ref sig .tc := ⟨.hbm, 538, rfl⟩
abbrev main_v440 : Ref sig .tc := ⟨.hbm, 539, rfl⟩
abbrev main_v441 : Ref sig .tc := ⟨.hbm, 540, rfl⟩
abbrev main_v442 : Ref sig .tc := ⟨.hbm, 541, rfl⟩
abbrev main_v443 : Ref sig .tc := ⟨.hbm, 542, rfl⟩
abbrev main_cst_95 : Ref sig .tc := ⟨.hbm, 543, rfl⟩
abbrev main_v444 : Ref sig .tc := ⟨.hbm, 544, rfl⟩
abbrev main_v445 : Ref sig .tc := ⟨.hbm, 545, rfl⟩
abbrev main_cst_96 : Ref sig .tc := ⟨.hbm, 546, rfl⟩
abbrev main_v446 : Ref sig .tc := ⟨.hbm, 547, rfl⟩
abbrev main_v447 : Ref sig .tc := ⟨.hbm, 548, rfl⟩
abbrev main_cst_97 : Ref sig .tc := ⟨.hbm, 549, rfl⟩
abbrev main_v448 : Ref sig .tc := ⟨.hbm, 550, rfl⟩
abbrev main_v449 : Ref sig .tc := ⟨.hbm, 551, rfl⟩
abbrev main_v450 : Ref sig .tc := ⟨.hbm, 552, rfl⟩
abbrev main_v451 : Ref sig .tc := ⟨.hbm, 553, rfl⟩
abbrev main_v452 : Ref sig .tc := ⟨.hbm, 554, rfl⟩
abbrev main_v453 : Ref sig .tc := ⟨.hbm, 555, rfl⟩
abbrev main_v454 : Ref sig .tc := ⟨.hbm, 556, rfl⟩
abbrev main_v455 : Ref sig .tc := ⟨.hbm, 557, rfl⟩
abbrev main_v456 : Ref sig .tc := ⟨.hbm, 558, rfl⟩
abbrev main_c : Ref sig .tc := ⟨.hbm, 559, rfl⟩
abbrev main_call0_v0 : Ref sig .tc := ⟨.hbm, 560, rfl⟩
abbrev main_v457 : Ref sig .tc := ⟨.hbm, 561, rfl⟩
abbrev main_cst_98 : Ref sig .tc := ⟨.hbm, 562, rfl⟩
abbrev main_v458 : Ref sig .tc := ⟨.hbm, 563, rfl⟩
abbrev main_v459 : Ref sig .tc := ⟨.hbm, 564, rfl⟩

abbrev nD : Nat := 1
abbrev τ : Topo := Topo.v7x

variable {F : FTy → Type} [FloatOps F]
-- ==== UpDx.lean ====
abbrev S8192x5632 : Shape := ⟨2, ![8192, 5632]⟩
abbrev S4x1024x1408 : Shape := ⟨3, ![4, 1024, 1408]⟩
abbrev S8192x1024 : Shape := ⟨2, ![8192, 1024]⟩
abbrev S1024x1408 : Shape := ⟨2, ![1024, 1408]⟩
abbrev S1x1024x1408 : Shape := ⟨3, ![1, 1024, 1408]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x1024, .f32⟩
  | .local _ .vmem, ⟨0, _⟩ => ⟨S1024x1408, .bf16⟩
  | .local _ .vmem, ⟨1, _⟩ => ⟨S1024x1408, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v12 : BitVec 1 := Scalar.cmpi .eq arg1 c3_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg1 c2_i32_4
  let c0_i32_5 : BitVec 32 := 0#32
  let v12 : BitVec 1 := Scalar.cmpi .sgt arg1 c0_i32_5
  let v13 : BitVec 32 := Scalar.extui v12
  let c0_i32_6 : BitVec 32 := 0#32
  let v14 : BitVec 1 := Scalar.cmpi .slt arg1 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg1 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  ![arg0.toNat, v28.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpDxRefIdeal.lean ====
abbrev S8192x5632 : Shape := ⟨2, ![8192, 5632]⟩
abbrev S4x1024x1408 : Shape := ⟨3, ![4, 1024, 1408]⟩
abbrev S8192x2x2x1408 : Shape := ⟨4, ![8192, 2, 2, 1408]⟩
abbrev S1024x4x1408 : Shape := ⟨3, ![1024, 4, 1408]⟩
abbrev S1024x5632 : Shape := ⟨2, ![1024, 5632]⟩
abbrev S_ : Shape := ⟨0, ![]⟩
abbrev S8192x1024 : Shape := ⟨2, ![8192, 1024]⟩

abbrev nBuf : Space → Nat
  | .hbm => 13
  | .vmem => 0
  | .smem => 0
  | _ => 0

abbrev bufTy : (tb : Table) → Fin (tcTables nBuf tb) → BufTy
  | .hbm, ⟨0, _⟩ => ⟨S8192x5632, .bf16⟩
  | .hbm, ⟨1, _⟩ => ⟨S4x1024x1408, .bf16⟩
  | .hbm, ⟨2, _⟩ => ⟨S8192x5632, .f32⟩
  | .hbm, ⟨3, _⟩ => ⟨S8192x2x2x1408, .f32⟩
  | .hbm, ⟨4, _⟩ => ⟨S8192x2x2x1408, .f32⟩
  | .hbm, ⟨5, _⟩ => ⟨S8192x5632, .f32⟩
  | .hbm, ⟨6, _⟩ => ⟨S4x1024x1408, .f32⟩
  | .hbm, ⟨7, _⟩ => ⟨S1024x4x1408, .f32⟩
  | .hbm, ⟨8, _⟩ => ⟨S1024x5632, .f32⟩
  | .hbm, ⟨9, _⟩ => ⟨S_, .f32⟩
  | .hbm, ⟨10, _⟩ => ⟨S8192x1024, .f32⟩
  | .hbm, ⟨11, _⟩ => ⟨S8192x5632, .f32⟩
  | .hbm, ⟨12, _⟩ => ⟨S8192x1024, .f32⟩
  | _, _ => ⟨S8192x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩

abbrev nD : Nat := 1
abbrev τ : Topo := Topo.v7x

variable {F : FTy → Type} [FloatOps F]
-- ==== UpDw.lean ====
abbrev S8192x1024 : Shape := ⟨2, ![8192, 1024]⟩
abbrev S8192x5632 : Shape := ⟨2, ![8192, 5632]⟩
abbrev S2x4x512x1408 : Shape := ⟨4, ![2, 4, 512, 1408]⟩
abbrev S1024x1024 : Shape := ⟨2, ![1024, 1024]⟩
abbrev S1024x1408 : Shape := ⟨2, ![1024, 1408]⟩
abbrev S2x1x512x1408 : Shape := ⟨4, ![2, 1, 512, 1408]⟩
abbrev S1x1x512x1408 : Shape := ⟨4, ![1, 1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S2x4x512x1408, .f32⟩
  | .local _ .vmem, ⟨0, _⟩ => ⟨S1024x1024, .bf16⟩
  | .local _ .vmem, ⟨1, _⟩ => ⟨S1024x1024, .bf16⟩
  | .local _ .vmem, ⟨2, _⟩ => ⟨S1024x1408, .bf16⟩
  | .local _ .vmem, ⟨3, _⟩ => ⟨S1024x1408, .bf16⟩
  | .local _ .vmem, ⟨4, _⟩ => ⟨S2x1x512x1408, .f32⟩
  | .local _ .vmem, ⟨5, _⟩ => ⟨S2x1x512x1408, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg0 c2_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg0 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  ![arg1.toNat, v28.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x1x512x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== UpDwRefIdeal.lean ====
abbrev S8192x1024 : Shape := ⟨2, ![8192, 1024]⟩
abbrev S8192x5632 : Shape := ⟨2, ![8192, 5632]⟩
abbrev S8192x2x2x1408 : Shape := ⟨4, ![8192, 2, 2, 1408]⟩
abbrev S_ : Shape := ⟨0, ![]⟩
abbrev S1024x5632 : Shape := ⟨2, ![1024, 5632]⟩
abbrev S5632x1024 : Shape := ⟨2, ![5632, 1024]⟩
abbrev S2x512x4x1408 : Shape := ⟨4, ![2, 512, 4, 1408]⟩
abbrev S2x4x512x1408 : Shape := ⟨4, ![2, 4, 512, 1408]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x5632, .bf16⟩
  | .hbm, ⟨2, _⟩ => ⟨S8192x5632, .f32⟩
  | .hbm, ⟨3, _⟩ => ⟨S8192x2x2x1408, .f32⟩
  | .hbm, ⟨4, _⟩ => ⟨S8192x2x2x1408, .f32⟩
  | .hbm, ⟨5, _⟩ => ⟨S8192x5632, .f32⟩
  | .hbm, ⟨6, _⟩ => ⟨S_, .f32⟩
  | .hbm, ⟨7, _⟩ => ⟨S1024x5632, .f32⟩
  | .hbm, ⟨8, _⟩ => ⟨S8192x1024, .f32⟩
  | .hbm, ⟨9, _⟩ => ⟨S8192x5632, .f32⟩
  | .hbm, ⟨10, _⟩ => ⟨S5632x1024, .f32⟩
  | .hbm, ⟨11, _⟩ => ⟨S1024x5632, .f32⟩
  | .hbm, ⟨12, _⟩ => ⟨S2x512x4x1408, .f32⟩
  | .hbm, ⟨13, _⟩ => ⟨S2x4x512x1408, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== Up.lean ====
abbrev S8192x1024 : Shape := ⟨2, ![8192, 1024]⟩
abbrev S4x1024x1408 : Shape := ⟨3, ![4, 1024, 1408]⟩
abbrev S8192x5632 : Shape := ⟨2, ![8192, 5632]⟩
abbrev S1024x1024 : Shape := ⟨2, ![1024, 1024]⟩
abbrev S1x1024x1408 : Shape := ⟨3, ![1, 1024, 1408]⟩
abbrev S1024x1408 : Shape := ⟨2, ![1024, 1408]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x5632, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1408, .bf16⟩
  | .local _ .vmem, ⟨3, _⟩ => ⟨S1x1024x1408, .bf16⟩
  | .local _ .vmem, ⟨4, _⟩ => ⟨S1024x1408, .bf16⟩
  | .local _ .vmem, ⟨5, _⟩ => ⟨S1024x1408, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  let v0 : BitVec 1 := Scalar.cmpi .eq c2_i32 c0_i32
  let c1_i32 : BitVec 32 := 1#32
  let v1 : BitVec 32 := Scalar.select v0 c1_i32 c2_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32_3 : BitVec 32 := 2#32
  let v10 : BitVec 32 := Scalar.muli v9 c2_i32_3
  let c2_i32_4 : BitVec 32 := 2#32
  let v11 : BitVec 32 := Scalar.divsi arg0 c2_i32_4
  let c0_i32_5 : BitVec 32 := 0#32
  let v12 : BitVec 1 := Scalar.cmpi .sgt arg0 c0_i32_5
  let v13 : BitVec 32 := Scalar.extui v12
  let c0_i32_6 : BitVec 32 := 0#32
  let v14 : BitVec 1 := Scalar.cmpi .slt arg0 c0_i32_6
  let v15 : BitVec 32 := Scalar.extui v14
  let v16 : BitVec 32 := Scalar.subi v13 v15
  let c0_i32_7 : BitVec 32 := 0#32
  let v17 : BitVec 1 := Scalar.cmpi .sgt c2_i32_4 c0_i32_7
  let v18 : BitVec 32 := Scalar.extui v17
  let c0_i32_8 : BitVec 32 := 0#32
  let v19 : BitVec 1 := Scalar.cmpi .slt c2_i32_4 c0_i32_8
  let v20 : BitVec 32 := Scalar.extui v19
  let v21 : BitVec 32 := Scalar.subi v18 v20
  let v22 : BitVec 1 := Scalar.cmpi .ne v16 v21
  let v23 : BitVec 32 := Scalar.remsi arg0 c2_i32_4
  let c0_i32_9 : BitVec 32 := 0#32
  let v24 : BitVec 1 := Scalar.cmpi .ne v23 c0_i32_9
  let v25 : BitVec 1 := Scalar.andi v22 v24
  let c1_i32_10 : BitVec 32 := 1#32
  let v26 : BitVec 32 := Scalar.subi v11 c1_i32_10
  let v27 : BitVec 32 := Scalar.select v25 v26 v11
  let v28 : BitVec 32 := Scalar.addi v10 v27
  let c0_i32_11 : BitVec 32 := 0#32
  ![arg1.toNat, v28.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== UpRefIdeal.lean ====
abbrev S8192x1024 : Shape := ⟨2, ![8192, 1024]⟩
abbrev S4x1024x1408 : Shape := ⟨3, ![4, 1024, 1408]⟩
abbrev S1024x4x1408 : Shape := ⟨3, ![1024, 4, 1408]⟩
abbrev S1024x5632 : Shape := ⟨2, ![1024, 5632]⟩
abbrev S8192x5632 : Shape := ⟨2, ![8192, 5632]⟩
abbrev S8192x2x2x1408 : Shape := ⟨4, ![8192, 2, 2, 1408]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1408, .bf16⟩
  | .hbm, ⟨2, _⟩ => ⟨S8192x1024, .f32⟩
  | .hbm, ⟨3, _⟩ => ⟨S4x1024x1408, .f32⟩
  | .hbm, ⟨4, _⟩ => ⟨S1024x4x1408, .f32⟩
  | .hbm, ⟨5, _⟩ => ⟨S1024x5632, .f32⟩
  | .hbm, ⟨6, _⟩ => ⟨S8192x5632, .f32⟩
  | .hbm, ⟨7, _⟩ => ⟨S8192x2x2x1408, .f32⟩
  | .hbm, ⟨8, _⟩ => ⟨S8192x2x2x1408, .f32⟩
  | .hbm, ⟨9, _⟩ => ⟨S8192x5632, .f32⟩
  | .hbm, ⟨10, _⟩ => ⟨S8192x5632, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩

abbrev nD : Nat := 1
abbrev τ : Topo := Topo.v7x

variable {F : FTy → Type} [FloatOps F]
-- ==== DownDx.lean ====
abbrev S8192x1024 : Shape := ⟨2, ![8192, 1024]⟩
abbrev S1x2816x1024 : Shape := ⟨3, ![1, 2816, 1024]⟩
abbrev S8192x2816 : Shape := ⟨2, ![8192, 2816]⟩
abbrev S1024x1024 : Shape := ⟨2, ![1024, 1024]⟩
abbrev S1024x2816 : Shape := ⟨2, ![1024, 2816]⟩
abbrev S2816x1024 : Shape := ⟨2, ![2816, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x2816x1024, .bf16⟩
  | .hbm, ⟨2, _⟩ => ⟨S8192x2816, .bf16⟩
  | .local _ .vmem, ⟨0, _⟩ => ⟨S1024x1024, .bf16⟩
  | .local _ .vmem, ⟨1, _⟩ => ⟨S1024x1024, .bf16⟩
  | .local _ .vmem, ⟨2, _⟩ => ⟨S1x2816x1024, .bf16⟩
  | .local _ .vmem, ⟨3, _⟩ => ⟨S1024x2816, .bf16⟩
  | .local _ .vmem, ⟨4, _⟩ => ⟨S1024x2816, .bf16⟩
  | .local _ .vmem, ⟨5, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_9 : BitVec 32 := 0#32
  let v12 : BitVec 1 := Scalar.cmpi .eq arg1 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownDxRefIdeal.lean ====
abbrev S8192x1024 : Shape := ⟨2, ![8192, 1024]⟩
abbrev S1x2816x1024 : Shape := ⟨3, ![1, 2816, 1024]⟩
abbrev S2816x1x1024 : Shape := ⟨3, ![2816, 1, 1024]⟩
abbrev S2816x1024 : Shape := ⟨2, ![2816, 1024]⟩
abbrev S_ : Shape := ⟨0, ![]⟩
abbrev S8192x2816 : Shape := ⟨2, ![8192, 2816]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x2816x1024, .bf16⟩
  | .hbm, ⟨2, _⟩ => ⟨S1x2816x1024, .f32⟩
  | .hbm, ⟨3, _⟩ => ⟨S2816x1x1024, .f32⟩
  | .hbm, ⟨4, _⟩ => ⟨S2816x1024, .f32⟩
  | .hbm, ⟨5, _⟩ => ⟨S_, .f32⟩
  | .hbm, ⟨6, _⟩ => ⟨S8192x2816, .f32⟩
  | .hbm, ⟨7, _⟩ => ⟨S8192x1024, .f32⟩
  | .hbm, ⟨8, _⟩ => ⟨S8192x1024, .f32⟩
  | .hbm, ⟨9, _⟩ => ⟨S8192x2816, .f32⟩
  | .hbm, ⟨10, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownDw.lean ====
abbrev S8192x2816 : Shape := ⟨2, ![8192, 2816]⟩
abbrev S8192x1024 : Shape := ⟨2, ![8192, 1024]⟩
abbrev S2x4x352x1024 : Shape := ⟨4, ![2, 4, 352, 1024]⟩
abbrev S1024x1408 : Shape := ⟨2, ![1024, 1408]⟩
abbrev S1024x1024 : Shape := ⟨2, ![1024, 1024]⟩
abbrev S2x2x352x1024 : Shape := ⟨4, ![2, 2, 352, 1024]⟩
abbrev S1408x1024 : Shape := ⟨2, ![1408, 1024]⟩
abbrev S1x1x352x1024 : Shape := ⟨4, ![1, 1, 352, 1024]⟩
abbrev S352x1024 : Shape := ⟨2, ![352, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2x4x352x1024, .f32⟩
  | .local _ .vmem, ⟨0, _⟩ => ⟨S1024x1408, .bf16⟩
  | .local _ .vmem, ⟨1, _⟩ => ⟨S1024x1408, .bf16⟩
  | .local _ .vmem, ⟨2, _⟩ => ⟨S1024x1024, .bf16⟩
  | .local _ .vmem, ⟨3, _⟩ => ⟨S1024x1024, .bf16⟩
  | .local _ .vmem, ⟨4, _⟩ => ⟨S2x2x352x1024, .f32⟩
  | .local _ .vmem, ⟨5, _⟩ => ⟨S2x2x352x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x2x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== DownDwRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S4x2x352x1024 : Shape := ⟨4, ![4, 2, 352, 1024]⟩
abbrev S2x4x352x1024 : Shape := ⟨4, ![2, 4, 352, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S4x2x352x1024, .f32⟩
  | .hbm, ⟨10, _⟩ => ⟨S2x4x352x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Down.lean ====
abbrev S8192x2816 : Shape := ⟨2, ![8192, 2816]⟩
abbrev S1x2816x1024 : Shape := ⟨3, ![1, 2816, 1024]⟩
abbrev S8192x1024 : Shape := ⟨2, ![8192, 1024]⟩
abbrev S1024x2816 : Shape := ⟨2, ![1024, 2816]⟩
abbrev S1024x1024 : Shape := ⟨2, ![1024, 1024]⟩
abbrev S2816x1024 : Shape := ⟨2, ![2816, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x1024, .bf16⟩
  | .local _ .vmem, ⟨3, _⟩ => ⟨S1024x1024, .f32⟩
  | .local _ .vmem, ⟨4, _⟩ => ⟨S1024x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== DownRefIdeal.lean ====
abbrev S8192x2816 : Shape := ⟨2, ![8192, 2816]⟩
abbrev S1x2816x1024 : Shape := ⟨3, ![1, 2816, 1024]⟩
abbrev S2816x1x1024 : Shape := ⟨3, ![2816, 1, 1024]⟩
abbrev S2816x1024 : Shape := ⟨2, ![2816, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x2816, .f32⟩
  | .hbm, ⟨3, _⟩ => ⟨S1x2816x1024, .f32⟩
  | .hbm, ⟨4, _⟩ => ⟨S2816x1x1024, .f32⟩
  | .hbm, ⟨5, _⟩ => ⟨S2816x1024, .f32⟩
  | .hbm, ⟨6, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== HgrnInDx.lean ====
abbrev S3x8192x1024 : Shape := ⟨3, ![3, 8192, 1024]⟩
abbrev S8192x1024 : Shape := ⟨2, ![8192, 1024]⟩
abbrev S4x1024x1024 : Shape := ⟨3, ![4, 1024, 1024]⟩
abbrev S8x128 : Shape := ⟨2, ![8, 128]⟩
abbrev S1x1024x1024 : Shape := ⟨3, ![1, 1024, 1024]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S3x8192x1024, .bf16⟩
  | .hbm, ⟨1, _⟩ => ⟨S8192x1024, .bf16⟩
  | .hbm, ⟨2, _⟩ => ⟨S4x1024x1024, .bf16⟩
  | .hbm, ⟨3, _⟩ => ⟨S8x128, .f32⟩
  | .hbm, ⟨4, _⟩ => ⟨S8192x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S3x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond4 (i : grid0.Coords) : BitVec 1 :=
  let arg1 : BitVec 32 := BitVec.ofNat 32 (i 1).val
  let c3_i32_4 : BitVec 32 := 3#32
  let v9 : BitVec 1 := Scalar.cmpi .eq arg1 c3_i32_4
  let v10 : BitVec 32 := Scalar.extui v9
  let c0_i32_5 : BitVec 32 := 0#32
  let v11 : BitVec 1 := Scalar.cmpi .ne v10 c0_i32_5
  v11

def cc0_transform_0 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.minsi arg1 c2_i32
  let c0_i32 : BitVec 32 := 0#32
  let c0_i32_0 : BitVec 32 := 0#32
  ![v0.toNat, arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== HgrnInDxRefIdeal.lean ====
abbrev S3x8192x1024 : Shape := ⟨3, ![3, 8192, 1024]⟩
abbrev S8192x1024 : Shape := ⟨2, ![8192, 1024]⟩
abbrev S4x1024x1024 : Shape := ⟨3, ![4, 1024, 1024]⟩
abbrev S8x128 : Shape := ⟨2, ![8, 128]⟩
abbrev S1x8192x1024 : Shape := ⟨3, ![1, 8192, 1024]⟩
abbrev S8192x4096 : Shape := ⟨2, ![8192, 4096]⟩
abbrev S1024x4x1024 : Shape := ⟨3, ![1024, 4, 1024]⟩
abbrev S1024x4096 : Shape := ⟨2, ![1024, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S3x8192x1024, .bf16⟩
  | .hbm, ⟨1, _⟩ => ⟨S8192x1024, .bf16⟩
  | .hbm, ⟨2, _⟩ => ⟨S4x1024x1024, .bf16⟩
  | .hbm, ⟨3, _⟩ => ⟨S8x128, .f32⟩
  | .hbm, ⟨4, _⟩ => ⟨S1x8192x1024, .bf16⟩
  | .hbm, ⟨5, _⟩ => ⟨S8192x1024, .bf16⟩
  | .hbm, ⟨6, _⟩ => ⟨S8192x1024, .f32⟩
  | .hbm, ⟨7, _⟩ => ⟨S1x8192x1024, .bf16⟩
  | .hbm, ⟨8, _⟩ => ⟨S8192x1024, .bf16⟩
  | .hbm, ⟨9, _⟩ => ⟨S8192x1024, .f32⟩
  | .hbm, ⟨10, _⟩ => ⟨S1x8192x1024, .bf16⟩
  | .hbm, ⟨11, _⟩ => ⟨S8192x1024, .bf16⟩
  | .hbm, ⟨12, _⟩ => ⟨S8192x1024, .f32⟩
  | .hbm, ⟨13, _⟩ => ⟨S8192x1024, .f32⟩
  | .hbm, ⟨14, _⟩ => ⟨S8192x4096, .f32⟩
  | .hbm, ⟨15, _⟩ => ⟨S4x1024x1024, .f32⟩
  | .hbm, ⟨16, _⟩ => ⟨S1024x4x1024, .f32⟩
  | .hbm, ⟨17, _⟩ => ⟨S1024x4096, .f32⟩
  | .hbm, ⟨18, _⟩ => ⟨S_, .f32⟩
  | .hbm, ⟨19, _⟩ => ⟨S8192x1024, .f32⟩
  | .hbm, ⟨20, _⟩ => ⟨S8192x4096, .f32⟩
  | .hbm, ⟨21, _⟩ => ⟨S8192x1024, .f32⟩
  | _, _ => ⟨S3x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩

abbrev nD : Nat := 1
abbrev τ : Topo := Topo.v7x

variable {F : FTy → Type} [FloatOps F]
-- ==== HgrnInDw.lean ====
abbrev S8192x1024 : Shape := ⟨2, ![8192, 1024]⟩
abbrev S3x8192x1024 : Shape := ⟨3, ![3, 8192, 1024]⟩
abbrev S2x4x512x1024 : Shape := ⟨4, ![2, 4, 512, 1024]⟩
abbrev S1024x1024 : Shape := ⟨2, ![1024, 1024]⟩
abbrev S1x1024x1024 : Shape := ⟨3, ![1, 1024, 1024]⟩
abbrev S2x1x512x1024 : Shape := ⟨4, ![2, 1, 512, 1024]⟩
abbrev S1x1x512x1024 : Shape := ⟨4, ![1, 1, 512, 1024]⟩
abbrev S512x1024 : Shape := ⟨2, ![512, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S8192x1024, .bf16⟩
  | .hbm, ⟨3, _⟩ => ⟨S2x4x512x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S2x1x512x1024, .f32⟩
  | .local _ .vmem, ⟨7, _⟩ => ⟨S2x1x512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c3_i32 : BitVec 32 := 3#32
  let v3 : BitVec 1 := Scalar.cmpi .slt arg0 c3_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg0 : BitVec 32 := BitVec.ofNat 32 (i 0).val
  let c3_i32_2 : BitVec 32 := 3#32
  let v6 : BitVec 1 := Scalar.cmpi .eq arg0 c3_i32_2
  let v7 : BitVec 32 := Scalar.extui v6
  let c0_i32_3 : BitVec 32 := 0#32
  let v8 : BitVec 1 := Scalar.cmpi .ne v7 c0_i32_3
  v8

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.minsi arg0 c2_i32
  let c0_i32 : BitVec 32 := 0#32
  let c0_i32_0 : BitVec 32 := 0#32
  ![v0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2x1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== HgrnInDwRefIdeal.lean ====
abbrev S8192x1024 : Shape := ⟨2, ![8192, 1024]⟩
abbrev S3x8192x1024 : Shape := ⟨3, ![3, 8192, 1024]⟩
abbrev S1x8192x1024 : Shape := ⟨3, ![1, 8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩
abbrev S2x512x4x1024 : Shape := ⟨4, ![2, 512, 4, 1024]⟩
abbrev S2x4x512x1024 : Shape := ⟨4, ![2, 4, 512, 1024]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S3x8192x1024, .bf16⟩
  | .hbm, ⟨2, _⟩ => ⟨S8192x1024, .bf16⟩
  | .hbm, ⟨3, _⟩ => ⟨S1x8192x1024, .bf16⟩
  | .hbm, ⟨4, _⟩ => ⟨S8192x1024, .bf16⟩
  | .hbm, ⟨5, _⟩ => ⟨S8192x1024, .f32⟩
  | .hbm, ⟨6, _⟩ => ⟨S1x8192x1024, .bf16⟩
  | .hbm, ⟨7, _⟩ => ⟨S8192x1024, .bf16⟩
  | .hbm, ⟨8, _⟩ => ⟨S8192x1024, .f32⟩
  | .hbm, ⟨9, _⟩ => ⟨S1x8192x1024, .bf16⟩
  | .hbm, ⟨10, _⟩ => ⟨S8192x1024, .bf16⟩
  | .hbm, ⟨11, _⟩ => ⟨S8192x1024, .f32⟩
  | .hbm, ⟨12, _⟩ => ⟨S8192x1024, .f32⟩
  | .hbm, ⟨13, _⟩ => ⟨S8192x4096, .f32⟩
  | .hbm, ⟨14, _⟩ => ⟨S_, .f32⟩
  | .hbm, ⟨15, _⟩ => ⟨S1024x4096, .f32⟩
  | .hbm, ⟨16, _⟩ => ⟨S8192x1024, .f32⟩
  | .hbm, ⟨17, _⟩ => ⟨S8192x4096, .f32⟩
  | .hbm, ⟨18, _⟩ => ⟨S4096x1024, .f32⟩
  | .hbm, ⟨19, _⟩ => ⟨S1024x4096, .f32⟩
  | .hbm, ⟨20, _⟩ => ⟨S2x512x4x1024, .f32⟩
  | .hbm, ⟨21, _⟩ => ⟨S2x4x512x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]
-- ==== HgrnIn.lean ====
abbrev S8192x1024 : Shape := ⟨2, ![8192, 1024]⟩
abbrev S4x1024x1024 : Shape := ⟨3, ![4, 1024, 1024]⟩
abbrev S8x128 : Shape := ⟨2, ![8, 128]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8x128, .f32⟩
  | .hbm, ⟨3, _⟩ => ⟨S8192x4096, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgrnInRefIdeal.lean ====
abbrev S8192x1024 : Shape := ⟨2, ![8192, 1024]⟩
abbrev S4x1024x1024 : Shape := ⟨3, ![4, 1024, 1024]⟩
abbrev S8x128 : Shape := ⟨2, ![8, 128]⟩
abbrev S1024x4x1024 : Shape := ⟨3, ![1024, 4, 1024]⟩
abbrev S1024x4096 : Shape := ⟨2, ![1024, 4096]⟩
abbrev S8192x4096 : Shape := ⟨2, ![8192, 4096]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S4x1024x1024, .bf16⟩
  | .hbm, ⟨2, _⟩ => ⟨S8x128, .f32⟩
  | .hbm, ⟨3, _⟩ => ⟨S8192x1024, .f32⟩
  | .hbm, ⟨4, _⟩ => ⟨S4x1024x1024, .f32⟩
  | .hbm, ⟨5, _⟩ => ⟨S1024x4x1024, .f32⟩
  | .hbm, ⟨6, _⟩ => ⟨S1024x4096, .f32⟩
  | .hbm, ⟨7, _⟩ => ⟨S8192x4096, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== ConvInDx.lean ====
abbrev S8192x2048 : Shape := ⟨2, ![8192, 2048]⟩
abbrev S2x1024x1024 : Shape := ⟨3, ![2, 1024, 1024]⟩
abbrev S8192x1024 : Shape := ⟨2, ![8192, 1024]⟩
abbrev S1024x1024 : Shape := ⟨2, ![1024, 1024]⟩
abbrev S1x1024x1024 : Shape := ⟨3, ![1, 1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def k0_cond2 (i : grid0.Coords) : BitVec 1 :=
  let arg1 : BitVec 32 := BitVec.ofNat 32 (i 1).val
  let c1_i32 : BitVec 32 := 1#32
  let v12 : BitVec 1 := Scalar.cmpi .eq arg1 c1_i32
  let v13 : BitVec 32 := Scalar.extui v12
  let c0_i32_9 : BitVec 32 := 0#32
  let v14 : BitVec 1 := Scalar.cmpi .ne v13 c0_i32_9
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ConvInDxRefIdeal.lean ====
abbrev S8192x2048 : Shape := ⟨2, ![8192, 2048]⟩
abbrev S2x1024x1024 : Shape := ⟨3, ![2, 1024, 1024]⟩
abbrev S1024x2x1024 : Shape := ⟨3, ![1024, 2, 1024]⟩
abbrev S1024x2048 : Shape := ⟨2, ![1024, 2048]⟩
abbrev S_ : Shape := ⟨0, ![]⟩
abbrev S8192x1024 : Shape := ⟨2, ![8192, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2x1024x1024, .bf16⟩
  | .hbm, ⟨2, _⟩ => ⟨S2x1024x1024, .f32⟩
  | .hbm, ⟨3, _⟩ => ⟨S1024x2x1024, .f32⟩
  | .hbm, ⟨4, _⟩ => ⟨S1024x2048, .f32⟩
  | .hbm, ⟨5, _⟩ => ⟨S_, .f32⟩
  | .hbm, ⟨6, _⟩ => ⟨S8192x1024, .f32⟩
  | .hbm, ⟨7, _⟩ => ⟨S8192x2048, .f32⟩
  | .hbm, ⟨8, _⟩ => ⟨S8192x2048, .f32⟩
  | .hbm, ⟨9, _⟩ => ⟨S8192x1024, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvInDw.lean ====
abbrev S8192x1024 : Shape := ⟨2, ![8192, 1024]⟩
abbrev S8192x2048 : Shape := ⟨2, ![8192, 2048]⟩
abbrev S2x4x512x512 : Shape := ⟨4, ![2, 4, 512, 512]⟩
abbrev S1024x1024 : Shape := ⟨2, ![1024, 1024]⟩
abbrev S2x2x512x512 : Shape := ⟨4, ![2, 2, 512, 512]⟩
abbrev S1x1x512x512 : Shape := ⟨4, ![1, 1, 512, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S2x4x512x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x2x512x512, .f32⟩
  | .local _ .vmem, ⟨5, _⟩ => ⟨S2x2x512x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2x2x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ConvInDwRefIdeal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩
abbrev S2x512x4x512 : Shape := ⟨4, ![2, 512, 4, 512]⟩
abbrev S2x4x512x512 : Shape := ⟨4, ![2, 4, 512, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2048, .bf16⟩
  | .hbm, ⟨2, _⟩ => ⟨S_, .f32⟩
  | .hbm, ⟨3, _⟩ => ⟨S1024x2048, .f32⟩
  | .hbm, ⟨4, _⟩ => ⟨S8192x1024, .f32⟩
  | .hbm, ⟨5, _⟩ => ⟨S8192x2048, .f32⟩
  | .hbm, ⟨6, _⟩ => ⟨S8192x2048, .f32⟩
  | .hbm, ⟨7, _⟩ => ⟨S2048x1024, .f32⟩
  | .hbm, ⟨8, _⟩ => ⟨S1024x2048, .f32⟩
  | .hbm, ⟨9, _⟩ => ⟨S2x512x4x512, .f32⟩
  | .hbm, ⟨10, _⟩ => ⟨S2x4x512x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ConvIn.lean ====
abbrev S8192x1024 : Shape := ⟨2, ![8192, 1024]⟩
abbrev S2x1024x1024 : Shape := ⟨3, ![2, 1024, 1024]⟩
abbrev S1x2048 : Shape := ⟨2, ![1, 2048]⟩
abbrev S8192x2048 : Shape := ⟨2, ![8192, 2048]⟩
abbrev S1024x1024 : Shape := ⟨2, ![1024, 1024]⟩
abbrev S1x1024x1024 : Shape := ⟨3, ![1, 1024, 1024]⟩
abbrev S1x1024 : Shape := ⟨2, ![1, 1024]⟩

abbrev nBuf : Space → Nat
  | .hbm => 4
  | .vmem => 8
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S1x2048, .f32⟩
  | .hbm, ⟨3, _⟩ => ⟨S8192x2048, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvInRefIdeal.lean ====
abbrev S8192x1024 : Shape := ⟨2, ![8192, 1024]⟩
abbrev S2x1024x1024 : Shape := ⟨3, ![2, 1024, 1024]⟩
abbrev S1x2048 : Shape := ⟨2, ![1, 2048]⟩
abbrev S1024x2x1024 : Shape := ⟨3, ![1024, 2, 1024]⟩
abbrev S1024x2048 : Shape := ⟨2, ![1024, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2x1024x1024, .bf16⟩
  | .hbm, ⟨2, _⟩ => ⟨S1x2048, .f32⟩
  | .hbm, ⟨3, _⟩ => ⟨S8192x1024, .f32⟩
  | .hbm, ⟨4, _⟩ => ⟨S2x1024x1024, .f32⟩
  | .hbm, ⟨5, _⟩ => ⟨S1024x2x1024, .f32⟩
  | .hbm, ⟨6, _⟩ => ⟨S1024x2048, .f32⟩
  | .hbm, ⟨7, _⟩ => ⟨S8192x2048, .f32⟩
  | .hbm, ⟨8, _⟩ => ⟨S8192x2048, .f32⟩
  | .hbm, ⟨9, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== ConvOutDx.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_9 : BitVec 32 := 0#32
  let v12 : BitVec 1 := Scalar.cmpi .eq arg1 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== ConvOutDxRefIdeal.lean ====
abbrev S8192x1024 : Shape := ⟨2, ![8192, 1024]⟩
abbrev S1x1024x1024 : Shape := ⟨3, ![1, 1024, 1024]⟩
abbrev S1024x1x1024 : Shape := ⟨3, ![1024, 1, 1024]⟩
abbrev S1024x1024 : Shape := ⟨2, ![1024, 1024]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S1x1024x1024, .f32⟩
  | .hbm, ⟨3, _⟩ => ⟨S1024x1x1024, .f32⟩
  | .hbm, ⟨4, _⟩ => ⟨S1024x1024, .f32⟩
  | .hbm, ⟨5, _⟩ => ⟨S_, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDw.lean ====
abbrev S8192x1024 : Shape := ⟨2, ![8192, 1024]⟩
abbrev S2x4x128x1024 : Shape := ⟨4, ![2, 4, 128, 1024]⟩
abbrev S1024x1024 : Shape := ⟨2, ![1024, 1024]⟩
abbrev S1x1x128x1024 : Shape := ⟨4, ![1, 1, 128, 1024]⟩
abbrev S128x1024 : Shape := ⟨2, ![128, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2x4x128x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S2x4x128x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S2x4x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutDwRefIdeal.lean ====
abbrev S8192x1024 : Shape := ⟨2, ![8192, 1024]⟩
abbrev S_ : Shape := ⟨0, ![]⟩
abbrev S1024x1024 : Shape := ⟨2, ![1024, 1024]⟩
abbrev S4x2x128x1024 : Shape := ⟨4, ![4, 2, 128, 1024]⟩
abbrev S2x4x128x1024 : Shape := ⟨4, ![2, 4, 128, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S4x2x128x1024, .f32⟩
  | .hbm, ⟨10, _⟩ => ⟨S2x4x128x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ConvOut.lean ====
abbrev S8192x1024 : Shape := ⟨2, ![8192, 1024]⟩
abbrev S1x1024x1024 : Shape := ⟨3, ![1, 1024, 1024]⟩
abbrev S1x1024 : Shape := ⟨2, ![1, 1024]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S1x1024, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ConvOutRefIdeal.lean ====
abbrev S8192x1024 : Shape := ⟨2, ![8192, 1024]⟩
abbrev S1x1024x1024 : Shape := ⟨3, ![1, 1024, 1024]⟩
abbrev S1x1024 : Shape := ⟨2, ![1, 1024]⟩
abbrev S1024x1x1024 : Shape := ⟨3, ![1024, 1, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S1x1024, .f32⟩
  | .hbm, ⟨3, _⟩ => ⟨S8192x1024, .f32⟩
  | .hbm, ⟨4, _⟩ => ⟨S1x1024x1024, .f32⟩
  | .hbm, ⟨5, _⟩ => ⟨S1024x1x1024, .f32⟩
  | .hbm, ⟨6, _⟩ => ⟨S1024x1024, .f32⟩
  | .hbm, ⟨7, _⟩ => ⟨S8192x1024, .f32⟩
  | .hbm, ⟨8, _⟩ => ⟨S8192x1024, .f32⟩
  | .hbm, ⟨9, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== HgrnOutDx.lean ====
abbrev S8192x1024 : Shape := ⟨2, ![8192, 1024]⟩
abbrev S1x1024x1024 : Shape := ⟨3, ![1, 1024, 1024]⟩
abbrev S8x128 : Shape := ⟨2, ![8, 128]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8x128, .f32⟩
  | .hbm, ⟨3, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def k0_cond2 (i : grid0.Coords) : BitVec 1 :=
  let arg1 : BitVec 32 := BitVec.ofNat 32 (i 1).val
  let c0_i32_9 : BitVec 32 := 0#32
  let v12 : BitVec 1 := Scalar.cmpi .eq arg1 c0_i32_9
  let v13 : BitVec 32 := Scalar.extui v12
  let c0_i32_10 : BitVec 32 := 0#32
  let v14 : BitVec 1 := Scalar.cmpi .ne v13 c0_i32_10
  v14

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== HgrnOutDxRefIdeal.lean ====
abbrev S8192x1024 : Shape := ⟨2, ![8192, 1024]⟩
abbrev S1x1024x1024 : Shape := ⟨3, ![1, 1024, 1024]⟩
abbrev S8x128 : Shape := ⟨2, ![8, 128]⟩
abbrev S1024x1x1024 : Shape := ⟨3, ![1024, 1, 1024]⟩
abbrev S1024x1024 : Shape := ⟨2, ![1024, 1024]⟩
abbrev S_ : Shape := ⟨0, ![]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8x128, .f32⟩
  | .hbm, ⟨3, _⟩ => ⟨S1x1024x1024, .f32⟩
  | .hbm, ⟨4, _⟩ => ⟨S1024x1x1024, .f32⟩
  | .hbm, ⟨5, _⟩ => ⟨S1024x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== HgrnOut.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== HgrnOutRefIdeal.lean ====
abbrev S8192x1024 : Shape := ⟨2, ![8192, 1024]⟩
abbrev S1x1024x1024 : Shape := ⟨3, ![1, 1024, 1024]⟩
abbrev S1024x1x1024 : Shape := ⟨3, ![1024, 1, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S1x1024x1024, .f32⟩
  | .hbm, ⟨4, _⟩ => ⟨S1024x1x1024, .f32⟩
  | .hbm, ⟨5, _⟩ => ⟨S1024x1024, .f32⟩
  | .hbm, ⟨6, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== PrenormBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== PrenormBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S_, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S1x1024, .f32⟩
  | .hbm, ⟨28, _⟩ => ⟨S1x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S1024, .f32⟩
  | .hbm, ⟨36, _⟩ => ⟨S1x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192, .f32⟩
  | .hbm, ⟨52, _⟩ => ⟨S8192x1, .f32⟩
  | .hbm, ⟨53, _⟩ => ⟨S8192x1024, .f32⟩
  | .hbm, ⟨54, _⟩ => ⟨S8192x1024, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S8192x1024, .f32⟩
  | .hbm, ⟨66, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_8 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_9 : Ref sig .tc := ⟨.hbm, 56, rfl⟩
abbrev main_v41 : Ref sig .tc := ⟨.hbm, 57, rfl⟩
abbrev main_v42 : Ref sig .tc := ⟨.hbm, 58, rfl⟩
abbrev main_cst_10 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩

abbrev nD : Nat := 1
abbrev τ : Topo := Topo.v7x

variable {F : FTy → Type} [FloatOps F]
-- ==== PrenormPostBwd.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 16
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S8192x1024, .bf16⟩
  | .hbm, ⟨13, _⟩ => ⟨S1x1024, .f32⟩
  | .hbm, ⟨14, _⟩ => ⟨S1x1024, .f32⟩
  | .hbm, ⟨15, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S512x1024, .f32⟩
  | .local _ .vmem, ⟨13, _⟩ => ⟨S512x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S512x1024, .bf16⟩
  | .local _ .vmem, ⟨18, _⟩ => ⟨S512x1024, .bf16⟩
  | .local _ .vmem, ⟨19, _⟩ => ⟨S1x1024, .f32⟩
  | .local _ .vmem, ⟨20, _⟩ => ⟨S1x1024, .f32⟩
  | .local _ .vmem, ⟨21, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev main_v0_6 : Ref sig .tc := ⟨.hbm, 14, rfl⟩
abbrev main_v0_7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem14_0 : DmaSem sig := 20
abbrev cc0_sem15_0 : DmaSem sig := 21

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]
-- ==== PrenormPostBwdRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 127
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S1x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S8192x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S_, .f32⟩
  | .hbm, ⟨63, _⟩ => ⟨S8192, .f32⟩
  | .hbm, ⟨64, _⟩ => ⟨S8192x1024, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S_, .f32⟩
  | .hbm, ⟨77, _⟩ => ⟨S8192x1, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S_, .f32⟩
  | .hbm, ⟨85, _⟩ => ⟨S8192x1, .f32⟩
  | .hbm, ⟨86, _⟩ => ⟨S8192x1, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S1024, .f32⟩
  | .hbm, ⟨99, _⟩ => ⟨S1x1024, .f32⟩
  | .hbm, ⟨100, _⟩ => ⟨S8192x1024, .f32⟩
  | .hbm, ⟨101, _⟩ => ⟨S_, .f32⟩
  | .hbm, ⟨102, _⟩ => ⟨S1024, .f32⟩
  | .hbm, ⟨103, _⟩ => ⟨S1x1024, .f32⟩
  | .hbm, ⟨104, _⟩ => ⟨S8192x1024, .f32⟩
  | .hbm, ⟨105, _⟩ => ⟨S8192x1024, .f32⟩
  | .hbm, ⟨106, _⟩ => ⟨S8192x1024, .f32⟩
  | .hbm, ⟨107, _⟩ => ⟨S_, .f32⟩
  | .hbm, ⟨108, _⟩ => ⟨S8192, .f32⟩
  | .hbm, ⟨109, _⟩ => ⟨S8192x1, .f32⟩
  | .hbm, ⟨110, _⟩ => ⟨S8192x1024, .f32⟩
  | .hbm, ⟨111, _⟩ => ⟨S8192x1024, .f32⟩
  | .hbm, ⟨112, _⟩ => ⟨S8192x1, .f32⟩
  | .hbm, ⟨113, _⟩ => ⟨S_, .f32⟩
  | .hbm, ⟨114, _⟩ => ⟨S8192x1, .f32⟩
  | .hbm, ⟨115, _⟩ => ⟨S8192x1, .f32⟩
  | .hbm, ⟨116, _⟩ => ⟨S_, .f32⟩
  | .hbm, ⟨117, _⟩ => ⟨S8192, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x1024, .f32⟩
  | .hbm, ⟨122, _⟩ => ⟨S8192x1024, .f32⟩
  | .hbm, ⟨123, _⟩ => ⟨S8192x1024, .bf16⟩
  | .hbm, ⟨124, _⟩ => ⟨S_, .f32⟩
  | .hbm, ⟨125, _⟩ => ⟨S1024, .f32⟩
  | .hbm, ⟨126, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_cst_0 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_cst_2 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst_3 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_9 : Ref sig .tc := ⟨.hbm, 59, rfl⟩
abbrev main_v41 : Ref sig .tc := ⟨.hbm, 60, rfl⟩
abbrev main_v42 : Ref sig .tc := ⟨.hbm, 61, rfl⟩
abbrev main_cst_10 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_11 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_cst_13 : Ref sig .tc := ⟨.hbm, 76, rfl⟩
abbrev main_v54 : Ref sig .tc := ⟨.hbm, 77, rfl⟩
abbrev main_v55 : Ref sig .tc := ⟨.hbm, 78, rfl⟩
abbrev main_cst_14 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_15 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_16 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_17 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_18 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_cst_19 : Ref sig .tc := ⟨.hbm, 113, rfl⟩
abbrev main_v85 : Ref sig .tc := ⟨.hbm, 114, rfl⟩
abbrev main_v86 : Ref sig .tc := ⟨.hbm, 115, rfl⟩
abbrev main_cst_20 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_21 : Ref sig .tc := ⟨.hbm, 124, rfl⟩
abbrev main_v94 : Ref sig .tc := ⟨.hbm, 125, rfl⟩
abbrev main_v95 : Ref sig .tc := ⟨.hbm, 126, rfl⟩

abbrev nD : Nat := 1
abbrev τ : Topo := Topo.v7x

variable {F : FTy → Type} [FloatOps F]
-- ==== PostLoss.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 15
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .bf16⟩
  | .hbm, ⟨8, _⟩ => ⟨S1x1024, .f32⟩
  | .hbm, ⟨9, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== PostLossRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 103
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S8192x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S8192, .f32⟩
  | .hbm, ⟨65, _⟩ => ⟨S8192x1, .f32⟩
  | .hbm, ⟨66, _⟩ => ⟨S8192x1024, .f32⟩
  | .hbm, ⟨67, _⟩ => ⟨S8192x1024, .f32⟩
  | .hbm, ⟨68, _⟩ => ⟨S8192x1, .f32⟩
  | .hbm, ⟨69, _⟩ => ⟨S_, .f32⟩
  | .hbm, ⟨70, _⟩ => ⟨S8192x1, .f32⟩
  | .hbm, ⟨71, _⟩ => ⟨S8192x1, .f32⟩
  | .hbm, ⟨72, _⟩ => ⟨S_, .f32⟩
  | .hbm, ⟨73, _⟩ => ⟨S8192, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S8192x1024, .f32⟩
  | .hbm, ⟨78, _⟩ => ⟨S8192x1024, .f32⟩
  | .hbm, ⟨79, _⟩ => ⟨S8192x1024, .f32⟩
  | .hbm, ⟨80, _⟩ => ⟨S_, .f32⟩
  | .hbm, ⟨81, _⟩ => ⟨S8192, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S8192x1, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S8192x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S_, .f32⟩
  | .hbm, ⟨100, _⟩ => ⟨S1024, .f32⟩
  | .hbm, ⟨101, _⟩ => ⟨S1x1024, .f32⟩
  | .hbm, ⟨102, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_cst_6 : Ref sig .tc := ⟨.hbm, 37, rfl⟩
abbrev main_v25 : Ref sig .tc := ⟨.hbm, 38, rfl⟩
abbrev main_cst_7 : Ref sig .tc := ⟨.hbm, 39, rfl⟩
abbrev main_v26 : Ref sig .tc := ⟨.hbm, 40, rfl⟩
abbrev main_cst_8 : Ref sig .tc := ⟨.hbm, 41, rfl⟩
abbrev main_cst_9 : Ref sig .tc := ⟨.hbm, 42, rfl⟩
abbrev main_v27 : Ref sig .tc := ⟨.hbm, 43, rfl⟩
abbrev main_v28 : Ref sig .tc := ⟨.hbm, 44, rfl⟩
abbrev main_cst_10 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_11 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_12 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_13 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_14 : Ref sig .tc := ⟨.hbm, 69, rfl⟩
abbrev main_v49 : Ref sig .tc := ⟨.hbm, 70, rfl⟩
abbrev main_v50 : Ref sig .tc := ⟨.hbm, 71, rfl⟩
abbrev main_cst_15 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_16 : Ref sig .tc := ⟨.hbm, 80, rfl⟩
abbrev main_v58 : Ref sig .tc := ⟨.hbm, 81, rfl⟩
abbrev main_v59 : Ref sig .tc := ⟨.hbm, 82, rfl⟩
abbrev main_cst_17 : Ref sig .tc := ⟨.hbm, 83, rfl⟩
abbrev main_v60 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_cst_19 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩

abbrev nD : Nat := 1
abbrev τ : Topo := Topo.v7x

variable {F : FTy → Type} [FloatOps F]
-- ==== Prenorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== PrenormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S1x1024, .f32⟩
  | .hbm, ⟨21, _⟩ => ⟨S1x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== PostPrenorm.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PostPrenormRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 48
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩

abbrev nD : Nat := 1
abbrev τ : Topo := Topo.v7x

variable {F : FTy → Type} [FloatOps F]
-- ==== Gate.lean ====
abbrev S8192x1024 : Shape := ⟨2, ![8192, 1024]⟩
abbrev S8192x4096 : Shape := ⟨2, ![8192, 4096]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1x128, .f32⟩
  | .hbm, ⟨3, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x128, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== GateRefIdeal.lean ====
abbrev S8192x1024 : Shape := ⟨2, ![8192, 1024]⟩
abbrev S8192x4096 : Shape := ⟨2, ![8192, 4096]⟩
abbrev S1x128 : Shape := ⟨2, ![1, 128]⟩
abbrev S8192x8x128 : Shape := ⟨3, ![8192, 8, 128]⟩
abbrev S1x1x128 : Shape := ⟨3, ![1, 1, 128]⟩
abbrev S_ : Shape := ⟨0, ![]⟩
abbrev S8192x8 : Shape := ⟨2, ![8192, 8]⟩
abbrev S8192x8x1 : Shape := ⟨3, ![8192, 8, 1]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S1x128, .f32⟩
  | .hbm, ⟨3, _⟩ => ⟨S8192x1024, .f32⟩
  | .hbm, ⟨4, _⟩ => ⟨S8192x8x128, .f32⟩
  | .hbm, ⟨5, _⟩ => ⟨S1x1x128, .f32⟩
  | .hbm, ⟨6, _⟩ => ⟨S8192x8x128, .f32⟩
  | .hbm, ⟨7, _⟩ => ⟨S_, .f32⟩
  | .hbm, ⟨8, _⟩ => ⟨S8192x8, .f32⟩
  | .hbm, ⟨9, _⟩ => ⟨S8192x8x1, .f32⟩
  | .hbm, ⟨10, _⟩ => ⟨S_, .f32⟩
  | .hbm, ⟨11, _⟩ => ⟨S8192x8x1, .f32⟩
  | .hbm, ⟨12, _⟩ => ⟨S8192x8x1, .f32⟩
  | .hbm, ⟨13, _⟩ => ⟨S_, .f32⟩
  | .hbm, ⟨14, _⟩ => ⟨S8192x8x1, .f32⟩
  | .hbm, ⟨15, _⟩ => ⟨S8192x8x1, .f32⟩
  | .hbm, ⟨16, _⟩ => ⟨S8192x8x1, .f32⟩
  | .hbm, ⟨17, _⟩ => ⟨S8192x8x128, .f32⟩
  | .hbm, ⟨18, _⟩ => ⟨S8192x8x128, .f32⟩
  | .hbm, ⟨19, _⟩ => ⟨S8192x8x128, .f32⟩
  | .hbm, ⟨20, _⟩ => ⟨S8192x8x128, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]
-- ==== AdamW.lean ====
abbrev S2048x1408 : Shape := ⟨2, ![2048, 1408]⟩
abbrev S8x128 : Shape := ⟨2, ![8, 128]⟩
abbrev S256x1408 : Shape := ⟨2, ![256, 1408]⟩

abbrev nBuf : Space → Nat
  | .hbm => 8
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x128, .f32⟩
  | .hbm, ⟨5, _⟩ => ⟨S2048x1408, .f32⟩
  | .hbm, ⟨6, _⟩ => ⟨S2048x1408, .f32⟩
  | .hbm, ⟨7, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWRefIdeal.lean ====
abbrev S2048x1408 : Shape := ⟨2, ![2048, 1408]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S8x128, .f32⟩
  | .hbm, ⟨5, _⟩ => ⟨S_, .f32⟩
  | .hbm, ⟨6, _⟩ => ⟨S2048x1408, .f32⟩
  | .hbm, ⟨7, _⟩ => ⟨S2048x1408, .f32⟩
  | .hbm, ⟨8, _⟩ => ⟨S_, .f32⟩
  | .hbm, ⟨9, _⟩ => ⟨S2048x1408, .f32⟩
  | .hbm, ⟨10, _⟩ => ⟨S2048x1408, .f32⟩
  | .hbm, ⟨11, _⟩ => ⟨S2048x1408, .f32⟩
  | .hbm, ⟨12, _⟩ => ⟨S_, .f32⟩
  | .hbm, ⟨13, _⟩ => ⟨S2048x1408, .f32⟩
  | .hbm, ⟨14, _⟩ => ⟨S2048x1408, .f32⟩
  | .hbm, ⟨15, _⟩ => ⟨S2048x1408, .f32⟩
  | .hbm, ⟨16, _⟩ => ⟨S_, .f32⟩
  | .hbm, ⟨17, _⟩ => ⟨S2048x1408, .f32⟩
  | .hbm, ⟨18, _⟩ => ⟨S2048x1408, .f32⟩
  | .hbm, ⟨19, _⟩ => ⟨S2048x1408, .f32⟩
  | .hbm, ⟨20, _⟩ => ⟨S_, .f32⟩
  | .hbm, ⟨21, _⟩ => ⟨S2048x1408, .f32⟩
  | .hbm, ⟨22, _⟩ => ⟨S2048x1408, .f32⟩
  | .hbm, ⟨23, _⟩ => ⟨S_, .f32⟩
  | .hbm, ⟨24, _⟩ => ⟨S2048x1408, .f32⟩
  | .hbm, ⟨25, _⟩ => ⟨S2048x1408, .f32⟩
  | .hbm, ⟨26, _⟩ => ⟨S2048x1408, .f32⟩
  | .hbm, ⟨27, _⟩ => ⟨S_, .f32⟩
  | .hbm, ⟨28, _⟩ => ⟨S2048x1408, .f32⟩
  | .hbm, ⟨29, _⟩ => ⟨S2048x1408, .f32⟩
  | .hbm, ⟨30, _⟩ => ⟨S2048x1408, .f32⟩
  | .hbm, ⟨31, _⟩ => ⟨S_, .f32⟩
  | .hbm, ⟨32, _⟩ => ⟨S2048x1408, .f32⟩
  | .hbm, ⟨33, _⟩ => ⟨S2048x1408, .f32⟩
  | .hbm, ⟨34, _⟩ => ⟨S2048x1408, .f32⟩
  | .hbm, ⟨35, _⟩ => ⟨S_, .f32⟩
  | .hbm, ⟨36, _⟩ => ⟨S2048x1408, .f32⟩
  | .hbm, ⟨37, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamWDown.lean ====
abbrev S1408x1024 : Shape := ⟨2, ![1408, 1024]⟩
abbrev S8x128 : Shape := ⟨2, ![8, 128]⟩
abbrev S176x1024 : Shape := ⟨2, ![176, 1024]⟩

abbrev nBuf : Space → Nat
  | .hbm => 8
  | .vmem => 14
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S8x128, .f32⟩
  | .hbm, ⟨5, _⟩ => ⟨S1408x1024, .f32⟩
  | .hbm, ⟨6, _⟩ => ⟨S1408x1024, .f32⟩
  | .hbm, ⟨7, _⟩ => ⟨S1408x1024, .f32⟩
  | .local _ .vmem, ⟨0, _⟩ => ⟨S176x1024, .f32⟩
  | .local _ .vmem, ⟨1, _⟩ => ⟨S176x1024, .f32⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | _, _ => ⟨S1408x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S176x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWDownRefIdeal.lean ====
abbrev S1408x1024 : Shape := ⟨2, ![1408, 1024]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1408x1024, .f32⟩
  | .hbm, ⟨1, _⟩ => ⟨S1408x1024, .f32⟩
  | .hbm, ⟨2, _⟩ => ⟨S1408x1024, .f32⟩
  | .hbm, ⟨3, _⟩ => ⟨S1408x1024, .f32⟩
  | .hbm, ⟨4, _⟩ => ⟨S8x128, .f32⟩
  | .hbm, ⟨5, _⟩ => ⟨S_, .f32⟩
  | .hbm, ⟨6, _⟩ => ⟨S1408x1024, .f32⟩
  | .hbm, ⟨7, _⟩ => ⟨S1408x1024, .f32⟩
  | .hbm, ⟨8, _⟩ => ⟨S_, .f32⟩
  | .hbm, ⟨9, _⟩ => ⟨S1408x1024, .f32⟩
  | .hbm, ⟨10, _⟩ => ⟨S1408x1024, .f32⟩
  | .hbm, ⟨11, _⟩ => ⟨S1408x1024, .f32⟩
  | .hbm, ⟨12, _⟩ => ⟨S_, .f32⟩
  | .hbm, ⟨13, _⟩ => ⟨S1408x1024, .f32⟩
  | .hbm, ⟨14, _⟩ => ⟨S1408x1024, .f32⟩
  | .hbm, ⟨15, _⟩ => ⟨S1408x1024, .f32⟩
  | .hbm, ⟨16, _⟩ => ⟨S_, .f32⟩
  | .hbm, ⟨17, _⟩ => ⟨S1408x1024, .f32⟩
  | .hbm, ⟨18, _⟩ => ⟨S1408x1024, .f32⟩
  | .hbm, ⟨19, _⟩ => ⟨S1408x1024, .f32⟩
  | .hbm, ⟨20, _⟩ => ⟨S_, .f32⟩
  | .hbm, ⟨21, _⟩ => ⟨S1408x1024, .f32⟩
  | .hbm, ⟨22, _⟩ => ⟨S1408x1024, .f32⟩
  | .hbm, ⟨23, _⟩ => ⟨S_, .f32⟩
  | .hbm, ⟨24, _⟩ => ⟨S1408x1024, .f32⟩
  | .hbm, ⟨25, _⟩ => ⟨S1408x1024, .f32⟩
  | .hbm, ⟨26, _⟩ => ⟨S1408x1024, .f32⟩
  | .hbm, ⟨27, _⟩ => ⟨S_, .f32⟩
  | .hbm, ⟨28, _⟩ => ⟨S1408x1024, .f32⟩
  | .hbm, ⟨29, _⟩ => ⟨S1408x1024, .f32⟩
  | .hbm, ⟨30, _⟩ => ⟨S1408x1024, .f32⟩
  | .hbm, ⟨31, _⟩ => ⟨S_, .f32⟩
  | .hbm, ⟨32, _⟩ => ⟨S1408x1024, .f32⟩
  | .hbm, ⟨33, _⟩ => ⟨S1408x1024, .f32⟩
  | .hbm, ⟨34, _⟩ => ⟨S1408x1024, .f32⟩
  | .hbm, ⟨35, _⟩ => ⟨S_, .f32⟩
  | .hbm, ⟨36, _⟩ => ⟨S1408x1024, .f32⟩
  | .hbm, ⟨37, _⟩ => ⟨S1408x1024, .f32⟩
  | _, _ => ⟨S1408x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamWConvIn.lean ====
abbrev S1024x512 : Shape := ⟨2, ![1024, 512]⟩
abbrev S8x128 : Shape := ⟨2, ![8, 128]⟩
abbrev S256x512 : Shape := ⟨2, ![256, 512]⟩

abbrev nBuf : Space → Nat
  | .hbm => 8
  | .vmem => 14
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x128, .f32⟩
  | .hbm, ⟨5, _⟩ => ⟨S1024x512, .f32⟩
  | .hbm, ⟨6, _⟩ => ⟨S1024x512, .f32⟩
  | .hbm, ⟨7, _⟩ => ⟨S1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWConvInRefIdeal.lean ====
abbrev S1024x512 : Shape := ⟨2, ![1024, 512]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S1024x512, .f32⟩
  | .hbm, ⟨3, _⟩ => ⟨S1024x512, .f32⟩
  | .hbm, ⟨4, _⟩ => ⟨S8x128, .f32⟩
  | .hbm, ⟨5, _⟩ => ⟨S_, .f32⟩
  | .hbm, ⟨6, _⟩ => ⟨S1024x512, .f32⟩
  | .hbm, ⟨7, _⟩ => ⟨S1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x512, .f32⟩
  | .hbm, ⟨16, _⟩ => ⟨S_, .f32⟩
  | .hbm, ⟨17, _⟩ => ⟨S1024x512, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x512, .f32⟩
  | .hbm, ⟨25, _⟩ => ⟨S1024x512, .f32⟩
  | .hbm, ⟨26, _⟩ => ⟨S1024x512, .f32⟩
  | .hbm, ⟨27, _⟩ => ⟨S_, .f32⟩
  | .hbm, ⟨28, _⟩ => ⟨S1024x512, .f32⟩
  | .hbm, ⟨29, _⟩ => ⟨S1024x512, .f32⟩
  | .hbm, ⟨30, _⟩ => ⟨S1024x512, .f32⟩
  | .hbm, ⟨31, _⟩ => ⟨S_, .f32⟩
  | .hbm, ⟨32, _⟩ => ⟨S1024x512, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamWConvOut.lean ====
abbrev S256x1024 : Shape := ⟨2, ![256, 1024]⟩
abbrev S8x128 : Shape := ⟨2, ![8, 128]⟩

abbrev nBuf : Space → Nat
  | .hbm => 8
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x128, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWConvOutRefIdeal.lean ====
abbrev S256x1024 : Shape := ⟨2, ![256, 1024]⟩
abbrev S8x128 : Shape := ⟨2, ![8, 128]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S8x128, .f32⟩
  | .hbm, ⟨5, _⟩ => ⟨S_, .f32⟩
  | .hbm, ⟨6, _⟩ => ⟨S256x1024, .f32⟩
  | .hbm, ⟨7, _⟩ => ⟨S256x1024, .f32⟩
  | .hbm, ⟨8, _⟩ => ⟨S_, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S_, .f32⟩
  | .hbm, ⟨13, _⟩ => ⟨S256x1024, .f32⟩
  | .hbm, ⟨14, _⟩ => ⟨S256x1024, .f32⟩
  | .hbm, ⟨15, _⟩ => ⟨S256x1024, .f32⟩
  | .hbm, ⟨16, _⟩ => ⟨S_, .f32⟩
  | .hbm, ⟨17, _⟩ => ⟨S256x1024, .f32⟩
  | .hbm, ⟨18, _⟩ => ⟨S256x1024, .f32⟩
  | .hbm, ⟨19, _⟩ => ⟨S256x1024, .f32⟩
  | .hbm, ⟨20, _⟩ => ⟨S_, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S256x1024, .f32⟩
  | .hbm, ⟨27, _⟩ => ⟨S_, .f32⟩
  | .hbm, ⟨28, _⟩ => ⟨S256x1024, .f32⟩
  | .hbm, ⟨29, _⟩ => ⟨S256x1024, .f32⟩
  | .hbm, ⟨30, _⟩ => ⟨S256x1024, .f32⟩
  | .hbm, ⟨31, _⟩ => ⟨S_, .f32⟩
  | .hbm, ⟨32, _⟩ => ⟨S256x1024, .f32⟩
  | .hbm, ⟨33, _⟩ => ⟨S256x1024, .f32⟩
  | .hbm, ⟨34, _⟩ => ⟨S256x1024, .f32⟩
  | .hbm, ⟨35, _⟩ => ⟨S_, .f32⟩
  | .hbm, ⟨36, _⟩ => ⟨S256x1024, .f32⟩
  | .hbm, ⟨37, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_5 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩

abbrev nD : Nat := 1
abbrev τ : Topo := Topo.v7x

variable {F : FTy → Type} [FloatOps F]
-- ==== AdamWAda.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWAdaRefIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWHgrnIn.lean ====
abbrev S1024x1024 : Shape := ⟨2, ![1024, 1024]⟩
abbrev S256x1024 : Shape := ⟨2, ![256, 1024]⟩

abbrev nBuf : Space → Nat
  | .hbm => 7
  | .vmem => 14
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamWHgrnInRefIdeal.lean ====
abbrev S1024x1024 : Shape := ⟨2, ![1024, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S_, .f32⟩
  | .hbm, ⟨5, _⟩ => ⟨S1024x1024, .f32⟩
  | .hbm, ⟨6, _⟩ => ⟨S1024x1024, .f32⟩
  | .hbm, ⟨7, _⟩ => ⟨S_, .f32⟩
  | .hbm, ⟨8, _⟩ => ⟨S1024x1024, .f32⟩
  | .hbm, ⟨9, _⟩ => ⟨S1024x1024, .f32⟩
  | .hbm, ⟨10, _⟩ => ⟨S1024x1024, .f32⟩
  | .hbm, ⟨11, _⟩ => ⟨S_, .f32⟩
  | .hbm, ⟨12, _⟩ => ⟨S1024x1024, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S_, .f32⟩
  | .hbm, ⟨23, _⟩ => ⟨S1024x1024, .f32⟩
  | .hbm, ⟨24, _⟩ => ⟨S1024x1024, .f32⟩
  | .hbm, ⟨25, _⟩ => ⟨S1024x1024, .f32⟩
  | .hbm, ⟨26, _⟩ => ⟨S_, .f32⟩
  | .hbm, ⟨27, _⟩ => ⟨S1024x1024, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWHgrnOut.lean ====
abbrev S256x1024 : Shape := ⟨2, ![256, 1024]⟩

abbrev nBuf : Space → Nat
  | .hbm => 7
  | .vmem => 7
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWHgrnOutRefIdeal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamWSmall.lean ====
abbrev S8x6656 : Shape := ⟨2, ![8, 6656]⟩

abbrev nBuf : Space → Nat
  | .hbm => 7
  | .vmem => 7
  | .smem => 0
  | _ => 0

abbrev bufTy : (tb : Table) → Fin (tcTables nBuf tb) → BufTy
  | .hbm, ⟨0, _⟩ => ⟨S8x6656, .f32⟩
  | .hbm, ⟨1, _⟩ => ⟨S8x6656, .f32⟩
  | .hbm, ⟨2, _⟩ => ⟨S8x6656, .f32⟩
  | .hbm, ⟨3, _⟩ => ⟨S8x6656, .f32⟩
  | .hbm, ⟨4, _⟩ => ⟨S8x6656, .f32⟩
  | .hbm, ⟨5, _⟩ => ⟨S8x6656, .f32⟩
  | .hbm, ⟨6, _⟩ => ⟨S8x6656, .f32⟩
  | .local _ .vmem, ⟨0, _⟩ => ⟨S8x6656, .f32⟩
  | .local _ .vmem, ⟨1, _⟩ => ⟨S8x6656, .f32⟩
  | .local _ .vmem, ⟨2, _⟩ => ⟨S8x6656, .f32⟩
  | .local _ .vmem, ⟨3, _⟩ => ⟨S8x6656, .f32⟩
  | .local _ .vmem, ⟨4, _⟩ => ⟨S8x6656, .f32⟩
  | .local _ .vmem, ⟨5, _⟩ => ⟨S8x6656, .f32⟩
  | .local _ .vmem, ⟨6, _⟩ => ⟨S8x6656, .f32⟩
  | _, _ => ⟨S8x6656, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x6656 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S8x6656 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x6656 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S8x6656 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S8x6656 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S8x6656 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S8x6656 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamWSmallRefIdeal.lean ====
abbrev S8x6656 : Shape := ⟨2, ![8, 6656]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S8x6656, .f32⟩
  | .hbm, ⟨1, _⟩ => ⟨S8x6656, .f32⟩
  | .hbm, ⟨2, _⟩ => ⟨S8x6656, .f32⟩
  | .hbm, ⟨3, _⟩ => ⟨S8x6656, .f32⟩
  | .hbm, ⟨4, _⟩ => ⟨S_, .f32⟩
  | .hbm, ⟨5, _⟩ => ⟨S8x6656, .f32⟩
  | .hbm, ⟨6, _⟩ => ⟨S8x6656, .f32⟩
  | .hbm, ⟨7, _⟩ => ⟨S_, .f32⟩
  | .hbm, ⟨8, _⟩ => ⟨S8x6656, .f32⟩
  | .hbm, ⟨9, _⟩ => ⟨S8x6656, .f32⟩
  | .hbm, ⟨10, _⟩ => ⟨S8x6656, .f32⟩
  | .hbm, ⟨11, _⟩ => ⟨S_, .f32⟩
  | .hbm, ⟨12, _⟩ => ⟨S8x6656, .f32⟩
  | .hbm, ⟨13, _⟩ => ⟨S8x6656, .f32⟩
  | .hbm, ⟨14, _⟩ => ⟨S8x6656, .f32⟩
  | .hbm, ⟨15, _⟩ => ⟨S_, .f32⟩
  | .hbm, ⟨16, _⟩ => ⟨S8x6656, .f32⟩
  | .hbm, ⟨17, _⟩ => ⟨S8x6656, .f32⟩
  | .hbm, ⟨18, _⟩ => ⟨S8x6656, .f32⟩
  | .hbm, ⟨19, _⟩ => ⟨S_, .f32⟩
  | .hbm, ⟨20, _⟩ => ⟨S8x6656, .f32⟩
  | .hbm, ⟨21, _⟩ => ⟨S8x6656, .f32⟩
  | .hbm, ⟨22, _⟩ => ⟨S_, .f32⟩
  | .hbm, ⟨23, _⟩ => ⟨S8x6656, .f32⟩
  | .hbm, ⟨24, _⟩ => ⟨S8x6656, .f32⟩
  | .hbm, ⟨25, _⟩ => ⟨S8x6656, .f32⟩
  | .hbm, ⟨26, _⟩ => ⟨S_, .f32⟩
  | .hbm, ⟨27, _⟩ => ⟨S8x6656, .f32⟩
  | .hbm, ⟨28, _⟩ => ⟨S8x6656, .f32⟩
  | .hbm, ⟨29, _⟩ => ⟨S8x6656, .f32⟩
  | .hbm, ⟨30, _⟩ => ⟨S_, .f32⟩
  | .hbm, ⟨31, _⟩ => ⟨S8x6656, .f32⟩
  | .hbm, ⟨32, _⟩ => ⟨S8x6656, .f32⟩
  | .hbm, ⟨33, _⟩ => ⟨S8x6656, .f32⟩
  | .hbm, ⟨34, _⟩ => ⟨S_, .f32⟩
  | .hbm, ⟨35, _⟩ => ⟨S8x6656, .f32⟩
  | .hbm, ⟨36, _⟩ => ⟨S8x6656, .f32⟩
  | _, _ => ⟨S8x6656, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdaWgrad.lean ====
abbrev S1024x8 : Shape := ⟨2, ![1024, 8]⟩
abbrev S2x8x1536 : Shape := ⟨3, ![2, 8, 1536]⟩
abbrev S2x1024x1536 : Shape := ⟨3, ![2, 1024, 1536]⟩
abbrev S256x8 : Shape := ⟨2, ![256, 8]⟩
abbrev S1x8x1536 : Shape := ⟨3, ![1, 8, 1536]⟩
abbrev S1x256x1536 : Shape := ⟨3, ![1, 256, 1536]⟩
abbrev S256x1 : Shape := ⟨2, ![256, 1]⟩
abbrev S1x1x1536 : Shape := ⟨3, ![1, 1, 1536]⟩
abbrev S1x1536 : Shape := ⟨2, ![1, 1536]⟩
abbrev S256x1536 : Shape := ⟨2, ![256, 1536]⟩

abbrev nBuf : Space → Nat
  | .hbm => 3
  | .vmem => 6
  | .smem => 0
  | _ => 0

abbrev bufTy : (tb : Table) → Fin (tcTables nBuf tb) → BufTy
  | .hbm, ⟨0, _⟩ => ⟨S1024x8, .f32⟩
  | .hbm, ⟨1, _⟩ => ⟨S2x8x1536, .f32⟩
  | .hbm, ⟨2, _⟩ => ⟨S2x1024x1536, .f32⟩
  | .local _ .vmem, ⟨0, _⟩ => ⟨S256x8, .f32⟩
  | .local _ .vmem, ⟨1, _⟩ => ⟨S256x8, .f32⟩
  | .local _ .vmem, ⟨2, _⟩ => ⟨S1x8x1536, .f32⟩
  | .local _ .vmem, ⟨3, _⟩ => ⟨S1x8x1536, .f32⟩
  | .local _ .vmem, ⟨4, _⟩ => ⟨S1x256x1536, .f32⟩
  | .local _ .vmem, ⟨5, _⟩ => ⟨S1x256x1536, .f32⟩
  | _, _ => ⟨S1024x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== AdaWgradRefIdeal.lean ====
abbrev S1024x8 : Shape := ⟨2, ![1024, 8]⟩
abbrev S2x8x1536 : Shape := ⟨3, ![2, 8, 1536]⟩
abbrev S8x1024 : Shape := ⟨2, ![8, 1024]⟩
abbrev S_ : Shape := ⟨0, ![]⟩
abbrev S2x1024x1536 : Shape := ⟨3, ![2, 1024, 1536]⟩
abbrev S2x1536x8 : Shape := ⟨3, ![2, 1536, 8]⟩
abbrev S2x1536x1024 : Shape := ⟨3, ![2, 1536, 1024]⟩

abbrev nBuf : Space → Nat
  | .hbm => 19
  | .vmem => 0
  | .smem => 0
  | _ => 0

abbrev bufTy : (tb : Table) → Fin (tcTables nBuf tb) → BufTy
  | .hbm, ⟨0, _⟩ => ⟨S1024x8, .f32⟩
  | .hbm, ⟨1, _⟩ => ⟨S2x8x1536, .f32⟩
  | .hbm, ⟨2, _⟩ => ⟨S8x1024, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S_, .f32⟩
  | .hbm, ⟨13, _⟩ => ⟨S2x1024x1536, .f32⟩
  | .hbm, ⟨14, _⟩ => ⟨S2x1536x8, .f32⟩
  | .hbm, ⟨15, _⟩ => ⟨S2x8x1536, .f32⟩
  | .hbm, ⟨16, _⟩ => ⟨S2x1536x8, .f32⟩
  | .hbm, ⟨17, _⟩ => ⟨S2x1536x1024, .f32⟩
  | .hbm, ⟨18, _⟩ => ⟨S2x1024x1536, .f32⟩
  | _, _ => ⟨S1024x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩

abbrev nD : Nat := 1
abbrev τ : Topo := Topo.v7x

variable {F : FTy → Type} [FloatOps F]
-- ==== SumSmall.lean ====
abbrev S8x8x13312 : Shape := ⟨3, ![8, 8, 13312]⟩
abbrev S8x13312 : Shape := ⟨2, ![8, 13312]⟩
abbrev S1x8x13312 : Shape := ⟨3, ![1, 8, 13312]⟩

abbrev nBuf : Space → Nat
  | .hbm => 2
  | .vmem => 2
  | .smem => 0
  | _ => 0

abbrev bufTy : (tb : Table) → Fin (tcTables nBuf tb) → BufTy
  | .hbm, ⟨0, _⟩ => ⟨S8x8x13312, .f32⟩
  | .hbm, ⟨1, _⟩ => ⟨S8x13312, .f32⟩
  | .local _ .vmem, ⟨0, _⟩ => ⟨S8x8x13312, .f32⟩
  | .local _ .vmem, ⟨1, _⟩ => ⟨S8x13312, .f32⟩
  | _, _ => ⟨S8x8x13312, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x8x13312 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x13312 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumSmallRefIdeal.lean ====
abbrev S8x8x13312 : Shape := ⟨3, ![8, 8, 13312]⟩
abbrev S_ : Shape := ⟨0, ![]⟩
abbrev S8x13312 : Shape := ⟨2, ![8, 13312]⟩

abbrev nBuf : Space → Nat
  | .hbm => 3
  | .vmem => 0
  | .smem => 0
  | _ => 0

abbrev bufTy : (tb : Table) → Fin (tcTables nBuf tb) → BufTy
  | .hbm, ⟨0, _⟩ => ⟨S8x8x13312, .f32⟩
  | .hbm, ⟨1, _⟩ => ⟨S_, .f32⟩
  | .hbm, ⟨2, _⟩ => ⟨S8x13312, .f32⟩
  | _, _ => ⟨S8x8x13312, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== GateBwd.lean ====
abbrev S8192x1024 : Shape := ⟨2, ![8192, 1024]⟩
abbrev S8192x4096 : Shape := ⟨2, ![8192, 4096]⟩
abbrev S1x128 : Shape := ⟨2, ![1, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S128 : Shape := ⟨1, ![128]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S1x128, .f32⟩
  | .hbm, ⟨4, _⟩ => ⟨S8192x1024, .f32⟩
  | .hbm, ⟨5, _⟩ => ⟨S8192x1024, .bf16⟩
  | .hbm, ⟨6, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x128, .f32⟩
  | .local _ .vmem, ⟨7, _⟩ => ⟨S512x1024, .f32⟩
  | .local _ .vmem, ⟨8, _⟩ => ⟨S512x1024, .f32⟩
  | .local _ .vmem, ⟨9, _⟩ => ⟨S512x1024, .bf16⟩
  | .local _ .vmem, ⟨10, _⟩ => ⟨S512x1024, .bf16⟩
  | .local _ .vmem, ⟨11, _⟩ => ⟨S1x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== GateBwdRefIdeal.lean ====
abbrev S8192x1024 : Shape := ⟨2, ![8192, 1024]⟩
abbrev S8192x4096 : Shape := ⟨2, ![8192, 4096]⟩
abbrev S1x128 : Shape := ⟨2, ![1, 128]⟩
abbrev S_ : Shape := ⟨0, ![]⟩
abbrev S65536x128 : Shape := ⟨2, ![65536, 128]⟩
abbrev S65536 : Shape := ⟨1, ![65536]⟩
abbrev S65536x1 : Shape := ⟨2, ![65536, 1]⟩
abbrev S128 : Shape := ⟨1, ![128]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x4096, .f32⟩
  | .hbm, ⟨3, _⟩ => ⟨S1x128, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S65536x128, .f32⟩
  | .hbm, ⟨19, _⟩ => ⟨S65536x128, .f32⟩
  | .hbm, ⟨20, _⟩ => ⟨S_, .f32⟩
  | .hbm, ⟨21, _⟩ => ⟨S65536, .f32⟩
  | .hbm, ⟨22, _⟩ => ⟨S65536x1, .f32⟩
  | .hbm, ⟨23, _⟩ => ⟨S_, .f32⟩
  | .hbm, ⟨24, _⟩ => ⟨S65536x1, .f32⟩
  | .hbm, ⟨25, _⟩ => ⟨S65536x1, .f32⟩
  | .hbm, ⟨26, _⟩ => ⟨S_, .f32⟩
  | .hbm, ⟨27, _⟩ => ⟨S65536x1, .f32⟩
  | .hbm, ⟨28, _⟩ => ⟨S65536x1, .f32⟩
  | .hbm, ⟨29, _⟩ => ⟨S65536x1, .f32⟩
  | .hbm, ⟨30, _⟩ => ⟨S65536x1, .f32⟩
  | .hbm, ⟨31, _⟩ => ⟨S_, .f32⟩
  | .hbm, ⟨32, _⟩ => ⟨S65536x1, .f32⟩
  | .hbm, ⟨33, _⟩ => ⟨S65536x1, .f32⟩
  | .hbm, ⟨34, _⟩ => ⟨S65536x128, .f32⟩
  | .hbm, ⟨35, _⟩ => ⟨S65536x128, .f32⟩
  | .hbm, ⟨36, _⟩ => ⟨S65536x128, .f32⟩
  | .hbm, ⟨37, _⟩ => ⟨S65536x128, .f32⟩
  | .hbm, ⟨38, _⟩ => ⟨S8192x1024, .f32⟩
  | .hbm, ⟨39, _⟩ => ⟨S8192x1024, .f32⟩
  | .hbm, ⟨40, _⟩ => ⟨S65536x128, .f32⟩
  | .hbm, ⟨41, _⟩ => ⟨S65536x128, .f32⟩
  | .hbm, ⟨42, _⟩ => ⟨S_, .f32⟩
  | .hbm, ⟨43, _⟩ => ⟨S128, .f32⟩
  | .hbm, ⟨44, _⟩ => ⟨S1x128, .f32⟩
  | .hbm, ⟨45, _⟩ => ⟨S65536x128, .f32⟩
  | .hbm, ⟨46, _⟩ => ⟨S65536x128, .f32⟩
  | .hbm, ⟨47, _⟩ => ⟨S65536x128, .f32⟩
  | .hbm, ⟨48, _⟩ => ⟨S_, .f32⟩
  | .hbm, ⟨49, _⟩ => ⟨S65536, .f32⟩
  | .hbm, ⟨50, _⟩ => ⟨S65536x1, .f32⟩
  | .hbm, ⟨51, _⟩ => ⟨S65536x128, .f32⟩
  | .hbm, ⟨52, _⟩ => ⟨S65536x128, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S_, .f32⟩
  | .hbm, ⟨58, _⟩ => ⟨S65536, .f32⟩
  | .hbm, ⟨59, _⟩ => ⟨S65536x128, .f32⟩
  | .hbm, ⟨60, _⟩ => ⟨S65536x128, .f32⟩
  | .hbm, ⟨61, _⟩ => ⟨S65536x128, .f32⟩
  | .hbm, ⟨62, _⟩ => ⟨S65536x128, .f32⟩
  | .hbm, ⟨63, _⟩ => ⟨S65536x128, .f32⟩
  | .hbm, ⟨64, _⟩ => ⟨S8192x1024, .f32⟩
  | .hbm, ⟨65, _⟩ => ⟨S8192x1024, .f32⟩
  | .hbm, ⟨66, _⟩ => ⟨S_, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_v1_2 : Ref sig .tc := ⟨.hbm, 12, rfl⟩
abbrev main_call0_cst_1 : Ref sig .tc := ⟨.hbm, 13, rfl⟩
abbrev main_call0_v6 : Ref sig .tc := ⟨.hbm, 14, rfl⟩
abbrev main_call0_v7 : Ref sig .tc := ⟨.hbm, 15, rfl⟩
abbrev main_v1_1 : Ref sig .tc := ⟨.hbm, 16, rfl⟩
abbrev main_v1_0 : Ref sig .tc := ⟨.hbm, 17, rfl⟩
abbrev main_v2 : Ref sig .tc := ⟨.hbm, 18, rfl⟩
abbrev main_v3 : Ref sig .tc := ⟨.hbm, 19, rfl⟩
abbrev main_cst : Ref sig .tc := ⟨.hbm, 20, rfl⟩
abbrev main_v4 : Ref sig .tc := ⟨.hbm, 21, rfl⟩
abbrev main_v5 : Ref sig .tc := ⟨.hbm, 22, rfl⟩
abbrev main_cst_0 : Ref sig .tc := ⟨.hbm, 23, rfl⟩
abbrev main_v6 : Ref sig .tc := ⟨.hbm, 24, rfl⟩
abbrev main_v7 : Ref sig .tc := ⟨.hbm, 25, rfl⟩
abbrev main_cst_1 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_cst_2 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_3 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_4 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_5 : Ref sig .tc := ⟨.hbm, 54, rfl⟩
abbrev main_v32 : Ref sig .tc := ⟨.hbm, 55, rfl⟩
abbrev main_v33 : Ref sig .tc := ⟨.hbm, 56, rfl⟩
abbrev main_cst_6 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_7 : Ref sig .tc := ⟨.hbm, 66, rfl⟩
abbrev main_v42 : Ref sig .tc := ⟨.hbm, 67, rfl⟩
abbrev main_call1_v0 : Ref sig .tc := ⟨.hbm, 68, rfl⟩
abbrev main_call1_v1 : Ref sig .tc := ⟨.hbm, 69, rfl⟩
abbrev main_call1_v2 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩

abbrev nD : Nat := 1
abbrev τ : Topo := Topo.v7x

variable {F : FTy → Type} [FloatOps F]
-- ==== Proof.ConvBase.lean ====
/-
  The gradient of the gated causal convolution, block by block: the arithmetic one grid point does, written over natural
  row and column numbers, and the readings of the kernel's loads in those terms.
-/
module

public import proofs.«01_k».proof.Proof.Gen.KernelIdeal.Frame
public import Idealize.ShloMosaic.Lib.Pointwise
public import Idealize.ShloMosaic.Lib.ValueIdx
public import Idealize.ShloMosaic.Lib.Pipeline.Value

@[expose] public section

noncomputable section

namespace Cert.Conv

open Idealize.ShloMosaic

/-! ## A matrix read at natural numbers, zero outside it -/

/-- Entry `(i, j)` of a matrix, zero outside its bounds. -/
def at2 {n m : ℕ} (x : (⟨2, ![n, m]⟩ : Shape).Idx → EReal) (i j : ℕ) : EReal :=
  if h : i < n ∧ j < m then x (ix2 ⟨i, h.1⟩ ⟨j, h.2⟩) else 0

theorem at2_of_lt {n m : ℕ} (x : (⟨2, ![n, m]⟩ : Shape).Idx → EReal) (i j : ℕ) (hi : i < n) (hj : j < m) :
    at2 x i j = x (ix2 ⟨i, hi⟩ ⟨j, hj⟩) := dif_pos ⟨hi, hj⟩

theorem at2_of_row_ge {n m : ℕ} (x : (⟨2, ![n, m]⟩ : Shape).Idx → EReal) (i j : ℕ) (hi : n ≤ i) : at2 x i j = 0 :=
  dif_neg fun h => by omega

/-- An index is read at its own coordinates. -/
theorem eq_at2 {n m : ℕ} (x : (⟨2, ![n, m]⟩ : Shape).Idx → EReal) (y : (⟨2, ![n, m]⟩ : Shape).Idx) :
    x y = at2 x (y 0).val (y 1).val := by
  rw [at2_of_lt x _ _ (ValueIdx.idx2_lt0 y) (ValueIdx.idx2_lt1 y)]
  exact congrArg x (ValueIdx.eq_ix2 y)

/-- An index known by its coordinates' numbers. -/
theorem eq_at2_of {n m : ℕ} (x : (⟨2, ![n, m]⟩ : Shape).Idx → EReal) (y : (⟨2, ![n, m]⟩ : Shape).Idx) (i j : ℕ)
    (hi : (y 0).val = i) (hj : (y 1).val = j) : x y = at2 x i j := by rw [eq_at2 x y, hi, hj]

/-! ## One grid point -/

/-- The gate: half of one plus the hyperbolic tangent of half the argument. -/
def gate (x : EReal) : EReal := Ideal.ofBits .f32 0x3F000000#32 * Ideal.tanh (Ideal.ofBits .f32 0x3F000000#32 * x) + Ideal.ofBits .f32 0x3F000000#32

/-- The gate of a block's row `r`, column `j`: the right half of the block's columns. -/
def gateAt {n : ℕ} (x : (⟨2, ![n, 2048]⟩ : Shape).Idx → EReal) (r j : ℕ) : EReal := gate (at2 x r (1024 + j))

/-- The gated value. -/
def gluAt {n : ℕ} (x : (⟨2, ![n, 2048]⟩ : Shape).Idx → EReal) (r j : ℕ) : EReal := at2 x r j * gateAt x r j

/-- The cotangent's rows a grid point sees: its own 128 rows, then 32 of the next block's, zero after the last block. -/
def rowsAt (last : Prop) [Decidable last] (x0 : (⟨2, ![128, 1024]⟩ : Shape).Idx → EReal) (x1 : (⟨2, ![32, 1024]⟩ : Shape).Idx → EReal)
    (q j : ℕ) : EReal := if q < 128 then at2 x0 q j else if last then 0 else at2 x1 (q - 128) j

section
variable (last : Prop) [Decidable last] (x0 : (⟨2, ![128, 1024]⟩ : Shape).Idx → EReal) (x1 : (⟨2, ![32, 1024]⟩ : Shape).Idx → EReal)
  (x2 : (⟨2, ![128, 2048]⟩ : Shape).Idx → EReal) (x3 : (⟨2, ![31, 1024]⟩ : Shape).Idx → EReal)

/-- The gradient of the gated value at row `r`, column `j`: the taps' products, in the kernel's order. -/
def dgluAt (r j : ℕ) : EReal := ∑ k ∈ Finset.range 31, at2 x3 k j * rowsAt last x0 x1 (30 - k + r) j

/-- The gradient of the left half. -/
def daAt (r j : ℕ) : EReal := dgluAt last x0 x1 x3 r j * gateAt x2 r j

/-- The gradient of the right half. -/
def dgtAt (r j : ℕ) : EReal :=
  dgluAt last x0 x1 x3 r j * at2 x2 r j * gateAt x2 r j * (1 - gateAt x2 r j)

/-- Both halves side by side. -/
def duAt (r j : ℕ) : EReal := if j < 1024 then daAt last x0 x1 x2 x3 r j else dgtAt last x0 x1 x2 x3 r (j - 1024)

/-- What one grid point adds to the taps' gradient. -/
def dwTerm (k j : ℕ) : EReal := ∑ r : Fin 128, rowsAt last x0 x1 (30 - k + r.val) j * gluAt x2 r.val j

end

/-! ## The loads -/

section Loads
open Cert.KernelIdeal Cert.KernelIdeal.Gen

theorem unit_emb_val {s : Shape} (off size : Fin s.rank → ℕ) (inb : ∀ a, off a + size a ≤ s.size a)
    (x : (Rect.unit off size inb).shape.Idx) (a : Fin s.rank) : ((Rect.unit off size inb).emb x a).val = off a + (x a).val := by
  rw [Rect.emb_apply]; simp [Rect.unit]

theorem unit_idx_val {s : Shape} (off size : Fin s.rank → ℕ) (inb : ∀ a, off a + size a ≤ s.size a)
    (x : (Rect.unit off size inb).shape.Idx) (a : Fin s.rank) : ((Rect.unit off size inb).toLoadRect.idx x a).val = off a + (x a).val := by
  rw [LoadRect.idx_apply]; simp [Rect.unit]

/-- A load of a box of a whole buffer of known contents. -/
theorem read_box {κ : Kind} {sp : Space} {n m a b o p : ℕ} (M : Memref sig κ sp (⟨2, ![n, m]⟩ : Shape) .f32) (hM : M.IsWhole)
    (x : Vec Ideal (⟨2, ![n, m]⟩ : Shape) .f32)
    (inb : ∀ d : Fin 2, (![o, p] : Fin 2 → ℕ) d + (![a, b] : Fin 2 → ℕ) d ≤ (![n, m] : Fin 2 → ℕ) d)
    (y : (⟨2, ![a, b]⟩ : Shape).Idx) :
    View.readAt (Elt Ideal) M.view (Rect.unit (s := ⟨2, ![n, m]⟩) ![o, p] ![a, b] inb).toLoadRect (hM.unread x) y
      = at2 x (o + (y 0).val) (p + (y 1).val) := by
  rw [View.readAt_apply, hM.read_unread]
  exact eq_at2_of x _ _ _ (unit_idx_val (s := ⟨2, ![n, m]⟩) ![o, p] ![a, b] inb y (0 : Fin 2))
    (unit_idx_val (s := ⟨2, ![n, m]⟩) ![o, p] ![a, b] inb y (1 : Fin 2))

theorem mem_box2 {n m o p a b : ℕ} (inb : ∀ d : Fin 2, (![o, p] : Fin 2 → ℕ) d + (![a, b] : Fin 2 → ℕ) d ≤ (![n, m] : Fin 2 → ℕ) d)
    (y : (⟨2, ![n, m]⟩ : Shape).Idx) (h0 : o ≤ (y 0).val) (h0' : (y 0).val < o + a) (h1 : p ≤ (y 1).val) (h1' : (y 1).val < p + b) :
    y ∈ (Rect.unit (s := ⟨2, ![n, m]⟩) ![o, p] ![a, b] inb).set :=
  Rect.mem_set_unit.mpr fun d => by fin_cases d <;> exact ⟨by assumption, by assumption⟩

theorem mem_box3 {l n m q o p k a b : ℕ}
    (inb : ∀ d : Fin 3, (![q, o, p] : Fin 3 → ℕ) d + (![k, a, b] : Fin 3 → ℕ) d ≤ (![l, n, m] : Fin 3 → ℕ) d)
    (y : (⟨3, ![l, n, m]⟩ : Shape).Idx) (h2 : q ≤ (y 0).val) (h2' : (y 0).val < q + k) (h0 : o ≤ (y 1).val) (h0' : (y 1).val < o + a)
    (h1 : p ≤ (y 2).val) (h1' : (y 2).val < p + b) :
    y ∈ (Rect.unit (s := ⟨3, ![l, n, m]⟩) ![q, o, p] ![k, a, b] inb).set :=
  Rect.mem_set_unit.mpr fun d => by fin_cases d <;> exact ⟨by assumption, by assumption⟩

/-- Writes over known contents, where every piece and every cell no piece holds agree with one function. -/
theorem read_writes_of_pieces {sig : RefSig} {κ : Kind} {sp : Space} {s : Shape} {e : EltTy} (v : View sig κ sp s e) (g : v.ty.Contents (Elt Ideal))
    (G : s.Idx → Elt Ideal e) : ∀ (L : List (View.Piece (Elt Ideal) s e)) (_ : ∀ p ∈ L, ∀ x : p.1.shape.Idx, p.2 x = G (p.1.emb x)) (y : s.Idx)
      (_ : (∀ p ∈ L, y ∉ p.1.set) → v.read (Elt Ideal) g y = G y), v.read (Elt Ideal) (v.writes (Elt Ideal) g L) y = G y := by
  intro L hL y hy
  by_cases h : ∃ p ∈ L, y ∈ p.1.set
  · rw [View.read_writes_apply_eq_canon _ _ _ _ h]
    exact View.canon_apply_of_pieces G L hL y h
  · have hn : ∀ p ∈ L, y ∉ p.1.set := fun p hp hm => h ⟨p, hp, hm⟩
    refine Eq.trans ?_ (hy hn)
    clear hL hy h
    induction L with
    | nil => rfl
    | cons p L ih =>
      rw [View.read_writes_cons_miss _ _ _ _ _ (hn p (List.mem_cons_self ..))]
      exact ih fun q hq => hn q (List.mem_cons_of_mem _ hq)

/-- A load of a box of one plane of the shifted copies, at an index of the box. -/
theorem valAlong_plane {κ : Kind} {sp : Space} (v : View sig κ sp (⟨3, ![7, 160, 1024]⟩ : Shape) .f32)
    (L : List (View.Piece (Elt Ideal) (⟨3, ![7, 160, 1024]⟩ : Shape) .f32)) {p o j a b : ℕ}
    (inb : ∀ d : Fin 3, (![p, 0, 0] : Fin 3 → ℕ) d + (![1, 160, 1024] : Fin 3 → ℕ) d ≤ (![7, 160, 1024] : Fin 3 → ℕ) d)
    (inb' : ∀ d : Fin 2, (![o, j] : Fin 2 → ℕ) d + (![a, b] : Fin 2 → ℕ) d ≤ (![160, 1024] : Fin 2 → ℕ) d)
    (h0 : (![1, 160, 1024] : Fin 3 → ℕ) 0 = 1) (hs : ∀ i : Fin 2, (![1, 160, 1024] : Fin 3 → ℕ) i.succ = (![160, 1024] : Fin 2 → ℕ) i)
    (hst : ∀ d, (Rect.unit (s := ⟨3, ![7, 160, 1024]⟩) ![p, 0, 0] ![1, 160, 1024] inb).stride d = 1)
    (hR : (⟨2, ![a, b]⟩ : Shape).numel = ((Rect.unit (s := ⟨3, ![7, 160, 1024]⟩) ![p, 0, 0] ![1, 160, 1024] inb).withinL
      (LoadRect.consLift (n := 2) (d := ![160, 1024]) (Rect.unit (s := ⟨2, ![160, 1024]⟩) ![o, j] ![a, b] inb').toLoadRect
        ![1, 160, 1024] h0 hs) hst).shape.numel)
    (y : (⟨2, ![a, b]⟩ : Shape).Idx) (hp : p < 7) (ho : o + (y 0).val < 160) (hj : j + (y 1).val < 1024) :
    LoadRect.valAlong (lr := (Rect.unit (s := ⟨2, ![160, 1024]⟩) ![o, j] ![a, b] inb').toLoadRect) hR
      (v.readCov L ((Rect.unit (s := ⟨3, ![7, 160, 1024]⟩) ![p, 0, 0] ![1, 160, 1024] inb).withinL
      (LoadRect.consLift (n := 2) (d := ![160, 1024]) (Rect.unit (s := ⟨2, ![160, 1024]⟩) ![o, j] ![a, b] inb').toLoadRect
        ![1, 160, 1024] h0 hs) hst)) y
      = View.canon L (ix3 ⟨p, hp⟩ ⟨o + (y 0).val, ho⟩ ⟨j + (y 1).val, hj⟩) := by
  rw [View.readCov_eq_canon']
  have hx : Shape.reshapeEquiv hR y = Fin.cons ⟨0, Nat.one_pos⟩ y := Shape.reshapeEquiv_cons_one (d := ![a, b]) _ _
  show View.canon L (LoadRect.idx _ (Shape.reshapeEquiv hR y)) = _
  rw [hx]
  refine congrArg (View.canon L) (funext fun d => Fin.ext ?_)
  fin_cases d
  · show p + 0 + 1 * 0 = p
    omega
  · show 0 + o + 1 * (y 0).val = o + (y 0).val
    omega
  · show 0 + j + 1 * (y 1).val = j + (y 1).val
    omega

end Loads

end Cert.Conv
-- ==== Proof.ConvScratchA.lean ====
/-
  A: the scratch buffers a grid point fills, and its loads from them.
-/
module

public import proofs.«01_k».proof.Proof.ConvBase

@[expose] public section

set_option maxRecDepth 16384

noncomputable section

namespace Cert.Conv.RunA

open Idealize.ShloMosaic Idealize.ShloMosaic.TcCoe Idealize.ShloMosaic.Tactic
open Cert.KernelIdeal Cert.KernelIdeal.Gen

variable (c : Dev nD) (i : grid0.Coords) (arg1 : Memref sig .tc .vmem S128x1024 .f32) (harg1 : arg1.IsWhole) (arg2 : Memref sig .tc .vmem S32x1024 .f32) (harg2 : arg2.IsWhole) (arg3 : Memref sig .tc .vmem S128x2048 .f32) (harg3 : arg3.IsWhole) (arg8 : Memref sig .tc .vmem S160x1024 .f32) (arg9 : Memref sig .tc .vmem S7x160x1024 .f32)
    (x0 : Vec Ideal S128x1024 .f32) (x1 : Vec Ideal S32x1024 .f32) (x2 : Vec Ideal S128x2048 .f32)

/-- The rows a grid point keeps. -/
theorem canon8 (y : S160x1024.Idx) :
    View.canon (kernelRun0_A.sl.HS0_2 (F := Ideal) c i arg1 harg1 arg2 harg2 x0 x1) y
      = rowsAt ((i 0).val = 63) x0 x1 (y 0).val (y 1).val := by
  refine View.canon_apply_of_pieces (Val := Elt Ideal) (e := .f32) (fun y : S160x1024.Idx => rowsAt ((i 0).val = 63) x0 x1 (y 0).val (y 1).val) _ ?_ y ?_
  · unfold kernelRun0_A.sl.HS0_2
    simp only [List.forall_mem_cons, List.not_mem_nil, IsEmpty.forall_iff, implies_true, and_true]
    refine ⟨fun x => ?_, fun x => ?_⟩
    · have h0 : ((Rect.unit (s := S160x1024) ![128, 0] S32x1024.size inb_S160x1024_S32x1024_128_0).emb x 0).val = 128 + (x 0).val := unit_emb_val _ _ _ x 0
      have h1 : ((Rect.unit (s := S160x1024) ![128, 0] S32x1024.size inb_S160x1024_S32x1024_128_0).emb x 1).val = 0 + (x 1).val := unit_emb_val _ _ _ x 1
      rw [h0, h1, rowsAt, if_neg (by omega)]
      unfold k0_pay11
      pointwise
      have hi : (i 0).val < 64 := (i 0).isLt
      by_cases h : (i 0).val = 63
      · rw [if_pos h, h]; rfl
      · rw [if_neg h]
        refine (WordCmp.select_of_eq_zero ?_ _ _).trans ((read_box arg2 harg2 x1 inb_S32x1024_S32x1024_0_0 x).trans (by rw [Nat.zero_add, Nat.zero_add]))
        show IntOp.cmpi .eq (BitVec.ofNat 32 (i 0).val) (BitVec.ofNat 32 63) = 0#1
        rw [WordCmp.cmpi_eq_ofNat_eq_zero_iff (by omega) (by omega)]; exact h
    · have h0 : ((Rect.unit (s := S160x1024) ![0, 0] S128x1024.size inb_S160x1024_S128x1024_0_0).emb x 0).val = 0 + (x 0).val := unit_emb_val _ _ _ x 0
      have h1 : ((Rect.unit (s := S160x1024) ![0, 0] S128x1024.size inb_S160x1024_S128x1024_0_0).emb x 1).val = 0 + (x 1).val := unit_emb_val _ _ _ x 1
      have hx : (x 0).val < 128 := (x 0).isLt
      rw [h0, h1, rowsAt, if_pos (by omega), ← read_box arg1 harg1 x0 inb_S128x1024_S128x1024_0_0 x]
      unfold k0_pay10
      pointwise
  · unfold kernelRun0_A.sl.HS0_2
    have h0 : (y 0).val < 160 := (y 0).isLt
    have h1 : (y 1).val < 1024 := (y 1).isLt
    by_cases h : (y 0).val < 128
    · exact ⟨_, List.mem_cons_of_mem _ (List.mem_cons_self ..), mem_box2 inb_S160x1024_S128x1024_0_0 y (by omega) (by omega) (by omega) (by omega)⟩
    · exact ⟨_, List.mem_cons_self .., mem_box2 inb_S160x1024_S32x1024_128_0 y (by omega) (by omega) (by omega) (by omega)⟩

/-- One shifted copy: the row below by one more than its number. -/
theorem plane9 {p : ℕ} (inb : ∀ d : Fin 2, (![p + 1, 0] : Fin 2 → ℕ) d + (![152, 1024] : Fin 2 → ℕ) d ≤ (![160, 1024] : Fin 2 → ℕ) d)
    (inb' : ∀ d : Fin 3, (![p, 0, 0] : Fin 3 → ℕ) d + (![1, 152, 1024] : Fin 3 → ℕ) d ≤ (![7, 160, 1024] : Fin 3 → ℕ) d)
    (hc : S152x1024.ShapeCasts S1x152x1024) (x : S1x152x1024.Idx) :
    shapeCast S1x152x1024 (arg8.view.readCov (kernelRun0_A.sl.HS0_2 (F := Ideal) c i arg1 harg1 arg2 harg2 x0 x1)
        (Rect.unit (s := S160x1024) ![p + 1, 0] ![152, 1024] inb).toLoadRect) hc x
      = rowsAt ((i 0).val = 63) x0 x1
          (((Rect.unit (s := S7x160x1024) ![p, 0, 0] ![1, 152, 1024] inb').emb x 1).val + ((Rect.unit (s := S7x160x1024) ![p, 0, 0] ![1, 152, 1024] inb').emb x 0).val + 1)
          ((Rect.unit (s := S7x160x1024) ![p, 0, 0] ![1, 152, 1024] inb').emb x 2).val := by
  have h0 : ((Rect.unit (s := S7x160x1024) ![p, 0, 0] ![1, 152, 1024] inb').emb x 0).val = p + (x 0).val := unit_emb_val (s := S7x160x1024) ![p, 0, 0] ![1, 152, 1024] inb' x 0
  have h1 : ((Rect.unit (s := S7x160x1024) ![p, 0, 0] ![1, 152, 1024] inb').emb x 1).val = 0 + (x 1).val := unit_emb_val (s := S7x160x1024) ![p, 0, 0] ![1, 152, 1024] inb' x 1
  have h2 : ((Rect.unit (s := S7x160x1024) ![p, 0, 0] ![1, 152, 1024] inb').emb x 2).val = 0 + (x 2).val := unit_emb_val (s := S7x160x1024) ![p, 0, 0] ![1, 152, 1024] inb' x 2
  have hx : (x 0).val < 1 := (x 0).isLt
  rw [h0, h1, h2]
  rw [shapeCast_addUnit_apply ![152, 1024], View.readCov_eq_canon']
  have e0 : (((Rect.unit (s := S160x1024) ![p + 1, 0] ![152, 1024] inb).toLoadRect.idx fun a : Fin 2 => x a.succ) 0).val = (p + 1) + (x 1).val :=
    unit_idx_val (s := S160x1024) ![p + 1, 0] ![152, 1024] inb (fun a : Fin 2 => x a.succ) 0
  have e1 : (((Rect.unit (s := S160x1024) ![p + 1, 0] ![152, 1024] inb).toLoadRect.idx fun a : Fin 2 => x a.succ) 1).val = 0 + (x 2).val :=
    unit_idx_val (s := S160x1024) ![p + 1, 0] ![152, 1024] inb (fun a : Fin 2 => x a.succ) 1
  refine (canon8 c i arg1 harg1 arg2 harg2 x0 x1 _).trans ?_
  rw [e0, e1, show p + 1 + (x 1).val = 0 + (x 1).val + (p + (x 0).val) + 1 by omega]

/-- The shifted copies. -/
theorem canon9 (y : S7x160x1024.Idx) (hy : (y 1).val < 152) :
    View.canon (kernelRun0_A.sl.HS1_7 (F := Ideal) c i arg1 harg1 arg2 harg2 arg8 x0 x1) y
      = rowsAt ((i 0).val = 63) x0 x1 ((y 1).val + (y 0).val + 1) (y 2).val := by
  refine View.canon_apply_of_pieces (Val := Elt Ideal) (e := .f32) (fun y : S7x160x1024.Idx => rowsAt ((i 0).val = 63) x0 x1 ((y 1).val + (y 0).val + 1) (y 2).val) _ ?_ y ?_
  · unfold kernelRun0_A.sl.HS1_7
    simp only [List.forall_mem_cons, List.not_mem_nil, IsEmpty.forall_iff, implies_true, and_true]
    refine ⟨fun x => ?_, fun x => ?_, fun x => ?_, fun x => ?_, fun x => ?_, fun x => ?_, fun x => ?_⟩
    · unfold k0_pay18 kernelRun0_A.sl.v49
      exact plane9 c i arg1 harg1 arg2 harg2 arg8 x0 x1 (p := 6) inb_S160x1024_S152x1024_7_0 inb_S7x160x1024_S1x152x1024_6_0_0 shapeCasts_S152x1024_S1x152x1024 x
    · unfold k0_pay17 kernelRun0_A.sl.v45
      exact plane9 c i arg1 harg1 arg2 harg2 arg8 x0 x1 (p := 5) inb_S160x1024_S152x1024_6_0 inb_S7x160x1024_S1x152x1024_5_0_0 shapeCasts_S152x1024_S1x152x1024 x
    · unfold k0_pay16 kernelRun0_A.sl.v41
      exact plane9 c i arg1 harg1 arg2 harg2 arg8 x0 x1 (p := 4) inb_S160x1024_S152x1024_5_0 inb_S7x160x1024_S1x152x1024_4_0_0 shapeCasts_S152x1024_S1x152x1024 x
    · unfold k0_pay15 kernelRun0_A.sl.v37
      exact plane9 c i arg1 harg1 arg2 harg2 arg8 x0 x1 (p := 3) inb_S160x1024_S152x1024_4_0 inb_S7x160x1024_S1x152x1024_3_0_0 shapeCasts_S152x1024_S1x152x1024 x
    · unfold k0_pay14 kernelRun0_A.sl.v33
      exact plane9 c i arg1 harg1 arg2 harg2 arg8 x0 x1 (p := 2) inb_S160x1024_S152x1024_3_0 inb_S7x160x1024_S1x152x1024_2_0_0 shapeCasts_S152x1024_S1x152x1024 x
    · unfold k0_pay13 kernelRun0_A.sl.v29
      exact plane9 c i arg1 harg1 arg2 harg2 arg8 x0 x1 (p := 1) inb_S160x1024_S152x1024_2_0 inb_S7x160x1024_S1x152x1024_1_0_0 shapeCasts_S152x1024_S1x152x1024 x
    · unfold k0_pay12 kernelRun0_A.sl.v25
      exact plane9 c i arg1 harg1 arg2 harg2 arg8 x0 x1 (p := 0) inb_S160x1024_S152x1024_1_0 inb_S7x160x1024_S1x152x1024_0_0_0 shapeCasts_S152x1024_S1x152x1024 x
  · unfold kernelRun0_A.sl.HS1_7
    have h0 : (y 0).val < 7 := (y 0).isLt
    have h2 : (y 2).val < 1024 := (y 2).isLt
    have hp : (y 0).val = 0 ∨ (y 0).val = 1 ∨ (y 0).val = 2 ∨ (y 0).val = 3 ∨ (y 0).val = 4 ∨ (y 0).val = 5 ∨ (y 0).val = 6 := by omega
    rcases hp with hp | hp | hp | hp | hp | hp | hp
    · exact ⟨_, List.mem_cons_of_mem _ (List.mem_cons_of_mem _ (List.mem_cons_of_mem _ (List.mem_cons_of_mem _ (List.mem_cons_of_mem _ (List.mem_cons_of_mem _ (List.mem_cons_self ..)))))), mem_box3 inb_S7x160x1024_S1x152x1024_0_0_0 y (by omega) (by omega) (by omega) (by omega) (by omega) (by omega)⟩
    · exact ⟨_, List.mem_cons_of_mem _ (List.mem_cons_of_mem _ (List.mem_cons_of_mem _ (List.mem_cons_of_mem _ (List.mem_cons_of_mem _ (List.mem_cons_self ..))))), mem_box3 inb_S7x160x1024_S1x152x1024_1_0_0 y (by omega) (by omega) (by omega) (by omega) (by omega) (by omega)⟩
    · exact ⟨_, List.mem_cons_of_mem _ (List.mem_cons_of_mem _ (List.mem_cons_of_mem _ (List.mem_cons_of_mem _ (List.mem_cons_self ..)))), mem_box3 inb_S7x160x1024_S1x152x1024_2_0_0 y (by omega) (by omega) (by omega) (by omega) (by omega) (by omega)⟩
    · exact ⟨_, List.mem_cons_of_mem _ (List.mem_cons_of_mem _ (List.mem_cons_of_mem _ (List.mem_cons_self ..))), mem_box3 inb_S7x160x1024_S1x152x1024_3_0_0 y (by omega) (by omega) (by omega) (by omega) (by omega) (by omega)⟩
    · exact ⟨_, List.mem_cons_of_mem _ (List.mem_cons_of_mem _ (List.mem_cons_self ..)), mem_box3 inb_S7x160x1024_S1x152x1024_4_0_0 y (by omega) (by omega) (by omega) (by omega) (by omega) (by omega)⟩
    · exact ⟨_, List.mem_cons_of_mem _ (List.mem_cons_self ..), mem_box3 inb_S7x160x1024_S1x152x1024_5_0_0 y (by omega) (by omega) (by omega) (by omega) (by omega) (by omega)⟩
    · exact ⟨_, List.mem_cons_self .., mem_box3 inb_S7x160x1024_S1x152x1024_6_0_0 y (by omega) (by omega) (by omega) (by omega) (by omega) (by omega)⟩

/-- A load of a box of the kept rows. -/
theorem ld8 {o j a b : ℕ} (inb : ∀ d : Fin 2, (![o, j] : Fin 2 → ℕ) d + (![a, b] : Fin 2 → ℕ) d ≤ (![160, 1024] : Fin 2 → ℕ) d)
    (y : (⟨2, ![a, b]⟩ : Shape).Idx) :
    arg8.view.readCov (kernelRun0_A.sl.HS0_2 (F := Ideal) c i arg1 harg1 arg2 harg2 x0 x1)
        (Rect.unit (s := S160x1024) ![o, j] ![a, b] inb).toLoadRect y
      = rowsAt ((i 0).val = 63) x0 x1 (o + (y 0).val) (j + (y 1).val) := by
  rw [View.readCov_eq_canon']
  have e0 : ((Rect.unit (s := S160x1024) ![o, j] ![a, b] inb).toLoadRect.idx y 0).val = o + (y 0).val :=
    unit_idx_val (s := S160x1024) ![o, j] ![a, b] inb y 0
  have e1 : ((Rect.unit (s := S160x1024) ![o, j] ![a, b] inb).toLoadRect.idx y 1).val = j + (y 1).val :=
    unit_idx_val (s := S160x1024) ![o, j] ![a, b] inb y 1
  refine (canon8 c i arg1 harg1 arg2 harg2 x0 x1 _).trans ?_
  rw [e0, e1]

/-- A load of a box of one shifted copy. -/
theorem ld9 {p o j a b : ℕ}
    (inb : ∀ d : Fin 3, (![p, 0, 0] : Fin 3 → ℕ) d + (![1, 160, 1024] : Fin 3 → ℕ) d ≤ (![7, 160, 1024] : Fin 3 → ℕ) d)
    (inb' : ∀ d : Fin 2, (![o, j] : Fin 2 → ℕ) d + (![a, b] : Fin 2 → ℕ) d ≤ (![160, 1024] : Fin 2 → ℕ) d)
    (y : (⟨2, ![a, b]⟩ : Shape).Idx) (ho : o + a ≤ 152) :
    LoadRect.valAlong (s₀ := (Rect.unit (s := S7x160x1024) ![p, 0, 0] ![1, 160, 1024] inb).toLoadRect.shape)
      (lr := (Rect.unit (s := S160x1024) ![o, j] ![a, b] inb').toLoadRect)
      (LR := LoadRect.consLift (n := 2) (d := ![160, 1024]) (Rect.unit (s := S160x1024) ![o, j] ![a, b] inb').toLoadRect
        ![1, 160, 1024] (by decide) (by decide))
      (LoadRect.numel_consLift (n := 2) (d := ![160, 1024]) (Rect.unit (s := S160x1024) ![o, j] ![a, b] inb').toLoadRect
        ![1, 160, 1024] (by decide) (by decide))
      (arg9.view.readCov (kernelRun0_A.sl.HS1_7 (F := Ideal) c i arg1 harg1 arg2 harg2 arg8 x0 x1)
        ((Rect.unit (s := S7x160x1024) ![p, 0, 0] ![1, 160, 1024] inb).withinL
      (LoadRect.consLift (n := 2) (d := ![160, 1024]) (Rect.unit (s := S160x1024) ![o, j] ![a, b] inb').toLoadRect
        ![1, 160, 1024] (by decide) (by decide)) (fun _ => rfl))) y
      = rowsAt ((i 0).val = 63) x0 x1 (o + p + 1 + (y 0).val) (j + (y 1).val) := by
  have hp : p + 1 ≤ 7 := inb 0
  have hj : j + b ≤ 1024 := inb' 1
  have hy0 : (y 0).val < a := (y 0).isLt
  have hy1 : (y 1).val < b := (y 1).isLt
  refine (valAlong_plane arg9.view _ inb inb' (by decide) (by decide) (fun _ => rfl) _ y (by omega) (by omega) (by omega)).trans ?_
  refine (canon9 c i arg1 harg1 arg2 harg2 arg8 x0 x1 _ (show o + (y 0).val < 152 by omega)).trans ?_
  show rowsAt _ x0 x1 (o + (y 0).val + p + 1) (j + (y 1).val) = _
  rw [show o + (y 0).val + p + 1 = o + p + 1 + (y 0).val by omega]

end Cert.Conv.RunA
-- ==== Proof.ConvDuA.lean ====
/-
  A: what a grid point stores of the gradient of the gate's operand.
-/
module

public import proofs.«01_k».proof.Proof.ConvScratchA
public import Idealize.ShloMosaic.Lib.Tactic.RunNames

@[expose] public section

set_option maxRecDepth 16384

noncomputable section

namespace Cert.Conv.RunA

open Idealize.ShloMosaic Idealize.ShloMosaic.TcCoe Idealize.ShloMosaic.Tactic
open Cert.KernelIdeal Cert.KernelIdeal.Gen

theorem ix2_val0 {n m : ℕ} (a : Fin n) (b : Fin m) : (ix2 a b 0).val = a.val := rfl
theorem ix2_val1 {n m : ℕ} (a : Fin n) (b : Fin m) : (ix2 a b 1).val = b.val := rfl

theorem du_block (c : Dev nD) (i : grid0.Coords) (arg1 : Memref sig .tc .vmem S128x1024 .f32) (harg1 : arg1.IsWhole) (arg2 : Memref sig .tc .vmem S32x1024 .f32) (harg2 : arg2.IsWhole) (arg3 : Memref sig .tc .vmem S128x2048 .f32) (harg3 : arg3.IsWhole) (arg4 : Memref sig .tc .vmem S31x1024 .f32) (harg4 : arg4.IsWhole) (arg5 : Memref sig .tc .vmem S128x2048 .bf16) (harg5 : arg5.IsWhole) (arg6 : Memref sig .tc .vmem S32x1024 .f32) (harg6 : arg6.IsWhole) (arg7 : Memref sig .tc .vmem S1x2048 .f32) (harg7 : arg7.IsWhole) (arg8 : Memref sig .tc .vmem S160x1024 .f32) (harg8 : arg8.IsWhole) (arg9 : Memref sig .tc .vmem S7x160x1024 .f32) (harg9 : arg9.IsWhole) (hc0)
    (x0 : Vec Ideal S128x1024 .f32) (x1 : Vec Ideal S32x1024 .f32) (x2 : Vec Ideal S128x2048 .f32) (x3 : Vec Ideal S31x1024 .f32) (y : S128x2048.Idx) :
    out0_A_4 (F := Ideal) c i arg1 harg1 arg2 harg2 arg3 harg3 arg4 harg4 arg5 harg5 arg6 harg6 arg7 harg7 arg8 harg8 arg9 harg9 hc0 x0 x1 x2 x3 y
      = duAt ((i 0).val = 63) x0 x1 x2 x3 (y 0).val (y 1).val := by
  unfold out0_A_4
  rw [View.read_writes_junk_eq_canon]
  refine View.canon_apply_of_pieces (Val := Elt Ideal) (e := .bf16) (fun y : S128x2048.Idx => duAt ((i 0).val = 63) x0 x1 x2 x3 (y 0).val (y 1).val) _ ?_ y
    (cover0_A_4 (F := Ideal) c i arg1 harg1 arg2 harg2 arg3 harg3 arg4 harg4 arg5 harg5 arg6 harg6 arg7 harg7 arg8 harg8 arg9 harg9 hc0 x0 x1 x2 x3 y)
  unfold kernelRun0_A
  dsimp only
  simp only [List.forall_mem_cons, List.not_mem_nil, IsEmpty.forall_iff, implies_true, and_true]
  refine ⟨fun x => ?_, fun x => ?_, fun x => ?_, fun x => ?_, fun x => ?_, fun x => ?_, fun x => ?_, fun x => ?_⟩
  · have h0 : ((Rect.unit (s := S128x2048) ![0, 1792] S128x256.size inb_S128x2048_S128x256_0_1792).emb x 0).val = 0 + (x 0).val := unit_emb_val _ _ _ x 0
    have h1 : ((Rect.unit (s := S128x2048) ![0, 1792] S128x256.size inb_S128x2048_S128x256_0_1792).emb x 1).val = 1792 + (x 1).val := unit_emb_val _ _ _ x 1
    have hx : (x 1).val < 256 := (x 1).isLt
    rw [h0, h1, duAt, if_neg (by omega), show 1792 + (x 1).val - 1024 = 768 + (x 1).val by omega]
    sl_unfold_run_values
    unfold_payloads
    pointwise
    simp only [ld8, ld9, read_box, Nat.reduceAdd, Nat.reduceLeDiff, dgtAt, dgluAt, gateAt, gate, Finset.sum_range_succ, Finset.sum_range_zero, zero_add, add_zero, ix2_val0, ix2_val1, Nat.reduceSub, Fin.val_zero]
    rfl
  · have h0 : ((Rect.unit (s := S128x2048) ![0, 768] S128x256.size inb_S128x2048_S128x256_0_768).emb x 0).val = 0 + (x 0).val := unit_emb_val _ _ _ x 0
    have h1 : ((Rect.unit (s := S128x2048) ![0, 768] S128x256.size inb_S128x2048_S128x256_0_768).emb x 1).val = 768 + (x 1).val := unit_emb_val _ _ _ x 1
    have hx : (x 1).val < 256 := (x 1).isLt
    rw [h0, h1, duAt, if_pos (by omega)]
    sl_unfold_run_values
    unfold_payloads
    pointwise
    simp only [ld8, ld9, read_box, Nat.reduceAdd, Nat.reduceLeDiff, daAt, dgluAt, gateAt, gate, Finset.sum_range_succ, Finset.sum_range_zero, zero_add, add_zero, ix2_val0, ix2_val1, Nat.reduceSub, Fin.val_zero]
    rfl
  · have h0 : ((Rect.unit (s := S128x2048) ![0, 1536] S128x256.size inb_S128x2048_S128x256_0_1536).emb x 0).val = 0 + (x 0).val := unit_emb_val _ _ _ x 0
    have h1 : ((Rect.unit (s := S128x2048) ![0, 1536] S128x256.size inb_S128x2048_S128x256_0_1536).emb x 1).val = 1536 + (x 1).val := unit_emb_val _ _ _ x 1
    have hx : (x 1).val < 256 := (x 1).isLt
    rw [h0, h1, duAt, if_neg (by omega), show 1536 + (x 1).val - 1024 = 512 + (x 1).val by omega]
    sl_unfold_run_values
    unfold_payloads
    pointwise
    simp only [ld8, ld9, read_box, Nat.reduceAdd, Nat.reduceLeDiff, dgtAt, dgluAt, gateAt, gate, Finset.sum_range_succ, Finset.sum_range_zero, zero_add, add_zero, ix2_val0, ix2_val1, Nat.reduceSub, Fin.val_zero]
    rfl
  · have h0 : ((Rect.unit (s := S128x2048) ![0, 512] S128x256.size inb_S128x2048_S128x256_0_512).emb x 0).val = 0 + (x 0).val := unit_emb_val _ _ _ x 0
    have h1 : ((Rect.unit (s := S128x2048) ![0, 512] S128x256.size inb_S128x2048_S128x256_0_512).emb x 1).val = 512 + (x 1).val := unit_emb_val _ _ _ x 1
    have hx : (x 1).val < 256 := (x 1).isLt
    rw [h0, h1, duAt, if_pos (by omega)]
    sl_unfold_run_values
    unfold_payloads
    pointwise
    simp only [ld8, ld9, read_box, Nat.reduceAdd, Nat.reduceLeDiff, daAt, dgluAt, gateAt, gate, Finset.sum_range_succ, Finset.sum_range_zero, zero_add, add_zero, ix2_val0, ix2_val1, Nat.reduceSub, Fin.val_zero]
    rfl
  · have h0 : ((Rect.unit (s := S128x2048) ![0, 1280] S128x256.size inb_S128x2048_S128x256_0_1280).emb x 0).val = 0 + (x 0).val := unit_emb_val _ _ _ x 0
    have h1 : ((Rect.unit (s := S128x2048) ![0, 1280] S128x256.size inb_S128x2048_S128x256_0_1280).emb x 1).val = 1280 + (x 1).val := unit_emb_val _ _ _ x 1
    have hx : (x 1).val < 256 := (x 1).isLt
    rw [h0, h1, duAt, if_neg (by omega), show 1280 + (x 1).val - 1024 = 256 + (x 1).val by omega]
    sl_unfold_run_values
    unfold_payloads
    pointwise
    simp only [ld8, ld9, read_box, Nat.reduceAdd, Nat.reduceLeDiff, dgtAt, dgluAt, gateAt, gate, Finset.sum_range_succ, Finset.sum_range_zero, zero_add, add_zero, ix2_val0, ix2_val1, Nat.reduceSub, Fin.val_zero]
    rfl
  · have h0 : ((Rect.unit (s := S128x2048) ![0, 256] S128x256.size inb_S128x2048_S128x256_0_256).emb x 0).val = 0 + (x 0).val := unit_emb_val _ _ _ x 0
    have h1 : ((Rect.unit (s := S128x2048) ![0, 256] S128x256.size inb_S128x2048_S128x256_0_256).emb x 1).val = 256 + (x 1).val := unit_emb_val _ _ _ x 1
    have hx : (x 1).val < 256 := (x 1).isLt
    rw [h0, h1, duAt, if_pos (by omega)]
    sl_unfold_run_values
    unfold_payloads
    pointwise
    simp only [ld8, ld9, read_box, Nat.reduceAdd, Nat.reduceLeDiff, daAt, dgluAt, gateAt, gate, Finset.sum_range_succ, Finset.sum_range_zero, zero_add, add_zero, ix2_val0, ix2_val1, Nat.reduceSub, Fin.val_zero]
    rfl
  · have h0 : ((Rect.unit (s := S128x2048) ![0, 1024] S128x256.size inb_S128x2048_S128x256_0_1024).emb x 0).val = 0 + (x 0).val := unit_emb_val _ _ _ x 0
    have h1 : ((Rect.unit (s := S128x2048) ![0, 1024] S128x256.size inb_S128x2048_S128x256_0_1024).emb x 1).val = 1024 + (x 1).val := unit_emb_val _ _ _ x 1
    have hx : (x 1).val < 256 := (x 1).isLt
    rw [h0, h1, duAt, if_neg (by omega), show 1024 + (x 1).val - 1024 = 0 + (x 1).val by omega]
    sl_unfold_run_values
    unfold_payloads
    pointwise
    simp only [ld8, ld9, read_box, Nat.reduceAdd, Nat.reduceLeDiff, dgtAt, dgluAt, gateAt, gate, Finset.sum_range_succ, Finset.sum_range_zero, zero_add, add_zero, ix2_val0, ix2_val1, Nat.reduceSub, Fin.val_zero]
    rfl
  · have h0 : ((Rect.unit (s := S128x2048) ![0, 0] S128x256.size inb_S128x2048_S128x256_0_0).emb x 0).val = 0 + (x 0).val := unit_emb_val _ _ _ x 0
    have h1 : ((Rect.unit (s := S128x2048) ![0, 0] S128x256.size inb_S128x2048_S128x256_0_0).emb x 1).val = 0 + (x 1).val := unit_emb_val _ _ _ x 1
    have hx : (x 1).val < 256 := (x 1).isLt
    rw [h0, h1, duAt, if_pos (by omega)]
    sl_unfold_run_values
    unfold_payloads
    pointwise
    simp only [ld8, ld9, read_box, Nat.reduceAdd, Nat.reduceLeDiff, daAt, dgluAt, gateAt, gate, Finset.sum_range_succ, Finset.sum_range_zero, zero_add, add_zero, ix2_val0, ix2_val1, Nat.reduceSub, Fin.val_zero]
    rfl

end Cert.Conv.RunA
-- ==== Proof.ConvDwA.lean ====
/-
  A: the gradient of the taps at the first grid point, where the buffer is first filled with zeros.
-/
module

public import proofs.«01_k».proof.Proof.ConvDuA
public import Idealize.ShloMosaic.Lib.Tactic.RunNames

@[expose] public section

set_option maxRecDepth 16384

noncomputable section

namespace Cert.Conv.RunA

open Idealize.ShloMosaic Idealize.ShloMosaic.TcCoe Idealize.ShloMosaic.Tactic
open Cert.KernelIdeal Cert.KernelIdeal.Gen

/-- Rows and columns the stores so far hold: `n` stores, row after row in each block of 256 columns. -/
abbrev Done5 (n : ℕ) (y : S32x1024.Idx) : Prop := (y 0).val < 31 ∧ 31 * ((y 1).val / 256) + (y 0).val < n

theorem row_zero (x : S1x256.Idx) : (x 0).val = 0 := by have hx : (x 0).val < 1 := (x 0).isLt; omega

/-- One more store. -/
theorem step5 (T : ℕ → ℕ → EReal) (L : List (View.Piece (Elt Ideal) S32x1024 .f32)) {n k p q : ℕ} (hk : k < 31) (hp : p = 256 * q) (hn : n = 31 * q + k)
    (hL : ∀ y, View.canon L y = if Done5 n y then T (y 0).val (y 1).val else 0)
    (inb : ∀ d : Fin 2, (![k, p] : Fin 2 → ℕ) d + (![1, 256] : Fin 2 → ℕ) d ≤ (![32, 1024] : Fin 2 → ℕ) d)
    (w : S1x256.Idx → EReal) (hw : ∀ x, w x = T k (p + (x 1).val)) (y : S32x1024.Idx) :
    View.canon (Val := Elt Ideal) (s := S32x1024) (e := .f32) (⟨Rect.unit (s := S32x1024) ![k, p] ![1, 256] inb, w⟩ :: L) y = if Done5 (n + 1) y then T (y 0).val (y 1).val else 0 := by
  have hy1 : (y 1).val < 1024 := (y 1).isLt
  by_cases h : y ∈ (Rect.unit (s := S32x1024) ![k, p] ![1, 256] inb).set
  · obtain ⟨x, rfl⟩ := (Rect.unit (s := S32x1024) ![k, p] ![1, 256] inb).exists_idx_of_mem h
    have h0 : ((Rect.unit (s := S32x1024) ![k, p] ![1, 256] inb).emb x 0).val = k + (x 0).val := unit_emb_val (s := S32x1024) ![k, p] ![1, 256] inb x 0
    have h1 : ((Rect.unit (s := S32x1024) ![k, p] ![1, 256] inb).emb x 1).val = p + (x 1).val := unit_emb_val (s := S32x1024) ![k, p] ![1, 256] inb x 1
    have hx0 : (x 0).val < 1 := (x 0).isLt
    have hx1 : (x 1).val < 256 := (x 1).isLt
    rw [show (Rect.unit (s := S32x1024) ![k, p] ![1, 256] inb).idx x = (Rect.unit (s := S32x1024) ![k, p] ![1, 256] inb).emb x from rfl]
    have hd : Done5 (n + 1) ((Rect.unit (s := S32x1024) ![k, p] ![1, 256] inb).emb x) := by
      refine ⟨?_, ?_⟩
      · rw [h0]; omega
      · rw [h0, h1]; omega
    refine (View.canon_cons_emb (Val := Elt Ideal) (s := S32x1024) (e := .f32) (Rect.unit (s := S32x1024) ![k, p] ![1, 256] inb) w L x).trans ?_
    refine Eq.trans ?_ (if_pos hd).symm
    rw [hw, h0, h1, show k + (x 0).val = k by omega]
  · refine (View.canon_cons_of_not_mem (Val := Elt Ideal) (s := S32x1024) (e := .f32) ⟨Rect.unit (s := S32x1024) ![k, p] ![1, 256] inb, w⟩ L h).trans ((hL y).trans ?_)
    have hm : ¬((y 0).val = k ∧ p ≤ (y 1).val ∧ (y 1).val < p + 256) := fun hm =>
      h (mem_box2 inb y (by omega) (by omega) hm.2.1 hm.2.2)
    refine if_congr ?_ rfl rfl
    show _ ∧ _ ↔ _ ∧ _
    omega

/-- The load before a store still reads zeros. -/
theorem load5 {κ : Kind} {sp : Space} (v : View sig κ sp S32x1024 .f32) (T : ℕ → ℕ → EReal) (L : List (View.Piece (Elt Ideal) S32x1024 .f32)) {n k p q : ℕ} (hp : p = 256 * q) (hn : n = 31 * q + k)
    (hL : ∀ y, View.canon L y = if Done5 n y then T (y 0).val (y 1).val else 0)
    (inb : ∀ d : Fin 2, (![k, p] : Fin 2 → ℕ) d + (![1, 256] : Fin 2 → ℕ) d ≤ (![32, 1024] : Fin 2 → ℕ) d)
    (x : S1x256.Idx) : v.readCov L (Rect.unit (s := S32x1024) ![k, p] ![1, 256] inb).toLoadRect x = (0 : EReal) := by
  rw [View.readCov_eq_canon']
  have e0 : ((Rect.unit (s := S32x1024) ![k, p] ![1, 256] inb).toLoadRect.idx x 0).val = k + (x 0).val := unit_idx_val (s := S32x1024) ![k, p] ![1, 256] inb x 0
  have e1 : ((Rect.unit (s := S32x1024) ![k, p] ![1, 256] inb).toLoadRect.idx x 1).val = p + (x 1).val := unit_idx_val (s := S32x1024) ![k, p] ![1, 256] inb x 1
  have hx1 : (x 1).val < 256 := (x 1).isLt
  refine (hL _).trans (if_neg fun h => ?_)
  have h2 := h.2
  rw [e0, e1] at h2
  omega

variable (c : Dev nD) (i : grid0.Coords) (arg1 : Memref sig .tc .vmem S128x1024 .f32) (harg1 : arg1.IsWhole) (arg2 : Memref sig .tc .vmem S32x1024 .f32) (harg2 : arg2.IsWhole) (arg3 : Memref sig .tc .vmem S128x2048 .f32) (harg3 : arg3.IsWhole) (arg4 : Memref sig .tc .vmem S31x1024 .f32) (harg4 : arg4.IsWhole) (arg5 : Memref sig .tc .vmem S128x2048 .bf16) (harg5 : arg5.IsWhole) (arg6 : Memref sig .tc .vmem S32x1024 .f32) (harg6 : arg6.IsWhole) (arg7 : Memref sig .tc .vmem S1x2048 .f32) (harg7 : arg7.IsWhole) (arg8 : Memref sig .tc .vmem S160x1024 .f32) (harg8 : arg8.IsWhole) (arg9 : Memref sig .tc .vmem S7x160x1024 .f32) (harg9 : arg9.IsWhole)
    (x0 : Vec Ideal S128x1024 .f32) (x1 : Vec Ideal S32x1024 .f32) (x2 : Vec Ideal S128x2048 .f32) (x3 : Vec Ideal S31x1024 .f32)

theorem z5_1 (y : S32x1024.Idx) : View.canon (kernelRun0_A.sl.H5_1 (F := Ideal)) y = if Done5 0 y then dwTerm ((i 0).val = 63) x0 x1 x2 (y 0).val (y 1).val else 0 := by
  have e := View.canon_apply_of_pieces (Val := Elt Ideal) (e := .f32) (fun _ : S32x1024.Idx => (0 : EReal)) (kernelRun0_A.sl.H5_1 (F := Ideal)) (by
    unfold kernelRun0_A.sl.H5_1
    simp only [List.forall_mem_cons, List.not_mem_nil, IsEmpty.forall_iff, implies_true, and_true]
    intro x
    unfold k0_pay5
    pointwise) y (by
    unfold kernelRun0_A.sl.H5_1
    have h0 : (y 0).val < 32 := (y 0).isLt
    have h1 : (y 1).val < 1024 := (y 1).isLt
    exact ⟨_, List.mem_cons_self .., mem_box2 inb_S32x1024_S32x1024_0_0 y (by omega) (by omega) (by omega) (by omega)⟩)
  rw [if_neg fun h => absurd h.2 (Nat.not_lt_zero _)]
  exact e

theorem z5_2 (y : S32x1024.Idx) : View.canon (kernelRun0_A.sl.H5_2 (F := Ideal) c i arg1 harg1 arg2 harg2 arg3 harg3 arg6 arg8 arg9 x0 x1 x2) y = if Done5 1 y then dwTerm ((i 0).val = 63) x0 x1 x2 (y 0).val (y 1).val else 0 := by
  unfold kernelRun0_A.sl.H5_2
  refine step5 (dwTerm ((i 0).val = 63) x0 x1 x2) _ (k := 0) (p := 0) (q := 0) (by decide) rfl rfl (z5_1 i x0 x1 x2) inb_S32x1024_S1x256_0_0 _ ?_ y
  · intro x
    have e := load5 arg6.view (dwTerm ((i 0).val = 63) x0 x1 x2) (kernelRun0_A.sl.H5_1 (F := Ideal)) (k := 0) (p := 0) (q := 0) rfl rfl (z5_1 i x0 x1 x2) inb_S32x1024_S1x256_0_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_3 (y : S32x1024.Idx) : View.canon (kernelRun0_A.sl.H5_3 (F := Ideal) c i arg1 harg1 arg2 harg2 arg3 harg3 arg6 arg8 arg9 x0 x1 x2) y = if Done5 2 y then dwTerm ((i 0).val = 63) x0 x1 x2 (y 0).val (y 1).val else 0 := by
  unfold kernelRun0_A.sl.H5_3
  refine step5 (dwTerm ((i 0).val = 63) x0 x1 x2) _ (k := 1) (p := 0) (q := 0) (by decide) rfl rfl (z5_2 c i arg1 harg1 arg2 harg2 arg3 harg3 arg6 arg8 arg9 x0 x1 x2) inb_S32x1024_S1x256_1_0 _ ?_ y
  · intro x
    have e := load5 arg6.view (dwTerm ((i 0).val = 63) x0 x1 x2) (kernelRun0_A.sl.H5_2 (F := Ideal) c i arg1 harg1 arg2 harg2 arg3 harg3 arg6 arg8 arg9 x0 x1 x2) (k := 1) (p := 0) (q := 0) rfl rfl (z5_2 c i arg1 harg1 arg2 harg2 arg3 harg3 arg6 arg8 arg9 x0 x1 x2) inb_S32x1024_S1x256_1_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_4 (y : S32x1024.Idx) : View.canon (kernelRun0_A.sl.H5_4 (F := Ideal) c i arg1 harg1 arg2 harg2 arg3 harg3 arg6 arg8 arg9 x0 x1 x2) y = if Done5 3 y then dwTerm ((i 0).val = 63) x0 x1 x2 (y 0).val (y 1).val else 0 := by
  unfold kernelRun0_A.sl.H5_4
  refine step5 (dwTerm ((i 0).val = 63) x0 x1 x2) _ (k := 2) (p := 0) (q := 0) (by decide) rfl rfl (z5_3 c i arg1 harg1 arg2 harg2 arg3 harg3 arg6 arg8 arg9 x0 x1 x2) inb_S32x1024_S1x256_2_0 _ ?_ y
  · intro x
    have e := load5 arg6.view (dwTerm ((i 0).val = 63) x0 x1 x2) (kernelRun0_A.sl.H5_3 (F := Ideal) c i arg1 harg1 arg2 harg2 arg3 harg3 arg6 arg8 arg9 x0 x1 x2) (k := 2) (p := 0) (q := 0) rfl rfl (z5_3 c i arg1 harg1 arg2 harg2 arg3 harg3 arg6 arg8 arg9 x0 x1 x2) inb_S32x1024_S1x256_2_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_5 (y : S32x1024.Idx) : View.canon (kernelRun0_A.sl.H5_5 (F := Ideal) c i arg1 harg1 arg2 harg2 arg3 harg3 arg6 arg8 arg9 x0 x1 x2) y = if Done5 4 y then dwTerm ((i 0).val = 63) x0 x1 x2 (y 0).val (y 1).val else 0 := by
  unfold kernelRun0_A.sl.H5_5
  refine step5 (dwTerm ((i 0).val = 63) x0 x1 x2) _ (k := 3) (p := 0) (q := 0) (by decide) rfl rfl (z5_4 c i arg1 harg1 arg2 harg2 arg3 harg3 arg6 arg8 arg9 x0 x1 x2) inb_S32x1024_S1x256_3_0 _ ?_ y
  · intro x
    have e := load5 arg6.view (dwTerm ((i 0).val = 63) x0 x1 x2) (kernelRun0_A.sl.H5_4 (F := Ideal) c i arg1 harg1 arg2 harg2 arg3 harg3 arg6 arg8 arg9 x0 x1 x2) (k := 3) (p := 0) (q := 0) rfl rfl (z5_4 c i arg1 harg1 arg2 harg2 arg3 harg3 arg6 arg8 arg9 x0 x1 x2) inb_S32x1024_S1x256_3_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_6 (y : S32x1024.Idx) : View.canon (kernelRun0_A.sl.H5_6 (F := Ideal) c i arg1 harg1 arg2 harg2 arg3 harg3 arg6 arg8 arg9 x0 x1 x2) y = if Done5 5 y then dwTerm ((i 0).val = 63) x0 x1 x2 (y 0).val (y 1).val else 0 := by
  unfold kernelRun0_A.sl.H5_6
  refine step5 (dwTerm ((i 0).val = 63) x0 x1 x2) _ (k := 4) (p := 0) (q := 0) (by decide) rfl rfl (z5_5 c i arg1 harg1 arg2 harg2 arg3 harg3 arg6 arg8 arg9 x0 x1 x2) inb_S32x1024_S1x256_4_0 _ ?_ y
  · intro x
    have e := load5 arg6.view (dwTerm ((i 0).val = 63) x0 x1 x2) (kernelRun0_A.sl.H5_5 (F := Ideal) c i arg1 harg1 arg2 harg2 arg3 harg3 arg6 arg8 arg9 x0 x1 x2) (k := 4) (p := 0) (q := 0) rfl rfl (z5_5 c i arg1 harg1 arg2 harg2 arg3 harg3 arg6 arg8 arg9 x0 x1 x2) inb_S32x1024_S1x256_4_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_7 (y : S32x1024.Idx) : View.canon (kernelRun0_A.sl.H5_7 (F := Ideal) c i arg1 harg1 arg2 harg2 arg3 harg3 arg6 arg8 arg9 x0 x1 x2) y = if Done5 6 y then dwTerm ((i 0).val = 63) x0 x1 x2 (y 0).val (y 1).val else 0 := by
  unfold kernelRun0_A.sl.H5_7
  refine step5 (dwTerm ((i 0).val = 63) x0 x1 x2) _ (k := 5) (p := 0) (q := 0) (by decide) rfl rfl (z5_6 c i arg1 harg1 arg2 harg2 arg3 harg3 arg6 arg8 arg9 x0 x1 x2) inb_S32x1024_S1x256_5_0 _ ?_ y
  · intro x
    have e := load5 arg6.view (dwTerm ((i 0).val = 63) x0 x1 x2) (kernelRun0_A.sl.H5_6 (F := Ideal) c i arg1 harg1 arg2 harg2 arg3 harg3 arg6 arg8 arg9 x0 x1 x2) (k := 5) (p := 0) (q := 0) rfl rfl (z5_6 c i arg1 harg1 arg2 harg2 arg3 harg3 arg6 arg8 arg9 x0 x1 x2) inb_S32x1024_S1x256_5_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_8 (y : S32x1024.Idx) : View.canon (kernelRun0_A.sl.H5_8 (F := Ideal) c i arg1 harg1 arg2 harg2 arg3 harg3 arg6 arg8 arg9 x0 x1 x2) y = if Done5 7 y then dwTerm ((i 0).val = 63) x0 x1 x2 (y 0).val (y 1).val else 0 := by
  unfold kernelRun0_A.sl.H5_8
  refine step5 (dwTerm ((i 0).val = 63) x0 x1 x2) _ (k := 6) (p := 0) (q := 0) (by decide) rfl rfl (z5_7 c i arg1 harg1 arg2 harg2 arg3 harg3 arg6 arg8 arg9 x0 x1 x2) inb_S32x1024_S1x256_6_0 _ ?_ y
  · intro x
    have e := load5 arg6.view (dwTerm ((i 0).val = 63) x0 x1 x2) (kernelRun0_A.sl.H5_7 (F := Ideal) c i arg1 harg1 arg2 harg2 arg3 harg3 arg6 arg8 arg9 x0 x1 x2) (k := 6) (p := 0) (q := 0) rfl rfl (z5_7 c i arg1 harg1 arg2 harg2 arg3 harg3 arg6 arg8 arg9 x0 x1 x2) inb_S32x1024_S1x256_6_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_9 (y : S32x1024.Idx) : View.canon (kernelRun0_A.sl.H5_9 (F := Ideal) c i arg1 harg1 arg2 harg2 arg3 harg3 arg6 arg8 arg9 x0 x1 x2) y = if Done5 8 y then dwTerm ((i 0).val = 63) x0 x1 x2 (y 0).val (y 1).val else 0 := by
  unfold kernelRun0_A.sl.H5_9
  refine step5 (dwTerm ((i 0).val = 63) x0 x1 x2) _ (k := 7) (p := 0) (q := 0) (by decide) rfl rfl (z5_8 c i arg1 harg1 arg2 harg2 arg3 harg3 arg6 arg8 arg9 x0 x1 x2) inb_S32x1024_S1x256_7_0 _ ?_ y
  · intro x
    have e := load5 arg6.view (dwTerm ((i 0).val = 63) x0 x1 x2) (kernelRun0_A.sl.H5_8 (F := Ideal) c i arg1 harg1 arg2 harg2 arg3 harg3 arg6 arg8 arg9 x0 x1 x2) (k := 7) (p := 0) (q := 0) rfl rfl (z5_8 c i arg1 harg1 arg2 harg2 arg3 harg3 arg6 arg8 arg9 x0 x1 x2) inb_S32x1024_S1x256_7_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_10 (y : S32x1024.Idx) : View.canon (kernelRun0_A.sl.H5_10 (F := Ideal) c i arg1 harg1 arg2 harg2 arg3 harg3 arg6 arg8 arg9 x0 x1 x2) y = if Done5 9 y then dwTerm ((i 0).val = 63) x0 x1 x2 (y 0).val (y 1).val else 0 := by
  unfold kernelRun0_A.sl.H5_10
  refine step5 (dwTerm ((i 0).val = 63) x0 x1 x2) _ (k := 8) (p := 0) (q := 0) (by decide) rfl rfl (z5_9 c i arg1 harg1 arg2 harg2 arg3 harg3 arg6 arg8 arg9 x0 x1 x2) inb_S32x1024_S1x256_8_0 _ ?_ y
  · intro x
    have e := load5 arg6.view (dwTerm ((i 0).val = 63) x0 x1 x2) (kernelRun0_A.sl.H5_9 (F := Ideal) c i arg1 harg1 arg2 harg2 arg3 harg3 arg6 arg8 arg9 x0 x1 x2) (k := 8) (p := 0) (q := 0) rfl rfl (z5_9 c i arg1 harg1 arg2 harg2 arg3 harg3 arg6 arg8 arg9 x0 x1 x2) inb_S32x1024_S1x256_8_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_11 (y : S32x1024.Idx) : View.canon (kernelRun0_A.sl.H5_11 (F := Ideal) c i arg1 harg1 arg2 harg2 arg3 harg3 arg6 arg8 arg9 x0 x1 x2) y = if Done5 10 y then dwTerm ((i 0).val = 63) x0 x1 x2 (y 0).val (y 1).val else 0 := by
  unfold kernelRun0_A.sl.H5_11
  refine step5 (dwTerm ((i 0).val = 63) x0 x1 x2) _ (k := 9) (p := 0) (q := 0) (by decide) rfl rfl (z5_10 c i arg1 harg1 arg2 harg2 arg3 harg3 arg6 arg8 arg9 x0 x1 x2) inb_S32x1024_S1x256_9_0 _ ?_ y
  · intro x
    have e := load5 arg6.view (dwTerm ((i 0).val = 63) x0 x1 x2) (kernelRun0_A.sl.H5_10 (F := Ideal) c i arg1 harg1 arg2 harg2 arg3 harg3 arg6 arg8 arg9 x0 x1 x2) (k := 9) (p := 0) (q := 0) rfl rfl (z5_10 c i arg1 harg1 arg2 harg2 arg3 harg3 arg6 arg8 arg9 x0 x1 x2) inb_S32x1024_S1x256_9_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_12 (y : S32x1024.Idx) : View.canon (kernelRun0_A.sl.H5_12 (F := Ideal) c i arg1 harg1 arg2 harg2 arg3 harg3 arg6 arg8 arg9 x0 x1 x2) y = if Done5 11 y then dwTerm ((i 0).val = 63) x0 x1 x2 (y 0).val (y 1).val else 0 := by
  unfold kernelRun0_A.sl.H5_12
  refine step5 (dwTerm ((i 0).val = 63) x0 x1 x2) _ (k := 10) (p := 0) (q := 0) (by decide) rfl rfl (z5_11 c i arg1 harg1 arg2 harg2 arg3 harg3 arg6 arg8 arg9 x0 x1 x2) inb_S32x1024_S1x256_10_0 _ ?_ y
  · intro x
    have e := load5 arg6.view (dwTerm ((i 0).val = 63) x0 x1 x2) (kernelRun0_A.sl.H5_11 (F := Ideal) c i arg1 harg1 arg2 harg2 arg3 harg3 arg6 arg8 arg9 x0 x1 x2) (k := 10) (p := 0) (q := 0) rfl rfl (z5_11 c i arg1 harg1 arg2 harg2 arg3 harg3 arg6 arg8 arg9 x0 x1 x2) inb_S32x1024_S1x256_10_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_13 (y : S32x1024.Idx) : View.canon (kernelRun0_A.sl.H5_13 (F := Ideal) c i arg1 harg1 arg2 harg2 arg3 harg3 arg6 arg8 arg9 x0 x1 x2) y = if Done5 12 y then dwTerm ((i 0).val = 63) x0 x1 x2 (y 0).val (y 1).val else 0 := by
  unfold kernelRun0_A.sl.H5_13
  refine step5 (dwTerm ((i 0).val = 63) x0 x1 x2) _ (k := 11) (p := 0) (q := 0) (by decide) rfl rfl (z5_12 c i arg1 harg1 arg2 harg2 arg3 harg3 arg6 arg8 arg9 x0 x1 x2) inb_S32x1024_S1x256_11_0 _ ?_ y
  · intro x
    have e := load5 arg6.view (dwTerm ((i 0).val = 63) x0 x1 x2) (kernelRun0_A.sl.H5_12 (F := Ideal) c i arg1 harg1 arg2 harg2 arg3 harg3 arg6 arg8 arg9 x0 x1 x2) (k := 11) (p := 0) (q := 0) rfl rfl (z5_12 c i arg1 harg1 arg2 harg2 arg3 harg3 arg6 arg8 arg9 x0 x1 x2) inb_S32x1024_S1x256_11_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_14 (y : S32x1024.Idx) : View.canon (kernelRun0_A.sl.H5_14 (F := Ideal) c i arg1 harg1 arg2 harg2 arg3 harg3 arg6 arg8 arg9 x0 x1 x2) y = if Done5 13 y then dwTerm ((i 0).val = 63) x0 x1 x2 (y 0).val (y 1).val else 0 := by
  unfold kernelRun0_A.sl.H5_14
  refine step5 (dwTerm ((i 0).val = 63) x0 x1 x2) _ (k := 12) (p := 0) (q := 0) (by decide) rfl rfl (z5_13 c i arg1 harg1 arg2 harg2 arg3 harg3 arg6 arg8 arg9 x0 x1 x2) inb_S32x1024_S1x256_12_0 _ ?_ y
  · intro x
    have e := load5 arg6.view (dwTerm ((i 0).val = 63) x0 x1 x2) (kernelRun0_A.sl.H5_13 (F := Ideal) c i arg1 harg1 arg2 harg2 arg3 harg3 arg6 arg8 arg9 x0 x1 x2) (k := 12) (p := 0) (q := 0) rfl rfl (z5_13 c i arg1 harg1 arg2 harg2 arg3 harg3 arg6 arg8 arg9 x0 x1 x2) inb_S32x1024_S1x256_12_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_15 (y : S32x1024.Idx) : View.canon (kernelRun0_A.sl.H5_15 (F := Ideal) c i arg1 harg1 arg2 harg2 arg3 harg3 arg6 arg8 arg9 x0 x1 x2) y = if Done5 14 y then dwTerm ((i 0).val = 63) x0 x1 x2 (y 0).val (y 1).val else 0 := by
  unfold kernelRun0_A.sl.H5_15
  refine step5 (dwTerm ((i 0).val = 63) x0 x1 x2) _ (k := 13) (p := 0) (q := 0) (by decide) rfl rfl (z5_14 c i arg1 harg1 arg2 harg2 arg3 harg3 arg6 arg8 arg9 x0 x1 x2) inb_S32x1024_S1x256_13_0 _ ?_ y
  · intro x
    have e := load5 arg6.view (dwTerm ((i 0).val = 63) x0 x1 x2) (kernelRun0_A.sl.H5_14 (F := Ideal) c i arg1 harg1 arg2 harg2 arg3 harg3 arg6 arg8 arg9 x0 x1 x2) (k := 13) (p := 0) (q := 0) rfl rfl (z5_14 c i arg1 harg1 arg2 harg2 arg3 harg3 arg6 arg8 arg9 x0 x1 x2) inb_S32x1024_S1x256_13_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_16 (y : S32x1024.Idx) : View.canon (kernelRun0_A.sl.H5_16 (F := Ideal) c i arg1 harg1 arg2 harg2 arg3 harg3 arg6 arg8 arg9 x0 x1 x2) y = if Done5 15 y then dwTerm ((i 0).val = 63) x0 x1 x2 (y 0).val (y 1).val else 0 := by
  unfold kernelRun0_A.sl.H5_16
  refine step5 (dwTerm ((i 0).val = 63) x0 x1 x2) _ (k := 14) (p := 0) (q := 0) (by decide) rfl rfl (z5_15 c i arg1 harg1 arg2 harg2 arg3 harg3 arg6 arg8 arg9 x0 x1 x2) inb_S32x1024_S1x256_14_0 _ ?_ y
  · intro x
    have e := load5 arg6.view (dwTerm ((i 0).val = 63) x0 x1 x2) (kernelRun0_A.sl.H5_15 (F := Ideal) c i arg1 harg1 arg2 harg2 arg3 harg3 arg6 arg8 arg9 x0 x1 x2) (k := 14) (p := 0) (q := 0) rfl rfl (z5_15 c i arg1 harg1 arg2 harg2 arg3 harg3 arg6 arg8 arg9 x0 x1 x2) inb_S32x1024_S1x256_14_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_17 (y : S32x1024.Idx) : View.canon (kernelRun0_A.sl.H5_17 (F := Ideal) c i arg1 harg1 arg2 harg2 arg3 harg3 arg6 arg8 arg9 x0 x1 x2) y = if Done5 16 y then dwTerm ((i 0).val = 63) x0 x1 x2 (y 0).val (y 1).val else 0 := by
  unfold kernelRun0_A.sl.H5_17
  refine step5 (dwTerm ((i 0).val = 63) x0 x1 x2) _ (k := 15) (p := 0) (q := 0) (by decide) rfl rfl (z5_16 c i arg1 harg1 arg2 harg2 arg3 harg3 arg6 arg8 arg9 x0 x1 x2) inb_S32x1024_S1x256_15_0 _ ?_ y
  · intro x
    have e := load5 arg6.view (dwTerm ((i 0).val = 63) x0 x1 x2) (kernelRun0_A.sl.H5_16 (F := Ideal) c i arg1 harg1 arg2 harg2 arg3 harg3 arg6 arg8 arg9 x0 x1 x2) (k := 15) (p := 0) (q := 0) rfl rfl (z5_16 c i arg1 harg1 arg2 harg2 arg3 harg3 arg6 arg8 arg9 x0 x1 x2) inb_S32x1024_S1x256_15_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_18 (y : S32x1024.Idx) : View.canon (kernelRun0_A.sl.H5_18 (F := Ideal) c i arg1 harg1 arg2 harg2 arg3 harg3 arg6 arg8 arg9 x0 x1 x2) y = if Done5 17 y then dwTerm ((i 0).val = 63) x0 x1 x2 (y 0).val (y 1).val else 0 := by
  unfold kernelRun0_A.sl.H5_18
  refine step5 (dwTerm ((i 0).val = 63) x0 x1 x2) _ (k := 16) (p := 0) (q := 0) (by decide) rfl rfl (z5_17 c i arg1 harg1 arg2 harg2 arg3 harg3 arg6 arg8 arg9 x0 x1 x2) inb_S32x1024_S1x256_16_0 _ ?_ y
  · intro x
    have e := load5 arg6.view (dwTerm ((i 0).val = 63) x0 x1 x2) (kernelRun0_A.sl.H5_17 (F := Ideal) c i arg1 harg1 arg2 harg2 arg3 harg3 arg6 arg8 arg9 x0 x1 x2) (k := 16) (p := 0) (q := 0) rfl rfl (z5_17 c i arg1 harg1 arg2 harg2 arg3 harg3 arg6 arg8 arg9 x0 x1 x2) inb_S32x1024_S1x256_16_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_19 (y : S32x1024.Idx) : View.canon (kernelRun0_A.sl.H5_19 (F := Ideal) c i arg1 harg1 arg2 harg2 arg3 harg3 arg6 arg8 arg9 x0 x1 x2) y = if Done5 18 y then dwTerm ((i 0).val = 63) x0 x1 x2 (y 0).val (y 1).val else 0 := by
  unfold kernelRun0_A.sl.H5_19
  refine step5 (dwTerm ((i 0).val = 63) x0 x1 x2) _ (k := 17) (p := 0) (q := 0) (by decide) rfl rfl (z5_18 c i arg1 harg1 arg2 harg2 arg3 harg3 arg6 arg8 arg9 x0 x1 x2) inb_S32x1024_S1x256_17_0 _ ?_ y
  · intro x
    have e := load5 arg6.view (dwTerm ((i 0).val = 63) x0 x1 x2) (kernelRun0_A.sl.H5_18 (F := Ideal) c i arg1 harg1 arg2 harg2 arg3 harg3 arg6 arg8 arg9 x0 x1 x2) (k := 17) (p := 0) (q := 0) rfl rfl (z5_18 c i arg1 harg1 arg2 harg2 arg3 harg3 arg6 arg8 arg9 x0 x1 x2) inb_S32x1024_S1x256_17_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_20 (y : S32x1024.Idx) : View.canon (kernelRun0_A.sl.H5_20 (F := Ideal) c i arg1 harg1 arg2 harg2 arg3 harg3 arg6 arg8 arg9 x0 x1 x2) y = if Done5 19 y then dwTerm ((i 0).val = 63) x0 x1 x2 (y 0).val (y 1).val else 0 := by
  unfold kernelRun0_A.sl.H5_20
  refine step5 (dwTerm ((i 0).val = 63) x0 x1 x2) _ (k := 18) (p := 0) (q := 0) (by decide) rfl rfl (z5_19 c i arg1 harg1 arg2 harg2 arg3 harg3 arg6 arg8 arg9 x0 x1 x2) inb_S32x1024_S1x256_18_0 _ ?_ y
  · intro x
    have e := load5 arg6.view (dwTerm ((i 0).val = 63) x0 x1 x2) (kernelRun0_A.sl.H5_19 (F := Ideal) c i arg1 harg1 arg2 harg2 arg3 harg3 arg6 arg8 arg9 x0 x1 x2) (k := 18) (p := 0) (q := 0) rfl rfl (z5_19 c i arg1 harg1 arg2 harg2 arg3 harg3 arg6 arg8 arg9 x0 x1 x2) inb_S32x1024_S1x256_18_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_21 (y : S32x1024.Idx) : View.canon (kernelRun0_A.sl.H5_21 (F := Ideal) c i arg1 harg1 arg2 harg2 arg3 harg3 arg6 arg8 arg9 x0 x1 x2) y = if Done5 20 y then dwTerm ((i 0).val = 63) x0 x1 x2 (y 0).val (y 1).val else 0 := by
  unfold kernelRun0_A.sl.H5_21
  refine step5 (dwTerm ((i 0).val = 63) x0 x1 x2) _ (k := 19) (p := 0) (q := 0) (by decide) rfl rfl (z5_20 c i arg1 harg1 arg2 harg2 arg3 harg3 arg6 arg8 arg9 x0 x1 x2) inb_S32x1024_S1x256_19_0 _ ?_ y
  · intro x
    have e := load5 arg6.view (dwTerm ((i 0).val = 63) x0 x1 x2) (kernelRun0_A.sl.H5_20 (F := Ideal) c i arg1 harg1 arg2 harg2 arg3 harg3 arg6 arg8 arg9 x0 x1 x2) (k := 19) (p := 0) (q := 0) rfl rfl (z5_20 c i arg1 harg1 arg2 harg2 arg3 harg3 arg6 arg8 arg9 x0 x1 x2) inb_S32x1024_S1x256_19_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_22 (y : S32x1024.Idx) : View.canon (kernelRun0_A.sl.H5_22 (F := Ideal) c i arg1 harg1 arg2 harg2 arg3 harg3 arg6 arg8 arg9 x0 x1 x2) y = if Done5 21 y then dwTerm ((i 0).val = 63) x0 x1 x2 (y 0).val (y 1).val else 0 := by
  unfold kernelRun0_A.sl.H5_22
  refine step5 (dwTerm ((i 0).val = 63) x0 x1 x2) _ (k := 20) (p := 0) (q := 0) (by decide) rfl rfl (z5_21 c i arg1 harg1 arg2 harg2 arg3 harg3 arg6 arg8 arg9 x0 x1 x2) inb_S32x1024_S1x256_20_0 _ ?_ y
  · intro x
    have e := load5 arg6.view (dwTerm ((i 0).val = 63) x0 x1 x2) (kernelRun0_A.sl.H5_21 (F := Ideal) c i arg1 harg1 arg2 harg2 arg3 harg3 arg6 arg8 arg9 x0 x1 x2) (k := 20) (p := 0) (q := 0) rfl rfl (z5_21 c i arg1 harg1 arg2 harg2 arg3 harg3 arg6 arg8 arg9 x0 x1 x2) inb_S32x1024_S1x256_20_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_23 (y : S32x1024.Idx) : View.canon (kernelRun0_A.sl.H5_23 (F := Ideal) c i arg1 harg1 arg2 harg2 arg3 harg3 arg6 arg8 arg9 x0 x1 x2) y = if Done5 22 y then dwTerm ((i 0).val = 63) x0 x1 x2 (y 0).val (y 1).val else 0 := by
  unfold kernelRun0_A.sl.H5_23
  refine step5 (dwTerm ((i 0).val = 63) x0 x1 x2) _ (k := 21) (p := 0) (q := 0) (by decide) rfl rfl (z5_22 c i arg1 harg1 arg2 harg2 arg3 harg3 arg6 arg8 arg9 x0 x1 x2) inb_S32x1024_S1x256_21_0 _ ?_ y
  · intro x
    have e := load5 arg6.view (dwTerm ((i 0).val = 63) x0 x1 x2) (kernelRun0_A.sl.H5_22 (F := Ideal) c i arg1 harg1 arg2 harg2 arg3 harg3 arg6 arg8 arg9 x0 x1 x2) (k := 21) (p := 0) (q := 0) rfl rfl (z5_22 c i arg1 harg1 arg2 harg2 arg3 harg3 arg6 arg8 arg9 x0 x1 x2) inb_S32x1024_S1x256_21_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_24 (y : S32x1024.Idx) : View.canon (kernelRun0_A.sl.H5_24 (F := Ideal) c i arg1 harg1 arg2 harg2 arg3 harg3 arg6 arg8 arg9 x0 x1 x2) y = if Done5 23 y then dwTerm ((i 0).val = 63) x0 x1 x2 (y 0).val (y 1).val else 0 := by
  unfold kernelRun0_A.sl.H5_24
  refine step5 (dwTerm ((i 0).val = 63) x0 x1 x2) _ (k := 22) (p := 0) (q := 0) (by decide) rfl rfl (z5_23 c i arg1 harg1 arg2 harg2 arg3 harg3 arg6 arg8 arg9 x0 x1 x2) inb_S32x1024_S1x256_22_0 _ ?_ y
  · intro x
    have e := load5 arg6.view (dwTerm ((i 0).val = 63) x0 x1 x2) (kernelRun0_A.sl.H5_23 (F := Ideal) c i arg1 harg1 arg2 harg2 arg3 harg3 arg6 arg8 arg9 x0 x1 x2) (k := 22) (p := 0) (q := 0) rfl rfl (z5_23 c i arg1 harg1 arg2 harg2 arg3 harg3 arg6 arg8 arg9 x0 x1 x2) inb_S32x1024_S1x256_22_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_25 (y : S32x1024.Idx) : View.canon (kernelRun0_A.sl.H5_25 (F := Ideal) c i arg1 harg1 arg2 harg2 arg3 harg3 arg6 arg8 arg9 x0 x1 x2) y = if Done5 24 y then dwTerm ((i 0).val = 63) x0 x1 x2 (y 0).val (y 1).val else 0 := by
  unfold kernelRun0_A.sl.H5_25
  refine step5 (dwTerm ((i 0).val = 63) x0 x1 x2) _ (k := 23) (p := 0) (q := 0) (by decide) rfl rfl (z5_24 c i arg1 harg1 arg2 harg2 arg3 harg3 arg6 arg8 arg9 x0 x1 x2) inb_S32x1024_S1x256_23_0 _ ?_ y
  · intro x
    have e := load5 arg6.view (dwTerm ((i 0).val = 63) x0 x1 x2) (kernelRun0_A.sl.H5_24 (F := Ideal) c i arg1 harg1 arg2 harg2 arg3 harg3 arg6 arg8 arg9 x0 x1 x2) (k := 23) (p := 0) (q := 0) rfl rfl (z5_24 c i arg1 harg1 arg2 harg2 arg3 harg3 arg6 arg8 arg9 x0 x1 x2) inb_S32x1024_S1x256_23_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_26 (y : S32x1024.Idx) : View.canon (kernelRun0_A.sl.H5_26 (F := Ideal) c i arg1 harg1 arg2 harg2 arg3 harg3 arg6 arg8 arg9 x0 x1 x2) y = if Done5 25 y then dwTerm ((i 0).val = 63) x0 x1 x2 (y 0).val (y 1).val else 0 := by
  unfold kernelRun0_A.sl.H5_26
  refine step5 (dwTerm ((i 0).val = 63) x0 x1 x2) _ (k := 24) (p := 0) (q := 0) (by decide) rfl rfl (z5_25 c i arg1 harg1 arg2 harg2 arg3 harg3 arg6 arg8 arg9 x0 x1 x2) inb_S32x1024_S1x256_24_0 _ ?_ y
  · intro x
    have e := load5 arg6.view (dwTerm ((i 0).val = 63) x0 x1 x2) (kernelRun0_A.sl.H5_25 (F := Ideal) c i arg1 harg1 arg2 harg2 arg3 harg3 arg6 arg8 arg9 x0 x1 x2) (k := 24) (p := 0) (q := 0) rfl rfl (z5_25 c i arg1 harg1 arg2 harg2 arg3 harg3 arg6 arg8 arg9 x0 x1 x2) inb_S32x1024_S1x256_24_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_27 (y : S32x1024.Idx) : View.canon (kernelRun0_A.sl.H5_27 (F := Ideal) c i arg1 harg1 arg2 harg2 arg3 harg3 arg6 arg8 arg9 x0 x1 x2) y = if Done5 26 y then dwTerm ((i 0).val = 63) x0 x1 x2 (y 0).val (y 1).val else 0 := by
  unfold kernelRun0_A.sl.H5_27
  refine step5 (dwTerm ((i 0).val = 63) x0 x1 x2) _ (k := 25) (p := 0) (q := 0) (by decide) rfl rfl (z5_26 c i arg1 harg1 arg2 harg2 arg3 harg3 arg6 arg8 arg9 x0 x1 x2) inb_S32x1024_S1x256_25_0 _ ?_ y
  · intro x
    have e := load5 arg6.view (dwTerm ((i 0).val = 63) x0 x1 x2) (kernelRun0_A.sl.H5_26 (F := Ideal) c i arg1 harg1 arg2 harg2 arg3 harg3 arg6 arg8 arg9 x0 x1 x2) (k := 25) (p := 0) (q := 0) rfl rfl (z5_26 c i arg1 harg1 arg2 harg2 arg3 harg3 arg6 arg8 arg9 x0 x1 x2) inb_S32x1024_S1x256_25_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_28 (y : S32x1024.Idx) : View.canon (kernelRun0_A.sl.H5_28 (F := Ideal) c i arg1 harg1 arg2 harg2 arg3 harg3 arg6 arg8 arg9 x0 x1 x2) y = if Done5 27 y then dwTerm ((i 0).val = 63) x0 x1 x2 (y 0).val (y 1).val else 0 := by
  unfold kernelRun0_A.sl.H5_28
  refine step5 (dwTerm ((i 0).val = 63) x0 x1 x2) _ (k := 26) (p := 0) (q := 0) (by decide) rfl rfl (z5_27 c i arg1 harg1 arg2 harg2 arg3 harg3 arg6 arg8 arg9 x0 x1 x2) inb_S32x1024_S1x256_26_0 _ ?_ y
  · intro x
    have e := load5 arg6.view (dwTerm ((i 0).val = 63) x0 x1 x2) (kernelRun0_A.sl.H5_27 (F := Ideal) c i arg1 harg1 arg2 harg2 arg3 harg3 arg6 arg8 arg9 x0 x1 x2) (k := 26) (p := 0) (q := 0) rfl rfl (z5_27 c i arg1 harg1 arg2 harg2 arg3 harg3 arg6 arg8 arg9 x0 x1 x2) inb_S32x1024_S1x256_26_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_29 (y : S32x1024.Idx) : View.canon (kernelRun0_A.sl.H5_29 (F := Ideal) c i arg1 harg1 arg2 harg2 arg3 harg3 arg6 arg8 arg9 x0 x1 x2) y = if Done5 28 y then dwTerm ((i 0).val = 63) x0 x1 x2 (y 0).val (y 1).val else 0 := by
  unfold kernelRun0_A.sl.H5_29
  refine step5 (dwTerm ((i 0).val = 63) x0 x1 x2) _ (k := 27) (p := 0) (q := 0) (by decide) rfl rfl (z5_28 c i arg1 harg1 arg2 harg2 arg3 harg3 arg6 arg8 arg9 x0 x1 x2) inb_S32x1024_S1x256_27_0 _ ?_ y
  · intro x
    have e := load5 arg6.view (dwTerm ((i 0).val = 63) x0 x1 x2) (kernelRun0_A.sl.H5_28 (F := Ideal) c i arg1 harg1 arg2 harg2 arg3 harg3 arg6 arg8 arg9 x0 x1 x2) (k := 27) (p := 0) (q := 0) rfl rfl (z5_28 c i arg1 harg1 arg2 harg2 arg3 harg3 arg6 arg8 arg9 x0 x1 x2) inb_S32x1024_S1x256_27_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_30 (y : S32x1024.Idx) : View.canon (kernelRun0_A.sl.H5_30 (F := Ideal) c i arg1 harg1 arg2 harg2 arg3 harg3 arg6 arg8 arg9 x0 x1 x2) y = if Done5 29 y then dwTerm ((i 0).val = 63) x0 x1 x2 (y 0).val (y 1).val else 0 := by
  unfold kernelRun0_A.sl.H5_30
  refine step5 (dwTerm ((i 0).val = 63) x0 x1 x2) _ (k := 28) (p := 0) (q := 0) (by decide) rfl rfl (z5_29 c i arg1 harg1 arg2 harg2 arg3 harg3 arg6 arg8 arg9 x0 x1 x2) inb_S32x1024_S1x256_28_0 _ ?_ y
  · intro x
    have e := load5 arg6.view (dwTerm ((i 0).val = 63) x0 x1 x2) (kernelRun0_A.sl.H5_29 (F := Ideal) c i arg1 harg1 arg2 harg2 arg3 harg3 arg6 arg8 arg9 x0 x1 x2) (k := 28) (p := 0) (q := 0) rfl rfl (z5_29 c i arg1 harg1 arg2 harg2 arg3 harg3 arg6 arg8 arg9 x0 x1 x2) inb_S32x1024_S1x256_28_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_31 (y : S32x1024.Idx) : View.canon (kernelRun0_A.sl.H5_31 (F := Ideal) c i arg1 harg1 arg2 harg2 arg3 harg3 arg6 arg8 arg9 x0 x1 x2) y = if Done5 30 y then dwTerm ((i 0).val = 63) x0 x1 x2 (y 0).val (y 1).val else 0 := by
  unfold kernelRun0_A.sl.H5_31
  refine step5 (dwTerm ((i 0).val = 63) x0 x1 x2) _ (k := 29) (p := 0) (q := 0) (by decide) rfl rfl (z5_30 c i arg1 harg1 arg2 harg2 arg3 harg3 arg6 arg8 arg9 x0 x1 x2) inb_S32x1024_S1x256_29_0 _ ?_ y
  · intro x
    have e := load5 arg6.view (dwTerm ((i 0).val = 63) x0 x1 x2) (kernelRun0_A.sl.H5_30 (F := Ideal) c i arg1 harg1 arg2 harg2 arg3 harg3 arg6 arg8 arg9 x0 x1 x2) (k := 29) (p := 0) (q := 0) rfl rfl (z5_30 c i arg1 harg1 arg2 harg2 arg3 harg3 arg6 arg8 arg9 x0 x1 x2) inb_S32x1024_S1x256_29_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_32 (y : S32x1024.Idx) : View.canon (kernelRun0_A.sl.H5_32 (F := Ideal) c i arg1 harg1 arg2 harg2 arg3 harg3 arg6 arg8 arg9 x0 x1 x2) y = if Done5 31 y then dwTerm ((i 0).val = 63) x0 x1 x2 (y 0).val (y 1).val else 0 := by
  unfold kernelRun0_A.sl.H5_32
  refine step5 (dwTerm ((i 0).val = 63) x0 x1 x2) _ (k := 30) (p := 0) (q := 0) (by decide) rfl rfl (z5_31 c i arg1 harg1 arg2 harg2 arg3 harg3 arg6 arg8 arg9 x0 x1 x2) inb_S32x1024_S1x256_30_0 _ ?_ y
  · intro x
    have e := load5 arg6.view (dwTerm ((i 0).val = 63) x0 x1 x2) (kernelRun0_A.sl.H5_31 (F := Ideal) c i arg1 harg1 arg2 harg2 arg3 harg3 arg6 arg8 arg9 x0 x1 x2) (k := 30) (p := 0) (q := 0) rfl rfl (z5_31 c i arg1 harg1 arg2 harg2 arg3 harg3 arg6 arg8 arg9 x0 x1 x2) inb_S32x1024_S1x256_30_0
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_33 (y : S32x1024.Idx) : View.canon (kernelRun0_A.sl.H5_33 (F := Ideal) c i arg1 harg1 arg2 harg2 arg3 harg3 arg6 arg8 arg9 x0 x1 x2) y = if Done5 32 y then dwTerm ((i 0).val = 63) x0 x1 x2 (y 0).val (y 1).val else 0 := by
  unfold kernelRun0_A.sl.H5_33
  refine step5 (dwTerm ((i 0).val = 63) x0 x1 x2) _ (k := 0) (p := 256) (q := 1) (by decide) rfl rfl (z5_32 c i arg1 harg1 arg2 harg2 arg3 harg3 arg6 arg8 arg9 x0 x1 x2) inb_S32x1024_S1x256_0_256 _ ?_ y
  · intro x
    have e := load5 arg6.view (dwTerm ((i 0).val = 63) x0 x1 x2) (kernelRun0_A.sl.H5_32 (F := Ideal) c i arg1 harg1 arg2 harg2 arg3 harg3 arg6 arg8 arg9 x0 x1 x2) (k := 0) (p := 256) (q := 1) rfl rfl (z5_32 c i arg1 harg1 arg2 harg2 arg3 harg3 arg6 arg8 arg9 x0 x1 x2) inb_S32x1024_S1x256_0_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_34 (y : S32x1024.Idx) : View.canon (kernelRun0_A.sl.H5_34 (F := Ideal) c i arg1 harg1 arg2 harg2 arg3 harg3 arg6 arg8 arg9 x0 x1 x2) y = if Done5 33 y then dwTerm ((i 0).val = 63) x0 x1 x2 (y 0).val (y 1).val else 0 := by
  unfold kernelRun0_A.sl.H5_34
  refine step5 (dwTerm ((i 0).val = 63) x0 x1 x2) _ (k := 1) (p := 256) (q := 1) (by decide) rfl rfl (z5_33 c i arg1 harg1 arg2 harg2 arg3 harg3 arg6 arg8 arg9 x0 x1 x2) inb_S32x1024_S1x256_1_256 _ ?_ y
  · intro x
    have e := load5 arg6.view (dwTerm ((i 0).val = 63) x0 x1 x2) (kernelRun0_A.sl.H5_33 (F := Ideal) c i arg1 harg1 arg2 harg2 arg3 harg3 arg6 arg8 arg9 x0 x1 x2) (k := 1) (p := 256) (q := 1) rfl rfl (z5_33 c i arg1 harg1 arg2 harg2 arg3 harg3 arg6 arg8 arg9 x0 x1 x2) inb_S32x1024_S1x256_1_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_35 (y : S32x1024.Idx) : View.canon (kernelRun0_A.sl.H5_35 (F := Ideal) c i arg1 harg1 arg2 harg2 arg3 harg3 arg6 arg8 arg9 x0 x1 x2) y = if Done5 34 y then dwTerm ((i 0).val = 63) x0 x1 x2 (y 0).val (y 1).val else 0 := by
  unfold kernelRun0_A.sl.H5_35
  refine step5 (dwTerm ((i 0).val = 63) x0 x1 x2) _ (k := 2) (p := 256) (q := 1) (by decide) rfl rfl (z5_34 c i arg1 harg1 arg2 harg2 arg3 harg3 arg6 arg8 arg9 x0 x1 x2) inb_S32x1024_S1x256_2_256 _ ?_ y
  · intro x
    have e := load5 arg6.view (dwTerm ((i 0).val = 63) x0 x1 x2) (kernelRun0_A.sl.H5_34 (F := Ideal) c i arg1 harg1 arg2 harg2 arg3 harg3 arg6 arg8 arg9 x0 x1 x2) (k := 2) (p := 256) (q := 1) rfl rfl (z5_34 c i arg1 harg1 arg2 harg2 arg3 harg3 arg6 arg8 arg9 x0 x1 x2) inb_S32x1024_S1x256_2_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_36 (y : S32x1024.Idx) : View.canon (kernelRun0_A.sl.H5_36 (F := Ideal) c i arg1 harg1 arg2 harg2 arg3 harg3 arg6 arg8 arg9 x0 x1 x2) y = if Done5 35 y then dwTerm ((i 0).val = 63) x0 x1 x2 (y 0).val (y 1).val else 0 := by
  unfold kernelRun0_A.sl.H5_36
  refine step5 (dwTerm ((i 0).val = 63) x0 x1 x2) _ (k := 3) (p := 256) (q := 1) (by decide) rfl rfl (z5_35 c i arg1 harg1 arg2 harg2 arg3 harg3 arg6 arg8 arg9 x0 x1 x2) inb_S32x1024_S1x256_3_256 _ ?_ y
  · intro x
    have e := load5 arg6.view (dwTerm ((i 0).val = 63) x0 x1 x2) (kernelRun0_A.sl.H5_35 (F := Ideal) c i arg1 harg1 arg2 harg2 arg3 harg3 arg6 arg8 arg9 x0 x1 x2) (k := 3) (p := 256) (q := 1) rfl rfl (z5_35 c i arg1 harg1 arg2 harg2 arg3 harg3 arg6 arg8 arg9 x0 x1 x2) inb_S32x1024_S1x256_3_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_37 (y : S32x1024.Idx) : View.canon (kernelRun0_A.sl.H5_37 (F := Ideal) c i arg1 harg1 arg2 harg2 arg3 harg3 arg6 arg8 arg9 x0 x1 x2) y = if Done5 36 y then dwTerm ((i 0).val = 63) x0 x1 x2 (y 0).val (y 1).val else 0 := by
  unfold kernelRun0_A.sl.H5_37
  refine step5 (dwTerm ((i 0).val = 63) x0 x1 x2) _ (k := 4) (p := 256) (q := 1) (by decide) rfl rfl (z5_36 c i arg1 harg1 arg2 harg2 arg3 harg3 arg6 arg8 arg9 x0 x1 x2) inb_S32x1024_S1x256_4_256 _ ?_ y
  · intro x
    have e := load5 arg6.view (dwTerm ((i 0).val = 63) x0 x1 x2) (kernelRun0_A.sl.H5_36 (F := Ideal) c i arg1 harg1 arg2 harg2 arg3 harg3 arg6 arg8 arg9 x0 x1 x2) (k := 4) (p := 256) (q := 1) rfl rfl (z5_36 c i arg1 harg1 arg2 harg2 arg3 harg3 arg6 arg8 arg9 x0 x1 x2) inb_S32x1024_S1x256_4_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_38 (y : S32x1024.Idx) : View.canon (kernelRun0_A.sl.H5_38 (F := Ideal) c i arg1 harg1 arg2 harg2 arg3 harg3 arg6 arg8 arg9 x0 x1 x2) y = if Done5 37 y then dwTerm ((i 0).val = 63) x0 x1 x2 (y 0).val (y 1).val else 0 := by
  unfold kernelRun0_A.sl.H5_38
  refine step5 (dwTerm ((i 0).val = 63) x0 x1 x2) _ (k := 5) (p := 256) (q := 1) (by decide) rfl rfl (z5_37 c i arg1 harg1 arg2 harg2 arg3 harg3 arg6 arg8 arg9 x0 x1 x2) inb_S32x1024_S1x256_5_256 _ ?_ y
  · intro x
    have e := load5 arg6.view (dwTerm ((i 0).val = 63) x0 x1 x2) (kernelRun0_A.sl.H5_37 (F := Ideal) c i arg1 harg1 arg2 harg2 arg3 harg3 arg6 arg8 arg9 x0 x1 x2) (k := 5) (p := 256) (q := 1) rfl rfl (z5_37 c i arg1 harg1 arg2 harg2 arg3 harg3 arg6 arg8 arg9 x0 x1 x2) inb_S32x1024_S1x256_5_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_39 (y : S32x1024.Idx) : View.canon (kernelRun0_A.sl.H5_39 (F := Ideal) c i arg1 harg1 arg2 harg2 arg3 harg3 arg6 arg8 arg9 x0 x1 x2) y = if Done5 38 y then dwTerm ((i 0).val = 63) x0 x1 x2 (y 0).val (y 1).val else 0 := by
  unfold kernelRun0_A.sl.H5_39
  refine step5 (dwTerm ((i 0).val = 63) x0 x1 x2) _ (k := 6) (p := 256) (q := 1) (by decide) rfl rfl (z5_38 c i arg1 harg1 arg2 harg2 arg3 harg3 arg6 arg8 arg9 x0 x1 x2) inb_S32x1024_S1x256_6_256 _ ?_ y
  · intro x
    have e := load5 arg6.view (dwTerm ((i 0).val = 63) x0 x1 x2) (kernelRun0_A.sl.H5_38 (F := Ideal) c i arg1 harg1 arg2 harg2 arg3 harg3 arg6 arg8 arg9 x0 x1 x2) (k := 6) (p := 256) (q := 1) rfl rfl (z5_38 c i arg1 harg1 arg2 harg2 arg3 harg3 arg6 arg8 arg9 x0 x1 x2) inb_S32x1024_S1x256_6_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_40 (y : S32x1024.Idx) : View.canon (kernelRun0_A.sl.H5_40 (F := Ideal) c i arg1 harg1 arg2 harg2 arg3 harg3 arg6 arg8 arg9 x0 x1 x2) y = if Done5 39 y then dwTerm ((i 0).val = 63) x0 x1 x2 (y 0).val (y 1).val else 0 := by
  unfold kernelRun0_A.sl.H5_40
  refine step5 (dwTerm ((i 0).val = 63) x0 x1 x2) _ (k := 7) (p := 256) (q := 1) (by decide) rfl rfl (z5_39 c i arg1 harg1 arg2 harg2 arg3 harg3 arg6 arg8 arg9 x0 x1 x2) inb_S32x1024_S1x256_7_256 _ ?_ y
  · intro x
    have e := load5 arg6.view (dwTerm ((i 0).val = 63) x0 x1 x2) (kernelRun0_A.sl.H5_39 (F := Ideal) c i arg1 harg1 arg2 harg2 arg3 harg3 arg6 arg8 arg9 x0 x1 x2) (k := 7) (p := 256) (q := 1) rfl rfl (z5_39 c i arg1 harg1 arg2 harg2 arg3 harg3 arg6 arg8 arg9 x0 x1 x2) inb_S32x1024_S1x256_7_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_41 (y : S32x1024.Idx) : View.canon (kernelRun0_A.sl.H5_41 (F := Ideal) c i arg1 harg1 arg2 harg2 arg3 harg3 arg6 arg8 arg9 x0 x1 x2) y = if Done5 40 y then dwTerm ((i 0).val = 63) x0 x1 x2 (y 0).val (y 1).val else 0 := by
  unfold kernelRun0_A.sl.H5_41
  refine step5 (dwTerm ((i 0).val = 63) x0 x1 x2) _ (k := 8) (p := 256) (q := 1) (by decide) rfl rfl (z5_40 c i arg1 harg1 arg2 harg2 arg3 harg3 arg6 arg8 arg9 x0 x1 x2) inb_S32x1024_S1x256_8_256 _ ?_ y
  · intro x
    have e := load5 arg6.view (dwTerm ((i 0).val = 63) x0 x1 x2) (kernelRun0_A.sl.H5_40 (F := Ideal) c i arg1 harg1 arg2 harg2 arg3 harg3 arg6 arg8 arg9 x0 x1 x2) (k := 8) (p := 256) (q := 1) rfl rfl (z5_40 c i arg1 harg1 arg2 harg2 arg3 harg3 arg6 arg8 arg9 x0 x1 x2) inb_S32x1024_S1x256_8_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_42 (y : S32x1024.Idx) : View.canon (kernelRun0_A.sl.H5_42 (F := Ideal) c i arg1 harg1 arg2 harg2 arg3 harg3 arg6 arg8 arg9 x0 x1 x2) y = if Done5 41 y then dwTerm ((i 0).val = 63) x0 x1 x2 (y 0).val (y 1).val else 0 := by
  unfold kernelRun0_A.sl.H5_42
  refine step5 (dwTerm ((i 0).val = 63) x0 x1 x2) _ (k := 9) (p := 256) (q := 1) (by decide) rfl rfl (z5_41 c i arg1 harg1 arg2 harg2 arg3 harg3 arg6 arg8 arg9 x0 x1 x2) inb_S32x1024_S1x256_9_256 _ ?_ y
  · intro x
    have e := load5 arg6.view (dwTerm ((i 0).val = 63) x0 x1 x2) (kernelRun0_A.sl.H5_41 (F := Ideal) c i arg1 harg1 arg2 harg2 arg3 harg3 arg6 arg8 arg9 x0 x1 x2) (k := 9) (p := 256) (q := 1) rfl rfl (z5_41 c i arg1 harg1 arg2 harg2 arg3 harg3 arg6 arg8 arg9 x0 x1 x2) inb_S32x1024_S1x256_9_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_43 (y : S32x1024.Idx) : View.canon (kernelRun0_A.sl.H5_43 (F := Ideal) c i arg1 harg1 arg2 harg2 arg3 harg3 arg6 arg8 arg9 x0 x1 x2) y = if Done5 42 y then dwTerm ((i 0).val = 63) x0 x1 x2 (y 0).val (y 1).val else 0 := by
  unfold kernelRun0_A.sl.H5_43
  refine step5 (dwTerm ((i 0).val = 63) x0 x1 x2) _ (k := 10) (p := 256) (q := 1) (by decide) rfl rfl (z5_42 c i arg1 harg1 arg2 harg2 arg3 harg3 arg6 arg8 arg9 x0 x1 x2) inb_S32x1024_S1x256_10_256 _ ?_ y
  · intro x
    have e := load5 arg6.view (dwTerm ((i 0).val = 63) x0 x1 x2) (kernelRun0_A.sl.H5_42 (F := Ideal) c i arg1 harg1 arg2 harg2 arg3 harg3 arg6 arg8 arg9 x0 x1 x2) (k := 10) (p := 256) (q := 1) rfl rfl (z5_42 c i arg1 harg1 arg2 harg2 arg3 harg3 arg6 arg8 arg9 x0 x1 x2) inb_S32x1024_S1x256_10_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_44 (y : S32x1024.Idx) : View.canon (kernelRun0_A.sl.H5_44 (F := Ideal) c i arg1 harg1 arg2 harg2 arg3 harg3 arg6 arg8 arg9 x0 x1 x2) y = if Done5 43 y then dwTerm ((i 0).val = 63) x0 x1 x2 (y 0).val (y 1).val else 0 := by
  unfold kernelRun0_A.sl.H5_44
  refine step5 (dwTerm ((i 0).val = 63) x0 x1 x2) _ (k := 11) (p := 256) (q := 1) (by decide) rfl rfl (z5_43 c i arg1 harg1 arg2 harg2 arg3 harg3 arg6 arg8 arg9 x0 x1 x2) inb_S32x1024_S1x256_11_256 _ ?_ y
  · intro x
    have e := load5 arg6.view (dwTerm ((i 0).val = 63) x0 x1 x2) (kernelRun0_A.sl.H5_43 (F := Ideal) c i arg1 harg1 arg2 harg2 arg3 harg3 arg6 arg8 arg9 x0 x1 x2) (k := 11) (p := 256) (q := 1) rfl rfl (z5_43 c i arg1 harg1 arg2 harg2 arg3 harg3 arg6 arg8 arg9 x0 x1 x2) inb_S32x1024_S1x256_11_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_45 (y : S32x1024.Idx) : View.canon (kernelRun0_A.sl.H5_45 (F := Ideal) c i arg1 harg1 arg2 harg2 arg3 harg3 arg6 arg8 arg9 x0 x1 x2) y = if Done5 44 y then dwTerm ((i 0).val = 63) x0 x1 x2 (y 0).val (y 1).val else 0 := by
  unfold kernelRun0_A.sl.H5_45
  refine step5 (dwTerm ((i 0).val = 63) x0 x1 x2) _ (k := 12) (p := 256) (q := 1) (by decide) rfl rfl (z5_44 c i arg1 harg1 arg2 harg2 arg3 harg3 arg6 arg8 arg9 x0 x1 x2) inb_S32x1024_S1x256_12_256 _ ?_ y
  · intro x
    have e := load5 arg6.view (dwTerm ((i 0).val = 63) x0 x1 x2) (kernelRun0_A.sl.H5_44 (F := Ideal) c i arg1 harg1 arg2 harg2 arg3 harg3 arg6 arg8 arg9 x0 x1 x2) (k := 12) (p := 256) (q := 1) rfl rfl (z5_44 c i arg1 harg1 arg2 harg2 arg3 harg3 arg6 arg8 arg9 x0 x1 x2) inb_S32x1024_S1x256_12_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_46 (y : S32x1024.Idx) : View.canon (kernelRun0_A.sl.H5_46 (F := Ideal) c i arg1 harg1 arg2 harg2 arg3 harg3 arg6 arg8 arg9 x0 x1 x2) y = if Done5 45 y then dwTerm ((i 0).val = 63) x0 x1 x2 (y 0).val (y 1).val else 0 := by
  unfold kernelRun0_A.sl.H5_46
  refine step5 (dwTerm ((i 0).val = 63) x0 x1 x2) _ (k := 13) (p := 256) (q := 1) (by decide) rfl rfl (z5_45 c i arg1 harg1 arg2 harg2 arg3 harg3 arg6 arg8 arg9 x0 x1 x2) inb_S32x1024_S1x256_13_256 _ ?_ y
  · intro x
    have e := load5 arg6.view (dwTerm ((i 0).val = 63) x0 x1 x2) (kernelRun0_A.sl.H5_45 (F := Ideal) c i arg1 harg1 arg2 harg2 arg3 harg3 arg6 arg8 arg9 x0 x1 x2) (k := 13) (p := 256) (q := 1) rfl rfl (z5_45 c i arg1 harg1 arg2 harg2 arg3 harg3 arg6 arg8 arg9 x0 x1 x2) inb_S32x1024_S1x256_13_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_47 (y : S32x1024.Idx) : View.canon (kernelRun0_A.sl.H5_47 (F := Ideal) c i arg1 harg1 arg2 harg2 arg3 harg3 arg6 arg8 arg9 x0 x1 x2) y = if Done5 46 y then dwTerm ((i 0).val = 63) x0 x1 x2 (y 0).val (y 1).val else 0 := by
  unfold kernelRun0_A.sl.H5_47
  refine step5 (dwTerm ((i 0).val = 63) x0 x1 x2) _ (k := 14) (p := 256) (q := 1) (by decide) rfl rfl (z5_46 c i arg1 harg1 arg2 harg2 arg3 harg3 arg6 arg8 arg9 x0 x1 x2) inb_S32x1024_S1x256_14_256 _ ?_ y
  · intro x
    have e := load5 arg6.view (dwTerm ((i 0).val = 63) x0 x1 x2) (kernelRun0_A.sl.H5_46 (F := Ideal) c i arg1 harg1 arg2 harg2 arg3 harg3 arg6 arg8 arg9 x0 x1 x2) (k := 14) (p := 256) (q := 1) rfl rfl (z5_46 c i arg1 harg1 arg2 harg2 arg3 harg3 arg6 arg8 arg9 x0 x1 x2) inb_S32x1024_S1x256_14_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_48 (y : S32x1024.Idx) : View.canon (kernelRun0_A.sl.H5_48 (F := Ideal) c i arg1 harg1 arg2 harg2 arg3 harg3 arg6 arg8 arg9 x0 x1 x2) y = if Done5 47 y then dwTerm ((i 0).val = 63) x0 x1 x2 (y 0).val (y 1).val else 0 := by
  unfold kernelRun0_A.sl.H5_48
  refine step5 (dwTerm ((i 0).val = 63) x0 x1 x2) _ (k := 15) (p := 256) (q := 1) (by decide) rfl rfl (z5_47 c i arg1 harg1 arg2 harg2 arg3 harg3 arg6 arg8 arg9 x0 x1 x2) inb_S32x1024_S1x256_15_256 _ ?_ y
  · intro x
    have e := load5 arg6.view (dwTerm ((i 0).val = 63) x0 x1 x2) (kernelRun0_A.sl.H5_47 (F := Ideal) c i arg1 harg1 arg2 harg2 arg3 harg3 arg6 arg8 arg9 x0 x1 x2) (k := 15) (p := 256) (q := 1) rfl rfl (z5_47 c i arg1 harg1 arg2 harg2 arg3 harg3 arg6 arg8 arg9 x0 x1 x2) inb_S32x1024_S1x256_15_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_49 (y : S32x1024.Idx) : View.canon (kernelRun0_A.sl.H5_49 (F := Ideal) c i arg1 harg1 arg2 harg2 arg3 harg3 arg6 arg8 arg9 x0 x1 x2) y = if Done5 48 y then dwTerm ((i 0).val = 63) x0 x1 x2 (y 0).val (y 1).val else 0 := by
  unfold kernelRun0_A.sl.H5_49
  refine step5 (dwTerm ((i 0).val = 63) x0 x1 x2) _ (k := 16) (p := 256) (q := 1) (by decide) rfl rfl (z5_48 c i arg1 harg1 arg2 harg2 arg3 harg3 arg6 arg8 arg9 x0 x1 x2) inb_S32x1024_S1x256_16_256 _ ?_ y
  · intro x
    have e := load5 arg6.view (dwTerm ((i 0).val = 63) x0 x1 x2) (kernelRun0_A.sl.H5_48 (F := Ideal) c i arg1 harg1 arg2 harg2 arg3 harg3 arg6 arg8 arg9 x0 x1 x2) (k := 16) (p := 256) (q := 1) rfl rfl (z5_48 c i arg1 harg1 arg2 harg2 arg3 harg3 arg6 arg8 arg9 x0 x1 x2) inb_S32x1024_S1x256_16_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_50 (y : S32x1024.Idx) : View.canon (kernelRun0_A.sl.H5_50 (F := Ideal) c i arg1 harg1 arg2 harg2 arg3 harg3 arg6 arg8 arg9 x0 x1 x2) y = if Done5 49 y then dwTerm ((i 0).val = 63) x0 x1 x2 (y 0).val (y 1).val else 0 := by
  unfold kernelRun0_A.sl.H5_50
  refine step5 (dwTerm ((i 0).val = 63) x0 x1 x2) _ (k := 17) (p := 256) (q := 1) (by decide) rfl rfl (z5_49 c i arg1 harg1 arg2 harg2 arg3 harg3 arg6 arg8 arg9 x0 x1 x2) inb_S32x1024_S1x256_17_256 _ ?_ y
  · intro x
    have e := load5 arg6.view (dwTerm ((i 0).val = 63) x0 x1 x2) (kernelRun0_A.sl.H5_49 (F := Ideal) c i arg1 harg1 arg2 harg2 arg3 harg3 arg6 arg8 arg9 x0 x1 x2) (k := 17) (p := 256) (q := 1) rfl rfl (z5_49 c i arg1 harg1 arg2 harg2 arg3 harg3 arg6 arg8 arg9 x0 x1 x2) inb_S32x1024_S1x256_17_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_51 (y : S32x1024.Idx) : View.canon (kernelRun0_A.sl.H5_51 (F := Ideal) c i arg1 harg1 arg2 harg2 arg3 harg3 arg6 arg8 arg9 x0 x1 x2) y = if Done5 50 y then dwTerm ((i 0).val = 63) x0 x1 x2 (y 0).val (y 1).val else 0 := by
  unfold kernelRun0_A.sl.H5_51
  refine step5 (dwTerm ((i 0).val = 63) x0 x1 x2) _ (k := 18) (p := 256) (q := 1) (by decide) rfl rfl (z5_50 c i arg1 harg1 arg2 harg2 arg3 harg3 arg6 arg8 arg9 x0 x1 x2) inb_S32x1024_S1x256_18_256 _ ?_ y
  · intro x
    have e := load5 arg6.view (dwTerm ((i 0).val = 63) x0 x1 x2) (kernelRun0_A.sl.H5_50 (F := Ideal) c i arg1 harg1 arg2 harg2 arg3 harg3 arg6 arg8 arg9 x0 x1 x2) (k := 18) (p := 256) (q := 1) rfl rfl (z5_50 c i arg1 harg1 arg2 harg2 arg3 harg3 arg6 arg8 arg9 x0 x1 x2) inb_S32x1024_S1x256_18_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_52 (y : S32x1024.Idx) : View.canon (kernelRun0_A.sl.H5_52 (F := Ideal) c i arg1 harg1 arg2 harg2 arg3 harg3 arg6 arg8 arg9 x0 x1 x2) y = if Done5 51 y then dwTerm ((i 0).val = 63) x0 x1 x2 (y 0).val (y 1).val else 0 := by
  unfold kernelRun0_A.sl.H5_52
  refine step5 (dwTerm ((i 0).val = 63) x0 x1 x2) _ (k := 19) (p := 256) (q := 1) (by decide) rfl rfl (z5_51 c i arg1 harg1 arg2 harg2 arg3 harg3 arg6 arg8 arg9 x0 x1 x2) inb_S32x1024_S1x256_19_256 _ ?_ y
  · intro x
    have e := load5 arg6.view (dwTerm ((i 0).val = 63) x0 x1 x2) (kernelRun0_A.sl.H5_51 (F := Ideal) c i arg1 harg1 arg2 harg2 arg3 harg3 arg6 arg8 arg9 x0 x1 x2) (k := 19) (p := 256) (q := 1) rfl rfl (z5_51 c i arg1 harg1 arg2 harg2 arg3 harg3 arg6 arg8 arg9 x0 x1 x2) inb_S32x1024_S1x256_19_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_53 (y : S32x1024.Idx) : View.canon (kernelRun0_A.sl.H5_53 (F := Ideal) c i arg1 harg1 arg2 harg2 arg3 harg3 arg6 arg8 arg9 x0 x1 x2) y = if Done5 52 y then dwTerm ((i 0).val = 63) x0 x1 x2 (y 0).val (y 1).val else 0 := by
  unfold kernelRun0_A.sl.H5_53
  refine step5 (dwTerm ((i 0).val = 63) x0 x1 x2) _ (k := 20) (p := 256) (q := 1) (by decide) rfl rfl (z5_52 c i arg1 harg1 arg2 harg2 arg3 harg3 arg6 arg8 arg9 x0 x1 x2) inb_S32x1024_S1x256_20_256 _ ?_ y
  · intro x
    have e := load5 arg6.view (dwTerm ((i 0).val = 63) x0 x1 x2) (kernelRun0_A.sl.H5_52 (F := Ideal) c i arg1 harg1 arg2 harg2 arg3 harg3 arg6 arg8 arg9 x0 x1 x2) (k := 20) (p := 256) (q := 1) rfl rfl (z5_52 c i arg1 harg1 arg2 harg2 arg3 harg3 arg6 arg8 arg9 x0 x1 x2) inb_S32x1024_S1x256_20_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_54 (y : S32x1024.Idx) : View.canon (kernelRun0_A.sl.H5_54 (F := Ideal) c i arg1 harg1 arg2 harg2 arg3 harg3 arg6 arg8 arg9 x0 x1 x2) y = if Done5 53 y then dwTerm ((i 0).val = 63) x0 x1 x2 (y 0).val (y 1).val else 0 := by
  unfold kernelRun0_A.sl.H5_54
  refine step5 (dwTerm ((i 0).val = 63) x0 x1 x2) _ (k := 21) (p := 256) (q := 1) (by decide) rfl rfl (z5_53 c i arg1 harg1 arg2 harg2 arg3 harg3 arg6 arg8 arg9 x0 x1 x2) inb_S32x1024_S1x256_21_256 _ ?_ y
  · intro x
    have e := load5 arg6.view (dwTerm ((i 0).val = 63) x0 x1 x2) (kernelRun0_A.sl.H5_53 (F := Ideal) c i arg1 harg1 arg2 harg2 arg3 harg3 arg6 arg8 arg9 x0 x1 x2) (k := 21) (p := 256) (q := 1) rfl rfl (z5_53 c i arg1 harg1 arg2 harg2 arg3 harg3 arg6 arg8 arg9 x0 x1 x2) inb_S32x1024_S1x256_21_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_55 (y : S32x1024.Idx) : View.canon (kernelRun0_A.sl.H5_55 (F := Ideal) c i arg1 harg1 arg2 harg2 arg3 harg3 arg6 arg8 arg9 x0 x1 x2) y = if Done5 54 y then dwTerm ((i 0).val = 63) x0 x1 x2 (y 0).val (y 1).val else 0 := by
  unfold kernelRun0_A.sl.H5_55
  refine step5 (dwTerm ((i 0).val = 63) x0 x1 x2) _ (k := 22) (p := 256) (q := 1) (by decide) rfl rfl (z5_54 c i arg1 harg1 arg2 harg2 arg3 harg3 arg6 arg8 arg9 x0 x1 x2) inb_S32x1024_S1x256_22_256 _ ?_ y
  · intro x
    have e := load5 arg6.view (dwTerm ((i 0).val = 63) x0 x1 x2) (kernelRun0_A.sl.H5_54 (F := Ideal) c i arg1 harg1 arg2 harg2 arg3 harg3 arg6 arg8 arg9 x0 x1 x2) (k := 22) (p := 256) (q := 1) rfl rfl (z5_54 c i arg1 harg1 arg2 harg2 arg3 harg3 arg6 arg8 arg9 x0 x1 x2) inb_S32x1024_S1x256_22_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_56 (y : S32x1024.Idx) : View.canon (kernelRun0_A.sl.H5_56 (F := Ideal) c i arg1 harg1 arg2 harg2 arg3 harg3 arg6 arg8 arg9 x0 x1 x2) y = if Done5 55 y then dwTerm ((i 0).val = 63) x0 x1 x2 (y 0).val (y 1).val else 0 := by
  unfold kernelRun0_A.sl.H5_56
  refine step5 (dwTerm ((i 0).val = 63) x0 x1 x2) _ (k := 23) (p := 256) (q := 1) (by decide) rfl rfl (z5_55 c i arg1 harg1 arg2 harg2 arg3 harg3 arg6 arg8 arg9 x0 x1 x2) inb_S32x1024_S1x256_23_256 _ ?_ y
  · intro x
    have e := load5 arg6.view (dwTerm ((i 0).val = 63) x0 x1 x2) (kernelRun0_A.sl.H5_55 (F := Ideal) c i arg1 harg1 arg2 harg2 arg3 harg3 arg6 arg8 arg9 x0 x1 x2) (k := 23) (p := 256) (q := 1) rfl rfl (z5_55 c i arg1 harg1 arg2 harg2 arg3 harg3 arg6 arg8 arg9 x0 x1 x2) inb_S32x1024_S1x256_23_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_57 (y : S32x1024.Idx) : View.canon (kernelRun0_A.sl.H5_57 (F := Ideal) c i arg1 harg1 arg2 harg2 arg3 harg3 arg6 arg8 arg9 x0 x1 x2) y = if Done5 56 y then dwTerm ((i 0).val = 63) x0 x1 x2 (y 0).val (y 1).val else 0 := by
  unfold kernelRun0_A.sl.H5_57
  refine step5 (dwTerm ((i 0).val = 63) x0 x1 x2) _ (k := 24) (p := 256) (q := 1) (by decide) rfl rfl (z5_56 c i arg1 harg1 arg2 harg2 arg3 harg3 arg6 arg8 arg9 x0 x1 x2) inb_S32x1024_S1x256_24_256 _ ?_ y
  · intro x
    have e := load5 arg6.view (dwTerm ((i 0).val = 63) x0 x1 x2) (kernelRun0_A.sl.H5_56 (F := Ideal) c i arg1 harg1 arg2 harg2 arg3 harg3 arg6 arg8 arg9 x0 x1 x2) (k := 24) (p := 256) (q := 1) rfl rfl (z5_56 c i arg1 harg1 arg2 harg2 arg3 harg3 arg6 arg8 arg9 x0 x1 x2) inb_S32x1024_S1x256_24_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_58 (y : S32x1024.Idx) : View.canon (kernelRun0_A.sl.H5_58 (F := Ideal) c i arg1 harg1 arg2 harg2 arg3 harg3 arg6 arg8 arg9 x0 x1 x2) y = if Done5 57 y then dwTerm ((i 0).val = 63) x0 x1 x2 (y 0).val (y 1).val else 0 := by
  unfold kernelRun0_A.sl.H5_58
  refine step5 (dwTerm ((i 0).val = 63) x0 x1 x2) _ (k := 25) (p := 256) (q := 1) (by decide) rfl rfl (z5_57 c i arg1 harg1 arg2 harg2 arg3 harg3 arg6 arg8 arg9 x0 x1 x2) inb_S32x1024_S1x256_25_256 _ ?_ y
  · intro x
    have e := load5 arg6.view (dwTerm ((i 0).val = 63) x0 x1 x2) (kernelRun0_A.sl.H5_57 (F := Ideal) c i arg1 harg1 arg2 harg2 arg3 harg3 arg6 arg8 arg9 x0 x1 x2) (k := 25) (p := 256) (q := 1) rfl rfl (z5_57 c i arg1 harg1 arg2 harg2 arg3 harg3 arg6 arg8 arg9 x0 x1 x2) inb_S32x1024_S1x256_25_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_59 (y : S32x1024.Idx) : View.canon (kernelRun0_A.sl.H5_59 (F := Ideal) c i arg1 harg1 arg2 harg2 arg3 harg3 arg6 arg8 arg9 x0 x1 x2) y = if Done5 58 y then dwTerm ((i 0).val = 63) x0 x1 x2 (y 0).val (y 1).val else 0 := by
  unfold kernelRun0_A.sl.H5_59
  refine step5 (dwTerm ((i 0).val = 63) x0 x1 x2) _ (k := 26) (p := 256) (q := 1) (by decide) rfl rfl (z5_58 c i arg1 harg1 arg2 harg2 arg3 harg3 arg6 arg8 arg9 x0 x1 x2) inb_S32x1024_S1x256_26_256 _ ?_ y
  · intro x
    have e := load5 arg6.view (dwTerm ((i 0).val = 63) x0 x1 x2) (kernelRun0_A.sl.H5_58 (F := Ideal) c i arg1 harg1 arg2 harg2 arg3 harg3 arg6 arg8 arg9 x0 x1 x2) (k := 26) (p := 256) (q := 1) rfl rfl (z5_58 c i arg1 harg1 arg2 harg2 arg3 harg3 arg6 arg8 arg9 x0 x1 x2) inb_S32x1024_S1x256_26_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_60 (y : S32x1024.Idx) : View.canon (kernelRun0_A.sl.H5_60 (F := Ideal) c i arg1 harg1 arg2 harg2 arg3 harg3 arg6 arg8 arg9 x0 x1 x2) y = if Done5 59 y then dwTerm ((i 0).val = 63) x0 x1 x2 (y 0).val (y 1).val else 0 := by
  unfold kernelRun0_A.sl.H5_60
  refine step5 (dwTerm ((i 0).val = 63) x0 x1 x2) _ (k := 27) (p := 256) (q := 1) (by decide) rfl rfl (z5_59 c i arg1 harg1 arg2 harg2 arg3 harg3 arg6 arg8 arg9 x0 x1 x2) inb_S32x1024_S1x256_27_256 _ ?_ y
  · intro x
    have e := load5 arg6.view (dwTerm ((i 0).val = 63) x0 x1 x2) (kernelRun0_A.sl.H5_59 (F := Ideal) c i arg1 harg1 arg2 harg2 arg3 harg3 arg6 arg8 arg9 x0 x1 x2) (k := 27) (p := 256) (q := 1) rfl rfl (z5_59 c i arg1 harg1 arg2 harg2 arg3 harg3 arg6 arg8 arg9 x0 x1 x2) inb_S32x1024_S1x256_27_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_61 (y : S32x1024.Idx) : View.canon (kernelRun0_A.sl.H5_61 (F := Ideal) c i arg1 harg1 arg2 harg2 arg3 harg3 arg6 arg8 arg9 x0 x1 x2) y = if Done5 60 y then dwTerm ((i 0).val = 63) x0 x1 x2 (y 0).val (y 1).val else 0 := by
  unfold kernelRun0_A.sl.H5_61
  refine step5 (dwTerm ((i 0).val = 63) x0 x1 x2) _ (k := 28) (p := 256) (q := 1) (by decide) rfl rfl (z5_60 c i arg1 harg1 arg2 harg2 arg3 harg3 arg6 arg8 arg9 x0 x1 x2) inb_S32x1024_S1x256_28_256 _ ?_ y
  · intro x
    have e := load5 arg6.view (dwTerm ((i 0).val = 63) x0 x1 x2) (kernelRun0_A.sl.H5_60 (F := Ideal) c i arg1 harg1 arg2 harg2 arg3 harg3 arg6 arg8 arg9 x0 x1 x2) (k := 28) (p := 256) (q := 1) rfl rfl (z5_60 c i arg1 harg1 arg2 harg2 arg3 harg3 arg6 arg8 arg9 x0 x1 x2) inb_S32x1024_S1x256_28_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_62 (y : S32x1024.Idx) : View.canon (kernelRun0_A.sl.H5_62 (F := Ideal) c i arg1 harg1 arg2 harg2 arg3 harg3 arg6 arg8 arg9 x0 x1 x2) y = if Done5 61 y then dwTerm ((i 0).val = 63) x0 x1 x2 (y 0).val (y 1).val else 0 := by
  unfold kernelRun0_A.sl.H5_62
  refine step5 (dwTerm ((i 0).val = 63) x0 x1 x2) _ (k := 29) (p := 256) (q := 1) (by decide) rfl rfl (z5_61 c i arg1 harg1 arg2 harg2 arg3 harg3 arg6 arg8 arg9 x0 x1 x2) inb_S32x1024_S1x256_29_256 _ ?_ y
  · intro x
    have e := load5 arg6.view (dwTerm ((i 0).val = 63) x0 x1 x2) (kernelRun0_A.sl.H5_61 (F := Ideal) c i arg1 harg1 arg2 harg2 arg3 harg3 arg6 arg8 arg9 x0 x1 x2) (k := 29) (p := 256) (q := 1) rfl rfl (z5_61 c i arg1 harg1 arg2 harg2 arg3 harg3 arg6 arg8 arg9 x0 x1 x2) inb_S32x1024_S1x256_29_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_63 (y : S32x1024.Idx) : View.canon (kernelRun0_A.sl.H5_63 (F := Ideal) c i arg1 harg1 arg2 harg2 arg3 harg3 arg6 arg8 arg9 x0 x1 x2) y = if Done5 62 y then dwTerm ((i 0).val = 63) x0 x1 x2 (y 0).val (y 1).val else 0 := by
  unfold kernelRun0_A.sl.H5_63
  refine step5 (dwTerm ((i 0).val = 63) x0 x1 x2) _ (k := 30) (p := 256) (q := 1) (by decide) rfl rfl (z5_62 c i arg1 harg1 arg2 harg2 arg3 harg3 arg6 arg8 arg9 x0 x1 x2) inb_S32x1024_S1x256_30_256 _ ?_ y
  · intro x
    have e := load5 arg6.view (dwTerm ((i 0).val = 63) x0 x1 x2) (kernelRun0_A.sl.H5_62 (F := Ideal) c i arg1 harg1 arg2 harg2 arg3 harg3 arg6 arg8 arg9 x0 x1 x2) (k := 30) (p := 256) (q := 1) rfl rfl (z5_62 c i arg1 harg1 arg2 harg2 arg3 harg3 arg6 arg8 arg9 x0 x1 x2) inb_S32x1024_S1x256_30_256
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_64 (y : S32x1024.Idx) : View.canon (kernelRun0_A.sl.H5_64 (F := Ideal) c i arg1 harg1 arg2 harg2 arg3 harg3 arg6 arg8 arg9 x0 x1 x2) y = if Done5 63 y then dwTerm ((i 0).val = 63) x0 x1 x2 (y 0).val (y 1).val else 0 := by
  unfold kernelRun0_A.sl.H5_64
  refine step5 (dwTerm ((i 0).val = 63) x0 x1 x2) _ (k := 0) (p := 512) (q := 2) (by decide) rfl rfl (z5_63 c i arg1 harg1 arg2 harg2 arg3 harg3 arg6 arg8 arg9 x0 x1 x2) inb_S32x1024_S1x256_0_512 _ ?_ y
  · intro x
    have e := load5 arg6.view (dwTerm ((i 0).val = 63) x0 x1 x2) (kernelRun0_A.sl.H5_63 (F := Ideal) c i arg1 harg1 arg2 harg2 arg3 harg3 arg6 arg8 arg9 x0 x1 x2) (k := 0) (p := 512) (q := 2) rfl rfl (z5_63 c i arg1 harg1 arg2 harg2 arg3 harg3 arg6 arg8 arg9 x0 x1 x2) inb_S32x1024_S1x256_0_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_65 (y : S32x1024.Idx) : View.canon (kernelRun0_A.sl.H5_65 (F := Ideal) c i arg1 harg1 arg2 harg2 arg3 harg3 arg6 arg8 arg9 x0 x1 x2) y = if Done5 64 y then dwTerm ((i 0).val = 63) x0 x1 x2 (y 0).val (y 1).val else 0 := by
  unfold kernelRun0_A.sl.H5_65
  refine step5 (dwTerm ((i 0).val = 63) x0 x1 x2) _ (k := 1) (p := 512) (q := 2) (by decide) rfl rfl (z5_64 c i arg1 harg1 arg2 harg2 arg3 harg3 arg6 arg8 arg9 x0 x1 x2) inb_S32x1024_S1x256_1_512 _ ?_ y
  · intro x
    have e := load5 arg6.view (dwTerm ((i 0).val = 63) x0 x1 x2) (kernelRun0_A.sl.H5_64 (F := Ideal) c i arg1 harg1 arg2 harg2 arg3 harg3 arg6 arg8 arg9 x0 x1 x2) (k := 1) (p := 512) (q := 2) rfl rfl (z5_64 c i arg1 harg1 arg2 harg2 arg3 harg3 arg6 arg8 arg9 x0 x1 x2) inb_S32x1024_S1x256_1_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_66 (y : S32x1024.Idx) : View.canon (kernelRun0_A.sl.H5_66 (F := Ideal) c i arg1 harg1 arg2 harg2 arg3 harg3 arg6 arg8 arg9 x0 x1 x2) y = if Done5 65 y then dwTerm ((i 0).val = 63) x0 x1 x2 (y 0).val (y 1).val else 0 := by
  unfold kernelRun0_A.sl.H5_66
  refine step5 (dwTerm ((i 0).val = 63) x0 x1 x2) _ (k := 2) (p := 512) (q := 2) (by decide) rfl rfl (z5_65 c i arg1 harg1 arg2 harg2 arg3 harg3 arg6 arg8 arg9 x0 x1 x2) inb_S32x1024_S1x256_2_512 _ ?_ y
  · intro x
    have e := load5 arg6.view (dwTerm ((i 0).val = 63) x0 x1 x2) (kernelRun0_A.sl.H5_65 (F := Ideal) c i arg1 harg1 arg2 harg2 arg3 harg3 arg6 arg8 arg9 x0 x1 x2) (k := 2) (p := 512) (q := 2) rfl rfl (z5_65 c i arg1 harg1 arg2 harg2 arg3 harg3 arg6 arg8 arg9 x0 x1 x2) inb_S32x1024_S1x256_2_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_67 (y : S32x1024.Idx) : View.canon (kernelRun0_A.sl.H5_67 (F := Ideal) c i arg1 harg1 arg2 harg2 arg3 harg3 arg6 arg8 arg9 x0 x1 x2) y = if Done5 66 y then dwTerm ((i 0).val = 63) x0 x1 x2 (y 0).val (y 1).val else 0 := by
  unfold kernelRun0_A.sl.H5_67
  refine step5 (dwTerm ((i 0).val = 63) x0 x1 x2) _ (k := 3) (p := 512) (q := 2) (by decide) rfl rfl (z5_66 c i arg1 harg1 arg2 harg2 arg3 harg3 arg6 arg8 arg9 x0 x1 x2) inb_S32x1024_S1x256_3_512 _ ?_ y
  · intro x
    have e := load5 arg6.view (dwTerm ((i 0).val = 63) x0 x1 x2) (kernelRun0_A.sl.H5_66 (F := Ideal) c i arg1 harg1 arg2 harg2 arg3 harg3 arg6 arg8 arg9 x0 x1 x2) (k := 3) (p := 512) (q := 2) rfl rfl (z5_66 c i arg1 harg1 arg2 harg2 arg3 harg3 arg6 arg8 arg9 x0 x1 x2) inb_S32x1024_S1x256_3_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_68 (y : S32x1024.Idx) : View.canon (kernelRun0_A.sl.H5_68 (F := Ideal) c i arg1 harg1 arg2 harg2 arg3 harg3 arg6 arg8 arg9 x0 x1 x2) y = if Done5 67 y then dwTerm ((i 0).val = 63) x0 x1 x2 (y 0).val (y 1).val else 0 := by
  unfold kernelRun0_A.sl.H5_68
  refine step5 (dwTerm ((i 0).val = 63) x0 x1 x2) _ (k := 4) (p := 512) (q := 2) (by decide) rfl rfl (z5_67 c i arg1 harg1 arg2 harg2 arg3 harg3 arg6 arg8 arg9 x0 x1 x2) inb_S32x1024_S1x256_4_512 _ ?_ y
  · intro x
    have e := load5 arg6.view (dwTerm ((i 0).val = 63) x0 x1 x2) (kernelRun0_A.sl.H5_67 (F := Ideal) c i arg1 harg1 arg2 harg2 arg3 harg3 arg6 arg8 arg9 x0 x1 x2) (k := 4) (p := 512) (q := 2) rfl rfl (z5_67 c i arg1 harg1 arg2 harg2 arg3 harg3 arg6 arg8 arg9 x0 x1 x2) inb_S32x1024_S1x256_4_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_69 (y : S32x1024.Idx) : View.canon (kernelRun0_A.sl.H5_69 (F := Ideal) c i arg1 harg1 arg2 harg2 arg3 harg3 arg6 arg8 arg9 x0 x1 x2) y = if Done5 68 y then dwTerm ((i 0).val = 63) x0 x1 x2 (y 0).val (y 1).val else 0 := by
  unfold kernelRun0_A.sl.H5_69
  refine step5 (dwTerm ((i 0).val = 63) x0 x1 x2) _ (k := 5) (p := 512) (q := 2) (by decide) rfl rfl (z5_68 c i arg1 harg1 arg2 harg2 arg3 harg3 arg6 arg8 arg9 x0 x1 x2) inb_S32x1024_S1x256_5_512 _ ?_ y
  · intro x
    have e := load5 arg6.view (dwTerm ((i 0).val = 63) x0 x1 x2) (kernelRun0_A.sl.H5_68 (F := Ideal) c i arg1 harg1 arg2 harg2 arg3 harg3 arg6 arg8 arg9 x0 x1 x2) (k := 5) (p := 512) (q := 2) rfl rfl (z5_68 c i arg1 harg1 arg2 harg2 arg3 harg3 arg6 arg8 arg9 x0 x1 x2) inb_S32x1024_S1x256_5_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_70 (y : S32x1024.Idx) : View.canon (kernelRun0_A.sl.H5_70 (F := Ideal) c i arg1 harg1 arg2 harg2 arg3 harg3 arg6 arg8 arg9 x0 x1 x2) y = if Done5 69 y then dwTerm ((i 0).val = 63) x0 x1 x2 (y 0).val (y 1).val else 0 := by
  unfold kernelRun0_A.sl.H5_70
  refine step5 (dwTerm ((i 0).val = 63) x0 x1 x2) _ (k := 6) (p := 512) (q := 2) (by decide) rfl rfl (z5_69 c i arg1 harg1 arg2 harg2 arg3 harg3 arg6 arg8 arg9 x0 x1 x2) inb_S32x1024_S1x256_6_512 _ ?_ y
  · intro x
    have e := load5 arg6.view (dwTerm ((i 0).val = 63) x0 x1 x2) (kernelRun0_A.sl.H5_69 (F := Ideal) c i arg1 harg1 arg2 harg2 arg3 harg3 arg6 arg8 arg9 x0 x1 x2) (k := 6) (p := 512) (q := 2) rfl rfl (z5_69 c i arg1 harg1 arg2 harg2 arg3 harg3 arg6 arg8 arg9 x0 x1 x2) inb_S32x1024_S1x256_6_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_71 (y : S32x1024.Idx) : View.canon (kernelRun0_A.sl.H5_71 (F := Ideal) c i arg1 harg1 arg2 harg2 arg3 harg3 arg6 arg8 arg9 x0 x1 x2) y = if Done5 70 y then dwTerm ((i 0).val = 63) x0 x1 x2 (y 0).val (y 1).val else 0 := by
  unfold kernelRun0_A.sl.H5_71
  refine step5 (dwTerm ((i 0).val = 63) x0 x1 x2) _ (k := 7) (p := 512) (q := 2) (by decide) rfl rfl (z5_70 c i arg1 harg1 arg2 harg2 arg3 harg3 arg6 arg8 arg9 x0 x1 x2) inb_S32x1024_S1x256_7_512 _ ?_ y
  · intro x
    have e := load5 arg6.view (dwTerm ((i 0).val = 63) x0 x1 x2) (kernelRun0_A.sl.H5_70 (F := Ideal) c i arg1 harg1 arg2 harg2 arg3 harg3 arg6 arg8 arg9 x0 x1 x2) (k := 7) (p := 512) (q := 2) rfl rfl (z5_70 c i arg1 harg1 arg2 harg2 arg3 harg3 arg6 arg8 arg9 x0 x1 x2) inb_S32x1024_S1x256_7_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_72 (y : S32x1024.Idx) : View.canon (kernelRun0_A.sl.H5_72 (F := Ideal) c i arg1 harg1 arg2 harg2 arg3 harg3 arg6 arg8 arg9 x0 x1 x2) y = if Done5 71 y then dwTerm ((i 0).val = 63) x0 x1 x2 (y 0).val (y 1).val else 0 := by
  unfold kernelRun0_A.sl.H5_72
  refine step5 (dwTerm ((i 0).val = 63) x0 x1 x2) _ (k := 8) (p := 512) (q := 2) (by decide) rfl rfl (z5_71 c i arg1 harg1 arg2 harg2 arg3 harg3 arg6 arg8 arg9 x0 x1 x2) inb_S32x1024_S1x256_8_512 _ ?_ y
  · intro x
    have e := load5 arg6.view (dwTerm ((i 0).val = 63) x0 x1 x2) (kernelRun0_A.sl.H5_71 (F := Ideal) c i arg1 harg1 arg2 harg2 arg3 harg3 arg6 arg8 arg9 x0 x1 x2) (k := 8) (p := 512) (q := 2) rfl rfl (z5_71 c i arg1 harg1 arg2 harg2 arg3 harg3 arg6 arg8 arg9 x0 x1 x2) inb_S32x1024_S1x256_8_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_73 (y : S32x1024.Idx) : View.canon (kernelRun0_A.sl.H5_73 (F := Ideal) c i arg1 harg1 arg2 harg2 arg3 harg3 arg6 arg8 arg9 x0 x1 x2) y = if Done5 72 y then dwTerm ((i 0).val = 63) x0 x1 x2 (y 0).val (y 1).val else 0 := by
  unfold kernelRun0_A.sl.H5_73
  refine step5 (dwTerm ((i 0).val = 63) x0 x1 x2) _ (k := 9) (p := 512) (q := 2) (by decide) rfl rfl (z5_72 c i arg1 harg1 arg2 harg2 arg3 harg3 arg6 arg8 arg9 x0 x1 x2) inb_S32x1024_S1x256_9_512 _ ?_ y
  · intro x
    have e := load5 arg6.view (dwTerm ((i 0).val = 63) x0 x1 x2) (kernelRun0_A.sl.H5_72 (F := Ideal) c i arg1 harg1 arg2 harg2 arg3 harg3 arg6 arg8 arg9 x0 x1 x2) (k := 9) (p := 512) (q := 2) rfl rfl (z5_72 c i arg1 harg1 arg2 harg2 arg3 harg3 arg6 arg8 arg9 x0 x1 x2) inb_S32x1024_S1x256_9_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_74 (y : S32x1024.Idx) : View.canon (kernelRun0_A.sl.H5_74 (F := Ideal) c i arg1 harg1 arg2 harg2 arg3 harg3 arg6 arg8 arg9 x0 x1 x2) y = if Done5 73 y then dwTerm ((i 0).val = 63) x0 x1 x2 (y 0).val (y 1).val else 0 := by
  unfold kernelRun0_A.sl.H5_74
  refine step5 (dwTerm ((i 0).val = 63) x0 x1 x2) _ (k := 10) (p := 512) (q := 2) (by decide) rfl rfl (z5_73 c i arg1 harg1 arg2 harg2 arg3 harg3 arg6 arg8 arg9 x0 x1 x2) inb_S32x1024_S1x256_10_512 _ ?_ y
  · intro x
    have e := load5 arg6.view (dwTerm ((i 0).val = 63) x0 x1 x2) (kernelRun0_A.sl.H5_73 (F := Ideal) c i arg1 harg1 arg2 harg2 arg3 harg3 arg6 arg8 arg9 x0 x1 x2) (k := 10) (p := 512) (q := 2) rfl rfl (z5_73 c i arg1 harg1 arg2 harg2 arg3 harg3 arg6 arg8 arg9 x0 x1 x2) inb_S32x1024_S1x256_10_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_75 (y : S32x1024.Idx) : View.canon (kernelRun0_A.sl.H5_75 (F := Ideal) c i arg1 harg1 arg2 harg2 arg3 harg3 arg6 arg8 arg9 x0 x1 x2) y = if Done5 74 y then dwTerm ((i 0).val = 63) x0 x1 x2 (y 0).val (y 1).val else 0 := by
  unfold kernelRun0_A.sl.H5_75
  refine step5 (dwTerm ((i 0).val = 63) x0 x1 x2) _ (k := 11) (p := 512) (q := 2) (by decide) rfl rfl (z5_74 c i arg1 harg1 arg2 harg2 arg3 harg3 arg6 arg8 arg9 x0 x1 x2) inb_S32x1024_S1x256_11_512 _ ?_ y
  · intro x
    have e := load5 arg6.view (dwTerm ((i 0).val = 63) x0 x1 x2) (kernelRun0_A.sl.H5_74 (F := Ideal) c i arg1 harg1 arg2 harg2 arg3 harg3 arg6 arg8 arg9 x0 x1 x2) (k := 11) (p := 512) (q := 2) rfl rfl (z5_74 c i arg1 harg1 arg2 harg2 arg3 harg3 arg6 arg8 arg9 x0 x1 x2) inb_S32x1024_S1x256_11_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_76 (y : S32x1024.Idx) : View.canon (kernelRun0_A.sl.H5_76 (F := Ideal) c i arg1 harg1 arg2 harg2 arg3 harg3 arg6 arg8 arg9 x0 x1 x2) y = if Done5 75 y then dwTerm ((i 0).val = 63) x0 x1 x2 (y 0).val (y 1).val else 0 := by
  unfold kernelRun0_A.sl.H5_76
  refine step5 (dwTerm ((i 0).val = 63) x0 x1 x2) _ (k := 12) (p := 512) (q := 2) (by decide) rfl rfl (z5_75 c i arg1 harg1 arg2 harg2 arg3 harg3 arg6 arg8 arg9 x0 x1 x2) inb_S32x1024_S1x256_12_512 _ ?_ y
  · intro x
    have e := load5 arg6.view (dwTerm ((i 0).val = 63) x0 x1 x2) (kernelRun0_A.sl.H5_75 (F := Ideal) c i arg1 harg1 arg2 harg2 arg3 harg3 arg6 arg8 arg9 x0 x1 x2) (k := 12) (p := 512) (q := 2) rfl rfl (z5_75 c i arg1 harg1 arg2 harg2 arg3 harg3 arg6 arg8 arg9 x0 x1 x2) inb_S32x1024_S1x256_12_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_77 (y : S32x1024.Idx) : View.canon (kernelRun0_A.sl.H5_77 (F := Ideal) c i arg1 harg1 arg2 harg2 arg3 harg3 arg6 arg8 arg9 x0 x1 x2) y = if Done5 76 y then dwTerm ((i 0).val = 63) x0 x1 x2 (y 0).val (y 1).val else 0 := by
  unfold kernelRun0_A.sl.H5_77
  refine step5 (dwTerm ((i 0).val = 63) x0 x1 x2) _ (k := 13) (p := 512) (q := 2) (by decide) rfl rfl (z5_76 c i arg1 harg1 arg2 harg2 arg3 harg3 arg6 arg8 arg9 x0 x1 x2) inb_S32x1024_S1x256_13_512 _ ?_ y
  · intro x
    have e := load5 arg6.view (dwTerm ((i 0).val = 63) x0 x1 x2) (kernelRun0_A.sl.H5_76 (F := Ideal) c i arg1 harg1 arg2 harg2 arg3 harg3 arg6 arg8 arg9 x0 x1 x2) (k := 13) (p := 512) (q := 2) rfl rfl (z5_76 c i arg1 harg1 arg2 harg2 arg3 harg3 arg6 arg8 arg9 x0 x1 x2) inb_S32x1024_S1x256_13_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_78 (y : S32x1024.Idx) : View.canon (kernelRun0_A.sl.H5_78 (F := Ideal) c i arg1 harg1 arg2 harg2 arg3 harg3 arg6 arg8 arg9 x0 x1 x2) y = if Done5 77 y then dwTerm ((i 0).val = 63) x0 x1 x2 (y 0).val (y 1).val else 0 := by
  unfold kernelRun0_A.sl.H5_78
  refine step5 (dwTerm ((i 0).val = 63) x0 x1 x2) _ (k := 14) (p := 512) (q := 2) (by decide) rfl rfl (z5_77 c i arg1 harg1 arg2 harg2 arg3 harg3 arg6 arg8 arg9 x0 x1 x2) inb_S32x1024_S1x256_14_512 _ ?_ y
  · intro x
    have e := load5 arg6.view (dwTerm ((i 0).val = 63) x0 x1 x2) (kernelRun0_A.sl.H5_77 (F := Ideal) c i arg1 harg1 arg2 harg2 arg3 harg3 arg6 arg8 arg9 x0 x1 x2) (k := 14) (p := 512) (q := 2) rfl rfl (z5_77 c i arg1 harg1 arg2 harg2 arg3 harg3 arg6 arg8 arg9 x0 x1 x2) inb_S32x1024_S1x256_14_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_79 (y : S32x1024.Idx) : View.canon (kernelRun0_A.sl.H5_79 (F := Ideal) c i arg1 harg1 arg2 harg2 arg3 harg3 arg6 arg8 arg9 x0 x1 x2) y = if Done5 78 y then dwTerm ((i 0).val = 63) x0 x1 x2 (y 0).val (y 1).val else 0 := by
  unfold kernelRun0_A.sl.H5_79
  refine step5 (dwTerm ((i 0).val = 63) x0 x1 x2) _ (k := 15) (p := 512) (q := 2) (by decide) rfl rfl (z5_78 c i arg1 harg1 arg2 harg2 arg3 harg3 arg6 arg8 arg9 x0 x1 x2) inb_S32x1024_S1x256_15_512 _ ?_ y
  · intro x
    have e := load5 arg6.view (dwTerm ((i 0).val = 63) x0 x1 x2) (kernelRun0_A.sl.H5_78 (F := Ideal) c i arg1 harg1 arg2 harg2 arg3 harg3 arg6 arg8 arg9 x0 x1 x2) (k := 15) (p := 512) (q := 2) rfl rfl (z5_78 c i arg1 harg1 arg2 harg2 arg3 harg3 arg6 arg8 arg9 x0 x1 x2) inb_S32x1024_S1x256_15_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_80 (y : S32x1024.Idx) : View.canon (kernelRun0_A.sl.H5_80 (F := Ideal) c i arg1 harg1 arg2 harg2 arg3 harg3 arg6 arg8 arg9 x0 x1 x2) y = if Done5 79 y then dwTerm ((i 0).val = 63) x0 x1 x2 (y 0).val (y 1).val else 0 := by
  unfold kernelRun0_A.sl.H5_80
  refine step5 (dwTerm ((i 0).val = 63) x0 x1 x2) _ (k := 16) (p := 512) (q := 2) (by decide) rfl rfl (z5_79 c i arg1 harg1 arg2 harg2 arg3 harg3 arg6 arg8 arg9 x0 x1 x2) inb_S32x1024_S1x256_16_512 _ ?_ y
  · intro x
    have e := load5 arg6.view (dwTerm ((i 0).val = 63) x0 x1 x2) (kernelRun0_A.sl.H5_79 (F := Ideal) c i arg1 harg1 arg2 harg2 arg3 harg3 arg6 arg8 arg9 x0 x1 x2) (k := 16) (p := 512) (q := 2) rfl rfl (z5_79 c i arg1 harg1 arg2 harg2 arg3 harg3 arg6 arg8 arg9 x0 x1 x2) inb_S32x1024_S1x256_16_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_81 (y : S32x1024.Idx) : View.canon (kernelRun0_A.sl.H5_81 (F := Ideal) c i arg1 harg1 arg2 harg2 arg3 harg3 arg6 arg8 arg9 x0 x1 x2) y = if Done5 80 y then dwTerm ((i 0).val = 63) x0 x1 x2 (y 0).val (y 1).val else 0 := by
  unfold kernelRun0_A.sl.H5_81
  refine step5 (dwTerm ((i 0).val = 63) x0 x1 x2) _ (k := 17) (p := 512) (q := 2) (by decide) rfl rfl (z5_80 c i arg1 harg1 arg2 harg2 arg3 harg3 arg6 arg8 arg9 x0 x1 x2) inb_S32x1024_S1x256_17_512 _ ?_ y
  · intro x
    have e := load5 arg6.view (dwTerm ((i 0).val = 63) x0 x1 x2) (kernelRun0_A.sl.H5_80 (F := Ideal) c i arg1 harg1 arg2 harg2 arg3 harg3 arg6 arg8 arg9 x0 x1 x2) (k := 17) (p := 512) (q := 2) rfl rfl (z5_80 c i arg1 harg1 arg2 harg2 arg3 harg3 arg6 arg8 arg9 x0 x1 x2) inb_S32x1024_S1x256_17_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_82 (y : S32x1024.Idx) : View.canon (kernelRun0_A.sl.H5_82 (F := Ideal) c i arg1 harg1 arg2 harg2 arg3 harg3 arg6 arg8 arg9 x0 x1 x2) y = if Done5 81 y then dwTerm ((i 0).val = 63) x0 x1 x2 (y 0).val (y 1).val else 0 := by
  unfold kernelRun0_A.sl.H5_82
  refine step5 (dwTerm ((i 0).val = 63) x0 x1 x2) _ (k := 18) (p := 512) (q := 2) (by decide) rfl rfl (z5_81 c i arg1 harg1 arg2 harg2 arg3 harg3 arg6 arg8 arg9 x0 x1 x2) inb_S32x1024_S1x256_18_512 _ ?_ y
  · intro x
    have e := load5 arg6.view (dwTerm ((i 0).val = 63) x0 x1 x2) (kernelRun0_A.sl.H5_81 (F := Ideal) c i arg1 harg1 arg2 harg2 arg3 harg3 arg6 arg8 arg9 x0 x1 x2) (k := 18) (p := 512) (q := 2) rfl rfl (z5_81 c i arg1 harg1 arg2 harg2 arg3 harg3 arg6 arg8 arg9 x0 x1 x2) inb_S32x1024_S1x256_18_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_83 (y : S32x1024.Idx) : View.canon (kernelRun0_A.sl.H5_83 (F := Ideal) c i arg1 harg1 arg2 harg2 arg3 harg3 arg6 arg8 arg9 x0 x1 x2) y = if Done5 82 y then dwTerm ((i 0).val = 63) x0 x1 x2 (y 0).val (y 1).val else 0 := by
  unfold kernelRun0_A.sl.H5_83
  refine step5 (dwTerm ((i 0).val = 63) x0 x1 x2) _ (k := 19) (p := 512) (q := 2) (by decide) rfl rfl (z5_82 c i arg1 harg1 arg2 harg2 arg3 harg3 arg6 arg8 arg9 x0 x1 x2) inb_S32x1024_S1x256_19_512 _ ?_ y
  · intro x
    have e := load5 arg6.view (dwTerm ((i 0).val = 63) x0 x1 x2) (kernelRun0_A.sl.H5_82 (F := Ideal) c i arg1 harg1 arg2 harg2 arg3 harg3 arg6 arg8 arg9 x0 x1 x2) (k := 19) (p := 512) (q := 2) rfl rfl (z5_82 c i arg1 harg1 arg2 harg2 arg3 harg3 arg6 arg8 arg9 x0 x1 x2) inb_S32x1024_S1x256_19_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_84 (y : S32x1024.Idx) : View.canon (kernelRun0_A.sl.H5_84 (F := Ideal) c i arg1 harg1 arg2 harg2 arg3 harg3 arg6 arg8 arg9 x0 x1 x2) y = if Done5 83 y then dwTerm ((i 0).val = 63) x0 x1 x2 (y 0).val (y 1).val else 0 := by
  unfold kernelRun0_A.sl.H5_84
  refine step5 (dwTerm ((i 0).val = 63) x0 x1 x2) _ (k := 20) (p := 512) (q := 2) (by decide) rfl rfl (z5_83 c i arg1 harg1 arg2 harg2 arg3 harg3 arg6 arg8 arg9 x0 x1 x2) inb_S32x1024_S1x256_20_512 _ ?_ y
  · intro x
    have e := load5 arg6.view (dwTerm ((i 0).val = 63) x0 x1 x2) (kernelRun0_A.sl.H5_83 (F := Ideal) c i arg1 harg1 arg2 harg2 arg3 harg3 arg6 arg8 arg9 x0 x1 x2) (k := 20) (p := 512) (q := 2) rfl rfl (z5_83 c i arg1 harg1 arg2 harg2 arg3 harg3 arg6 arg8 arg9 x0 x1 x2) inb_S32x1024_S1x256_20_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_85 (y : S32x1024.Idx) : View.canon (kernelRun0_A.sl.H5_85 (F := Ideal) c i arg1 harg1 arg2 harg2 arg3 harg3 arg6 arg8 arg9 x0 x1 x2) y = if Done5 84 y then dwTerm ((i 0).val = 63) x0 x1 x2 (y 0).val (y 1).val else 0 := by
  unfold kernelRun0_A.sl.H5_85
  refine step5 (dwTerm ((i 0).val = 63) x0 x1 x2) _ (k := 21) (p := 512) (q := 2) (by decide) rfl rfl (z5_84 c i arg1 harg1 arg2 harg2 arg3 harg3 arg6 arg8 arg9 x0 x1 x2) inb_S32x1024_S1x256_21_512 _ ?_ y
  · intro x
    have e := load5 arg6.view (dwTerm ((i 0).val = 63) x0 x1 x2) (kernelRun0_A.sl.H5_84 (F := Ideal) c i arg1 harg1 arg2 harg2 arg3 harg3 arg6 arg8 arg9 x0 x1 x2) (k := 21) (p := 512) (q := 2) rfl rfl (z5_84 c i arg1 harg1 arg2 harg2 arg3 harg3 arg6 arg8 arg9 x0 x1 x2) inb_S32x1024_S1x256_21_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_86 (y : S32x1024.Idx) : View.canon (kernelRun0_A.sl.H5_86 (F := Ideal) c i arg1 harg1 arg2 harg2 arg3 harg3 arg6 arg8 arg9 x0 x1 x2) y = if Done5 85 y then dwTerm ((i 0).val = 63) x0 x1 x2 (y 0).val (y 1).val else 0 := by
  unfold kernelRun0_A.sl.H5_86
  refine step5 (dwTerm ((i 0).val = 63) x0 x1 x2) _ (k := 22) (p := 512) (q := 2) (by decide) rfl rfl (z5_85 c i arg1 harg1 arg2 harg2 arg3 harg3 arg6 arg8 arg9 x0 x1 x2) inb_S32x1024_S1x256_22_512 _ ?_ y
  · intro x
    have e := load5 arg6.view (dwTerm ((i 0).val = 63) x0 x1 x2) (kernelRun0_A.sl.H5_85 (F := Ideal) c i arg1 harg1 arg2 harg2 arg3 harg3 arg6 arg8 arg9 x0 x1 x2) (k := 22) (p := 512) (q := 2) rfl rfl (z5_85 c i arg1 harg1 arg2 harg2 arg3 harg3 arg6 arg8 arg9 x0 x1 x2) inb_S32x1024_S1x256_22_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_87 (y : S32x1024.Idx) : View.canon (kernelRun0_A.sl.H5_87 (F := Ideal) c i arg1 harg1 arg2 harg2 arg3 harg3 arg6 arg8 arg9 x0 x1 x2) y = if Done5 86 y then dwTerm ((i 0).val = 63) x0 x1 x2 (y 0).val (y 1).val else 0 := by
  unfold kernelRun0_A.sl.H5_87
  refine step5 (dwTerm ((i 0).val = 63) x0 x1 x2) _ (k := 23) (p := 512) (q := 2) (by decide) rfl rfl (z5_86 c i arg1 harg1 arg2 harg2 arg3 harg3 arg6 arg8 arg9 x0 x1 x2) inb_S32x1024_S1x256_23_512 _ ?_ y
  · intro x
    have e := load5 arg6.view (dwTerm ((i 0).val = 63) x0 x1 x2) (kernelRun0_A.sl.H5_86 (F := Ideal) c i arg1 harg1 arg2 harg2 arg3 harg3 arg6 arg8 arg9 x0 x1 x2) (k := 23) (p := 512) (q := 2) rfl rfl (z5_86 c i arg1 harg1 arg2 harg2 arg3 harg3 arg6 arg8 arg9 x0 x1 x2) inb_S32x1024_S1x256_23_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_88 (y : S32x1024.Idx) : View.canon (kernelRun0_A.sl.H5_88 (F := Ideal) c i arg1 harg1 arg2 harg2 arg3 harg3 arg6 arg8 arg9 x0 x1 x2) y = if Done5 87 y then dwTerm ((i 0).val = 63) x0 x1 x2 (y 0).val (y 1).val else 0 := by
  unfold kernelRun0_A.sl.H5_88
  refine step5 (dwTerm ((i 0).val = 63) x0 x1 x2) _ (k := 24) (p := 512) (q := 2) (by decide) rfl rfl (z5_87 c i arg1 harg1 arg2 harg2 arg3 harg3 arg6 arg8 arg9 x0 x1 x2) inb_S32x1024_S1x256_24_512 _ ?_ y
  · intro x
    have e := load5 arg6.view (dwTerm ((i 0).val = 63) x0 x1 x2) (kernelRun0_A.sl.H5_87 (F := Ideal) c i arg1 harg1 arg2 harg2 arg3 harg3 arg6 arg8 arg9 x0 x1 x2) (k := 24) (p := 512) (q := 2) rfl rfl (z5_87 c i arg1 harg1 arg2 harg2 arg3 harg3 arg6 arg8 arg9 x0 x1 x2) inb_S32x1024_S1x256_24_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_89 (y : S32x1024.Idx) : View.canon (kernelRun0_A.sl.H5_89 (F := Ideal) c i arg1 harg1 arg2 harg2 arg3 harg3 arg6 arg8 arg9 x0 x1 x2) y = if Done5 88 y then dwTerm ((i 0).val = 63) x0 x1 x2 (y 0).val (y 1).val else 0 := by
  unfold kernelRun0_A.sl.H5_89
  refine step5 (dwTerm ((i 0).val = 63) x0 x1 x2) _ (k := 25) (p := 512) (q := 2) (by decide) rfl rfl (z5_88 c i arg1 harg1 arg2 harg2 arg3 harg3 arg6 arg8 arg9 x0 x1 x2) inb_S32x1024_S1x256_25_512 _ ?_ y
  · intro x
    have e := load5 arg6.view (dwTerm ((i 0).val = 63) x0 x1 x2) (kernelRun0_A.sl.H5_88 (F := Ideal) c i arg1 harg1 arg2 harg2 arg3 harg3 arg6 arg8 arg9 x0 x1 x2) (k := 25) (p := 512) (q := 2) rfl rfl (z5_88 c i arg1 harg1 arg2 harg2 arg3 harg3 arg6 arg8 arg9 x0 x1 x2) inb_S32x1024_S1x256_25_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_90 (y : S32x1024.Idx) : View.canon (kernelRun0_A.sl.H5_90 (F := Ideal) c i arg1 harg1 arg2 harg2 arg3 harg3 arg6 arg8 arg9 x0 x1 x2) y = if Done5 89 y then dwTerm ((i 0).val = 63) x0 x1 x2 (y 0).val (y 1).val else 0 := by
  unfold kernelRun0_A.sl.H5_90
  refine step5 (dwTerm ((i 0).val = 63) x0 x1 x2) _ (k := 26) (p := 512) (q := 2) (by decide) rfl rfl (z5_89 c i arg1 harg1 arg2 harg2 arg3 harg3 arg6 arg8 arg9 x0 x1 x2) inb_S32x1024_S1x256_26_512 _ ?_ y
  · intro x
    have e := load5 arg6.view (dwTerm ((i 0).val = 63) x0 x1 x2) (kernelRun0_A.sl.H5_89 (F := Ideal) c i arg1 harg1 arg2 harg2 arg3 harg3 arg6 arg8 arg9 x0 x1 x2) (k := 26) (p := 512) (q := 2) rfl rfl (z5_89 c i arg1 harg1 arg2 harg2 arg3 harg3 arg6 arg8 arg9 x0 x1 x2) inb_S32x1024_S1x256_26_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_91 (y : S32x1024.Idx) : View.canon (kernelRun0_A.sl.H5_91 (F := Ideal) c i arg1 harg1 arg2 harg2 arg3 harg3 arg6 arg8 arg9 x0 x1 x2) y = if Done5 90 y then dwTerm ((i 0).val = 63) x0 x1 x2 (y 0).val (y 1).val else 0 := by
  unfold kernelRun0_A.sl.H5_91
  refine step5 (dwTerm ((i 0).val = 63) x0 x1 x2) _ (k := 27) (p := 512) (q := 2) (by decide) rfl rfl (z5_90 c i arg1 harg1 arg2 harg2 arg3 harg3 arg6 arg8 arg9 x0 x1 x2) inb_S32x1024_S1x256_27_512 _ ?_ y
  · intro x
    have e := load5 arg6.view (dwTerm ((i 0).val = 63) x0 x1 x2) (kernelRun0_A.sl.H5_90 (F := Ideal) c i arg1 harg1 arg2 harg2 arg3 harg3 arg6 arg8 arg9 x0 x1 x2) (k := 27) (p := 512) (q := 2) rfl rfl (z5_90 c i arg1 harg1 arg2 harg2 arg3 harg3 arg6 arg8 arg9 x0 x1 x2) inb_S32x1024_S1x256_27_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_92 (y : S32x1024.Idx) : View.canon (kernelRun0_A.sl.H5_92 (F := Ideal) c i arg1 harg1 arg2 harg2 arg3 harg3 arg6 arg8 arg9 x0 x1 x2) y = if Done5 91 y then dwTerm ((i 0).val = 63) x0 x1 x2 (y 0).val (y 1).val else 0 := by
  unfold kernelRun0_A.sl.H5_92
  refine step5 (dwTerm ((i 0).val = 63) x0 x1 x2) _ (k := 28) (p := 512) (q := 2) (by decide) rfl rfl (z5_91 c i arg1 harg1 arg2 harg2 arg3 harg3 arg6 arg8 arg9 x0 x1 x2) inb_S32x1024_S1x256_28_512 _ ?_ y
  · intro x
    have e := load5 arg6.view (dwTerm ((i 0).val = 63) x0 x1 x2) (kernelRun0_A.sl.H5_91 (F := Ideal) c i arg1 harg1 arg2 harg2 arg3 harg3 arg6 arg8 arg9 x0 x1 x2) (k := 28) (p := 512) (q := 2) rfl rfl (z5_91 c i arg1 harg1 arg2 harg2 arg3 harg3 arg6 arg8 arg9 x0 x1 x2) inb_S32x1024_S1x256_28_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_93 (y : S32x1024.Idx) : View.canon (kernelRun0_A.sl.H5_93 (F := Ideal) c i arg1 harg1 arg2 harg2 arg3 harg3 arg6 arg8 arg9 x0 x1 x2) y = if Done5 92 y then dwTerm ((i 0).val = 63) x0 x1 x2 (y 0).val (y 1).val else 0 := by
  unfold kernelRun0_A.sl.H5_93
  refine step5 (dwTerm ((i 0).val = 63) x0 x1 x2) _ (k := 29) (p := 512) (q := 2) (by decide) rfl rfl (z5_92 c i arg1 harg1 arg2 harg2 arg3 harg3 arg6 arg8 arg9 x0 x1 x2) inb_S32x1024_S1x256_29_512 _ ?_ y
  · intro x
    have e := load5 arg6.view (dwTerm ((i 0).val = 63) x0 x1 x2) (kernelRun0_A.sl.H5_92 (F := Ideal) c i arg1 harg1 arg2 harg2 arg3 harg3 arg6 arg8 arg9 x0 x1 x2) (k := 29) (p := 512) (q := 2) rfl rfl (z5_92 c i arg1 harg1 arg2 harg2 arg3 harg3 arg6 arg8 arg9 x0 x1 x2) inb_S32x1024_S1x256_29_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_94 (y : S32x1024.Idx) : View.canon (kernelRun0_A.sl.H5_94 (F := Ideal) c i arg1 harg1 arg2 harg2 arg3 harg3 arg6 arg8 arg9 x0 x1 x2) y = if Done5 93 y then dwTerm ((i 0).val = 63) x0 x1 x2 (y 0).val (y 1).val else 0 := by
  unfold kernelRun0_A.sl.H5_94
  refine step5 (dwTerm ((i 0).val = 63) x0 x1 x2) _ (k := 30) (p := 512) (q := 2) (by decide) rfl rfl (z5_93 c i arg1 harg1 arg2 harg2 arg3 harg3 arg6 arg8 arg9 x0 x1 x2) inb_S32x1024_S1x256_30_512 _ ?_ y
  · intro x
    have e := load5 arg6.view (dwTerm ((i 0).val = 63) x0 x1 x2) (kernelRun0_A.sl.H5_93 (F := Ideal) c i arg1 harg1 arg2 harg2 arg3 harg3 arg6 arg8 arg9 x0 x1 x2) (k := 30) (p := 512) (q := 2) rfl rfl (z5_93 c i arg1 harg1 arg2 harg2 arg3 harg3 arg6 arg8 arg9 x0 x1 x2) inb_S32x1024_S1x256_30_512
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_95 (y : S32x1024.Idx) : View.canon (kernelRun0_A.sl.H5_95 (F := Ideal) c i arg1 harg1 arg2 harg2 arg3 harg3 arg6 arg8 arg9 x0 x1 x2) y = if Done5 94 y then dwTerm ((i 0).val = 63) x0 x1 x2 (y 0).val (y 1).val else 0 := by
  unfold kernelRun0_A.sl.H5_95
  refine step5 (dwTerm ((i 0).val = 63) x0 x1 x2) _ (k := 0) (p := 768) (q := 3) (by decide) rfl rfl (z5_94 c i arg1 harg1 arg2 harg2 arg3 harg3 arg6 arg8 arg9 x0 x1 x2) inb_S32x1024_S1x256_0_768 _ ?_ y
  · intro x
    have e := load5 arg6.view (dwTerm ((i 0).val = 63) x0 x1 x2) (kernelRun0_A.sl.H5_94 (F := Ideal) c i arg1 harg1 arg2 harg2 arg3 harg3 arg6 arg8 arg9 x0 x1 x2) (k := 0) (p := 768) (q := 3) rfl rfl (z5_94 c i arg1 harg1 arg2 harg2 arg3 harg3 arg6 arg8 arg9 x0 x1 x2) inb_S32x1024_S1x256_0_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_96 (y : S32x1024.Idx) : View.canon (kernelRun0_A.sl.H5_96 (F := Ideal) c i arg1 harg1 arg2 harg2 arg3 harg3 arg6 arg8 arg9 x0 x1 x2) y = if Done5 95 y then dwTerm ((i 0).val = 63) x0 x1 x2 (y 0).val (y 1).val else 0 := by
  unfold kernelRun0_A.sl.H5_96
  refine step5 (dwTerm ((i 0).val = 63) x0 x1 x2) _ (k := 1) (p := 768) (q := 3) (by decide) rfl rfl (z5_95 c i arg1 harg1 arg2 harg2 arg3 harg3 arg6 arg8 arg9 x0 x1 x2) inb_S32x1024_S1x256_1_768 _ ?_ y
  · intro x
    have e := load5 arg6.view (dwTerm ((i 0).val = 63) x0 x1 x2) (kernelRun0_A.sl.H5_95 (F := Ideal) c i arg1 harg1 arg2 harg2 arg3 harg3 arg6 arg8 arg9 x0 x1 x2) (k := 1) (p := 768) (q := 3) rfl rfl (z5_95 c i arg1 harg1 arg2 harg2 arg3 harg3 arg6 arg8 arg9 x0 x1 x2) inb_S32x1024_S1x256_1_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_97 (y : S32x1024.Idx) : View.canon (kernelRun0_A.sl.H5_97 (F := Ideal) c i arg1 harg1 arg2 harg2 arg3 harg3 arg6 arg8 arg9 x0 x1 x2) y = if Done5 96 y then dwTerm ((i 0).val = 63) x0 x1 x2 (y 0).val (y 1).val else 0 := by
  unfold kernelRun0_A.sl.H5_97
  refine step5 (dwTerm ((i 0).val = 63) x0 x1 x2) _ (k := 2) (p := 768) (q := 3) (by decide) rfl rfl (z5_96 c i arg1 harg1 arg2 harg2 arg3 harg3 arg6 arg8 arg9 x0 x1 x2) inb_S32x1024_S1x256_2_768 _ ?_ y
  · intro x
    have e := load5 arg6.view (dwTerm ((i 0).val = 63) x0 x1 x2) (kernelRun0_A.sl.H5_96 (F := Ideal) c i arg1 harg1 arg2 harg2 arg3 harg3 arg6 arg8 arg9 x0 x1 x2) (k := 2) (p := 768) (q := 3) rfl rfl (z5_96 c i arg1 harg1 arg2 harg2 arg3 harg3 arg6 arg8 arg9 x0 x1 x2) inb_S32x1024_S1x256_2_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_98 (y : S32x1024.Idx) : View.canon (kernelRun0_A.sl.H5_98 (F := Ideal) c i arg1 harg1 arg2 harg2 arg3 harg3 arg6 arg8 arg9 x0 x1 x2) y = if Done5 97 y then dwTerm ((i 0).val = 63) x0 x1 x2 (y 0).val (y 1).val else 0 := by
  unfold kernelRun0_A.sl.H5_98
  refine step5 (dwTerm ((i 0).val = 63) x0 x1 x2) _ (k := 3) (p := 768) (q := 3) (by decide) rfl rfl (z5_97 c i arg1 harg1 arg2 harg2 arg3 harg3 arg6 arg8 arg9 x0 x1 x2) inb_S32x1024_S1x256_3_768 _ ?_ y
  · intro x
    have e := load5 arg6.view (dwTerm ((i 0).val = 63) x0 x1 x2) (kernelRun0_A.sl.H5_97 (F := Ideal) c i arg1 harg1 arg2 harg2 arg3 harg3 arg6 arg8 arg9 x0 x1 x2) (k := 3) (p := 768) (q := 3) rfl rfl (z5_97 c i arg1 harg1 arg2 harg2 arg3 harg3 arg6 arg8 arg9 x0 x1 x2) inb_S32x1024_S1x256_3_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_99 (y : S32x1024.Idx) : View.canon (kernelRun0_A.sl.H5_99 (F := Ideal) c i arg1 harg1 arg2 harg2 arg3 harg3 arg6 arg8 arg9 x0 x1 x2) y = if Done5 98 y then dwTerm ((i 0).val = 63) x0 x1 x2 (y 0).val (y 1).val else 0 := by
  unfold kernelRun0_A.sl.H5_99
  refine step5 (dwTerm ((i 0).val = 63) x0 x1 x2) _ (k := 4) (p := 768) (q := 3) (by decide) rfl rfl (z5_98 c i arg1 harg1 arg2 harg2 arg3 harg3 arg6 arg8 arg9 x0 x1 x2) inb_S32x1024_S1x256_4_768 _ ?_ y
  · intro x
    have e := load5 arg6.view (dwTerm ((i 0).val = 63) x0 x1 x2) (kernelRun0_A.sl.H5_98 (F := Ideal) c i arg1 harg1 arg2 harg2 arg3 harg3 arg6 arg8 arg9 x0 x1 x2) (k := 4) (p := 768) (q := 3) rfl rfl (z5_98 c i arg1 harg1 arg2 harg2 arg3 harg3 arg6 arg8 arg9 x0 x1 x2) inb_S32x1024_S1x256_4_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_100 (y : S32x1024.Idx) : View.canon (kernelRun0_A.sl.H5_100 (F := Ideal) c i arg1 harg1 arg2 harg2 arg3 harg3 arg6 arg8 arg9 x0 x1 x2) y = if Done5 99 y then dwTerm ((i 0).val = 63) x0 x1 x2 (y 0).val (y 1).val else 0 := by
  unfold kernelRun0_A.sl.H5_100
  refine step5 (dwTerm ((i 0).val = 63) x0 x1 x2) _ (k := 5) (p := 768) (q := 3) (by decide) rfl rfl (z5_99 c i arg1 harg1 arg2 harg2 arg3 harg3 arg6 arg8 arg9 x0 x1 x2) inb_S32x1024_S1x256_5_768 _ ?_ y
  · intro x
    have e := load5 arg6.view (dwTerm ((i 0).val = 63) x0 x1 x2) (kernelRun0_A.sl.H5_99 (F := Ideal) c i arg1 harg1 arg2 harg2 arg3 harg3 arg6 arg8 arg9 x0 x1 x2) (k := 5) (p := 768) (q := 3) rfl rfl (z5_99 c i arg1 harg1 arg2 harg2 arg3 harg3 arg6 arg8 arg9 x0 x1 x2) inb_S32x1024_S1x256_5_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_101 (y : S32x1024.Idx) : View.canon (kernelRun0_A.sl.H5_101 (F := Ideal) c i arg1 harg1 arg2 harg2 arg3 harg3 arg6 arg8 arg9 x0 x1 x2) y = if Done5 100 y then dwTerm ((i 0).val = 63) x0 x1 x2 (y 0).val (y 1).val else 0 := by
  unfold kernelRun0_A.sl.H5_101
  refine step5 (dwTerm ((i 0).val = 63) x0 x1 x2) _ (k := 6) (p := 768) (q := 3) (by decide) rfl rfl (z5_100 c i arg1 harg1 arg2 harg2 arg3 harg3 arg6 arg8 arg9 x0 x1 x2) inb_S32x1024_S1x256_6_768 _ ?_ y
  · intro x
    have e := load5 arg6.view (dwTerm ((i 0).val = 63) x0 x1 x2) (kernelRun0_A.sl.H5_100 (F := Ideal) c i arg1 harg1 arg2 harg2 arg3 harg3 arg6 arg8 arg9 x0 x1 x2) (k := 6) (p := 768) (q := 3) rfl rfl (z5_100 c i arg1 harg1 arg2 harg2 arg3 harg3 arg6 arg8 arg9 x0 x1 x2) inb_S32x1024_S1x256_6_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_102 (y : S32x1024.Idx) : View.canon (kernelRun0_A.sl.H5_102 (F := Ideal) c i arg1 harg1 arg2 harg2 arg3 harg3 arg6 arg8 arg9 x0 x1 x2) y = if Done5 101 y then dwTerm ((i 0).val = 63) x0 x1 x2 (y 0).val (y 1).val else 0 := by
  unfold kernelRun0_A.sl.H5_102
  refine step5 (dwTerm ((i 0).val = 63) x0 x1 x2) _ (k := 7) (p := 768) (q := 3) (by decide) rfl rfl (z5_101 c i arg1 harg1 arg2 harg2 arg3 harg3 arg6 arg8 arg9 x0 x1 x2) inb_S32x1024_S1x256_7_768 _ ?_ y
  · intro x
    have e := load5 arg6.view (dwTerm ((i 0).val = 63) x0 x1 x2) (kernelRun0_A.sl.H5_101 (F := Ideal) c i arg1 harg1 arg2 harg2 arg3 harg3 arg6 arg8 arg9 x0 x1 x2) (k := 7) (p := 768) (q := 3) rfl rfl (z5_101 c i arg1 harg1 arg2 harg2 arg3 harg3 arg6 arg8 arg9 x0 x1 x2) inb_S32x1024_S1x256_7_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_103 (y : S32x1024.Idx) : View.canon (kernelRun0_A.sl.H5_103 (F := Ideal) c i arg1 harg1 arg2 harg2 arg3 harg3 arg6 arg8 arg9 x0 x1 x2) y = if Done5 102 y then dwTerm ((i 0).val = 63) x0 x1 x2 (y 0).val (y 1).val else 0 := by
  unfold kernelRun0_A.sl.H5_103
  refine step5 (dwTerm ((i 0).val = 63) x0 x1 x2) _ (k := 8) (p := 768) (q := 3) (by decide) rfl rfl (z5_102 c i arg1 harg1 arg2 harg2 arg3 harg3 arg6 arg8 arg9 x0 x1 x2) inb_S32x1024_S1x256_8_768 _ ?_ y
  · intro x
    have e := load5 arg6.view (dwTerm ((i 0).val = 63) x0 x1 x2) (kernelRun0_A.sl.H5_102 (F := Ideal) c i arg1 harg1 arg2 harg2 arg3 harg3 arg6 arg8 arg9 x0 x1 x2) (k := 8) (p := 768) (q := 3) rfl rfl (z5_102 c i arg1 harg1 arg2 harg2 arg3 harg3 arg6 arg8 arg9 x0 x1 x2) inb_S32x1024_S1x256_8_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_104 (y : S32x1024.Idx) : View.canon (kernelRun0_A.sl.H5_104 (F := Ideal) c i arg1 harg1 arg2 harg2 arg3 harg3 arg6 arg8 arg9 x0 x1 x2) y = if Done5 103 y then dwTerm ((i 0).val = 63) x0 x1 x2 (y 0).val (y 1).val else 0 := by
  unfold kernelRun0_A.sl.H5_104
  refine step5 (dwTerm ((i 0).val = 63) x0 x1 x2) _ (k := 9) (p := 768) (q := 3) (by decide) rfl rfl (z5_103 c i arg1 harg1 arg2 harg2 arg3 harg3 arg6 arg8 arg9 x0 x1 x2) inb_S32x1024_S1x256_9_768 _ ?_ y
  · intro x
    have e := load5 arg6.view (dwTerm ((i 0).val = 63) x0 x1 x2) (kernelRun0_A.sl.H5_103 (F := Ideal) c i arg1 harg1 arg2 harg2 arg3 harg3 arg6 arg8 arg9 x0 x1 x2) (k := 9) (p := 768) (q := 3) rfl rfl (z5_103 c i arg1 harg1 arg2 harg2 arg3 harg3 arg6 arg8 arg9 x0 x1 x2) inb_S32x1024_S1x256_9_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_105 (y : S32x1024.Idx) : View.canon (kernelRun0_A.sl.H5_105 (F := Ideal) c i arg1 harg1 arg2 harg2 arg3 harg3 arg6 arg8 arg9 x0 x1 x2) y = if Done5 104 y then dwTerm ((i 0).val = 63) x0 x1 x2 (y 0).val (y 1).val else 0 := by
  unfold kernelRun0_A.sl.H5_105
  refine step5 (dwTerm ((i 0).val = 63) x0 x1 x2) _ (k := 10) (p := 768) (q := 3) (by decide) rfl rfl (z5_104 c i arg1 harg1 arg2 harg2 arg3 harg3 arg6 arg8 arg9 x0 x1 x2) inb_S32x1024_S1x256_10_768 _ ?_ y
  · intro x
    have e := load5 arg6.view (dwTerm ((i 0).val = 63) x0 x1 x2) (kernelRun0_A.sl.H5_104 (F := Ideal) c i arg1 harg1 arg2 harg2 arg3 harg3 arg6 arg8 arg9 x0 x1 x2) (k := 10) (p := 768) (q := 3) rfl rfl (z5_104 c i arg1 harg1 arg2 harg2 arg3 harg3 arg6 arg8 arg9 x0 x1 x2) inb_S32x1024_S1x256_10_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_106 (y : S32x1024.Idx) : View.canon (kernelRun0_A.sl.H5_106 (F := Ideal) c i arg1 harg1 arg2 harg2 arg3 harg3 arg6 arg8 arg9 x0 x1 x2) y = if Done5 105 y then dwTerm ((i 0).val = 63) x0 x1 x2 (y 0).val (y 1).val else 0 := by
  unfold kernelRun0_A.sl.H5_106
  refine step5 (dwTerm ((i 0).val = 63) x0 x1 x2) _ (k := 11) (p := 768) (q := 3) (by decide) rfl rfl (z5_105 c i arg1 harg1 arg2 harg2 arg3 harg3 arg6 arg8 arg9 x0 x1 x2) inb_S32x1024_S1x256_11_768 _ ?_ y
  · intro x
    have e := load5 arg6.view (dwTerm ((i 0).val = 63) x0 x1 x2) (kernelRun0_A.sl.H5_105 (F := Ideal) c i arg1 harg1 arg2 harg2 arg3 harg3 arg6 arg8 arg9 x0 x1 x2) (k := 11) (p := 768) (q := 3) rfl rfl (z5_105 c i arg1 harg1 arg2 harg2 arg3 harg3 arg6 arg8 arg9 x0 x1 x2) inb_S32x1024_S1x256_11_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_107 (y : S32x1024.Idx) : View.canon (kernelRun0_A.sl.H5_107 (F := Ideal) c i arg1 harg1 arg2 harg2 arg3 harg3 arg6 arg8 arg9 x0 x1 x2) y = if Done5 106 y then dwTerm ((i 0).val = 63) x0 x1 x2 (y 0).val (y 1).val else 0 := by
  unfold kernelRun0_A.sl.H5_107
  refine step5 (dwTerm ((i 0).val = 63) x0 x1 x2) _ (k := 12) (p := 768) (q := 3) (by decide) rfl rfl (z5_106 c i arg1 harg1 arg2 harg2 arg3 harg3 arg6 arg8 arg9 x0 x1 x2) inb_S32x1024_S1x256_12_768 _ ?_ y
  · intro x
    have e := load5 arg6.view (dwTerm ((i 0).val = 63) x0 x1 x2) (kernelRun0_A.sl.H5_106 (F := Ideal) c i arg1 harg1 arg2 harg2 arg3 harg3 arg6 arg8 arg9 x0 x1 x2) (k := 12) (p := 768) (q := 3) rfl rfl (z5_106 c i arg1 harg1 arg2 harg2 arg3 harg3 arg6 arg8 arg9 x0 x1 x2) inb_S32x1024_S1x256_12_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_108 (y : S32x1024.Idx) : View.canon (kernelRun0_A.sl.H5_108 (F := Ideal) c i arg1 harg1 arg2 harg2 arg3 harg3 arg6 arg8 arg9 x0 x1 x2) y = if Done5 107 y then dwTerm ((i 0).val = 63) x0 x1 x2 (y 0).val (y 1).val else 0 := by
  unfold kernelRun0_A.sl.H5_108
  refine step5 (dwTerm ((i 0).val = 63) x0 x1 x2) _ (k := 13) (p := 768) (q := 3) (by decide) rfl rfl (z5_107 c i arg1 harg1 arg2 harg2 arg3 harg3 arg6 arg8 arg9 x0 x1 x2) inb_S32x1024_S1x256_13_768 _ ?_ y
  · intro x
    have e := load5 arg6.view (dwTerm ((i 0).val = 63) x0 x1 x2) (kernelRun0_A.sl.H5_107 (F := Ideal) c i arg1 harg1 arg2 harg2 arg3 harg3 arg6 arg8 arg9 x0 x1 x2) (k := 13) (p := 768) (q := 3) rfl rfl (z5_107 c i arg1 harg1 arg2 harg2 arg3 harg3 arg6 arg8 arg9 x0 x1 x2) inb_S32x1024_S1x256_13_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_109 (y : S32x1024.Idx) : View.canon (kernelRun0_A.sl.H5_109 (F := Ideal) c i arg1 harg1 arg2 harg2 arg3 harg3 arg6 arg8 arg9 x0 x1 x2) y = if Done5 108 y then dwTerm ((i 0).val = 63) x0 x1 x2 (y 0).val (y 1).val else 0 := by
  unfold kernelRun0_A.sl.H5_109
  refine step5 (dwTerm ((i 0).val = 63) x0 x1 x2) _ (k := 14) (p := 768) (q := 3) (by decide) rfl rfl (z5_108 c i arg1 harg1 arg2 harg2 arg3 harg3 arg6 arg8 arg9 x0 x1 x2) inb_S32x1024_S1x256_14_768 _ ?_ y
  · intro x
    have e := load5 arg6.view (dwTerm ((i 0).val = 63) x0 x1 x2) (kernelRun0_A.sl.H5_108 (F := Ideal) c i arg1 harg1 arg2 harg2 arg3 harg3 arg6 arg8 arg9 x0 x1 x2) (k := 14) (p := 768) (q := 3) rfl rfl (z5_108 c i arg1 harg1 arg2 harg2 arg3 harg3 arg6 arg8 arg9 x0 x1 x2) inb_S32x1024_S1x256_14_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_110 (y : S32x1024.Idx) : View.canon (kernelRun0_A.sl.H5_110 (F := Ideal) c i arg1 harg1 arg2 harg2 arg3 harg3 arg6 arg8 arg9 x0 x1 x2) y = if Done5 109 y then dwTerm ((i 0).val = 63) x0 x1 x2 (y 0).val (y 1).val else 0 := by
  unfold kernelRun0_A.sl.H5_110
  refine step5 (dwTerm ((i 0).val = 63) x0 x1 x2) _ (k := 15) (p := 768) (q := 3) (by decide) rfl rfl (z5_109 c i arg1 harg1 arg2 harg2 arg3 harg3 arg6 arg8 arg9 x0 x1 x2) inb_S32x1024_S1x256_15_768 _ ?_ y
  · intro x
    have e := load5 arg6.view (dwTerm ((i 0).val = 63) x0 x1 x2) (kernelRun0_A.sl.H5_109 (F := Ideal) c i arg1 harg1 arg2 harg2 arg3 harg3 arg6 arg8 arg9 x0 x1 x2) (k := 15) (p := 768) (q := 3) rfl rfl (z5_109 c i arg1 harg1 arg2 harg2 arg3 harg3 arg6 arg8 arg9 x0 x1 x2) inb_S32x1024_S1x256_15_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_111 (y : S32x1024.Idx) : View.canon (kernelRun0_A.sl.H5_111 (F := Ideal) c i arg1 harg1 arg2 harg2 arg3 harg3 arg6 arg8 arg9 x0 x1 x2) y = if Done5 110 y then dwTerm ((i 0).val = 63) x0 x1 x2 (y 0).val (y 1).val else 0 := by
  unfold kernelRun0_A.sl.H5_111
  refine step5 (dwTerm ((i 0).val = 63) x0 x1 x2) _ (k := 16) (p := 768) (q := 3) (by decide) rfl rfl (z5_110 c i arg1 harg1 arg2 harg2 arg3 harg3 arg6 arg8 arg9 x0 x1 x2) inb_S32x1024_S1x256_16_768 _ ?_ y
  · intro x
    have e := load5 arg6.view (dwTerm ((i 0).val = 63) x0 x1 x2) (kernelRun0_A.sl.H5_110 (F := Ideal) c i arg1 harg1 arg2 harg2 arg3 harg3 arg6 arg8 arg9 x0 x1 x2) (k := 16) (p := 768) (q := 3) rfl rfl (z5_110 c i arg1 harg1 arg2 harg2 arg3 harg3 arg6 arg8 arg9 x0 x1 x2) inb_S32x1024_S1x256_16_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_112 (y : S32x1024.Idx) : View.canon (kernelRun0_A.sl.H5_112 (F := Ideal) c i arg1 harg1 arg2 harg2 arg3 harg3 arg6 arg8 arg9 x0 x1 x2) y = if Done5 111 y then dwTerm ((i 0).val = 63) x0 x1 x2 (y 0).val (y 1).val else 0 := by
  unfold kernelRun0_A.sl.H5_112
  refine step5 (dwTerm ((i 0).val = 63) x0 x1 x2) _ (k := 17) (p := 768) (q := 3) (by decide) rfl rfl (z5_111 c i arg1 harg1 arg2 harg2 arg3 harg3 arg6 arg8 arg9 x0 x1 x2) inb_S32x1024_S1x256_17_768 _ ?_ y
  · intro x
    have e := load5 arg6.view (dwTerm ((i 0).val = 63) x0 x1 x2) (kernelRun0_A.sl.H5_111 (F := Ideal) c i arg1 harg1 arg2 harg2 arg3 harg3 arg6 arg8 arg9 x0 x1 x2) (k := 17) (p := 768) (q := 3) rfl rfl (z5_111 c i arg1 harg1 arg2 harg2 arg3 harg3 arg6 arg8 arg9 x0 x1 x2) inb_S32x1024_S1x256_17_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_113 (y : S32x1024.Idx) : View.canon (kernelRun0_A.sl.H5_113 (F := Ideal) c i arg1 harg1 arg2 harg2 arg3 harg3 arg6 arg8 arg9 x0 x1 x2) y = if Done5 112 y then dwTerm ((i 0).val = 63) x0 x1 x2 (y 0).val (y 1).val else 0 := by
  unfold kernelRun0_A.sl.H5_113
  refine step5 (dwTerm ((i 0).val = 63) x0 x1 x2) _ (k := 18) (p := 768) (q := 3) (by decide) rfl rfl (z5_112 c i arg1 harg1 arg2 harg2 arg3 harg3 arg6 arg8 arg9 x0 x1 x2) inb_S32x1024_S1x256_18_768 _ ?_ y
  · intro x
    have e := load5 arg6.view (dwTerm ((i 0).val = 63) x0 x1 x2) (kernelRun0_A.sl.H5_112 (F := Ideal) c i arg1 harg1 arg2 harg2 arg3 harg3 arg6 arg8 arg9 x0 x1 x2) (k := 18) (p := 768) (q := 3) rfl rfl (z5_112 c i arg1 harg1 arg2 harg2 arg3 harg3 arg6 arg8 arg9 x0 x1 x2) inb_S32x1024_S1x256_18_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_114 (y : S32x1024.Idx) : View.canon (kernelRun0_A.sl.H5_114 (F := Ideal) c i arg1 harg1 arg2 harg2 arg3 harg3 arg6 arg8 arg9 x0 x1 x2) y = if Done5 113 y then dwTerm ((i 0).val = 63) x0 x1 x2 (y 0).val (y 1).val else 0 := by
  unfold kernelRun0_A.sl.H5_114
  refine step5 (dwTerm ((i 0).val = 63) x0 x1 x2) _ (k := 19) (p := 768) (q := 3) (by decide) rfl rfl (z5_113 c i arg1 harg1 arg2 harg2 arg3 harg3 arg6 arg8 arg9 x0 x1 x2) inb_S32x1024_S1x256_19_768 _ ?_ y
  · intro x
    have e := load5 arg6.view (dwTerm ((i 0).val = 63) x0 x1 x2) (kernelRun0_A.sl.H5_113 (F := Ideal) c i arg1 harg1 arg2 harg2 arg3 harg3 arg6 arg8 arg9 x0 x1 x2) (k := 19) (p := 768) (q := 3) rfl rfl (z5_113 c i arg1 harg1 arg2 harg2 arg3 harg3 arg6 arg8 arg9 x0 x1 x2) inb_S32x1024_S1x256_19_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_115 (y : S32x1024.Idx) : View.canon (kernelRun0_A.sl.H5_115 (F := Ideal) c i arg1 harg1 arg2 harg2 arg3 harg3 arg6 arg8 arg9 x0 x1 x2) y = if Done5 114 y then dwTerm ((i 0).val = 63) x0 x1 x2 (y 0).val (y 1).val else 0 := by
  unfold kernelRun0_A.sl.H5_115
  refine step5 (dwTerm ((i 0).val = 63) x0 x1 x2) _ (k := 20) (p := 768) (q := 3) (by decide) rfl rfl (z5_114 c i arg1 harg1 arg2 harg2 arg3 harg3 arg6 arg8 arg9 x0 x1 x2) inb_S32x1024_S1x256_20_768 _ ?_ y
  · intro x
    have e := load5 arg6.view (dwTerm ((i 0).val = 63) x0 x1 x2) (kernelRun0_A.sl.H5_114 (F := Ideal) c i arg1 harg1 arg2 harg2 arg3 harg3 arg6 arg8 arg9 x0 x1 x2) (k := 20) (p := 768) (q := 3) rfl rfl (z5_114 c i arg1 harg1 arg2 harg2 arg3 harg3 arg6 arg8 arg9 x0 x1 x2) inb_S32x1024_S1x256_20_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_116 (y : S32x1024.Idx) : View.canon (kernelRun0_A.sl.H5_116 (F := Ideal) c i arg1 harg1 arg2 harg2 arg3 harg3 arg6 arg8 arg9 x0 x1 x2) y = if Done5 115 y then dwTerm ((i 0).val = 63) x0 x1 x2 (y 0).val (y 1).val else 0 := by
  unfold kernelRun0_A.sl.H5_116
  refine step5 (dwTerm ((i 0).val = 63) x0 x1 x2) _ (k := 21) (p := 768) (q := 3) (by decide) rfl rfl (z5_115 c i arg1 harg1 arg2 harg2 arg3 harg3 arg6 arg8 arg9 x0 x1 x2) inb_S32x1024_S1x256_21_768 _ ?_ y
  · intro x
    have e := load5 arg6.view (dwTerm ((i 0).val = 63) x0 x1 x2) (kernelRun0_A.sl.H5_115 (F := Ideal) c i arg1 harg1 arg2 harg2 arg3 harg3 arg6 arg8 arg9 x0 x1 x2) (k := 21) (p := 768) (q := 3) rfl rfl (z5_115 c i arg1 harg1 arg2 harg2 arg3 harg3 arg6 arg8 arg9 x0 x1 x2) inb_S32x1024_S1x256_21_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_117 (y : S32x1024.Idx) : View.canon (kernelRun0_A.sl.H5_117 (F := Ideal) c i arg1 harg1 arg2 harg2 arg3 harg3 arg6 arg8 arg9 x0 x1 x2) y = if Done5 116 y then dwTerm ((i 0).val = 63) x0 x1 x2 (y 0).val (y 1).val else 0 := by
  unfold kernelRun0_A.sl.H5_117
  refine step5 (dwTerm ((i 0).val = 63) x0 x1 x2) _ (k := 22) (p := 768) (q := 3) (by decide) rfl rfl (z5_116 c i arg1 harg1 arg2 harg2 arg3 harg3 arg6 arg8 arg9 x0 x1 x2) inb_S32x1024_S1x256_22_768 _ ?_ y
  · intro x
    have e := load5 arg6.view (dwTerm ((i 0).val = 63) x0 x1 x2) (kernelRun0_A.sl.H5_116 (F := Ideal) c i arg1 harg1 arg2 harg2 arg3 harg3 arg6 arg8 arg9 x0 x1 x2) (k := 22) (p := 768) (q := 3) rfl rfl (z5_116 c i arg1 harg1 arg2 harg2 arg3 harg3 arg6 arg8 arg9 x0 x1 x2) inb_S32x1024_S1x256_22_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_118 (y : S32x1024.Idx) : View.canon (kernelRun0_A.sl.H5_118 (F := Ideal) c i arg1 harg1 arg2 harg2 arg3 harg3 arg6 arg8 arg9 x0 x1 x2) y = if Done5 117 y then dwTerm ((i 0).val = 63) x0 x1 x2 (y 0).val (y 1).val else 0 := by
  unfold kernelRun0_A.sl.H5_118
  refine step5 (dwTerm ((i 0).val = 63) x0 x1 x2) _ (k := 23) (p := 768) (q := 3) (by decide) rfl rfl (z5_117 c i arg1 harg1 arg2 harg2 arg3 harg3 arg6 arg8 arg9 x0 x1 x2) inb_S32x1024_S1x256_23_768 _ ?_ y
  · intro x
    have e := load5 arg6.view (dwTerm ((i 0).val = 63) x0 x1 x2) (kernelRun0_A.sl.H5_117 (F := Ideal) c i arg1 harg1 arg2 harg2 arg3 harg3 arg6 arg8 arg9 x0 x1 x2) (k := 23) (p := 768) (q := 3) rfl rfl (z5_117 c i arg1 harg1 arg2 harg2 arg3 harg3 arg6 arg8 arg9 x0 x1 x2) inb_S32x1024_S1x256_23_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_119 (y : S32x1024.Idx) : View.canon (kernelRun0_A.sl.H5_119 (F := Ideal) c i arg1 harg1 arg2 harg2 arg3 harg3 arg6 arg8 arg9 x0 x1 x2) y = if Done5 118 y then dwTerm ((i 0).val = 63) x0 x1 x2 (y 0).val (y 1).val else 0 := by
  unfold kernelRun0_A.sl.H5_119
  refine step5 (dwTerm ((i 0).val = 63) x0 x1 x2) _ (k := 24) (p := 768) (q := 3) (by decide) rfl rfl (z5_118 c i arg1 harg1 arg2 harg2 arg3 harg3 arg6 arg8 arg9 x0 x1 x2) inb_S32x1024_S1x256_24_768 _ ?_ y
  · intro x
    have e := load5 arg6.view (dwTerm ((i 0).val = 63) x0 x1 x2) (kernelRun0_A.sl.H5_118 (F := Ideal) c i arg1 harg1 arg2 harg2 arg3 harg3 arg6 arg8 arg9 x0 x1 x2) (k := 24) (p := 768) (q := 3) rfl rfl (z5_118 c i arg1 harg1 arg2 harg2 arg3 harg3 arg6 arg8 arg9 x0 x1 x2) inb_S32x1024_S1x256_24_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_120 (y : S32x1024.Idx) : View.canon (kernelRun0_A.sl.H5_120 (F := Ideal) c i arg1 harg1 arg2 harg2 arg3 harg3 arg6 arg8 arg9 x0 x1 x2) y = if Done5 119 y then dwTerm ((i 0).val = 63) x0 x1 x2 (y 0).val (y 1).val else 0 := by
  unfold kernelRun0_A.sl.H5_120
  refine step5 (dwTerm ((i 0).val = 63) x0 x1 x2) _ (k := 25) (p := 768) (q := 3) (by decide) rfl rfl (z5_119 c i arg1 harg1 arg2 harg2 arg3 harg3 arg6 arg8 arg9 x0 x1 x2) inb_S32x1024_S1x256_25_768 _ ?_ y
  · intro x
    have e := load5 arg6.view (dwTerm ((i 0).val = 63) x0 x1 x2) (kernelRun0_A.sl.H5_119 (F := Ideal) c i arg1 harg1 arg2 harg2 arg3 harg3 arg6 arg8 arg9 x0 x1 x2) (k := 25) (p := 768) (q := 3) rfl rfl (z5_119 c i arg1 harg1 arg2 harg2 arg3 harg3 arg6 arg8 arg9 x0 x1 x2) inb_S32x1024_S1x256_25_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_121 (y : S32x1024.Idx) : View.canon (kernelRun0_A.sl.H5_121 (F := Ideal) c i arg1 harg1 arg2 harg2 arg3 harg3 arg6 arg8 arg9 x0 x1 x2) y = if Done5 120 y then dwTerm ((i 0).val = 63) x0 x1 x2 (y 0).val (y 1).val else 0 := by
  unfold kernelRun0_A.sl.H5_121
  refine step5 (dwTerm ((i 0).val = 63) x0 x1 x2) _ (k := 26) (p := 768) (q := 3) (by decide) rfl rfl (z5_120 c i arg1 harg1 arg2 harg2 arg3 harg3 arg6 arg8 arg9 x0 x1 x2) inb_S32x1024_S1x256_26_768 _ ?_ y
  · intro x
    have e := load5 arg6.view (dwTerm ((i 0).val = 63) x0 x1 x2) (kernelRun0_A.sl.H5_120 (F := Ideal) c i arg1 harg1 arg2 harg2 arg3 harg3 arg6 arg8 arg9 x0 x1 x2) (k := 26) (p := 768) (q := 3) rfl rfl (z5_120 c i arg1 harg1 arg2 harg2 arg3 harg3 arg6 arg8 arg9 x0 x1 x2) inb_S32x1024_S1x256_26_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_122 (y : S32x1024.Idx) : View.canon (kernelRun0_A.sl.H5_122 (F := Ideal) c i arg1 harg1 arg2 harg2 arg3 harg3 arg6 arg8 arg9 x0 x1 x2) y = if Done5 121 y then dwTerm ((i 0).val = 63) x0 x1 x2 (y 0).val (y 1).val else 0 := by
  unfold kernelRun0_A.sl.H5_122
  refine step5 (dwTerm ((i 0).val = 63) x0 x1 x2) _ (k := 27) (p := 768) (q := 3) (by decide) rfl rfl (z5_121 c i arg1 harg1 arg2 harg2 arg3 harg3 arg6 arg8 arg9 x0 x1 x2) inb_S32x1024_S1x256_27_768 _ ?_ y
  · intro x
    have e := load5 arg6.view (dwTerm ((i 0).val = 63) x0 x1 x2) (kernelRun0_A.sl.H5_121 (F := Ideal) c i arg1 harg1 arg2 harg2 arg3 harg3 arg6 arg8 arg9 x0 x1 x2) (k := 27) (p := 768) (q := 3) rfl rfl (z5_121 c i arg1 harg1 arg2 harg2 arg3 harg3 arg6 arg8 arg9 x0 x1 x2) inb_S32x1024_S1x256_27_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_123 (y : S32x1024.Idx) : View.canon (kernelRun0_A.sl.H5_123 (F := Ideal) c i arg1 harg1 arg2 harg2 arg3 harg3 arg6 arg8 arg9 x0 x1 x2) y = if Done5 122 y then dwTerm ((i 0).val = 63) x0 x1 x2 (y 0).val (y 1).val else 0 := by
  unfold kernelRun0_A.sl.H5_123
  refine step5 (dwTerm ((i 0).val = 63) x0 x1 x2) _ (k := 28) (p := 768) (q := 3) (by decide) rfl rfl (z5_122 c i arg1 harg1 arg2 harg2 arg3 harg3 arg6 arg8 arg9 x0 x1 x2) inb_S32x1024_S1x256_28_768 _ ?_ y
  · intro x
    have e := load5 arg6.view (dwTerm ((i 0).val = 63) x0 x1 x2) (kernelRun0_A.sl.H5_122 (F := Ideal) c i arg1 harg1 arg2 harg2 arg3 harg3 arg6 arg8 arg9 x0 x1 x2) (k := 28) (p := 768) (q := 3) rfl rfl (z5_122 c i arg1 harg1 arg2 harg2 arg3 harg3 arg6 arg8 arg9 x0 x1 x2) inb_S32x1024_S1x256_28_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

theorem z5_124 (y : S32x1024.Idx) : View.canon (kernelRun0_A.sl.H5_124 (F := Ideal) c i arg1 harg1 arg2 harg2 arg3 harg3 arg6 arg8 arg9 x0 x1 x2) y = if Done5 123 y then dwTerm ((i 0).val = 63) x0 x1 x2 (y 0).val (y 1).val else 0 := by
  unfold kernelRun0_A.sl.H5_124
  refine step5 (dwTerm ((i 0).val = 63) x0 x1 x2) _ (k := 29) (p := 768) (q := 3) (by decide) rfl rfl (z5_123 c i arg1 harg1 arg2 harg2 arg3 harg3 arg6 arg8 arg9 x0 x1 x2) inb_S32x1024_S1x256_29_768 _ ?_ y
  · intro x
    have e := load5 arg6.view (dwTerm ((i 0).val = 63) x0 x1 x2) (kernelRun0_A.sl.H5_123 (F := Ideal) c i arg1 harg1 arg2 harg2 arg3 harg3 arg6 arg8 arg9 x0 x1 x2) (k := 29) (p := 768) (q := 3) rfl rfl (z5_123 c i arg1 harg1 arg2 harg2 arg3 harg3 arg6 arg8 arg9 x0 x1 x2) inb_S32x1024_S1x256_29_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

set_option maxHeartbeats 8000000 in
theorem dw_block (hc0) (y : S32x1024.Idx) :
    out0_A_5 (F := Ideal) c i arg1 harg1 arg2 harg2 arg3 harg3 arg4 harg4 arg5 harg5 arg6 harg6 arg7 harg7 arg8 harg8 arg9 harg9 hc0 x0 x1 x2 x3 y
      = if (y 0).val < 31 then dwTerm ((i 0).val = 63) x0 x1 x2 (y 0).val (y 1).val else 0 := by
  have hy1 : (y 1).val < 1024 := (y 1).isLt
  unfold out0_A_5
  rw [View.read_writes_junk_eq_canon]
  unfold kernelRun0_A
  dsimp only
  refine (step5 (dwTerm ((i 0).val = 63) x0 x1 x2) _ (k := 30) (p := 768) (q := 3) (by decide) rfl rfl (z5_124 c i arg1 harg1 arg2 harg2 arg3 harg3 arg6 arg8 arg9 x0 x1 x2) inb_S32x1024_S1x256_30_768 _ ?_ y).trans
    (if_congr (by show _ ∧ _ ↔ _; omega) rfl rfl)
  · intro x
    have e := load5 arg6.view (dwTerm ((i 0).val = 63) x0 x1 x2) (kernelRun0_A.sl.H5_124 (F := Ideal) c i arg1 harg1 arg2 harg2 arg3 harg3 arg6 arg8 arg9 x0 x1 x2) (k := 30) (p := 768) (q := 3) rfl rfl (z5_124 c i arg1 harg1 arg2 harg2 arg3 harg3 arg6 arg8 arg9 x0 x1 x2) inb_S32x1024_S1x256_30_768
    sl_unfold_run_values
    unfold_payloads
    pointwise
    simp only [e, ld8, ld9, read_box, Nat.reduceAdd, Nat.reduceLeDiff, dwTerm, gluAt, gateAt, gate, zero_add, add_zero, ix2_val0, ix2_val1, Nat.reduceSub, Fin.val_zero]
    rfl

end Cert.Conv.RunA
-- ==== Proof.ConvDbA.lean ====
/-
  A: the gradient of the bias at the first grid point, where the buffer is first filled with zeros.
-/
module

public import proofs.«01_k».proof.Proof.ConvDwA
public import Idealize.ShloMosaic.Lib.Tactic.RunNames

@[expose] public section

set_option maxRecDepth 16384

noncomputable section

namespace Cert.Conv.RunA

open Idealize.ShloMosaic Idealize.ShloMosaic.TcCoe Idealize.ShloMosaic.Tactic
open Cert.KernelIdeal Cert.KernelIdeal.Gen

/-- Columns the stores so far hold: a block of 256 of the left half, then the same block of the right half. -/
abbrev Done6 (n : ℕ) (y : S1x2048.Idx) : Prop := 2 * ((y 1).val % 1024 / 256) + (y 1).val / 1024 < n

/-- One more store. -/
theorem step6 (T : ℕ → EReal) (L : List (View.Piece (Elt Ideal) S1x2048 .f32)) {n p q h : ℕ} (hq : q < 4) (hh : h < 2) (hp : p = 1024 * h + 256 * q) (hn : n = 2 * q + h)
    (hL : ∀ y, View.canon L y = if Done6 n y then T (y 1).val else 0)
    (inb : ∀ d : Fin 2, (![0, p] : Fin 2 → ℕ) d + (![1, 256] : Fin 2 → ℕ) d ≤ (![1, 2048] : Fin 2 → ℕ) d)
    (w : S1x256.Idx → EReal) (hw : ∀ x, w x = T (p + (x 1).val)) (y : S1x2048.Idx) :
    View.canon (Val := Elt Ideal) (s := S1x2048) (e := .f32) (⟨Rect.unit (s := S1x2048) ![0, p] ![1, 256] inb, w⟩ :: L) y = if Done6 (n + 1) y then T (y 1).val else 0 := by
  have hy0 : (y 0).val < 1 := (y 0).isLt
  have hy1 : (y 1).val < 2048 := (y 1).isLt
  by_cases hm : y ∈ (Rect.unit (s := S1x2048) ![0, p] ![1, 256] inb).set
  · obtain ⟨x, rfl⟩ := (Rect.unit (s := S1x2048) ![0, p] ![1, 256] inb).exists_idx_of_mem hm
    have h1 : ((Rect.unit (s := S1x2048) ![0, p] ![1, 256] inb).emb x 1).val = p + (x 1).val := unit_emb_val (s := S1x2048) ![0, p] ![1, 256] inb x 1
    have hx1 : (x 1).val < 256 := (x 1).isLt
    rw [show (Rect.unit (s := S1x2048) ![0, p] ![1, 256] inb).idx x = (Rect.unit (s := S1x2048) ![0, p] ![1, 256] inb).emb x from rfl]
    have hd : Done6 (n + 1) ((Rect.unit (s := S1x2048) ![0, p] ![1, 256] inb).emb x) := by
      show 2 * (_ % 1024 / 256) + _ / 1024 < n + 1
      rw [h1]; omega
    refine (View.canon_cons_emb (Val := Elt Ideal) (s := S1x2048) (e := .f32) (Rect.unit (s := S1x2048) ![0, p] ![1, 256] inb) w L x).trans ?_
    refine Eq.trans ?_ (if_pos hd).symm
    rw [hw, h1]
  · refine (View.canon_cons_of_not_mem (Val := Elt Ideal) (s := S1x2048) (e := .f32) ⟨Rect.unit (s := S1x2048) ![0, p] ![1, 256] inb, w⟩ L hm).trans ((hL y).trans ?_)
    have hr : ¬(p ≤ (y 1).val ∧ (y 1).val < p + 256) := fun hr =>
      hm (mem_box2 inb y (by omega) (by omega) hr.1 hr.2)
    refine if_congr ?_ rfl rfl
    show _ < _ ↔ _ < _
    omega

/-- The load before a store still reads zeros. -/
theorem load6 {κ : Kind} {sp : Space} (v : View sig κ sp S1x2048 .f32) (T : ℕ → EReal) (L : List (View.Piece (Elt Ideal) S1x2048 .f32)) {n p q h : ℕ} (hq : q < 4) (hh : h < 2) (hp : p = 1024 * h + 256 * q) (hn : n = 2 * q + h)
    (hL : ∀ y, View.canon L y = if Done6 n y then T (y 1).val else 0)
    (inb : ∀ d : Fin 2, (![0, p] : Fin 2 → ℕ) d + (![1, 256] : Fin 2 → ℕ) d ≤ (![1, 2048] : Fin 2 → ℕ) d)
    (x : S1x256.Idx) : v.readCov L (Rect.unit (s := S1x2048) ![0, p] ![1, 256] inb).toLoadRect x = (0 : EReal) := by
  rw [View.readCov_eq_canon']
  have e1 : ((Rect.unit (s := S1x2048) ![0, p] ![1, 256] inb).toLoadRect.idx x 1).val = p + (x 1).val := unit_idx_val (s := S1x2048) ![0, p] ![1, 256] inb x 1
  have hx1 : (x 1).val < 256 := (x 1).isLt
  refine (hL _).trans (if_neg fun h => ?_)
  have h2 : 2 * (_ % 1024 / 256) + _ / 1024 < n := h
  rw [e1] at h2
  omega

/-- The sum of a block's column of `du`. -/
def dbTerm (last : Prop) [Decidable last] (x0 : Vec Ideal S128x1024 .f32) (x1 : Vec Ideal S32x1024 .f32) (x2 : Vec Ideal S128x2048 .f32) (x3 : Vec Ideal S31x1024 .f32) (j : ℕ) : EReal :=
  ∑ r : Fin 128, duAt last x0 x1 x2 x3 r.val j

theorem db_left (last : Prop) [Decidable last] (x0 : Vec Ideal S128x1024 .f32) (x1 : Vec Ideal S32x1024 .f32) (x2 : Vec Ideal S128x2048 .f32) (x3 : Vec Ideal S31x1024 .f32)
    {p c : ℕ} (hp : p + 256 ≤ 1024) (hc : c = p) (x : S1x256.Idx) :
    dbTerm last x0 x1 x2 x3 (p + (x 1).val) = ∑ r : Fin 128, daAt last x0 x1 x2 x3 r.val (c + (x 1).val) := by
  have hx : (x 1).val < 256 := (x 1).isLt
  refine Finset.sum_congr rfl fun r _ => ?_
  rw [duAt, if_pos (by omega), hc]

theorem db_right (last : Prop) [Decidable last] (x0 : Vec Ideal S128x1024 .f32) (x1 : Vec Ideal S32x1024 .f32) (x2 : Vec Ideal S128x2048 .f32) (x3 : Vec Ideal S31x1024 .f32)
    {p c : ℕ} (hp : 1024 ≤ p) (hc : c = p - 1024) (x : S1x256.Idx) :
    dbTerm last x0 x1 x2 x3 (p + (x 1).val) = ∑ r : Fin 128, dgtAt last x0 x1 x2 x3 r.val (c + (x 1).val) := by
  have hx : (x 1).val < 256 := (x 1).isLt
  refine Finset.sum_congr rfl fun r _ => ?_
  rw [duAt, if_neg (by omega), show p + (x 1).val - 1024 = c + (x 1).val by omega]

variable (c : Dev nD) (i : grid0.Coords) (arg1 : Memref sig .tc .vmem S128x1024 .f32) (harg1 : arg1.IsWhole) (arg2 : Memref sig .tc .vmem S32x1024 .f32) (harg2 : arg2.IsWhole) (arg3 : Memref sig .tc .vmem S128x2048 .f32) (harg3 : arg3.IsWhole) (arg4 : Memref sig .tc .vmem S31x1024 .f32) (harg4 : arg4.IsWhole) (arg5 : Memref sig .tc .vmem S128x2048 .bf16) (harg5 : arg5.IsWhole) (arg6 : Memref sig .tc .vmem S32x1024 .f32) (harg6 : arg6.IsWhole) (arg7 : Memref sig .tc .vmem S1x2048 .f32) (harg7 : arg7.IsWhole) (arg8 : Memref sig .tc .vmem S160x1024 .f32) (harg8 : arg8.IsWhole) (arg9 : Memref sig .tc .vmem S7x160x1024 .f32) (harg9 : arg9.IsWhole)
    (x0 : Vec Ideal S128x1024 .f32) (x1 : Vec Ideal S32x1024 .f32) (x2 : Vec Ideal S128x2048 .f32) (x3 : Vec Ideal S31x1024 .f32)

theorem z6_1 (y : S1x2048.Idx) : View.canon (kernelRun0_A.sl.H6_1 (F := Ideal)) y = if Done6 0 y then dbTerm ((i 0).val = 63) x0 x1 x2 x3 (y 1).val else 0 := by
  have e := View.canon_apply_of_pieces (Val := Elt Ideal) (e := .f32) (fun _ : S1x2048.Idx => (0 : EReal)) (kernelRun0_A.sl.H6_1 (F := Ideal)) (by
    unfold kernelRun0_A.sl.H6_1
    simp only [List.forall_mem_cons, List.not_mem_nil, IsEmpty.forall_iff, implies_true, and_true]
    intro x
    unfold k0_pay6
    pointwise) y (by
    unfold kernelRun0_A.sl.H6_1
    have h0 : (y 0).val < 1 := (y 0).isLt
    have h1 : (y 1).val < 2048 := (y 1).isLt
    exact ⟨_, List.mem_cons_self .., mem_box2 inb_S1x2048_S1x2048_0_0 y (by omega) (by omega) (by omega) (by omega)⟩)
  rw [if_neg (Nat.not_lt_zero _)]
  exact e

theorem z6_2 (y : S1x2048.Idx) : View.canon (kernelRun0_A.sl.H6_2 (F := Ideal) c i arg1 harg1 arg2 harg2 arg3 harg3 arg4 harg4 arg7 arg8 arg9 x0 x1 x2 x3) y = if Done6 1 y then dbTerm ((i 0).val = 63) x0 x1 x2 x3 (y 1).val else 0 := by
  unfold kernelRun0_A.sl.H6_2
  refine step6 (dbTerm ((i 0).val = 63) x0 x1 x2 x3) _ (p := 0) (q := 0) (h := 0) (by decide) (by decide) rfl rfl (z6_1 i x0 x1 x2 x3) inb_S1x2048_S1x256_0_0 _ ?_ y
  · intro x
    have e := load6 arg7.view (dbTerm ((i 0).val = 63) x0 x1 x2 x3) (kernelRun0_A.sl.H6_1 (F := Ideal)) (p := 0) (q := 0) (h := 0) (by decide) (by decide) rfl rfl (z6_1 i x0 x1 x2 x3) inb_S1x2048_S1x256_0_0
    rw [db_left (c := 0) _ _ _ _ _ (by decide) (by decide)]
    sl_unfold_run_values
    unfold_payloads
    pointwise
    simp only [e, ld8, ld9, read_box, Nat.reduceAdd, Nat.reduceLeDiff, daAt, dgluAt, gateAt, gate, Finset.sum_range_succ, Finset.sum_range_zero, zero_add, add_zero, ix2_val0, ix2_val1, Nat.reduceSub, row_zero, Fin.val_zero]
    rfl

theorem z6_3 (y : S1x2048.Idx) : View.canon (kernelRun0_A.sl.H6_3 (F := Ideal) c i arg1 harg1 arg2 harg2 arg3 harg3 arg4 harg4 arg7 arg8 arg9 x0 x1 x2 x3) y = if Done6 2 y then dbTerm ((i 0).val = 63) x0 x1 x2 x3 (y 1).val else 0 := by
  unfold kernelRun0_A.sl.H6_3
  refine step6 (dbTerm ((i 0).val = 63) x0 x1 x2 x3) _ (p := 1024) (q := 0) (h := 1) (by decide) (by decide) rfl rfl (z6_2 c i arg1 harg1 arg2 harg2 arg3 harg3 arg4 harg4 arg7 arg8 arg9 x0 x1 x2 x3) inb_S1x2048_S1x256_0_1024 _ ?_ y
  · intro x
    have e := load6 arg7.view (dbTerm ((i 0).val = 63) x0 x1 x2 x3) (kernelRun0_A.sl.H6_2 (F := Ideal) c i arg1 harg1 arg2 harg2 arg3 harg3 arg4 harg4 arg7 arg8 arg9 x0 x1 x2 x3) (p := 1024) (q := 0) (h := 1) (by decide) (by decide) rfl rfl (z6_2 c i arg1 harg1 arg2 harg2 arg3 harg3 arg4 harg4 arg7 arg8 arg9 x0 x1 x2 x3) inb_S1x2048_S1x256_0_1024
    rw [db_right (c := 0) _ _ _ _ _ (by decide) (by decide)]
    sl_unfold_run_values
    unfold_payloads
    pointwise
    simp only [e, ld8, ld9, read_box, Nat.reduceAdd, Nat.reduceLeDiff, dgtAt, dgluAt, gateAt, gate, Finset.sum_range_succ, Finset.sum_range_zero, zero_add, add_zero, ix2_val0, ix2_val1, Nat.reduceSub, row_zero, Fin.val_zero]
    rfl

theorem z6_4 (y : S1x2048.Idx) : View.canon (kernelRun0_A.sl.H6_4 (F := Ideal) c i arg1 harg1 arg2 harg2 arg3 harg3 arg4 harg4 arg7 arg8 arg9 x0 x1 x2 x3) y = if Done6 3 y then dbTerm ((i 0).val = 63) x0 x1 x2 x3 (y 1).val else 0 := by
  unfold kernelRun0_A.sl.H6_4
  refine step6 (dbTerm ((i 0).val = 63) x0 x1 x2 x3) _ (p := 256) (q := 1) (h := 0) (by decide) (by decide) rfl rfl (z6_3 c i arg1 harg1 arg2 harg2 arg3 harg3 arg4 harg4 arg7 arg8 arg9 x0 x1 x2 x3) inb_S1x2048_S1x256_0_256 _ ?_ y
  · intro x
    have e := load6 arg7.view (dbTerm ((i 0).val = 63) x0 x1 x2 x3) (kernelRun0_A.sl.H6_3 (F := Ideal) c i arg1 harg1 arg2 harg2 arg3 harg3 arg4 harg4 arg7 arg8 arg9 x0 x1 x2 x3) (p := 256) (q := 1) (h := 0) (by decide) (by decide) rfl rfl (z6_3 c i arg1 harg1 arg2 harg2 arg3 harg3 arg4 harg4 arg7 arg8 arg9 x0 x1 x2 x3) inb_S1x2048_S1x256_0_256
    rw [db_left (c := 256) _ _ _ _ _ (by decide) (by decide)]
    sl_unfold_run_values
    unfold_payloads
    pointwise
    simp only [e, ld8, ld9, read_box, Nat.reduceAdd, Nat.reduceLeDiff, daAt, dgluAt, gateAt, gate, Finset.sum_range_succ, Finset.sum_range_zero, zero_add, add_zero, ix2_val0, ix2_val1, Nat.reduceSub, row_zero, Fin.val_zero]
    rfl

theorem z6_5 (y : S1x2048.Idx) : View.canon (kernelRun0_A.sl.H6_5 (F := Ideal) c i arg1 harg1 arg2 harg2 arg3 harg3 arg4 harg4 arg7 arg8 arg9 x0 x1 x2 x3) y = if Done6 4 y then dbTerm ((i 0).val = 63) x0 x1 x2 x3 (y 1).val else 0 := by
  unfold kernelRun0_A.sl.H6_5
  refine step6 (dbTerm ((i 0).val = 63) x0 x1 x2 x3) _ (p := 1280) (q := 1) (h := 1) (by decide) (by decide) rfl rfl (z6_4 c i arg1 harg1 arg2 harg2 arg3 harg3 arg4 harg4 arg7 arg8 arg9 x0 x1 x2 x3) inb_S1x2048_S1x256_0_1280 _ ?_ y
  · intro x
    have e := load6 arg7.view (dbTerm ((i 0).val = 63) x0 x1 x2 x3) (kernelRun0_A.sl.H6_4 (F := Ideal) c i arg1 harg1 arg2 harg2 arg3 harg3 arg4 harg4 arg7 arg8 arg9 x0 x1 x2 x3) (p := 1280) (q := 1) (h := 1) (by decide) (by decide) rfl rfl (z6_4 c i arg1 harg1 arg2 harg2 arg3 harg3 arg4 harg4 arg7 arg8 arg9 x0 x1 x2 x3) inb_S1x2048_S1x256_0_1280
    rw [db_right (c := 256) _ _ _ _ _ (by decide) (by decide)]
    sl_unfold_run_values
    unfold_payloads
    pointwise
    simp only [e, ld8, ld9, read_box, Nat.reduceAdd, Nat.reduceLeDiff, dgtAt, dgluAt, gateAt, gate, Finset.sum_range_succ, Finset.sum_range_zero, zero_add, add_zero, ix2_val0, ix2_val1, Nat.reduceSub, row_zero, Fin.val_zero]
    rfl

theorem z6_6 (y : S1x2048.Idx) : View.canon (kernelRun0_A.sl.H6_6 (F := Ideal) c i arg1 harg1 arg2 harg2 arg3 harg3 arg4 harg4 arg7 arg8 arg9 x0 x1 x2 x3) y = if Done6 5 y then dbTerm ((i 0).val = 63) x0 x1 x2 x3 (y 1).val else 0 := by
  unfold kernelRun0_A.sl.H6_6
  refine step6 (dbTerm ((i 0).val = 63) x0 x1 x2 x3) _ (p := 512) (q := 2) (h := 0) (by decide) (by decide) rfl rfl (z6_5 c i arg1 harg1 arg2 harg2 arg3 harg3 arg4 harg4 arg7 arg8 arg9 x0 x1 x2 x3) inb_S1x2048_S1x256_0_512 _ ?_ y
  · intro x
    have e := load6 arg7.view (dbTerm ((i 0).val = 63) x0 x1 x2 x3) (kernelRun0_A.sl.H6_5 (F := Ideal) c i arg1 harg1 arg2 harg2 arg3 harg3 arg4 harg4 arg7 arg8 arg9 x0 x1 x2 x3) (p := 512) (q := 2) (h := 0) (by decide) (by decide) rfl rfl (z6_5 c i arg1 harg1 arg2 harg2 arg3 harg3 arg4 harg4 arg7 arg8 arg9 x0 x1 x2 x3) inb_S1x2048_S1x256_0_512
    rw [db_left (c := 512) _ _ _ _ _ (by decide) (by decide)]
    sl_unfold_run_values
    unfold_payloads
    pointwise
    simp only [e, ld8, ld9, read_box, Nat.reduceAdd, Nat.reduceLeDiff, daAt, dgluAt, gateAt, gate, Finset.sum_range_succ, Finset.sum_range_zero, zero_add, add_zero, ix2_val0, ix2_val1, Nat.reduceSub, row_zero, Fin.val_zero]
    rfl

theorem z6_7 (y : S1x2048.Idx) : View.canon (kernelRun0_A.sl.H6_7 (F := Ideal) c i arg1 harg1 arg2 harg2 arg3 harg3 arg4 harg4 arg7 arg8 arg9 x0 x1 x2 x3) y = if Done6 6 y then dbTerm ((i 0).val = 63) x0 x1 x2 x3 (y 1).val else 0 := by
  unfold kernelRun0_A.sl.H6_7
  refine step6 (dbTerm ((i 0).val = 63) x0 x1 x2 x3) _ (p := 1536) (q := 2) (h := 1) (by decide) (by decide) rfl rfl (z6_6 c i arg1 harg1 arg2 harg2 arg3 harg3 arg4 harg4 arg7 arg8 arg9 x0 x1 x2 x3) inb_S1x2048_S1x256_0_1536 _ ?_ y
  · intro x
    have e := load6 arg7.view (dbTerm ((i 0).val = 63) x0 x1 x2 x3) (kernelRun0_A.sl.H6_6 (F := Ideal) c i arg1 harg1 arg2 harg2 arg3 harg3 arg4 harg4 arg7 arg8 arg9 x0 x1 x2 x3) (p := 1536) (q := 2) (h := 1) (by decide) (by decide) rfl rfl (z6_6 c i arg1 harg1 arg2 harg2 arg3 harg3 arg4 harg4 arg7 arg8 arg9 x0 x1 x2 x3) inb_S1x2048_S1x256_0_1536
    rw [db_right (c := 512) _ _ _ _ _ (by decide) (by decide)]
    sl_unfold_run_values
    unfold_payloads
    pointwise
    simp only [e, ld8, ld9, read_box, Nat.reduceAdd, Nat.reduceLeDiff, dgtAt, dgluAt, gateAt, gate, Finset.sum_range_succ, Finset.sum_range_zero, zero_add, add_zero, ix2_val0, ix2_val1, Nat.reduceSub, row_zero, Fin.val_zero]
    rfl

theorem z6_8 (y : S1x2048.Idx) : View.canon (kernelRun0_A.sl.H6_8 (F := Ideal) c i arg1 harg1 arg2 harg2 arg3 harg3 arg4 harg4 arg7 arg8 arg9 x0 x1 x2 x3) y = if Done6 7 y then dbTerm ((i 0).val = 63) x0 x1 x2 x3 (y 1).val else 0 := by
  unfold kernelRun0_A.sl.H6_8
  refine step6 (dbTerm ((i 0).val = 63) x0 x1 x2 x3) _ (p := 768) (q := 3) (h := 0) (by decide) (by decide) rfl rfl (z6_7 c i arg1 harg1 arg2 harg2 arg3 harg3 arg4 harg4 arg7 arg8 arg9 x0 x1 x2 x3) inb_S1x2048_S1x256_0_768 _ ?_ y
  · intro x
    have e := load6 arg7.view (dbTerm ((i 0).val = 63) x0 x1 x2 x3) (kernelRun0_A.sl.H6_7 (F := Ideal) c i arg1 harg1 arg2 harg2 arg3 harg3 arg4 harg4 arg7 arg8 arg9 x0 x1 x2 x3) (p := 768) (q := 3) (h := 0) (by decide) (by decide) rfl rfl (z6_7 c i arg1 harg1 arg2 harg2 arg3 harg3 arg4 harg4 arg7 arg8 arg9 x0 x1 x2 x3) inb_S1x2048_S1x256_0_768
    rw [db_left (c := 768) _ _ _ _ _ (by decide) (by decide)]
    sl_unfold_run_values
    unfold_payloads
    pointwise
    simp only [e, ld8, ld9, read_box, Nat.reduceAdd, Nat.reduceLeDiff, daAt, dgluAt, gateAt, gate, Finset.sum_range_succ, Finset.sum_range_zero, zero_add, add_zero, ix2_val0, ix2_val1, Nat.reduceSub, row_zero, Fin.val_zero]
    rfl

set_option maxHeartbeats 8000000 in
theorem db_block (hc0) (y : S1x2048.Idx) :
    out0_A_6 (F := Ideal) c i arg1 harg1 arg2 harg2 arg3 harg3 arg4 harg4 arg5 harg5 arg6 harg6 arg7 harg7 arg8 harg8 arg9 harg9 hc0 x0 x1 x2 x3 y = ∑ r : Fin 128, duAt ((i 0).val = 63) x0 x1 x2 x3 r.val (y 1).val := by
  have hy1 : (y 1).val < 2048 := (y 1).isLt
  unfold out0_A_6
  rw [View.read_writes_junk_eq_canon]
  unfold kernelRun0_A
  dsimp only
  refine (step6 (dbTerm ((i 0).val = 63) x0 x1 x2 x3) _ (p := 1792) (q := 3) (h := 1) (by decide) (by decide) rfl rfl (z6_8 c i arg1 harg1 arg2 harg2 arg3 harg3 arg4 harg4 arg7 arg8 arg9 x0 x1 x2 x3) inb_S1x2048_S1x256_0_1792 _ ?_ y).trans
    (if_pos (by show _ < _; omega))
  · intro x
    have e := load6 arg7.view (dbTerm ((i 0).val = 63) x0 x1 x2 x3) (kernelRun0_A.sl.H6_8 (F := Ideal) c i arg1 harg1 arg2 harg2 arg3 harg3 arg4 harg4 arg7 arg8 arg9 x0 x1 x2 x3) (p := 1792) (q := 3) (h := 1) (by decide) (by decide) rfl rfl (z6_8 c i arg1 harg1 arg2 harg2 arg3 harg3 arg4 harg4 arg7 arg8 arg9 x0 x1 x2 x3) inb_S1x2048_S1x256_0_1792
    rw [db_right (c := 768) _ _ _ _ _ (by decide) (by decide)]
    sl_unfold_run_values
    unfold_payloads
    pointwise
    simp only [e, ld8, ld9, read_box, Nat.reduceAdd, Nat.reduceLeDiff, dgtAt, dgluAt, gateAt, gate, Finset.sum_range_succ, Finset.sum_range_zero, zero_add, add_zero, ix2_val0, ix2_val1, Nat.reduceSub, row_zero, Fin.val_zero]
    rfl

end Cert.Conv.RunA
-- ==== Proof.ConvScratchB.lean ====
/-
  B: the scratch buffers a grid point fills, and its loads from them.
-/
module

public import proofs.«01_k».proof.Proof.ConvBase

@[expose] public section

set_option maxRecDepth 16384

noncomputable section

namespace Cert.Conv.RunB

open Idealize.ShloMosaic Idealize.ShloMosaic.TcCoe Idealize.ShloMosaic.Tactic
open Cert.KernelIdeal Cert.KernelIdeal.Gen

variable (c : Dev nD) (i : grid0.Coords) (arg1 : Memref sig .tc .vmem S128x1024 .f32) (harg1 : arg1.IsWhole) (arg2 : Memref sig .tc .vmem S32x1024 .f32) (harg2 : arg2.IsWhole) (arg3 : Memref sig .tc .vmem S128x2048 .f32) (harg3 : arg3.IsWhole) (arg8 : Memref sig .tc .vmem S160x1024 .f32) (arg9 : Memref sig .tc .vmem S7x160x1024 .f32)
    (x0 : Vec Ideal S128x1024 .f32) (x1 : Vec Ideal S32x1024 .f32) (x2 : Vec Ideal S128x2048 .f32)

/-- The rows a grid point keeps. -/
theorem canon8 (y : S160x1024.Idx) :
    View.canon (kernelRun0_B.sl.HS0_2 (F := Ideal) c i arg1 harg1 arg2 harg2 x0 x1) y
      = rowsAt ((i 0).val = 63) x0 x1 (y 0).val (y 1).val := by
  refine View.canon_apply_of_pieces (Val := Elt Ideal) (e := .f32) (fun y : S160x1024.Idx => rowsAt ((i 0).val = 63) x0 x1 (y 0).val (y 1).val) _ ?_ y ?_
  · unfold kernelRun0_B.sl.HS0_2
    simp only [List.forall_mem_cons, List.not_mem_nil, IsEmpty.forall_iff, implies_true, and_true]
    refine ⟨fun x => ?_, fun x => ?_⟩
    · have h0 : ((Rect.unit (s := S160x1024) ![128, 0] S32x1024.size inb_S160x1024_S32x1024_128_0).emb x 0).val = 128 + (x 0).val := unit_emb_val _ _ _ x 0
      have h1 : ((Rect.unit (s := S160x1024) ![128, 0] S32x1024.size inb_S160x1024_S32x1024_128_0).emb x 1).val = 0 + (x 1).val := unit_emb_val _ _ _ x 1
      rw [h0, h1, rowsAt, if_neg (by omega)]
      unfold k0_pay11
      pointwise
      have hi : (i 0).val < 64 := (i 0).isLt
      by_cases h : (i 0).val = 63
      · rw [if_pos h, h]; rfl
      · rw [if_neg h]
        refine (WordCmp.select_of_eq_zero ?_ _ _).trans ((read_box arg2 harg2 x1 inb_S32x1024_S32x1024_0_0 x).trans (by rw [Nat.zero_add, Nat.zero_add]))
        show IntOp.cmpi .eq (BitVec.ofNat 32 (i 0).val) (BitVec.ofNat 32 63) = 0#1
        rw [WordCmp.cmpi_eq_ofNat_eq_zero_iff (by omega) (by omega)]; exact h
    · have h0 : ((Rect.unit (s := S160x1024) ![0, 0] S128x1024.size inb_S160x1024_S128x1024_0_0).emb x 0).val = 0 + (x 0).val := unit_emb_val _ _ _ x 0
      have h1 : ((Rect.unit (s := S160x1024) ![0, 0] S128x1024.size inb_S160x1024_S128x1024_0_0).emb x 1).val = 0 + (x 1).val := unit_emb_val _ _ _ x 1
      have hx : (x 0).val < 128 := (x 0).isLt
      rw [h0, h1, rowsAt, if_pos (by omega), ← read_box arg1 harg1 x0 inb_S128x1024_S128x1024_0_0 x]
      unfold k0_pay10
      pointwise
  · unfold kernelRun0_B.sl.HS0_2
    have h0 : (y 0).val < 160 := (y 0).isLt
    have h1 : (y 1).val < 1024 := (y 1).isLt
    by_cases h : (y 0).val < 128
    · exact ⟨_, List.mem_cons_of_mem _ (List.mem_cons_self ..), mem_box2 inb_S160x1024_S128x1024_0_0 y (by omega) (by omega) (by omega) (by omega)⟩
    · exact ⟨_, List.mem_cons_self .., mem_box2 inb_S160x1024_S32x1024_128_0 y (by omega) (by omega) (by omega) (by omega)⟩

/-- One shifted copy: the row below by one more than its number. -/
theorem plane9 {p : ℕ} (inb : ∀ d : Fin 2, (![p + 1, 0] : Fin 2 → ℕ) d + (![152, 1024] : Fin 2 → ℕ) d ≤ (![160, 1024] : Fin 2 → ℕ) d)
    (inb' : ∀ d : Fin 3, (![p, 0, 0] : Fin 3 → ℕ) d + (![1, 152, 1024] : Fin 3 → ℕ) d ≤ (![7, 160, 1024] : Fin 3 → ℕ) d)
    (hc : S152x1024.ShapeCasts S1x152x1024) (x : S1x152x1024.Idx) :
    shapeCast S1x152x1024 (arg8.view.readCov (kernelRun0_B.sl.HS0_2 (F := Ideal) c i arg1 harg1 arg2 harg2 x0 x1)
        (Rect.unit (s := S160x1024) ![p + 1, 0] ![152, 1024] inb).toLoadRect) hc x
      = rowsAt ((i 0).val = 63) x0 x1
          (((Rect.unit (s := S7x160x1024) ![p, 0, 0] ![1, 152, 1024] inb').emb x 1).val + ((Rect.unit (s := S7x160x1024) ![p, 0, 0] ![1, 152, 1024] inb').emb x 0).val + 1)
          ((Rect.unit (s := S7x160x1024) ![p, 0, 0] ![1, 152, 1024] inb').emb x 2).val := by
  have h0 : ((Rect.unit (s := S7x160x1024) ![p, 0, 0] ![1, 152, 1024] inb').emb x 0).val = p + (x 0).val := unit_emb_val (s := S7x160x1024) ![p, 0, 0] ![1, 152, 1024] inb' x 0
  have h1 : ((Rect.unit (s := S7x160x1024) ![p, 0, 0] ![1, 152, 1024] inb').emb x 1).val = 0 + (x 1).val := unit_emb_val (s := S7x160x1024) ![p, 0, 0] ![1, 152, 1024] inb' x 1
  have h2 : ((Rect.unit (s := S7x160x1024) ![p, 0, 0] ![1, 152, 1024] inb').emb x 2).val = 0 + (x 2).val := unit_emb_val (s := S7x160x1024) ![p, 0, 0] ![1, 152, 1024] inb' x 2
  have hx : (x 0).val < 1 := (x 0).isLt
  rw [h0, h1, h2]
  rw [shapeCast_addUnit_apply ![152, 1024], View.readCov_eq_canon']
  have e0 : (((Rect.unit (s := S160x1024) ![p + 1, 0] ![152, 1024] inb).toLoadRect.idx fun a : Fin 2 => x a.succ) 0).val = (p + 1) + (x 1).val :=
    unit_idx_val (s := S160x1024) ![p + 1, 0] ![152, 1024] inb (fun a : Fin 2 => x a.succ) 0
  have e1 : (((Rect.unit (s := S160x1024) ![p + 1, 0] ![152, 1024] inb).toLoadRect.idx fun a : Fin 2 => x a.succ) 1).val = 0 + (x 2).val :=
    unit_idx_val (s := S160x1024) ![p + 1, 0] ![152, 1024] inb (fun a : Fin 2 => x a.succ) 1
  refine (canon8 c i arg1 harg1 arg2 harg2 x0 x1 _).trans ?_
  rw [e0, e1, show p + 1 + (x 1).val = 0 + (x 1).val + (p + (x 0).val) + 1 by omega]

/-- The shifted copies. -/
theorem canon9 (y : S7x160x1024.Idx) (hy : (y 1).val < 152) :
    View.canon (kernelRun0_B.sl.HS1_7 (F := Ideal) c i arg1 harg1 arg2 harg2 arg8 x0 x1) y
      = rowsAt ((i 0).val = 63) x0 x1 ((y 1).val + (y 0).val + 1) (y 2).val := by
  refine View.canon_apply_of_pieces (Val := Elt Ideal) (e := .f32) (fun y : S7x160x1024.Idx => rowsAt ((i 0).val = 63) x0 x1 ((y 1).val + (y 0).val + 1) (y 2).val) _ ?_ y ?_
  · unfold kernelRun0_B.sl.HS1_7
    simp only [List.forall_mem_cons, List.not_mem_nil, IsEmpty.forall_iff, implies_true, and_true]
    refine ⟨fun x => ?_, fun x => ?_, fun x => ?_, fun x => ?_, fun x => ?_, fun x => ?_, fun x => ?_⟩
    · unfold k0_pay18 kernelRun0_B.sl.v49
      exact plane9 c i arg1 harg1 arg2 harg2 arg8 x0 x1 (p := 6) inb_S160x1024_S152x1024_7_0 inb_S7x160x1024_S1x152x1024_6_0_0 shapeCasts_S152x1024_S1x152x1024 x
    · unfold k0_pay17 kernelRun0_B.sl.v45
      exact plane9 c i arg1 harg1 arg2 harg2 arg8 x0 x1 (p := 5) inb_S160x1024_S152x1024_6_0 inb_S7x160x1024_S1x152x1024_5_0_0 shapeCasts_S152x1024_S1x152x1024 x
    · unfold k0_pay16 kernelRun0_B.sl.v41
      exact plane9 c i arg1 harg1 arg2 harg2 arg8 x0 x1 (p := 4) inb_S160x1024_S152x1024_5_0 inb_S7x160x1024_S1x152x1024_4_0_0 shapeCasts_S152x1024_S1x152x1024 x
    · unfold k0_pay15 kernelRun0_B.sl.v37
      exact plane9 c i arg1 harg1 arg2 harg2 arg8 x0 x1 (p := 3) inb_S160x1024_S152x1024_4_0 inb_S7x160x1024_S1x152x1024_3_0_0 shapeCasts_S152x1024_S1x152x1024 x
    · unfold k0_pay14 kernelRun0_B.sl.v33
      exact plane9 c i arg1 harg1 arg2 harg2 arg8 x0 x1 (p := 2) inb_S160x1024_S152x1024_3_0 inb_S7x160x1024_S1x152x1024_2_0_0 shapeCasts_S152x1024_S1x152x1024 x
    · unfold k0_pay13 kernelRun0_B.sl.v29
      exact plane9 c i arg1 harg1 arg2 harg2 arg8 x0 x1 (p := 1) inb_S160x1024_S152x1024_2_0 inb_S7x160x1024_S1x152x1024_1_0_0 shapeCasts_S152x1024_S1x152x1024 x
    · unfold k0_pay12 kernelRun0_B.sl.v25
      exact plane9 c i arg1 harg1 arg2 harg2 arg8 x0 x1 (p := 0) inb_S160x1024_S152x1024_1_0 inb_S7x160x1024_S1x152x1024_0_0_0 shapeCasts_S152x1024_S1x152x1024 x
  · unfold kernelRun0_B.sl.HS1_7
    have h0 : (y 0).val < 7 := (y 0).isLt
    have h2 : (y 2).val < 1024 := (y 2).isLt
    have hp : (y 0).val = 0 ∨ (y 0).val = 1 ∨ (y 0).val = 2 ∨ (y 0).val = 3 ∨ (y 0).val = 4 ∨ (y 0).val = 5 ∨ (y 0).val = 6 := by omega
    rcases hp with hp | hp | hp | hp | hp | hp | hp
    · exact ⟨_, List.mem_cons_of_mem _ (List.mem_cons_of_mem _ (List.mem_cons_of_mem _ (List.mem_cons_of_mem _ (List.mem_cons_of_mem _ (List.mem_cons_of_mem _ (List.mem_cons_self ..)))))), mem_box3 inb_S7x160x1024_S1x152x1024_0_0_0 y (by omega) (by omega) (by omega) (by omega) (by omega) (by omega)⟩
    · exact ⟨_, List.mem_cons_of_mem _ (List.mem_cons_of_mem _ (List.mem_cons_of_mem _ (List.mem_cons_of_mem _ (List.mem_cons_of_mem _ (List.mem_cons_self ..))))), mem_box3 inb_S7x160x1024_S1x152x1024_1_0_0 y (by omega) (by omega) (by omega) (by omega) (by omega) (by omega)⟩
    · exact ⟨_, List.mem_cons_of_mem _ (List.mem_cons_of_mem _ (List.mem_cons_of_mem _ (List.mem_cons_of_mem _ (List.mem_cons_self ..)))), mem_box3 inb_S7x160x1024_S1x152x1024_2_0_0 y (by omega) (by omega) (by omega) (by omega) (by omega) (by omega)⟩
    · exact ⟨_, List.mem_cons_of_mem _ (List.mem_cons_of_mem _ (List.mem_cons_of_mem _ (List.mem_cons_self ..))), mem_box3 inb_S7x160x1024_S1x152x1024_3_0_0 y (by omega) (by omega) (by omega) (by omega) (by omega) (by omega)⟩
    · exact ⟨_, List.mem_cons_of_mem _ (List.mem_cons_of_mem _ (List.mem_cons_self ..)), mem_box3 inb_S7x160x1024_S1x152x1024_4_0_0 y (by omega) (by omega) (by omega) (by omega) (by omega) (by omega)⟩
    · exact ⟨_, List.mem_cons_of_mem _ (List.mem_cons_self ..), mem_box3 inb_S7x160x1024_S1x152x1024_5_0_0 y (by omega) (by omega) (by omega) (by omega) (by omega) (by omega)⟩
    · exact ⟨_, List.mem_cons_self .., mem_box3 inb_S7x160x1024_S1x152x1024_6_0_0 y (by omega) (by omega) (by omega) (by omega) (by omega) (by omega)⟩

/-- A load of a box of the kept rows. -/
theorem ld8 {o j a b : ℕ} (inb : ∀ d : Fin 2, (![o, j] : Fin 2 → ℕ) d + (![a, b] : Fin 2 → ℕ) d ≤ (![160, 1024] : Fin 2 → ℕ) d)
    (y : (⟨2, ![a, b]⟩ : Shape).Idx) :
    arg8.view.readCov (kernelRun0_B.sl.HS0_2 (F := Ideal) c i arg1 harg1 arg2 harg2 x0 x1)
        (Rect.unit (s := S160x1024) ![o, j] ![a, b] inb).toLoadRect y
      = rowsAt ((i 0).val = 63) x0 x1 (o + (y 0).val) (j + (y 1).val) := by
  rw [View.readCov_eq_canon']
  have e0 : ((Rect.unit (s := S160x1024) ![o, j] ![a, b] inb).toLoadRect.idx y 0).val = o + (y 0).val :=
    unit_idx_val (s := S160x1024) ![o, j] ![a, b] inb y 0
  have e1 : ((Rect.unit (s := S160x1024) ![o, j] ![a, b] inb).toLoadRect.idx y 1).val = j + (y 1).val :=
    unit_idx_val (s := S160x1024) ![o, j] ![a, b] inb y 1
  refine (canon8 c i arg1 harg1 arg2 harg2 x0 x1 _).trans ?_
  rw [e0, e1]

/-- A load of a box of one shifted copy. -/
theorem ld9 {p o j a b : ℕ}
    (inb : ∀ d : Fin 3, (![p, 0, 0] : Fin 3 → ℕ) d + (![1, 160, 1024] : Fin 3 → ℕ) d ≤ (![7, 160, 1024] : Fin 3 → ℕ) d)
    (inb' : ∀ d : Fin 2, (![o, j] : Fin 2 → ℕ) d + (![a, b] : Fin 2 → ℕ) d ≤ (![160, 1024] : Fin 2 → ℕ) d)
    (y : (⟨2, ![a, b]⟩ : Shape).Idx) (ho : o + a ≤ 152) :
    LoadRect.valAlong (s₀ := (Rect.unit (s := S7x160x1024) ![p, 0, 0] ![1, 160, 1024] inb).toLoadRect.shape)
      (lr := (Rect.unit (s := S160x1024) ![o, j] ![a, b] inb').toLoadRect)
      (LR := LoadRect.consLift (n := 2) (d := ![160, 1024]) (Rect.unit (s := S160x1024) ![o, j] ![a, b] inb').toLoadRect
        ![1, 160, 1024] (by decide) (by decide))
      (LoadRect.numel_consLift (n := 2) (d := ![160, 1024]) (Rect.unit (s := S160x1024) ![o, j] ![a, b] inb').toLoadRect
        ![1, 160, 1024] (by decide) (by decide))
      (arg9.view.readCov (kernelRun0_B.sl.HS1_7 (F := Ideal) c i arg1 harg1 arg2 harg2 arg8 x0 x1)
        ((Rect.unit (s := S7x160x1024) ![p, 0, 0] ![1, 160, 1024] inb).withinL
      (LoadRect.consLift (n := 2) (d := ![160, 1024]) (Rect.unit (s := S160x1024) ![o, j] ![a, b] inb').toLoadRect
        ![1, 160, 1024] (by decide) (by decide)) (fun _ => rfl))) y
      = rowsAt ((i 0).val = 63) x0 x1 (o + p + 1 + (y 0).val) (j + (y 1).val) := by
  have hp : p + 1 ≤ 7 := inb 0
  have hj : j + b ≤ 1024 := inb' 1
  have hy0 : (y 0).val < a := (y 0).isLt
  have hy1 : (y 1).val < b := (y 1).isLt
  refine (valAlong_plane arg9.view _ inb inb' (by decide) (by decide) (fun _ => rfl) _ y (by omega) (by omega) (by omega)).trans ?_
  refine (canon9 c i arg1 harg1 arg2 harg2 arg8 x0 x1 _ (show o + (y 0).val < 152 by omega)).trans ?_
  show rowsAt _ x0 x1 (o + (y 0).val + p + 1) (j + (y 1).val) = _
  rw [show o + (y 0).val + p + 1 = o + p + 1 + (y 0).val by omega]

end Cert.Conv.RunB
-- ==== Proof.ConvDuB.lean ====
/-
  B: what a grid point stores of the gradient of the gate's operand.
-/
module

public import proofs.«01_k».proof.Proof.ConvScratchB
public import Idealize.ShloMosaic.Lib.Tactic.RunNames

@[expose] public section

set_option maxRecDepth 16384

noncomputable section

namespace Cert.Conv.RunB

open Idealize.ShloMosaic Idealize.ShloMosaic.TcCoe Idealize.ShloMosaic.Tactic
open Cert.KernelIdeal Cert.KernelIdeal.Gen

theorem ix2_val0 {n m : ℕ} (a : Fin n) (b : Fin m) : (ix2 a b 0).val = a.val := rfl
theorem ix2_val1 {n m : ℕ} (a : Fin n) (b : Fin m) : (ix2 a b 1).val = b.val := rfl

theorem du_block (c : Dev nD) (i : grid0.Coords) (arg1 : Memref sig .tc .vmem S128x1024 .f32) (harg1 : arg1.IsWhole) (arg2 : Memref sig .tc .vmem S32x1024 .f32) (harg2 : arg2.IsWhole) (arg3 : Memref sig .tc .vmem S128x2048 .f32) (harg3 : arg3.IsWhole) (arg4 : Memref sig .tc .vmem S31x1024 .f32) (harg4 : arg4.IsWhole) (arg5 : Memref sig .tc .vmem S128x2048 .bf16) (harg5 : arg5.IsWhole) (arg6 : Memref sig .tc .vmem S32x1024 .f32) (harg6 : arg6.IsWhole) (arg7 : Memref sig .tc .vmem S1x2048 .f32) (harg7 : arg7.IsWhole) (arg8 : Memref sig .tc .vmem S160x1024 .f32) (harg8 : arg8.IsWhole) (arg9 : Memref sig .tc .vmem S7x160x1024 .f32) (harg9 : arg9.IsWhole) (hc0)
    (x0 : Vec Ideal S128x1024 .f32) (x1 : Vec Ideal S32x1024 .f32) (x2 : Vec Ideal S128x2048 .f32) (x3 : Vec Ideal S31x1024 .f32) (xo5 : Vec Ideal S32x1024 .f32) (xo6 : Vec Ideal S1x2048 .f32) (y : S128x2048.Idx) :
    out0_B_4 (F := Ideal) c i arg1 harg1 arg2 harg2 arg3 harg3 arg4 harg4 arg5 harg5 arg6 harg6 arg7 harg7 arg8 harg8 arg9 harg9 hc0 x0 x1 x2 x3 xo5 xo6 y
      = duAt ((i 0).val = 63) x0 x1 x2 x3 (y 0).val (y 1).val := by
  unfold out0_B_4
  rw [View.read_writes_junk_eq_canon]
  refine View.canon_apply_of_pieces (Val := Elt Ideal) (e := .bf16) (fun y : S128x2048.Idx => duAt ((i 0).val = 63) x0 x1 x2 x3 (y 0).val (y 1).val) _ ?_ y
    (cover0_B_4 (F := Ideal) c i arg1 harg1 arg2 harg2 arg3 harg3 arg4 harg4 arg5 harg5 arg6 harg6 arg7 harg7 arg8 harg8 arg9 harg9 hc0 x0 x1 x2 x3 xo5 xo6 y)
  unfold kernelRun0_B
  dsimp only
  simp only [List.forall_mem_cons, List.not_mem_nil, IsEmpty.forall_iff, implies_true, and_true]
  refine ⟨fun x => ?_, fun x => ?_, fun x => ?_, fun x => ?_, fun x => ?_, fun x => ?_, fun x => ?_, fun x => ?_⟩
  · have h0 : ((Rect.unit (s := S128x2048) ![0, 1792] S128x256.size inb_S128x2048_S128x256_0_1792).emb x 0).val = 0 + (x 0).val := unit_emb_val _ _ _ x 0
    have h1 : ((Rect.unit (s := S128x2048) ![0, 1792] S128x256.size inb_S128x2048_S128x256_0_1792).emb x 1).val = 1792 + (x 1).val := unit_emb_val _ _ _ x 1
    have hx : (x 1).val < 256 := (x 1).isLt
    rw [h0, h1, duAt, if_neg (by omega), show 1792 + (x 1).val - 1024 = 768 + (x 1).val by omega]
    sl_unfold_run_values
    unfold_payloads
    pointwise
    simp only [ld8, ld9, read_box, Nat.reduceAdd, Nat.reduceLeDiff, dgtAt, dgluAt, gateAt, gate, Finset.sum_range_succ, Finset.sum_range_zero, zero_add, add_zero, ix2_val0, ix2_val1, Nat.reduceSub, Fin.val_zero]
    rfl
  · have h0 : ((Rect.unit (s := S128x2048) ![0, 768] S128x256.size inb_S128x2048_S128x256_0_768).emb x 0).val = 0 + (x 0).val := unit_emb_val _ _ _ x 0
    have h1 : ((Rect.unit (s := S128x2048) ![0, 768] S128x256.size inb_S128x2048_S128x256_0_768).emb x 1).val = 768 + (x 1).val := unit_emb_val _ _ _ x 1
    have hx : (x 1).val < 256 := (x 1).isLt
    rw [h0, h1, duAt, if_pos (by omega)]
    sl_unfold_run_values
    unfold_payloads
    pointwise
    simp only [ld8, ld9, read_box, Nat.reduceAdd, Nat.reduceLeDiff, daAt, dgluAt, gateAt, gate, Finset.sum_range_succ, Finset.sum_range_zero, zero_add, add_zero, ix2_val0, ix2_val1, Nat.reduceSub, Fin.val_zero]
    rfl
  · have h0 : ((Rect.unit (s := S128x2048) ![0, 1536] S128x256.size inb_S128x2048_S128x256_0_1536).emb x 0).val = 0 + (x 0).val := unit_emb_val _ _ _ x 0
    have h1 : ((Rect.unit (s := S128x2048) ![0, 1536] S128x256.size inb_S128x2048_S128x256_0_1536).emb x 1).val = 1536 + (x 1).val := unit_emb_val _ _ _ x 1
    have hx : (x 1).val < 256 := (x 1).isLt
    rw [h0, h1, duAt, if_neg (by omega), show 1536 + (x 1).val - 1024 = 512 + (x 1).val by omega]
    sl_unfold_run_values
    unfold_payloads
    pointwise
    simp only [ld8, ld9, read_box, Nat.reduceAdd, Nat.reduceLeDiff, dgtAt, dgluAt, gateAt, gate, Finset.sum_range_succ, Finset.sum_range_zero, zero_add, add_zero, ix2_val0, ix2_val1, Nat.reduceSub, Fin.val_zero]
    rfl
  · have h0 : ((Rect.unit (s := S128x2048) ![0, 512] S128x256.size inb_S128x2048_S128x256_0_512).emb x 0).val = 0 + (x 0).val := unit_emb_val _ _ _ x 0
    have h1 : ((Rect.unit (s := S128x2048) ![0, 512] S128x256.size inb_S128x2048_S128x256_0_512).emb x 1).val = 512 + (x 1).val := unit_emb_val _ _ _ x 1
    have hx : (x 1).val < 256 := (x 1).isLt
    rw [h0, h1, duAt, if_pos (by omega)]
    sl_unfold_run_values
    unfold_payloads
    pointwise
    simp only [ld8, ld9, read_box, Nat.reduceAdd, Nat.reduceLeDiff, daAt, dgluAt, gateAt, gate, Finset.sum_range_succ, Finset.sum_range_zero, zero_add, add_zero, ix2_val0, ix2_val1, Nat.reduceSub, Fin.val_zero]
    rfl
  · have h0 : ((Rect.unit (s := S128x2048) ![0, 1280] S128x256.size inb_S128x2048_S128x256_0_1280).emb x 0).val = 0 + (x 0).val := unit_emb_val _ _ _ x 0
    have h1 : ((Rect.unit (s := S128x2048) ![0, 1280] S128x256.size inb_S128x2048_S128x256_0_1280).emb x 1).val = 1280 + (x 1).val := unit_emb_val _ _ _ x 1
    have hx : (x 1).val < 256 := (x 1).isLt
    rw [h0, h1, duAt, if_neg (by omega), show 1280 + (x 1).val - 1024 = 256 + (x 1).val by omega]
    sl_unfold_run_values
    unfold_payloads
    pointwise
    simp only [ld8, ld9, read_box, Nat.reduceAdd, Nat.reduceLeDiff, dgtAt, dgluAt, gateAt, gate, Finset.sum_range_succ, Finset.sum_range_zero, zero_add, add_zero, ix2_val0, ix2_val1, Nat.reduceSub, Fin.val_zero]
    rfl
  · have h0 : ((Rect.unit (s := S128x2048) ![0, 256] S128x256.size inb_S128x2048_S128x256_0_256).emb x 0).val = 0 + (x 0).val := unit_emb_val _ _ _ x 0
    have h1 : ((Rect.unit (s := S128x2048) ![0, 256] S128x256.size inb_S128x2048_S128x256_0_256).emb x 1).val = 256 + (x 1).val := unit_emb_val _ _ _ x 1
    have hx : (x 1).val < 256 := (x 1).isLt
    rw [h0, h1, duAt, if_pos (by omega)]
    sl_unfold_run_values
    unfold_payloads
    pointwise
    simp only [ld8, ld9, read_box, Nat.reduceAdd, Nat.reduceLeDiff, daAt, dgluAt, gateAt, gate, Finset.sum_range_succ, Finset.sum_range_zero, zero_add, add_zero, ix2_val0, ix2_val1, Nat.reduceSub, Fin.val_zero]
    rfl
  · have h0 : ((Rect.unit (s := S128x2048) ![0, 1024] S128x256.size inb_S128x2048_S128x256_0_1024).emb x 0).val = 0 + (x 0).val := unit_emb_val _ _ _ x 0
    have h1 : ((Rect.unit (s := S128x2048) ![0, 1024] S128x256.size inb_S128x2048_S128x256_0_1024).emb x 1).val = 1024 + (x 1).val := unit_emb_val _ _ _ x 1
    have hx : (x 1).val < 256 := (x 1).isLt
    rw [h0, h1, duAt, if_neg (by omega), show 1024 + (x 1).val - 1024 = 0 + (x 1).val by omega]
    sl_unfold_run_values
    unfold_payloads
    pointwise
    simp only [ld8, ld9, read_box, Nat.reduceAdd, Nat.reduceLeDiff, dgtAt, dgluAt, gateAt, gate, Finset.sum_range_succ, Finset.sum_range_zero, zero_add, add_zero, ix2_val0, ix2_val1, Nat.reduceSub, Fin.val_zero]
    rfl
  · have h0 : ((Rect.unit (s := S128x2048) ![0, 0] S128x256.size inb_S128x2048_S128x256_0_0).emb x 0).val = 0 + (x 0).val := unit_emb_val _ _ _ x 0
    have h1 : ((Rect.unit (s := S128x2048) ![0, 0] S128x256.size inb_S128x2048_S128x256_0_0).emb x 1).val = 0 + (x 1).val := unit_emb_val _ _ _ x 1
    have hx : (x 1).val < 256 := (x 1).isLt
    rw [h0, h1, duAt, if_pos (by omega)]
    sl_unfold_run_values
    unfold_payloads
    pointwise
    simp only [ld8, ld9, read_box, Nat.reduceAdd, Nat.reduceLeDiff, daAt, dgluAt, gateAt, gate, Finset.sum_range_succ, Finset.sum_range_zero, zero_add, add_zero, ix2_val0, ix2_val1, Nat.reduceSub, Fin.val_zero]
    rfl

end Cert.Conv.RunB
-- ==== Proof.ConvDwB.lean ====
/-
  B: what a grid point adds to the gradient of the taps.
-/
module

public import proofs.«01_k».proof.Proof.ConvDuB
public import Idealize.ShloMosaic.Lib.Tactic.RunNames

@[expose] public section

set_option maxRecDepth 16384

noncomputable section

namespace Cert.Conv.RunB

open Idealize.ShloMosaic Idealize.ShloMosaic.TcCoe Idealize.ShloMosaic.Tactic
open Cert.KernelIdeal Cert.KernelIdeal.Gen

/-- The expected contents over one row's store. -/
theorem dw_emb (T : ℕ → ℕ → EReal) {k p : ℕ} (hk : k < 31) (xo5 : Vec Ideal S32x1024 .f32)
    (inb : ∀ d : Fin 2, (![k, p] : Fin 2 → ℕ) d + (![1, 256] : Fin 2 → ℕ) d ≤ (![32, 1024] : Fin 2 → ℕ) d)
    (x : S1x256.Idx) :
    (if ((Rect.unit (s := S32x1024) ![k, p] ![1, 256] inb).emb x 0).val < 31 then
        at2 xo5 ((Rect.unit (s := S32x1024) ![k, p] ![1, 256] inb).emb x 0).val ((Rect.unit (s := S32x1024) ![k, p] ![1, 256] inb).emb x 1).val
          + T ((Rect.unit (s := S32x1024) ![k, p] ![1, 256] inb).emb x 0).val ((Rect.unit (s := S32x1024) ![k, p] ![1, 256] inb).emb x 1).val
      else at2 xo5 ((Rect.unit (s := S32x1024) ![k, p] ![1, 256] inb).emb x 0).val ((Rect.unit (s := S32x1024) ![k, p] ![1, 256] inb).emb x 1).val)
      = at2 xo5 k (p + (x 1).val) + T k (p + (x 1).val) := by
  have h0 : ((Rect.unit (s := S32x1024) ![k, p] ![1, 256] inb).emb x 0).val = k + (x 0).val := unit_emb_val (s := S32x1024) ![k, p] ![1, 256] inb x 0
  have h1 : ((Rect.unit (s := S32x1024) ![k, p] ![1, 256] inb).emb x 1).val = p + (x 1).val := unit_emb_val (s := S32x1024) ![k, p] ![1, 256] inb x 1
  have hx : (x 0).val < 1 := (x 0).isLt
  have hk' : k + (x 0).val = k := by omega
  rw [h0, h1, hk', if_pos hk]

theorem row_zero (x : S1x256.Idx) : (x 0).val = 0 := by have hx : (x 0).val < 1 := (x 0).isLt; omega

theorem mem_row {k p : ℕ} (inb : ∀ d : Fin 2, (![k, p] : Fin 2 → ℕ) d + (![1, 256] : Fin 2 → ℕ) d ≤ (![32, 1024] : Fin 2 → ℕ) d)
    (y : S32x1024.Idx) (hk : (y 0).val = k) (hc : p ≤ (y 1).val ∧ (y 1).val < p + 256) :
    y ∈ (Rect.unit (s := S32x1024) ![k, p] ![1, 256] inb).set :=
  mem_box2 inb y (by omega) (by omega) hc.1 hc.2

set_option maxHeartbeats 8000000 in
theorem dw_block (c : Dev nD) (i : grid0.Coords) (arg1 : Memref sig .tc .vmem S128x1024 .f32) (harg1 : arg1.IsWhole) (arg2 : Memref sig .tc .vmem S32x1024 .f32) (harg2 : arg2.IsWhole) (arg3 : Memref sig .tc .vmem S128x2048 .f32) (harg3 : arg3.IsWhole) (arg4 : Memref sig .tc .vmem S31x1024 .f32) (harg4 : arg4.IsWhole) (arg5 : Memref sig .tc .vmem S128x2048 .bf16) (harg5 : arg5.IsWhole) (arg6 : Memref sig .tc .vmem S32x1024 .f32) (harg6 : arg6.IsWhole) (arg7 : Memref sig .tc .vmem S1x2048 .f32) (harg7 : arg7.IsWhole) (arg8 : Memref sig .tc .vmem S160x1024 .f32) (harg8 : arg8.IsWhole) (arg9 : Memref sig .tc .vmem S7x160x1024 .f32) (harg9 : arg9.IsWhole) (hc0)
    (x0 : Vec Ideal S128x1024 .f32) (x1 : Vec Ideal S32x1024 .f32) (x2 : Vec Ideal S128x2048 .f32) (x3 : Vec Ideal S31x1024 .f32) (xo5 : Vec Ideal S32x1024 .f32) (xo6 : Vec Ideal S1x2048 .f32) (y : S32x1024.Idx) :
    out0_B_5 (F := Ideal) c i arg1 harg1 arg2 harg2 arg3 harg3 arg4 harg4 arg5 harg5 arg6 harg6 arg7 harg7 arg8 harg8 arg9 harg9 hc0 x0 x1 x2 x3 xo5 xo6 y
      = if (y 0).val < 31 then at2 xo5 (y 0).val (y 1).val + dwTerm ((i 0).val = 63) x0 x1 x2 (y 0).val (y 1).val else at2 xo5 (y 0).val (y 1).val := by
  unfold out0_B_5
  refine read_writes_of_pieces arg6.view (harg6.unread xo5) (fun y : S32x1024.Idx => if (y 0).val < 31 then at2 xo5 (y 0).val (y 1).val + dwTerm ((i 0).val = 63) x0 x1 x2 (y 0).val (y 1).val else at2 xo5 (y 0).val (y 1).val) _ ?_ y ?_
  · unfold kernelRun0_B
    dsimp only
    simp only [List.forall_mem_cons, List.not_mem_nil, IsEmpty.forall_iff, implies_true, and_true]
    refine ⟨fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_, fun x => ?_⟩
    all_goals
      rw [dw_emb _ (by decide)]
      sl_unfold_run_values
      unfold_payloads
      pointwise
      simp only [ld8, ld9, read_box, Nat.reduceAdd, Nat.reduceLeDiff, dwTerm, gluAt, gateAt, gate, zero_add, add_zero, ix2_val0, ix2_val1, Nat.reduceSub, row_zero, Fin.val_zero]
      rfl
  · unfold kernelRun0_B
    dsimp only
    intro h
    by_cases h31 : (y 0).val < 31
    · exfalso
      have h1 : (y 1).val < 1024 := (y 1).isLt
      have hk : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 ∨ (y 0).val = 16 ∨ (y 0).val = 17 ∨ (y 0).val = 18 ∨ (y 0).val = 19 ∨ (y 0).val = 20 ∨ (y 0).val = 21 ∨ (y 0).val = 22 ∨ (y 0).val = 23 ∨ (y 0).val = 24 ∨ (y 0).val = 25 ∨ (y 0).val = 26 ∨ (y 0).val = 27 ∨ (y 0).val = 28 ∨ (y 0).val = 29 ∨ (y 0).val = 30 := by omega
      have hc : 0 ≤ (y 1).val ∧ (y 1).val < 0 + 256 ∨ 256 ≤ (y 1).val ∧ (y 1).val < 256 + 256 ∨ 512 ≤ (y 1).val ∧ (y 1).val < 512 + 256 ∨ 768 ≤ (y 1).val ∧ (y 1).val < 768 + 256 := by omega
      rcases hc with hc | hc | hc | hc
      · rcases hk with hk | hk | hk | hk | hk | hk | hk | hk | hk | hk | hk | hk | hk | hk | hk | hk | hk | hk | hk | hk | hk | hk | hk | hk | hk | hk | hk | hk | hk | hk | hk
        · exact h _ (List.getElem_mem (n := 123) (by show 123 < 124; decide)) (mem_row inb_S32x1024_S1x256_0_0 y hk hc)
        · exact h _ (List.getElem_mem (n := 122) (by show 122 < 124; decide)) (mem_row inb_S32x1024_S1x256_1_0 y hk hc)
        · exact h _ (List.getElem_mem (n := 121) (by show 121 < 124; decide)) (mem_row inb_S32x1024_S1x256_2_0 y hk hc)
        · exact h _ (List.getElem_mem (n := 120) (by show 120 < 124; decide)) (mem_row inb_S32x1024_S1x256_3_0 y hk hc)
        · exact h _ (List.getElem_mem (n := 119) (by show 119 < 124; decide)) (mem_row inb_S32x1024_S1x256_4_0 y hk hc)
        · exact h _ (List.getElem_mem (n := 118) (by show 118 < 124; decide)) (mem_row inb_S32x1024_S1x256_5_0 y hk hc)
        · exact h _ (List.getElem_mem (n := 117) (by show 117 < 124; decide)) (mem_row inb_S32x1024_S1x256_6_0 y hk hc)
        · exact h _ (List.getElem_mem (n := 116) (by show 116 < 124; decide)) (mem_row inb_S32x1024_S1x256_7_0 y hk hc)
        · exact h _ (List.getElem_mem (n := 115) (by show 115 < 124; decide)) (mem_row inb_S32x1024_S1x256_8_0 y hk hc)
        · exact h _ (List.getElem_mem (n := 114) (by show 114 < 124; decide)) (mem_row inb_S32x1024_S1x256_9_0 y hk hc)
        · exact h _ (List.getElem_mem (n := 113) (by show 113 < 124; decide)) (mem_row inb_S32x1024_S1x256_10_0 y hk hc)
        · exact h _ (List.getElem_mem (n := 112) (by show 112 < 124; decide)) (mem_row inb_S32x1024_S1x256_11_0 y hk hc)
        · exact h _ (List.getElem_mem (n := 111) (by show 111 < 124; decide)) (mem_row inb_S32x1024_S1x256_12_0 y hk hc)
        · exact h _ (List.getElem_mem (n := 110) (by show 110 < 124; decide)) (mem_row inb_S32x1024_S1x256_13_0 y hk hc)
        · exact h _ (List.getElem_mem (n := 109) (by show 109 < 124; decide)) (mem_row inb_S32x1024_S1x256_14_0 y hk hc)
        · exact h _ (List.getElem_mem (n := 108) (by show 108 < 124; decide)) (mem_row inb_S32x1024_S1x256_15_0 y hk hc)
        · exact h _ (List.getElem_mem (n := 107) (by show 107 < 124; decide)) (mem_row inb_S32x1024_S1x256_16_0 y hk hc)
        · exact h _ (List.getElem_mem (n := 106) (by show 106 < 124; decide)) (mem_row inb_S32x1024_S1x256_17_0 y hk hc)
        · exact h _ (List.getElem_mem (n := 105) (by show 105 < 124; decide)) (mem_row inb_S32x1024_S1x256_18_0 y hk hc)
        · exact h _ (List.getElem_mem (n := 104) (by show 104 < 124; decide)) (mem_row inb_S32x1024_S1x256_19_0 y hk hc)
        · exact h _ (List.getElem_mem (n := 103) (by show 103 < 124; decide)) (mem_row inb_S32x1024_S1x256_20_0 y hk hc)
        · exact h _ (List.getElem_mem (n := 102) (by show 102 < 124; decide)) (mem_row inb_S32x1024_S1x256_21_0 y hk hc)
        · exact h _ (List.getElem_mem (n := 101) (by show 101 < 124; decide)) (mem_row inb_S32x1024_S1x256_22_0 y hk hc)
        · exact h _ (List.getElem_mem (n := 100) (by show 100 < 124; decide)) (mem_row inb_S32x1024_S1x256_23_0 y hk hc)
        · exact h _ (List.getElem_mem (n := 99) (by show 99 < 124; decide)) (mem_row inb_S32x1024_S1x256_24_0 y hk hc)
        · exact h _ (List.getElem_mem (n := 98) (by show 98 < 124; decide)) (mem_row inb_S32x1024_S1x256_25_0 y hk hc)
        · exact h _ (List.getElem_mem (n := 97) (by show 97 < 124; decide)) (mem_row inb_S32x1024_S1x256_26_0 y hk hc)
        · exact h _ (List.getElem_mem (n := 96) (by show 96 < 124; decide)) (mem_row inb_S32x1024_S1x256_27_0 y hk hc)
        · exact h _ (List.getElem_mem (n := 95) (by show 95 < 124; decide)) (mem_row inb_S32x1024_S1x256_28_0 y hk hc)
        · exact h _ (List.getElem_mem (n := 94) (by show 94 < 124; decide)) (mem_row inb_S32x1024_S1x256_29_0 y hk hc)
        · exact h _ (List.getElem_mem (n := 93) (by show 93 < 124; decide)) (mem_row inb_S32x1024_S1x256_30_0 y hk hc)
      · rcases hk with hk | hk | hk | hk | hk | hk | hk | hk | hk | hk | hk | hk | hk | hk | hk | hk | hk | hk | hk | hk | hk | hk | hk | hk | hk | hk | hk | hk | hk | hk | hk
        · exact h _ (List.getElem_mem (n := 92) (by show 92 < 124; decide)) (mem_row inb_S32x1024_S1x256_0_256 y hk hc)
        · exact h _ (List.getElem_mem (n := 91) (by show 91 < 124; decide)) (mem_row inb_S32x1024_S1x256_1_256 y hk hc)
        · exact h _ (List.getElem_mem (n := 90) (by show 90 < 124; decide)) (mem_row inb_S32x1024_S1x256_2_256 y hk hc)
        · exact h _ (List.getElem_mem (n := 89) (by show 89 < 124; decide)) (mem_row inb_S32x1024_S1x256_3_256 y hk hc)
        · exact h _ (List.getElem_mem (n := 88) (by show 88 < 124; decide)) (mem_row inb_S32x1024_S1x256_4_256 y hk hc)
        · exact h _ (List.getElem_mem (n := 87) (by show 87 < 124; decide)) (mem_row inb_S32x1024_S1x256_5_256 y hk hc)
        · exact h _ (List.getElem_mem (n := 86) (by show 86 < 124; decide)) (mem_row inb_S32x1024_S1x256_6_256 y hk hc)
        · exact h _ (List.getElem_mem (n := 85) (by show 85 < 124; decide)) (mem_row inb_S32x1024_S1x256_7_256 y hk hc)
        · exact h _ (List.getElem_mem (n := 84) (by show 84 < 124; decide)) (mem_row inb_S32x1024_S1x256_8_256 y hk hc)
        · exact h _ (List.getElem_mem (n := 83) (by show 83 < 124; decide)) (mem_row inb_S32x1024_S1x256_9_256 y hk hc)
        · exact h _ (List.getElem_mem (n := 82) (by show 82 < 124; decide)) (mem_row inb_S32x1024_S1x256_10_256 y hk hc)
        · exact h _ (List.getElem_mem (n := 81) (by show 81 < 124; decide)) (mem_row inb_S32x1024_S1x256_11_256 y hk hc)
        · exact h _ (List.getElem_mem (n := 80) (by show 80 < 124; decide)) (mem_row inb_S32x1024_S1x256_12_256 y hk hc)
        · exact h _ (List.getElem_mem (n := 79) (by show 79 < 124; decide)) (mem_row inb_S32x1024_S1x256_13_256 y hk hc)
        · exact h _ (List.getElem_mem (n := 78) (by show 78 < 124; decide)) (mem_row inb_S32x1024_S1x256_14_256 y hk hc)
        · exact h _ (List.getElem_mem (n := 77) (by show 77 < 124; decide)) (mem_row inb_S32x1024_S1x256_15_256 y hk hc)
        · exact h _ (List.getElem_mem (n := 76) (by show 76 < 124; decide)) (mem_row inb_S32x1024_S1x256_16_256 y hk hc)
        · exact h _ (List.getElem_mem (n := 75) (by show 75 < 124; decide)) (mem_row inb_S32x1024_S1x256_17_256 y hk hc)
        · exact h _ (List.getElem_mem (n := 74) (by show 74 < 124; decide)) (mem_row inb_S32x1024_S1x256_18_256 y hk hc)
        · exact h _ (List.getElem_mem (n := 73) (by show 73 < 124; decide)) (mem_row inb_S32x1024_S1x256_19_256 y hk hc)
        · exact h _ (List.getElem_mem (n := 72) (by show 72 < 124; decide)) (mem_row inb_S32x1024_S1x256_20_256 y hk hc)
        · exact h _ (List.getElem_mem (n := 71) (by show 71 < 124; decide)) (mem_row inb_S32x1024_S1x256_21_256 y hk hc)
        · exact h _ (List.getElem_mem (n := 70) (by show 70 < 124; decide)) (mem_row inb_S32x1024_S1x256_22_256 y hk hc)
        · exact h _ (List.getElem_mem (n := 69) (by show 69 < 124; decide)) (mem_row inb_S32x1024_S1x256_23_256 y hk hc)
        · exact h _ (List.getElem_mem (n := 68) (by show 68 < 124; decide)) (mem_row inb_S32x1024_S1x256_24_256 y hk hc)
        · exact h _ (List.getElem_mem (n := 67) (by show 67 < 124; decide)) (mem_row inb_S32x1024_S1x256_25_256 y hk hc)
        · exact h _ (List.getElem_mem (n := 66) (by show 66 < 124; decide)) (mem_row inb_S32x1024_S1x256_26_256 y hk hc)
        · exact h _ (List.getElem_mem (n := 65) (by show 65 < 124; decide)) (mem_row inb_S32x1024_S1x256_27_256 y hk hc)
        · exact h _ (List.getElem_mem (n := 64) (by show 64 < 124; decide)) (mem_row inb_S32x1024_S1x256_28_256 y hk hc)
        · exact h _ (List.getElem_mem (n := 63) (by show 63 < 124; decide)) (mem_row inb_S32x1024_S1x256_29_256 y hk hc)
        · exact h _ (List.getElem_mem (n := 62) (by show 62 < 124; decide)) (mem_row inb_S32x1024_S1x256_30_256 y hk hc)
      · rcases hk with hk | hk | hk | hk | hk | hk | hk | hk | hk | hk | hk | hk | hk | hk | hk | hk | hk | hk | hk | hk | hk | hk | hk | hk | hk | hk | hk | hk | hk | hk | hk
        · exact h _ (List.getElem_mem (n := 61) (by show 61 < 124; decide)) (mem_row inb_S32x1024_S1x256_0_512 y hk hc)
        · exact h _ (List.getElem_mem (n := 60) (by show 60 < 124; decide)) (mem_row inb_S32x1024_S1x256_1_512 y hk hc)
        · exact h _ (List.getElem_mem (n := 59) (by show 59 < 124; decide)) (mem_row inb_S32x1024_S1x256_2_512 y hk hc)
        · exact h _ (List.getElem_mem (n := 58) (by show 58 < 124; decide)) (mem_row inb_S32x1024_S1x256_3_512 y hk hc)
        · exact h _ (List.getElem_mem (n := 57) (by show 57 < 124; decide)) (mem_row inb_S32x1024_S1x256_4_512 y hk hc)
        · exact h _ (List.getElem_mem (n := 56) (by show 56 < 124; decide)) (mem_row inb_S32x1024_S1x256_5_512 y hk hc)
        · exact h _ (List.getElem_mem (n := 55) (by show 55 < 124; decide)) (mem_row inb_S32x1024_S1x256_6_512 y hk hc)
        · exact h _ (List.getElem_mem (n := 54) (by show 54 < 124; decide)) (mem_row inb_S32x1024_S1x256_7_512 y hk hc)
        · exact h _ (List.getElem_mem (n := 53) (by show 53 < 124; decide)) (mem_row inb_S32x1024_S1x256_8_512 y hk hc)
        · exact h _ (List.getElem_mem (n := 52) (by show 52 < 124; decide)) (mem_row inb_S32x1024_S1x256_9_512 y hk hc)
        · exact h _ (List.getElem_mem (n := 51) (by show 51 < 124; decide)) (mem_row inb_S32x1024_S1x256_10_512 y hk hc)
        · exact h _ (List.getElem_mem (n := 50) (by show 50 < 124; decide)) (mem_row inb_S32x1024_S1x256_11_512 y hk hc)
        · exact h _ (List.getElem_mem (n := 49) (by show 49 < 124; decide)) (mem_row inb_S32x1024_S1x256_12_512 y hk hc)
        · exact h _ (List.getElem_mem (n := 48) (by show 48 < 124; decide)) (mem_row inb_S32x1024_S1x256_13_512 y hk hc)
        · exact h _ (List.getElem_mem (n := 47) (by show 47 < 124; decide)) (mem_row inb_S32x1024_S1x256_14_512 y hk hc)
        · exact h _ (List.getElem_mem (n := 46) (by show 46 < 124; decide)) (mem_row inb_S32x1024_S1x256_15_512 y hk hc)
        · exact h _ (List.getElem_mem (n := 45) (by show 45 < 124; decide)) (mem_row inb_S32x1024_S1x256_16_512 y hk hc)
        · exact h _ (List.getElem_mem (n := 44) (by show 44 < 124; decide)) (mem_row inb_S32x1024_S1x256_17_512 y hk hc)
        · exact h _ (List.getElem_mem (n := 43) (by show 43 < 124; decide)) (mem_row inb_S32x1024_S1x256_18_512 y hk hc)
        · exact h _ (List.getElem_mem (n := 42) (by show 42 < 124; decide)) (mem_row inb_S32x1024_S1x256_19_512 y hk hc)
        · exact h _ (List.getElem_mem (n := 41) (by show 41 < 124; decide)) (mem_row inb_S32x1024_S1x256_20_512 y hk hc)
        · exact h _ (List.getElem_mem (n := 40) (by show 40 < 124; decide)) (mem_row inb_S32x1024_S1x256_21_512 y hk hc)
        · exact h _ (List.getElem_mem (n := 39) (by show 39 < 124; decide)) (mem_row inb_S32x1024_S1x256_22_512 y hk hc)
        · exact h _ (List.getElem_mem (n := 38) (by show 38 < 124; decide)) (mem_row inb_S32x1024_S1x256_23_512 y hk hc)
        · exact h _ (List.getElem_mem (n := 37) (by show 37 < 124; decide)) (mem_row inb_S32x1024_S1x256_24_512 y hk hc)
        · exact h _ (List.getElem_mem (n := 36) (by show 36 < 124; decide)) (mem_row inb_S32x1024_S1x256_25_512 y hk hc)
        · exact h _ (List.getElem_mem (n := 35) (by show 35 < 124; decide)) (mem_row inb_S32x1024_S1x256_26_512 y hk hc)
        · exact h _ (List.getElem_mem (n := 34) (by show 34 < 124; decide)) (mem_row inb_S32x1024_S1x256_27_512 y hk hc)
        · exact h _ (List.getElem_mem (n := 33) (by show 33 < 124; decide)) (mem_row inb_S32x1024_S1x256_28_512 y hk hc)
        · exact h _ (List.getElem_mem (n := 32) (by show 32 < 124; decide)) (mem_row inb_S32x1024_S1x256_29_512 y hk hc)
        · exact h _ (List.getElem_mem (n := 31) (by show 31 < 124; decide)) (mem_row inb_S32x1024_S1x256_30_512 y hk hc)
      · rcases hk with hk | hk | hk | hk | hk | hk | hk | hk | hk | hk | hk | hk | hk | hk | hk | hk | hk | hk | hk | hk | hk | hk | hk | hk | hk | hk | hk | hk | hk | hk | hk
        · exact h _ (List.getElem_mem (n := 30) (by show 30 < 124; decide)) (mem_row inb_S32x1024_S1x256_0_768 y hk hc)
        · exact h _ (List.getElem_mem (n := 29) (by show 29 < 124; decide)) (mem_row inb_S32x1024_S1x256_1_768 y hk hc)
        · exact h _ (List.getElem_mem (n := 28) (by show 28 < 124; decide)) (mem_row inb_S32x1024_S1x256_2_768 y hk hc)
        · exact h _ (List.getElem_mem (n := 27) (by show 27 < 124; decide)) (mem_row inb_S32x1024_S1x256_3_768 y hk hc)
        · exact h _ (List.getElem_mem (n := 26) (by show 26 < 124; decide)) (mem_row inb_S32x1024_S1x256_4_768 y hk hc)
        · exact h _ (List.getElem_mem (n := 25) (by show 25 < 124; decide)) (mem_row inb_S32x1024_S1x256_5_768 y hk hc)
        · exact h _ (List.getElem_mem (n := 24) (by show 24 < 124; decide)) (mem_row inb_S32x1024_S1x256_6_768 y hk hc)
        · exact h _ (List.getElem_mem (n := 23) (by show 23 < 124; decide)) (mem_row inb_S32x1024_S1x256_7_768 y hk hc)
        · exact h _ (List.getElem_mem (n := 22) (by show 22 < 124; decide)) (mem_row inb_S32x1024_S1x256_8_768 y hk hc)
        · exact h _ (List.getElem_mem (n := 21) (by show 21 < 124; decide)) (mem_row inb_S32x1024_S1x256_9_768 y hk hc)
        · exact h _ (List.getElem_mem (n := 20) (by show 20 < 124; decide)) (mem_row inb_S32x1024_S1x256_10_768 y hk hc)
        · exact h _ (List.getElem_mem (n := 19) (by show 19 < 124; decide)) (mem_row inb_S32x1024_S1x256_11_768 y hk hc)
        · exact h _ (List.getElem_mem (n := 18) (by show 18 < 124; decide)) (mem_row inb_S32x1024_S1x256_12_768 y hk hc)
        · exact h _ (List.getElem_mem (n := 17) (by show 17 < 124; decide)) (mem_row inb_S32x1024_S1x256_13_768 y hk hc)
        · exact h _ (List.getElem_mem (n := 16) (by show 16 < 124; decide)) (mem_row inb_S32x1024_S1x256_14_768 y hk hc)
        · exact h _ (List.getElem_mem (n := 15) (by show 15 < 124; decide)) (mem_row inb_S32x1024_S1x256_15_768 y hk hc)
        · exact h _ (List.getElem_mem (n := 14) (by show 14 < 124; decide)) (mem_row inb_S32x1024_S1x256_16_768 y hk hc)
        · exact h _ (List.getElem_mem (n := 13) (by show 13 < 124; decide)) (mem_row inb_S32x1024_S1x256_17_768 y hk hc)
        · exact h _ (List.getElem_mem (n := 12) (by show 12 < 124; decide)) (mem_row inb_S32x1024_S1x256_18_768 y hk hc)
        · exact h _ (List.getElem_mem (n := 11) (by show 11 < 124; decide)) (mem_row inb_S32x1024_S1x256_19_768 y hk hc)
        · exact h _ (List.getElem_mem (n := 10) (by show 10 < 124; decide)) (mem_row inb_S32x1024_S1x256_20_768 y hk hc)
        · exact h _ (List.getElem_mem (n := 9) (by show 9 < 124; decide)) (mem_row inb_S32x1024_S1x256_21_768 y hk hc)
        · exact h _ (List.getElem_mem (n := 8) (by show 8 < 124; decide)) (mem_row inb_S32x1024_S1x256_22_768 y hk hc)
        · exact h _ (List.getElem_mem (n := 7) (by show 7 < 124; decide)) (mem_row inb_S32x1024_S1x256_23_768 y hk hc)
        · exact h _ (List.getElem_mem (n := 6) (by show 6 < 124; decide)) (mem_row inb_S32x1024_S1x256_24_768 y hk hc)
        · exact h _ (List.getElem_mem (n := 5) (by show 5 < 124; decide)) (mem_row inb_S32x1024_S1x256_25_768 y hk hc)
        · exact h _ (List.getElem_mem (n := 4) (by show 4 < 124; decide)) (mem_row inb_S32x1024_S1x256_26_768 y hk hc)
        · exact h _ (List.getElem_mem (n := 3) (by show 3 < 124; decide)) (mem_row inb_S32x1024_S1x256_27_768 y hk hc)
        · exact h _ (List.getElem_mem (n := 2) (by show 2 < 124; decide)) (mem_row inb_S32x1024_S1x256_28_768 y hk hc)
        · exact h _ (List.getElem_mem (n := 1) (by show 1 < 124; decide)) (mem_row inb_S32x1024_S1x256_29_768 y hk hc)
        · exact h _ (List.getElem_mem (n := 0) (by show 0 < 124; decide)) (mem_row inb_S32x1024_S1x256_30_768 y hk hc)
    · rw [if_neg h31, harg6.read_unread]
      exact eq_at2 xo5 y

end Cert.Conv.RunB
-- ==== Proof.ConvDbB.lean ====
/-
  B: what a grid point adds to the gradient of the bias.
-/
module

public import proofs.«01_k».proof.Proof.ConvDwB
public import Idealize.ShloMosaic.Lib.Tactic.RunNames

@[expose] public section

set_option maxRecDepth 16384

noncomputable section

namespace Cert.Conv.RunB

open Idealize.ShloMosaic Idealize.ShloMosaic.TcCoe Idealize.ShloMosaic.Tactic
open Cert.KernelIdeal Cert.KernelIdeal.Gen

theorem du_emb_left (last : Prop) [Decidable last] (x0 : Vec Ideal S128x1024 .f32) (x1 : Vec Ideal S32x1024 .f32) (x2 : Vec Ideal S128x2048 .f32) (x3 : Vec Ideal S31x1024 .f32) (xo6 : Vec Ideal S1x2048 .f32)
    {p c : ℕ} (hp : p + 256 ≤ 1024) (hc : c = p)
    (inb : ∀ d : Fin 2, (![0, p] : Fin 2 → ℕ) d + (![1, 256] : Fin 2 → ℕ) d ≤ (![1, 2048] : Fin 2 → ℕ) d) (x : S1x256.Idx) :
    at2 xo6 0 ((Rect.unit (s := S1x2048) ![0, p] ![1, 256] inb).emb x 1).val + ∑ r : Fin 128, duAt last x0 x1 x2 x3 r.val ((Rect.unit (s := S1x2048) ![0, p] ![1, 256] inb).emb x 1).val
      = at2 xo6 0 (p + (x 1).val) + ∑ r : Fin 128, daAt last x0 x1 x2 x3 r.val (c + (x 1).val) := by
  have h1 : ((Rect.unit (s := S1x2048) ![0, p] ![1, 256] inb).emb x 1).val = p + (x 1).val := unit_emb_val (s := S1x2048) ![0, p] ![1, 256] inb x 1
  have hx : (x 1).val < 256 := (x 1).isLt
  rw [h1]
  refine congrArg (at2 xo6 0 (p + (x 1).val) + ·) (Finset.sum_congr rfl fun r _ => ?_)
  rw [duAt, if_pos (by omega), hc]

theorem du_emb_right (last : Prop) [Decidable last] (x0 : Vec Ideal S128x1024 .f32) (x1 : Vec Ideal S32x1024 .f32) (x2 : Vec Ideal S128x2048 .f32) (x3 : Vec Ideal S31x1024 .f32) (xo6 : Vec Ideal S1x2048 .f32)
    {p c : ℕ} (hp : 1024 ≤ p) (hc : c = p - 1024)
    (inb : ∀ d : Fin 2, (![0, p] : Fin 2 → ℕ) d + (![1, 256] : Fin 2 → ℕ) d ≤ (![1, 2048] : Fin 2 → ℕ) d) (x : S1x256.Idx) :
    at2 xo6 0 ((Rect.unit (s := S1x2048) ![0, p] ![1, 256] inb).emb x 1).val + ∑ r : Fin 128, duAt last x0 x1 x2 x3 r.val ((Rect.unit (s := S1x2048) ![0, p] ![1, 256] inb).emb x 1).val
      = at2 xo6 0 (p + (x 1).val) + ∑ r : Fin 128, dgtAt last x0 x1 x2 x3 r.val (c + (x 1).val) := by
  have h1 : ((Rect.unit (s := S1x2048) ![0, p] ![1, 256] inb).emb x 1).val = p + (x 1).val := unit_emb_val (s := S1x2048) ![0, p] ![1, 256] inb x 1
  have hx : (x 1).val < 256 := (x 1).isLt
  rw [h1]
  refine congrArg (at2 xo6 0 (p + (x 1).val) + ·) (Finset.sum_congr rfl fun r _ => ?_)
  rw [duAt, if_neg (by omega), show p + (x 1).val - 1024 = c + (x 1).val by omega]

set_option maxHeartbeats 8000000 in
theorem db_block (c : Dev nD) (i : grid0.Coords) (arg1 : Memref sig .tc .vmem S128x1024 .f32) (harg1 : arg1.IsWhole) (arg2 : Memref sig .tc .vmem S32x1024 .f32) (harg2 : arg2.IsWhole) (arg3 : Memref sig .tc .vmem S128x2048 .f32) (harg3 : arg3.IsWhole) (arg4 : Memref sig .tc .vmem S31x1024 .f32) (harg4 : arg4.IsWhole) (arg5 : Memref sig .tc .vmem S128x2048 .bf16) (harg5 : arg5.IsWhole) (arg6 : Memref sig .tc .vmem S32x1024 .f32) (harg6 : arg6.IsWhole) (arg7 : Memref sig .tc .vmem S1x2048 .f32) (harg7 : arg7.IsWhole) (arg8 : Memref sig .tc .vmem S160x1024 .f32) (harg8 : arg8.IsWhole) (arg9 : Memref sig .tc .vmem S7x160x1024 .f32) (harg9 : arg9.IsWhole) (hc0)
    (x0 : Vec Ideal S128x1024 .f32) (x1 : Vec Ideal S32x1024 .f32) (x2 : Vec Ideal S128x2048 .f32) (x3 : Vec Ideal S31x1024 .f32) (xo5 : Vec Ideal S32x1024 .f32) (xo6 : Vec Ideal S1x2048 .f32) (y : S1x2048.Idx) :
    out0_B_6 (F := Ideal) c i arg1 harg1 arg2 harg2 arg3 harg3 arg4 harg4 arg5 harg5 arg6 harg6 arg7 harg7 arg8 harg8 arg9 harg9 hc0 x0 x1 x2 x3 xo5 xo6 y
      = at2 xo6 0 (y 1).val + ∑ r : Fin 128, duAt ((i 0).val = 63) x0 x1 x2 x3 r.val (y 1).val := by
  unfold out0_B_6
  rw [View.read_writes_junk_eq_canon]
  refine View.canon_apply_of_pieces (Val := Elt Ideal) (e := .f32) (fun y : S1x2048.Idx => at2 xo6 0 (y 1).val + ∑ r : Fin 128, duAt ((i 0).val = 63) x0 x1 x2 x3 r.val (y 1).val) _ ?_ y
    (cover0_B_6 (F := Ideal) c i arg1 harg1 arg2 harg2 arg3 harg3 arg4 harg4 arg5 harg5 arg6 harg6 arg7 harg7 arg8 harg8 arg9 harg9 hc0 x0 x1 x2 x3 xo5 xo6 y)
  unfold kernelRun0_B
  dsimp only
  simp only [List.forall_mem_cons, List.not_mem_nil, IsEmpty.forall_iff, implies_true, and_true]
  refine ⟨fun x => ?_, fun x => ?_, fun x => ?_, fun x => ?_, fun x => ?_, fun x => ?_, fun x => ?_, fun x => ?_⟩
  · rw [du_emb_right (c := 768) _ _ _ _ _ _ (by decide) (by decide)]
    sl_unfold_run_values
    unfold_payloads
    pointwise
    simp only [ld8, ld9, read_box, Nat.reduceAdd, Nat.reduceLeDiff, dgtAt, dgluAt, gateAt, gate, Finset.sum_range_succ, Finset.sum_range_zero, zero_add, add_zero, ix2_val0, ix2_val1, Nat.reduceSub, row_zero, Fin.val_zero]
    rfl
  · rw [du_emb_left (c := 768) _ _ _ _ _ _ (by decide) (by decide)]
    sl_unfold_run_values
    unfold_payloads
    pointwise
    simp only [ld8, ld9, read_box, Nat.reduceAdd, Nat.reduceLeDiff, daAt, dgluAt, gateAt, gate, Finset.sum_range_succ, Finset.sum_range_zero, zero_add, add_zero, ix2_val0, ix2_val1, Nat.reduceSub, row_zero, Fin.val_zero]
    rfl
  · rw [du_emb_right (c := 512) _ _ _ _ _ _ (by decide) (by decide)]
    sl_unfold_run_values
    unfold_payloads
    pointwise
    simp only [ld8, ld9, read_box, Nat.reduceAdd, Nat.reduceLeDiff, dgtAt, dgluAt, gateAt, gate, Finset.sum_range_succ, Finset.sum_range_zero, zero_add, add_zero, ix2_val0, ix2_val1, Nat.reduceSub, row_zero, Fin.val_zero]
    rfl
  · rw [du_emb_left (c := 512) _ _ _ _ _ _ (by decide) (by decide)]
    sl_unfold_run_values
    unfold_payloads
    pointwise
    simp only [ld8, ld9, read_box, Nat.reduceAdd, Nat.reduceLeDiff, daAt, dgluAt, gateAt, gate, Finset.sum_range_succ, Finset.sum_range_zero, zero_add, add_zero, ix2_val0, ix2_val1, Nat.reduceSub, row_zero, Fin.val_zero]
    rfl
  · rw [du_emb_right (c := 256) _ _ _ _ _ _ (by decide) (by decide)]
    sl_unfold_run_values
    unfold_payloads
    pointwise
    simp only [ld8, ld9, read_box, Nat.reduceAdd, Nat.reduceLeDiff, dgtAt, dgluAt, gateAt, gate, Finset.sum_range_succ, Finset.sum_range_zero, zero_add, add_zero, ix2_val0, ix2_val1, Nat.reduceSub, row_zero, Fin.val_zero]
    rfl
  · rw [du_emb_left (c := 256) _ _ _ _ _ _ (by decide) (by decide)]
    sl_unfold_run_values
    unfold_payloads
    pointwise
    simp only [ld8, ld9, read_box, Nat.reduceAdd, Nat.reduceLeDiff, daAt, dgluAt, gateAt, gate, Finset.sum_range_succ, Finset.sum_range_zero, zero_add, add_zero, ix2_val0, ix2_val1, Nat.reduceSub, row_zero, Fin.val_zero]
    rfl
  · rw [du_emb_right (c := 0) _ _ _ _ _ _ (by decide) (by decide)]
    sl_unfold_run_values
    unfold_payloads
    pointwise
    simp only [ld8, ld9, read_box, Nat.reduceAdd, Nat.reduceLeDiff, dgtAt, dgluAt, gateAt, gate, Finset.sum_range_succ, Finset.sum_range_zero, zero_add, add_zero, ix2_val0, ix2_val1, Nat.reduceSub, row_zero, Fin.val_zero]
    rfl
  · rw [du_emb_left (c := 0) _ _ _ _ _ _ (by decide) (by decide)]
    sl_unfold_run_values
    unfold_payloads
    pointwise
    simp only [ld8, ld9, read_box, Nat.reduceAdd, Nat.reduceLeDiff, daAt, dgluAt, gateAt, gate, Finset.sum_range_succ, Finset.sum_range_zero, zero_add, add_zero, ix2_val0, ix2_val1, Nat.reduceSub, row_zero, Fin.val_zero]
    rfl

end Cert.Conv.RunB
-- ==== Proof.ConvKernel.lean ====
/-
  The gradient of the gated causal convolution, from grid points to whole arrays: what the kernel's three result arrays
  hold after the run, over natural row and column numbers.
-/
module

public import proofs.«01_k».proof.Proof.ConvDbA
public import proofs.«01_k».proof.Proof.ConvDbB
public import proofs.«01_k».proof.Proof.Gen.KernelIdeal.Value
public import Idealize.ShloMosaic.Lib.Pipeline.ValueKit

@[expose] public section

set_option maxRecDepth 16384

noncomputable section

namespace Cert.Conv

open Idealize.ShloMosaic Idealize.ShloMosaic.TcCoe
open Cert.KernelIdeal Cert.KernelIdeal.Gen

/-! ## The three results over whole arrays -/

section
variable (D : (⟨2, ![8192, 1024]⟩ : Shape).Idx → EReal) (U : (⟨2, ![8192, 2048]⟩ : Shape).Idx → EReal) (W : (⟨2, ![31, 1024]⟩ : Shape).Idx → EReal)

/-- The gradient of the gated value at token `n`. -/
def dgG (n j : ℕ) : EReal := ∑ k ∈ Finset.range 31, at2 W k j * at2 D (30 - k + n) j

/-- The gradient of the projection `u`. -/
def duG (n j : ℕ) : EReal :=
  if j < 1024 then dgG D W n j * gateAt U n j
  else dgG D W n (j - 1024) * at2 U n (j - 1024) * gateAt U n (j - 1024) * (1 - gateAt U n (j - 1024))

/-- The gradient of tap `k`. -/
def dwG (k j : ℕ) : EReal := ∑ n : Fin 8192, at2 D (30 - k + n.val) j * gluAt U n.val j
end

/-! ## The windows' blocks -/

theorem coord_eq : ∀ t : Fin cfg0.N, (grid0.coords t 0).val = t.val := (by decide +kernel : ∀ t : Fin grid0.N, (grid0.coords t 0).val = t.val)

theorem idx : ∀ t : Fin cfg0.N, win0_0.index t = ![t.val, 0] ∧ win0_1.index t = ![min ((t.val + 1) * 4) 255, 0] ∧ win0_2.index t = ![t.val, 0]
    ∧ win0_3.index t = ![0, 0] ∧ win0_4.index t = ![t.val, 0] :=
  (by decide +kernel : ∀ t : Fin grid0.N, win0_0.index t = ![t.val, 0] ∧ win0_1.index t = ![min ((t.val + 1) * 4) 255, 0] ∧ win0_2.index t = ![t.val, 0]
    ∧ win0_3.index t = ![0, 0] ∧ win0_4.index t = ![t.val, 0])

variable (m : (ℓ : Loc nD τ sig) → Buf (Elt Ideal) ℓ) (c : Dev nD) (t : Fin cfg0.N)

/-- The arrays the kernel is launched on. -/
abbrev aD : (⟨2, ![8192, 1024]⟩ : Shape).Idx → EReal := m ((c : Thread nD τ).loc main_arg0)
abbrev aU : (⟨2, ![8192, 2048]⟩ : Shape).Idx → EReal := m ((c : Thread nD τ).loc main_arg1)
abbrev aW : (⟨2, ![31, 1024]⟩ : Shape).Idx → EReal := m ((c : Thread nD τ).loc main_arg2)

theorem lt64 : t.val < 64 := t.isLt

theorem blk0 (q j : ℕ) (hq : q < 128) (hj : j < 1024) : at2 (n := 128) (m := 1024) (iblk m c 0 t) q j = at2 (aD m c) (128 * t.val + q) j := by
  have ht := lt64 t
  rw [at2_of_lt _ _ _ hq hj, at2_of_lt _ _ _ (by omega) hj]
  blk_ext [iblk, V, idx t]

theorem blk1 (q j : ℕ) (hq : q < 32) (hj : j < 1024) : at2 (n := 32) (m := 1024) (iblk m c 1 t) q j = at2 (aD m c) (32 * min ((t.val + 1) * 4) 255 + q) j := by
  have ht := lt64 t
  rw [at2_of_lt _ _ _ hq hj, at2_of_lt _ _ _ (by omega) hj]
  blk_ext [iblk, V, idx t]

theorem blk2 (q j : ℕ) (hq : q < 128) (hj : j < 2048) : at2 (n := 128) (m := 2048) (iblk m c 2 t) q j = at2 (aU m c) (128 * t.val + q) j := by
  have ht := lt64 t
  rw [at2_of_lt _ _ _ hq hj, at2_of_lt _ _ _ (by omega) hj]
  blk_ext [iblk, V, idx t]

theorem blk3 (q j : ℕ) (hq : q < 31) (hj : j < 1024) : at2 (n := 31) (m := 1024) (iblk m c 3 t) q j = at2 (aW m c) q j := by
  rw [at2_of_lt _ _ _ hq hj, at2_of_lt _ _ _ (by omega) hj]
  blk_ext [iblk, V, idx t]

/-- The rows a point sees are the array's, from its first row on, zero past the last. -/
theorem rows_eq (q j : ℕ) (hq : q < 160) (hj : j < 1024) :
    rowsAt ((grid0.coords t 0).val = 63) (iblk m c 0 t) (iblk m c 1 t) q j = at2 (aD m c) (128 * t.val + q) j := by
  have ht := lt64 t
  unfold rowsAt
  split_ifs with h h'
  · exact blk0 m c t q j h hj
  · rw [coord_eq t] at h'
    rw [at2_of_row_ge _ _ _ (by omega)]
  · rw [coord_eq t] at h'
    rw [blk1 m c t _ j (by omega) hj]
    congr 1
    omega

theorem gate_eq (r j : ℕ) (hr : r < 128) (hj : j < 1024) : gateAt (n := 128) (iblk m c 2 t) r j = gateAt (aU m c) (128 * t.val + r) j := by
  unfold gateAt
  rw [blk2 m c t r _ hr (by omega)]

theorem glu_eq (r j : ℕ) (hr : r < 128) (hj : j < 1024) : gluAt (n := 128) (iblk m c 2 t) r j = gluAt (aU m c) (128 * t.val + r) j := by
  unfold gluAt
  rw [blk2 m c t r _ hr (by omega), gate_eq m c t r j hr hj]

theorem dglu_eq (r j : ℕ) (hr : r < 128) (hj : j < 1024) :
    dgluAt ((grid0.coords t 0).val = 63) (iblk m c 0 t) (iblk m c 1 t) (iblk m c 3 t) r j = dgG (aD m c) (aW m c) (128 * t.val + r) j := by
  unfold dgluAt dgG
  refine Finset.sum_congr rfl fun k hk => ?_
  have hk' := Finset.mem_range.mp hk
  rw [blk3 m c t k j hk' hj, rows_eq m c t _ j (by omega) hj]
  congr 2
  omega

/-- One block of `du`. -/
theorem du_eq (r j : ℕ) (hr : r < 128) (hj : j < 2048) :
    duAt ((grid0.coords t 0).val = 63) (iblk m c 0 t) (iblk m c 1 t) (iblk m c 2 t) (iblk m c 3 t) r j
      = duG (aD m c) (aU m c) (aW m c) (128 * t.val + r) j := by
  unfold duAt duG
  split_ifs with h
  · unfold daAt
    rw [dglu_eq m c t r j hr h, gate_eq m c t r j hr h]
  · unfold dgtAt
    rw [dglu_eq m c t r _ hr (by omega), gate_eq m c t r _ hr (by omega), blk2 m c t r _ hr (by omega)]

theorem dwTerm_eq (k j : ℕ) (hk : k < 31) (hj : j < 1024) :
    dwTerm ((grid0.coords t 0).val = 63) (iblk m c 0 t) (iblk m c 1 t) (iblk m c 2 t) k j
      = ∑ r : Fin 128, at2 (aD m c) (30 - k + (128 * t.val + r.val)) j * gluAt (aU m c) (128 * t.val + r.val) j := by
  unfold dwTerm
  refine Finset.sum_congr rfl fun r _ => ?_
  have hr := r.isLt
  rw [rows_eq m c t _ j (by omega) hj, glu_eq m c t r.val j hr hj]
  congr 2
  omega

/-! ## `du`: every point writes its own block -/

theorem after4 (y : S128x2048.Idx) : (outsAt0 m c t.val t.isLt).1 y
    = duAt ((grid0.coords t 0).val = 63) (iblk m c 0 t) (iblk m c 1 t) (iblk m c 2 t) (iblk m c 3 t) (y 0).val (y 1).val := by
  by_cases h0 : t.val % 64 = 0
  · rw [outsAt0_A m c t h0]
    exact RunA.du_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) ((hcond0_0 t).mpr h0) (iblk m c 0 t) (iblk m c 1 t) (iblk m c 2 t) (iblk m c 3 t) _
  · rw [outsAt0_B m c t h0]
    have hc : ¬cond0_0 (grid0.coords t) := fun hh => h0 ((hcond0_0 t).mp hh)
    have e := RunB.du_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 y
    dsimp only
    exact e

theorem final4 : (dats m 0 c).arrAt 4 cfg0.N = fun y : S8192x2048.Idx => duG (aD m c) (aU m c) (aW m c) (y 0).val (y 1).val := by
  refine (dats m 0 c).arrAt_eq_of_covers 4 _ (by decide +kernel) fun t _ y => ?_
  blk_simp
  rw [after0_4]
  have hy0 : (y 0).val < 128 := (y 0).isLt
  have hy1 : (y 1).val < 2048 := (y 1).isLt
  refine (after4 m c t _).trans ((du_eq m c t _ _ hy0 hy1).trans ?_)
  blk_simp [idx t]
  congr 1
  · simp; omega

/-! ## `dw` and `dbin`: sums over all points -/

/-- A sum over the 64 points and their 128 rows is one over the 8192 rows. -/
theorem sum_blocks (f : ℕ → EReal) : ∑ k ∈ Finset.range 64, ∑ r : Fin 128, f (128 * k + r.val) = ∑ n : Fin 8192, f n.val := by
  rw [Fin.sum_univ_eq_sum_range f 8192, show (8192 : ℕ) = 64 * 128 from rfl]
  simp only [fun k => Fin.sum_univ_eq_sum_range (fun r => f (128 * k + r)) 128]
  generalize (64 : ℕ) = N
  induction N with
  | zero => simp
  | succ n ih => rw [Finset.sum_range_succ, ih, show (n + 1) * 128 = n * 128 + 128 by omega, Finset.sum_range_add, mul_comm 128 n]

theorem out5 (y : S32x1024.Idx) : (outsAt0 m c t.val t.isLt).2.1 y = (0 : EReal) + ∑ s ∈ Finset.range (t.val + 1),
    if (y 0).val < 31 then ∑ r : Fin 128, at2 (aD m c) (30 - (y 0).val + (128 * s + r.val)) (y 1).val * gluAt (aU m c) (128 * s + r.val) (y 1).val else 0 := by
  have hy1 : (y 1).val < 1024 := (y 1).isLt
  refine Pipeline.eq_sum_of_reset_step_apply_single (N := cfg0.N) (M := EReal) (fun n hn (y : S32x1024.Idx) => (outsAt0 m c n hn).2.1 y) 64 (fun _ => 0)
    (fun s y => if (y 0).val < 31 then ∑ r : Fin 128, at2 (aD m c) (30 - (y 0).val + (128 * s + r.val)) (y 1).val * gluAt (aU m c) (128 * s + r.val) (y 1).val else 0)
    (fun t h y => ?_) (fun t h y => ?_) (by decide) t y
  · have hy1 : (y 1).val < 1024 := (y 1).isLt
    beta_reduce
    rw [outsAt0_A m c t h]
    refine (RunA.dw_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) ((hcond0_0 t).mpr h) _).trans ?_
    rw [zero_add]
    split_ifs with hk
    · exact dwTerm_eq m c t _ _ hk hy1
    · rfl
  · have hy1 : (y 1).val < 1024 := (y 1).isLt
    beta_reduce
    rw [outsAt0_B m c t h]
    have hc : ¬cond0_0 (grid0.coords t) := fun hh => h ((hcond0_0 t).mp hh)
    have e := RunB.dw_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 y
    dsimp only
    refine e.trans ?_
    rw [← eq_at2]
    split_ifs with hk
    · rw [dwTerm_eq m c t _ _ hk hy1]
    · rw [add_zero]

theorem out6 (y : S1x2048.Idx) : (outsAt0 m c t.val t.isLt).2.2 y = (0 : EReal) + ∑ s ∈ Finset.range (t.val + 1),
    ∑ r : Fin 128, duG (aD m c) (aU m c) (aW m c) (128 * s + r.val) (y 1).val := by
  refine Pipeline.eq_sum_of_reset_step_apply_single (N := cfg0.N) (M := EReal) (fun n hn (y : S1x2048.Idx) => (outsAt0 m c n hn).2.2 y) 64 (fun _ => 0)
    (fun s y => ∑ r : Fin 128, duG (aD m c) (aU m c) (aW m c) (128 * s + r.val) (y 1).val)
    (fun t h y => ?_) (fun t h y => ?_) (by decide) t y
  · have hy1 : (y 1).val < 2048 := (y 1).isLt
    beta_reduce
    rw [outsAt0_A m c t h]
    refine (RunA.db_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) (iblk m c 0 t) (iblk m c 1 t) (iblk m c 2 t) (iblk m c 3 t) ((hcond0_0 t).mpr h) _).trans ?_
    rw [zero_add]
    exact Finset.sum_congr rfl fun r _ => du_eq m c t _ _ r.isLt hy1
  · have hy0 : (y 0).val < 1 := (y 0).isLt
    have hy1 : (y 1).val < 2048 := (y 1).isLt
    beta_reduce
    rw [outsAt0_B m c t h]
    have hc : ¬cond0_0 (grid0.coords t) := fun hh => h ((hcond0_0 t).mp hh)
    have e := RunB.db_block c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) hc (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 y
    dsimp only
    refine e.trans ?_
    refine congrArg₂ (· + ·) (eq_at2_of _ y 0 _ (by omega) rfl).symm (Finset.sum_congr rfl fun r _ => du_eq m c t _ _ r.isLt hy1)

/-- The last point, the one that writes the sums back. -/
theorem exists_last : ∃ t : Fin cfg0.N, t.val = 63 ∧ (cfg0.win 5).WholeAt t ∧ (cfg0.win 6).WholeAt t :=
  (by decide +kernel : ∃ t : Fin grid0.N, t.val = 63 ∧ win0_5.WholeAt t ∧ win0_6.WholeAt t)

theorem final5 : (dats m 0 c).arrAt 5 cfg0.N = fun y : S32x1024.Idx => if (y 0).val < 31 then dwG (aD m c) (aU m c) (y 0).val (y 1).val else 0 := by
  obtain ⟨t, ht, h5, h6⟩ := exists_last
  refine (dats m 0 c).arrAt_eq_of_after_last 5 t h5 _ fun y => ?_
  blk_simp
  rw [after0_5]
  refine (out5 m c t _).trans ?_
  rw [zero_add, ht]
  show ∑ s ∈ Finset.range 64, (if (y 0).val < 31 then _ else _) = if (y 0).val < 31 then _ else _
  split_ifs with hk
  · exact sum_blocks fun n => at2 (aD m c) (30 - (y 0).val + n) (y 1).val * gluAt (aU m c) n (y 1).val
  · exact Finset.sum_const_zero

theorem final6 : (dats m 0 c).arrAt 6 cfg0.N = fun y : S1x2048.Idx => ∑ n : Fin 8192, duG (aD m c) (aU m c) (aW m c) n.val (y 1).val := by
  obtain ⟨t, ht, h5, h6⟩ := exists_last
  refine (dats m 0 c).arrAt_eq_of_after_last 6 t h6 _ fun y => ?_
  blk_simp
  rw [after0_6]
  refine (out6 m c t _).trans ?_
  rw [zero_add, ht]
  exact sum_blocks fun n => duG (aD m c) (aU m c) (aW m c) n (y 1).val

end Cert.Conv
-- ==== Proof.ConvRef.lean ====
/-
  The gradient of the gated causal convolution as the reference computes it: each result of the host program read over
  natural row and column numbers, and carried to the sums the kernel computes.
-/
module

public import proofs.«01_k».proof.Proof.ConvKernel
public import proofs.«01_k».proof.Proof.Gen.ReferenceIdeal.Read
public import Idealize.ShloMosaic.Lib.KernelVsHost

@[expose] public section

set_option maxRecDepth 16384

noncomputable section

namespace Cert.Conv.Ref

open Idealize.ShloMosaic Cert.Conv
open Cert.ReferenceIdeal Cert.ReferenceIdeal.Gen Cert.ReferenceIdeal.Read

/-! ## The two spellings of the gate -/

theorem half_val : Ideal.ofBits .f32 0x3F000000#32 = (((1 : ℝ) / 2 : ℝ) : EReal) := by
  simp [Ideal.ofBits, Ideal.ieee, -EReal.coe_mul]; norm_num

theorem logistic_gate (x : EReal) : Ideal.logistic x = gate x := by
  unfold gate
  rw [half_val]
  induction x using EReal.rec with
  | bot =>
    rw [Ideal.logistic_bot, EReal.coe_mul_bot_of_pos (by norm_num), Ideal.tanh_bot, ← EReal.coe_one, ← EReal.coe_neg, ← EReal.coe_mul,
      ← EReal.coe_add, ← EReal.coe_zero]
    congr 1; norm_num
  | top =>
    rw [Ideal.logistic_top, EReal.coe_mul_top_of_pos (by norm_num), Ideal.tanh_top, ← EReal.coe_one, ← EReal.coe_mul, ← EReal.coe_add]
    congr 1; norm_num
  | coe r =>
    rw [Ideal.logistic_coe, ← EReal.coe_mul, Ideal.tanh_coe, ← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; congr 1; ring
    have e1 : Real.exp (1 / 2 * r) * Real.exp (-(1 / 2 * r)) = 1 := by rw [← Real.exp_add]; simp
    rw [e]
    generalize Real.exp (-(1 / 2 * r)) = q at *
    have hp : 0 < Real.exp (1 / 2 * r) := Real.exp_pos _
    generalize Real.exp (1 / 2 * r) = p at *
    have hq : q = p⁻¹ := by field_simp; linarith
    subst hq
    field_simp
    ring

theorem sigmoid_gate (x : EReal) : Ideal.div 1 (1 + Ideal.exp (-x)) = gate x := logistic_gate x

/-! ## The three arrays -/

/-- The gradient of the projection. -/
def duArr (D : S8192x1024.Idx → EReal) (U : S8192x2048.Idx → EReal) (W : S31x1024.Idx → EReal) : S8192x2048.Idx → EReal :=
  fun y => duG D U W (y 0).val (y 1).val

/-- The gradient of the taps, with a row of zeros below. -/
def dwArr (D : S8192x1024.Idx → EReal) (U : S8192x2048.Idx → EReal) : S32x1024.Idx → EReal :=
  fun y => if (y 0).val < 31 then dwG D U (y 0).val (y 1).val else 0

/-- The gradient of the bias. -/
def dbArr (D : S8192x1024.Idx → EReal) (U : S8192x2048.Idx → EReal) (W : S31x1024.Idx → EReal) : S1x2048.Idx → EReal :=
  fun y => ∑ n : Fin 8192, duG D U W n.val (y 1).val

/-! ## Padding and joining, read at numbers -/

/-- Rows padded with zeros: row `i` of the result is row `i - l` of the operand from row `l` on, zero before and after. -/
theorem pad_rows {n N M l h : ℕ} (x : (⟨2, ![n, M]⟩ : Shape).Idx → EReal) (v : S_.Idx → EReal)
    (hp : Shape.Pads ⟨2, ![n, M]⟩ ![l, 0] ![h, 0] ![0, 0] ⟨2, ![N, M]⟩) (hu : 0 < S_.numel) (hv : ∀ i, v i = 0)
    (y : (⟨2, ![N, M]⟩ : Shape).Idx) :
    pad ⟨2, ![N, M]⟩ ![l, 0] ![h, 0] ![0, 0] x v hp hu y = if l ≤ (y 0).val then at2 x ((y 0).val - l) (y 1).val else 0 := by
  have y1 := ValueIdx.idx2_lt1 y
  by_cases hl : l ≤ (y 0).val
  · rw [if_pos hl]
    by_cases hn : (y 0).val - l < n
    · rw [at2_of_lt x _ _ hn y1]
      refine pad_apply_of_inside _ _ _ x v hp hu y (ix2 ⟨(y 0).val - l, hn⟩ ⟨(y 1).val, y1⟩) fun a => ?_
      match a with
      | ⟨0, _⟩ => show (y 0).val = l + ((y 0).val - l) * (0 + 1); omega
      | ⟨1, _⟩ => show (y 1).val = 0 + (y 1).val * (0 + 1); omega
    · rw [at2_of_row_ge x _ _ (by omega), ← hv (Shape.Idx.first hu)]
      refine pad_apply_of_not_inside _ _ _ x v hp hu y 0 fun hh => ?_
      have h3 : ((y 0).val - l) / (0 + 1) < n := hh.2.2
      omega
  · rw [if_neg hl, ← hv (Shape.Idx.first hu)]
    exact pad_apply_of_not_inside _ _ _ x v hp hu y 0 fun hh => hl hh.1

theorem zero_word (i : S_.Idx) : constant (F := Ideal) S_ .f32 0x00000000#32 i = (0 : EReal) := Ideal.ofBits_zero_f32

section
variable (x0 : (⟨S8192x1024, .f32⟩ : BufTy).Contents (Elt Ideal)) (x1 : (⟨S8192x2048, .f32⟩ : BufTy).Contents (Elt Ideal))
  (x2 : (⟨S31x1024, .f32⟩ : BufTy).Contents (Elt Ideal))

/-! ## The gate and the gated value -/

theorem v7_eq (i : S8192x1024.Idx) : val_main_v7 (F := Ideal) x1 i = gateAt (n := 8192) x1 (i 0).val (i 1).val := by
  rw [val_main_v7_apply, val_main_v6_apply, val_main_v5_apply, val_main_v4_apply, val_main_v3_apply, val_main_v2_apply, val_main_v1_apply]
  refine Eq.trans ?_ (sigmoid_gate (at2 (n := 8192) (m := 2048) x1 (i 0).val (1024 + (i 1).val)))
  rw [eq_at2_of (n := 8192) (m := 2048) x1 (idx_main_v1 i) (i 0).val (1024 + (i 1).val) rfl rfl]
  show Ideal.div (Ideal.ofBits .f32 0x3F800000#32) (Ideal.ofBits .f32 0x3F800000#32 + Ideal.exp _) = _
  rw [Ideal.ofBits_one_f32]
  rfl

theorem v0_eq (i : S8192x1024.Idx) : val_main_v0 (F := Ideal) x1 i = at2 (n := 8192) (m := 2048) x1 (i 0).val (i 1).val := by
  rw [val_main_v0_apply]
  exact eq_at2_of (n := 8192) (m := 2048) x1 _ _ _ rfl rfl

theorem v11_eq (i : S8192x1024.Idx) : val_main_v11 (F := Ideal) x1 i = gluAt (n := 8192) x1 (i 0).val (i 1).val := by
  rw [val_main_v11_apply, v0_eq, v7_eq]
  rfl

/-- The gated value after 30 rows of zeros. -/
theorem v13_eq (i : S8222x1024.Idx) :
    val_main_v13 (F := Ideal) x1 i = if 30 ≤ (i 0).val then gluAt (n := 8192) x1 ((i 0).val - 30) (i 1).val else 0 := by
  have h0 : (i 0).val < 8222 := ValueIdx.idx2_lt0 i
  have h1 : (i 1).val < 1024 := ValueIdx.idx2_lt1 i
  unfold val_main_v13
  by_cases h : 30 ≤ (i 0).val
  · rw [if_pos h, concatenate_pair_apply_right (t := S8222x1024) (s₁ := S30x1024) (s₂ := S8192x1024) 0 _ _ _ i rfl rfl
        (ix2 ⟨(i 0).val - 30, by omega⟩ ⟨(i 1).val, h1⟩)
        (fun b hb => by
          match b with
          | ⟨0, _⟩ => exact absurd rfl hb
          | ⟨1, _⟩ => rfl)
        (show (i 0).val - 30 + 30 = (i 0).val by omega), v11_eq]
    rfl
  · rw [if_neg h, concatenate_pair_apply_left (t := S8222x1024) (s₁ := S30x1024) (s₂ := S8192x1024) 0 _ _ _ i rfl
        (ix2 ⟨(i 0).val, by omega⟩ ⟨(i 1).val, h1⟩)
        (fun b => by
          match b with
          | ⟨0, _⟩ => rfl
          | ⟨1, _⟩ => rfl), val_main_v12_apply]
    exact Ideal.ofBits_zero_f32

/-! ## One tap -/

/-- A tap times the cotangent. -/
def tap (k q j : ℕ) : EReal := at2 (n := 31) (m := 1024) x2 k j * at2 (n := 8192) (m := 1024) x0 q j

/-- The gradient of tap `k` as the reference sums it: over the cotangent's rows. -/
def tapGrad (k j : ℕ) : EReal :=
  ∑ s : Fin 8192, at2 (n := 8192) (m := 1024) x0 s.val j * (if 30 ≤ s.val + k then gluAt (n := 8192) x1 (s.val + k - 30) j else 0)

/-- A matrix of taps times cotangents, read at any row. -/
theorem at2_tap (k : ℕ) (f : S8192x1024.Idx → EReal) (hf : ∀ i : S8192x1024.Idx, f i = tap x0 x2 k (i 0).val (i 1).val) (q j : ℕ) (hj : j < 1024) :
    at2 (n := 8192) (m := 1024) f q j = tap x0 x2 k q j := by
  by_cases hq : q < 8192
  · rw [at2_of_lt f q j hq hj, hf]; rfl
  · rw [at2_of_row_ge f q j (by omega), tap, at2_of_row_ge (n := 8192) x0 q j (by omega), mul_zero]

/-- Row `y` of the padded product. -/
theorem padTap (k h : ℕ) (f : S8192x1024.Idx → EReal) (hf : ∀ i : S8192x1024.Idx, f i = tap x0 x2 k (i 0).val (i 1).val)
    (v : S_.Idx → EReal) (hv : ∀ i, v i = 0) (hp : Shape.Pads S8192x1024 ![k, 0] ![h, 0] ![0, 0] S8222x1024) (y : S8222x1024.Idx) :
    pad S8222x1024 ![k, 0] ![h, 0] ![0, 0] f v hp h_S_ y = if k ≤ (y 0).val then tap x0 x2 k ((y 0).val - k) (y 1).val else 0 := by
  refine (pad_rows (n := 8192) (N := 8222) (M := 1024) f v hp h_S_ hv y).trans ?_
  rw [at2_tap x0 x2 k f hf _ _ (ValueIdx.idx2_lt1 y)]

/-- Row `y` of the padded gradient of one tap. -/
theorem padGrad (k h : ℕ) (f : S1x1024.Idx → EReal) (hf : ∀ i : S1x1024.Idx, f i = tapGrad x0 x1 k (i 1).val)
    (v : S_.Idx → EReal) (hv : ∀ i, v i = 0) (hp : Shape.Pads S1x1024 ![k, 0] ![h, 0] ![0, 0] S31x1024) (y : S31x1024.Idx) :
    pad S31x1024 ![k, 0] ![h, 0] ![0, 0] f v hp h_S_ y = if (y 0).val = k then tapGrad x0 x1 k (y 1).val else 0 := by
  have h1 : (y 1).val < 1024 := ValueIdx.idx2_lt1 y
  refine (pad_rows (n := 1) (N := 31) (M := 1024) f v hp h_S_ hv y).trans ?_
  by_cases hk : (y 0).val = k
  · rw [if_pos hk, if_pos hk.ge, at2_of_lt f _ _ (by omega) h1, hf]
    rfl
  · rw [if_neg hk]
    by_cases hl : k ≤ (y 0).val
    · rw [if_pos hl, at2_of_row_ge f _ _ (by omega)]
    · rw [if_neg hl]

theorem v171_eq (i : S8192x1024.Idx) : val_main_v171 (F := Ideal) x0 i = at2 (n := 8192) (m := 1024) x0 (i 0).val (i 1).val := by
  have h1 : (i 1).val < 1024 := ValueIdx.idx2_lt1 i
  rw [val_main_v171_apply]
  refine eq_at2_of (n := 8192) (m := 1024) x0 _ _ _ ?_ ?_
  · show ((i 0).val * 1024 + (i 1).val) / 1024 = (i 0).val; omega
  · show ((i 0).val * 1024 + (i 1).val) % 1024 = (i 1).val; omega

theorem v172_eq (i : S8192x1024.Idx) : val_main_v172 (F := Ideal) x0 i = at2 (n := 8192) (m := 1024) x0 (i 0).val (i 1).val :=
  v171_eq x0 i

/-- The sum over the rows of a cotangent times a slice of the padded gated value. -/
theorem grad_of (k : ℕ) (z : EReal) (hz : z = 0) (f : Fin 8192 → EReal) (j : ℕ)
    (hf : ∀ s, f s = at2 (n := 8192) (m := 1024) x0 s.val j * (if 30 ≤ k + s.val then gluAt (n := 8192) x1 (k + s.val - 30) j else 0)) :
    z + ∑ s, f s = tapGrad x0 x1 k j := by
  rw [hz, zero_add]
  refine Finset.sum_congr rfl fun s _ => ?_
  rw [hf s, Nat.add_comm k]

theorem mul30 (i : S8192x1024.Idx) : val_main_v174 (F := Ideal) x0 x2 i = tap x0 x2 30 (i 0).val (i 1).val := by
  rw [val_main_v174_apply, val_main_v173_apply, val_main_v166_apply, v172_eq, eq_at2_of (n := 31) (m := 1024) x2 _ 30 (i 1).val rfl rfl]
  rfl

theorem grad30 (i : S1x1024.Idx) : val_main_v177 (F := Ideal) x0 x1 i = tapGrad x0 x1 30 (i 1).val := by
  have h0 : (i 0).val < 1 := ValueIdx.idx2_lt0 i
  rw [val_main_v177_apply, val_main_v176_apply]
  refine grad_of x0 x1 30 _ Ideal.ofBits_zero_f32 _ (i 1).val fun s => ?_
  rw [val_main_v175_apply, v172_eq, val_main_v167_apply, v13_eq]
  have e : (i 0).val * 1024 + (i 1).val = (i 1).val := by omega
  simp only [e]
  rfl

theorem mul29 (i : S8192x1024.Idx) : val_main_v181 (F := Ideal) x0 x2 i = tap x0 x2 29 (i 0).val (i 1).val := by
  rw [val_main_v181_apply, val_main_v180_apply, val_main_v161_apply, v171_eq, eq_at2_of (n := 31) (m := 1024) x2 _ 29 (i 1).val rfl rfl]
  rfl

theorem grad29 (i : S1x1024.Idx) : val_main_v184 (F := Ideal) x0 x1 i = tapGrad x0 x1 29 (i 1).val := by
  have h0 : (i 0).val < 1 := ValueIdx.idx2_lt0 i
  rw [val_main_v184_apply, val_main_v183_apply]
  refine grad_of x0 x1 29 _ Ideal.ofBits_zero_f32 _ (i 1).val fun s => ?_
  rw [val_main_v182_apply, v171_eq, val_main_v162_apply, v13_eq]
  have e : (i 0).val * 1024 + (i 1).val = (i 1).val := by omega
  simp only [e]
  rfl

theorem mul28 (i : S8192x1024.Idx) : val_main_v190 (F := Ideal) x0 x2 i = tap x0 x2 28 (i 0).val (i 1).val := by
  rw [val_main_v190_apply, val_main_v189_apply, val_main_v156_apply, v171_eq, eq_at2_of (n := 31) (m := 1024) x2 _ 28 (i 1).val rfl rfl]
  rfl

theorem grad28 (i : S1x1024.Idx) : val_main_v193 (F := Ideal) x0 x1 i = tapGrad x0 x1 28 (i 1).val := by
  have h0 : (i 0).val < 1 := ValueIdx.idx2_lt0 i
  rw [val_main_v193_apply, val_main_v192_apply]
  refine grad_of x0 x1 28 _ Ideal.ofBits_zero_f32 _ (i 1).val fun s => ?_
  rw [val_main_v191_apply, v171_eq, val_main_v157_apply, v13_eq]
  have e : (i 0).val * 1024 + (i 1).val = (i 1).val := by omega
  simp only [e]
  rfl

theorem mul27 (i : S8192x1024.Idx) : val_main_v199 (F := Ideal) x0 x2 i = tap x0 x2 27 (i 0).val (i 1).val := by
  rw [val_main_v199_apply, val_main_v198_apply, val_main_v151_apply, v171_eq, eq_at2_of (n := 31) (m := 1024) x2 _ 27 (i 1).val rfl rfl]
  rfl

theorem grad27 (i : S1x1024.Idx) : val_main_v202 (F := Ideal) x0 x1 i = tapGrad x0 x1 27 (i 1).val := by
  have h0 : (i 0).val < 1 := ValueIdx.idx2_lt0 i
  rw [val_main_v202_apply, val_main_v201_apply]
  refine grad_of x0 x1 27 _ Ideal.ofBits_zero_f32 _ (i 1).val fun s => ?_
  rw [val_main_v200_apply, v171_eq, val_main_v152_apply, v13_eq]
  have e : (i 0).val * 1024 + (i 1).val = (i 1).val := by omega
  simp only [e]
  rfl

theorem mul26 (i : S8192x1024.Idx) : val_main_v208 (F := Ideal) x0 x2 i = tap x0 x2 26 (i 0).val (i 1).val := by
  rw [val_main_v208_apply, val_main_v207_apply, val_main_v146_apply, v171_eq, eq_at2_of (n := 31) (m := 1024) x2 _ 26 (i 1).val rfl rfl]
  rfl

theorem grad26 (i : S1x1024.Idx) : val_main_v211 (F := Ideal) x0 x1 i = tapGrad x0 x1 26 (i 1).val := by
  have h0 : (i 0).val < 1 := ValueIdx.idx2_lt0 i
  rw [val_main_v211_apply, val_main_v210_apply]
  refine grad_of x0 x1 26 _ Ideal.ofBits_zero_f32 _ (i 1).val fun s => ?_
  rw [val_main_v209_apply, v171_eq, val_main_v147_apply, v13_eq]
  have e : (i 0).val * 1024 + (i 1).val = (i 1).val := by omega
  simp only [e]
  rfl

theorem mul25 (i : S8192x1024.Idx) : val_main_v217 (F := Ideal) x0 x2 i = tap x0 x2 25 (i 0).val (i 1).val := by
  rw [val_main_v217_apply, val_main_v216_apply, val_main_v141_apply, v171_eq, eq_at2_of (n := 31) (m := 1024) x2 _ 25 (i 1).val rfl rfl]
  rfl

theorem grad25 (i : S1x1024.Idx) : val_main_v220 (F := Ideal) x0 x1 i = tapGrad x0 x1 25 (i 1).val := by
  have h0 : (i 0).val < 1 := ValueIdx.idx2_lt0 i
  rw [val_main_v220_apply, val_main_v219_apply]
  refine grad_of x0 x1 25 _ Ideal.ofBits_zero_f32 _ (i 1).val fun s => ?_
  rw [val_main_v218_apply, v171_eq, val_main_v142_apply, v13_eq]
  have e : (i 0).val * 1024 + (i 1).val = (i 1).val := by omega
  simp only [e]
  rfl

theorem mul24 (i : S8192x1024.Idx) : val_main_v226 (F := Ideal) x0 x2 i = tap x0 x2 24 (i 0).val (i 1).val := by
  rw [val_main_v226_apply, val_main_v225_apply, val_main_v136_apply, v171_eq, eq_at2_of (n := 31) (m := 1024) x2 _ 24 (i 1).val rfl rfl]
  rfl

theorem grad24 (i : S1x1024.Idx) : val_main_v229 (F := Ideal) x0 x1 i = tapGrad x0 x1 24 (i 1).val := by
  have h0 : (i 0).val < 1 := ValueIdx.idx2_lt0 i
  rw [val_main_v229_apply, val_main_v228_apply]
  refine grad_of x0 x1 24 _ Ideal.ofBits_zero_f32 _ (i 1).val fun s => ?_
  rw [val_main_v227_apply, v171_eq, val_main_v137_apply, v13_eq]
  have e : (i 0).val * 1024 + (i 1).val = (i 1).val := by omega
  simp only [e]
  rfl

theorem mul23 (i : S8192x1024.Idx) : val_main_v235 (F := Ideal) x0 x2 i = tap x0 x2 23 (i 0).val (i 1).val := by
  rw [val_main_v235_apply, val_main_v234_apply, val_main_v131_apply, v171_eq, eq_at2_of (n := 31) (m := 1024) x2 _ 23 (i 1).val rfl rfl]
  rfl

theorem grad23 (i : S1x1024.Idx) : val_main_v238 (F := Ideal) x0 x1 i = tapGrad x0 x1 23 (i 1).val := by
  have h0 : (i 0).val < 1 := ValueIdx.idx2_lt0 i
  rw [val_main_v238_apply, val_main_v237_apply]
  refine grad_of x0 x1 23 _ Ideal.ofBits_zero_f32 _ (i 1).val fun s => ?_
  rw [val_main_v236_apply, v171_eq, val_main_v132_apply, v13_eq]
  have e : (i 0).val * 1024 + (i 1).val = (i 1).val := by omega
  simp only [e]
  rfl

theorem mul22 (i : S8192x1024.Idx) : val_main_v244 (F := Ideal) x0 x2 i = tap x0 x2 22 (i 0).val (i 1).val := by
  rw [val_main_v244_apply, val_main_v243_apply, val_main_v126_apply, v171_eq, eq_at2_of (n := 31) (m := 1024) x2 _ 22 (i 1).val rfl rfl]
  rfl

theorem grad22 (i : S1x1024.Idx) : val_main_v247 (F := Ideal) x0 x1 i = tapGrad x0 x1 22 (i 1).val := by
  have h0 : (i 0).val < 1 := ValueIdx.idx2_lt0 i
  rw [val_main_v247_apply, val_main_v246_apply]
  refine grad_of x0 x1 22 _ Ideal.ofBits_zero_f32 _ (i 1).val fun s => ?_
  rw [val_main_v245_apply, v171_eq, val_main_v127_apply, v13_eq]
  have e : (i 0).val * 1024 + (i 1).val = (i 1).val := by omega
  simp only [e]
  rfl

theorem mul21 (i : S8192x1024.Idx) : val_main_v253 (F := Ideal) x0 x2 i = tap x0 x2 21 (i 0).val (i 1).val := by
  rw [val_main_v253_apply, val_main_v252_apply, val_main_v121_apply, v171_eq, eq_at2_of (n := 31) (m := 1024) x2 _ 21 (i 1).val rfl rfl]
  rfl

theorem grad21 (i : S1x1024.Idx) : val_main_v256 (F := Ideal) x0 x1 i = tapGrad x0 x1 21 (i 1).val := by
  have h0 : (i 0).val < 1 := ValueIdx.idx2_lt0 i
  rw [val_main_v256_apply, val_main_v255_apply]
  refine grad_of x0 x1 21 _ Ideal.ofBits_zero_f32 _ (i 1).val fun s => ?_
  rw [val_main_v254_apply, v171_eq, val_main_v122_apply, v13_eq]
  have e : (i 0).val * 1024 + (i 1).val = (i 1).val := by omega
  simp only [e]
  rfl

theorem mul20 (i : S8192x1024.Idx) : val_main_v262 (F := Ideal) x0 x2 i = tap x0 x2 20 (i 0).val (i 1).val := by
  rw [val_main_v262_apply, val_main_v261_apply, val_main_v116_apply, v171_eq, eq_at2_of (n := 31) (m := 1024) x2 _ 20 (i 1).val rfl rfl]
  rfl

theorem grad20 (i : S1x1024.Idx) : val_main_v265 (F := Ideal) x0 x1 i = tapGrad x0 x1 20 (i 1).val := by
  have h0 : (i 0).val < 1 := ValueIdx.idx2_lt0 i
  rw [val_main_v265_apply, val_main_v264_apply]
  refine grad_of x0 x1 20 _ Ideal.ofBits_zero_f32 _ (i 1).val fun s => ?_
  rw [val_main_v263_apply, v171_eq, val_main_v117_apply, v13_eq]
  have e : (i 0).val * 1024 + (i 1).val = (i 1).val := by omega
  simp only [e]
  rfl

theorem mul19 (i : S8192x1024.Idx) : val_main_v271 (F := Ideal) x0 x2 i = tap x0 x2 19 (i 0).val (i 1).val := by
  rw [val_main_v271_apply, val_main_v270_apply, val_main_v111_apply, v171_eq, eq_at2_of (n := 31) (m := 1024) x2 _ 19 (i 1).val rfl rfl]
  rfl

theorem grad19 (i : S1x1024.Idx) : val_main_v274 (F := Ideal) x0 x1 i = tapGrad x0 x1 19 (i 1).val := by
  have h0 : (i 0).val < 1 := ValueIdx.idx2_lt0 i
  rw [val_main_v274_apply, val_main_v273_apply]
  refine grad_of x0 x1 19 _ Ideal.ofBits_zero_f32 _ (i 1).val fun s => ?_
  rw [val_main_v272_apply, v171_eq, val_main_v112_apply, v13_eq]
  have e : (i 0).val * 1024 + (i 1).val = (i 1).val := by omega
  simp only [e]
  rfl

theorem mul18 (i : S8192x1024.Idx) : val_main_v280 (F := Ideal) x0 x2 i = tap x0 x2 18 (i 0).val (i 1).val := by
  rw [val_main_v280_apply, val_main_v279_apply, val_main_v106_apply, v171_eq, eq_at2_of (n := 31) (m := 1024) x2 _ 18 (i 1).val rfl rfl]
  rfl

theorem grad18 (i : S1x1024.Idx) : val_main_v283 (F := Ideal) x0 x1 i = tapGrad x0 x1 18 (i 1).val := by
  have h0 : (i 0).val < 1 := ValueIdx.idx2_lt0 i
  rw [val_main_v283_apply, val_main_v282_apply]
  refine grad_of x0 x1 18 _ Ideal.ofBits_zero_f32 _ (i 1).val fun s => ?_
  rw [val_main_v281_apply, v171_eq, val_main_v107_apply, v13_eq]
  have e : (i 0).val * 1024 + (i 1).val = (i 1).val := by omega
  simp only [e]
  rfl

theorem mul17 (i : S8192x1024.Idx) : val_main_v289 (F := Ideal) x0 x2 i = tap x0 x2 17 (i 0).val (i 1).val := by
  rw [val_main_v289_apply, val_main_v288_apply, val_main_v101_apply, v171_eq, eq_at2_of (n := 31) (m := 1024) x2 _ 17 (i 1).val rfl rfl]
  rfl

theorem grad17 (i : S1x1024.Idx) : val_main_v292 (F := Ideal) x0 x1 i = tapGrad x0 x1 17 (i 1).val := by
  have h0 : (i 0).val < 1 := ValueIdx.idx2_lt0 i
  rw [val_main_v292_apply, val_main_v291_apply]
  refine grad_of x0 x1 17 _ Ideal.ofBits_zero_f32 _ (i 1).val fun s => ?_
  rw [val_main_v290_apply, v171_eq, val_main_v102_apply, v13_eq]
  have e : (i 0).val * 1024 + (i 1).val = (i 1).val := by omega
  simp only [e]
  rfl

theorem mul16 (i : S8192x1024.Idx) : val_main_v298 (F := Ideal) x0 x2 i = tap x0 x2 16 (i 0).val (i 1).val := by
  rw [val_main_v298_apply, val_main_v297_apply, val_main_v96_apply, v171_eq, eq_at2_of (n := 31) (m := 1024) x2 _ 16 (i 1).val rfl rfl]
  rfl

theorem grad16 (i : S1x1024.Idx) : val_main_v301 (F := Ideal) x0 x1 i = tapGrad x0 x1 16 (i 1).val := by
  have h0 : (i 0).val < 1 := ValueIdx.idx2_lt0 i
  rw [val_main_v301_apply, val_main_v300_apply]
  refine grad_of x0 x1 16 _ Ideal.ofBits_zero_f32 _ (i 1).val fun s => ?_
  rw [val_main_v299_apply, v171_eq, val_main_v97_apply, v13_eq]
  have e : (i 0).val * 1024 + (i 1).val = (i 1).val := by omega
  simp only [e]
  rfl

theorem mul15 (i : S8192x1024.Idx) : val_main_v307 (F := Ideal) x0 x2 i = tap x0 x2 15 (i 0).val (i 1).val := by
  rw [val_main_v307_apply, val_main_v306_apply, val_main_v91_apply, v171_eq, eq_at2_of (n := 31) (m := 1024) x2 _ 15 (i 1).val rfl rfl]
  rfl

theorem grad15 (i : S1x1024.Idx) : val_main_v310 (F := Ideal) x0 x1 i = tapGrad x0 x1 15 (i 1).val := by
  have h0 : (i 0).val < 1 := ValueIdx.idx2_lt0 i
  rw [val_main_v310_apply, val_main_v309_apply]
  refine grad_of x0 x1 15 _ Ideal.ofBits_zero_f32 _ (i 1).val fun s => ?_
  rw [val_main_v308_apply, v171_eq, val_main_v92_apply, v13_eq]
  have e : (i 0).val * 1024 + (i 1).val = (i 1).val := by omega
  simp only [e]
  rfl

theorem mul14 (i : S8192x1024.Idx) : val_main_v316 (F := Ideal) x0 x2 i = tap x0 x2 14 (i 0).val (i 1).val := by
  rw [val_main_v316_apply, val_main_v315_apply, val_main_v86_apply, v171_eq, eq_at2_of (n := 31) (m := 1024) x2 _ 14 (i 1).val rfl rfl]
  rfl

theorem grad14 (i : S1x1024.Idx) : val_main_v319 (F := Ideal) x0 x1 i = tapGrad x0 x1 14 (i 1).val := by
  have h0 : (i 0).val < 1 := ValueIdx.idx2_lt0 i
  rw [val_main_v319_apply, val_main_v318_apply]
  refine grad_of x0 x1 14 _ Ideal.ofBits_zero_f32 _ (i 1).val fun s => ?_
  rw [val_main_v317_apply, v171_eq, val_main_v87_apply, v13_eq]
  have e : (i 0).val * 1024 + (i 1).val = (i 1).val := by omega
  simp only [e]
  rfl

theorem mul13 (i : S8192x1024.Idx) : val_main_v325 (F := Ideal) x0 x2 i = tap x0 x2 13 (i 0).val (i 1).val := by
  rw [val_main_v325_apply, val_main_v324_apply, val_main_v81_apply, v171_eq, eq_at2_of (n := 31) (m := 1024) x2 _ 13 (i 1).val rfl rfl]
  rfl

theorem grad13 (i : S1x1024.Idx) : val_main_v328 (F := Ideal) x0 x1 i = tapGrad x0 x1 13 (i 1).val := by
  have h0 : (i 0).val < 1 := ValueIdx.idx2_lt0 i
  rw [val_main_v328_apply, val_main_v327_apply]
  refine grad_of x0 x1 13 _ Ideal.ofBits_zero_f32 _ (i 1).val fun s => ?_
  rw [val_main_v326_apply, v171_eq, val_main_v82_apply, v13_eq]
  have e : (i 0).val * 1024 + (i 1).val = (i 1).val := by omega
  simp only [e]
  rfl

theorem mul12 (i : S8192x1024.Idx) : val_main_v334 (F := Ideal) x0 x2 i = tap x0 x2 12 (i 0).val (i 1).val := by
  rw [val_main_v334_apply, val_main_v333_apply, val_main_v76_apply, v171_eq, eq_at2_of (n := 31) (m := 1024) x2 _ 12 (i 1).val rfl rfl]
  rfl

theorem grad12 (i : S1x1024.Idx) : val_main_v337 (F := Ideal) x0 x1 i = tapGrad x0 x1 12 (i 1).val := by
  have h0 : (i 0).val < 1 := ValueIdx.idx2_lt0 i
  rw [val_main_v337_apply, val_main_v336_apply]
  refine grad_of x0 x1 12 _ Ideal.ofBits_zero_f32 _ (i 1).val fun s => ?_
  rw [val_main_v335_apply, v171_eq, val_main_v77_apply, v13_eq]
  have e : (i 0).val * 1024 + (i 1).val = (i 1).val := by omega
  simp only [e]
  rfl

theorem mul11 (i : S8192x1024.Idx) : val_main_v343 (F := Ideal) x0 x2 i = tap x0 x2 11 (i 0).val (i 1).val := by
  rw [val_main_v343_apply, val_main_v342_apply, val_main_v71_apply, v171_eq, eq_at2_of (n := 31) (m := 1024) x2 _ 11 (i 1).val rfl rfl]
  rfl

theorem grad11 (i : S1x1024.Idx) : val_main_v346 (F := Ideal) x0 x1 i = tapGrad x0 x1 11 (i 1).val := by
  have h0 : (i 0).val < 1 := ValueIdx.idx2_lt0 i
  rw [val_main_v346_apply, val_main_v345_apply]
  refine grad_of x0 x1 11 _ Ideal.ofBits_zero_f32 _ (i 1).val fun s => ?_
  rw [val_main_v344_apply, v171_eq, val_main_v72_apply, v13_eq]
  have e : (i 0).val * 1024 + (i 1).val = (i 1).val := by omega
  simp only [e]
  rfl

theorem mul10 (i : S8192x1024.Idx) : val_main_v352 (F := Ideal) x0 x2 i = tap x0 x2 10 (i 0).val (i 1).val := by
  rw [val_main_v352_apply, val_main_v351_apply, val_main_v66_apply, v171_eq, eq_at2_of (n := 31) (m := 1024) x2 _ 10 (i 1).val rfl rfl]
  rfl

theorem grad10 (i : S1x1024.Idx) : val_main_v355 (F := Ideal) x0 x1 i = tapGrad x0 x1 10 (i 1).val := by
  have h0 : (i 0).val < 1 := ValueIdx.idx2_lt0 i
  rw [val_main_v355_apply, val_main_v354_apply]
  refine grad_of x0 x1 10 _ Ideal.ofBits_zero_f32 _ (i 1).val fun s => ?_
  rw [val_main_v353_apply, v171_eq, val_main_v67_apply, v13_eq]
  have e : (i 0).val * 1024 + (i 1).val = (i 1).val := by omega
  simp only [e]
  rfl

theorem mul9 (i : S8192x1024.Idx) : val_main_v361 (F := Ideal) x0 x2 i = tap x0 x2 9 (i 0).val (i 1).val := by
  rw [val_main_v361_apply, val_main_v360_apply, val_main_v61_apply, v171_eq, eq_at2_of (n := 31) (m := 1024) x2 _ 9 (i 1).val rfl rfl]
  rfl

theorem grad9 (i : S1x1024.Idx) : val_main_v364 (F := Ideal) x0 x1 i = tapGrad x0 x1 9 (i 1).val := by
  have h0 : (i 0).val < 1 := ValueIdx.idx2_lt0 i
  rw [val_main_v364_apply, val_main_v363_apply]
  refine grad_of x0 x1 9 _ Ideal.ofBits_zero_f32 _ (i 1).val fun s => ?_
  rw [val_main_v362_apply, v171_eq, val_main_v62_apply, v13_eq]
  have e : (i 0).val * 1024 + (i 1).val = (i 1).val := by omega
  simp only [e]
  rfl

theorem mul8 (i : S8192x1024.Idx) : val_main_v370 (F := Ideal) x0 x2 i = tap x0 x2 8 (i 0).val (i 1).val := by
  rw [val_main_v370_apply, val_main_v369_apply, val_main_v56_apply, v171_eq, eq_at2_of (n := 31) (m := 1024) x2 _ 8 (i 1).val rfl rfl]
  rfl

theorem grad8 (i : S1x1024.Idx) : val_main_v373 (F := Ideal) x0 x1 i = tapGrad x0 x1 8 (i 1).val := by
  have h0 : (i 0).val < 1 := ValueIdx.idx2_lt0 i
  rw [val_main_v373_apply, val_main_v372_apply]
  refine grad_of x0 x1 8 _ Ideal.ofBits_zero_f32 _ (i 1).val fun s => ?_
  rw [val_main_v371_apply, v171_eq, val_main_v57_apply, v13_eq]
  have e : (i 0).val * 1024 + (i 1).val = (i 1).val := by omega
  simp only [e]
  rfl

theorem mul7 (i : S8192x1024.Idx) : val_main_v379 (F := Ideal) x0 x2 i = tap x0 x2 7 (i 0).val (i 1).val := by
  rw [val_main_v379_apply, val_main_v378_apply, val_main_v51_apply, v171_eq, eq_at2_of (n := 31) (m := 1024) x2 _ 7 (i 1).val rfl rfl]
  rfl

theorem grad7 (i : S1x1024.Idx) : val_main_v382 (F := Ideal) x0 x1 i = tapGrad x0 x1 7 (i 1).val := by
  have h0 : (i 0).val < 1 := ValueIdx.idx2_lt0 i
  rw [val_main_v382_apply, val_main_v381_apply]
  refine grad_of x0 x1 7 _ Ideal.ofBits_zero_f32 _ (i 1).val fun s => ?_
  rw [val_main_v380_apply, v171_eq, val_main_v52_apply, v13_eq]
  have e : (i 0).val * 1024 + (i 1).val = (i 1).val := by omega
  simp only [e]
  rfl

theorem mul6 (i : S8192x1024.Idx) : val_main_v388 (F := Ideal) x0 x2 i = tap x0 x2 6 (i 0).val (i 1).val := by
  rw [val_main_v388_apply, val_main_v387_apply, val_main_v46_apply, v171_eq, eq_at2_of (n := 31) (m := 1024) x2 _ 6 (i 1).val rfl rfl]
  rfl

theorem grad6 (i : S1x1024.Idx) : val_main_v391 (F := Ideal) x0 x1 i = tapGrad x0 x1 6 (i 1).val := by
  have h0 : (i 0).val < 1 := ValueIdx.idx2_lt0 i
  rw [val_main_v391_apply, val_main_v390_apply]
  refine grad_of x0 x1 6 _ Ideal.ofBits_zero_f32 _ (i 1).val fun s => ?_
  rw [val_main_v389_apply, v171_eq, val_main_v47_apply, v13_eq]
  have e : (i 0).val * 1024 + (i 1).val = (i 1).val := by omega
  simp only [e]
  rfl

theorem mul5 (i : S8192x1024.Idx) : val_main_v397 (F := Ideal) x0 x2 i = tap x0 x2 5 (i 0).val (i 1).val := by
  rw [val_main_v397_apply, val_main_v396_apply, val_main_v41_apply, v171_eq, eq_at2_of (n := 31) (m := 1024) x2 _ 5 (i 1).val rfl rfl]
  rfl

theorem grad5 (i : S1x1024.Idx) : val_main_v400 (F := Ideal) x0 x1 i = tapGrad x0 x1 5 (i 1).val := by
  have h0 : (i 0).val < 1 := ValueIdx.idx2_lt0 i
  rw [val_main_v400_apply, val_main_v399_apply]
  refine grad_of x0 x1 5 _ Ideal.ofBits_zero_f32 _ (i 1).val fun s => ?_
  rw [val_main_v398_apply, v171_eq, val_main_v42_apply, v13_eq]
  have e : (i 0).val * 1024 + (i 1).val = (i 1).val := by omega
  simp only [e]
  rfl

theorem mul4 (i : S8192x1024.Idx) : val_main_v406 (F := Ideal) x0 x2 i = tap x0 x2 4 (i 0).val (i 1).val := by
  rw [val_main_v406_apply, val_main_v405_apply, val_main_v36_apply, v171_eq, eq_at2_of (n := 31) (m := 1024) x2 _ 4 (i 1).val rfl rfl]
  rfl

theorem grad4 (i : S1x1024.Idx) : val_main_v409 (F := Ideal) x0 x1 i = tapGrad x0 x1 4 (i 1).val := by
  have h0 : (i 0).val < 1 := ValueIdx.idx2_lt0 i
  rw [val_main_v409_apply, val_main_v408_apply]
  refine grad_of x0 x1 4 _ Ideal.ofBits_zero_f32 _ (i 1).val fun s => ?_
  rw [val_main_v407_apply, v171_eq, val_main_v37_apply, v13_eq]
  have e : (i 0).val * 1024 + (i 1).val = (i 1).val := by omega
  simp only [e]
  rfl

theorem mul3 (i : S8192x1024.Idx) : val_main_v415 (F := Ideal) x0 x2 i = tap x0 x2 3 (i 0).val (i 1).val := by
  rw [val_main_v415_apply, val_main_v414_apply, val_main_v31_apply, v171_eq, eq_at2_of (n := 31) (m := 1024) x2 _ 3 (i 1).val rfl rfl]
  rfl

theorem grad3 (i : S1x1024.Idx) : val_main_v418 (F := Ideal) x0 x1 i = tapGrad x0 x1 3 (i 1).val := by
  have h0 : (i 0).val < 1 := ValueIdx.idx2_lt0 i
  rw [val_main_v418_apply, val_main_v417_apply]
  refine grad_of x0 x1 3 _ Ideal.ofBits_zero_f32 _ (i 1).val fun s => ?_
  rw [val_main_v416_apply, v171_eq, val_main_v32_apply, v13_eq]
  have e : (i 0).val * 1024 + (i 1).val = (i 1).val := by omega
  simp only [e]
  rfl

theorem mul2 (i : S8192x1024.Idx) : val_main_v424 (F := Ideal) x0 x2 i = tap x0 x2 2 (i 0).val (i 1).val := by
  rw [val_main_v424_apply, val_main_v423_apply, val_main_v26_apply, v171_eq, eq_at2_of (n := 31) (m := 1024) x2 _ 2 (i 1).val rfl rfl]
  rfl

theorem grad2 (i : S1x1024.Idx) : val_main_v427 (F := Ideal) x0 x1 i = tapGrad x0 x1 2 (i 1).val := by
  have h0 : (i 0).val < 1 := ValueIdx.idx2_lt0 i
  rw [val_main_v427_apply, val_main_v426_apply]
  refine grad_of x0 x1 2 _ Ideal.ofBits_zero_f32 _ (i 1).val fun s => ?_
  rw [val_main_v425_apply, v171_eq, val_main_v27_apply, v13_eq]
  have e : (i 0).val * 1024 + (i 1).val = (i 1).val := by omega
  simp only [e]
  rfl

theorem mul1 (i : S8192x1024.Idx) : val_main_v433 (F := Ideal) x0 x2 i = tap x0 x2 1 (i 0).val (i 1).val := by
  rw [val_main_v433_apply, val_main_v432_apply, val_main_v21_apply, v171_eq, eq_at2_of (n := 31) (m := 1024) x2 _ 1 (i 1).val rfl rfl]
  rfl

theorem grad1 (i : S1x1024.Idx) : val_main_v436 (F := Ideal) x0 x1 i = tapGrad x0 x1 1 (i 1).val := by
  have h0 : (i 0).val < 1 := ValueIdx.idx2_lt0 i
  rw [val_main_v436_apply, val_main_v435_apply]
  refine grad_of x0 x1 1 _ Ideal.ofBits_zero_f32 _ (i 1).val fun s => ?_
  rw [val_main_v434_apply, v171_eq, val_main_v22_apply, v13_eq]
  have e : (i 0).val * 1024 + (i 1).val = (i 1).val := by omega
  simp only [e]
  rfl

theorem mul0 (i : S8192x1024.Idx) : val_main_v442 (F := Ideal) x0 x2 i = tap x0 x2 0 (i 0).val (i 1).val := by
  rw [val_main_v442_apply, val_main_v441_apply, val_main_v15_apply, v171_eq, eq_at2_of (n := 31) (m := 1024) x2 _ 0 (i 1).val rfl rfl]
  rfl

theorem grad0 (i : S1x1024.Idx) : val_main_v445 (F := Ideal) x0 x1 i = tapGrad x0 x1 0 (i 1).val := by
  have h0 : (i 0).val < 1 := ValueIdx.idx2_lt0 i
  rw [val_main_v445_apply, val_main_v444_apply]
  refine grad_of x0 x1 0 _ Ideal.ofBits_zero_f32 _ (i 1).val fun s => ?_
  rw [val_main_v443_apply, v171_eq, val_main_v16_apply, v13_eq]
  have e : (i 0).val * 1024 + (i 1).val = (i 1).val := by omega
  simp only [e]
  show _ * (if 30 ≤ s.val then gluAt (n := 8192) x1 (s.val - 30) (i 1).val else 0) = _
  rw [Nat.zero_add]

theorem big30 (y : S8222x1024.Idx) (hy : 30 ≤ (y 0).val) : val_main_v178 (F := Ideal) x0 x2 y
    = ∑ q ∈ Finset.range 1, tap x0 x2 (30 - q) ((y 0).val - (30 - q)) (y 1).val := by
  rw [Finset.sum_range_one]
  exact (padTap x0 x2 30 0 _ (mul30 x0 x2) _ zero_word _ y).trans (if_pos hy)

theorem small30 (y : S31x1024.Idx) : val_main_v179 (F := Ideal) x0 x1 y
    = ∑ q ∈ Finset.range 1, if (y 0).val = 30 - q then tapGrad x0 x1 (30 - q) (y 1).val else 0 := by
  rw [Finset.sum_range_one]
  exact padGrad x0 x1 30 0 _ (grad30 x0 x1) _ zero_word _ y

theorem big29 (y : S8222x1024.Idx) (hy : 30 ≤ (y 0).val) : val_main_v186 (F := Ideal) x0 x2 y
    = ∑ q ∈ Finset.range 2, tap x0 x2 (30 - q) ((y 0).val - (30 - q)) (y 1).val := by
  rw [Finset.sum_range_succ, val_main_v186_apply, big30 x0 x2 y hy]
  exact congrArg _ ((padTap x0 x2 29 1 _ (mul29 x0 x2) _ zero_word _ y).trans (if_pos (by omega)))

theorem small29 (y : S31x1024.Idx) : val_main_v188 (F := Ideal) x0 x1 y
    = ∑ q ∈ Finset.range 2, if (y 0).val = 30 - q then tapGrad x0 x1 (30 - q) (y 1).val else 0 := by
  rw [Finset.sum_range_succ, val_main_v188_apply, small30 x0 x1 y]
  exact congrArg _ (padGrad x0 x1 29 1 _ (grad29 x0 x1) _ zero_word _ y)

theorem big28 (y : S8222x1024.Idx) (hy : 30 ≤ (y 0).val) : val_main_v195 (F := Ideal) x0 x2 y
    = ∑ q ∈ Finset.range 3, tap x0 x2 (30 - q) ((y 0).val - (30 - q)) (y 1).val := by
  rw [Finset.sum_range_succ, val_main_v195_apply, big29 x0 x2 y hy]
  exact congrArg _ ((padTap x0 x2 28 2 _ (mul28 x0 x2) _ zero_word _ y).trans (if_pos (by omega)))

theorem small28 (y : S31x1024.Idx) : val_main_v197 (F := Ideal) x0 x1 y
    = ∑ q ∈ Finset.range 3, if (y 0).val = 30 - q then tapGrad x0 x1 (30 - q) (y 1).val else 0 := by
  rw [Finset.sum_range_succ, val_main_v197_apply, small29 x0 x1 y]
  exact congrArg _ (padGrad x0 x1 28 2 _ (grad28 x0 x1) _ zero_word _ y)

theorem big27 (y : S8222x1024.Idx) (hy : 30 ≤ (y 0).val) : val_main_v204 (F := Ideal) x0 x2 y
    = ∑ q ∈ Finset.range 4, tap x0 x2 (30 - q) ((y 0).val - (30 - q)) (y 1).val := by
  rw [Finset.sum_range_succ, val_main_v204_apply, big28 x0 x2 y hy]
  exact congrArg _ ((padTap x0 x2 27 3 _ (mul27 x0 x2) _ zero_word _ y).trans (if_pos (by omega)))

theorem small27 (y : S31x1024.Idx) : val_main_v206 (F := Ideal) x0 x1 y
    = ∑ q ∈ Finset.range 4, if (y 0).val = 30 - q then tapGrad x0 x1 (30 - q) (y 1).val else 0 := by
  rw [Finset.sum_range_succ, val_main_v206_apply, small28 x0 x1 y]
  exact congrArg _ (padGrad x0 x1 27 3 _ (grad27 x0 x1) _ zero_word _ y)

theorem big26 (y : S8222x1024.Idx) (hy : 30 ≤ (y 0).val) : val_main_v213 (F := Ideal) x0 x2 y
    = ∑ q ∈ Finset.range 5, tap x0 x2 (30 - q) ((y 0).val - (30 - q)) (y 1).val := by
  rw [Finset.sum_range_succ, val_main_v213_apply, big27 x0 x2 y hy]
  exact congrArg _ ((padTap x0 x2 26 4 _ (mul26 x0 x2) _ zero_word _ y).trans (if_pos (by omega)))

theorem small26 (y : S31x1024.Idx) : val_main_v215 (F := Ideal) x0 x1 y
    = ∑ q ∈ Finset.range 5, if (y 0).val = 30 - q then tapGrad x0 x1 (30 - q) (y 1).val else 0 := by
  rw [Finset.sum_range_succ, val_main_v215_apply, small27 x0 x1 y]
  exact congrArg _ (padGrad x0 x1 26 4 _ (grad26 x0 x1) _ zero_word _ y)

theorem big25 (y : S8222x1024.Idx) (hy : 30 ≤ (y 0).val) : val_main_v222 (F := Ideal) x0 x2 y
    = ∑ q ∈ Finset.range 6, tap x0 x2 (30 - q) ((y 0).val - (30 - q)) (y 1).val := by
  rw [Finset.sum_range_succ, val_main_v222_apply, big26 x0 x2 y hy]
  exact congrArg _ ((padTap x0 x2 25 5 _ (mul25 x0 x2) _ zero_word _ y).trans (if_pos (by omega)))

theorem small25 (y : S31x1024.Idx) : val_main_v224 (F := Ideal) x0 x1 y
    = ∑ q ∈ Finset.range 6, if (y 0).val = 30 - q then tapGrad x0 x1 (30 - q) (y 1).val else 0 := by
  rw [Finset.sum_range_succ, val_main_v224_apply, small26 x0 x1 y]
  exact congrArg _ (padGrad x0 x1 25 5 _ (grad25 x0 x1) _ zero_word _ y)

theorem big24 (y : S8222x1024.Idx) (hy : 30 ≤ (y 0).val) : val_main_v231 (F := Ideal) x0 x2 y
    = ∑ q ∈ Finset.range 7, tap x0 x2 (30 - q) ((y 0).val - (30 - q)) (y 1).val := by
  rw [Finset.sum_range_succ, val_main_v231_apply, big25 x0 x2 y hy]
  exact congrArg _ ((padTap x0 x2 24 6 _ (mul24 x0 x2) _ zero_word _ y).trans (if_pos (by omega)))

theorem small24 (y : S31x1024.Idx) : val_main_v233 (F := Ideal) x0 x1 y
    = ∑ q ∈ Finset.range 7, if (y 0).val = 30 - q then tapGrad x0 x1 (30 - q) (y 1).val else 0 := by
  rw [Finset.sum_range_succ, val_main_v233_apply, small25 x0 x1 y]
  exact congrArg _ (padGrad x0 x1 24 6 _ (grad24 x0 x1) _ zero_word _ y)

theorem big23 (y : S8222x1024.Idx) (hy : 30 ≤ (y 0).val) : val_main_v240 (F := Ideal) x0 x2 y
    = ∑ q ∈ Finset.range 8, tap x0 x2 (30 - q) ((y 0).val - (30 - q)) (y 1).val := by
  rw [Finset.sum_range_succ, val_main_v240_apply, big24 x0 x2 y hy]
  exact congrArg _ ((padTap x0 x2 23 7 _ (mul23 x0 x2) _ zero_word _ y).trans (if_pos (by omega)))

theorem small23 (y : S31x1024.Idx) : val_main_v242 (F := Ideal) x0 x1 y
    = ∑ q ∈ Finset.range 8, if (y 0).val = 30 - q then tapGrad x0 x1 (30 - q) (y 1).val else 0 := by
  rw [Finset.sum_range_succ, val_main_v242_apply, small24 x0 x1 y]
  exact congrArg _ (padGrad x0 x1 23 7 _ (grad23 x0 x1) _ zero_word _ y)

theorem big22 (y : S8222x1024.Idx) (hy : 30 ≤ (y 0).val) : val_main_v249 (F := Ideal) x0 x2 y
    = ∑ q ∈ Finset.range 9, tap x0 x2 (30 - q) ((y 0).val - (30 - q)) (y 1).val := by
  rw [Finset.sum_range_succ, val_main_v249_apply, big23 x0 x2 y hy]
  exact congrArg _ ((padTap x0 x2 22 8 _ (mul22 x0 x2) _ zero_word _ y).trans (if_pos (by omega)))

theorem small22 (y : S31x1024.Idx) : val_main_v251 (F := Ideal) x0 x1 y
    = ∑ q ∈ Finset.range 9, if (y 0).val = 30 - q then tapGrad x0 x1 (30 - q) (y 1).val else 0 := by
  rw [Finset.sum_range_succ, val_main_v251_apply, small23 x0 x1 y]
  exact congrArg _ (padGrad x0 x1 22 8 _ (grad22 x0 x1) _ zero_word _ y)

theorem big21 (y : S8222x1024.Idx) (hy : 30 ≤ (y 0).val) : val_main_v258 (F := Ideal) x0 x2 y
    = ∑ q ∈ Finset.range 10, tap x0 x2 (30 - q) ((y 0).val - (30 - q)) (y 1).val := by
  rw [Finset.sum_range_succ, val_main_v258_apply, big22 x0 x2 y hy]
  exact congrArg _ ((padTap x0 x2 21 9 _ (mul21 x0 x2) _ zero_word _ y).trans (if_pos (by omega)))

theorem small21 (y : S31x1024.Idx) : val_main_v260 (F := Ideal) x0 x1 y
    = ∑ q ∈ Finset.range 10, if (y 0).val = 30 - q then tapGrad x0 x1 (30 - q) (y 1).val else 0 := by
  rw [Finset.sum_range_succ, val_main_v260_apply, small22 x0 x1 y]
  exact congrArg _ (padGrad x0 x1 21 9 _ (grad21 x0 x1) _ zero_word _ y)

theorem big20 (y : S8222x1024.Idx) (hy : 30 ≤ (y 0).val) : val_main_v267 (F := Ideal) x0 x2 y
    = ∑ q ∈ Finset.range 11, tap x0 x2 (30 - q) ((y 0).val - (30 - q)) (y 1).val := by
  rw [Finset.sum_range_succ, val_main_v267_apply, big21 x0 x2 y hy]
  exact congrArg _ ((padTap x0 x2 20 10 _ (mul20 x0 x2) _ zero_word _ y).trans (if_pos (by omega)))

theorem small20 (y : S31x1024.Idx) : val_main_v269 (F := Ideal) x0 x1 y
    = ∑ q ∈ Finset.range 11, if (y 0).val = 30 - q then tapGrad x0 x1 (30 - q) (y 1).val else 0 := by
  rw [Finset.sum_range_succ, val_main_v269_apply, small21 x0 x1 y]
  exact congrArg _ (padGrad x0 x1 20 10 _ (grad20 x0 x1) _ zero_word _ y)

theorem big19 (y : S8222x1024.Idx) (hy : 30 ≤ (y 0).val) : val_main_v276 (F := Ideal) x0 x2 y
    = ∑ q ∈ Finset.range 12, tap x0 x2 (30 - q) ((y 0).val - (30 - q)) (y 1).val := by
  rw [Finset.sum_range_succ, val_main_v276_apply, big20 x0 x2 y hy]
  exact congrArg _ ((padTap x0 x2 19 11 _ (mul19 x0 x2) _ zero_word _ y).trans (if_pos (by omega)))

theorem small19 (y : S31x1024.Idx) : val_main_v278 (F := Ideal) x0 x1 y
    = ∑ q ∈ Finset.range 12, if (y 0).val = 30 - q then tapGrad x0 x1 (30 - q) (y 1).val else 0 := by
  rw [Finset.sum_range_succ, val_main_v278_apply, small20 x0 x1 y]
  exact congrArg _ (padGrad x0 x1 19 11 _ (grad19 x0 x1) _ zero_word _ y)

theorem big18 (y : S8222x1024.Idx) (hy : 30 ≤ (y 0).val) : val_main_v285 (F := Ideal) x0 x2 y
    = ∑ q ∈ Finset.range 13, tap x0 x2 (30 - q) ((y 0).val - (30 - q)) (y 1).val := by
  rw [Finset.sum_range_succ, val_main_v285_apply, big19 x0 x2 y hy]
  exact congrArg _ ((padTap x0 x2 18 12 _ (mul18 x0 x2) _ zero_word _ y).trans (if_pos (by omega)))

theorem small18 (y : S31x1024.Idx) : val_main_v287 (F := Ideal) x0 x1 y
    = ∑ q ∈ Finset.range 13, if (y 0).val = 30 - q then tapGrad x0 x1 (30 - q) (y 1).val else 0 := by
  rw [Finset.sum_range_succ, val_main_v287_apply, small19 x0 x1 y]
  exact congrArg _ (padGrad x0 x1 18 12 _ (grad18 x0 x1) _ zero_word _ y)

theorem big17 (y : S8222x1024.Idx) (hy : 30 ≤ (y 0).val) : val_main_v294 (F := Ideal) x0 x2 y
    = ∑ q ∈ Finset.range 14, tap x0 x2 (30 - q) ((y 0).val - (30 - q)) (y 1).val := by
  rw [Finset.sum_range_succ, val_main_v294_apply, big18 x0 x2 y hy]
  exact congrArg _ ((padTap x0 x2 17 13 _ (mul17 x0 x2) _ zero_word _ y).trans (if_pos (by omega)))

theorem small17 (y : S31x1024.Idx) : val_main_v296 (F := Ideal) x0 x1 y
    = ∑ q ∈ Finset.range 14, if (y 0).val = 30 - q then tapGrad x0 x1 (30 - q) (y 1).val else 0 := by
  rw [Finset.sum_range_succ, val_main_v296_apply, small18 x0 x1 y]
  exact congrArg _ (padGrad x0 x1 17 13 _ (grad17 x0 x1) _ zero_word _ y)

theorem big16 (y : S8222x1024.Idx) (hy : 30 ≤ (y 0).val) : val_main_v303 (F := Ideal) x0 x2 y
    = ∑ q ∈ Finset.range 15, tap x0 x2 (30 - q) ((y 0).val - (30 - q)) (y 1).val := by
  rw [Finset.sum_range_succ, val_main_v303_apply, big17 x0 x2 y hy]
  exact congrArg _ ((padTap x0 x2 16 14 _ (mul16 x0 x2) _ zero_word _ y).trans (if_pos (by omega)))

theorem small16 (y : S31x1024.Idx) : val_main_v305 (F := Ideal) x0 x1 y
    = ∑ q ∈ Finset.range 15, if (y 0).val = 30 - q then tapGrad x0 x1 (30 - q) (y 1).val else 0 := by
  rw [Finset.sum_range_succ, val_main_v305_apply, small17 x0 x1 y]
  exact congrArg _ (padGrad x0 x1 16 14 _ (grad16 x0 x1) _ zero_word _ y)

theorem big15 (y : S8222x1024.Idx) (hy : 30 ≤ (y 0).val) : val_main_v312 (F := Ideal) x0 x2 y
    = ∑ q ∈ Finset.range 16, tap x0 x2 (30 - q) ((y 0).val - (30 - q)) (y 1).val := by
  rw [Finset.sum_range_succ, val_main_v312_apply, big16 x0 x2 y hy]
  exact congrArg _ ((padTap x0 x2 15 15 _ (mul15 x0 x2) _ zero_word _ y).trans (if_pos (by omega)))

theorem small15 (y : S31x1024.Idx) : val_main_v314 (F := Ideal) x0 x1 y
    = ∑ q ∈ Finset.range 16, if (y 0).val = 30 - q then tapGrad x0 x1 (30 - q) (y 1).val else 0 := by
  rw [Finset.sum_range_succ, val_main_v314_apply, small16 x0 x1 y]
  exact congrArg _ (padGrad x0 x1 15 15 _ (grad15 x0 x1) _ zero_word _ y)

theorem big14 (y : S8222x1024.Idx) (hy : 30 ≤ (y 0).val) : val_main_v321 (F := Ideal) x0 x2 y
    = ∑ q ∈ Finset.range 17, tap x0 x2 (30 - q) ((y 0).val - (30 - q)) (y 1).val := by
  rw [Finset.sum_range_succ, val_main_v321_apply, big15 x0 x2 y hy]
  exact congrArg _ ((padTap x0 x2 14 16 _ (mul14 x0 x2) _ zero_word _ y).trans (if_pos (by omega)))

theorem small14 (y : S31x1024.Idx) : val_main_v323 (F := Ideal) x0 x1 y
    = ∑ q ∈ Finset.range 17, if (y 0).val = 30 - q then tapGrad x0 x1 (30 - q) (y 1).val else 0 := by
  rw [Finset.sum_range_succ, val_main_v323_apply, small15 x0 x1 y]
  exact congrArg _ (padGrad x0 x1 14 16 _ (grad14 x0 x1) _ zero_word _ y)

theorem big13 (y : S8222x1024.Idx) (hy : 30 ≤ (y 0).val) : val_main_v330 (F := Ideal) x0 x2 y
    = ∑ q ∈ Finset.range 18, tap x0 x2 (30 - q) ((y 0).val - (30 - q)) (y 1).val := by
  rw [Finset.sum_range_succ, val_main_v330_apply, big14 x0 x2 y hy]
  exact congrArg _ ((padTap x0 x2 13 17 _ (mul13 x0 x2) _ zero_word _ y).trans (if_pos (by omega)))

theorem small13 (y : S31x1024.Idx) : val_main_v332 (F := Ideal) x0 x1 y
    = ∑ q ∈ Finset.range 18, if (y 0).val = 30 - q then tapGrad x0 x1 (30 - q) (y 1).val else 0 := by
  rw [Finset.sum_range_succ, val_main_v332_apply, small14 x0 x1 y]
  exact congrArg _ (padGrad x0 x1 13 17 _ (grad13 x0 x1) _ zero_word _ y)

theorem big12 (y : S8222x1024.Idx) (hy : 30 ≤ (y 0).val) : val_main_v339 (F := Ideal) x0 x2 y
    = ∑ q ∈ Finset.range 19, tap x0 x2 (30 - q) ((y 0).val - (30 - q)) (y 1).val := by
  rw [Finset.sum_range_succ, val_main_v339_apply, big13 x0 x2 y hy]
  exact congrArg _ ((padTap x0 x2 12 18 _ (mul12 x0 x2) _ zero_word _ y).trans (if_pos (by omega)))

theorem small12 (y : S31x1024.Idx) : val_main_v341 (F := Ideal) x0 x1 y
    = ∑ q ∈ Finset.range 19, if (y 0).val = 30 - q then tapGrad x0 x1 (30 - q) (y 1).val else 0 := by
  rw [Finset.sum_range_succ, val_main_v341_apply, small13 x0 x1 y]
  exact congrArg _ (padGrad x0 x1 12 18 _ (grad12 x0 x1) _ zero_word _ y)

theorem big11 (y : S8222x1024.Idx) (hy : 30 ≤ (y 0).val) : val_main_v348 (F := Ideal) x0 x2 y
    = ∑ q ∈ Finset.range 20, tap x0 x2 (30 - q) ((y 0).val - (30 - q)) (y 1).val := by
  rw [Finset.sum_range_succ, val_main_v348_apply, big12 x0 x2 y hy]
  exact congrArg _ ((padTap x0 x2 11 19 _ (mul11 x0 x2) _ zero_word _ y).trans (if_pos (by omega)))

theorem small11 (y : S31x1024.Idx) : val_main_v350 (F := Ideal) x0 x1 y
    = ∑ q ∈ Finset.range 20, if (y 0).val = 30 - q then tapGrad x0 x1 (30 - q) (y 1).val else 0 := by
  rw [Finset.sum_range_succ, val_main_v350_apply, small12 x0 x1 y]
  exact congrArg _ (padGrad x0 x1 11 19 _ (grad11 x0 x1) _ zero_word _ y)

theorem big10 (y : S8222x1024.Idx) (hy : 30 ≤ (y 0).val) : val_main_v357 (F := Ideal) x0 x2 y
    = ∑ q ∈ Finset.range 21, tap x0 x2 (30 - q) ((y 0).val - (30 - q)) (y 1).val := by
  rw [Finset.sum_range_succ, val_main_v357_apply, big11 x0 x2 y hy]
  exact congrArg _ ((padTap x0 x2 10 20 _ (mul10 x0 x2) _ zero_word _ y).trans (if_pos (by omega)))

theorem small10 (y : S31x1024.Idx) : val_main_v359 (F := Ideal) x0 x1 y
    = ∑ q ∈ Finset.range 21, if (y 0).val = 30 - q then tapGrad x0 x1 (30 - q) (y 1).val else 0 := by
  rw [Finset.sum_range_succ, val_main_v359_apply, small11 x0 x1 y]
  exact congrArg _ (padGrad x0 x1 10 20 _ (grad10 x0 x1) _ zero_word _ y)

theorem big9 (y : S8222x1024.Idx) (hy : 30 ≤ (y 0).val) : val_main_v366 (F := Ideal) x0 x2 y
    = ∑ q ∈ Finset.range 22, tap x0 x2 (30 - q) ((y 0).val - (30 - q)) (y 1).val := by
  rw [Finset.sum_range_succ, val_main_v366_apply, big10 x0 x2 y hy]
  exact congrArg _ ((padTap x0 x2 9 21 _ (mul9 x0 x2) _ zero_word _ y).trans (if_pos (by omega)))

theorem small9 (y : S31x1024.Idx) : val_main_v368 (F := Ideal) x0 x1 y
    = ∑ q ∈ Finset.range 22, if (y 0).val = 30 - q then tapGrad x0 x1 (30 - q) (y 1).val else 0 := by
  rw [Finset.sum_range_succ, val_main_v368_apply, small10 x0 x1 y]
  exact congrArg _ (padGrad x0 x1 9 21 _ (grad9 x0 x1) _ zero_word _ y)

theorem big8 (y : S8222x1024.Idx) (hy : 30 ≤ (y 0).val) : val_main_v375 (F := Ideal) x0 x2 y
    = ∑ q ∈ Finset.range 23, tap x0 x2 (30 - q) ((y 0).val - (30 - q)) (y 1).val := by
  rw [Finset.sum_range_succ, val_main_v375_apply, big9 x0 x2 y hy]
  exact congrArg _ ((padTap x0 x2 8 22 _ (mul8 x0 x2) _ zero_word _ y).trans (if_pos (by omega)))

theorem small8 (y : S31x1024.Idx) : val_main_v377 (F := Ideal) x0 x1 y
    = ∑ q ∈ Finset.range 23, if (y 0).val = 30 - q then tapGrad x0 x1 (30 - q) (y 1).val else 0 := by
  rw [Finset.sum_range_succ, val_main_v377_apply, small9 x0 x1 y]
  exact congrArg _ (padGrad x0 x1 8 22 _ (grad8 x0 x1) _ zero_word _ y)

theorem big7 (y : S8222x1024.Idx) (hy : 30 ≤ (y 0).val) : val_main_v384 (F := Ideal) x0 x2 y
    = ∑ q ∈ Finset.range 24, tap x0 x2 (30 - q) ((y 0).val - (30 - q)) (y 1).val := by
  rw [Finset.sum_range_succ, val_main_v384_apply, big8 x0 x2 y hy]
  exact congrArg _ ((padTap x0 x2 7 23 _ (mul7 x0 x2) _ zero_word _ y).trans (if_pos (by omega)))

theorem small7 (y : S31x1024.Idx) : val_main_v386 (F := Ideal) x0 x1 y
    = ∑ q ∈ Finset.range 24, if (y 0).val = 30 - q then tapGrad x0 x1 (30 - q) (y 1).val else 0 := by
  rw [Finset.sum_range_succ, val_main_v386_apply, small8 x0 x1 y]
  exact congrArg _ (padGrad x0 x1 7 23 _ (grad7 x0 x1) _ zero_word _ y)

theorem big6 (y : S8222x1024.Idx) (hy : 30 ≤ (y 0).val) : val_main_v393 (F := Ideal) x0 x2 y
    = ∑ q ∈ Finset.range 25, tap x0 x2 (30 - q) ((y 0).val - (30 - q)) (y 1).val := by
  rw [Finset.sum_range_succ, val_main_v393_apply, big7 x0 x2 y hy]
  exact congrArg _ ((padTap x0 x2 6 24 _ (mul6 x0 x2) _ zero_word _ y).trans (if_pos (by omega)))

theorem small6 (y : S31x1024.Idx) : val_main_v395 (F := Ideal) x0 x1 y
    = ∑ q ∈ Finset.range 25, if (y 0).val = 30 - q then tapGrad x0 x1 (30 - q) (y 1).val else 0 := by
  rw [Finset.sum_range_succ, val_main_v395_apply, small7 x0 x1 y]
  exact congrArg _ (padGrad x0 x1 6 24 _ (grad6 x0 x1) _ zero_word _ y)

theorem big5 (y : S8222x1024.Idx) (hy : 30 ≤ (y 0).val) : val_main_v402 (F := Ideal) x0 x2 y
    = ∑ q ∈ Finset.range 26, tap x0 x2 (30 - q) ((y 0).val - (30 - q)) (y 1).val := by
  rw [Finset.sum_range_succ, val_main_v402_apply, big6 x0 x2 y hy]
  exact congrArg _ ((padTap x0 x2 5 25 _ (mul5 x0 x2) _ zero_word _ y).trans (if_pos (by omega)))

theorem small5 (y : S31x1024.Idx) : val_main_v404 (F := Ideal) x0 x1 y
    = ∑ q ∈ Finset.range 26, if (y 0).val = 30 - q then tapGrad x0 x1 (30 - q) (y 1).val else 0 := by
  rw [Finset.sum_range_succ, val_main_v404_apply, small6 x0 x1 y]
  exact congrArg _ (padGrad x0 x1 5 25 _ (grad5 x0 x1) _ zero_word _ y)

theorem big4 (y : S8222x1024.Idx) (hy : 30 ≤ (y 0).val) : val_main_v411 (F := Ideal) x0 x2 y
    = ∑ q ∈ Finset.range 27, tap x0 x2 (30 - q) ((y 0).val - (30 - q)) (y 1).val := by
  rw [Finset.sum_range_succ, val_main_v411_apply, big5 x0 x2 y hy]
  exact congrArg _ ((padTap x0 x2 4 26 _ (mul4 x0 x2) _ zero_word _ y).trans (if_pos (by omega)))

theorem small4 (y : S31x1024.Idx) : val_main_v413 (F := Ideal) x0 x1 y
    = ∑ q ∈ Finset.range 27, if (y 0).val = 30 - q then tapGrad x0 x1 (30 - q) (y 1).val else 0 := by
  rw [Finset.sum_range_succ, val_main_v413_apply, small5 x0 x1 y]
  exact congrArg _ (padGrad x0 x1 4 26 _ (grad4 x0 x1) _ zero_word _ y)

theorem big3 (y : S8222x1024.Idx) (hy : 30 ≤ (y 0).val) : val_main_v420 (F := Ideal) x0 x2 y
    = ∑ q ∈ Finset.range 28, tap x0 x2 (30 - q) ((y 0).val - (30 - q)) (y 1).val := by
  rw [Finset.sum_range_succ, val_main_v420_apply, big4 x0 x2 y hy]
  exact congrArg _ ((padTap x0 x2 3 27 _ (mul3 x0 x2) _ zero_word _ y).trans (if_pos (by omega)))

theorem small3 (y : S31x1024.Idx) : val_main_v422 (F := Ideal) x0 x1 y
    = ∑ q ∈ Finset.range 28, if (y 0).val = 30 - q then tapGrad x0 x1 (30 - q) (y 1).val else 0 := by
  rw [Finset.sum_range_succ, val_main_v422_apply, small4 x0 x1 y]
  exact congrArg _ (padGrad x0 x1 3 27 _ (grad3 x0 x1) _ zero_word _ y)

theorem big2 (y : S8222x1024.Idx) (hy : 30 ≤ (y 0).val) : val_main_v429 (F := Ideal) x0 x2 y
    = ∑ q ∈ Finset.range 29, tap x0 x2 (30 - q) ((y 0).val - (30 - q)) (y 1).val := by
  rw [Finset.sum_range_succ, val_main_v429_apply, big3 x0 x2 y hy]
  exact congrArg _ ((padTap x0 x2 2 28 _ (mul2 x0 x2) _ zero_word _ y).trans (if_pos (by omega)))

theorem small2 (y : S31x1024.Idx) : val_main_v431 (F := Ideal) x0 x1 y
    = ∑ q ∈ Finset.range 29, if (y 0).val = 30 - q then tapGrad x0 x1 (30 - q) (y 1).val else 0 := by
  rw [Finset.sum_range_succ, val_main_v431_apply, small3 x0 x1 y]
  exact congrArg _ (padGrad x0 x1 2 28 _ (grad2 x0 x1) _ zero_word _ y)

theorem big1 (y : S8222x1024.Idx) (hy : 30 ≤ (y 0).val) : val_main_v438 (F := Ideal) x0 x2 y
    = ∑ q ∈ Finset.range 30, tap x0 x2 (30 - q) ((y 0).val - (30 - q)) (y 1).val := by
  rw [Finset.sum_range_succ, val_main_v438_apply, big2 x0 x2 y hy]
  exact congrArg _ ((padTap x0 x2 1 29 _ (mul1 x0 x2) _ zero_word _ y).trans (if_pos (by omega)))

theorem small1 (y : S31x1024.Idx) : val_main_v440 (F := Ideal) x0 x1 y
    = ∑ q ∈ Finset.range 30, if (y 0).val = 30 - q then tapGrad x0 x1 (30 - q) (y 1).val else 0 := by
  rw [Finset.sum_range_succ, val_main_v440_apply, small2 x0 x1 y]
  exact congrArg _ (padGrad x0 x1 1 29 _ (grad1 x0 x1) _ zero_word _ y)

theorem big0 (y : S8222x1024.Idx) (hy : 30 ≤ (y 0).val) : val_main_v447 (F := Ideal) x0 x2 y
    = ∑ q ∈ Finset.range 31, tap x0 x2 (30 - q) ((y 0).val - (30 - q)) (y 1).val := by
  rw [Finset.sum_range_succ, val_main_v447_apply, big1 x0 x2 y hy]
  exact congrArg _ ((padTap x0 x2 0 30 _ (mul0 x0 x2) _ zero_word _ y).trans (if_pos (by omega)))

theorem small0 (y : S31x1024.Idx) : val_main_v449 (F := Ideal) x0 x1 y
    = ∑ q ∈ Finset.range 31, if (y 0).val = 30 - q then tapGrad x0 x1 (30 - q) (y 1).val else 0 := by
  rw [Finset.sum_range_succ, val_main_v449_apply, small1 x0 x1 y]
  exact congrArg _ (padGrad x0 x1 0 30 _ (grad0 x0 x1) _ zero_word _ y)

/-! ## The three results -/

/-- The gradient of the gated value. -/
theorem v451_eq (i : S8192x1024.Idx) :
    val_main_v451 (F := Ideal) x0 x2 i = dgG x0 x2 (i 0).val (i 1).val := by
  rw [val_main_v451_apply, big0 x0 x2 _ (show 30 ≤ 30 + (i 0).val by omega), dgG, ← Finset.sum_range_reflect]
  refine Finset.sum_congr rfl fun q hq => ?_
  have hq' := Finset.mem_range.mp hq
  show at2 (n := 31) (m := 1024) x2 (30 - (31 - 1 - q)) (i 1).val * at2 (n := 8192) (m := 1024) x0 (30 + (i 0).val - (30 - (31 - 1 - q))) (i 1).val = _
  rw [show 30 - (31 - 1 - q) = q by omega, show 30 + (i 0).val - q = 30 - q + (i 0).val by omega]

/-- The reference's sum over the cotangent's rows is the kernel's over the tokens. -/
theorem tapGrad_eq (k j : ℕ) (hk : k ≤ 30) : tapGrad x0 x1 k j = dwG x0 x1 k j := by
  obtain ⟨d, hd⟩ : ∃ d, d + k = 30 := ⟨30 - k, by omega⟩
  unfold tapGrad dwG
  rw [Fin.sum_univ_eq_sum_range (fun s => at2 (n := 8192) (m := 1024) x0 s j * (if 30 ≤ s + k then gluAt (n := 8192) x1 (s + k - 30) j else 0)) 8192,
    Fin.sum_univ_eq_sum_range (fun n => at2 (n := 8192) (m := 1024) x0 (30 - k + n) j * gluAt (n := 8192) x1 n j) 8192]
  obtain ⟨N, hN⟩ : ∃ N, N + d = 8192 := ⟨8192 - d, by omega⟩
  have eL : Finset.range 8192 = Finset.range (d + N) := congrArg _ (by omega)
  have eR : Finset.range 8192 = Finset.range (N + d) := congrArg _ hN.symm
  rw [eL, Finset.sum_range_add, ← eL, eR, Finset.sum_range_add]
  rw [Finset.sum_eq_zero (s := Finset.range d) (fun s hs => by
      have := Finset.mem_range.mp hs
      rw [if_neg (by omega), mul_zero]), zero_add]
  rw [Finset.sum_eq_zero (s := Finset.range d) (fun s _ => by
      rw [at2_of_row_ge (n := 8192) x0 _ _ (by omega), zero_mul]), add_zero]
  refine Finset.sum_congr rfl fun n _ => ?_
  rw [if_pos (by omega), show 30 - k = d by omega, show d + n + k - 30 = n by omega]

/-- The gradient of the taps, with a row of zeros below. -/
theorem v457_eq (y : S32x1024.Idx) :
    val_main_v457 (F := Ideal) x0 x1 y = if (y 0).val < 31 then dwG x0 x1 (y 0).val (y 1).val else 0 := by
  have h0 : (y 0).val < 32 := ValueIdx.idx2_lt0 y
  have h1 : (y 1).val < 1024 := ValueIdx.idx2_lt1 y
  unfold val_main_v457
  refine (pad_rows (n := 31) (N := 32) (M := 1024) (val_main_v449 (F := Ideal) x0 x1) (val_main_call0_v0 (F := Ideal)) _ h_S_ (fun i => ?_) y).trans ?_
  · rw [val_main_call0_v0_apply]
    show (((0#32 : BitVec 32).toInt : ℝ) : EReal) = 0
    simp
  rw [if_pos (Nat.zero_le _), Nat.sub_zero]
  by_cases h : (y 0).val < 31
  · rw [if_pos h, at2_of_lt _ _ _ h h1, small0]
    rw [Finset.sum_eq_single_of_mem (30 - (y 0).val) (Finset.mem_range.mpr (by omega)) (fun q hq hne => if_neg (by
        have := Finset.mem_range.mp hq
        show ¬ (y 0).val = 30 - q
        omega))]
    refine (if_pos (show (y 0).val = 30 - (30 - (y 0).val) by omega)).trans ?_
    rw [show 30 - (30 - (y 0).val) = (y 0).val by omega]
    exact tapGrad_eq x0 x1 _ _ (by omega)
  · rw [if_neg h, at2_of_row_ge _ _ _ (by omega)]

/-- Both halves of the gradient side by side. -/
theorem v455_eq (y : S8192x2048.Idx) : val_main_v455 (F := Ideal) x0 x1 x2 y = duG x0 x1 x2 (y 0).val (y 1).val := by
  have h0 : (y 0).val < 8192 := ValueIdx.idx2_lt0 y
  have h1 : (y 1).val < 2048 := ValueIdx.idx2_lt1 y
  unfold val_main_v455 duG
  by_cases h : (y 1).val < 1024
  · rw [if_pos h, concatenate_pair_apply_left (t := S8192x2048) (s₁ := S8192x1024) (s₂ := S8192x1024) 1 _ _ _ y rfl
        (ix2 ⟨(y 0).val, h0⟩ ⟨(y 1).val, h⟩)
        (fun b => by
          match b with
          | ⟨0, _⟩ => rfl
          | ⟨1, _⟩ => rfl), val_main_v453_apply, v451_eq, v7_eq]
    rfl
  · rw [if_neg h, concatenate_pair_apply_right (t := S8192x2048) (s₁ := S8192x1024) (s₂ := S8192x1024) 1 _ _ _ y rfl rfl
        (ix2 ⟨(y 0).val, h0⟩ ⟨(y 1).val - 1024, by omega⟩)
        (fun b hb => by
          match b with
          | ⟨0, _⟩ => rfl
          | ⟨1, _⟩ => exact absurd rfl hb)
        (show (y 1).val - 1024 + 1024 = (y 1).val by omega), val_main_v454_apply, val_main_v452_apply, val_main_v10_apply,
      val_main_v9_apply, val_main_v8_apply, v451_eq, v0_eq, v7_eq]
    show _ * _ * (_ * (Ideal.ofBits .f32 0x3F800000#32 - _)) = _
    rw [Ideal.ofBits_one_f32, mul_comm (at2 (n := 8192) (m := 2048) x1 _ _), ← mul_assoc]
    rfl

theorem v456_eq (y : S8192x2048.Idx) : val_main_v456 (F := Ideal) x0 x1 x2 y = duG x0 x1 x2 (y 0).val (y 1).val :=
  v455_eq x0 x1 x2 y

/-- The gradient of the bias: the sum over the tokens. -/
theorem v459_eq (y : S1x2048.Idx) : val_main_v459 (F := Ideal) x0 x1 x2 y = ∑ n : Fin 8192, duG x0 x1 x2 n.val (y 1).val := by
  rw [val_main_v459_apply, val_main_v458_apply]
  refine Eq.trans (congrArg₂ _ (Ideal.ofBits_zero_f32 : _ = (0 : EReal)) rfl) ?_
  rw [zero_add]
  exact Finset.sum_congr rfl fun n _ => v455_eq x0 x1 x2 _

end

end Cert.Conv.Ref

end
-- ==== Proof.AdaWgradFin.lean ====
/-
  The gradient of the conditioning weights: each grid point takes 256 rows of one layer and adds the eight devices' outer
  products.
-/
module

public import proofs.«01_k».proof.Proof.Gen.AdaWgradIdeal.Frame
public import proofs.«01_k».proof.Proof.Gen.AdaWgradRefIdeal.Read
public import proofs.«01_k».proof.Proof.ConvRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdaWgradFin
open Cert.AdaWgradIdeal Cert.AdaWgradIdeal.Gen Cert.AdaWgradRefIdeal.Read Cert.Conv

variable (m : (ℓ : Loc nD τ sig) → Buf (Elt Ideal) ℓ)

theorem ada_ref (x : FVec Ideal S1024x8 .f32) (d : FVec Ideal S2x8x1536 .f32) (j : S2x1024x1536.Idx) :
    val_main_v7 (F := Ideal) x d j = ∑ b : Fin 8, (x (ix2 (j 1) b) * gate (x (ix2 (j 1) b))) * d (ix3 (j 0) b (j 2)) := by
  simp only [val_main_v0_apply, val_main_call0_v0_apply, val_main_call0_v1_apply, val_main_call0_cst_apply, val_main_call0_v2_apply, val_main_call0_v3_apply, val_main_call0_cst_0_apply, val_main_call0_v4_apply, val_main_call0_v5_apply, val_main_v1_apply, val_main_v5_apply, val_main_v6_apply, val_main_v7_apply]
  refine Finset.sum_congr rfl fun b _ => ?_
  rw [mul_comm, ← Conv.Ref.sigmoid_gate]
  pointwise
  blk_point []

/-- Where each grid point's blocks lie. -/
theorem idx : ∀ t : Fin cfg0.N, win0_0.index t = ![t.val % 4, 0] ∧ win0_1.index t = ![t.val / 4, 0, 0] ∧ win0_2.index t = ![t.val / 4, t.val % 4, 0] :=
  (by decide +kernel : ∀ t : Fin grid0.N, _)

theorem final (c : Dev nD) : (dats m 0 c).arrAt 2 (cfgs 0).N = val_main_v7 (F := Ideal) (m ((c : Thread nD τ).loc main_arg0)) (m ((c : Thread nD τ).loc main_arg1)) := by
  refine (dats m 0 c).arrAt_eq_of_covers 2 _ (by decide +kernel) fun t hf y => ?_
  blk_simp
  rw [after0_2]
  frame_out
  rw [ada_ref, Fin.sum_univ_eight]
  pointwise [k0_pay1, k0_pay2, k0_pay3, k0_pay4]
  unfold gate
  blk_point [iblk, V, idx t]

end Cert.AdaWgradFin
-- ==== Proof.Moments.lean ====
/-
  The optimiser's step, element by element: the new first moment, the new second moment and the step of the weight.
-/
module

public import Idealize.ShloMosaic.Lib.Pipeline.ValueKit

@[expose] public section

noncomputable section

namespace Cert.Moments

open Idealize.ShloMosaic

abbrev mom (g m : EReal) : EReal := Ideal.ofBits .f32 0x3F666666#32 * m + Ideal.ofBits .f32 0x3DCCCCCD#32 * g
abbrev var (g v : EReal) : EReal := Ideal.ofBits .f32 0x3F7FBE77#32 * v + Ideal.ofBits .f32 0x3A83126F#32 * (g * g)
abbrev upd (w g m v : EReal) : EReal :=
  Ideal.ofBits .f32 0xBA83126F#32 * (Ideal.div (Ideal.div (mom g m) (Ideal.ofBits .f32 0x3F26BD02#32))
    (Ideal.sqrt (Ideal.div (var g v) (Ideal.ofBits .f32 0x3C231ACC#32)) + Ideal.ofBits .f32 0x322BCC77#32) + Ideal.ofBits .f32 0x3C23D70A#32 * w)

end Cert.Moments
-- ==== Proof.AdamWAdaFin.lean ====
/-
  The optimiser's step of `ada_w`: each grid point takes 256 rows of the weights, of the gradient and of the two
  moments, and writes the step and the new moments.
-/
module

public import proofs.«01_k».proof.Proof.Gen.AdamWAdaIdeal.Frame
public import proofs.«01_k».proof.Proof.Gen.AdamWAdaRefIdeal.Read
public import proofs.«01_k».proof.Proof.Moments
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamWAdaFin
open Cert.AdamWAdaIdeal Cert.AdamWAdaIdeal.Gen Cert.Moments

variable (m : (ℓ : Loc nD τ sig) → Buf (Elt Ideal) ℓ)

variable (c : Dev nD)

/-- Where each grid point's blocks lie. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem upd_ref (w g m v : FVec Ideal S2048x1536 .f32) (j) : Cert.AdamWAdaRefIdeal.Read.val_main_v23 (F := Ideal) w g m v j = upd (w j) (g j) (m j) (v j) := by rfl

theorem upd_ker (w g m v : FVec Ideal S256x1536 .f32) (j) : k0_pay3 (F := Ideal) g m v w j = upd (w j) (g j) (m j) (v j) := by
  pointwise [k0_pay1, k0_pay2, k0_pay3]

theorem final_upd : (dats m 0 c).arrAt 4 (cfgs 0).N
    = Cert.AdamWAdaRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [upd_ker, upd_ref]
  blk_point [iblk, V, idx t]

theorem mom_ref (g m : FVec Ideal S2048x1536 .f32) (j) : Cert.AdamWAdaRefIdeal.Read.val_main_v4 (F := Ideal) g m j = mom (g j) (m j) := by rfl

theorem mom_ker (g m : FVec Ideal S256x1536 .f32) (j) : k0_pay1 (F := Ideal) g m j = mom (g j) (m j) := by
  pointwise [k0_pay1, k0_pay2, k0_pay3]

theorem final_mom : (dats m 0 c).arrAt 5 (cfgs 0).N
    = Cert.AdamWAdaRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [mom_ker, mom_ref]
  blk_point [iblk, V, idx t]

theorem var_ref (g v : FVec Ideal S2048x1536 .f32) (j) : Cert.AdamWAdaRefIdeal.Read.val_main_v10 (F := Ideal) g v j = var (g j) (v j) := by rfl

theorem var_ker (g v : FVec Ideal S256x1536 .f32) (j) : k0_pay2 (F := Ideal) g v j = var (g j) (v j) := by
  pointwise [k0_pay1, k0_pay2, k0_pay3]

theorem final_var : (dats m 0 c).arrAt 6 (cfgs 0).N
    = Cert.AdamWAdaRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [var_ker, var_ref]
  blk_point [iblk, V, idx t]

end Cert.AdamWAdaFin
-- ==== Proof.AdamWConvInFin.lean ====
/-
  The optimiser's step of `conv_w_in`: each grid point takes 256 rows of the weights, of the gradient and of the two
  moments, and writes the step and the new moments.
-/
module

public import proofs.«01_k».proof.Proof.Gen.AdamWConvInIdeal.Frame
public import proofs.«01_k».proof.Proof.Gen.AdamWConvInRefIdeal.Read
public import proofs.«01_k».proof.Proof.Moments
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamWConvInFin
open Cert.AdamWConvInIdeal Cert.AdamWConvInIdeal.Gen Cert.Moments

variable (m : (ℓ : Loc nD τ sig) → Buf (Elt Ideal) ℓ)

variable (c : Dev nD)

/-- Where each grid point's blocks lie. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem upd_ref (w g m v : FVec Ideal S1024x512 .f32) (j) : Cert.AdamWConvInRefIdeal.Read.val_main_v23 (F := Ideal) w g m v j = upd (w j) (g j) (m j) (v j) := by rfl

theorem upd_ker (w g m v : FVec Ideal S256x512 .f32) (j) : k0_pay3 (F := Ideal) g m v w j = upd (w j) (g j) (m j) (v j) := by
  pointwise [k0_pay1, k0_pay2, k0_pay3]

theorem final_upd : (dats m 0 c).arrAt 4 (cfgs 0).N
    = Cert.AdamWConvInRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  rw [upd_ker, upd_ref]
  blk_point [iblk, V, idx t]

theorem mom_ref (g m : FVec Ideal S1024x512 .f32) (j) : Cert.AdamWConvInRefIdeal.Read.val_main_v4 (F := Ideal) g m j = mom (g j) (m j) := by rfl

theorem mom_ker (g m : FVec Ideal S256x512 .f32) (j) : k0_pay1 (F := Ideal) g m j = mom (g j) (m j) := by
  pointwise [k0_pay1, k0_pay2, k0_pay3]

theorem final_mom : (dats m 0 c).arrAt 5 (cfgs 0).N
    = Cert.AdamWConvInRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  frame_out
  rw [mom_ker, mom_ref]
  blk_point [iblk, V, idx t]

theorem var_ref (g v : FVec Ideal S1024x512 .f32) (j) : Cert.AdamWConvInRefIdeal.Read.val_main_v10 (F := Ideal) g v j = var (g j) (v j) := by rfl

theorem var_ker (g v : FVec Ideal S256x512 .f32) (j) : k0_pay2 (F := Ideal) g v j = var (g j) (v j) := by
  pointwise [k0_pay1, k0_pay2, k0_pay3]

theorem final_var : (dats m 0 c).arrAt 6 (cfgs 0).N
    = Cert.AdamWConvInRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  unfold outsAt0
  frame_out
  rw [var_ker, var_ref]
  blk_point [iblk, V, idx t]

end Cert.AdamWConvInFin
-- ==== Proof.AdamWConvOutFin.lean ====
/-
  The optimiser's step of `conv_w_out`: each grid point takes 256 rows of the weights, of the gradient and of the two
  moments, and writes the step and the new moments.
-/
module

public import proofs.«01_k».proof.Proof.Gen.AdamWConvOutIdeal.Frame
public import proofs.«01_k».proof.Proof.Gen.AdamWConvOutRefIdeal.Read
public import proofs.«01_k».proof.Proof.Moments
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamWConvOutFin
open Cert.AdamWConvOutIdeal Cert.AdamWConvOutIdeal.Gen Cert.Moments

variable (m : (ℓ : Loc nD τ sig) → Buf (Elt Ideal) ℓ)

variable (c : Dev nD)

/-- Where each grid point's blocks lie. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem upd_ref (w g m v : FVec Ideal S256x1024 .f32) (j) : Cert.AdamWConvOutRefIdeal.Read.val_main_v23 (F := Ideal) w g m v j = upd (w j) (g j) (m j) (v j) := by rfl

theorem upd_ker (w g m v : FVec Ideal S256x1024 .f32) (j) : k0_pay3 (F := Ideal) g m v w j = upd (w j) (g j) (m j) (v j) := by
  pointwise [k0_pay1, k0_pay2, k0_pay3]

theorem final_upd : (dats m 0 c).arrAt 4 (cfgs 0).N
    = Cert.AdamWConvOutRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  rw [upd_ker, upd_ref]
  blk_point [iblk, V, idx t]

theorem mom_ref (g m : FVec Ideal S256x1024 .f32) (j) : Cert.AdamWConvOutRefIdeal.Read.val_main_v4 (F := Ideal) g m j = mom (g j) (m j) := by rfl

theorem mom_ker (g m : FVec Ideal S256x1024 .f32) (j) : k0_pay1 (F := Ideal) g m j = mom (g j) (m j) := by
  pointwise [k0_pay1, k0_pay2, k0_pay3]

theorem final_mom : (dats m 0 c).arrAt 5 (cfgs 0).N
    = Cert.AdamWConvOutRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  frame_out
  rw [mom_ker, mom_ref]
  blk_point [iblk, V, idx t]

theorem var_ref (g v : FVec Ideal S256x1024 .f32) (j) : Cert.AdamWConvOutRefIdeal.Read.val_main_v10 (F := Ideal) g v j = var (g j) (v j) := by rfl

theorem var_ker (g v : FVec Ideal S256x1024 .f32) (j) : k0_pay2 (F := Ideal) g v j = var (g j) (v j) := by
  pointwise [k0_pay1, k0_pay2, k0_pay3]

theorem final_var : (dats m 0 c).arrAt 6 (cfgs 0).N
    = Cert.AdamWConvOutRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  unfold outsAt0
  frame_out
  rw [var_ker, var_ref]
  blk_point [iblk, V, idx t]

end Cert.AdamWConvOutFin
-- ==== Proof.AdamWDownFin.lean ====
/-
  The optimiser's step of `ffn_w_down`: each grid point takes 176 rows of the weights, of the gradient and of the two
  moments, and writes the step and the new moments.
-/
module

public import proofs.«01_k».proof.Proof.Gen.AdamWDownIdeal.Frame
public import proofs.«01_k».proof.Proof.Gen.AdamWDownRefIdeal.Read
public import proofs.«01_k».proof.Proof.Moments
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamWDownFin
open Cert.AdamWDownIdeal Cert.AdamWDownIdeal.Gen Cert.Moments

variable (m : (ℓ : Loc nD τ sig) → Buf (Elt Ideal) ℓ)

variable (c : Dev nD)

/-- Where each grid point's blocks lie. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem upd_ref (w g m v : FVec Ideal S1408x1024 .f32) (j) : Cert.AdamWDownRefIdeal.Read.val_main_v23 (F := Ideal) w g m v j = upd (w j) (g j) (m j) (v j) := by rfl

theorem upd_ker (w g m v : FVec Ideal S176x1024 .f32) (j) : k0_pay3 (F := Ideal) g m v w j = upd (w j) (g j) (m j) (v j) := by
  pointwise [k0_pay1, k0_pay2, k0_pay3]

theorem final_upd : (dats m 0 c).arrAt 4 (cfgs 0).N
    = Cert.AdamWDownRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  rw [upd_ker, upd_ref]
  blk_point [iblk, V, idx t]

theorem mom_ref (g m : FVec Ideal S1408x1024 .f32) (j) : Cert.AdamWDownRefIdeal.Read.val_main_v4 (F := Ideal) g m j = mom (g j) (m j) := by rfl

theorem mom_ker (g m : FVec Ideal S176x1024 .f32) (j) : k0_pay1 (F := Ideal) g m j = mom (g j) (m j) := by
  pointwise [k0_pay1, k0_pay2, k0_pay3]

theorem final_mom : (dats m 0 c).arrAt 5 (cfgs 0).N
    = Cert.AdamWDownRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  frame_out
  rw [mom_ker, mom_ref]
  blk_point [iblk, V, idx t]

theorem var_ref (g v : FVec Ideal S1408x1024 .f32) (j) : Cert.AdamWDownRefIdeal.Read.val_main_v10 (F := Ideal) g v j = var (g j) (v j) := by rfl

theorem var_ker (g v : FVec Ideal S176x1024 .f32) (j) : k0_pay2 (F := Ideal) g v j = var (g j) (v j) := by
  pointwise [k0_pay1, k0_pay2, k0_pay3]

theorem final_var : (dats m 0 c).arrAt 6 (cfgs 0).N
    = Cert.AdamWDownRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  unfold outsAt0
  frame_out
  rw [var_ker, var_ref]
  blk_point [iblk, V, idx t]

end Cert.AdamWDownFin
-- ==== Proof.AdamWFin.lean ====
/-
  The optimiser's step of `ffn_w_up`: each grid point takes 256 rows of the weights, of the gradient and of the two
  moments, and writes the step and the new moments.
-/
module

public import proofs.«01_k».proof.Proof.Gen.AdamWIdeal.Frame
public import proofs.«01_k».proof.Proof.Gen.AdamWRefIdeal.Read
public import proofs.«01_k».proof.Proof.Moments
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamWFin
open Cert.AdamWIdeal Cert.AdamWIdeal.Gen Cert.Moments

variable (m : (ℓ : Loc nD τ sig) → Buf (Elt Ideal) ℓ)

variable (c : Dev nD)

/-- Where each grid point's blocks lie. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem upd_ref (w g m v : FVec Ideal S2048x1408 .f32) (j) : Cert.AdamWRefIdeal.Read.val_main_v23 (F := Ideal) w g m v j = upd (w j) (g j) (m j) (v j) := by rfl

theorem upd_ker (w g m v : FVec Ideal S256x1408 .f32) (j) : k0_pay3 (F := Ideal) g m v w j = upd (w j) (g j) (m j) (v j) := by
  pointwise [k0_pay1, k0_pay2, k0_pay3]

theorem final_upd : (dats m 0 c).arrAt 4 (cfgs 0).N
    = Cert.AdamWRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  unfold outsAt0
  frame_out
  rw [upd_ker, upd_ref]
  blk_point [iblk, V, idx t]

theorem mom_ref (g m : FVec Ideal S2048x1408 .f32) (j) : Cert.AdamWRefIdeal.Read.val_main_v4 (F := Ideal) g m j = mom (g j) (m j) := by rfl

theorem mom_ker (g m : FVec Ideal S256x1408 .f32) (j) : k0_pay1 (F := Ideal) g m j = mom (g j) (m j) := by
  pointwise [k0_pay1, k0_pay2, k0_pay3]

theorem final_mom : (dats m 0 c).arrAt 5 (cfgs 0).N
    = Cert.AdamWRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  unfold outsAt0
  frame_out
  rw [mom_ker, mom_ref]
  blk_point [iblk, V, idx t]

theorem var_ref (g v : FVec Ideal S2048x1408 .f32) (j) : Cert.AdamWRefIdeal.Read.val_main_v10 (F := Ideal) g v j = var (g j) (v j) := by rfl

theorem var_ker (g v : FVec Ideal S256x1408 .f32) (j) : k0_pay2 (F := Ideal) g v j = var (g j) (v j) := by
  pointwise [k0_pay1, k0_pay2, k0_pay3]

theorem final_var : (dats m 0 c).arrAt 6 (cfgs 0).N
    = Cert.AdamWRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  unfold outsAt0
  frame_out
  rw [var_ker, var_ref]
  blk_point [iblk, V, idx t]

end Cert.AdamWFin
-- ==== Proof.AdamWHgrnInFin.lean ====
/-
  The optimiser's step of `hgrn_w_in`: each grid point takes 256 rows of the weights, of the gradient and of the two
  moments, and writes the step and the new moments.
-/
module

public import proofs.«01_k».proof.Proof.Gen.AdamWHgrnInIdeal.Frame
public import proofs.«01_k».proof.Proof.Gen.AdamWHgrnInRefIdeal.Read
public import proofs.«01_k».proof.Proof.Moments
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamWHgrnInFin
open Cert.AdamWHgrnInIdeal Cert.AdamWHgrnInIdeal.Gen Cert.Moments

variable (m : (ℓ : Loc nD τ sig) → Buf (Elt Ideal) ℓ)

variable (c : Dev nD)

/-- Where each grid point's blocks lie. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem upd_ref (w g m v : FVec Ideal S1024x1024 .f32) (j) : Cert.AdamWHgrnInRefIdeal.Read.val_main_v23 (F := Ideal) w g m v j = upd (w j) (g j) (m j) (v j) := by rfl

theorem upd_ker (w g m v : FVec Ideal S256x1024 .f32) (j) : k0_pay3 (F := Ideal) g m v w j = upd (w j) (g j) (m j) (v j) := by
  pointwise [k0_pay1, k0_pay2, k0_pay3]

theorem final_upd : (dats m 0 c).arrAt 4 (cfgs 0).N
    = Cert.AdamWHgrnInRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [upd_ker, upd_ref]
  blk_point [iblk, V, idx t]

theorem mom_ref (g m : FVec Ideal S1024x1024 .f32) (j) : Cert.AdamWHgrnInRefIdeal.Read.val_main_v4 (F := Ideal) g m j = mom (g j) (m j) := by rfl

theorem mom_ker (g m : FVec Ideal S256x1024 .f32) (j) : k0_pay1 (F := Ideal) g m j = mom (g j) (m j) := by
  pointwise [k0_pay1, k0_pay2, k0_pay3]

theorem final_mom : (dats m 0 c).arrAt 5 (cfgs 0).N
    = Cert.AdamWHgrnInRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [mom_ker, mom_ref]
  blk_point [iblk, V, idx t]

theorem var_ref (g v : FVec Ideal S1024x1024 .f32) (j) : Cert.AdamWHgrnInRefIdeal.Read.val_main_v10 (F := Ideal) g v j = var (g j) (v j) := by rfl

theorem var_ker (g v : FVec Ideal S256x1024 .f32) (j) : k0_pay2 (F := Ideal) g v j = var (g j) (v j) := by
  pointwise [k0_pay1, k0_pay2, k0_pay3]

theorem final_var : (dats m 0 c).arrAt 6 (cfgs 0).N
    = Cert.AdamWHgrnInRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [var_ker, var_ref]
  blk_point [iblk, V, idx t]

end Cert.AdamWHgrnInFin
-- ==== Proof.AdamWHgrnOutFin.lean ====
/-
  The optimiser's step of `hgrn_w_out`: each grid point takes 256 rows of the weights, of the gradient and of the two
  moments, and writes the step and the new moments.
-/
module

public import proofs.«01_k».proof.Proof.Gen.AdamWHgrnOutIdeal.Frame
public import proofs.«01_k».proof.Proof.Gen.AdamWHgrnOutRefIdeal.Read
public import proofs.«01_k».proof.Proof.Moments
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamWHgrnOutFin
open Cert.AdamWHgrnOutIdeal Cert.AdamWHgrnOutIdeal.Gen Cert.Moments

variable (m : (ℓ : Loc nD τ sig) → Buf (Elt Ideal) ℓ)

variable (c : Dev nD)

/-- Where each grid point's blocks lie. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem upd_ref (w g m v : FVec Ideal S256x1024 .f32) (j) : Cert.AdamWHgrnOutRefIdeal.Read.val_main_v23 (F := Ideal) w g m v j = upd (w j) (g j) (m j) (v j) := by rfl

theorem upd_ker (w g m v : FVec Ideal S256x1024 .f32) (j) : k0_pay3 (F := Ideal) g m v w j = upd (w j) (g j) (m j) (v j) := by
  pointwise [k0_pay1, k0_pay2, k0_pay3]

theorem final_upd : (dats m 0 c).arrAt 4 (cfgs 0).N
    = Cert.AdamWHgrnOutRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [upd_ker, upd_ref]
  blk_point [iblk, V, idx t]

theorem mom_ref (g m : FVec Ideal S256x1024 .f32) (j) : Cert.AdamWHgrnOutRefIdeal.Read.val_main_v4 (F := Ideal) g m j = mom (g j) (m j) := by rfl

theorem mom_ker (g m : FVec Ideal S256x1024 .f32) (j) : k0_pay1 (F := Ideal) g m j = mom (g j) (m j) := by
  pointwise [k0_pay1, k0_pay2, k0_pay3]

theorem final_mom : (dats m 0 c).arrAt 5 (cfgs 0).N
    = Cert.AdamWHgrnOutRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [mom_ker, mom_ref]
  blk_point [iblk, V, idx t]

theorem var_ref (g v : FVec Ideal S256x1024 .f32) (j) : Cert.AdamWHgrnOutRefIdeal.Read.val_main_v10 (F := Ideal) g v j = var (g j) (v j) := by rfl

theorem var_ker (g v : FVec Ideal S256x1024 .f32) (j) : k0_pay2 (F := Ideal) g v j = var (g j) (v j) := by
  pointwise [k0_pay1, k0_pay2, k0_pay3]

theorem final_var : (dats m 0 c).arrAt 6 (cfgs 0).N
    = Cert.AdamWHgrnOutRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [var_ker, var_ref]
  blk_point [iblk, V, idx t]

end Cert.AdamWHgrnOutFin
-- ==== Proof.AdamWSmallFin.lean ====
/-
  The optimiser's step of the small weights, packed: each grid point takes 8 rows of the weights, of the gradient and of the two
  moments, and writes the step and the new moments.
-/
module

public import proofs.«01_k».proof.Proof.Gen.AdamWSmallIdeal.Frame
public import proofs.«01_k».proof.Proof.Gen.AdamWSmallRefIdeal.Read
public import proofs.«01_k».proof.Proof.Moments
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.AdamWSmallFin
open Cert.AdamWSmallIdeal Cert.AdamWSmallIdeal.Gen Cert.Moments

variable (m : (ℓ : Loc nD τ sig) → Buf (Elt Ideal) ℓ)

variable (c : Dev nD)

/-- Where each grid point's blocks lie. -/
theorem idx : ∀ t : Fin cfg0.N, win0_0.index t = ![t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] :=
  (by decide +kernel : ∀ t : Fin grid0.N, _)

theorem upd_ref (w g m v : FVec Ideal S8x6656 .f32) (j) : Cert.AdamWSmallRefIdeal.Read.val_main_v23 (F := Ideal) w g m v j = upd (w j) (g j) (m j) (v j) := by rfl

theorem upd_ker (w g m v : FVec Ideal S8x6656 .f32) (j) : k0_pay3 (F := Ideal) g m v w j = upd (w j) (g j) (m j) (v j) := by
  pointwise [k0_pay1, k0_pay2, k0_pay3]

theorem final_upd : (dats m 0 c).arrAt 4 (cfgs 0).N
    = Cert.AdamWSmallRefIdeal.Read.val_main_v23 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [upd_ker, upd_ref]
  blk_point [iblk, V, idx t]

theorem mom_ref (g m : FVec Ideal S8x6656 .f32) (j) : Cert.AdamWSmallRefIdeal.Read.val_main_v4 (F := Ideal) g m j = mom (g j) (m j) := by rfl

theorem mom_ker (g m : FVec Ideal S8x6656 .f32) (j) : k0_pay1 (F := Ideal) g m j = mom (g j) (m j) := by
  pointwise [k0_pay1, k0_pay2, k0_pay3]

theorem final_mom : (dats m 0 c).arrAt 5 (cfgs 0).N
    = Cert.AdamWSmallRefIdeal.Read.val_main_v4 (F := Ideal) (m ((c : Thread nD τ).loc main_arg1)) (m ((c : Thread nD τ).loc main_arg2)) := by
  refine (dats m 0 c).arrAt_eq_of_covers 5 _ (by decide +kernel) fun t hf y => ?_
  blk_simp
  rw [after0_5]
  frame_out
  rw [mom_ker, mom_ref]
  blk_point [iblk, V, idx t]

theorem var_ref (g v : FVec Ideal S8x6656 .f32) (j) : Cert.AdamWSmallRefIdeal.Read.val_main_v10 (F := Ideal) g v j = var (g j) (v j) := by rfl

theorem var_ker (g v : FVec Ideal S8x6656 .f32) (j) : k0_pay2 (F := Ideal) g v j = var (g j) (v j) := by
  pointwise [k0_pay1, k0_pay2, k0_pay3]

theorem final_var : (dats m 0 c).arrAt 6 (cfgs 0).N
    = Cert.AdamWSmallRefIdeal.Read.val_main_v10 (F := Ideal) (m ((c : Thread nD τ).loc main_arg1)) (m ((c : Thread nD τ).loc main_arg3)) := by
  refine (dats m 0 c).arrAt_eq_of_covers 6 _ (by decide +kernel) fun t hf y => ?_
  blk_simp
  rw [after0_6]
  frame_out
  rw [var_ker, var_ref]
  blk_point [iblk, V, idx t]

end Cert.AdamWSmallFin
-- ==== Proof.Halves.lean ====
/-
  A buffer of planes, numbered by its first two coordinates, filled by stores of whole planes and read back plane by plane.
-/
module

public import Idealize.ShloMosaic.Lib.Pipeline.ValueKit
public import Idealize.ShloMosaic.Lib.ValueIdx

@[expose] public section

set_option maxRecDepth 16384

noncomputable section

open Idealize.ShloMosaic

namespace Cert.Halves

variable {Val : EltTy → Type} [∀ e, Nonempty (Val e)] {e : EltTy} {c a b : ℕ}

/-- The planes. -/
abbrev Planes (c a b : ℕ) : Shape := ⟨4, ![2, c, a, b]⟩

/-- The box of plane `p`, `q`. -/
abbrev plane (p q : ℕ) (inb : ∀ d : Fin 4, (![p, q, 0, 0] : Fin 4 → ℕ) d + (![1, 1, a, b] : Fin 4 → ℕ) d ≤ (![2, c, a, b] : Fin 4 → ℕ) d) :
    Rect (Planes c a b) :=
  Rect.unit (s := Planes c a b) ![p, q, 0, 0] ![1, 1, a, b] inb

/-- The box of the whole buffer. -/
abbrev all (inb : ∀ d : Fin 4, (![0, 0, 0, 0] : Fin 4 → ℕ) d + (![2, c, a, b] : Fin 4 → ℕ) d ≤ (![2, c, a, b] : Fin 4 → ℕ) d) :
    Rect (Planes c a b) :=
  Rect.unit (s := Planes c a b) ![0, 0, 0, 0] ![2, c, a, b] inb

theorem mem_plane (p q : ℕ) (inb) (y : (Planes c a b).Idx) :
    y ∈ (plane (c := c) (a := a) (b := b) p q inb).set ↔ (y 0).val = p ∧ (y 1).val = q := by
  rw [Rect.mem_set_unit]
  have h2 : (y 2).val < a := (y 2).isLt
  have h3 : (y 3).val < b := (y 3).isLt
  constructor
  · intro h
    have h0 : p ≤ (y 0).val ∧ (y 0).val < p + 1 := h 0
    have h1 : q ≤ (y 1).val ∧ (y 1).val < q + 1 := h 1
    omega
  · rintro ⟨h0, h1⟩ d
    fin_cases d
    · show p ≤ (y 0).val ∧ (y 0).val < p + 1; omega
    · show q ≤ (y 1).val ∧ (y 1).val < q + 1; omega
    · show 0 ≤ (y 2).val ∧ (y 2).val < 0 + a; omega
    · show 0 ≤ (y 3).val ∧ (y 3).val < 0 + b; omega

theorem mem_all (inb) (y : (Planes c a b).Idx) : y ∈ (all (c := c) (a := a) (b := b) inb).set := by
  rw [Rect.mem_set_unit]
  have h0 : (y 0).val < 2 := (y 0).isLt
  have h1 : (y 1).val < c := (y 1).isLt
  have h2 : (y 2).val < a := (y 2).isLt
  have h3 : (y 3).val < b := (y 3).isLt
  intro d
  fin_cases d
  · show 0 ≤ (y 0).val ∧ (y 0).val < 0 + 2; omega
  · show 0 ≤ (y 1).val ∧ (y 1).val < 0 + c; omega
  · show 0 ≤ (y 2).val ∧ (y 2).val < 0 + a; omega
  · show 0 ≤ (y 3).val ∧ (y 3).val < 0 + b; omega

/-- A later store of a plane: where the plane's values and the earlier stores' are one function's, so are both together. -/
theorem canon_cons_plane (T : (Planes c a b).Idx → Val e) (p q : ℕ) (inb) (w : (⟨4, ![1, 1, a, b]⟩ : Shape).Idx → Val e)
    (L : List (View.Piece Val (Planes c a b) e)) (y : (Planes c a b).Idx)
    (hw : ∀ x, w x = T ((plane (c := c) (a := a) (b := b) p q inb).emb x))
    (hL : ¬((y 0).val = p ∧ (y 1).val = q) → View.canon (Val := Val) (s := Planes c a b) (e := e) L y = T y) :
    View.canon (Val := Val) (s := Planes c a b) (e := e) (⟨plane (c := c) (a := a) (b := b) p q inb, w⟩ :: L) y = T y := by
  by_cases hm : y ∈ (plane (c := c) (a := a) (b := b) p q inb).set
  · obtain ⟨x, rfl⟩ := (plane (c := c) (a := a) (b := b) p q inb).exists_idx_of_mem hm
    exact (View.canon_cons_emb (Val := Val) (s := Planes c a b) (e := e) (plane (c := c) (a := a) (b := b) p q inb) w L x).trans (hw x)
  · exact (View.canon_cons_of_not_mem (Val := Val) (s := Planes c a b) (e := e) ⟨plane (c := c) (a := a) (b := b) p q inb, w⟩ L hm).trans
      (hL fun h => hm ((mem_plane p q inb y).mpr h))

/-- A store of one value everywhere, read anywhere. -/
theorem canon_all (z : Val e) (inb) (w : (Planes c a b).Idx → Val e) (hw : ∀ x, w x = z) (y : (Planes c a b).Idx) :
    View.canon (Val := Val) (s := Planes c a b) (e := e) [⟨all (c := c) (a := a) (b := b) inb, w⟩] y = z := by
  obtain ⟨x, rfl⟩ := (all (c := c) (a := a) (b := b) inb).exists_idx_of_mem (mem_all inb y)
  exact (View.canon_cons_emb (Val := Val) (s := Planes c a b) (e := e) (all (c := c) (a := a) (b := b) inb) w [] x).trans (hw x)

/-- An index of the plane, placed in the buffer. -/
theorem plane_idx (p q : ℕ) (hp : p < 2) (hq : q < c) (inb) (x : (⟨4, ![1, 1, a, b]⟩ : Shape).Idx) :
    (plane (c := c) (a := a) (b := b) p q inb).emb x = ix4 (⟨p, hp⟩ : Fin 2) (⟨q, hq⟩ : Fin c) (x 2) (x 3) := by
  have h0 : (x 0).val < 1 := (x 0).isLt
  have h1 : (x 1).val < 1 := (x 1).isLt
  funext d
  apply Fin.ext
  rw [Rect.emb_apply]
  fin_cases d
  · show p + 1 * (x 0).val = p; omega
  · show q + 1 * (x 1).val = q; omega
  · show 0 + 1 * (x 2).val = (x 2).val; omega
  · show 0 + 1 * (x 3).val = (x 3).val; omega

/-- The first `n` planes, counted half by half, hold what `T` says. -/
def Upto (T : (Planes c a b).Idx → Val e) (n : ℕ) (L : List (View.Piece Val (Planes c a b) e)) : Prop :=
  ∀ y : (Planes c a b).Idx, (y 1).val * 2 + (y 0).val < n → View.canon (Val := Val) (s := Planes c a b) (e := e) L y = T y

theorem Upto.zero (T : (Planes c a b).Idx → Val e) (L : List (View.Piece Val (Planes c a b) e)) : Upto T 0 L :=
  fun _ h => absurd h (Nat.not_lt_zero _)

/-- One plane more. -/
theorem Upto.step {T : (Planes c a b).Idx → Val e} {L : List (View.Piece Val (Planes c a b) e)} (p q : ℕ) (hp : p < 2) (hq : q < c)
    (h : Upto T (q * 2 + p) L) (inb) (w : (⟨4, ![1, 1, a, b]⟩ : Shape).Idx → Val e)
    (hw : ∀ x, w x = T (ix4 (⟨p, hp⟩ : Fin 2) (⟨q, hq⟩ : Fin c) (x 2) (x 3))) :
    Upto T (q * 2 + p + 1) (⟨plane (c := c) (a := a) (b := b) p q inb, w⟩ :: L) := fun y hy =>
  canon_cons_plane T p q inb w L y (fun x => (hw x).trans (congrArg T (plane_idx p q hp hq inb x).symm)) fun hn => h y (by
    have h0 : (y 0).val < 2 := (y 0).isLt
    omega)

/-- All planes. -/
theorem Upto.all {T : (Planes c a b).Idx → Val e} {n : ℕ} {L : List (View.Piece Val (Planes c a b) e)} (h : Upto T n L) (hn : c * 2 ≤ n)
    (y : (Planes c a b).Idx) : View.canon (Val := Val) (s := Planes c a b) (e := e) L y = T y :=
  h y (by
    have h0 : (y 0).val < 2 := (y 0).isLt
    have h1 : (y 1).val < c := (y 1).isLt
    omega)

section Reads
variable {sig : RefSig} {κ : Kind} {sp : Space} (v : View sig κ sp (Planes c a b) e)

/-- Stores of planes other than the one in question, after a store of one value everywhere. -/
inductive Off (z : Val e) (p q : ℕ) : List (View.Piece Val (Planes c a b) e) → Prop
  | base (inb) (w : (Planes c a b).Idx → Val e) (hw : ∀ x, w x = z) : Off z p q [⟨all (c := c) (a := a) (b := b) inb, w⟩]
  | step (p' q' : ℕ) (inb) (w : (⟨4, ![1, 1, a, b]⟩ : Shape).Idx → Val e) (L : List (View.Piece Val (Planes c a b) e))
      (h : ¬(p = p' ∧ q = q')) (hL : Off z p q L) : Off z p q (⟨plane (c := c) (a := a) (b := b) p' q' inb, w⟩ :: L)

theorem Off.canon {z : Val e} {p q : ℕ} {L : List (View.Piece Val (Planes c a b) e)} (h : Off (c := c) (a := a) (b := b) z p q L)
    (y : (Planes c a b).Idx) (h0 : (y 0).val = p) (h1 : (y 1).val = q) :
    View.canon (Val := Val) (s := Planes c a b) (e := e) L y = z := by
  induction h with
  | base inb w hw => exact canon_all z inb w hw y
  | step p' q' inb w L h _ ih =>
    refine (View.canon_cons_of_not_mem (Val := Val) (s := Planes c a b) (e := e) ⟨plane (c := c) (a := a) (b := b) p' q' inb, w⟩ L ?_).trans ih
    rw [mem_plane]
    omega

theorem Off.covers {z : Val e} {p q : ℕ} {L : List (View.Piece Val (Planes c a b) e)} (h : Off (c := c) (a := a) (b := b) z p q L)
    (y : (Planes c a b).Idx) : ∃ r ∈ L, y ∈ r.1.set := by
  induction h with
  | base inb w hw => exact ⟨_, List.mem_cons_self, mem_all inb y⟩
  | step p' q' inb w L h _ ih => obtain ⟨r, hr, hy⟩ := ih; exact ⟨r, List.mem_cons_of_mem _ hr, hy⟩

/-- A load of a plane no store but the first has touched. -/
theorem Off.load {z : Val e} {p q : ℕ} {L : List (View.Piece Val (Planes c a b) e)} (h : Off (c := c) (a := a) (b := b) z p q L)
    (inb) (x) : v.readCov L (plane (c := c) (a := a) (b := b) p q inb).toLoadRect x = z := by
  rw [View.readCov_eq_canon v L (plane (c := c) (a := a) (b := b) p q inb).toLoadRect (fun j => h.covers _)]
  have hm := (mem_plane p q inb _).mp ((plane (c := c) (a := a) (b := b) p q inb).idx_mem x)
  exact h.canon _ hm.1 hm.2

end Reads

end Cert.Halves
-- ==== Proof.ConvInDwFin.lean ====
/-
  The convolution layer's first product, the gradient of its weights: each block of columns adds eight blocks of tokens, one
  grid point after another, into its output; together they are the reference's one contraction.
-/
module

public import proofs.«01_k».proof.Proof.Gen.ConvInDwIdeal.Frame
public import proofs.«01_k».proof.Proof.Gen.ConvInDwRefIdeal.Read
public import proofs.«01_k».proof.Proof.Halves
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvInDwFin
open Cert.ConvInDwIdeal Cert.ConvInDwIdeal.Gen Cert.Halves

variable (m : (ℓ : Loc nD τ sig) → Buf (Elt Ideal) ℓ)

/-- The reference's gradient, of the kernel's arguments. -/
abbrev gradient (H : FVec Ideal S8192x1024 .bf16) (U : FVec Ideal S8192x2048 .bf16) : FVec Ideal S2x4x512x512 .f32 :=
  Cert.ConvInDwRefIdeal.Read.val_main_v7 (F := Ideal) H U

/-- A row of one of the two halves. -/
theorem row_lt (p r : ℕ) (hp : p < 2) (hr : r < 512) : p * 512 + r < 1024 := by omega
/-- A column of one of the block's shards. -/
theorem col_lt (q k : ℕ) (hq : q < 2) (hk : k < 512) : q * 512 + k < 1024 := by omega
/-- A column of one of the shards. -/
theorem column_lt (q k : ℕ) (hq : q < 4) (hk : k < 512) : q * 512 + k < 2048 := by omega

/-- The gradient at an index: one contraction over all the tokens. -/
theorem gradient_apply (H : FVec Ideal S8192x1024 .bf16) (U : FVec Ideal S8192x2048 .bf16) (y : S2x4x512x512.Idx) :
    gradient H U y = ∑ l : Fin 8192, H (ix2 l (⟨(y 0).val * 512 + (y 2).val, row_lt _ _ (y 0).isLt (y 2).isLt⟩ : Fin 1024)) * U (ix2 l (⟨(y 1).val * 512 + (y 3).val, column_lt _ _ (y 1).isLt (y 3).isLt⟩ : Fin 2048)) := by
  simp only [gradient, Cert.ConvInDwRefIdeal.Read.val_main_v7_apply, Cert.ConvInDwRefIdeal.Read.val_main_v6_apply, Cert.ConvInDwRefIdeal.Read.val_main_v5_apply, Cert.ConvInDwRefIdeal.Read.val_main_v4_apply, Cert.ConvInDwRefIdeal.Read.val_main_v2_apply, Cert.ConvInDwRefIdeal.Read.val_main_v1_apply]
  refine Finset.sum_congr rfl fun k _ => ?_
  have h0 := (y 0).isLt
  have h1 := (y 1).isLt
  refine (mul_comm _ _).trans (congrArg₂ (· * ·) (congrArg H ?_) (congrArg U ?_))
  · blk_ext!
  · blk_ext!

/-- Where each grid point's blocks lie. -/
theorem idx : ∀ t : Fin cfg0.N, win0_0.index t = ![t.val % 8, 0] ∧ win0_1.index t = ![t.val % 8, t.val / 8] ∧ win0_2.index t = ![0, t.val / 8, 0, 0] :=
  (by decide +kernel : ∀ t : Fin grid0.N, _)

/-- What a grid point adds. -/
def part (x0 : Vec Ideal S1024x1024 .bf16) (x1 : Vec Ideal S1024x1024 .bf16) (y : S2x2x512x512.Idx) : EReal :=
  ∑ k : Fin 1024, x0 (ix2 k (⟨(y 0).val * 512 + (y 2).val, row_lt _ _ (y 0).isLt (y 2).isLt⟩ : Fin 1024)) * x1 (ix2 k (⟨(y 1).val * 512 + (y 3).val, col_lt _ _ (y 1).isLt (y 3).isLt⟩ : Fin 1024))

theorem plane00 (x0 : Vec Ideal S1024x1024 .bf16) (x1 : Vec Ideal S1024x1024 .bf16) (acc : Vec Ideal S1x1x512x512 .f32) (x : S1x1x512x512.Idx) :
    k0_pay5 x0 x1 acc x = acc x + part x0 x1 (ix4 (0 : Fin 2) (0 : Fin 2) (x 2) (x 3)) := by
  unfold part
  pointwise [k0_pay5, k0_pay4]

theorem plane10 (x0 : Vec Ideal S1024x1024 .bf16) (x1 : Vec Ideal S1024x1024 .bf16) (acc : Vec Ideal S1x1x512x512 .f32) (x : S1x1x512x512.Idx) :
    k0_pay6 x0 x1 acc x = acc x + part x0 x1 (ix4 (1 : Fin 2) (0 : Fin 2) (x 2) (x 3)) := by
  unfold part
  pointwise [k0_pay6, k0_pay4]

theorem plane01 (x0 : Vec Ideal S1024x1024 .bf16) (x1 : Vec Ideal S1024x1024 .bf16) (acc : Vec Ideal S1x1x512x512 .f32) (x : S1x1x512x512.Idx) :
    k0_pay1 (k0_pay7 x0 x1 acc) x = acc x + part x0 x1 (ix4 (0 : Fin 2) (1 : Fin 2) (x 2) (x 3)) := by
  unfold part
  pointwise [k0_pay1, k0_pay7, k0_pay4]

theorem plane11 (x0 : Vec Ideal S1024x1024 .bf16) (x1 : Vec Ideal S1024x1024 .bf16) (acc : Vec Ideal S1x1x512x512 .f32) (x : S1x1x512x512.Idx) :
    k0_pay2 (k0_pay4 x0 x1) acc x = acc x + part x0 x1 (ix4 (1 : Fin 2) (1 : Fin 2) (x 2) (x 3)) := by
  unfold part
  pointwise [k0_pay2, k0_pay4]

/-- The first of the eight points clears all planes. -/
theorem zero_apply (j) : k0_pay3 (F := Ideal) j = 0 := by pointwise [k0_pay3]

/-- After the first of the eight points the planes hold its part. -/
theorem reset (c : Dev nD) (t : Fin cfg0.N) (h : t.val % 8 = 0) (j : S2x2x512x512.Idx) :
    outsAt0 m c t.val t.isLt j = 0 + part (iblk m c 0 t) (iblk m c 1 t) j := by
  rw [outsAt0_A m c t h]
  frame_out
  refine Upto.all (Val := Elt Ideal) (e := .f32) (c := 2) (a := 512) (b := 512) (T := fun y => 0 + part (iblk m c 0 t) (iblk m c 1 t) y) (n := 4) ?_ (by decide) j
  refine Upto.step (Val := Elt Ideal) (e := .f32) (c := 2) (a := 512) (b := 512) 1 1 (by decide) (by decide) ?_ _ _ fun x => (plane11 _ _ _ x).trans (congrArg (· + _) (Off.load (Val := Elt Ideal) (e := .f32) (c := 2) (a := 512) (b := 512) _ ?_ _ x))
  on_goal 2 => repeat' first | exact .base _ _ zero_apply | refine .step _ _ _ _ _ (by decide) ?_
  refine Upto.step (Val := Elt Ideal) (e := .f32) (c := 2) (a := 512) (b := 512) 0 1 (by decide) (by decide) ?_ _ _ fun x => (plane01 _ _ _ x).trans (congrArg (· + _) (Off.load (Val := Elt Ideal) (e := .f32) (c := 2) (a := 512) (b := 512) _ ?_ _ x))
  on_goal 2 => repeat' first | exact .base _ _ zero_apply | refine .step _ _ _ _ _ (by decide) ?_
  refine Upto.step (Val := Elt Ideal) (e := .f32) (c := 2) (a := 512) (b := 512) 1 0 (by decide) (by decide) ?_ _ _ fun x => (plane10 _ _ _ x).trans (congrArg (· + _) (Off.load (Val := Elt Ideal) (e := .f32) (c := 2) (a := 512) (b := 512) _ ?_ _ x))
  on_goal 2 => repeat' first | exact .base _ _ zero_apply | refine .step _ _ _ _ _ (by decide) ?_
  refine Upto.step (Val := Elt Ideal) (e := .f32) (c := 2) (a := 512) (b := 512) 0 0 (by decide) (by decide) ?_ _ _ fun x => (plane00 _ _ _ x).trans (congrArg (· + _) (Off.load (Val := Elt Ideal) (e := .f32) (c := 2) (a := 512) (b := 512) _ ?_ _ x))
  on_goal 2 => repeat' first | exact .base _ _ zero_apply | refine .step _ _ _ _ _ (by decide) ?_
  exact Upto.zero _ _

/-- Every later point adds its part. -/
theorem step (c : Dev nD) (t : Fin cfg0.N) (h : ¬t.val % 8 = 0) (j : S2x2x512x512.Idx) :
    outsAt0 m c t.val t.isLt j = outsAt0 m c (t.val - 1) (Nat.lt_of_le_of_lt (Nat.sub_le _ _) t.isLt) j + part (iblk m c 0 t) (iblk m c 1 t) j := by
  rw [outsAt0_B m c t h]
  frame_out
  refine Upto.all (Val := Elt Ideal) (e := .f32) (c := 2) (a := 512) (b := 512) (T := fun y => outsAt0 m c (t.val - 1) (Nat.lt_of_le_of_lt (Nat.sub_le _ _) t.isLt) y + part (iblk m c 0 t) (iblk m c 1 t) y) (n := 4) ?_ (by decide) j
  refine Upto.step (Val := Elt Ideal) (e := .f32) (c := 2) (a := 512) (b := 512) 1 1 (by decide) (by decide) ?_ _ _ fun x => (plane11 _ _ _ x).trans (congrArg (· + _) (congrArg _ (plane_idx 1 1 (by decide) (by decide) _ x)))
  refine Upto.step (Val := Elt Ideal) (e := .f32) (c := 2) (a := 512) (b := 512) 0 1 (by decide) (by decide) ?_ _ _ fun x => (plane01 _ _ _ x).trans (congrArg (· + _) (congrArg _ (plane_idx 0 1 (by decide) (by decide) _ x)))
  refine Upto.step (Val := Elt Ideal) (e := .f32) (c := 2) (a := 512) (b := 512) 1 0 (by decide) (by decide) ?_ _ _ fun x => (plane10 _ _ _ x).trans (congrArg (· + _) (congrArg _ (plane_idx 1 0 (by decide) (by decide) _ x)))
  refine Upto.step (Val := Elt Ideal) (e := .f32) (c := 2) (a := 512) (b := 512) 0 0 (by decide) (by decide) ?_ _ _ fun x => (plane00 _ _ _ x).trans (congrArg (· + _) (congrArg _ (plane_idx 0 0 (by decide) (by decide) _ x)))
  exact Upto.zero _ _

/-- The kernel's array is the gradient. -/
theorem final (c : Dev nD) : (dats m 0 c).arrAt 2 (cfgs 0).N
    = gradient (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => reset m c t h j) (fun t h j => step m c t h j) t ((flush0_2 t).mp hf) _, zero_add, gradient_apply]
  unfold part
  refine Fin.sum_mul_add_congr fun s k hl => ?_
  blk_point [iblk, V, idx t, idx ⟨_, Pipeline.run_point_lt_of_flush t ((flush0_2 t).mp hf) s⟩]

end Cert.ConvInDwFin
-- ==== Proof.ConvInDxFin.lean ====
/-
  The convolution layer's first product, the gradient of its input: the kernel adds two blocks of columns, one grid point
  after another; together they are the reference's one contraction.
-/
module

public import proofs.«01_k».proof.Proof.Gen.ConvInDxIdeal.Frame
public import proofs.«01_k».proof.Proof.Gen.ConvInDxRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvInDxFin
open Cert.ConvInDxIdeal Cert.ConvInDxIdeal.Gen

variable (m : (ℓ : Loc nD τ sig) → Buf (Elt Ideal) ℓ)

/-- The reference's gradient, of the kernel's arguments. -/
abbrev gradient (X : FVec Ideal S8192x2048 .bf16) (W : FVec Ideal S2x1024x1024 .bf16) : FVec Ideal S8192x1024 .f32 :=
  Cert.ConvInDxRefIdeal.Read.val_main_v6 (F := Ideal) X W

/-- The gradient at an index: one contraction over all the columns. -/
theorem gradient_apply (X : FVec Ideal S8192x2048 .bf16) (W : FVec Ideal S2x1024x1024 .bf16) (y : S8192x1024.Idx) :
    gradient X W y = ∑ l : Fin 2048, X (ix2 (y 0) l)
      * W (ix3 (⟨l.val / 1024, by omega⟩ : Fin 2) (y 1) (⟨l.val % 1024, Nat.mod_lt _ (by decide)⟩ : Fin 1024)) := by
  simp only [gradient, Cert.ConvInDxRefIdeal.Read.val_main_v6_apply, Cert.ConvInDxRefIdeal.Read.val_main_v5_apply, Cert.ConvInDxRefIdeal.Read.val_main_v2_apply, Cert.ConvInDxRefIdeal.Read.val_main_v1_apply, Cert.ConvInDxRefIdeal.Read.val_main_v0_apply]
  refine Finset.sum_congr rfl fun k _ => ?_
  have h0 := (y 0).isLt
  have h1 := (y 1).isLt
  refine congrArg₂ (· * ·) (congrArg X ?_) (congrArg W ?_)
  · blk_ext!
  · blk_ext!

/-- Where each grid point's blocks lie. -/
theorem idx : ∀ t : Fin cfg0.N, win0_0.index t = ![t.val / 2, t.val % 2] ∧ win0_1.index t = ![t.val % 2, 0, 0] ∧ win0_2.index t = ![t.val / 2, 0] :=
  (by decide +kernel : ∀ t : Fin grid0.N, _)

/-- The first of the two points clears the carried buffer. -/
theorem zero_apply (j) : k0_pay1 (F := Ideal) j = 0 := by pointwise [k0_pay1]

/-- What a point adds to the carried buffer. -/
theorem part_apply (acc : Vec Ideal S1024x1024 .f32) (x0 : Vec Ideal S1024x1024 .bf16) (x1 : Vec Ideal S1x1024x1024 .bf16) (j : S1024x1024.Idx) :
    k0_pay2 acc x0 x1 j = acc j + ∑ k : Fin 1024, x0 (ix2 (j 0) k) * x1 (ix3 (0 : Fin 1) (j 1) k) := by
  pointwise [k0_pay2]

/-- At the second point the output is what the carried buffer holds. -/
theorem out_eq (c : Dev nD) (t : Fin cfg0.N) (h : t.val % 2 = 1) (j) :
    (outsAt0 m c t.val t.isLt).1 j = (outsAt0 m c t.val t.isLt).2 j := by
  rw [outsAt0_B m c t (by omega) h]
  frame_out

/-- The kernel's array is the gradient. -/
theorem final (c : Dev nD) : (dats m 0 c).arrAt 2 (cfgs 0).N
    = gradient (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 2 (fun _ => 0) _
    (fun t h j => by rw [outsAt0_A m c t h (by omega)]; frame_out; rw [part_apply, zero_apply])
    (fun t h j => by
      rw [outsAt0_B m c t h (by omega)]; frame_out; rw [part_apply]
      exact congrArg (· + _) (congrFun ((Memref.isWhole_whole cc0_scratch0).read_unread _) j))
    t ((flush0_2 t).mp hf) _, zero_add, gradient_apply]
  refine Fin.sum_mul_add_congr fun s k hl => ?_
  blk_point [iblk, V, idx t, idx ⟨_, Pipeline.run_point_lt_of_flush t ((flush0_2 t).mp hf) s⟩]

end Cert.ConvInDxFin
-- ==== Proof.ConvInFin.lean ====
/-
  The convolution layer's first product with its bias: the kernel's tiles are the rows and columns of the reference's.
-/
module

public import proofs.«01_k».proof.Proof.Gen.ConvInIdeal.Frame
public import proofs.«01_k».proof.Proof.Gen.ConvInRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvInFin
open Cert.ConvInIdeal Cert.ConvInIdeal.Gen

variable (m : (ℓ : Loc nD τ sig) → Buf (Elt Ideal) ℓ)

/-- The reference's result, of the kernel's arguments. -/
abbrev result (X : FVec Ideal S8192x1024 .bf16) (W : FVec Ideal S2x1024x1024 .bf16) (B : FVec Ideal S1x2048 .f32) : FVec Ideal S8192x2048 .f32 :=
  Cert.ConvInRefIdeal.Read.val_main_v6 (F := Ideal) X W B

/-- The result at an index: a row of the first factor against a column of the second. -/
theorem result_apply (X : FVec Ideal S8192x1024 .bf16) (W : FVec Ideal S2x1024x1024 .bf16) (B : FVec Ideal S1x2048 .f32) (y : S8192x2048.Idx) :
    result X W B y = (∑ k : Fin 1024, X (ix2 (y 0) k) * W (ix3 (⟨(y 1).val / 1024, Nat.div_lt_of_lt_mul (show (y 1).val < 1024 * 2 from (y 1).isLt)⟩ : Fin 2) k (⟨(y 1).val % 1024, Nat.mod_lt _ (by decide)⟩ : Fin 1024))) + B (ix2 (0 : Fin 1) (y 1)) := by
  simp only [result, Cert.ConvInRefIdeal.Read.val_main_v0_apply, Cert.ConvInRefIdeal.Read.val_main_v1_apply, Cert.ConvInRefIdeal.Read.val_main_v2_apply, Cert.ConvInRefIdeal.Read.val_main_v3_apply, Cert.ConvInRefIdeal.Read.val_main_v4_apply, Cert.ConvInRefIdeal.Read.val_main_v5_apply, Cert.ConvInRefIdeal.Read.val_main_v6_apply]
  have h0 := (y 0).isLt
  have h1 := (y 1).isLt
  refine congrArg₂ (· + ·) ?_ (congrArg B ?_)
  swap
  · blk_ext!
  refine Finset.sum_congr rfl fun k _ => ?_
  refine congrArg₂ (· * ·) (congrArg X ?_) (congrArg W ?_)
  · blk_ext!
  · blk_ext!

/-- Where each grid point's blocks lie. -/
theorem idx : ∀ t : Fin cfg0.N, win0_0.index t = ![t.val % 8, 0] ∧ win0_1.index t = ![t.val / 8, 0, 0] ∧ win0_2.index t = ![0, t.val / 8] ∧ win0_3.index t = ![t.val % 8, t.val / 8] :=
  (by decide +kernel : ∀ t : Fin grid0.N, _)

/-- What a grid point stores is its tile of the result. -/
theorem point (c : Dev nD) (t : Fin cfg0.N) (y) : k0_pay1 (iblk m c 0 t) (iblk m c 1 t) (iblk m c 2 t) y
    = result (m ((c : Thread nD τ).loc main_arg0)) (m ((c : Thread nD τ).loc main_arg1)) (m ((c : Thread nD τ).loc main_arg2)) (((cfg0.win 3).blk t).view.emb y) := by
  rw [result_apply]
  pointwise [k0_pay1]
  blk_point [iblk, V, idx t]

/-- The kernel's array is the reference's. -/
theorem final (c : Dev nD) : (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.ConvInFin
-- ==== Proof.ConvOutDxFin.lean ====
/-
  The convolution layer's second product, the gradient of its input: each grid point clears its buffer and adds its rows.
-/
module

public import proofs.«01_k».proof.Proof.Gen.ConvOutDxIdeal.Frame
public import proofs.«01_k».proof.Proof.Gen.ConvOutDxRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvOutDxFin
open Cert.ConvOutDxIdeal Cert.ConvOutDxIdeal.Gen

variable (m : (ℓ : Loc nD τ sig) → Buf (Elt Ideal) ℓ)

/-- The reference's gradient, of the kernel's arguments. -/
abbrev gradient (X : FVec Ideal S8192x1024 .bf16) (W : FVec Ideal S1x1024x1024 .bf16) : FVec Ideal S8192x1024 .f32 :=
  Cert.ConvOutDxRefIdeal.Read.val_main_v6 (F := Ideal) X W

/-- The gradient at an index: a row of the result's gradient against a row of the weights. -/
theorem gradient_apply (X : FVec Ideal S8192x1024 .bf16) (W : FVec Ideal S1x1024x1024 .bf16) (y : S8192x1024.Idx) :
    gradient X W y = ∑ k : Fin 1024, X (ix2 (y 0) k) * W (ix3 (0 : Fin 1) (y 1) k) := by
  simp only [gradient, Cert.ConvOutDxRefIdeal.Read.val_main_v0_apply, Cert.ConvOutDxRefIdeal.Read.val_main_v1_apply, Cert.ConvOutDxRefIdeal.Read.val_main_v2_apply, Cert.ConvOutDxRefIdeal.Read.val_main_v5_apply, Cert.ConvOutDxRefIdeal.Read.val_main_v6_apply]
  have h0 := (y 0).isLt
  have h1 := (y 1).isLt
  refine Finset.sum_congr rfl fun k _ => ?_
  refine congrArg₂ (· * ·) (congrArg X ?_) (congrArg W ?_)
  · blk_ext!
  · blk_ext!

/-- Where each grid point's blocks lie. -/
theorem idx : ∀ t : Fin cfg0.N, win0_0.index t = ![t.val, 0] ∧ win0_1.index t = ![0, 0, 0] ∧ win0_2.index t = ![t.val, 0] :=
  (by decide +kernel : ∀ t : Fin grid0.N, _)

/-- What a grid point adds to the cleared buffer. -/
theorem part_apply (x0 : Vec Ideal S1024x1024 .bf16) (x1 : Vec Ideal S1x1024x1024 .bf16) (j : S1024x1024.Idx) :
    k0_pay2 k0_pay1 x0 x1 j = ∑ k : Fin 1024, x0 (ix2 (j 0) k) * x1 (ix3 (0 : Fin 1) (j 1) k) := by
  pointwise [k0_pay2, k0_pay1]

/-- What a grid point stores is its rows of the gradient. -/
theorem point (c : Dev nD) (t : Fin cfg0.N) (y) : k0_pay2 k0_pay1 (iblk m c 0 t) (iblk m c 1 t) y
    = gradient (m ((c : Thread nD τ).loc main_arg0)) (m ((c : Thread nD τ).loc main_arg1)) (((cfg0.win 2).blk t).view.emb y) := by
  rw [gradient_apply, part_apply]
  blk_point [iblk, V, idx t]

/-- The kernel's array is the gradient. -/
theorem final (c : Dev nD) : (dats m 0 c).arrAt 2 (cfgs 0).N
    = gradient (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.ConvOutDxFin
-- ==== Proof.ConvOutFin.lean ====
/-
  The convolution layer's second product with its bias: the kernel's tiles are the rows of the reference's.
-/
module

public import proofs.«01_k».proof.Proof.Gen.ConvOutIdeal.Frame
public import proofs.«01_k».proof.Proof.Gen.ConvOutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ConvOutFin
open Cert.ConvOutIdeal Cert.ConvOutIdeal.Gen

variable (m : (ℓ : Loc nD τ sig) → Buf (Elt Ideal) ℓ)

/-- The reference's result, of the kernel's arguments. -/
abbrev result (X : FVec Ideal S8192x1024 .bf16) (W : FVec Ideal S1x1024x1024 .bf16) (B : FVec Ideal S1x1024 .f32) : FVec Ideal S8192x1024 .f32 :=
  Cert.ConvOutRefIdeal.Read.val_main_v6 (F := Ideal) X W B

/-- The result at an index: a row of the first factor against a column of the second. -/
theorem result_apply (X : FVec Ideal S8192x1024 .bf16) (W : FVec Ideal S1x1024x1024 .bf16) (B : FVec Ideal S1x1024 .f32) (y : S8192x1024.Idx) :
    result X W B y = (∑ k : Fin 1024, X (ix2 (y 0) k) * W (ix3 (0 : Fin 1) k (y 1))) + B (ix2 (0 : Fin 1) (y 1)) := by
  simp only [result, Cert.ConvOutRefIdeal.Read.val_main_v0_apply, Cert.ConvOutRefIdeal.Read.val_main_v1_apply, Cert.ConvOutRefIdeal.Read.val_main_v2_apply, Cert.ConvOutRefIdeal.Read.val_main_v3_apply, Cert.ConvOutRefIdeal.Read.val_main_v4_apply, Cert.ConvOutRefIdeal.Read.val_main_v5_apply, Cert.ConvOutRefIdeal.Read.val_main_v6_apply]
  have h0 := (y 0).isLt
  have h1 := (y 1).isLt
  refine congrArg₂ (· + ·) ?_ (congrArg B ?_)
  swap
  · blk_ext!
  refine Finset.sum_congr rfl fun k _ => ?_
  refine congrArg₂ (· * ·) (congrArg X ?_) (congrArg W ?_)
  · blk_ext!
  · blk_ext!

/-- Where each grid point's blocks lie. -/
theorem idx : ∀ t : Fin cfg0.N, win0_0.index t = ![t.val, 0] ∧ win0_1.index t = ![0, 0, 0] ∧ win0_2.index t = ![0, 0] ∧ win0_3.index t = ![t.val, 0] :=
  (by decide +kernel : ∀ t : Fin grid0.N, _)

/-- What a grid point stores is its tile of the result. -/
theorem point (c : Dev nD) (t : Fin cfg0.N) (y) : k0_pay1 (iblk m c 0 t) (iblk m c 1 t) (iblk m c 2 t) y
    = result (m ((c : Thread nD τ).loc main_arg0)) (m ((c : Thread nD τ).loc main_arg1)) (m ((c : Thread nD τ).loc main_arg2)) (((cfg0.win 3).blk t).view.emb y) := by
  rw [result_apply]
  pointwise [k0_pay1]
  blk_point [iblk, V, idx t]

/-- The kernel's array is the reference's. -/
theorem final (c : Dev nD) : (dats m 0 c).arrAt 3 (cfgs 0).N = result (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  exact point m c t y

end Cert.ConvOutFin
-- ==== Proof.DownDwFin.lean ====
/-
  The feed-forward's second product, the gradient of its weights: each block of rows adds eight blocks of tokens, one grid
  point after another, into its output; together they are the reference's one contraction.
-/
module

public import proofs.«01_k».proof.Proof.Gen.DownDwIdeal.Frame
public import proofs.«01_k».proof.Proof.Gen.DownDwRefIdeal.Read
public import proofs.«01_k».proof.Proof.Halves
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownDwFin
open Cert.DownDwIdeal Cert.DownDwIdeal.Gen Cert.Halves

variable (m : (ℓ : Loc nD τ sig) → Buf (Elt Ideal) ℓ)

/-- The reference's gradient, of the kernel's arguments. -/
abbrev gradient (H : FVec Ideal S8192x2816 .bf16) (U : FVec Ideal S8192x1024 .bf16) : FVec Ideal S2x4x352x1024 .f32 :=
  Cert.DownDwRefIdeal.Read.val_main_v7 (F := Ideal) H U

/-- A row of one of the two halves of the block's shards. -/
theorem row_lt (p q r : ℕ) (hp : p < 2) (hq : q < 2) (hr : r < 352) : (q * 2 + p) * 352 + r < 1408 := by omega
/-- A row of one of the two halves of the shards. -/
theorem grow_lt (p q r : ℕ) (hp : p < 2) (hq : q < 4) (hr : r < 352) : (q * 2 + p) * 352 + r < 2816 := by omega

/-- The gradient at an index: one contraction over all the tokens. -/
theorem gradient_apply (H : FVec Ideal S8192x2816 .bf16) (U : FVec Ideal S8192x1024 .bf16) (y : S2x4x352x1024.Idx) :
    gradient H U y = ∑ l : Fin 8192, H (ix2 l (⟨((y 1).val * 2 + (y 0).val) * 352 + (y 2).val, grow_lt _ _ _ (y 0).isLt (y 1).isLt (y 2).isLt⟩ : Fin 2816)) * U (ix2 l (y 3)) := by
  simp only [gradient, Cert.DownDwRefIdeal.Read.val_main_v7_apply, Cert.DownDwRefIdeal.Read.val_main_v6_apply, Cert.DownDwRefIdeal.Read.val_main_v5_apply, Cert.DownDwRefIdeal.Read.val_main_v4_apply, Cert.DownDwRefIdeal.Read.val_main_v2_apply, Cert.DownDwRefIdeal.Read.val_main_v1_apply]
  refine Finset.sum_congr rfl fun k _ => ?_
  have h0 := (y 0).isLt
  have h1 := (y 1).isLt
  refine (mul_comm _ _).trans (congrArg₂ (· * ·) (congrArg H ?_) (congrArg U ?_))
  · blk_ext!
  · blk_ext!

/-- Where each grid point's blocks lie. -/
theorem idx : ∀ t : Fin cfg0.N, win0_0.index t = ![t.val % 8, t.val / 8] ∧ win0_1.index t = ![t.val % 8, 0] ∧ win0_2.index t = ![0, t.val / 8, 0, 0] :=
  (by decide +kernel : ∀ t : Fin grid0.N, _)

/-- What a grid point adds. -/
def part (x0 : Vec Ideal S1024x1408 .bf16) (x1 : Vec Ideal S1024x1024 .bf16) (y : S2x2x352x1024.Idx) : EReal :=
  ∑ k : Fin 1024, x0 (ix2 k (⟨((y 1).val * 2 + (y 0).val) * 352 + (y 2).val, row_lt _ _ _ (y 0).isLt (y 1).isLt (y 2).isLt⟩ : Fin 1408)) * x1 (ix2 k (y 3))

theorem plane00 (x0 : Vec Ideal S1024x1408 .bf16) (x1 : Vec Ideal S1024x1024 .bf16) (acc : Vec Ideal S1x1x352x1024 .f32) (x : S1x1x352x1024.Idx) :
    k0_pay5 x0 x1 acc x = acc x + part x0 x1 (ix4 (0 : Fin 2) (0 : Fin 2) (x 2) (x 3)) := by
  unfold part
  pointwise [k0_pay5, k0_pay4]

theorem plane10 (x0 : Vec Ideal S1024x1408 .bf16) (x1 : Vec Ideal S1024x1024 .bf16) (acc : Vec Ideal S1x1x352x1024 .f32) (x : S1x1x352x1024.Idx) :
    k0_pay6 x0 x1 acc x = acc x + part x0 x1 (ix4 (1 : Fin 2) (0 : Fin 2) (x 2) (x 3)) := by
  unfold part
  pointwise [k0_pay6, k0_pay4]

theorem plane01 (x0 : Vec Ideal S1024x1408 .bf16) (x1 : Vec Ideal S1024x1024 .bf16) (acc : Vec Ideal S1x1x352x1024 .f32) (x : S1x1x352x1024.Idx) :
    k0_pay1 (k0_pay7 x0 x1 acc) x = acc x + part x0 x1 (ix4 (0 : Fin 2) (1 : Fin 2) (x 2) (x 3)) := by
  unfold part
  pointwise [k0_pay1, k0_pay7, k0_pay4]

theorem plane11 (x0 : Vec Ideal S1024x1408 .bf16) (x1 : Vec Ideal S1024x1024 .bf16) (acc : Vec Ideal S1x1x352x1024 .f32) (x : S1x1x352x1024.Idx) :
    k0_pay2 (k0_pay4 x0 x1) acc x = acc x + part x0 x1 (ix4 (1 : Fin 2) (1 : Fin 2) (x 2) (x 3)) := by
  unfold part
  pointwise [k0_pay2, k0_pay4]

/-- The first of the eight points clears all planes. -/
theorem zero_apply (j) : k0_pay3 (F := Ideal) j = 0 := by pointwise [k0_pay3]

/-- After the first of the eight points the planes hold its part. -/
theorem reset (c : Dev nD) (t : Fin cfg0.N) (h : t.val % 8 = 0) (j : S2x2x352x1024.Idx) :
    outsAt0 m c t.val t.isLt j = 0 + part (iblk m c 0 t) (iblk m c 1 t) j := by
  rw [outsAt0_A m c t h]
  frame_out
  refine Upto.all (Val := Elt Ideal) (e := .f32) (c := 2) (a := 352) (b := 1024) (T := fun y => 0 + part (iblk m c 0 t) (iblk m c 1 t) y) (n := 4) ?_ (by decide) j
  refine Upto.step (Val := Elt Ideal) (e := .f32) (c := 2) (a := 352) (b := 1024) 1 1 (by decide) (by decide) ?_ _ _ fun x => (plane11 _ _ _ x).trans (congrArg (· + _) (Off.load (Val := Elt Ideal) (e := .f32) (c := 2) (a := 352) (b := 1024) _ ?_ _ x))
  on_goal 2 => repeat' first | exact .base _ _ zero_apply | refine .step _ _ _ _ _ (by decide) ?_
  refine Upto.step (Val := Elt Ideal) (e := .f32) (c := 2) (a := 352) (b := 1024) 0 1 (by decide) (by decide) ?_ _ _ fun x => (plane01 _ _ _ x).trans (congrArg (· + _) (Off.load (Val := Elt Ideal) (e := .f32) (c := 2) (a := 352) (b := 1024) _ ?_ _ x))
  on_goal 2 => repeat' first | exact .base _ _ zero_apply | refine .step _ _ _ _ _ (by decide) ?_
  refine Upto.step (Val := Elt Ideal) (e := .f32) (c := 2) (a := 352) (b := 1024) 1 0 (by decide) (by decide) ?_ _ _ fun x => (plane10 _ _ _ x).trans (congrArg (· + _) (Off.load (Val := Elt Ideal) (e := .f32) (c := 2) (a := 352) (b := 1024) _ ?_ _ x))
  on_goal 2 => repeat' first | exact .base _ _ zero_apply | refine .step _ _ _ _ _ (by decide) ?_
  refine Upto.step (Val := Elt Ideal) (e := .f32) (c := 2) (a := 352) (b := 1024) 0 0 (by decide) (by decide) ?_ _ _ fun x => (plane00 _ _ _ x).trans (congrArg (· + _) (Off.load (Val := Elt Ideal) (e := .f32) (c := 2) (a := 352) (b := 1024) _ ?_ _ x))
  on_goal 2 => repeat' first | exact .base _ _ zero_apply | refine .step _ _ _ _ _ (by decide) ?_
  exact Upto.zero _ _

/-- Every later point adds its part. -/
theorem step (c : Dev nD) (t : Fin cfg0.N) (h : ¬t.val % 8 = 0) (j : S2x2x352x1024.Idx) :
    outsAt0 m c t.val t.isLt j = outsAt0 m c (t.val - 1) (Nat.lt_of_le_of_lt (Nat.sub_le _ _) t.isLt) j + part (iblk m c 0 t) (iblk m c 1 t) j := by
  rw [outsAt0_B m c t h]
  frame_out
  refine Upto.all (Val := Elt Ideal) (e := .f32) (c := 2) (a := 352) (b := 1024) (T := fun y => outsAt0 m c (t.val - 1) (Nat.lt_of_le_of_lt (Nat.sub_le _ _) t.isLt) y + part (iblk m c 0 t) (iblk m c 1 t) y) (n := 4) ?_ (by decide) j
  refine Upto.step (Val := Elt Ideal) (e := .f32) (c := 2) (a := 352) (b := 1024) 1 1 (by decide) (by decide) ?_ _ _ fun x => (plane11 _ _ _ x).trans (congrArg (· + _) (congrArg _ (plane_idx 1 1 (by decide) (by decide) _ x)))
  refine Upto.step (Val := Elt Ideal) (e := .f32) (c := 2) (a := 352) (b := 1024) 0 1 (by decide) (by decide) ?_ _ _ fun x => (plane01 _ _ _ x).trans (congrArg (· + _) (congrArg _ (plane_idx 0 1 (by decide) (by decide) _ x)))
  refine Upto.step (Val := Elt Ideal) (e := .f32) (c := 2) (a := 352) (b := 1024) 1 0 (by decide) (by decide) ?_ _ _ fun x => (plane10 _ _ _ x).trans (congrArg (· + _) (congrArg _ (plane_idx 1 0 (by decide) (by decide) _ x)))
  refine Upto.step (Val := Elt Ideal) (e := .f32) (c := 2) (a := 352) (b := 1024) 0 0 (by decide) (by decide) ?_ _ _ fun x => (plane00 _ _ _ x).trans (congrArg (· + _) (congrArg _ (plane_idx 0 0 (by decide) (by decide) _ x)))
  exact Upto.zero _ _

/-- The kernel's array is the gradient. -/
theorem final (c : Dev nD) : (dats m 0 c).arrAt 2 (cfgs 0).N
    = gradient (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => reset m c t h j) (fun t h j => step m c t h j) t ((flush0_2 t).mp hf) _, zero_add, gradient_apply]
  unfold part
  refine Fin.sum_mul_add_congr fun s k hl => ?_
  blk_point [iblk, V, idx t, idx ⟨_, Pipeline.run_point_lt_of_flush t ((flush0_2 t).mp hf) s⟩]

end Cert.DownDwFin
-- ==== Proof.DownDxFin.lean ====
/-
  The feed-forward's second product, the gradient of its input: each grid point clears its buffer and adds its rows.
-/
module

public import proofs.«01_k».proof.Proof.Gen.DownDxIdeal.Frame
public import proofs.«01_k».proof.Proof.Gen.DownDxRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownDxFin
open Cert.DownDxIdeal Cert.DownDxIdeal.Gen

variable (m : (ℓ : Loc nD τ sig) → Buf (Elt Ideal) ℓ)

/-- The reference's gradient, of the kernel's arguments. -/
abbrev gradient (X : FVec Ideal S8192x1024 .bf16) (W : FVec Ideal S1x2816x1024 .bf16) : FVec Ideal S8192x2816 .bf16 :=
  Cert.DownDxRefIdeal.Read.val_main_v7 (F := Ideal) X W

/-- The gradient at an index: a row of the result's gradient against a row of the weights. -/
theorem gradient_apply (X : FVec Ideal S8192x1024 .bf16) (W : FVec Ideal S1x2816x1024 .bf16) (y : S8192x2816.Idx) :
    gradient X W y = ∑ k : Fin 1024, X (ix2 (y 0) k) * W (ix3 (0 : Fin 1) (y 1) k) := by
  simp only [gradient, Cert.DownDxRefIdeal.Read.val_main_v0_apply, Cert.DownDxRefIdeal.Read.val_main_v1_apply, Cert.DownDxRefIdeal.Read.val_main_v2_apply, Cert.DownDxRefIdeal.Read.val_main_v5_apply, Cert.DownDxRefIdeal.Read.val_main_v6_apply, Cert.DownDxRefIdeal.Read.val_main_v7_apply]
  have h0 := (y 0).isLt
  have h1 := (y 1).isLt
  refine Finset.sum_congr rfl fun k _ => ?_
  refine congrArg₂ (· * ·) (congrArg X ?_) (congrArg W ?_)
  · blk_ext!
  · blk_ext!

/-- Where each grid point's blocks lie. -/
theorem idx : ∀ t : Fin cfg0.N, win0_0.index t = ![t.val, 0] ∧ win0_1.index t = ![0, 0, 0] ∧ win0_2.index t = ![t.val, 0] :=
  (by decide +kernel : ∀ t : Fin grid0.N, _)

/-- What a grid point adds to the cleared buffer. -/
theorem part_apply (x0 : Vec Ideal S1024x1024 .bf16) (x1 : Vec Ideal S1x2816x1024 .bf16) (j : S1024x2816.Idx) :
    k0_pay2 k0_pay1 x0 x1 j = ∑ k : Fin 1024, x0 (ix2 (j 0) k) * x1 (ix3 (0 : Fin 1) (j 1) k) := by
  pointwise [k0_pay2, k0_pay1]

/-- What a grid point stores is its rows of the gradient. -/
theorem point (c : Dev nD) (t : Fin cfg0.N) (y) : k0_pay2 k0_pay1 (iblk m c 0 t) (iblk m c 1 t) y
    = gradient (m ((c : Thread nD τ).loc main_arg0)) (m ((c : Thread nD τ).loc main_arg1)) (((cfg0.win 2).blk t).view.emb y) := by
  rw [gradient_apply, part_apply]
  blk_point [iblk, V, idx t]

/-- The kernel's array is the gradient. -/
theorem final (c : Dev nD) : (dats m 0 c).arrAt 2 (cfgs 0).N
    = gradient (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.DownDxFin
-- ==== Proof.DownFin.lean ====
/-
  The feed-forward's second product: the kernel's tiles are the rows of the reference's product.
-/
module

public import proofs.«01_k».proof.Proof.Gen.DownIdeal.Frame
public import proofs.«01_k».proof.Proof.Gen.DownRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.DownFin
open Cert.DownIdeal Cert.DownIdeal.Gen

variable (m : (ℓ : Loc nD τ sig) → Buf (Elt Ideal) ℓ)

/-- The reference's result, of the kernel's arguments. -/
abbrev result (X : FVec Ideal S8192x2816 .bf16) (W : FVec Ideal S1x2816x1024 .bf16) : FVec Ideal S8192x1024 .f32 :=
  Cert.DownRefIdeal.Read.val_main_v4 (F := Ideal) X W

/-- The result at an index: a row of the first factor against a column of the second. -/
theorem result_apply (X : FVec Ideal S8192x2816 .bf16) (W : FVec Ideal S1x2816x1024 .bf16) (y : S8192x1024.Idx) :
    result X W y = (∑ k : Fin 2816, X (ix2 (y 0) k) * W (ix3 (0 : Fin 1) k (y 1))) := by
  simp only [result, Cert.DownRefIdeal.Read.val_main_v0_apply, Cert.DownRefIdeal.Read.val_main_v1_apply, Cert.DownRefIdeal.Read.val_main_v2_apply, Cert.DownRefIdeal.Read.val_main_v3_apply, Cert.DownRefIdeal.Read.val_main_v4_apply]
  have h0 := (y 0).isLt
  have h1 := (y 1).isLt
  refine Finset.sum_congr rfl fun k _ => ?_
  refine congrArg₂ (· * ·) (congrArg X ?_) (congrArg W ?_)
  · blk_ext!
  · blk_ext!

/-- Where each grid point's blocks lie. -/
theorem idx : ∀ t : Fin cfg0.N, win0_0.index t = ![t.val, 0] ∧ win0_1.index t = ![0, 0, 0] ∧ win0_2.index t = ![t.val, 0] :=
  (by decide +kernel : ∀ t : Fin grid0.N, _)

/-- What a grid point stores is its tile of the result. -/
theorem point (c : Dev nD) (t : Fin cfg0.N) (y) : k0_pay1 (iblk m c 0 t) (iblk m c 1 t) y
    = result (m ((c : Thread nD τ).loc main_arg0)) (m ((c : Thread nD τ).loc main_arg1)) (((cfg0.win 2).blk t).view.emb y) := by
  rw [result_apply]
  pointwise [k0_pay1]
  blk_point [iblk, V, idx t]

/-- The kernel's array is the reference's. -/
theorem final (c : Dev nD) : (dats m 0 c).arrAt 2 (cfgs 0).N = result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.DownFin
-- ==== Proof.Norm.lean ====
/-
  A row divided by its root mean square, and the gradient of that: the kernel's form and the differentiated form agree at
  every extended real, no number excluded.
-/
module

public import Idealize.ShloMosaic.Lib.Pipeline.ValueKit
public import Idealize.ShloMosaic.Lib.ValueIdx

@[expose] public section

noncomputable section

namespace Cert.Norm

open Idealize.ShloMosaic

theorem half_neg : Ideal.ofBits .f32 0xBF000000#32 = ((-(1 / 2) : ℝ) : EReal) := by
  simp [Ideal.ofBits, Ideal.ieee, -EReal.coe_mul, -EReal.coe_neg]; norm_num

theorem eps_val : ∃ e : ℝ, 0 < e ∧ Ideal.ofBits .f32 0x358637BD#32 = (e : EReal) := by
  refine ⟨8796093 * (2 ^ 43)⁻¹, by positivity, ?_⟩
  simp [Ideal.ofBits, Ideal.ieee, -EReal.coe_mul]

theorem width_val : Ideal.ofBits .f32 0x44800000#32 = ((1024 : ℝ) : EReal) := by
  simp [Ideal.ofBits, Ideal.ieee, -EReal.coe_mul]; norm_num

/-- The reciprocal root of the mean square plus a small number. -/
def rs {n : ℕ} (N e : EReal) (x : Fin n → EReal) : EReal := Ideal.rsqrt (Ideal.div (∑ j : Fin n, x j * x j) N + e)

theorem mul_self_nonneg' (a : EReal) : 0 ≤ a * a := by
  induction a using EReal.rec with
  | bot => simp
  | top => simp
  | coe r => rw [← EReal.coe_mul]; exact_mod_cast mul_self_nonneg r

theorem mul_self_top (a : EReal) (h : a * a ≠ ⊤) : ∃ r : ℝ, a = r := by
  induction a using EReal.rec with
  | bot => simp at h
  | top => simp at h
  | coe r => exact ⟨r, rfl⟩

theorem sum_nonneg_ne_top {n : ℕ} (f : Fin n → EReal) (h0 : ∀ j, 0 ≤ f j) (h : ∑ j, f j ≠ ⊤) (j : Fin n) : f j ≠ ⊤ := fun e =>
  h (top_le_iff.mp (e ▸ Finset.single_le_sum (f := f) (fun i _ => h0 i) (Finset.mem_univ j)))

/-- A nonnegative real factor moves out of a sum. -/
theorem mul_sum_real {n : ℕ} (r : ℝ) (hr : 0 ≤ r) (f : Fin n → EReal) : ∑ j, (r : EReal) * f j = (r : EReal) * ∑ j, f j := by
  refine Finset.induction_on (motive := fun s => ∑ j ∈ s, (r : EReal) * f j = (r : EReal) * ∑ j ∈ s, f j) Finset.univ (by simp) fun a s ha ih => ?_
  rw [Finset.sum_insert ha, Finset.sum_insert ha, ih, EReal.left_distrib_of_nonneg_of_ne_top (EReal.coe_nonneg.mpr hr) (EReal.coe_ne_top r)]

/-- The two cases: the reciprocal root is zero, or the row is real, the mean square is real and positive and the
    reciprocal root is its own. -/
theorem rs_cases {n : ℕ} {N e : ℝ} (hN : 0 < N) (he : 0 < e) (x : Fin n → EReal) :
    (Ideal.div (∑ j : Fin n, x j * x j) N + e = ⊤ ∧ rs N e x = 0) ∨
      ∃ q r : ℝ, 0 < q ∧ 0 < r ∧ Ideal.div (∑ j : Fin n, x j * x j) N + e = (q : EReal) ∧ rs N e x = (r : EReal) ∧ ∀ j, ∃ y : ℝ, x j = y := by
  have hs : 0 ≤ ∑ j : Fin n, x j * x j := Finset.sum_nonneg fun j _ => mul_self_nonneg' _
  unfold rs
  rw [Ideal.div_coe hN.ne']
  by_cases ht : ∑ j : Fin n, x j * x j = ⊤
  · left
    rw [ht, EReal.top_mul_coe_of_pos (by positivity), EReal.top_add_coe]
    exact ⟨rfl, Ideal.rsqrt_top⟩
  · right
    obtain ⟨s, hs'⟩ : ∃ s : ℝ, ∑ j : Fin n, x j * x j = s := ⟨_, (EReal.coe_toReal ht (ne_of_gt (lt_of_lt_of_le EReal.bot_lt_zero hs))).symm⟩
    have s0 : 0 ≤ s := by rw [hs'] at hs; exact_mod_cast hs
    have q0 : 0 < s * (1 / N) + e := by positivity
    refine ⟨s * (1 / N) + e, (Real.sqrt (s * (1 / N) + e))⁻¹, q0, by positivity, ?_, ?_, fun j => mul_self_top _ (sum_nonneg_ne_top _ (fun j => mul_self_nonneg' _) ht j)⟩
    · rw [hs', ← EReal.coe_mul, ← EReal.coe_add]
    · rw [hs', ← EReal.coe_mul, ← EReal.coe_add, Ideal.rsqrt_coe, if_neg (not_lt.mpr q0.le), if_neg q0.ne']

theorem twice (q : ℝ) (S : EReal) : ((q / 2 : ℝ) : EReal) * S + ((q / 2 : ℝ) : EReal) * S = (q : EReal) * S := by
  induction S using EReal.rec with
  | coe s => rw [← EReal.coe_mul, ← EReal.coe_add, ← EReal.coe_mul]; congr 1; ring
  | top =>
    rcases lt_trichotomy q 0 with h | h | h
    · rw [EReal.coe_mul_top_of_neg h, EReal.coe_mul_top_of_neg (by linarith)]; rfl
    · subst h; simp
    · rw [EReal.coe_mul_top_of_pos h, EReal.coe_mul_top_of_pos (by linarith)]; rfl
  | bot =>
    rcases lt_trichotomy q 0 with h | h | h
    · rw [EReal.coe_mul_bot_of_neg h, EReal.coe_mul_bot_of_neg (by linarith)]; rfl
    · subst h; simp
    · rw [EReal.coe_mul_bot_of_pos h, EReal.coe_mul_bot_of_pos (by linarith)]; rfl

/-- The factor the differentiated form multiplies the row by, twice. -/
def slope {n : ℕ} (N e h : EReal) (x d : Fin n → EReal) : EReal :=
  Ideal.div ((∑ j : Fin n, x j * d j) * (h * Ideal.div (rs N e x) (Ideal.div (∑ j : Fin n, x j * x j) N + e))) N

/-- The gradient of the scaled row, two ways. -/
theorem gradient {n : ℕ} {N e : ℝ} (hN : 0 < N) (he : 0 < e) (x d : Fin n → EReal) (k : Fin n) :
    rs N e x * (d k - (x k * rs N e x) * Ideal.div (∑ j : Fin n, d j * (x j * rs N e x)) N)
      = (d k * rs N e x + x k * slope N e ((-(1 / 2) : ℝ) : EReal) x d) + slope N e ((-(1 / 2) : ℝ) : EReal) x d * x k := by
  unfold slope
  rcases rs_cases hN he x with ⟨h1, h2⟩ | ⟨q, r, q0, r0, h1, h2, h3⟩
  · rw [h2, h1, zero_mul, Ideal.div_coe hN.ne']
    simp [Ideal.div]
  · rw [h2, h1, Ideal.div_coe hN.ne', Ideal.div_coe hN.ne', Ideal.div_coe q0.ne']
    have es : ∑ j : Fin n, d j * (x j * (r : EReal)) = (r : EReal) * ∑ j : Fin n, x j * d j := by
      rw [← mul_sum_real r r0.le]
      exact Finset.sum_congr rfl fun j _ => by ac_rfl
    have hq : r * r = 1 / q := by
      have e1 : rs N e x = (((Real.sqrt q)⁻¹ : ℝ) : EReal) := by
        unfold rs; rw [h1, Ideal.rsqrt_coe, if_neg (not_lt.mpr q0.le), if_neg q0.ne']
      have e2 : r = (Real.sqrt q)⁻¹ := by rw [h2] at e1; exact_mod_cast e1
      rw [e2, ← mul_inv, Real.mul_self_sqrt q0.le, one_div]
    rw [es]
    obtain ⟨y, hy⟩ := h3 k
    rw [hy]
    generalize ∑ j : Fin n, x j * d j = S
    generalize d k = D
    rw [sub_eq_add_neg, EReal.left_distrib_of_nonneg_of_ne_top (EReal.coe_nonneg.mpr r0.le) (EReal.coe_ne_top r), add_assoc, mul_comm (r : EReal) D]
    congr 1
    have eT : S * (((-(1 / 2) : ℝ) : EReal) * ((r : EReal) * ((1 / q : ℝ) : EReal))) * ((1 / N : ℝ) : EReal) = ((-(1 / 2) * (r * (1 / q)) * (1 / N) : ℝ) : EReal) * S := by
      rw [← EReal.coe_mul, ← EReal.coe_mul, mul_assoc, ← EReal.coe_mul, mul_comm]
    have eL : (r : EReal) * -((y : EReal) * (r : EReal) * ((r : EReal) * S * ((1 / N : ℝ) : EReal))) = ((-(y * (r * (1 / q)) * (1 / N)) : ℝ) : EReal) * S := by
      rw [← hq, ← EReal.neg_mul, ← EReal.coe_mul, ← EReal.coe_neg, mul_comm ((r : EReal) * S), ← mul_assoc, ← mul_assoc, ← mul_assoc, ← EReal.coe_mul, ← EReal.coe_mul, ← EReal.coe_mul]
      congr 2; ring
    rw [eT, eL, mul_comm _ (y : EReal), ← mul_assoc (y : EReal), ← EReal.coe_mul, ← twice]
    congr 3 <;> congr 1 <;> ring

/-! ## Over rows of 1024 -/

/-- The width, the small number and the exponent, as the programs write them. -/
abbrev Nw : EReal := Ideal.ofBits .f32 0x44800000#32
abbrev ew : EReal := Ideal.ofBits .f32 0x358637BD#32
abbrev hw : EReal := Ideal.ofBits .f32 0xBF000000#32

/-- A matrix of rows, and a row of numbers. -/
abbrev Mat (a : ℕ) : Type := FVec Ideal ⟨2, ![a, 1024]⟩ .f32
abbrev Row : Type := FVec Ideal ⟨2, ![1, 1024]⟩ .f32

/-- One row. -/
abbrev row {a : ℕ} (x : Mat a) (i : Fin a) : Fin 1024 → EReal := fun k => x (ix2 i k)

/-- The row the scaled row's gradient is taken along. -/
abbrev drow {a : ℕ} (dh : Mat a) (g sc : Row) (i : Fin a) : Fin 1024 → EReal :=
  fun k => dh (ix2 i k) * (1 + sc (ix2 0 k)) * g (ix2 0 k)

/-- The same, of a row gated before the scaling. -/
abbrev grow {a : ℕ} (D : Mat a) (gp gate : Row) (i : Fin a) : Fin 1024 → EReal :=
  fun k => gate (ix2 0 k) * D (ix2 i k) * gp (ix2 0 k)

/-- The gradient through the scaled row, as the differentiated form writes it. -/
def back (x d : Fin 1024 → EReal) (k : Fin 1024) : EReal :=
  (d k * rs Nw ew x + x k * Norm.slope Nw ew hw x d) + Norm.slope Nw ew hw x d * x k

/-- The kernel's form of the same. -/
theorem back_eq (x d : Fin 1024 → EReal) (k : Fin 1024) :
    rs Nw ew x * (d k - (x k * rs Nw ew x) * Ideal.div (∑ j : Fin 1024, d j * (x j * rs Nw ew x)) Nw) = back x d k := by
  obtain ⟨e, he, hew⟩ := eps_val
  have h := Norm.gradient (n := 1024) (N := 1024) (e := e) (by norm_num) he x d k
  rw [← hew, ← width_val, ← half_neg] at h
  exact h

/-- The gradient of the branch's output: the residual's gradient gated, then back through the norm. -/
abbrev dyOf {a : ℕ} (D y : Mat a) (gp gate : Row) (i : Fin a) (k : Fin 1024) : EReal := back (row y i) (grow D gp gate i) k

/-- The gradient of a row depends on that row alone. -/
theorem dyOf_congr {a b : ℕ} {D y : Mat a} {D' y' : Mat b} {gp gate gp' gate' : Row} {i : Fin a} {r : Fin b} {k k' : Fin 1024} (hD : ∀ q, D (ix2 i q) = D' (ix2 r q))
    (hy : ∀ q, y (ix2 i q) = y' (ix2 r q)) (hp : ∀ q, gp (ix2 0 q) = gp' (ix2 0 q)) (hg : ∀ q, gate (ix2 0 q) = gate' (ix2 0 q)) (hk : k = k') :
    dyOf D y gp gate i k = dyOf D' y' gp' gate' r k' := by
  subst hk
  unfold dyOf grow row
  simp only [hD, hy, hp, hg]

theorem two_idx {a b : ℕ} (j : (⟨2, ![a, b]⟩ : Shape).Idx) : ∃ (i : Fin a) (k : Fin b), j = ix2 i k := ⟨j 0, j 1, by blk_ext!⟩

end Cert.Norm
-- ==== Proof.GateBwdFin.lean ====
/-
  The gradient through the recurrence's output norm and gate: each grid point takes 512 rows, goes back through each head's
  128 lanes, and adds the head's part of the norm's weight gradient to the row the points accumulate.
-/
module

public import proofs.«01_k».proof.Proof.Gen.GateBwdIdeal.Frame
public import proofs.«01_k».proof.Proof.Gen.GateBwdRefIdeal.Read
public import proofs.«01_k».proof.Proof.Norm
public import proofs.«01_k».proof.Proof.ConvRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateBwdFin
open Cert.GateBwdIdeal Cert.GateBwdIdeal.Gen Cert.GateBwdRefIdeal.Read Cert.Norm Cert.Conv

variable (m : (ℓ : Loc nD τ sig) → Buf (Elt Ideal) ℓ)

/-- The number of a head's lanes, and a head. -/
abbrev Nh : EReal := Ideal.ofBits .f32 0x43000000#32
abbrev Head : Type := Fin 128 → EReal

theorem lanes_val : Nh = ((128 : ℝ) : EReal) := by
  simp [Nh, Ideal.ofBits, Ideal.ieee, -EReal.coe_mul]; norm_num

/-- The gradient that reaches the normed head, and that times the norm's weight. -/
abbrev don (d p : Head) : Head := fun l => d l * (p l * gate (p l))
abbrev dn (d p g : Head) : Head := fun l => don d p l * g l

/-- One lane of the gradient of the head. -/
abbrev doEl (x d p g : Head) (q : Fin 128) : EReal :=
  (dn d p g q * rs Nh ew x + x q * Norm.slope Nh ew hw x (dn d p g)) + Norm.slope Nh ew hw x (dn d p g) * x q

/-- One lane of the gradient of the gate's argument. -/
abbrev dgpEl (x d p g : Head) (q : Fin 128) : EReal :=
  d q * ((x q * rs Nh ew x) * g q) * (gate (p q) + p q * (gate (p q) * (1 - gate (p q))))

/-- One head's part of the gradient of the norm's weight. -/
abbrev dgnEl (x d p : Head) (q : Fin 128) : EReal := (x q * rs Nh ew x) * don d p q

/-- A row's head, in a matrix of rows and in the projection, whose last 1024 columns are the gate's. -/
abbrev head {a : ℕ} (x : Mat a) (i : Fin a) (h : Fin 8) : Head := fun l => x (ix2 i (⟨h.val * 128 + l.val, by omega⟩ : Fin 1024))
abbrev headP (x : FVec Ideal S8192x4096 .f32) (i : Fin 8192) (h : Fin 8) : Head := fun l => x (ix2 i (⟨3072 + (h.val * 128 + l.val), by omega⟩ : Fin 4096))
/-- A column's head and its place there. -/
abbrev hd (k : Fin 1024) : Fin 8 := ⟨k.val / 128, by omega⟩
abbrev lane (k : Fin 1024) : Fin 128 := ⟨k.val % 128, Nat.mod_lt _ (by decide)⟩
/-- The norm's weight, and a tile's row. -/
abbrev wt (g : FVec Ideal S1x128 .f32) : Head := fun l => g (ix2 0 l)
abbrev tr (x : FVec Ideal S512x128 .f32) (i : Fin 512) : Head := fun l => x (ix2 i l)

/-! ## The reference -/

theorem do_ref (d o : FVec Ideal S8192x1024 .f32) (p : FVec Ideal S8192x4096 .f32) (g : FVec Ideal S1x128 .f32) (j : S8192x1024.Idx) :
    val_main_v40 (F := Ideal) d o p g j
      = doEl (head o (j 0) (hd (j 1))) (head d (j 0) (hd (j 1))) (headP p (j 0) (hd (j 1))) (wt g) (lane (j 1)) := by
  obtain ⟨i, k, rfl⟩ := two_idx j
  unfold doEl Norm.slope rs dn don head headP wt hd lane
  simp only [← Conv.Ref.sigmoid_gate]
  simp only [val_main_v0_apply, val_main_call0_v0_apply, val_main_call0_v1_apply, val_main_call0_cst_apply, val_main_call0_v2_apply, val_main_call0_v3_apply, val_main_call0_cst_0_apply, val_main_call0_v4_apply, val_main_v1_2_apply, val_main_v1_0_apply, val_main_v2_apply, val_main_v3_apply, val_main_cst_apply, val_main_v4_apply, val_main_v5_apply, val_main_cst_0_apply, val_main_v6_apply, val_main_v7_apply, val_main_cst_1_apply, val_main_v8_apply, val_main_v9_apply, val_main_v10_apply, val_main_v11_apply, val_main_cst_2_apply, val_main_v12_apply, val_main_v13_apply, val_main_v19_apply, val_main_v20_apply, val_main_v24_apply, val_main_v25_apply, val_main_v26_apply, val_main_cst_4_apply, val_main_v27_apply, val_main_v28_apply, val_main_v29_apply, val_main_v30_apply, val_main_v31_apply, val_main_cst_5_apply, val_main_v32_apply, val_main_v33_apply, val_main_cst_6_apply, val_main_v34_apply, val_main_v35_apply, val_main_v36_apply, val_main_v37_apply, val_main_v38_apply, val_main_v39_apply, val_main_v40_apply]
  pointwise
  simp only [Finset.univ_unique, Finset.sum_singleton]
  blk_point []

theorem dgp_ref (d o : FVec Ideal S8192x1024 .f32) (p : FVec Ideal S8192x4096 .f32) (g : FVec Ideal S1x128 .f32) (j : S8192x1024.Idx) :
    val_main_v45 (F := Ideal) d o p g j
      = dgpEl (head o (j 0) (hd (j 1))) (head d (j 0) (hd (j 1))) (headP p (j 0) (hd (j 1))) (wt g) (lane (j 1)) := by
  obtain ⟨i, k, rfl⟩ := two_idx j
  unfold dgpEl rs head headP wt hd lane
  simp only [← Conv.Ref.sigmoid_gate]
  simp only [val_main_v0_apply, val_main_call0_v0_apply, val_main_call0_v1_apply, val_main_call0_cst_apply, val_main_call0_v2_apply, val_main_call0_v3_apply, val_main_call0_cst_0_apply, val_main_call0_v4_apply, val_main_v1_2_apply, val_main_call0_cst_1_apply, val_main_call0_v6_apply, val_main_call0_v7_apply, val_main_v1_1_apply, val_main_v2_apply, val_main_v3_apply, val_main_cst_apply, val_main_v4_apply, val_main_v5_apply, val_main_cst_0_apply, val_main_v6_apply, val_main_v7_apply, val_main_cst_1_apply, val_main_v8_apply, val_main_v9_apply, val_main_v10_apply, val_main_v14_apply, val_main_v15_apply, val_main_v16_apply, val_main_v17_apply, val_main_v18_apply, val_main_v41_apply, val_main_cst_7_apply, val_main_v42_apply, val_main_call1_v0_apply, val_main_call1_v1_apply, val_main_call1_v2_apply, val_main_v43_apply, val_main_v44_apply, val_main_v45_apply]
  pointwise
  try simp only [one_mul, mul_one]
  blk_point []

theorem dgn_ref (d o : FVec Ideal S8192x1024 .f32) (p : FVec Ideal S8192x4096 .f32) (j : S1x128.Idx) :
    val_main_v23 (F := Ideal) d o p j = ∑ i : Fin 8192, ∑ h : Fin 8, dgnEl (head o i h) (head d i h) (headP p i h) (j 1) := by
  obtain ⟨z, k, rfl⟩ := two_idx j
  unfold dgnEl don rs head headP
  simp only [← Conv.Ref.sigmoid_gate]
  simp only [val_main_v0_apply, val_main_call0_v0_apply, val_main_call0_v1_apply, val_main_call0_cst_apply, val_main_call0_v2_apply, val_main_call0_v3_apply, val_main_call0_cst_0_apply, val_main_call0_v4_apply, val_main_v1_2_apply, val_main_v1_0_apply, val_main_v2_apply, val_main_v3_apply, val_main_cst_apply, val_main_v4_apply, val_main_v5_apply, val_main_cst_0_apply, val_main_v6_apply, val_main_v7_apply, val_main_cst_1_apply, val_main_v8_apply, val_main_v9_apply, val_main_v10_apply, val_main_v14_apply, val_main_v15_apply, val_main_v19_apply, val_main_v20_apply, val_main_v21_apply, val_main_cst_3_apply, val_main_v22_apply, val_main_v23_apply]
  pointwise
  symm
  refine Fin.sum_mul_add_congr fun i h hl => ?_
  blk_point []

/-! ## A tile -/

theorem gate_real (x : EReal) : ∃ r : ℝ, 0 ≤ r ∧ gate x = r := by
  rw [← Conv.Ref.logistic_gate]
  induction x using EReal.rec with
  | bot => exact ⟨0, le_refl _, Ideal.logistic_bot⟩
  | top => exact ⟨1, zero_le_one, Ideal.logistic_top⟩
  | coe r => exact ⟨_, by positivity, Ideal.logistic_coe r⟩

/-- The gate's derivative, two ways. -/
theorem slope_gate (x : EReal) : gate x * (1 + x * (1 - gate x)) = gate x + x * (gate x * (1 - gate x)) := by
  obtain ⟨r, hr, e⟩ := gate_real x
  rw [e, EReal.left_distrib_of_nonneg_of_ne_top (EReal.coe_nonneg.mpr hr) (EReal.coe_ne_top r), mul_one]
  congr 1
  ac_rfl

theorem do_ker (g : FVec Ideal S1x128 .f32) (o p d : FVec Ideal S512x128 .f32) (x : S512x128.Idx) :
    k0_pay9 (F := Ideal) g p d (k0_pay4 o) (k0_pay5 o) (FloatOps.ofBits FTy.f32 1056964608#32) x = doEl (tr o (x 0)) (tr d (x 0)) (tr p (x 0)) (wt g) (x 1) := by
  obtain ⟨i, k, rfl⟩ := two_idx x
  obtain ⟨e, he, hew⟩ := eps_val
  have h := Norm.gradient (n := 128) (N := 128) (e := e) (by norm_num) he (tr o i) (dn (tr d i) (tr p i) (wt g)) k
  rw [← hew, ← lanes_val, ← half_neg] at h
  refine Eq.trans ?_ h
  unfold rs dn don gate
  pointwise [k0_pay9, k0_pay7, k0_pay5, k0_pay4]
  try rfl

theorem dgp_ker (g : FVec Ideal S1x128 .f32) (o p d : FVec Ideal S512x128 .f32) (x : S512x128.Idx) :
    k0_pay6 (F := Ideal) g o p d x = dgpEl (tr o (x 0)) (tr d (x 0)) (tr p (x 0)) (wt g) (x 1) := by
  obtain ⟨i, k, rfl⟩ := two_idx x
  unfold dgpEl
  rw [← slope_gate]
  unfold rs gate
  pointwise [k0_pay6, k0_pay5, k0_pay4]
  try rfl

theorem dgn_ker (acc : FVec Ideal S1x128 .f32) (o p d : FVec Ideal S512x128 .f32) (x : S1x128.Idx) :
    k0_pay8 (F := Ideal) p d (k0_pay5 o) (FloatOps.ofBits FTy.f32 1056964608#32) acc x = acc x + ∑ i : Fin 512, dgnEl (tr o i) (tr d i) (tr p i) (x 1) := by
  obtain ⟨z, k, rfl⟩ := two_idx x
  unfold dgnEl don rs gate
  pointwise [k0_pay8, k0_pay7, k0_pay5, k0_pay4]
  refine congrArg _ (Finset.sum_congr rfl fun i _ => mul_comm _ _)

section
variable (g acc : FVec Ideal S1x128 .f32) (o p d : FVec Ideal S512x128 .f32)
/-- The other tiles' values are the first's. -/
theorem do_1 : k0_pay19 (F := Ideal) (k0_pay12 (k0_pay10 o) k0_pay11) (k0_pay13 o (k0_pay10 o) k0_pay11) (k0_pay17 g p d) (k0_pay18 g o p d (k0_pay10 o) k0_pay11) = k0_pay9 g p d (k0_pay4 o) (k0_pay5 o) (FloatOps.ofBits FTy.f32 1056964608#32) := rfl
theorem gp_1 : k0_pay14 (F := Ideal) g o p d (k0_pay10 o) k0_pay11 = k0_pay6 g o p d := rfl
theorem gn_1 : k0_pay16 (F := Ideal) o p d (k0_pay10 o) k0_pay11 acc = k0_pay8 p d (k0_pay5 o) (FloatOps.ofBits FTy.f32 1056964608#32) acc := rfl
theorem do_2 : k0_pay25 (F := Ideal) g p d (k0_pay20 o) (k0_pay21 o) = k0_pay9 g p d (k0_pay4 o) (k0_pay5 o) (FloatOps.ofBits FTy.f32 1056964608#32) := rfl
theorem gp_2 : k0_pay22 (F := Ideal) g o p d = k0_pay6 g o p d := rfl
theorem gn_2 : k0_pay24 (F := Ideal) p d (k0_pay21 o) acc = k0_pay8 p d (k0_pay5 o) (FloatOps.ofBits FTy.f32 1056964608#32) acc := rfl
theorem do_3 : k0_pay32 (F := Ideal) g (k0_pay27 (k0_pay26 o) (FloatOps.ofBits FTy.f32 1124073472#32)) (k0_pay28 o (k0_pay26 o) (FloatOps.ofBits FTy.f32 1124073472#32)) (k0_pay30 p d) = k0_pay9 g p d (k0_pay4 o) (k0_pay5 o) (FloatOps.ofBits FTy.f32 1056964608#32) := rfl
theorem gp_3 : k0_pay29 (F := Ideal) g o p d (k0_pay26 o) (FloatOps.ofBits FTy.f32 1124073472#32) = k0_pay6 g o p d := rfl
theorem gn_3 : k0_pay31 (F := Ideal) o p d (k0_pay26 o) (FloatOps.ofBits FTy.f32 1124073472#32) acc = k0_pay8 p d (k0_pay5 o) (FloatOps.ofBits FTy.f32 1056964608#32) acc := rfl
theorem do_4 : k0_pay41 (F := Ideal) g p d (k0_pay33 o) (k0_pay34 o) = k0_pay9 g p d (k0_pay4 o) (k0_pay5 o) (FloatOps.ofBits FTy.f32 1056964608#32) := rfl
theorem gp_4 : k0_pay38 (F := Ideal) (k0_pay35 g o d) (k0_pay36 p) (k0_pay37 p) = k0_pay6 g o p d := rfl
theorem gn_4 : k0_pay40 (F := Ideal) p d (k0_pay34 o) acc = k0_pay8 p d (k0_pay5 o) (FloatOps.ofBits FTy.f32 1056964608#32) acc := rfl
theorem do_5 : k0_pay48 (F := Ideal) g (k0_pay43 (k0_pay42 o)) (k0_pay44 o (k0_pay42 o)) (k0_pay46 p d) = k0_pay9 g p d (k0_pay4 o) (k0_pay5 o) (FloatOps.ofBits FTy.f32 1056964608#32) := rfl
theorem gp_5 : k0_pay45 (F := Ideal) g o p d (k0_pay42 o) = k0_pay6 g o p d := rfl
theorem gn_5 : k0_pay47 (F := Ideal) o p d (k0_pay42 o) acc = k0_pay8 p d (k0_pay5 o) (FloatOps.ofBits FTy.f32 1056964608#32) acc := rfl
theorem do_6 : k0_pay57 (F := Ideal) g p d (k0_pay49 o) (k0_pay50 o) = k0_pay9 g p d (k0_pay4 o) (k0_pay5 o) (FloatOps.ofBits FTy.f32 1056964608#32) := rfl
theorem gp_6 : k0_pay54 (F := Ideal) p (k0_pay51 g o d) (k0_pay52 p) (k0_pay53 p) = k0_pay6 g o p d := rfl
theorem gn_6 : k0_pay56 (F := Ideal) p d (k0_pay50 o) acc = k0_pay8 p d (k0_pay5 o) (FloatOps.ofBits FTy.f32 1056964608#32) acc := rfl
theorem do_7 : k0_pay2 (F := Ideal) g (k0_pay58 o) (k0_pay59 o) (k0_pay61 p d) = k0_pay9 g p d (k0_pay4 o) (k0_pay5 o) (FloatOps.ofBits FTy.f32 1056964608#32) := rfl
theorem gp_7 : k0_pay60 (F := Ideal) g o p d = k0_pay6 g o p d := rfl
theorem gn_7 : k0_pay1 (F := Ideal) (k0_pay62 acc) (k0_pay63 o p d) = k0_pay8 p d (k0_pay5 o) (FloatOps.ofBits FTy.f32 1056964608#32) acc := rfl
end

/-! ## A grid point -/

/-- Where each grid point's blocks lie. -/
theorem idx : ∀ t : Fin cfg0.N, win0_0.index t = ![t.val, 0] ∧ win0_1.index t = ![t.val, 0] ∧ win0_2.index t = ![t.val, 3] ∧ win0_3.index t = ![0, 0]
    ∧ win0_4.index t = ![t.val, 0] ∧ win0_5.index t = ![t.val, 0] ∧ win0_6.index t = ![0, 0] :=
  (by decide +kernel : ∀ t : Fin grid0.N, _)

theorem do_congr {x x' d d' p p' g g' : Head} {q q' : Fin 128} (hx : ∀ l, x l = x' l) (hd : ∀ l, d l = d' l) (hp : ∀ l, p l = p' l) (hg : ∀ l, g l = g' l) (hq : q = q') :
    doEl x d p g q = doEl x' d' p' g' q' ∧ dgpEl x d p g q = dgpEl x' d' p' g' q' ∧ dgnEl x d p q = dgnEl x' d' p' q' := by
  obtain rfl : x = x' := funext hx
  obtain rfl : d = d' := funext hd
  obtain rfl : p = p' := funext hp
  obtain rfl : g = g' := funext hg
  subst hq
  exact ⟨rfl, rfl, rfl⟩

set_option maxHeartbeats 4000000 in
theorem point_do (c : Dev nD) (t : Fin cfg0.N) (y : S512x1024.Idx) :
    (outsAt0 m c t.val t.isLt).1 y = doEl (head (iblk m c 1 t) (y 0) (hd (y 1))) (head (iblk m c 0 t) (y 0) (hd (y 1))) (head (iblk m c 2 t) (y 0) (hd (y 1))) (wt (iblk m c 3 t)) (lane (y 1)) := by
  by_cases h : t.val % 16 = 0
  on_goal 1 => rw [outsAt0_A m c t h]
  on_goal 2 => rw [outsAt0_B m c t h]
  all_goals
    frame_out; simp only [do_1, do_2, do_3, do_4, do_5, do_6, do_7]
    canon_tiles x h
    all_goals
      refine (do_ker _ _ _ _ x).trans (do_congr (fun l => ?_) (fun l => ?_) (fun l => ?_) (fun l => ?_) (Fin.ext (show (x 1).val = (y 1).val % 128 by omega))).1
      all_goals first
        | rfl
        | (unfold tr head hd; pointwise; blk_ext)

set_option maxHeartbeats 4000000 in
theorem point_dgp (c : Dev nD) (t : Fin cfg0.N) (y : S512x1024.Idx) :
    (outsAt0 m c t.val t.isLt).2.1 y = dgpEl (head (iblk m c 1 t) (y 0) (hd (y 1))) (head (iblk m c 0 t) (y 0) (hd (y 1))) (head (iblk m c 2 t) (y 0) (hd (y 1))) (wt (iblk m c 3 t)) (lane (y 1)) := by
  by_cases h : t.val % 16 = 0
  on_goal 1 => rw [outsAt0_A m c t h]
  on_goal 2 => rw [outsAt0_B m c t h]
  all_goals
    frame_out; simp only [gp_1, gp_2, gp_3, gp_4, gp_5, gp_6, gp_7]
    canon_tiles x h
    all_goals
      refine (dgp_ker _ _ _ _ x).trans (do_congr (fun l => ?_) (fun l => ?_) (fun l => ?_) (fun l => ?_) (Fin.ext (show (x 1).val = (y 1).val % 128 by omega))).2.1
      all_goals first
        | rfl
        | (unfold tr head hd; pointwise; blk_ext)

/-- What a grid point adds to the norm's weight gradient. -/
abbrev part (o d p : Mat 512) (q : Fin 128) : EReal := ∑ i : Fin 512, ∑ h : Fin 8, dgnEl (head o i h) (head d i h) (head p i h) q

/-- The eight tiles' sums in turn are that. -/
theorem part_eq (o d p : Mat 512) (q : Fin 128) (a : EReal) (s : Fin 8 → EReal)
    (hs : ∀ h, s h = ∑ i : Fin 512, dgnEl (head o i h) (head d i h) (head p i h) q) :
    a + s 0 + s 1 + s 2 + s 3 + s 4 + s 5 + s 6 + s 7 = a + part o d p q := by
  unfold part
  rw [Finset.sum_comm, ← Finset.sum_congr rfl fun h _ => hs h, Fin.sum_univ_eight]
  simp only [add_assoc]

theorem final_do (c : Dev nD) : (dats m 0 c).arrAt 4 (cfgs 0).N
    = val_main_v40 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, point_do m c t, do_ref]
  have e1 : (((View.whole main_v0_0).slice (win0_4.rect t)).emb y 1).val = (y 1).val := by symm; blk_simp [idx t]
  refine (do_congr (fun l => ?_) (fun l => ?_) (fun l => ?_) (fun l => ?_) (Fin.ext (congrArg (· % 128) e1.symm))).1
  · unfold head hd; blk_point [iblk, V, idx t]
  · unfold head hd; blk_point [iblk, V, idx t]
  · unfold head headP hd; blk_point [iblk, V, idx t]
  · unfold wt; blk_point [iblk, V, idx t]

theorem final_dgp (c : Dev nD) : (dats m 0 c).arrAt 5 (cfgs 0).N
    = val_main_v45 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, point_dgp m c t, dgp_ref]
  have e1 : (((View.whole main_v0_1).slice (win0_5.rect t)).emb y 1).val = (y 1).val := by symm; blk_simp [idx t]
  refine (do_congr (fun l => ?_) (fun l => ?_) (fun l => ?_) (fun l => ?_) (Fin.ext (congrArg (· % 128) e1.symm))).2.1
  · unfold head hd; blk_point [iblk, V, idx t]
  · unfold head hd; blk_point [iblk, V, idx t]
  · unfold head headP hd; blk_point [iblk, V, idx t]
  · unfold wt; blk_point [iblk, V, idx t]

theorem zero (j) : k0_pay3 (F := Ideal) j = 0 := by pointwise [k0_pay3]

theorem step_A (c : Dev nD) (t : Fin cfg0.N) (h : t.val % 16 = 0) (j : S1x128.Idx) :
    (outsAt0 m c t.val t.isLt).2.2 j = 0 + part (iblk m c 1 t) (iblk m c 0 t) (iblk m c 2 t) (j 1) := by
  rw [outsAt0_A m c t h]
  frame_out
  simp only [gn_1, gn_2, gn_3, gn_4, gn_5, gn_6, gn_7, dgn_ker, zero]
  refine Eq.trans ?_ (part_eq (iblk m c 1 t) (iblk m c 0 t) (iblk m c 2 t) (j 1) 0 (fun h => ∑ i : Fin 512, dgnEl (head (iblk m c 1 t) i h) (head (iblk m c 0 t) i h) (head (iblk m c 2 t) i h) (j 1)) (fun h => rfl))
  unfold dgnEl don rs tr head
  pointwise

theorem step_B (c : Dev nD) (t : Fin cfg0.N) (h : ¬t.val % 16 = 0) (j : S1x128.Idx) :
    (outsAt0 m c t.val t.isLt).2.2 j = (outsAt0 m c (t.val - 1) (Nat.lt_of_le_of_lt (Nat.sub_le _ _) t.isLt)).2.2 j + part (iblk m c 1 t) (iblk m c 0 t) (iblk m c 2 t) (j 1) := by
  rw [outsAt0_B m c t h]
  frame_out
  simp only [gn_1, gn_2, gn_3, gn_4, gn_5, gn_6, gn_7, dgn_ker]
  refine Eq.trans ?_ (part_eq (iblk m c 1 t) (iblk m c 0 t) (iblk m c 2 t) (j 1) _ (fun h => ∑ i : Fin 512, dgnEl (head (iblk m c 1 t) i h) (head (iblk m c 0 t) i h) (head (iblk m c 2 t) i h) (j 1)) (fun h => rfl))
  unfold dgnEl don rs tr head
  pointwise

theorem final_dgn (c : Dev nD) : (dats m 0 c).arrAt 6 (cfgs 0).N
    = val_main_v23 (F := Ideal) (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2.2) 16 (fun _ => 0) _
    (fun t h j => step_A m c t h j) (fun t h j => step_B m c t h j)
    t ((flush0_6 t).mp hf) _, zero_add, dgn_ref]
  unfold part
  refine Fin.sum_mul_add_congr fun s k hl => Fin.sum_fin_congr fun h => ?_
  have e1 : (((View.whole main_v0_2).slice (win0_6.rect t)).emb y 1).val = (y 1).val := by symm; blk_simp [idx t]
  refine (do_congr (g := fun _ => 0) (g' := fun _ => 0) (fun l => ?_) (fun l => ?_) (fun l => ?_) (fun l => rfl) (Fin.ext e1.symm)).2.2
  all_goals unfold head
  all_goals (try unfold headP)
  all_goals blk_point [iblk, V, idx t, idx ⟨_, Pipeline.run_point_lt_of_flush t ((flush0_6 t).mp hf) s⟩]

end Cert.GateBwdFin
-- ==== Proof.GateFin.lean ====
/-
  The recurrence's output norm and gate: each grid point takes 512 rows, norms each head's 128 lanes by their root mean
  square, and multiplies by the gate's rows through the gate function.
-/
module

public import proofs.«01_k».proof.Proof.Gen.GateIdeal.Frame
public import proofs.«01_k».proof.Proof.Gen.GateRefIdeal.Read
public import proofs.«01_k».proof.Proof.Norm
public import proofs.«01_k».proof.Proof.ConvRef
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.GateFin
open Cert.GateIdeal Cert.GateIdeal.Gen Cert.GateRefIdeal.Read Cert.Norm Cert.Conv

variable (m : (ℓ : Loc nD τ sig) → Buf (Elt Ideal) ℓ)

/-- The number of a head's lanes. -/
abbrev Nh : EReal := Ideal.ofBits .f32 0x43000000#32

/-- One lane of a gated head. -/
abbrev gateEl (xs : Fin 128 → EReal) (q : Fin 128) (g p : EReal) : EReal := ((xs q * rs Nh ew xs) * g) * (p * gate p)

/-- The head's lanes. -/
abbrev lanes {a : ℕ} (x : Mat a) (i : Fin a) (k : Fin 1024) : Fin 128 → EReal := fun l => x (ix2 i (⟨k.val / 128 * 128 + l.val, by omega⟩ : Fin 1024))
/-- A lane's place in its head. -/
abbrev lane (k : Fin 1024) : Fin 128 := ⟨k.val % 128, Nat.mod_lt _ (by decide)⟩

/-- The gate's column. -/
abbrev col (k : Fin 1024) : Fin 4096 := ⟨3072 + k.val, by omega⟩

theorem gate_ref (o : FVec Ideal S8192x1024 .f32) (p : FVec Ideal S8192x4096 .f32) (g : FVec Ideal S1x128 .f32) (j : S8192x1024.Idx) :
    val_main_v18 (F := Ideal) o p g j
      = gateEl (lanes o (j 0) (j 1)) (lane (j 1)) (g (ix2 0 (lane (j 1)))) (p (ix2 (j 0) (col (j 1)))) := by
  obtain ⟨i, k, rfl⟩ := two_idx j
  unfold gateEl
  rw [← Conv.Ref.sigmoid_gate]
  simp only [val_main_v0_apply, val_main_v1_apply, val_main_v2_apply, val_main_v3_apply, val_main_cst_apply, val_main_v4_apply, val_main_v5_apply, val_main_cst_0_apply, val_main_v6_apply, val_main_v7_apply, val_main_cst_1_apply, val_main_v8_apply, val_main_v9_apply, val_main_v10_apply, val_main_v11_apply, val_main_v12_apply, val_main_v13_apply, val_main_v14_apply, val_main_v15_apply, val_main_call0_v0_apply, val_main_call0_v1_apply, val_main_call0_cst_apply, val_main_call0_v2_apply, val_main_call0_v3_apply, val_main_call0_cst_0_apply, val_main_call0_v4_apply, val_main_call0_v5_apply, val_main_v16_apply, val_main_v17_apply, val_main_v18_apply]
  unfold rs lanes
  pointwise
  blk_point []

theorem gate_ker (g : FVec Ideal S1x128 .f32) (o p : FVec Ideal S512x128 .f32) (x : S512x128.Idx) :
    k0_pay2 (F := Ideal) g o p x = gateEl (fun l => o (ix2 (x 0) l)) (x 1) (g (ix2 0 (x 1))) (p x) := by
  unfold gateEl rs gate
  pointwise [k0_pay2]
  try rfl

/-- Where each grid point's blocks lie. -/
theorem idx : ∀ t : Fin cfg0.N, win0_0.index t = ![t.val, 0] ∧ win0_1.index t = ![t.val, 3] ∧ win0_2.index t = ![0, 0] ∧ win0_3.index t = ![t.val, 0] :=
  (by decide +kernel : ∀ t : Fin grid0.N, _)

theorem gate_congr {xs ys : Fin 128 → EReal} {q r : Fin 128} {g g' p p' : EReal} (hx : ∀ l, xs l = ys l) (hq : q = r) (hg : g = g') (hp : p = p') :
    gateEl xs q g p = gateEl ys r g' p' := by
  subst hq hg hp
  rw [show xs = ys from funext hx]

theorem point (o p : FVec Ideal S512x1024 .f32) (g : FVec Ideal S1x128 .f32) (y : S512x1024.Idx) :
    out0_3 (F := Ideal) o p g y = gateEl (lanes o (y 0) (y 1)) (lane (y 1)) (g (ix2 0 (lane (y 1)))) (p y) := by
  canon_tiles x h
  all_goals
    refine (gate_ker _ _ _ x).trans (gate_congr (fun l => ?_) (Fin.ext (show (x 1).val = (y 1).val % 128 by omega)) ?_ ?_)
    · unfold lanes; pointwise; blk_ext
    · unfold lane; pointwise; blk_ext
    · pointwise; blk_ext

theorem final (c : Dev nD) : (dats m 0 c).arrAt 3 (cfgs 0).N
    = val_main_v18 (F := Ideal) (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, point, gate_ref]
  have e1 : (((View.whole main_v0).slice (win0_3.rect t)).emb y 1).val = (y 1).val := by symm; blk_simp [idx t]
  refine gate_congr (fun l => ?_) (Fin.ext (congrArg (· % 128) e1.symm)) ?_ ?_
  · unfold lanes
    blk_point [iblk, V, idx t]
  · unfold lane
    blk_point [iblk, V, idx t]
  · unfold col
    blk_point [iblk, V, idx t]

end Cert.GateFin
-- ==== Proof.Joined.lean ====
/-
  Four arrays of columns joined into one, as the recurrence's first product joins its three stacked gradients and the gate's.
-/
module

public import Idealize.ShloMosaic.Lib.Pipeline.ValueKit

@[expose] public section

noncomputable section

open Idealize.ShloMosaic Idealize.ShloMosaic.TcCoe

namespace Cert.Joined

/-- Column `k` of the joined array's part `q`: of the three stacked arrays, then of the last. -/
def joined (D3 : FVec Ideal ⟨3, ![3, 8192, 1024]⟩ .bf16) (G : FVec Ideal ⟨2, ![8192, 1024]⟩ .bf16) (r : Fin 8192) (q : ℕ) (k : Fin 1024) : EReal :=
  if h : q < 3 then D3 (ix3 (⟨q, h⟩ : Fin 3) r k) else G (ix2 r k)

/-- Reading the parts one after another is reading the joined array. -/
theorem joined_eq (D3 : FVec Ideal ⟨3, ![3, 8192, 1024]⟩ .bf16) (G : FVec Ideal ⟨2, ![8192, 1024]⟩ .bf16) (r : Fin 8192) (n : ℕ) (hn : n < 4096) :
    (if h : n < 1024 then D3 (ix3 (0 : Fin 3) r ⟨n, h⟩) else if h : n - 1024 < 1024 then D3 (ix3 (1 : Fin 3) r ⟨n - 1024, h⟩)
      else if h : n - 1024 - 1024 < 1024 then D3 (ix3 (2 : Fin 3) r ⟨n - 1024 - 1024, h⟩) else G (ix2 r (⟨n - 1024 - 1024 - 1024, by omega⟩ : Fin 1024)))
      = joined D3 G r (n / 1024) ⟨n % 1024, Nat.mod_lt _ (by decide)⟩ := by
  obtain ⟨q, k, hk, rfl⟩ : ∃ q k, k < 1024 ∧ n = q * 1024 + k := ⟨n / 1024, n % 1024, Nat.mod_lt _ (by decide), by omega⟩
  have hq : (q * 1024 + k) / 1024 = q := by omega
  have hr : (q * 1024 + k) % 1024 = k := by omega
  have h4 : q < 4 := by omega
  unfold joined
  simp only [hq, hr]
  obtain rfl | rfl | rfl | rfl : q = 0 ∨ q = 1 ∨ q = 2 ∨ q = 3 := by omega
  · rw [dif_pos (by omega), dif_pos (by omega)]; exact congrArg (fun k => D3 (ix3 (0 : Fin 3) r k)) (Fin.ext (by simp))
  · rw [dif_neg (by omega), dif_pos (by omega), dif_pos (by omega)]; exact congrArg (fun k => D3 (ix3 (1 : Fin 3) r k)) (Fin.ext (show 1 * 1024 + k - 1024 = k by omega))
  · rw [dif_neg (by omega), dif_neg (by omega), dif_pos (by omega), dif_pos (by omega)]; exact congrArg (fun k => D3 (ix3 (2 : Fin 3) r k)) (Fin.ext (show 2 * 1024 + k - 1024 - 1024 = k by omega))
  · rw [dif_neg (by omega), dif_neg (by omega), dif_neg (by omega), dif_neg (by omega)]; exact congrArg (fun k => G (ix2 r k)) (Fin.ext (show 3 * 1024 + k - 1024 - 1024 - 1024 = k by omega))

end Cert.Joined
-- ==== Proof.HgrnInDwFin.lean ====
/-
  The recurrence's first product, the gradient of its weights: each block of columns, of a stacked gradient or of the gate's,
  adds eight blocks of tokens, one grid point after another, into its output.
-/
module

public import proofs.«01_k».proof.Proof.Gen.HgrnInDwIdeal.Frame
public import proofs.«01_k».proof.Proof.Gen.HgrnInDwRefIdeal.Read
public import proofs.«01_k».proof.Proof.Halves
public import proofs.«01_k».proof.Proof.Joined
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HgrnInDwFin
open Cert.HgrnInDwIdeal Cert.HgrnInDwIdeal.Gen Cert.Halves Cert.Joined

variable (m : (ℓ : Loc nD τ sig) → Buf (Elt Ideal) ℓ)

/-- The reference's gradient, of the kernel's arguments. -/
abbrev gradient (H : FVec Ideal S8192x1024 .bf16) (D3 : FVec Ideal S3x8192x1024 .bf16) (G : FVec Ideal S8192x1024 .bf16) : FVec Ideal S2x4x512x1024 .f32 :=
  Cert.HgrnInDwRefIdeal.Read.val_main_v17 (F := Ideal) H D3 G

/-- The reference's concatenation, read at an index. -/
theorem joined_apply (D3 : FVec Ideal S3x8192x1024 .bf16) (G : FVec Ideal S8192x1024 .bf16) (y : Cert.HgrnInDwRefIdeal.S8192x4096.Idx) :
    Cert.HgrnInDwRefIdeal.Read.val_main_v10 (F := Ideal) D3 G y = joined D3 G (y 0) ((y 1).val / 1024) (⟨(y 1).val % 1024, Nat.mod_lt _ (by decide)⟩ : Fin 1024) := by
  unfold Cert.HgrnInDwRefIdeal.Read.val_main_v10
  pointwise [Cert.HgrnInDwRefIdeal.Read.val_main_v9_apply, Cert.HgrnInDwRefIdeal.Read.val_main_v8_apply, Cert.HgrnInDwRefIdeal.Read.val_main_v7_apply, Cert.HgrnInDwRefIdeal.Read.val_main_v6_apply, Cert.HgrnInDwRefIdeal.Read.val_main_v5_apply, Cert.HgrnInDwRefIdeal.Read.val_main_v4_apply, Cert.HgrnInDwRefIdeal.Read.val_main_v3_apply, Cert.HgrnInDwRefIdeal.Read.val_main_v2_apply, Cert.HgrnInDwRefIdeal.Read.val_main_v1_apply, Cert.HgrnInDwRefIdeal.Read.val_main_v0_apply]
  have h0 : (y 0).val < 8192 := (y 0).isLt
  have h1 : (y 1).val < 4096 := (y 1).isLt
  refine Eq.trans ?_ (joined_eq D3 G (y 0) (y 1).val h1)
  refine dite_congr rfl (fun h => congrArg D3 ?_) fun _ => dite_congr rfl (fun h => congrArg D3 ?_) fun _ => dite_congr rfl (fun h => congrArg D3 ?_) fun _ => rfl
  all_goals blk_ext!

theorem row_lt (p r : ℕ) (hp : p < 2) (hr : r < 512) : p * 512 + r < 1024 := by omega

/-- The gradient at an index: one contraction over all the tokens. -/
theorem gradient_apply (H : FVec Ideal S8192x1024 .bf16) (D3 : FVec Ideal S3x8192x1024 .bf16) (G : FVec Ideal S8192x1024 .bf16) (y : S2x4x512x1024.Idx) :
    gradient H D3 G y = ∑ l : Fin 8192, H (ix2 l (⟨(y 0).val * 512 + (y 2).val, row_lt _ _ (y 0).isLt (y 2).isLt⟩ : Fin 1024)) * joined D3 G l (y 1).val (y 3) := by
  simp only [gradient, Cert.HgrnInDwRefIdeal.Read.val_main_v17_apply, Cert.HgrnInDwRefIdeal.Read.val_main_v16_apply, Cert.HgrnInDwRefIdeal.Read.val_main_v15_apply, Cert.HgrnInDwRefIdeal.Read.val_main_v14_apply, Cert.HgrnInDwRefIdeal.Read.val_main_v12_apply, joined_apply]
  refine Finset.sum_congr rfl fun k _ => ?_
  have h0 : (y 0).val < 2 := (y 0).isLt
  have h1 : (y 1).val < 4 := (y 1).isLt
  have h2 : (y 2).val < 512 := (y 2).isLt
  have h3 : (y 3).val < 1024 := (y 3).isLt
  refine (mul_comm _ _).trans (congrArg₂ (· * ·) (congrArg H ?_) ?_)
  · blk_ext!
  · refine congr (congrArg₂ (joined D3 G) ?_ ?_) ?_
    · exact Fin.ext (by blk_simp)
    · omega
    · exact Fin.ext (show ((((y 0).val * 512 + (y 2).val) * 4 + (y 1).val) * 1024 + (y 3).val) % 4096 % 1024 = (y 3).val by omega)

/-- Where each grid point's blocks lie. -/
theorem idx : ∀ t : Fin cfg0.N, win0_0.index t = ![t.val % 8, 0] ∧ win0_1.index t = ![min (t.val / 8) 2, t.val % 8, 0] ∧ win0_2.index t = ![t.val % 8, 0] ∧ win0_3.index t = ![0, t.val / 8, 0, 0] :=
  (by decide +kernel : ∀ t : Fin grid0.N, _)

/-- The factor a point reads: a stacked array's block, or in the last column the gate's. -/
def entry (c : Dev nD) (t : Fin cfg0.N) (k r : Fin 1024) : EReal :=
  if t.val < 24 then (iblk m c 1 t : Vec Ideal S1x1024x1024 .bf16) (ix3 (0 : Fin 1) k r) else (iblk m c 2 t : Vec Ideal S1024x1024 .bf16) (ix2 k r)

/-- What a grid point adds. -/
def part (x0 : Vec Ideal S1024x1024 .bf16) (b : Fin 1024 → Fin 1024 → EReal) (y : S2x1x512x1024.Idx) : EReal :=
  ∑ k : Fin 1024, x0 (ix2 k (⟨(y 0).val * 512 + (y 2).val, row_lt _ _ (y 0).isLt (y 2).isLt⟩ : Fin 1024)) * b k (y 3)

theorem stacked0 (x0 : Vec Ideal S1024x1024 .bf16) (x1 : Vec Ideal S1x1024x1024 .bf16) (acc : Vec Ideal S1x1x512x1024 .f32) (x : S1x1x512x1024.Idx) :
    k0_pay3 x0 x1 acc x = acc x + part x0 (fun k r => x1 (ix3 (0 : Fin 1) k r)) (ix4 (0 : Fin 2) (0 : Fin 1) (x 2) (x 3)) := by
  unfold part
  pointwise [k0_pay3, k0_pay2]

theorem stacked1 (x0 : Vec Ideal S1024x1024 .bf16) (x1 : Vec Ideal S1x1024x1024 .bf16) (acc : Vec Ideal S1x1x512x1024 .f32) (x : S1x1x512x1024.Idx) :
    k0_pay4 x0 x1 acc x = acc x + part x0 (fun k r => x1 (ix3 (0 : Fin 1) k r)) (ix4 (1 : Fin 2) (0 : Fin 1) (x 2) (x 3)) := by
  unfold part
  pointwise [k0_pay4, k0_pay2]

theorem gate0 (x0 : Vec Ideal S1024x1024 .bf16) (x1 : Vec Ideal S1024x1024 .bf16) (acc : Vec Ideal S1x1x512x1024 .f32) (x : S1x1x512x1024.Idx) :
    k0_pay6 x0 x1 acc x = acc x + part x0 (fun k r => x1 (ix2 k r)) (ix4 (0 : Fin 2) (0 : Fin 1) (x 2) (x 3)) := by
  unfold part
  pointwise [k0_pay6, k0_pay5]

theorem gate1 (x0 : Vec Ideal S1024x1024 .bf16) (x1 : Vec Ideal S1024x1024 .bf16) (acc : Vec Ideal S1x1x512x1024 .f32) (x : S1x1x512x1024.Idx) :
    k0_pay7 x0 x1 acc x = acc x + part x0 (fun k r => x1 (ix2 k r)) (ix4 (1 : Fin 2) (0 : Fin 1) (x 2) (x 3)) := by
  unfold part
  pointwise [k0_pay7, k0_pay5]

/-- The first of a column's eight points clears both planes. -/
theorem zero_apply (j) : k0_pay1 (F := Ideal) j = 0 := by pointwise [k0_pay1]

/-- After a stacked column's first point the planes hold its part. -/
theorem resetStacked (c : Dev nD) (t : Fin cfg0.N) (h : t.val % 8 = 0) (h1 : t.val < 24) (j : S2x1x512x1024.Idx) :
    outsAt0 m c t.val t.isLt j = 0 + part (iblk m c 0 t) (fun k r => (iblk m c 1 t : Vec Ideal S1x1024x1024 .bf16) (ix3 (0 : Fin 1) k r)) j := by
  rw [outsAt0_A m c t h h1 (by omega)]
  frame_out
  refine Upto.all (Val := Elt Ideal) (e := .f32) (c := 1) (a := 512) (b := 1024) (T := fun y => 0 + part (iblk m c 0 t) (fun k r => (iblk m c 1 t : Vec Ideal S1x1024x1024 .bf16) (ix3 (0 : Fin 1) k r)) y) (n := 2) ?_ (by decide) j
  refine Upto.step (Val := Elt Ideal) (e := .f32) (c := 1) (a := 512) (b := 1024) 1 0 (by decide) (by decide) ?_ _ _ fun x => (stacked1 _ _ _ x).trans (congrArg (· + _) (Off.load (Val := Elt Ideal) (e := .f32) (c := 1) (a := 512) (b := 1024) _ ?_ _ x))
  on_goal 2 => repeat' first | exact .base _ _ zero_apply | refine .step _ _ _ _ _ (by decide) ?_
  refine Upto.step (Val := Elt Ideal) (e := .f32) (c := 1) (a := 512) (b := 1024) 0 0 (by decide) (by decide) ?_ _ _ fun x => (stacked0 _ _ _ x).trans (congrArg (· + _) (Off.load (Val := Elt Ideal) (e := .f32) (c := 1) (a := 512) (b := 1024) _ ?_ _ x))
  on_goal 2 => repeat' first | exact .base _ _ zero_apply | refine .step _ _ _ _ _ (by decide) ?_
  exact Upto.zero _ _

/-- After the gate's column's first point the planes hold its part. -/
theorem resetGate (c : Dev nD) (t : Fin cfg0.N) (h : t.val % 8 = 0) (h1 : ¬t.val < 24) (j : S2x1x512x1024.Idx) :
    outsAt0 m c t.val t.isLt j = 0 + part (iblk m c 0 t) (fun k r => (iblk m c 2 t : Vec Ideal S1024x1024 .bf16) (ix2 k r)) j := by
  rw [outsAt0_C m c t h h1 (by omega)]
  frame_out
  refine Upto.all (Val := Elt Ideal) (e := .f32) (c := 1) (a := 512) (b := 1024) (T := fun y => 0 + part (iblk m c 0 t) (fun k r => (iblk m c 2 t : Vec Ideal S1024x1024 .bf16) (ix2 k r)) y) (n := 2) ?_ (by decide) j
  refine Upto.step (Val := Elt Ideal) (e := .f32) (c := 1) (a := 512) (b := 1024) 1 0 (by decide) (by decide) ?_ _ _ fun x => (gate1 _ _ _ x).trans (congrArg (· + _) (Off.load (Val := Elt Ideal) (e := .f32) (c := 1) (a := 512) (b := 1024) _ ?_ _ x))
  on_goal 2 => repeat' first | exact .base _ _ zero_apply | refine .step _ _ _ _ _ (by decide) ?_
  refine Upto.step (Val := Elt Ideal) (e := .f32) (c := 1) (a := 512) (b := 1024) 0 0 (by decide) (by decide) ?_ _ _ fun x => (gate0 _ _ _ x).trans (congrArg (· + _) (Off.load (Val := Elt Ideal) (e := .f32) (c := 1) (a := 512) (b := 1024) _ ?_ _ x))
  on_goal 2 => repeat' first | exact .base _ _ zero_apply | refine .step _ _ _ _ _ (by decide) ?_
  exact Upto.zero _ _

/-- A stacked column's later points add their parts. -/
theorem stepStacked (c : Dev nD) (t : Fin cfg0.N) (h : ¬t.val % 8 = 0) (h1 : t.val < 24) (j : S2x1x512x1024.Idx) :
    outsAt0 m c t.val t.isLt j = outsAt0 m c (t.val - 1) (Nat.lt_of_le_of_lt (Nat.sub_le _ _) t.isLt) j + part (iblk m c 0 t) (fun k r => (iblk m c 1 t : Vec Ideal S1x1024x1024 .bf16) (ix3 (0 : Fin 1) k r)) j := by
  rw [outsAt0_B m c t h h1 (by omega)]
  frame_out
  refine Upto.all (Val := Elt Ideal) (e := .f32) (c := 1) (a := 512) (b := 1024) (T := fun y => outsAt0 m c (t.val - 1) (Nat.lt_of_le_of_lt (Nat.sub_le _ _) t.isLt) y + part (iblk m c 0 t) (fun k r => (iblk m c 1 t : Vec Ideal S1x1024x1024 .bf16) (ix3 (0 : Fin 1) k r)) y) (n := 2) ?_ (by decide) j
  refine Upto.step (Val := Elt Ideal) (e := .f32) (c := 1) (a := 512) (b := 1024) 1 0 (by decide) (by decide) ?_ _ _ fun x => (stacked1 _ _ _ x).trans (congrArg (· + _) (congrArg _ (plane_idx 1 0 (by decide) (by decide) _ x)))
  refine Upto.step (Val := Elt Ideal) (e := .f32) (c := 1) (a := 512) (b := 1024) 0 0 (by decide) (by decide) ?_ _ _ fun x => (stacked0 _ _ _ x).trans (congrArg (· + _) (congrArg _ (plane_idx 0 0 (by decide) (by decide) _ x)))
  exact Upto.zero _ _

/-- The gate's column's later points add their parts. -/
theorem stepGate (c : Dev nD) (t : Fin cfg0.N) (h : ¬t.val % 8 = 0) (h1 : ¬t.val < 24) (j : S2x1x512x1024.Idx) :
    outsAt0 m c t.val t.isLt j = outsAt0 m c (t.val - 1) (Nat.lt_of_le_of_lt (Nat.sub_le _ _) t.isLt) j + part (iblk m c 0 t) (fun k r => (iblk m c 2 t : Vec Ideal S1024x1024 .bf16) (ix2 k r)) j := by
  rw [outsAt0_D m c t h h1 (by omega)]
  frame_out
  refine Upto.all (Val := Elt Ideal) (e := .f32) (c := 1) (a := 512) (b := 1024) (T := fun y => outsAt0 m c (t.val - 1) (Nat.lt_of_le_of_lt (Nat.sub_le _ _) t.isLt) y + part (iblk m c 0 t) (fun k r => (iblk m c 2 t : Vec Ideal S1024x1024 .bf16) (ix2 k r)) y) (n := 2) ?_ (by decide) j
  refine Upto.step (Val := Elt Ideal) (e := .f32) (c := 1) (a := 512) (b := 1024) 1 0 (by decide) (by decide) ?_ _ _ fun x => (gate1 _ _ _ x).trans (congrArg (· + _) (congrArg _ (plane_idx 1 0 (by decide) (by decide) _ x)))
  refine Upto.step (Val := Elt Ideal) (e := .f32) (c := 1) (a := 512) (b := 1024) 0 0 (by decide) (by decide) ?_ _ _ fun x => (gate0 _ _ _ x).trans (congrArg (· + _) (congrArg _ (plane_idx 0 0 (by decide) (by decide) _ x)))
  exact Upto.zero _ _

/-- The factor at a point of a stacked column, and of the gate's. -/
theorem entry_stacked (c : Dev nD) (t : Fin cfg0.N) (h : t.val < 24) : entry m c t = (fun k r => (iblk m c 1 t : Vec Ideal S1x1024x1024 .bf16) (ix3 (0 : Fin 1) k r)) := funext fun k => funext fun r => if_pos h
theorem entry_gate (c : Dev nD) (t : Fin cfg0.N) (h : ¬t.val < 24) : entry m c t = (fun k r => (iblk m c 2 t : Vec Ideal S1024x1024 .bf16) (ix2 k r)) := funext fun k => funext fun r => if_neg h

/-- After a column's first point the planes hold its part. -/
theorem reset (c : Dev nD) (t : Fin cfg0.N) (h : t.val % 8 = 0) (j : S2x1x512x1024.Idx) :
    outsAt0 m c t.val t.isLt j = 0 + part (iblk m c 0 t) (entry m c t) j := by
  by_cases h1 : t.val < 24
  · rw [entry_stacked m c t h1]; exact resetStacked m c t h h1 j
  · rw [entry_gate m c t h1]; exact resetGate m c t h h1 j

/-- Every later point adds its part. -/
theorem step (c : Dev nD) (t : Fin cfg0.N) (h : ¬t.val % 8 = 0) (j : S2x1x512x1024.Idx) :
    outsAt0 m c t.val t.isLt j = outsAt0 m c (t.val - 1) (Nat.lt_of_le_of_lt (Nat.sub_le _ _) t.isLt) j + part (iblk m c 0 t) (entry m c t) j := by
  by_cases h1 : t.val < 24
  · rw [entry_stacked m c t h1]; exact stepStacked m c t h h1 j
  · rw [entry_gate m c t h1]; exact stepGate m c t h h1 j

/-- The kernel's array is the gradient. -/
theorem final (c : Dev nD) : (dats m 0 c).arrAt 3 (cfgs 0).N
    = gradient (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, Pipeline.eq_sum_fin_of_reset_step_apply_of_flush (fun n h => outsAt0 m c n h) 8 (fun _ => 0) _
    (fun t h j => reset m c t h j) (fun t h j => step m c t h j) t ((flush0_3 t).mp hf) _, zero_add, gradient_apply]
  unfold part
  refine Fin.sum_mul_add_congr fun s k hl => ?_
  have hr := ((flush0_3 t).mp hf)
  have hs := s.isLt
  have hq : ((win0_3.blk t).view.emb y 1).val = t.val / 8 := by blk_simp [idx t]
  unfold joined
  by_cases h : t.val / 8 < 3
  · rw [entry_stacked m c _ (show 8 * (t.val / 8) + s.val < 24 by omega), dif_pos (by rw [hq]; exact h)]
    refine congrArg₂ (· * ·) ?_ ?_ <;> beta_reduce <;> blk_point [iblk, V, idx t, idx ⟨_, Pipeline.run_point_lt_of_flush t ((flush0_3 t).mp hf) s⟩]
  · rw [entry_gate m c _ (show ¬8 * (t.val / 8) + s.val < 24 by omega), dif_neg (by rw [hq]; exact h)]
    refine congrArg₂ (· * ·) ?_ ?_ <;> beta_reduce <;> blk_point [iblk, V, idx t, idx ⟨_, Pipeline.run_point_lt_of_flush t ((flush0_3 t).mp hf) s⟩]

end Cert.HgrnInDwFin
-- ==== Proof.HgrnInDxFin.lean ====
/-
  The recurrence's first product, the gradient of its input: the kernel adds the three stacked gradients' products and the
  gate's, one grid point after another; together they are the reference's one contraction over the joined columns.
-/
module

public import proofs.«01_k».proof.Proof.Gen.HgrnInDxIdeal.Frame
public import proofs.«01_k».proof.Proof.Gen.HgrnInDxRefIdeal.Read
public import proofs.«01_k».proof.Proof.Joined
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HgrnInDxFin
open Cert.HgrnInDxIdeal Cert.HgrnInDxIdeal.Gen Cert.Joined

variable (m : (ℓ : Loc nD τ sig) → Buf (Elt Ideal) ℓ)

/-- The reference's gradient, of the kernel's arguments. -/
abbrev gradient (D3 : FVec Ideal S3x8192x1024 .bf16) (G : FVec Ideal S8192x1024 .bf16) (W : FVec Ideal S4x1024x1024 .bf16) : FVec Ideal S8192x1024 .f32 :=
  Cert.HgrnInDxRefIdeal.Read.val_main_v16 (F := Ideal) D3 G W

/-- The reference's concatenation, read at an index. -/
theorem joined_apply (D3 : FVec Ideal S3x8192x1024 .bf16) (G : FVec Ideal S8192x1024 .bf16) (y : Cert.HgrnInDxRefIdeal.S8192x4096.Idx) :
    Cert.HgrnInDxRefIdeal.Read.val_main_v10 (F := Ideal) D3 G y = joined D3 G (y 0) ((y 1).val / 1024) (⟨(y 1).val % 1024, Nat.mod_lt _ (by decide)⟩ : Fin 1024) := by
  unfold Cert.HgrnInDxRefIdeal.Read.val_main_v10
  pointwise [Cert.HgrnInDxRefIdeal.Read.val_main_v9_apply, Cert.HgrnInDxRefIdeal.Read.val_main_v8_apply, Cert.HgrnInDxRefIdeal.Read.val_main_v7_apply, Cert.HgrnInDxRefIdeal.Read.val_main_v6_apply, Cert.HgrnInDxRefIdeal.Read.val_main_v5_apply, Cert.HgrnInDxRefIdeal.Read.val_main_v4_apply, Cert.HgrnInDxRefIdeal.Read.val_main_v3_apply, Cert.HgrnInDxRefIdeal.Read.val_main_v2_apply, Cert.HgrnInDxRefIdeal.Read.val_main_v1_apply, Cert.HgrnInDxRefIdeal.Read.val_main_v0_apply]
  have h0 : (y 0).val < 8192 := (y 0).isLt
  have h1 : (y 1).val < 4096 := (y 1).isLt
  refine Eq.trans ?_ (joined_eq D3 G (y 0) (y 1).val h1)
  refine dite_congr rfl (fun h => congrArg D3 ?_) fun _ => dite_congr rfl (fun h => congrArg D3 ?_) fun _ => dite_congr rfl (fun h => congrArg D3 ?_) fun _ => rfl
  all_goals blk_ext!

/-- The gradient at an index: one contraction over all the columns. -/
theorem gradient_apply (D3 : FVec Ideal S3x8192x1024 .bf16) (G : FVec Ideal S8192x1024 .bf16) (W : FVec Ideal S4x1024x1024 .bf16) (y : S8192x1024.Idx) :
    gradient D3 G W y = ∑ l : Fin 4096, joined D3 G (y 0) (l.val / 1024) (⟨l.val % 1024, Nat.mod_lt _ (by decide)⟩ : Fin 1024)
      * W (ix3 (⟨l.val / 1024, by omega⟩ : Fin 4) (y 1) (⟨l.val % 1024, Nat.mod_lt _ (by decide)⟩ : Fin 1024)) := by
  simp only [gradient, Cert.HgrnInDxRefIdeal.Read.val_main_v16_apply, Cert.HgrnInDxRefIdeal.Read.val_main_v13_apply, Cert.HgrnInDxRefIdeal.Read.val_main_v12_apply, Cert.HgrnInDxRefIdeal.Read.val_main_v11_apply, joined_apply]
  refine Finset.sum_congr rfl fun k _ => ?_
  have h0 := (y 0).isLt
  have h1 := (y 1).isLt
  refine congrArg₂ (· * ·) rfl (congrArg W ?_)
  blk_ext!

/-- Where each grid point's blocks lie. -/
theorem idx : ∀ t : Fin cfg0.N, win0_0.index t = ![min (t.val % 4) 2, t.val / 4, 0] ∧ win0_1.index t = ![t.val / 4, 0] ∧ win0_2.index t = ![t.val % 4, 0, 0] ∧ win0_3.index t = ![t.val / 4, 0] :=
  (by decide +kernel : ∀ t : Fin grid0.N, _)

/-- The first of the four points clears the carried buffer. -/
theorem zero_apply (j) : k0_pay1 (F := Ideal) j = 0 := by pointwise [k0_pay1]

/-- What one of the first three points adds to the carried buffer. -/
theorem stacked_apply (acc : Vec Ideal S1024x1024 .f32) (x0 : Vec Ideal S1x1024x1024 .bf16) (x1 : Vec Ideal S1x1024x1024 .bf16) (j : S1024x1024.Idx) :
    k0_pay2 acc x0 x1 j = acc j + ∑ k : Fin 1024, x0 (ix3 (0 : Fin 1) (j 0) k) * x1 (ix3 (0 : Fin 1) (j 1) k) := by
  pointwise [k0_pay2]

/-- What the last point adds to it. -/
theorem gate_apply (acc : Vec Ideal S1024x1024 .f32) (x0 : Vec Ideal S1024x1024 .bf16) (x1 : Vec Ideal S1x1024x1024 .bf16) (j : S1024x1024.Idx) :
    k0_pay3 acc x0 x1 j = acc j + ∑ k : Fin 1024, x0 (ix2 (j 0) k) * x1 (ix3 (0 : Fin 1) (j 1) k) := by
  pointwise [k0_pay3]

/-- The factor a point reads: a stacked array's block, or at the last point the gate's. -/
def entry (c : Dev nD) (t : Fin cfg0.N) (r k : Fin 1024) : EReal :=
  if t.val % 4 ≤ 2 then (iblk m c 0 t : Vec Ideal S1x1024x1024 .bf16) (ix3 (0 : Fin 1) r k) else (iblk m c 1 t : Vec Ideal S1024x1024 .bf16) (ix2 r k)

/-- The factor at one of the first three points, and at the last. -/
theorem entry_stacked (c : Dev nD) (t : Fin cfg0.N) (h : t.val % 4 ≤ 2) : entry m c t = (fun r k => (iblk m c 0 t : Vec Ideal S1x1024x1024 .bf16) (ix3 (0 : Fin 1) r k)) := funext fun r => funext fun k => if_pos h
theorem entry_gate (c : Dev nD) (t : Fin cfg0.N) (h : ¬t.val % 4 ≤ 2) : entry m c t = (fun r k => (iblk m c 1 t : Vec Ideal S1024x1024 .bf16) (ix2 r k)) := funext fun r => funext fun k => if_neg h

/-- What a point adds to the carried buffer. -/
def part (c : Dev nD) (t : Fin cfg0.N) (j : S1024x1024.Idx) : EReal :=
  ∑ k : Fin 1024, entry m c t (j 0) k * (iblk m c 2 t : Vec Ideal S1x1024x1024 .bf16) (ix3 (0 : Fin 1) (j 1) k)

/-- At the last of the four points the output is what the carried buffer holds. -/
theorem out_eq (c : Dev nD) (t : Fin cfg0.N) (h : t.val % 4 = 3) (j) :
    (outsAt0 m c t.val t.isLt).1 j = (outsAt0 m c t.val t.isLt).2 j := by
  rw [outsAt0_C m c t (by omega) (by omega) h h]
  frame_out

/-- The first of the four points leaves its part. -/
theorem reset (c : Dev nD) (t : Fin cfg0.N) (h : t.val % 4 = 0) (j) : (outsAt0 m c t.val t.isLt).2 j = 0 + part m c t j := by
  rw [outsAt0_A m c t h (by omega) (by omega) (by omega)]
  frame_out
  rw [stacked_apply, zero_apply]
  unfold part
  rw [entry_stacked m c t (by omega)]

/-- Every later point adds its part. -/
theorem step (c : Dev nD) (t : Fin cfg0.N) (h : ¬t.val % 4 = 0) (j) : (outsAt0 m c t.val t.isLt).2 j
    = (outsAt0 m c (t.val - 1) (Nat.lt_of_le_of_lt (Nat.sub_le _ _) t.isLt)).2 j + part m c t j := by
  unfold part
  by_cases h3 : t.val % 4 = 3
  · rw [outsAt0_C m c t h (by omega) h3 h3]; frame_out; rw [gate_apply, entry_gate m c t (by omega)]
    exact congrArg (· + _) (congrFun ((Memref.isWhole_whole cc0_scratch0).read_unread _) j)
  · rw [outsAt0_B m c t h (by omega) h3 h3]; frame_out; rw [stacked_apply, entry_stacked m c t (by omega)]
    exact congrArg (· + _) (congrFun ((Memref.isWhole_whole cc0_scratch0).read_unread _) j)

/-- The kernel's array is the gradient. -/
theorem final (c : Dev nD) : (dats m 0 c).arrAt 3 (cfgs 0).N
    = gradient (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, out_eq m c t ((flush0_3 t).mp hf), Pipeline.eq_sum_fin_of_reset_step_apply_of_flush (fun n h => (outsAt0 m c n h).2) 4 (fun _ => 0) _
    (fun t h j => reset m c t h j) (fun t h j => step m c t h j) t ((flush0_3 t).mp hf) _, zero_add, gradient_apply]
  refine Fin.sum_mul_add_congr fun s k hl => ?_
  have hr := ((flush0_3 t).mp hf)
  have hs := s.isLt
  unfold joined
  by_cases h : s.val < 3
  · rw [entry_stacked m c _ (show (4 * (t.val / 4) + s.val) % 4 ≤ 2 by omega), dif_pos (show (s.val * 1024 + k.val) / 1024 < 3 by omega)]
    refine congrArg₂ (· * ·) ?_ ?_ <;> beta_reduce <;> blk_point [iblk, V, idx t, idx ⟨_, Pipeline.run_point_lt_of_flush t ((flush0_3 t).mp hf) s⟩]
  · rw [entry_gate m c _ (show ¬(4 * (t.val / 4) + s.val) % 4 ≤ 2 by omega), dif_neg (show ¬(s.val * 1024 + k.val) / 1024 < 3 by omega)]
    refine congrArg₂ (· * ·) ?_ ?_ <;> beta_reduce <;> blk_point [iblk, V, idx t, idx ⟨_, Pipeline.run_point_lt_of_flush t ((flush0_3 t).mp hf) s⟩]

end Cert.HgrnInDxFin
-- ==== Proof.HgrnInFin.lean ====
/-
  The recurrence's first product: the kernel's tiles are the rows and columns of the reference's product.
-/
module

public import proofs.«01_k».proof.Proof.Gen.HgrnInIdeal.Frame
public import proofs.«01_k».proof.Proof.Gen.HgrnInRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HgrnInFin
open Cert.HgrnInIdeal Cert.HgrnInIdeal.Gen

variable (m : (ℓ : Loc nD τ sig) → Buf (Elt Ideal) ℓ)

/-- The reference's result, of the kernel's arguments. -/
abbrev result (X : FVec Ideal S8192x1024 .bf16) (W : FVec Ideal S4x1024x1024 .bf16) : FVec Ideal S8192x4096 .f32 :=
  Cert.HgrnInRefIdeal.Read.val_main_v4 (F := Ideal) X W

/-- The result at an index: a row of the first factor against a column of the second. -/
theorem result_apply (X : FVec Ideal S8192x1024 .bf16) (W : FVec Ideal S4x1024x1024 .bf16) (y : S8192x4096.Idx) :
    result X W y = (∑ k : Fin 1024, X (ix2 (y 0) k) * W (ix3 (⟨(y 1).val / 1024, Nat.div_lt_of_lt_mul (show (y 1).val < 1024 * 4 from (y 1).isLt)⟩ : Fin 4) k (⟨(y 1).val % 1024, Nat.mod_lt _ (by decide)⟩ : Fin 1024))) := by
  simp only [result, Cert.HgrnInRefIdeal.Read.val_main_v0_apply, Cert.HgrnInRefIdeal.Read.val_main_v1_apply, Cert.HgrnInRefIdeal.Read.val_main_v2_apply, Cert.HgrnInRefIdeal.Read.val_main_v3_apply, Cert.HgrnInRefIdeal.Read.val_main_v4_apply]
  have h0 := (y 0).isLt
  have h1 := (y 1).isLt
  refine Finset.sum_congr rfl fun k _ => ?_
  refine congrArg₂ (· * ·) (congrArg X ?_) (congrArg W ?_)
  · blk_ext!
  · blk_ext!

/-- Where each grid point's blocks lie. -/
theorem idx : ∀ t : Fin cfg0.N, win0_0.index t = ![t.val % 8, 0] ∧ win0_1.index t = ![t.val / 8, 0, 0] ∧ win0_2.index t = ![t.val % 8, t.val / 8] :=
  (by decide +kernel : ∀ t : Fin grid0.N, _)

/-- What a grid point stores is its tile of the result. -/
theorem point (c : Dev nD) (t : Fin cfg0.N) (y) : k0_pay1 (iblk m c 0 t) (iblk m c 1 t) y
    = result (m ((c : Thread nD τ).loc main_arg0)) (m ((c : Thread nD τ).loc main_arg1)) (((cfg0.win 2).blk t).view.emb y) := by
  rw [result_apply]
  pointwise [k0_pay1]
  blk_point [iblk, V, idx t]

/-- The kernel's array is the reference's. -/
theorem final (c : Dev nD) : (dats m 0 c).arrAt 2 (cfgs 0).N = result (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.HgrnInFin
-- ==== Proof.HgrnOutDxFin.lean ====
/-
  The recurrence's second product, the gradient of its input: each grid point clears its buffer and adds its rows.
-/
module

public import proofs.«01_k».proof.Proof.Gen.HgrnOutDxIdeal.Frame
public import proofs.«01_k».proof.Proof.Gen.HgrnOutDxRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HgrnOutDxFin
open Cert.HgrnOutDxIdeal Cert.HgrnOutDxIdeal.Gen

variable (m : (ℓ : Loc nD τ sig) → Buf (Elt Ideal) ℓ)

/-- The reference's gradient, of the kernel's arguments. -/
abbrev gradient (X : FVec Ideal S8192x1024 .bf16) (W : FVec Ideal S1x1024x1024 .bf16) : FVec Ideal S8192x1024 .f32 :=
  Cert.HgrnOutDxRefIdeal.Read.val_main_v6 (F := Ideal) X W

/-- The gradient at an index: a row of the result's gradient against a row of the weights. -/
theorem gradient_apply (X : FVec Ideal S8192x1024 .bf16) (W : FVec Ideal S1x1024x1024 .bf16) (y : S8192x1024.Idx) :
    gradient X W y = ∑ k : Fin 1024, X (ix2 (y 0) k) * W (ix3 (0 : Fin 1) (y 1) k) := by
  simp only [gradient, Cert.HgrnOutDxRefIdeal.Read.val_main_v0_apply, Cert.HgrnOutDxRefIdeal.Read.val_main_v1_apply, Cert.HgrnOutDxRefIdeal.Read.val_main_v2_apply, Cert.HgrnOutDxRefIdeal.Read.val_main_v5_apply, Cert.HgrnOutDxRefIdeal.Read.val_main_v6_apply]
  have h0 := (y 0).isLt
  have h1 := (y 1).isLt
  refine Finset.sum_congr rfl fun k _ => ?_
  refine congrArg₂ (· * ·) (congrArg X ?_) (congrArg W ?_)
  · blk_ext!
  · blk_ext!

/-- Where each grid point's blocks lie. -/
theorem idx : ∀ t : Fin cfg0.N, win0_0.index t = ![t.val, 0] ∧ win0_1.index t = ![0, 0, 0] ∧ win0_2.index t = ![t.val, 0] :=
  (by decide +kernel : ∀ t : Fin grid0.N, _)

/-- What a grid point adds to the cleared buffer. -/
theorem part_apply (x0 : Vec Ideal S1024x1024 .bf16) (x1 : Vec Ideal S1x1024x1024 .bf16) (j : S1024x1024.Idx) :
    k0_pay2 k0_pay1 x0 x1 j = ∑ k : Fin 1024, x0 (ix2 (j 0) k) * x1 (ix3 (0 : Fin 1) (j 1) k) := by
  pointwise [k0_pay2, k0_pay1]

/-- What a grid point stores is its rows of the gradient. -/
theorem point (c : Dev nD) (t : Fin cfg0.N) (y) : k0_pay2 k0_pay1 (iblk m c 0 t) (iblk m c 1 t) y
    = gradient (m ((c : Thread nD τ).loc main_arg0)) (m ((c : Thread nD τ).loc main_arg1)) (((cfg0.win 2).blk t).view.emb y) := by
  rw [gradient_apply, part_apply]
  blk_point [iblk, V, idx t]

/-- The kernel's array is the gradient. -/
theorem final (c : Dev nD) : (dats m 0 c).arrAt 2 (cfgs 0).N
    = gradient (m ((c : Thread nD τ).loc main_arg0)) (m ((c : Thread nD τ).loc main_arg1)) := by
  refine (dats m 0 c).arrAt_eq_of_covers 2 _ (by decide +kernel) fun t _ y => ?_
  blk_simp
  rw [after0_2]; unfold outsAt0; frame_out
  exact point m c t y

end Cert.HgrnOutDxFin
-- ==== Proof.HgrnOutFin.lean ====
/-
  The recurrence's second product: the kernel's tiles are the rows of the reference's product.
-/
module

public import proofs.«01_k».proof.Proof.Gen.HgrnOutIdeal.Frame
public import proofs.«01_k».proof.Proof.Gen.HgrnOutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.HgrnOutFin
open Cert.HgrnOutIdeal Cert.HgrnOutIdeal.Gen

variable (m : (ℓ : Loc nD τ sig) → Buf (Elt Ideal) ℓ)

/-- The reference's result, of the kernel's arguments. -/
abbrev result (X : FVec Ideal S8192x1024 .bf16) (W : FVec Ideal S1x1024x1024 .bf16) : FVec Ideal S8192x1024 .f32 :=
  Cert.HgrnOutRefIdeal.Read.val_main_v4 (F := Ideal) X W

/-- The result at an index: a row of the first factor against a column of the second. -/
theorem result_apply (X : FVec Ideal S8192x1024 .bf16) (W : FVec Ideal S1x1024x1024 .bf16) (y : S8192x1024.Idx) :
    result X W y = (∑ k : Fin 1024, X (ix2 (y 0) k) * W (ix3 (0 : Fin 1) k (y 1))) := by
  simp only [result, Cert.HgrnOutRefIdeal.Read.val_main_v0_apply, Cert.HgrnOutRefIdeal.Read.val_main_v1_apply, Cert.HgrnOutRefIdeal.Read.val_main_v2_apply, Cert.HgrnOutRefIdeal.Read.val_main_v3_apply, Cert.HgrnOutRefIdeal.Read.val_main_v4_apply]
  have h0 := (y 0).isLt
  have h1 := (y 1).isLt
  refine Finset.sum_congr rfl fun k _ => ?_
  refine congrArg₂ (· * ·) (congrArg X ?_) (congrArg W ?_)
  · blk_ext!
  · blk_ext!

/-- Where each grid point's blocks lie. -/
theorem idx : ∀ t : Fin cfg0.N, win0_0.index t = ![t.val, 0] ∧ win0_1.index t = ![0, 0, 0] ∧ win0_2.index t = ![t.val, 0] :=
  (by decide +kernel : ∀ t : Fin grid0.N, _)

/-- What a grid point stores is its tile of the result. -/
theorem point (c : Dev nD) (t : Fin cfg0.N) (y) : k0_pay1 (iblk m c 0 t) (iblk m c 1 t) y
    = result (m ((c : Thread nD τ).loc main_arg0)) (m ((c : Thread nD τ).loc main_arg1)) (((cfg0.win 2).blk t).view.emb y) := by
  rw [result_apply]
  pointwise [k0_pay1]
  blk_point [iblk, V, idx t]

/-- The kernel's array is the reference's. -/
theorem final (c : Dev nD) : (dats m 0 c).arrAt 2 (cfgs 0).N = result (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.HgrnOutFin
-- ==== Proof.OutDwFin.lean ====
/-
  The second products of the convolution layer and of the recurrence, the gradient of their weights: the kernel adds eight
  blocks of tokens, one grid point after another, into its output; together they are the reference's one contraction.
-/
module

public import proofs.«01_k».proof.Proof.Gen.OutDwIdeal.Frame
public import proofs.«01_k».proof.Proof.Gen.OutDwRefIdeal.Read
public import proofs.«01_k».proof.Proof.Halves
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutDwFin
open Cert.OutDwIdeal Cert.OutDwIdeal.Gen Cert.Halves

variable (m : (ℓ : Loc nD τ sig) → Buf (Elt Ideal) ℓ)

/-- The reference's gradient, of the kernel's arguments. -/
abbrev gradient (H : FVec Ideal S8192x1024 .bf16) (U : FVec Ideal S8192x1024 .bf16) : FVec Ideal S2x4x128x1024 .f32 :=
  Cert.OutDwRefIdeal.Read.val_main_v7 (F := Ideal) H U

/-- A row of one of the two halves of the block's shards. -/
theorem row_lt (p q r : ℕ) (hp : p < 2) (hq : q < 4) (hr : r < 128) : (q * 2 + p) * 128 + r < 1024 := by omega

/-- The gradient at an index: one contraction over all the tokens. -/
theorem gradient_apply (H : FVec Ideal S8192x1024 .bf16) (U : FVec Ideal S8192x1024 .bf16) (y : S2x4x128x1024.Idx) :
    gradient H U y = ∑ l : Fin 8192, H (ix2 l (⟨((y 1).val * 2 + (y 0).val) * 128 + (y 2).val, row_lt _ _ _ (y 0).isLt (y 1).isLt (y 2).isLt⟩ : Fin 1024)) * U (ix2 l (y 3)) := by
  simp only [gradient, Cert.OutDwRefIdeal.Read.val_main_v7_apply, Cert.OutDwRefIdeal.Read.val_main_v6_apply, Cert.OutDwRefIdeal.Read.val_main_v5_apply, Cert.OutDwRefIdeal.Read.val_main_v4_apply, Cert.OutDwRefIdeal.Read.val_main_v2_apply, Cert.OutDwRefIdeal.Read.val_main_v1_apply]
  refine Finset.sum_congr rfl fun k _ => ?_
  have h0 := (y 0).isLt
  have h1 := (y 1).isLt
  refine (mul_comm _ _).trans (congrArg₂ (· * ·) (congrArg H ?_) (congrArg U ?_))
  · blk_ext!
  · blk_ext!

/-- Where each grid point's blocks lie. -/
theorem idx : ∀ t : Fin cfg0.N, win0_0.index t = ![t.val, 0] ∧ win0_1.index t = ![t.val, 0] ∧ win0_2.index t = ![0, 0, 0, 0] :=
  (by decide +kernel : ∀ t : Fin grid0.N, _)

/-- What a grid point adds. -/
def part (x0 : Vec Ideal S1024x1024 .bf16) (x1 : Vec Ideal S1024x1024 .bf16) (y : S2x4x128x1024.Idx) : EReal :=
  ∑ k : Fin 1024, x0 (ix2 k (⟨((y 1).val * 2 + (y 0).val) * 128 + (y 2).val, row_lt _ _ _ (y 0).isLt (y 1).isLt (y 2).isLt⟩ : Fin 1024)) * x1 (ix2 k (y 3))

theorem plane00 (x0 : Vec Ideal S1024x1024 .bf16) (x1 : Vec Ideal S1024x1024 .bf16) (acc : Vec Ideal S1x1x128x1024 .f32) (x : S1x1x128x1024.Idx) :
    k0_pay5 x0 x1 acc x = acc x + part x0 x1 (ix4 (0 : Fin 2) (0 : Fin 4) (x 2) (x 3)) := by
  unfold part
  pointwise [k0_pay5, k0_pay4]

theorem plane10 (x0 : Vec Ideal S1024x1024 .bf16) (x1 : Vec Ideal S1024x1024 .bf16) (acc : Vec Ideal S1x1x128x1024 .f32) (x : S1x1x128x1024.Idx) :
    k0_pay6 x0 x1 acc x = acc x + part x0 x1 (ix4 (1 : Fin 2) (0 : Fin 4) (x 2) (x 3)) := by
  unfold part
  pointwise [k0_pay6, k0_pay4]

theorem plane01 (x0 : Vec Ideal S1024x1024 .bf16) (x1 : Vec Ideal S1024x1024 .bf16) (acc : Vec Ideal S1x1x128x1024 .f32) (x : S1x1x128x1024.Idx) :
    k0_pay8 (k0_pay7 x0 x1 acc) x = acc x + part x0 x1 (ix4 (0 : Fin 2) (1 : Fin 4) (x 2) (x 3)) := by
  unfold part
  pointwise [k0_pay8, k0_pay7, k0_pay4]

theorem plane11 (x0 : Vec Ideal S1024x1024 .bf16) (x1 : Vec Ideal S1024x1024 .bf16) (acc : Vec Ideal S1x1x128x1024 .f32) (x : S1x1x128x1024.Idx) :
    k0_pay9 (k0_pay4 x0 x1) acc x = acc x + part x0 x1 (ix4 (1 : Fin 2) (1 : Fin 4) (x 2) (x 3)) := by
  unfold part
  pointwise [k0_pay9, k0_pay4]

theorem plane02 (x0 : Vec Ideal S1024x1024 .bf16) (x1 : Vec Ideal S1024x1024 .bf16) (acc : Vec Ideal S1x1x128x1024 .f32) (x : S1x1x128x1024.Idx) :
    k0_pay10 (k0_pay4 x0 x1) acc x = acc x + part x0 x1 (ix4 (0 : Fin 2) (2 : Fin 4) (x 2) (x 3)) := by
  unfold part
  pointwise [k0_pay10, k0_pay4]

theorem plane12 (x0 : Vec Ideal S1024x1024 .bf16) (x1 : Vec Ideal S1024x1024 .bf16) (acc : Vec Ideal S1x1x128x1024 .f32) (x : S1x1x128x1024.Idx) :
    k0_pay11 (k0_pay4 x0 x1) acc x = acc x + part x0 x1 (ix4 (1 : Fin 2) (2 : Fin 4) (x 2) (x 3)) := by
  unfold part
  pointwise [k0_pay11, k0_pay4]

theorem plane03 (x0 : Vec Ideal S1024x1024 .bf16) (x1 : Vec Ideal S1024x1024 .bf16) (acc : Vec Ideal S1x1x128x1024 .f32) (x : S1x1x128x1024.Idx) :
    k0_pay1 (k0_pay12 (k0_pay4 x0 x1) acc) x = acc x + part x0 x1 (ix4 (0 : Fin 2) (3 : Fin 4) (x 2) (x 3)) := by
  unfold part
  pointwise [k0_pay1, k0_pay12, k0_pay4]

theorem plane13 (x0 : Vec Ideal S1024x1024 .bf16) (x1 : Vec Ideal S1024x1024 .bf16) (acc : Vec Ideal S1x1x128x1024 .f32) (x : S1x1x128x1024.Idx) :
    k0_pay2 (k0_pay4 x0 x1) acc x = acc x + part x0 x1 (ix4 (1 : Fin 2) (3 : Fin 4) (x 2) (x 3)) := by
  unfold part
  pointwise [k0_pay2, k0_pay4]

/-- The first of the eight points clears all planes. -/
theorem zero_apply (j) : k0_pay3 (F := Ideal) j = 0 := by pointwise [k0_pay3]

/-- After the first of the eight points the planes hold its part. -/
theorem reset (c : Dev nD) (t : Fin cfg0.N) (h : t.val % 8 = 0) (j : S2x4x128x1024.Idx) :
    outsAt0 m c t.val t.isLt j = 0 + part (iblk m c 0 t) (iblk m c 1 t) j := by
  rw [outsAt0_A m c t h]
  frame_out
  refine Upto.all (Val := Elt Ideal) (e := .f32) (c := 4) (a := 128) (b := 1024) (T := fun y => 0 + part (iblk m c 0 t) (iblk m c 1 t) y) (n := 8) ?_ (by decide) j
  refine Upto.step (Val := Elt Ideal) (e := .f32) (c := 4) (a := 128) (b := 1024) 1 3 (by decide) (by decide) ?_ _ _ fun x => (plane13 _ _ _ x).trans (congrArg (· + _) (Off.load (Val := Elt Ideal) (e := .f32) (c := 4) (a := 128) (b := 1024) _ ?_ _ x))
  on_goal 2 => repeat' first | exact .base _ _ zero_apply | refine .step _ _ _ _ _ (by decide) ?_
  refine Upto.step (Val := Elt Ideal) (e := .f32) (c := 4) (a := 128) (b := 1024) 0 3 (by decide) (by decide) ?_ _ _ fun x => (plane03 _ _ _ x).trans (congrArg (· + _) (Off.load (Val := Elt Ideal) (e := .f32) (c := 4) (a := 128) (b := 1024) _ ?_ _ x))
  on_goal 2 => repeat' first | exact .base _ _ zero_apply | refine .step _ _ _ _ _ (by decide) ?_
  refine Upto.step (Val := Elt Ideal) (e := .f32) (c := 4) (a := 128) (b := 1024) 1 2 (by decide) (by decide) ?_ _ _ fun x => (plane12 _ _ _ x).trans (congrArg (· + _) (Off.load (Val := Elt Ideal) (e := .f32) (c := 4) (a := 128) (b := 1024) _ ?_ _ x))
  on_goal 2 => repeat' first | exact .base _ _ zero_apply | refine .step _ _ _ _ _ (by decide) ?_
  refine Upto.step (Val := Elt Ideal) (e := .f32) (c := 4) (a := 128) (b := 1024) 0 2 (by decide) (by decide) ?_ _ _ fun x => (plane02 _ _ _ x).trans (congrArg (· + _) (Off.load (Val := Elt Ideal) (e := .f32) (c := 4) (a := 128) (b := 1024) _ ?_ _ x))
  on_goal 2 => repeat' first | exact .base _ _ zero_apply | refine .step _ _ _ _ _ (by decide) ?_
  refine Upto.step (Val := Elt Ideal) (e := .f32) (c := 4) (a := 128) (b := 1024) 1 1 (by decide) (by decide) ?_ _ _ fun x => (plane11 _ _ _ x).trans (congrArg (· + _) (Off.load (Val := Elt Ideal) (e := .f32) (c := 4) (a := 128) (b := 1024) _ ?_ _ x))
  on_goal 2 => repeat' first | exact .base _ _ zero_apply | refine .step _ _ _ _ _ (by decide) ?_
  refine Upto.step (Val := Elt Ideal) (e := .f32) (c := 4) (a := 128) (b := 1024) 0 1 (by decide) (by decide) ?_ _ _ fun x => (plane01 _ _ _ x).trans (congrArg (· + _) (Off.load (Val := Elt Ideal) (e := .f32) (c := 4) (a := 128) (b := 1024) _ ?_ _ x))
  on_goal 2 => repeat' first | exact .base _ _ zero_apply | refine .step _ _ _ _ _ (by decide) ?_
  refine Upto.step (Val := Elt Ideal) (e := .f32) (c := 4) (a := 128) (b := 1024) 1 0 (by decide) (by decide) ?_ _ _ fun x => (plane10 _ _ _ x).trans (congrArg (· + _) (Off.load (Val := Elt Ideal) (e := .f32) (c := 4) (a := 128) (b := 1024) _ ?_ _ x))
  on_goal 2 => repeat' first | exact .base _ _ zero_apply | refine .step _ _ _ _ _ (by decide) ?_
  refine Upto.step (Val := Elt Ideal) (e := .f32) (c := 4) (a := 128) (b := 1024) 0 0 (by decide) (by decide) ?_ _ _ fun x => (plane00 _ _ _ x).trans (congrArg (· + _) (Off.load (Val := Elt Ideal) (e := .f32) (c := 4) (a := 128) (b := 1024) _ ?_ _ x))
  on_goal 2 => repeat' first | exact .base _ _ zero_apply | refine .step _ _ _ _ _ (by decide) ?_
  exact Upto.zero _ _

/-- Every later point adds its part. -/
theorem step (c : Dev nD) (t : Fin cfg0.N) (h : ¬t.val % 8 = 0) (j : S2x4x128x1024.Idx) :
    outsAt0 m c t.val t.isLt j = outsAt0 m c (t.val - 1) (Nat.lt_of_le_of_lt (Nat.sub_le _ _) t.isLt) j + part (iblk m c 0 t) (iblk m c 1 t) j := by
  rw [outsAt0_B m c t h]
  frame_out
  refine Upto.all (Val := Elt Ideal) (e := .f32) (c := 4) (a := 128) (b := 1024) (T := fun y => outsAt0 m c (t.val - 1) (Nat.lt_of_le_of_lt (Nat.sub_le _ _) t.isLt) y + part (iblk m c 0 t) (iblk m c 1 t) y) (n := 8) ?_ (by decide) j
  refine Upto.step (Val := Elt Ideal) (e := .f32) (c := 4) (a := 128) (b := 1024) 1 3 (by decide) (by decide) ?_ _ _ fun x => (plane13 _ _ _ x).trans (congrArg (· + _) (congrArg _ (plane_idx 1 3 (by decide) (by decide) _ x)))
  refine Upto.step (Val := Elt Ideal) (e := .f32) (c := 4) (a := 128) (b := 1024) 0 3 (by decide) (by decide) ?_ _ _ fun x => (plane03 _ _ _ x).trans (congrArg (· + _) (congrArg _ (plane_idx 0 3 (by decide) (by decide) _ x)))
  refine Upto.step (Val := Elt Ideal) (e := .f32) (c := 4) (a := 128) (b := 1024) 1 2 (by decide) (by decide) ?_ _ _ fun x => (plane12 _ _ _ x).trans (congrArg (· + _) (congrArg _ (plane_idx 1 2 (by decide) (by decide) _ x)))
  refine Upto.step (Val := Elt Ideal) (e := .f32) (c := 4) (a := 128) (b := 1024) 0 2 (by decide) (by decide) ?_ _ _ fun x => (plane02 _ _ _ x).trans (congrArg (· + _) (congrArg _ (plane_idx 0 2 (by decide) (by decide) _ x)))
  refine Upto.step (Val := Elt Ideal) (e := .f32) (c := 4) (a := 128) (b := 1024) 1 1 (by decide) (by decide) ?_ _ _ fun x => (plane11 _ _ _ x).trans (congrArg (· + _) (congrArg _ (plane_idx 1 1 (by decide) (by decide) _ x)))
  refine Upto.step (Val := Elt Ideal) (e := .f32) (c := 4) (a := 128) (b := 1024) 0 1 (by decide) (by decide) ?_ _ _ fun x => (plane01 _ _ _ x).trans (congrArg (· + _) (congrArg _ (plane_idx 0 1 (by decide) (by decide) _ x)))
  refine Upto.step (Val := Elt Ideal) (e := .f32) (c := 4) (a := 128) (b := 1024) 1 0 (by decide) (by decide) ?_ _ _ fun x => (plane10 _ _ _ x).trans (congrArg (· + _) (congrArg _ (plane_idx 1 0 (by decide) (by decide) _ x)))
  refine Upto.step (Val := Elt Ideal) (e := .f32) (c := 4) (a := 128) (b := 1024) 0 0 (by decide) (by decide) ?_ _ _ fun x => (plane00 _ _ _ x).trans (congrArg (· + _) (congrArg _ (plane_idx 0 0 (by decide) (by decide) _ x)))
  exact Upto.zero _ _

/-- The kernel's array is the gradient. -/
theorem final (c : Dev nD) : (dats m 0 c).arrAt 2 (cfgs 0).N
    = gradient (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => reset m c t h j) (fun t h j => step m c t h j) t ((flush0_2 t).mp hf) _, zero_add, gradient_apply]
  unfold part
  refine Fin.sum_mul_add_congr fun s k hl => ?_
  blk_point [iblk, V, idx t, idx ⟨_, Pipeline.run_point_lt_of_flush t ((flush0_2 t).mp hf) s⟩]

end Cert.OutDwFin
-- ==== Proof.PrenormBwdFin.lean ====
/-
  The first norm's backward pass: each grid point takes 512 rows, writes their gradient, and adds its rows' sums for the
  gradients of the shift, of the scale and of the norm's weights into one row each.
-/
module

public import proofs.«01_k».proof.Proof.Gen.PrenormBwdIdeal.Frame
public import proofs.«01_k».proof.Proof.Gen.PrenormBwdRefIdeal.Read
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PrenormBwdFin
open Cert.PrenormBwdIdeal Cert.PrenormBwdIdeal.Gen Cert.PrenormBwdRefIdeal.Read Cert.Norm

variable (m : (ℓ : Loc nD τ sig) → Buf (Elt Ideal) ℓ)

/-- The gradient of the rows. -/
abbrev dxOf {a : ℕ} (dh x dres : Mat a) (g sc : Row) (i : Fin a) (k : Fin 1024) : EReal :=
  dres (ix2 i k) + back (row x i) (drow dh g sc i) k

theorem dx_ref (dh x dres : FVec Ideal S8192x1024 .f32) (g sc : FVec Ideal S1x1024 .f32) (j : S8192x1024.Idx) :
    val_main_v49 (F := Ideal) dh x dres g sc j = dxOf dh x dres g sc (j 0) (j 1) := by
  obtain ⟨i, k, rfl⟩ := two_idx j
  simp only [val_main_v1_apply, val_main_cst_0_apply, val_main_v2_apply, val_main_v3_apply, val_main_cst_1_apply, val_main_v4_apply, val_main_v5_apply, val_main_cst_2_apply, val_main_v6_apply, val_main_v7_apply, val_main_v8_apply, val_main_v9_apply, val_main_cst_3_apply, val_main_v10_apply, val_main_v11_apply, val_main_cst_4_apply, val_main_v16_apply, val_main_v17_apply, val_main_v22_apply, val_main_v28_apply, val_main_v29_apply, val_main_v33_apply, val_main_v34_apply, val_main_v35_apply, val_main_cst_8_apply, val_main_v36_apply, val_main_v37_apply, val_main_v38_apply, val_main_v39_apply, val_main_v40_apply, val_main_cst_9_apply, val_main_v41_apply, val_main_v42_apply, val_main_cst_10_apply, val_main_v43_apply, val_main_v44_apply, val_main_v45_apply, val_main_v46_apply, val_main_v47_apply, val_main_v48_apply, val_main_v49_apply]
  unfold dxOf back Norm.slope rs drow row
  pointwise
  simp only [Finset.univ_unique, Finset.sum_singleton]
  blk_point []

theorem dx_ker (dh x dres : FVec Ideal S512x1024 .f32) (g sc : FVec Ideal S1x1024 .f32) (j : S512x1024.Idx) :
    k0_pay2 (F := Ideal) dh (k0_pay6 x) (k0_pay7 x) g (k0_pay8 sc) dres j = dxOf dh x dres g sc (j 0) (j 1) := by
  obtain ⟨i, k, rfl⟩ := two_idx j
  refine Eq.trans ?_ (congrArg (dres (ix2 i k) + ·) (back_eq (row x i) (drow dh g sc i) k))
  pointwise [k0_pay2, k0_pay6, k0_pay7, k0_pay8]
  rfl

/-- A column's sum. -/
abbrev colsum {a : ℕ} (f : Fin a → EReal) : EReal := ∑ i : Fin a, f i

theorem dsh_ref (dh : FVec Ideal S8192x1024 .f32) (j : S1x1024.Idx) :
    val_main_v24 (F := Ideal) dh j = ∑ i : Fin 8192, dh (ix2 i (j 1)) := by
  obtain ⟨z, k, rfl⟩ := two_idx j
  simp only [val_main_cst_5_apply, val_main_v23_apply, val_main_v24_apply]
  pointwise
  blk_point []

theorem dsc_ref (dh x : FVec Ideal S8192x1024 .f32) (g : FVec Ideal S1x1024 .f32) (j : S1x1024.Idx) :
    val_main_v27 (F := Ideal) dh x g j = ∑ i : Fin 8192, (x (ix2 i (j 1)) * rs Nw ew (row x i)) * g (ix2 0 (j 1)) * dh (ix2 i (j 1)) := by
  obtain ⟨z, k, rfl⟩ := two_idx j
  simp only [val_main_v1_apply, val_main_cst_0_apply, val_main_v2_apply, val_main_v3_apply, val_main_cst_1_apply, val_main_v4_apply, val_main_v5_apply, val_main_cst_2_apply, val_main_v6_apply, val_main_v7_apply, val_main_v8_apply, val_main_v12_apply, val_main_v13_apply, val_main_v14_apply, val_main_v15_apply, val_main_v22_apply, val_main_v25_apply, val_main_cst_6_apply, val_main_v26_apply, val_main_v27_apply]
  unfold rs row
  pointwise
  blk_point []

theorem dg_ref (dh x : FVec Ideal S8192x1024 .f32) (sc : FVec Ideal S1x1024 .f32) (j : S1x1024.Idx) :
    val_main_v32 (F := Ideal) dh x sc j = ∑ i : Fin 8192, (x (ix2 i (j 1)) * rs Nw ew (row x i)) * (dh (ix2 i (j 1)) * (1 + sc (ix2 0 (j 1)))) := by
  obtain ⟨z, k, rfl⟩ := two_idx j
  simp only [val_main_v1_apply, val_main_cst_0_apply, val_main_v2_apply, val_main_v3_apply, val_main_cst_1_apply, val_main_v4_apply, val_main_v5_apply, val_main_cst_2_apply, val_main_v6_apply, val_main_v7_apply, val_main_v8_apply, val_main_v12_apply, val_main_v13_apply, val_main_cst_4_apply, val_main_v16_apply, val_main_v17_apply, val_main_v22_apply, val_main_v28_apply, val_main_v29_apply, val_main_v30_apply, val_main_cst_7_apply, val_main_v31_apply, val_main_v32_apply]
  unfold rs row
  pointwise
  blk_point []

theorem dsh_ker (dh : FVec Ideal S512x1024 .f32) (acc : FVec Ideal S1x1024 .f32) (j : S1x1024.Idx) :
    k0_pay9 (F := Ideal) dh acc j = acc j + ∑ i : Fin 512, dh (ix2 i (j 1)) := by
  pointwise [k0_pay9]

theorem dsc_ker (dh x : FVec Ideal S512x1024 .f32) (g acc : FVec Ideal S1x1024 .f32) (j : S1x1024.Idx) :
    k0_pay10 (F := Ideal) x dh g acc j = acc j + ∑ i : Fin 512, (x (ix2 i (j 1)) * rs Nw ew (row x i)) * g (ix2 0 (j 1)) * dh (ix2 i (j 1)) := by
  unfold rs row
  pointwise [k0_pay10, k0_pay7, k0_pay6]
  refine congrArg _ (Finset.sum_congr rfl fun i _ => mul_comm _ _)

theorem dg_ker (dh x : FVec Ideal S512x1024 .f32) (sc acc : FVec Ideal S1x1024 .f32) (j : S1x1024.Idx) :
    k0_pay1 (F := Ideal) dh (k0_pay7 x) (k0_pay8 sc) acc j = acc j + ∑ i : Fin 512, (x (ix2 i (j 1)) * rs Nw ew (row x i)) * (dh (ix2 i (j 1)) * (1 + sc (ix2 0 (j 1)))) := by
  unfold rs row
  pointwise [k0_pay1, k0_pay7, k0_pay6, k0_pay8]
  refine congrArg _ (Finset.sum_congr rfl fun i _ => mul_comm _ _)

theorem zero3 (j) : k0_pay3 (F := Ideal) j = 0 := by pointwise [k0_pay3]
theorem zero4 (j) : k0_pay4 (F := Ideal) j = 0 := by pointwise [k0_pay4]
theorem zero5 (j) : k0_pay5 (F := Ideal) j = 0 := by pointwise [k0_pay5]

/-- Where each grid point's blocks lie. -/
theorem idx : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![t.val, 0] ∧ win0_6.index t = ![0, 0] ∧ win0_7.index t = ![0, 0] ∧ win0_8.index t = ![0, 0] :=
  (by decide +kernel : ∀ t : Fin grid0.N, _)

theorem point (c : Dev nD) (t : Fin cfg0.N) (j : S512x1024.Idx) :
    (outsAt0 m c t.val t.isLt).1 j = dxOf (iblk m c 0 t) (iblk m c 1 t) (iblk m c 2 t) (iblk m c 3 t) (iblk m c 4 t) (j 0) (j 1) := by
  by_cases h : t.val % 16 = 0
  · rw [outsAt0_A m c t h]; frame_out; exact dx_ker _ _ _ _ _ j
  · rw [outsAt0_B m c t h]; frame_out; exact dx_ker _ _ _ _ _ j

theorem final_dx (c : Dev nD) : (dats m 0 c).arrAt 5 (cfgs 0).N
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, point m c t, dx_ref]
  unfold dxOf drow row
  blk_point [iblk, V, idx t]

theorem final_dsh (c : Dev nD) : (dats m 0 c).arrAt 6 (cfgs 0).N
    = val_main_v24 (F := Ideal) (m ((c : Thread nD τ).loc main_arg0)) := by
  refine (dats m 0 c).arrAt_eq_of_covers 6 _ (by decide +kernel) fun t hf y => ?_
  blk_simp
  rw [after0_6, Pipeline.eq_sum_fin_of_reset_step_apply_of_flush (fun n h => (outsAt0 m c n h).2.1) 16 (fun _ => 0) _
    (fun t h j => by rw [outsAt0_A m c t h]; frame_out; rw [dsh_ker, zero3]) (fun t h j => by rw [outsAt0_B m c t h]; frame_out; rw [dsh_ker])
    t ((flush0_6 t).mp hf) _, zero_add, dsh_ref]
  refine Fin.sum_mul_add_congr fun s k hl => ?_
  blk_point [iblk, V, idx t, idx ⟨_, Pipeline.run_point_lt_of_flush t ((flush0_6 t).mp hf) s⟩]

theorem final_dsc (c : Dev nD) : (dats m 0 c).arrAt 7 (cfgs 0).N
    = val_main_v27 (F := Ideal) (m ((c : Thread nD τ).loc main_arg0)) (m ((c : Thread nD τ).loc main_arg1)) (m ((c : Thread nD τ).loc main_arg3)) := by
  refine (dats m 0 c).arrAt_eq_of_covers 7 _ (by decide +kernel) fun t hf y => ?_
  blk_simp
  rw [after0_7, Pipeline.eq_sum_fin_of_reset_step_apply_of_flush (fun n h => (outsAt0 m c n h).2.2.1) 16 (fun _ => 0) _
    (fun t h j => by rw [outsAt0_A m c t h]; frame_out; rw [dsc_ker, zero4]) (fun t h j => by rw [outsAt0_B m c t h]; frame_out; rw [dsc_ker])
    t ((flush0_7 t).mp hf) _, zero_add, dsc_ref]
  refine Fin.sum_mul_add_congr fun s k hl => ?_
  unfold rs row
  blk_point [iblk, V, idx t, idx ⟨_, Pipeline.run_point_lt_of_flush t ((flush0_7 t).mp hf) s⟩]

theorem final_dg (c : Dev nD) : (dats m 0 c).arrAt 8 (cfgs 0).N
    = val_main_v32 (F := Ideal) (m ((c : Thread nD τ).loc main_arg0)) (m ((c : Thread nD τ).loc main_arg1)) (m ((c : Thread nD τ).loc main_arg4)) := by
  refine (dats m 0 c).arrAt_eq_of_covers 8 _ (by decide +kernel) fun t hf y => ?_
  blk_simp
  rw [after0_8, Pipeline.eq_sum_fin_of_reset_step_apply_of_flush (fun n h => (outsAt0 m c n h).2.2.2) 16 (fun _ => 0) _
    (fun t h j => by rw [outsAt0_A m c t h]; frame_out; rw [dg_ker, zero5]) (fun t h j => by rw [outsAt0_B m c t h]; frame_out; rw [dg_ker])
    t ((flush0_8 t).mp hf) _, zero_add, dg_ref]
  refine Fin.sum_mul_add_congr fun s k hl => ?_
  unfold rs row
  blk_point [iblk, V, idx t, idx ⟨_, Pipeline.run_point_lt_of_flush t ((flush0_8 t).mp hf) s⟩]

end Cert.PrenormBwdFin
-- ==== Proof.PrenormPostBwdFin.lean ====
/-
  The norms' backward pass of a whole residual branch: the gradient through the norm before the branch, as in
  `PrenormBwdFin`, and, of the sum, the gradient through the gated norm after the branch before it.
-/
module

public import proofs.«01_k».proof.Proof.Gen.PrenormPostBwdIdeal.Frame
public import proofs.«01_k».proof.Proof.Gen.PrenormPostBwdRefIdeal.Read
public import proofs.«01_k».proof.Proof.Norm
public import proofs.«01_k».proof.Proof.PrenormBwdFin
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PrenormPostBwdFin
open Cert.PrenormPostBwdIdeal Cert.PrenormPostBwdIdeal.Gen Cert.PrenormPostBwdRefIdeal.Read Cert.Norm

open Cert.PrenormBwdFin (dxOf)

variable (m : (ℓ : Loc nD τ sig) → Buf (Elt Ideal) ℓ)

/-! ## The norm before the branch: the kernel and the reference compute what the first norm's do -/

theorem dx_ref (dh x dres : FVec Ideal S8192x1024 .f32) (g sc : FVec Ideal S1x1024 .f32) (j : S8192x1024.Idx) :
    val_main_v49 (F := Ideal) dh x dres g sc j = dxOf dh x dres g sc (j 0) (j 1) := PrenormBwdFin.dx_ref dh x dres g sc j

theorem dx_ker (dh x dres : FVec Ideal S512x1024 .f32) (g sc : FVec Ideal S1x1024 .f32) (j : S512x1024.Idx) :
    k0_pay14 (F := Ideal) dh (k0_pay8 x) (k0_pay9 x) g (k0_pay10 sc) dres j = dxOf dh x dres g sc (j 0) (j 1) := PrenormBwdFin.dx_ker dh x dres g sc j

theorem dsh_ref (dh : FVec Ideal S8192x1024 .f32) (j : S1x1024.Idx) :
    val_main_v24 (F := Ideal) dh j = ∑ i : Fin 8192, dh (ix2 i (j 1)) := PrenormBwdFin.dsh_ref dh j

theorem dsc_ref (dh x : FVec Ideal S8192x1024 .f32) (g : FVec Ideal S1x1024 .f32) (j : S1x1024.Idx) :
    val_main_v27 (F := Ideal) dh x g j = ∑ i : Fin 8192, (x (ix2 i (j 1)) * rs Nw ew (row x i)) * g (ix2 0 (j 1)) * dh (ix2 i (j 1)) := PrenormBwdFin.dsc_ref dh x g j

theorem dg_ref (dh x : FVec Ideal S8192x1024 .f32) (sc : FVec Ideal S1x1024 .f32) (j : S1x1024.Idx) :
    val_main_v32 (F := Ideal) dh x sc j = ∑ i : Fin 8192, (x (ix2 i (j 1)) * rs Nw ew (row x i)) * (dh (ix2 i (j 1)) * (1 + sc (ix2 0 (j 1)))) := PrenormBwdFin.dg_ref dh x sc j

theorem dsh_ker (dh : FVec Ideal S512x1024 .f32) (acc : FVec Ideal S1x1024 .f32) (j : S1x1024.Idx) :
    k0_pay11 (F := Ideal) dh acc j = acc j + ∑ i : Fin 512, dh (ix2 i (j 1)) := PrenormBwdFin.dsh_ker dh acc j

theorem dsc_ker (dh x : FVec Ideal S512x1024 .f32) (g acc : FVec Ideal S1x1024 .f32) (j : S1x1024.Idx) :
    k0_pay12 (F := Ideal) x dh g acc j = acc j + ∑ i : Fin 512, (x (ix2 i (j 1)) * rs Nw ew (row x i)) * g (ix2 0 (j 1)) * dh (ix2 i (j 1)) := PrenormBwdFin.dsc_ker dh x g acc j

theorem dg_ker (dh x : FVec Ideal S512x1024 .f32) (sc acc : FVec Ideal S1x1024 .f32) (j : S1x1024.Idx) :
    k0_pay13 (F := Ideal) dh (k0_pay9 x) (k0_pay10 sc) acc j = acc j + ∑ i : Fin 512, (x (ix2 i (j 1)) * rs Nw ew (row x i)) * (dh (ix2 i (j 1)) * (1 + sc (ix2 0 (j 1)))) := PrenormBwdFin.dg_ker dh x sc acc j

/-! ## The gated norm after the branch before -/

theorem dy_ref (dh x dres : FVec Ideal S8192x1024 .f32) (g sc : FVec Ideal S1x1024 .f32) (y : FVec Ideal S8192x1024 .f32) (gp gate : FVec Ideal S1x1024 .f32) (j : S8192x1024.Idx) :
    val_main_v92 (F := Ideal) dh x dres g sc y gp gate j = dyOf (val_main_v49 (F := Ideal) dh x dres g sc) y gp gate (j 0) (j 1) := by
  obtain ⟨i, k, rfl⟩ := two_idx j
  simp only [val_main_v51_apply, val_main_cst_12_apply, val_main_v52_apply, val_main_v53_apply, val_main_cst_13_apply, val_main_v54_apply, val_main_v55_apply, val_main_cst_14_apply, val_main_v56_apply, val_main_v57_apply, val_main_v58_apply, val_main_v59_apply, val_main_cst_15_apply, val_main_v60_apply, val_main_v61_apply, val_main_v69_apply, val_main_v70_apply, val_main_v77_apply, val_main_v78_apply, val_main_v79_apply, val_main_cst_18_apply, val_main_v80_apply, val_main_v81_apply, val_main_v82_apply, val_main_v83_apply, val_main_v84_apply, val_main_cst_19_apply, val_main_v85_apply, val_main_v86_apply, val_main_cst_20_apply, val_main_v87_apply, val_main_v88_apply, val_main_v89_apply, val_main_v90_apply, val_main_v91_apply, val_main_v92_apply]
  unfold dyOf back Norm.slope rs grow row
  generalize val_main_v49 (F := Ideal) dh x dres g sc = D
  pointwise
  simp only [Finset.univ_unique, Finset.sum_singleton]
  blk_point []

theorem dgate_ref (dh x dres : FVec Ideal S8192x1024 .f32) (g sc : FVec Ideal S1x1024 .f32) (y : FVec Ideal S8192x1024 .f32) (gp : FVec Ideal S1x1024 .f32) (j : S1x1024.Idx) :
    val_main_v73 (F := Ideal) dh x dres g sc y gp j = ∑ i : Fin 8192, val_main_v49 (F := Ideal) dh x dres g sc (ix2 i (j 1)) * ((y (ix2 i (j 1)) * rs Nw ew (row y i)) * gp (ix2 0 (j 1))) := by
  obtain ⟨z, k, rfl⟩ := two_idx j
  simp only [val_main_v51_apply, val_main_cst_12_apply, val_main_v52_apply, val_main_v53_apply, val_main_cst_13_apply, val_main_v54_apply, val_main_v55_apply, val_main_cst_14_apply, val_main_v56_apply, val_main_v57_apply, val_main_v58_apply, val_main_v62_apply, val_main_v63_apply, val_main_v64_apply, val_main_v65_apply, val_main_v71_apply, val_main_cst_16_apply, val_main_v72_apply, val_main_v73_apply]
  unfold rs row
  generalize val_main_v49 (F := Ideal) dh x dres g sc = D
  pointwise
  blk_point []

theorem dgp_ref (dh x dres : FVec Ideal S8192x1024 .f32) (g sc : FVec Ideal S1x1024 .f32) (y : FVec Ideal S8192x1024 .f32) (gate : FVec Ideal S1x1024 .f32) (j : S1x1024.Idx) :
    val_main_v76 (F := Ideal) dh x dres g sc y gate j = ∑ i : Fin 8192, (y (ix2 i (j 1)) * rs Nw ew (row y i)) * (gate (ix2 0 (j 1)) * val_main_v49 (F := Ideal) dh x dres g sc (ix2 i (j 1))) := by
  obtain ⟨z, k, rfl⟩ := two_idx j
  simp only [val_main_v51_apply, val_main_cst_12_apply, val_main_v52_apply, val_main_v53_apply, val_main_cst_13_apply, val_main_v54_apply, val_main_v55_apply, val_main_cst_14_apply, val_main_v56_apply, val_main_v57_apply, val_main_v58_apply, val_main_v62_apply, val_main_v63_apply, val_main_v69_apply, val_main_v70_apply, val_main_v74_apply, val_main_cst_17_apply, val_main_v75_apply, val_main_v76_apply]
  unfold rs row
  generalize val_main_v49 (F := Ideal) dh x dres g sc = D
  pointwise
  blk_point []

theorem db_ref (dh x dres : FVec Ideal S8192x1024 .f32) (g sc : FVec Ideal S1x1024 .f32) (y : FVec Ideal S8192x1024 .f32) (gp gate : FVec Ideal S1x1024 .f32) (j : S1x1024.Idx) :
    val_main_v95 (F := Ideal) dh x dres g sc y gp gate j = ∑ i : Fin 8192, dyOf (val_main_v49 (F := Ideal) dh x dres g sc) y gp gate i (j 1) := by
  obtain ⟨z, k, rfl⟩ := two_idx j
  rw [val_main_v95_apply, val_main_v94_apply, show val_main_cst_21 (F := Ideal) _ = (0 : EReal) from Ideal.ofBits_zero_f32, zero_add]
  refine Finset.sum_congr rfl fun i _ => (dy_ref dh x dres g sc y gp gate _).trans ?_
  generalize val_main_v49 (F := Ideal) dh x dres g sc = D
  rfl

theorem dy_ker (D y : FVec Ideal S512x1024 .f32) (gp gate : FVec Ideal S1x1024 .f32) (j : S512x1024.Idx) :
    k0_pay19 (F := Ideal) D (k0_pay15 y) (k0_pay16 y) gp gate j = dyOf D y gp gate (j 0) (j 1) := by
  obtain ⟨i, k, rfl⟩ := two_idx j
  refine Eq.trans ?_ (back_eq (row y i) (grow D gp gate i) k)
  unfold grow
  simp only [mul_comm (gate _)]
  pointwise [k0_pay19, k0_pay15, k0_pay16]
  rfl

theorem dgate_ker (D y : FVec Ideal S512x1024 .f32) (gp acc : FVec Ideal S1x1024 .f32) (j : S1x1024.Idx) :
    k0_pay17 (F := Ideal) D (k0_pay16 y) gp acc j = acc j + ∑ i : Fin 512, D (ix2 i (j 1)) * ((y (ix2 i (j 1)) * rs Nw ew (row y i)) * gp (ix2 0 (j 1))) := by
  unfold rs row
  pointwise [k0_pay17, k0_pay16, k0_pay15]

theorem dgp_ker (D y : FVec Ideal S512x1024 .f32) (gate acc : FVec Ideal S1x1024 .f32) (j : S1x1024.Idx) :
    k0_pay18 (F := Ideal) D (k0_pay16 y) gate acc j = acc j + ∑ i : Fin 512, (y (ix2 i (j 1)) * rs Nw ew (row y i)) * (gate (ix2 0 (j 1)) * D (ix2 i (j 1))) := by
  unfold rs row
  pointwise [k0_pay18, k0_pay16, k0_pay15]
  refine congrArg _ (Finset.sum_congr rfl fun i _ => (mul_comm _ _).trans (congrArg _ (mul_comm _ _)))

theorem db_ker (D y : FVec Ideal S512x1024 .f32) (gp gate acc : FVec Ideal S1x1024 .f32) (j : S1x1024.Idx) :
    k0_pay20 (F := Ideal) D (k0_pay15 y) (k0_pay16 y) gp gate acc j = acc j + ∑ i : Fin 512, dyOf D y gp gate i (j 1) := by
  obtain ⟨z, k, rfl⟩ := two_idx j
  pointwise [k0_pay20]
  exact congrArg _ (Finset.sum_congr rfl fun i _ => dy_ker D y gp gate (ix2 i k))

theorem zero2 (j) : k0_pay2 (F := Ideal) j = 0 := by pointwise [k0_pay2]
theorem zero3 (j) : k0_pay3 (F := Ideal) j = 0 := by pointwise [k0_pay3]
theorem zero4 (j) : k0_pay4 (F := Ideal) j = 0 := by pointwise [k0_pay4]
theorem zero5 (j) : k0_pay5 (F := Ideal) j = 0 := by pointwise [k0_pay5]
theorem zero6 (j) : k0_pay6 (F := Ideal) j = 0 := by pointwise [k0_pay6]
theorem zero7 (j) : k0_pay7 (F := Ideal) j = 0 := by pointwise [k0_pay7]

/-- Where each grid point's blocks lie. -/
theorem idx : ∀ t : Fin cfg0.N, win0_0.index t = ![t.val, 0] ∧ win0_1.index t = ![t.val, 0] ∧ win0_2.index t = ![t.val, 0] ∧ win0_3.index t = ![0, 0] ∧ win0_4.index t = ![0, 0]
    ∧ win0_5.index t = ![t.val, 0] ∧ win0_6.index t = ![0, 0] ∧ win0_7.index t = ![0, 0]
    ∧ win0_8.index t = ![t.val, 0] ∧ win0_9.index t = ![0, 0] ∧ win0_10.index t = ![0, 0] ∧ win0_11.index t = ![0, 0]
    ∧ win0_12.index t = ![t.val, 0] ∧ win0_13.index t = ![0, 0] ∧ win0_14.index t = ![0, 0] ∧ win0_15.index t = ![0, 0] :=
  (by decide +kernel : ∀ t : Fin grid0.N, _)

/-- A point's gradient of its rows. -/
abbrev dxBlk (c : Dev nD) (t : Fin cfg0.N) : Mat 512 :=
  k0_pay14 (F := Ideal) (iblk m c 0 t) (k0_pay8 (iblk m c 1 t)) (k0_pay9 (iblk m c 1 t)) (iblk m c 3 t) (k0_pay10 (iblk m c 4 t)) (iblk m c 2 t)

/-- Row `i` of point `t` is the reference's row. -/
theorem dxBlk_eq (c : Dev nD) (t : Fin cfg0.N) (i : Fin 512) (k : Fin 1024) (r : Fin 8192) (h : r.val = t.val * 512 + i.val) :
    dxBlk m c t (ix2 i k) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r k) := by
  unfold dxBlk
  rw [dx_ker, dx_ref]
  unfold dxOf drow row
  show _ + back _ _ k = _ + back _ _ k
  blk_point [iblk, V, idx t]

theorem point_dx (c : Dev nD) (t : Fin cfg0.N) (j : S512x1024.Idx) : (outsAt0 m c t.val t.isLt).1 j = dxBlk m c t j := by
  by_cases h : t.val % 16 = 0
  · rw [outsAt0_A m c t h]; frame_out
  · rw [outsAt0_B m c t h]; frame_out

theorem point_dy (c : Dev nD) (t : Fin cfg0.N) (j : S512x1024.Idx) :
    (outsAt0 m c t.val t.isLt).2.2.2.2.1 j = dyOf (dxBlk m c t) (iblk m c 5 t) (iblk m c 6 t) (iblk m c 7 t) (j 0) (j 1) := by
  by_cases h : t.val % 16 = 0
  · rw [outsAt0_A m c t h]; frame_out; exact dy_ker (dxBlk m c t) _ _ _ j
  · rw [outsAt0_B m c t h]; frame_out; exact dy_ker (dxBlk m c t) _ _ _ j

theorem final_dx (c : Dev nD) : (dats m 0 c).arrAt 8 (cfgs 0).N
    = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, point_dx m c t]
  unfold dxBlk
  rw [dx_ker, dx_ref]
  unfold dxOf drow row
  blk_point [iblk, V, idx t]

theorem final_dsh (c : Dev nD) : (dats m 0 c).arrAt 9 (cfgs 0).N
    = val_main_v24 (F := Ideal) (m ((c : Thread nD τ).loc main_arg0)) := by
  refine (dats m 0 c).arrAt_eq_of_covers 9 _ (by decide +kernel) fun t hf y => ?_
  blk_simp
  rw [after0_9, Pipeline.eq_sum_fin_of_reset_step_apply_of_flush (fun n h => (outsAt0 m c n h).2.1) 16 (fun _ => 0) _
    (fun t h j => by rw [outsAt0_A m c t h]; frame_out; rw [dsh_ker, zero2]) (fun t h j => by rw [outsAt0_B m c t h]; frame_out; rw [dsh_ker])
    t ((flush0_9 t).mp hf) _, zero_add, dsh_ref]
  refine Fin.sum_mul_add_congr fun s k hl => ?_
  blk_point [iblk, V, idx t, idx ⟨_, Pipeline.run_point_lt_of_flush t ((flush0_9 t).mp hf) s⟩]

theorem final_dsc (c : Dev nD) : (dats m 0 c).arrAt 10 (cfgs 0).N
    = val_main_v27 (F := Ideal) (m ((c : Thread nD τ).loc main_arg0)) (m ((c : Thread nD τ).loc main_arg1)) (m ((c : Thread nD τ).loc main_arg3)) := by
  refine (dats m 0 c).arrAt_eq_of_covers 10 _ (by decide +kernel) fun t hf y => ?_
  blk_simp
  rw [after0_10, Pipeline.eq_sum_fin_of_reset_step_apply_of_flush (fun n h => (outsAt0 m c n h).2.2.1) 16 (fun _ => 0) _
    (fun t h j => by rw [outsAt0_A m c t h]; frame_out; rw [dsc_ker, zero3]) (fun t h j => by rw [outsAt0_B m c t h]; frame_out; rw [dsc_ker])
    t ((flush0_10 t).mp hf) _, zero_add, dsc_ref]
  refine Fin.sum_mul_add_congr fun s k hl => ?_
  unfold rs row
  blk_point [iblk, V, idx t, idx ⟨_, Pipeline.run_point_lt_of_flush t ((flush0_10 t).mp hf) s⟩]

theorem final_dg (c : Dev nD) : (dats m 0 c).arrAt 11 (cfgs 0).N
    = val_main_v32 (F := Ideal) (m ((c : Thread nD τ).loc main_arg0)) (m ((c : Thread nD τ).loc main_arg1)) (m ((c : Thread nD τ).loc main_arg4)) := by
  refine (dats m 0 c).arrAt_eq_of_covers 11 _ (by decide +kernel) fun t hf y => ?_
  blk_simp
  rw [after0_11, Pipeline.eq_sum_fin_of_reset_step_apply_of_flush (fun n h => (outsAt0 m c n h).2.2.2.1) 16 (fun _ => 0) _
    (fun t h j => by rw [outsAt0_A m c t h]; frame_out; rw [dg_ker, zero4]) (fun t h j => by rw [outsAt0_B m c t h]; frame_out; rw [dg_ker])
    t ((flush0_11 t).mp hf) _, zero_add, dg_ref]
  refine Fin.sum_mul_add_congr fun s k hl => ?_
  unfold rs row
  blk_point [iblk, V, idx t, idx ⟨_, Pipeline.run_point_lt_of_flush t ((flush0_11 t).mp hf) s⟩]

theorem final_dy (c : Dev nD) : (dats m 0 c).arrAt 12 (cfgs 0).N
    = val_main_v93 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 12 _ (by decide +kernel) fun t hf y => ?_
  blk_simp
  rw [after0_12, point_dy m c t]
  refine Eq.trans ?_ (dy_ref _ _ _ _ _ _ _ _ _).symm
  refine dyOf_congr (fun q => dxBlk_eq m c t (y 0) q _ ?_) (fun q => ?_) (fun q => ?_) (fun q => ?_) ?_
  · blk_simp [idx t]
  · blk_point [iblk, V, idx t]
  · blk_point [iblk, V, idx t]
  · blk_point [iblk, V, idx t]
  · refine Fin.ext ?_
    blk_simp [idx t]

theorem final_dgate (c : Dev nD) : (dats m 0 c).arrAt 13 (cfgs 0).N
    = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 13 _ (by decide +kernel) fun t hf y => ?_
  blk_simp
  rw [after0_13, Pipeline.eq_sum_fin_of_reset_step_apply_of_flush (fun n h => (outsAt0 m c n h).2.2.2.2.2.1) 16 (fun _ => 0) _
    (fun t h j => by rw [outsAt0_A m c t h]; frame_out; rw [dgate_ker, zero5]) (fun t h j => by rw [outsAt0_B m c t h]; frame_out; rw [dgate_ker])
    t ((flush0_13 t).mp hf) _, zero_add, dgate_ref]
  refine Fin.sum_mul_add_congr fun s k hl => ?_
  have hr : s.val * 512 + k.val = (16 * (t.val / 16) + s.val) * 512 + k.val := by have : t.val < 16 := lt_of_lt_of_eq t.isLt N_0; omega
  refine (Ideal.mul_congr (dxBlk_eq m c ⟨16 * (t.val / 16) + s.val, _⟩ k (y 1) ⟨s.val * 512 + k.val, hl⟩ hr) rfl).trans ?_
  generalize val_main_v49 (F := Ideal) _ _ _ _ _ = D
  unfold rs row
  blk_point [iblk, V, idx t, idx ⟨_, Pipeline.run_point_lt_of_flush t ((flush0_13 t).mp hf) s⟩]

theorem final_dgp (c : Dev nD) : (dats m 0 c).arrAt 14 (cfgs 0).N
    = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg7)) := by
  refine (dats m 0 c).arrAt_eq_of_covers 14 _ (by decide +kernel) fun t hf y => ?_
  blk_simp
  rw [after0_14, Pipeline.eq_sum_fin_of_reset_step_apply_of_flush (fun n h => (outsAt0 m c n h).2.2.2.2.2.2.1) 16 (fun _ => 0) _
    (fun t h j => by rw [outsAt0_A m c t h]; frame_out; rw [dgp_ker, zero6]) (fun t h j => by rw [outsAt0_B m c t h]; frame_out; rw [dgp_ker])
    t ((flush0_14 t).mp hf) _, zero_add, dgp_ref]
  refine Fin.sum_mul_add_congr fun s k hl => ?_
  have hr : s.val * 512 + k.val = (16 * (t.val / 16) + s.val) * 512 + k.val := by have : t.val < 16 := lt_of_lt_of_eq t.isLt N_0; omega
  refine (Ideal.mul_congr rfl (Ideal.mul_congr rfl (dxBlk_eq m c ⟨16 * (t.val / 16) + s.val, _⟩ k (y 1) ⟨s.val * 512 + k.val, hl⟩ hr))).trans ?_
  generalize val_main_v49 (F := Ideal) _ _ _ _ _ = D
  unfold rs row
  blk_point [iblk, V, idx t, idx ⟨_, Pipeline.run_point_lt_of_flush t ((flush0_14 t).mp hf) s⟩]

theorem final_db (c : Dev nD) : (dats m 0 c).arrAt 15 (cfgs 0).N
    = val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 15 _ (by decide +kernel) fun t hf y => ?_
  blk_simp
  rw [after0_15, Pipeline.eq_sum_fin_of_reset_step_apply_of_flush (fun n h => (outsAt0 m c n h).2.2.2.2.2.2.2) 16 (fun _ => 0) _
    (fun t h j => by rw [outsAt0_A m c t h]; frame_out; rw [db_ker, zero7]) (fun t h j => by rw [outsAt0_B m c t h]; frame_out; rw [db_ker])
    t ((flush0_15 t).mp hf) _, zero_add, db_ref]
  refine Fin.sum_mul_add_congr fun s k hl => ?_
  have hr : s.val * 512 + k.val = (16 * (t.val / 16) + s.val) * 512 + k.val := by have : t.val < 16 := lt_of_lt_of_eq t.isLt N_0; omega
  refine dyOf_congr (fun q => dxBlk_eq m c ⟨16 * (t.val / 16) + s.val, _⟩ k q ⟨s.val * 512 + k.val, hl⟩ hr) (fun q => ?_) (fun q => ?_) (fun q => ?_) ?_
  · blk_point [iblk, V, idx t, idx ⟨_, Pipeline.run_point_lt_of_flush t ((flush0_15 t).mp hf) s⟩]
  · blk_point [iblk, V, idx t, idx ⟨_, Pipeline.run_point_lt_of_flush t ((flush0_15 t).mp hf) s⟩]
  · blk_point [iblk, V, idx t, idx ⟨_, Pipeline.run_point_lt_of_flush t ((flush0_15 t).mp hf) s⟩]
  · refine Fin.ext ?_
    blk_simp [idx t]

end Cert.PrenormPostBwdFin
-- ==== Proof.PostLossFin.lean ====
/-
  The last norm with the loss: each grid point takes 512 rows, writes the loss's gradient of its rows and the gradient
  through the gated norm, and adds its rows' squared errors and the sums for the gate's and the norm's gradients.
-/
module

public import proofs.«01_k».proof.Proof.Gen.PostLossIdeal.Frame
public import proofs.«01_k».proof.Proof.Gen.PostLossRefIdeal.Read
public import proofs.«01_k».proof.Proof.Norm
public import proofs.«01_k».proof.Proof.PrenormPostBwdFin
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PostLossFin
open Cert.PostLossIdeal Cert.PostLossIdeal.Gen Cert.PostLossRefIdeal.Read Cert.Norm

variable (m : (ℓ : Loc nD τ sig) → Buf (Elt Ideal) ℓ)

/-- The error of one element: the residual sum, less the target. -/
abbrev errOf {a : ℕ} (x y tgt : Mat a) (g gate : Row) (i : Fin a) (k : Fin 1024) : EReal :=
  (x (ix2 i k) + gate (ix2 0 k) * ((y (ix2 i k) * rs Nw ew (row y i)) * g (ix2 0 k))) - tgt (ix2 i k)

/-- One over the width. -/
abbrev qw : EReal := Ideal.ofBits .f32 0x3A800000#32

/-- Half of one over the width, times twice the error, is the error over the width. -/
theorem scale_eq (e : EReal) :
    Ideal.div (Ideal.ofBits .f32 0x3F000000#32 * Ideal.ofBits .f32 0x3F800000#32) Nw * (Ideal.ofBits .f32 0x40000000#32 * e) = e * qw := by
  have h1 : Ideal.ofBits .f32 0x3F000000#32 = ((1 / 2 : ℝ) : EReal) := by simp [Ideal.ofBits, Ideal.ieee, -EReal.coe_mul]; norm_num
  have h2 : Ideal.ofBits .f32 0x3F800000#32 = ((1 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  have h4 : qw = ((1 / 1024 : ℝ) : EReal) := by simp [qw, Ideal.ofBits, Ideal.ieee, -EReal.coe_mul]; norm_num
  rw [h1, h2, h3, h4, show Nw = _ from width_val, Ideal.div_coe (by norm_num), ← EReal.coe_mul, ← EReal.coe_mul, ← mul_assoc, ← EReal.coe_mul, mul_comm e]
  congr 2
  norm_num

theorem dx_ref (x y : FVec Ideal S8192x1024 .f32) (g gate : FVec Ideal S1x1024 .f32) (tgt : FVec Ideal S8192x1024 .f32) (j : S8192x1024.Idx) :
    val_main_v32 (F := Ideal) x y g gate tgt j = errOf x y tgt g gate (j 0) (j 1) * qw := by
  obtain ⟨i, k, rfl⟩ := two_idx j
  refine Eq.trans ?_ (scale_eq _)
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v11_apply, val_main_v12_apply, val_main_v13_apply, val_main_v14_apply, val_main_v15_apply, val_main_v16_apply, val_main_v17_apply, val_main_v18_apply, val_main_cst_3_apply, val_main_v20_apply, val_main_v21_apply, val_main_cst_8_apply, val_main_cst_9_apply, val_main_v27_apply, val_main_v28_apply, val_main_cst_10_apply, val_main_v29_apply, val_main_v30_apply, val_main_v31_apply, val_main_v32_apply]
  unfold errOf rs row
  pointwise
  blk_point []

theorem err_ref (x y : FVec Ideal S8192x1024 .f32) (g gate : FVec Ideal S1x1024 .f32) (tgt : FVec Ideal S8192x1024 .f32) (j : S1x1024.Idx) :
    val_main_v75 (F := Ideal) x y g gate tgt j = ∑ i : Fin 8192, errOf x y tgt g gate i (j 1) * errOf x y tgt g gate i (j 1) := by
  obtain ⟨z, k, rfl⟩ := two_idx j
  simp only [val_main_v57_apply, val_main_cst_16_apply, val_main_v58_apply, val_main_v59_apply, val_main_cst_17_apply, val_main_v60_apply, val_main_v61_apply, val_main_cst_18_apply, val_main_v62_apply, val_main_v63_apply, val_main_v64_apply, val_main_v65_apply, val_main_v66_apply, val_main_v67_apply, val_main_v68_apply, val_main_v69_apply, val_main_v70_apply, val_main_v71_apply, val_main_v72_apply, val_main_v73_apply, val_main_cst_19_apply, val_main_v74_apply, val_main_v75_apply]
  unfold errOf rs row
  pointwise
  blk_point []

theorem dy_ref (x y : FVec Ideal S8192x1024 .f32) (g gate : FVec Ideal S1x1024 .f32) (tgt : FVec Ideal S8192x1024 .f32) (j : S8192x1024.Idx) :
    val_main_v56 (F := Ideal) x y g gate tgt j = dyOf (val_main_v32 (F := Ideal) x y g gate tgt) y g gate (j 0) (j 1) := by
  obtain ⟨i, k, rfl⟩ := two_idx j
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_cst_2_apply, val_main_v9_apply, val_main_v10_apply, val_main_v11_apply, val_main_v12_apply, val_main_v13_apply, val_main_v14_apply, val_main_v15_apply, val_main_v16_apply, val_main_v17_apply, val_main_v18_apply, val_main_cst_3_apply, val_main_v20_apply, val_main_v21_apply, val_main_cst_8_apply, val_main_cst_9_apply, val_main_v27_apply, val_main_v28_apply, val_main_cst_10_apply, val_main_v29_apply, val_main_v30_apply, val_main_v31_apply, val_main_v33_apply, val_main_v34_apply, val_main_v41_apply, val_main_v42_apply, val_main_v43_apply, val_main_cst_13_apply, val_main_v44_apply, val_main_v45_apply, val_main_v46_apply, val_main_v47_apply, val_main_v48_apply, val_main_cst_14_apply, val_main_v49_apply, val_main_v50_apply, val_main_cst_15_apply, val_main_v51_apply, val_main_v52_apply, val_main_v53_apply, val_main_v54_apply, val_main_v55_apply, val_main_v56_apply]
  unfold dyOf back Norm.slope rs grow row
  generalize val_main_v32 (F := Ideal) x y g gate tgt = D
  pointwise
  simp only [Finset.univ_unique, Finset.sum_singleton]
  blk_point []

theorem dgate_ref (x y : FVec Ideal S8192x1024 .f32) (g gate : FVec Ideal S1x1024 .f32) (tgt : FVec Ideal S8192x1024 .f32) (j : S1x1024.Idx) :
    val_main_v37 (F := Ideal) x y g gate tgt j = ∑ i : Fin 8192, val_main_v32 (F := Ideal) x y g gate tgt (ix2 i (j 1)) * ((y (ix2 i (j 1)) * rs Nw ew (row y i)) * g (ix2 0 (j 1))) := by
  obtain ⟨z, k, rfl⟩ := two_idx j
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v11_apply, val_main_v12_apply, val_main_v13_apply, val_main_v14_apply, val_main_v15_apply, val_main_v16_apply, val_main_v17_apply, val_main_v18_apply, val_main_cst_3_apply, val_main_v20_apply, val_main_v21_apply, val_main_cst_8_apply, val_main_cst_9_apply, val_main_v27_apply, val_main_v28_apply, val_main_cst_10_apply, val_main_v29_apply, val_main_v30_apply, val_main_v31_apply, val_main_v35_apply, val_main_cst_11_apply, val_main_v36_apply, val_main_v37_apply]
  unfold rs row
  generalize val_main_v32 (F := Ideal) x y g gate tgt = D
  pointwise
  blk_point []

theorem dg_ref (x y : FVec Ideal S8192x1024 .f32) (g gate : FVec Ideal S1x1024 .f32) (tgt : FVec Ideal S8192x1024 .f32) (j : S1x1024.Idx) :
    val_main_v40 (F := Ideal) x y g gate tgt j = ∑ i : Fin 8192, (y (ix2 i (j 1)) * rs Nw ew (row y i)) * (gate (ix2 0 (j 1)) * val_main_v32 (F := Ideal) x y g gate tgt (ix2 i (j 1))) := by
  obtain ⟨z, k, rfl⟩ := two_idx j
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v11_apply, val_main_v12_apply, val_main_v13_apply, val_main_v14_apply, val_main_v15_apply, val_main_v16_apply, val_main_v17_apply, val_main_v18_apply, val_main_cst_3_apply, val_main_v20_apply, val_main_v21_apply, val_main_cst_8_apply, val_main_cst_9_apply, val_main_v27_apply, val_main_v28_apply, val_main_cst_10_apply, val_main_v29_apply, val_main_v30_apply, val_main_v31_apply, val_main_v33_apply, val_main_v34_apply, val_main_v38_apply, val_main_cst_12_apply, val_main_v39_apply, val_main_v40_apply]
  unfold rs row
  generalize val_main_v32 (F := Ideal) x y g gate tgt = D
  pointwise
  blk_point []

theorem dx_ker (x y tgt : FVec Ideal S512x1024 .f32) (g gate : FVec Ideal S1x1024 .f32) (j : S512x1024.Idx) :
    k0_pay10 (F := Ideal) y g gate x tgt j = errOf x y tgt g gate (j 0) (j 1) * qw := by
  obtain ⟨i, k, rfl⟩ := two_idx j
  unfold errOf rs row
  pointwise [k0_pay10, k0_pay9, k0_pay8, k0_pay7]

theorem err_ker (x y tgt : FVec Ideal S512x1024 .f32) (g gate acc : FVec Ideal S1x1024 .f32) (j : S1x1024.Idx) :
    k0_pay11 (F := Ideal) y g gate x tgt acc j = acc j + ∑ i : Fin 512, errOf x y tgt g gate i (j 1) * errOf x y tgt g gate i (j 1) := by
  obtain ⟨z, k, rfl⟩ := two_idx j
  unfold errOf rs row
  pointwise [k0_pay11, k0_pay9, k0_pay8, k0_pay7]

/-! The rest of a point's work is what the norms' backward pass does after a branch. -/

theorem dy_ker (D y : FVec Ideal S512x1024 .f32) (g gate : FVec Ideal S1x1024 .f32) (j : S512x1024.Idx) :
    k0_pay3 (F := Ideal) (k0_pay7 y) (k0_pay8 y) g gate D j = dyOf D y g gate (j 0) (j 1) := PrenormPostBwdFin.dy_ker D y g gate j

theorem dgate_ker (D y : FVec Ideal S512x1024 .f32) (g acc : FVec Ideal S1x1024 .f32) (j : S1x1024.Idx) :
    k0_pay1 (F := Ideal) (k0_pay8 y) g D acc j = acc j + ∑ i : Fin 512, D (ix2 i (j 1)) * ((y (ix2 i (j 1)) * rs Nw ew (row y i)) * g (ix2 0 (j 1))) :=
  PrenormPostBwdFin.dgate_ker D y g acc j

theorem dg_ker (D y : FVec Ideal S512x1024 .f32) (gate acc : FVec Ideal S1x1024 .f32) (j : S1x1024.Idx) :
    k0_pay2 (F := Ideal) (k0_pay8 y) gate D acc j = acc j + ∑ i : Fin 512, (y (ix2 i (j 1)) * rs Nw ew (row y i)) * (gate (ix2 0 (j 1)) * D (ix2 i (j 1))) :=
  PrenormPostBwdFin.dgp_ker D y gate acc j

theorem zero4 (j) : k0_pay4 (F := Ideal) j = 0 := by pointwise [k0_pay4]
theorem zero5 (j) : k0_pay5 (F := Ideal) j = 0 := by pointwise [k0_pay5]
theorem zero6 (j) : k0_pay6 (F := Ideal) j = 0 := by pointwise [k0_pay6]

/-- Where each grid point's blocks lie. -/
theorem idx : ∀ t : Fin cfg0.N, win0_0.index t = ![t.val, 0] ∧ win0_1.index t = ![t.val, 0] ∧ win0_2.index t = ![0, 0] ∧ win0_3.index t = ![0, 0] ∧ win0_4.index t = ![t.val, 0]
    ∧ win0_5.index t = ![t.val, 0] ∧ win0_6.index t = ![0, 0] ∧ win0_7.index t = ![t.val, 0]
    ∧ win0_8.index t = ![0, 0] ∧ win0_9.index t = ![0, 0] :=
  (by decide +kernel : ∀ t : Fin grid0.N, _)

/-- A point's gradient of its rows. -/
abbrev dxBlk (c : Dev nD) (t : Fin cfg0.N) : Mat 512 :=
  k0_pay10 (F := Ideal) (iblk m c 1 t) (iblk m c 2 t) (iblk m c 3 t) (iblk m c 0 t) (iblk m c 4 t)

/-- Row `i` of point `t` is the reference's row. -/
theorem dxBlk_eq (c : Dev nD) (t : Fin cfg0.N) (i : Fin 512) (k : Fin 1024) (r : Fin 8192) (h : r.val = t.val * 512 + i.val) :
    dxBlk m c t (ix2 i k) = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (ix2 r k) := by
  unfold dxBlk
  rw [dx_ker, dx_ref]
  show errOf _ _ _ _ _ i k * qw = errOf _ _ _ _ _ r k * qw
  unfold errOf rs row
  blk_point [iblk, V, idx t]

theorem point_dx (c : Dev nD) (t : Fin cfg0.N) (j : S512x1024.Idx) : (outsAt0 m c t.val t.isLt).1 j = dxBlk m c t j := by
  by_cases h : t.val % 16 = 0
  · rw [outsAt0_A m c t h]; frame_out
  · rw [outsAt0_B m c t h]; frame_out

theorem point_dy (c : Dev nD) (t : Fin cfg0.N) (j : S512x1024.Idx) :
    (outsAt0 m c t.val t.isLt).2.2.1 j = dyOf (dxBlk m c t) (iblk m c 1 t) (iblk m c 2 t) (iblk m c 3 t) (j 0) (j 1) := by
  by_cases h : t.val % 16 = 0
  · rw [outsAt0_A m c t h]; frame_out; exact dy_ker (dxBlk m c t) _ _ _ j
  · rw [outsAt0_B m c t h]; frame_out; exact dy_ker (dxBlk m c t) _ _ _ j

theorem final_dx (c : Dev nD) : (dats m 0 c).arrAt 5 (cfgs 0).N
    = val_main_v32 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 5 _ (by decide +kernel) fun t hf y => ?_
  blk_simp
  rw [after0_5, point_dx m c t]
  unfold dxBlk
  rw [dx_ker, dx_ref]
  unfold errOf rs row
  blk_point [iblk, V, idx t]

theorem final_err (c : Dev nD) : (dats m 0 c).arrAt 6 (cfgs 0).N
    = val_main_v75 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 6 _ (by decide +kernel) fun t hf y => ?_
  blk_simp
  rw [after0_6, Pipeline.eq_sum_fin_of_reset_step_apply_of_flush (fun n h => (outsAt0 m c n h).2.1) 16 (fun _ => 0) _
    (fun t h j => by rw [outsAt0_A m c t h]; frame_out; rw [err_ker, zero4]) (fun t h j => by rw [outsAt0_B m c t h]; frame_out; rw [err_ker])
    t ((flush0_6 t).mp hf) _, zero_add, err_ref]
  refine Fin.sum_mul_add_congr fun s k hl => ?_
  unfold errOf rs row
  blk_point [iblk, V, idx t, idx ⟨_, Pipeline.run_point_lt_of_flush t ((flush0_6 t).mp hf) s⟩]

theorem final_dy (c : Dev nD) : (dats m 0 c).arrAt 7 (cfgs 0).N
    = val_main_v76 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 7 _ (by decide +kernel) fun t hf y => ?_
  blk_simp
  rw [after0_7, point_dy m c t]
  refine Eq.trans ?_ (dy_ref _ _ _ _ _ _).symm
  refine dyOf_congr (fun q => dxBlk_eq m c t (y 0) q _ ?_) (fun q => ?_) (fun q => ?_) (fun q => ?_) ?_
  · blk_simp [idx t]
  · blk_point [iblk, V, idx t]
  · blk_point [iblk, V, idx t]
  · blk_point [iblk, V, idx t]
  · refine Fin.ext ?_
    blk_simp [idx t]

theorem final_dgate (c : Dev nD) : (dats m 0 c).arrAt 8 (cfgs 0).N
    = val_main_v37 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 8 _ (by decide +kernel) fun t hf y => ?_
  blk_simp
  rw [after0_8, Pipeline.eq_sum_fin_of_reset_step_apply_of_flush (fun n h => (outsAt0 m c n h).2.2.2.1) 16 (fun _ => 0) _
    (fun t h j => by rw [outsAt0_A m c t h]; frame_out; rw [dgate_ker, zero5]) (fun t h j => by rw [outsAt0_B m c t h]; frame_out; rw [dgate_ker])
    t ((flush0_8 t).mp hf) _, zero_add, dgate_ref]
  refine Fin.sum_mul_add_congr fun s k hl => ?_
  have hr : s.val * 512 + k.val = (16 * (t.val / 16) + s.val) * 512 + k.val := by have : t.val < 16 := lt_of_lt_of_eq t.isLt N_0; omega
  refine (Ideal.mul_congr (dxBlk_eq m c ⟨16 * (t.val / 16) + s.val, _⟩ k (y 1) ⟨s.val * 512 + k.val, hl⟩ hr) rfl).trans ?_
  generalize val_main_v32 (F := Ideal) _ _ _ _ _ = D
  unfold rs row
  blk_point [iblk, V, idx t, idx ⟨_, Pipeline.run_point_lt_of_flush t ((flush0_8 t).mp hf) s⟩]

theorem final_dg (c : Dev nD) : (dats m 0 c).arrAt 9 (cfgs 0).N
    = val_main_v40 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (dats m 0 c).arrAt_eq_of_covers 9 _ (by decide +kernel) fun t hf y => ?_
  blk_simp
  rw [after0_9, Pipeline.eq_sum_fin_of_reset_step_apply_of_flush (fun n h => (outsAt0 m c n h).2.2.2.2) 16 (fun _ => 0) _
    (fun t h j => by rw [outsAt0_A m c t h]; frame_out; rw [dg_ker, zero6]) (fun t h j => by rw [outsAt0_B m c t h]; frame_out; rw [dg_ker])
    t ((flush0_9 t).mp hf) _, zero_add, dg_ref]
  refine Fin.sum_mul_add_congr fun s k hl => ?_
  have hr : s.val * 512 + k.val = (16 * (t.val / 16) + s.val) * 512 + k.val := by have : t.val < 16 := lt_of_lt_of_eq t.isLt N_0; omega
  refine (Ideal.mul_congr rfl (Ideal.mul_congr rfl (dxBlk_eq m c ⟨16 * (t.val / 16) + s.val, _⟩ k (y 1) ⟨s.val * 512 + k.val, hl⟩ hr))).trans ?_
  generalize val_main_v32 (F := Ideal) _ _ _ _ _ = D
  unfold rs row
  blk_point [iblk, V, idx t, idx ⟨_, Pipeline.run_point_lt_of_flush t ((flush0_9 t).mp hf) s⟩]

end Cert.PostLossFin
-- ==== Proof.PrenormFin.lean ====
/-
  A norm before a product: each grid point takes 512 rows, scales each by its root mean square, by the norm's weights and
  by one plus the scale, and adds the shift.
-/
module

public import proofs.«01_k».proof.Proof.Gen.PrenormIdeal.Frame
public import proofs.«01_k».proof.Proof.Gen.PrenormRefIdeal.Read
public import proofs.«01_k».proof.Proof.Norm
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PrenormFin
open Cert.PrenormIdeal Cert.PrenormIdeal.Gen Cert.PrenormRefIdeal.Read Cert.Norm

variable (m : (ℓ : Loc nD τ sig) → Buf (Elt Ideal) ℓ)

/-- One element of the scaled rows. -/
abbrev preOf {a : ℕ} (x : Mat a) (g sc sh : Row) (i : Fin a) (k : Fin 1024) : EReal :=
  ((x (ix2 i k) * rs Nw ew (row x i)) * g (ix2 0 k)) * (1 + sc (ix2 0 k)) + sh (ix2 0 k)

theorem pre_ref (x : FVec Ideal S8192x1024 .f32) (g sc sh : FVec Ideal S1x1024 .f32) (j : S8192x1024.Idx) :
    val_main_v18 (F := Ideal) x g sc sh j = preOf x g sc sh (j 0) (j 1) := by
  obtain ⟨i, k, rfl⟩ := two_idx j
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_v9_apply, val_main_v10_apply, val_main_v11_apply, val_main_cst_2_apply, val_main_v12_apply, val_main_v13_apply, val_main_v14_apply, val_main_v15_apply, val_main_v16_apply, val_main_v17_apply, val_main_v18_apply]
  unfold preOf rs row
  pointwise
  blk_point []

theorem pre_ker (x : FVec Ideal S512x1024 .f32) (g sc sh : FVec Ideal S1x1024 .f32) (j : S512x1024.Idx) :
    k0_pay1 (F := Ideal) x g sc sh j = preOf x g sc sh (j 0) (j 1) := by
  obtain ⟨i, k, rfl⟩ := two_idx j
  unfold preOf rs row
  pointwise [k0_pay1]
  try rfl

/-- Where each grid point's blocks lie. -/
theorem idx : ∀ t : Fin cfg0.N, win0_0.index t = ![t.val, 0] ∧ win0_1.index t = ![0, 0] ∧ win0_2.index t = ![0, 0] ∧ win0_3.index t = ![0, 0] ∧ win0_4.index t = ![t.val, 0] :=
  (by decide +kernel : ∀ t : Fin grid0.N, _)

theorem final (c : Dev nD) : (dats m 0 c).arrAt 4 (cfgs 0).N
    = val_main_v18 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  frame_out
  rw [pre_ker, pre_ref]
  unfold preOf rs row
  blk_point [iblk, V, idx t]

end Cert.PrenormFin
-- ==== Proof.PostPrenormFin.lean ====
/-
  A branch's output added to the residual, with the next norm: each grid point takes 512 rows, scales the branch's rows by
  their root mean square, adds them gated to the residual, writes that, and writes the next norm of it.
-/
module

public import proofs.«01_k».proof.Proof.Gen.PostPrenormIdeal.Frame
public import proofs.«01_k».proof.Proof.Gen.PostPrenormRefIdeal.Read
public import proofs.«01_k».proof.Proof.Norm
public import proofs.«01_k».proof.Proof.PrenormFin
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.PostPrenormFin
open Cert.PostPrenormIdeal Cert.PostPrenormIdeal.Gen Cert.PostPrenormRefIdeal.Read Cert.Norm Cert.PrenormFin

variable (m : (ℓ : Loc nD τ sig) → Buf (Elt Ideal) ℓ)

/-- One element of the residual. -/
abbrev resOf {a : ℕ} (x y : Mat a) (g gate : Row) (i : Fin a) (k : Fin 1024) : EReal :=
  x (ix2 i k) + gate (ix2 0 k) * ((y (ix2 i k) * rs Nw ew (row y i)) * g (ix2 0 k))

theorem res_ref (x y : FVec Ideal S8192x1024 .f32) (g gate : FVec Ideal S1x1024 .f32) (j : S8192x1024.Idx) :
    val_main_v14 (F := Ideal) x y g gate j = resOf x y g gate (j 0) (j 1) := by
  obtain ⟨i, k, rfl⟩ := two_idx j
  simp only [val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_v9_apply, val_main_v10_apply, val_main_v11_apply, val_main_v12_apply, val_main_v13_apply, val_main_v14_apply]
  unfold resOf rs row
  pointwise
  blk_point []

theorem res_ker (x y : FVec Ideal S512x1024 .f32) (g gate : FVec Ideal S1x1024 .f32) (j : S512x1024.Idx) :
    k0_pay2 (F := Ideal) y x gate g j = resOf x y g gate (j 0) (j 1) := by
  obtain ⟨i, k, rfl⟩ := two_idx j
  unfold resOf rs row
  pointwise [k0_pay2]
  try rfl

/-- The next norm is the first call's norm, of the residual. -/
theorem next_ref (x y : FVec Ideal S8192x1024 .f32) (g gate g2 sc sh : FVec Ideal S1x1024 .f32) :
    val_main_v33 (F := Ideal) x y g gate g2 sc sh
      = Cert.PrenormRefIdeal.Read.val_main_v18 (F := Ideal) (val_main_v14 (F := Ideal) x y g gate) g2 sc sh := rfl

theorem next_ker (x y : FVec Ideal S512x1024 .f32) (g gate g2 sc sh : FVec Ideal S1x1024 .f32) :
    k0_pay1 (F := Ideal) (k0_pay3 y x gate g g2) (k0_pay4 sc) sh
      = Cert.PrenormIdeal.Gen.k0_pay1 (F := Ideal) (k0_pay2 (F := Ideal) y x gate g) g2 sc sh := rfl

/-- Where each grid point's blocks lie. -/
theorem idx : ∀ t : Fin cfg0.N, win0_0.index t = ![t.val, 0] ∧ win0_1.index t = ![t.val, 0] ∧ win0_2.index t = ![0, 0] ∧ win0_3.index t = ![0, 0] ∧ win0_4.index t = ![0, 0] ∧ win0_5.index t = ![0, 0] ∧ win0_6.index t = ![0, 0] ∧ win0_7.index t = ![t.val, 0] ∧ win0_8.index t = ![t.val, 0] :=
  (by decide +kernel : ∀ t : Fin grid0.N, _)

theorem final_res (c : Dev nD) : (dats m 0 c).arrAt 7 (cfgs 0).N
    = val_main_v14 (F := Ideal) (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7]
  frame_out
  rw [res_ker, res_ref]
  unfold resOf rs row
  blk_point [iblk, V, idx t]

theorem final_next (c : Dev nD) : (dats m 0 c).arrAt 8 (cfgs 0).N
    = val_main_v33 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8]
  frame_out
  rw [next_ker, next_ref, Cert.PrenormFin.pre_ker, Cert.PrenormFin.pre_ref]
  unfold Cert.PrenormFin.preOf rs row
  simp only [res_ker, res_ref]
  unfold resOf rs row
  blk_point [iblk, V, idx t]

end Cert.PostPrenormFin
-- ==== Proof.SumSmallFin.lean ====
/-
  The sum of the eight devices' small gradients.
-/
module

public import proofs.«01_k».proof.Proof.Gen.SumSmallIdeal.Frame
public import proofs.«01_k».proof.Proof.Gen.SumSmallRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SumSmallFin
open Cert.SumSmallIdeal Cert.SumSmallIdeal.Gen Cert.SumSmallRefIdeal.Read

variable (m : (ℓ : Loc nD τ sig) → Buf (Elt Ideal) ℓ)

theorem sum_ref (x : FVec Ideal S8x8x13312 .f32) (j : S8x13312.Idx) :
    val_main_v0 (F := Ideal) x j = ∑ k : Fin 8, x (ix3 k (j 0) (j 1)) := by
  simp only [val_main_cst_apply, val_main_v0_apply]
  pointwise
  blk_point []

/-- Where the blocks lie. -/
theorem idx : ∀ t : Fin cfg0.N, win0_0.index t = ![0, 0, 0] ∧ win0_1.index t = ![0, 0] :=
  (by decide +kernel : ∀ t : Fin grid0.N, _)

theorem final (c : Dev nD) : (dats m 0 c).arrAt 1 (cfgs 0).N = val_main_v0 (F := Ideal) (m ((c : Thread nD τ).loc main_arg0)) := by
  refine (dats m 0 c).arrAt_eq_of_covers 1 _ (by decide +kernel) fun t hf y => ?_
  blk_simp
  rw [after0_1]
  frame_out
  rw [sum_ref, Fin.sum_univ_eight]
  pointwise [k0_pay1]
  blk_point [iblk, V, idx t]

end Cert.SumSmallFin
-- ==== Proof.Pairs.lean ====
/-
  The four blocks of the feed-forward's columns, the two in the middle exchanged: block `q` is stored at `q % 2 * 2 + q / 2`.
-/
module

public import Idealize.ShloMosaic.Lib.ValueIdx

@[expose] public section

namespace Cert.Pairs

theorem pair_lt (n : ℕ) (h : n < 5632) : n / 1408 % 2 * 2 + n / 2816 < 4 := by omega

/-- Exchanging the two middle blocks of four twice changes nothing. -/
theorem pair_pair (q k : ℕ) (hq : q < 4) (hk : k < 1408) :
    ((q % 2 * 2 + q / 2) * 1408 + k) / 1408 % 2 * 2 + ((q % 2 * 2 + q / 2) * 1408 + k) / 2816 = q := by
  interval_cases q <;> omega

/-- Where a row's column goes when its blocks are read as two pairs and the pairs exchanged. -/
theorem pair_move (r n : ℕ) (hn : n < 5632) :
    ((((r * 5632 + n) / 5632 * 2 + (r * 5632 + n) / 1408 % 2) * 2 + (r * 5632 + n) / 2816 % 2) * 1408
      + (r * 5632 + n) % 1408) % 5632 = (n / 1408 % 2 * 2 + n / 2816) * 1408 + n % 1408 := by
  have e1 : (r * 5632 + n) / 5632 = r := by omega
  have e2 : (r * 5632 + n) / 1408 % 2 = n / 1408 % 2 := by omega
  have e3 : (r * 5632 + n) / 2816 % 2 = n / 2816 := by omega
  have e4 : (r * 5632 + n) % 1408 = n % 1408 := by omega
  rw [e1, e2, e3, e4]
  have h1 : n / 1408 % 2 < 2 := Nat.mod_lt _ (by decide)
  have h2 : n / 2816 < 2 := by omega
  have h3 : n % 1408 < 1408 := Nat.mod_lt _ (by decide)
  generalize n / 1408 % 2 = a at *
  generalize n / 2816 = b at *
  generalize n % 1408 = z at *
  omega

/-- … and the block that column lies in, a row of `5632` columns further. -/
theorem pair_col (k r n : ℕ) (hn : n < 5632) :
    (k * 5632 + ((((r * 5632 + n) / 5632 * 2 + (r * 5632 + n) / 1408 % 2) * 2 + (r * 5632 + n) / 2816 % 2) * 1408
      + (r * 5632 + n) % 1408) % 5632) / 1408 % 4 = n / 1408 % 2 * 2 + n / 2816 := by
  rw [pair_move r n hn]
  omega

end Cert.Pairs
-- ==== Proof.UpDwFin.lean ====
/-
  The gradient of the feed-forward's first product with respect to its weights: each block of columns adds eight blocks of
  tokens, one grid point after another, into its output; together they are the reference's one contraction.
-/
module

public import proofs.«01_k».proof.Proof.Gen.UpDwIdeal.Frame
public import proofs.«01_k».proof.Proof.Gen.UpDwRefIdeal.Read
public import proofs.«01_k».proof.Proof.Pairs
public import proofs.«01_k».proof.Proof.Halves
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpDwFin
open Cert.UpDwIdeal Cert.UpDwIdeal.Gen Cert.Pairs Cert.Halves

variable (m : (ℓ : Loc nD τ sig) → Buf (Elt Ideal) ℓ)

/-- The reference's gradient, of the kernel's arguments. -/
abbrev gradient (H : FVec Ideal S8192x1024 .bf16) (U : FVec Ideal S8192x5632 .bf16) : FVec Ideal S2x4x512x1408 .f32 :=
  Cert.UpDwRefIdeal.Read.val_main_v10 (F := Ideal) H U

/-- A row of one of the two halves. -/
theorem half_lt (p r : ℕ) (hp : p < 2) (hr : r < 512) : p * 512 + r < 1024 := by omega
/-- A column of one of the four blocks. -/
theorem pair_col_lt (q k : ℕ) (hq : q < 4) (hk : k < 1408) : (q % 2 * 2 + q / 2) * 1408 + k < 5632 := by omega

/-- The gradient at an index: one contraction over all the tokens. -/
theorem gradient_apply (H : FVec Ideal S8192x1024 .bf16) (U : FVec Ideal S8192x5632 .bf16) (y : S2x4x512x1408.Idx) :
    gradient H U y = ∑ l : Fin 8192, H (ix2 l ⟨(y 0).val * 512 + (y 2).val, half_lt _ _ (y 0).isLt (y 2).isLt⟩)
      * U (ix2 l ⟨((y 1).val % 2 * 2 + (y 1).val / 2) * 1408 + (y 3).val, pair_col_lt _ _ (y 1).isLt (y 3).isLt⟩) := by
  simp only [gradient, Cert.UpDwRefIdeal.Read.val_main_v10_apply, Cert.UpDwRefIdeal.Read.val_main_v9_apply, Cert.UpDwRefIdeal.Read.val_main_v8_apply, Cert.UpDwRefIdeal.Read.val_main_v7_apply, Cert.UpDwRefIdeal.Read.val_main_v3_apply, Cert.UpDwRefIdeal.Read.val_main_v2_apply, Cert.UpDwRefIdeal.Read.val_main_v1_apply]
  refine Finset.sum_congr rfl fun k _ => ?_
  have h0 := (y 0).isLt
  have h1 := (y 1).isLt
  refine (mul_comm _ _).trans (congrArg₂ (· * ·) (congrArg H ?_) (congrArg U ?_))
  · blk_ext!
  · blk_ext!
    have e : (((y 0).val * 512 + (y 2).val) * 4 + (y 1).val) * 1408 + (y 3).val
        = ((y 0).val * 512 + (y 2).val) * 5632 + ((y 1).val * 1408 + (y 3).val) := by omega
    have e' : ((((y 0).val * 512 + (y 2).val) * 4 + (y 1).val) * 1408 + (y 3).val) % 5632 = (y 1).val * 1408 + (y 3).val := by omega
    rw [e']
    refine (pair_move _ _ (by omega)).trans ?_
    have e2 : ((y 1).val * 1408 + (y 3).val) / 1408 = (y 1).val := by omega
    have e3 : ((y 1).val * 1408 + (y 3).val) / 2816 = (y 1).val / 2 := by omega
    have e4 : ((y 1).val * 1408 + (y 3).val) % 1408 = (y 3).val := by omega
    rw [e2, e3, e4]

/-- Where each grid point's blocks lie. -/
theorem idx : ∀ t : Fin cfg0.N, win0_0.index t = ![t.val % 8, 0] ∧ win0_1.index t = ![t.val % 8, t.val / 8 % 2 * 2 + t.val / 16] ∧ win0_2.index t = ![0, t.val / 8, 0, 0] :=
  (by decide +kernel : ∀ t : Fin grid0.N, _)

/-- What a grid point adds. -/
def part (x0 : Vec Ideal S1024x1024 .bf16) (x1 : Vec Ideal S1024x1408 .bf16) (y : S2x1x512x1408.Idx) : EReal :=
  ∑ k : Fin 1024, x0 (ix2 k ⟨(y 0).val * 512 + (y 2).val, half_lt _ _ (y 0).isLt (y 2).isLt⟩) * x1 (ix2 k (y 3))

/-- What a point stores to the first plane. -/
theorem low_apply (x0 : Vec Ideal S1024x1024 .bf16) (x1 : Vec Ideal S1024x1408 .bf16) (acc : Vec Ideal S1x1x512x1408 .f32) (x : S1x1x512x1408.Idx) :
    k0_pay3 x0 x1 acc x = acc x + part x0 x1 (ix4 (0 : Fin 2) (0 : Fin 1) (x 2) (x 3)) := by
  unfold part
  pointwise [k0_pay3, k0_pay2]

/-- What a point stores to the second plane. -/
theorem high_apply (x0 : Vec Ideal S1024x1024 .bf16) (x1 : Vec Ideal S1024x1408 .bf16) (acc : Vec Ideal S1x1x512x1408 .f32) (x : S1x1x512x1408.Idx) :
    k0_pay4 x0 x1 acc x = acc x + part x0 x1 (ix4 (1 : Fin 2) (0 : Fin 1) (x 2) (x 3)) := by
  unfold part
  pointwise [k0_pay4, k0_pay2]

/-- The first of the eight points clears both planes. -/
theorem zero_apply (j) : k0_pay1 (F := Ideal) j = 0 := by pointwise [k0_pay1]

/-- After the first of the eight points the planes hold its part. -/
theorem reset (c : Dev nD) (t : Fin cfg0.N) (h : t.val % 8 = 0) (j : S2x1x512x1408.Idx) :
    outsAt0 m c t.val t.isLt j = 0 + part (iblk m c 0 t) (iblk m c 1 t) j := by
  rw [outsAt0_A m c t h]
  frame_out
  refine canon_cons_plane (Val := Elt Ideal) (e := .f32) (c := 1) (a := 512) (b := 1408) (fun y => 0 + part (iblk m c 0 t) (iblk m c 1 t) y) 1 0 _ _ _ j (fun x => ?_) fun n1 => ?_
  · refine (high_apply _ _ _ x).trans (congrArg₂ (· + ·) ?_ (congrArg _ (plane_idx 1 0 (by decide) (by decide) _ x).symm))
    exact Off.load _ (.step 0 0 _ _ _ (by decide) (.base _ _ zero_apply)) _ x
  · refine canon_cons_plane (Val := Elt Ideal) (e := .f32) (c := 1) (a := 512) (b := 1408) (fun y => 0 + part (iblk m c 0 t) (iblk m c 1 t) y) 0 0 _ _ _ j (fun x => ?_) fun n0 => ?_
    · refine (low_apply _ _ _ x).trans (congrArg₂ (· + ·) ?_ (congrArg _ (plane_idx 0 0 (by decide) (by decide) _ x).symm))
      exact Off.load _ (.base _ _ zero_apply) _ x
    · idx_bounds j
      omega

/-- Every later point adds its part. -/
theorem step (c : Dev nD) (t : Fin cfg0.N) (h : ¬t.val % 8 = 0) (j : S2x1x512x1408.Idx) :
    outsAt0 m c t.val t.isLt j = outsAt0 m c (t.val - 1) (Nat.lt_of_le_of_lt (Nat.sub_le _ _) t.isLt) j + part (iblk m c 0 t) (iblk m c 1 t) j := by
  rw [outsAt0_B m c t h]
  frame_out
  refine canon_cons_plane (Val := Elt Ideal) (e := .f32) (c := 1) (a := 512) (b := 1408) (fun y => outsAt0 m c (t.val - 1) (Nat.lt_of_le_of_lt (Nat.sub_le _ _) t.isLt) y + part (iblk m c 0 t) (iblk m c 1 t) y) 1 0 _ _ _ j (fun x => ?_) fun n1 => ?_
  · exact (high_apply _ _ _ x).trans (congrArg₂ (· + ·) rfl (congrArg _ (plane_idx 1 0 (by decide) (by decide) _ x).symm))
  · refine canon_cons_plane (Val := Elt Ideal) (e := .f32) (c := 1) (a := 512) (b := 1408) (fun y => outsAt0 m c (t.val - 1) (Nat.lt_of_le_of_lt (Nat.sub_le _ _) t.isLt) y + part (iblk m c 0 t) (iblk m c 1 t) y) 0 0 _ _ _ j (fun x => ?_) fun n0 => ?_
    · exact (low_apply _ _ _ x).trans (congrArg₂ (· + ·) rfl (congrArg _ (plane_idx 0 0 (by decide) (by decide) _ x).symm))
    · idx_bounds j
      omega

/-- The kernel's array is the gradient. -/
theorem final (c : Dev nD) : (dats m 0 c).arrAt 2 (cfgs 0).N
    = gradient (m ((c : Thread nD τ).loc main_arg0)) (m ((c : Thread nD τ).loc main_arg1)) := by
  refine (dats m 0 c).arrAt_eq_of_covers 2 _ (by decide +kernel) fun t hf y => ?_
  blk_simp
  rw [after0_2, Pipeline.eq_sum_fin_of_reset_step_apply_of_flush (fun n h => outsAt0 m c n h) 8 (fun _ => 0) _
    (fun t h j => by rw [reset m c t h])
    (fun t h j => by rw [step m c t h])
    t ((flush0_2 t).mp hf) _, zero_add, gradient_apply]
  unfold part
  refine Fin.sum_mul_add_congr fun s k hl => ?_
  blk_point [iblk, V, idx t, idx ⟨_, Pipeline.run_point_lt_of_flush t ((flush0_2 t).mp hf) s⟩]

end Cert.UpDwFin
-- ==== Proof.UpDxFin.lean ====
/-
  The gradient of the feed-forward's first product with respect to its input: the kernel adds four blocks of columns, one
  grid point after another; together they are the reference's one contraction.
-/
module

public import proofs.«01_k».proof.Proof.Gen.UpDxIdeal.Frame
public import proofs.«01_k».proof.Proof.Gen.UpDxRefIdeal.Read
public import proofs.«01_k».proof.Proof.Pairs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpDxFin
open Cert.UpDxIdeal Cert.UpDxIdeal.Gen Cert.Pairs

variable (m : (ℓ : Loc nD τ sig) → Buf (Elt Ideal) ℓ)

/-- The reference's gradient, of the kernel's arguments. -/
abbrev gradient (X : FVec Ideal S8192x5632 .bf16) (W : FVec Ideal S4x1024x1408 .bf16) : FVec Ideal S8192x1024 .f32 :=
  Cert.UpDxRefIdeal.Read.val_main_v9 (F := Ideal) X W

/-- The gradient at an index: one contraction over all the columns, their blocks exchanged. -/
theorem gradient_apply (X : FVec Ideal S8192x5632 .bf16) (W : FVec Ideal S4x1024x1408 .bf16) (y : S8192x1024.Idx) :
    gradient X W y = ∑ l : Fin 5632, X (ix2 (y 0) ⟨(l.val / 1408 % 2 * 2 + l.val / 2816) * 1408 + l.val % 1408, by omega⟩)
      * W (ix3 (⟨l.val / 1408, by omega⟩ : Fin 4) (y 1) (⟨l.val % 1408, Nat.mod_lt _ (by decide)⟩ : Fin 1408)) := by
  unfold gradient
  rw [Cert.UpDxRefIdeal.Read.val_main_v9_apply]
  simp only [Cert.UpDxRefIdeal.Read.val_main_v8_apply, Cert.UpDxRefIdeal.Read.val_main_v7_apply, Cert.UpDxRefIdeal.Read.val_main_v6_apply, Cert.UpDxRefIdeal.Read.val_main_v5_apply, Cert.UpDxRefIdeal.Read.val_main_v3_apply, Cert.UpDxRefIdeal.Read.val_main_v2_apply, Cert.UpDxRefIdeal.Read.val_main_v1_apply]
  refine Finset.sum_congr rfl fun k _ => ?_
  have h0 := (y 0).isLt
  have h1 := (y 1).isLt
  refine congrArg₂ (· * ·) (congrArg X ?_) (congrArg W ?_)
  · blk_ext!
    exact pair_move _ _ hlt
  · blk_ext!

/-- Where each grid point's blocks lie. -/
theorem idx : ∀ t : Fin cfg0.N, win0_0.index t = ![t.val / 4, t.val % 4 % 2 * 2 + t.val % 4 / 2] ∧ win0_1.index t = ![t.val % 4, 0, 0] ∧ win0_2.index t = ![t.val / 4, 0] :=
  (by decide +kernel : ∀ t : Fin grid0.N, _)

/-- The first of the four points clears the carried buffer. -/
theorem zero_apply (j) : k0_pay1 (F := Ideal) j = 0 := by pointwise [k0_pay1]

/-- What a point adds to the carried buffer. -/
theorem part_apply (acc : Vec Ideal S1024x1024 .f32) (x0 : Vec Ideal S1024x1408 .bf16) (x1 : Vec Ideal S1x1024x1408 .bf16) (j : S1024x1024.Idx) :
    k0_pay2 acc x0 x1 j = acc j + ∑ k : Fin 1408, x0 (ix2 (j 0) k) * x1 (ix3 0 (j 1) k) := by
  pointwise [k0_pay2]

/-- At the last of the four points the output is what the carried buffer holds. -/
theorem out_eq (c : Dev nD) (t : Fin cfg0.N) (h : t.val % 4 = 3) (j) :
    (outsAt0 m c t.val t.isLt).1 j = (outsAt0 m c t.val t.isLt).2 j := by
  rw [outsAt0_C m c t (by omega) h]
  frame_out

/-- The kernel's array is the gradient. -/
theorem final (c : Dev nD) : (dats m 0 c).arrAt 2 (cfgs 0).N
    = gradient (m ((c : Thread nD τ).loc main_arg0)) (m ((c : Thread nD τ).loc main_arg1)) := by
  refine (dats m 0 c).arrAt_eq_of_covers 2 _ (by decide +kernel) fun t hf y => ?_
  blk_simp
  rw [after0_2, out_eq m c t ((flush0_2 t).mp hf), Pipeline.eq_sum_fin_of_reset_step_apply_of_flush (fun n h => (outsAt0 m c n h).2) 4 (fun _ => 0) _
    (fun t h j => by rw [outsAt0_A m c t h (by omega)]; frame_out; rw [part_apply, zero_apply])
    (fun t h j => by
      by_cases h3 : t.val % 4 = 3
      · rw [outsAt0_C m c t h h3]; frame_out; rw [part_apply]; exact congrArg (· + _) (congrFun ((Memref.isWhole_whole cc0_scratch0).read_unread _) j)
      · rw [outsAt0_B m c t h h3]; frame_out; rw [part_apply]; exact congrArg (· + _) (congrFun ((Memref.isWhole_whole cc0_scratch0).read_unread _) j))
    t ((flush0_2 t).mp hf) _, zero_add, gradient_apply]
  refine Fin.sum_mul_add_congr fun s k hl => ?_
  blk_point [iblk, V, idx t, idx ⟨_, Pipeline.run_point_lt_of_flush t ((flush0_2 t).mp hf) s⟩]

end Cert.UpDxFin
-- ==== Proof.UpFwd.lean ====
/-
  The feed-forward's first product: the kernel's tiles are the rows and columns of the reference's product.
-/
module

public import proofs.«01_k».proof.Proof.Gen.UpIdeal.Frame
public import proofs.«01_k».proof.Proof.Gen.UpRefIdeal.Read
public import proofs.«01_k».proof.Proof.Pairs
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.UpFwd
open Cert.UpIdeal Cert.UpIdeal.Gen Cert.Pairs

variable (m : (ℓ : Loc nD τ sig) → Buf (Elt Ideal) ℓ)

/-- The reference's product of the kernel's arguments. -/
abbrev product (X : FVec Ideal S8192x1024 .bf16) (W : FVec Ideal S4x1024x1408 .bf16) : FVec Ideal S8192x5632 .bf16 :=
  Cert.UpRefIdeal.Read.val_main_v8 (F := Ideal) X W

/-- The product at an index: the row of the first factor against a column of one of the four blocks of the second. -/
theorem product_apply (X : FVec Ideal S8192x1024 .bf16) (W : FVec Ideal S4x1024x1408 .bf16) (y : S8192x5632.Idx) :
    product X W y = ∑ k : Fin 1024, X (ix2 (y 0) k) * W (ix3 (⟨(y 1).val / 1408 % 2 * 2 + (y 1).val / 2816, pair_lt _ (y 1).isLt⟩ : Fin 4) k (⟨(y 1).val % 1408, Nat.mod_lt _ (by decide)⟩ : Fin 1408)) := by
  simp only [product, Cert.UpRefIdeal.Read.val_main_v8_apply, Cert.UpRefIdeal.Read.val_main_v7_apply, Cert.UpRefIdeal.Read.val_main_v6_apply, Cert.UpRefIdeal.Read.val_main_v5_apply, Cert.UpRefIdeal.Read.val_main_v4_apply, Cert.UpRefIdeal.Read.val_main_v3_apply, Cert.UpRefIdeal.Read.val_main_v2_apply, Cert.UpRefIdeal.Read.val_main_v1_apply, Cert.UpRefIdeal.Read.val_main_v0_apply]
  refine Finset.sum_congr rfl fun k _ => ?_
  have h0 := (y 0).isLt
  have h1 := (y 1).isLt
  refine congrArg₂ (· * ·) (congrArg X ?_) (congrArg W ?_)
  · blk_ext!
  · blk_ext!
    exact pair_col _ _ _ hb1

/-- Where each grid point's blocks lie. -/
theorem idx : ∀ t : Fin cfg0.N, win0_0.index t = ![t.val % 8, 0] ∧ win0_1.index t = ![t.val / 8, 0, 0] ∧ win0_2.index t = ![t.val % 8, t.val / 8 % 2 * 2 + t.val / 16] :=
  (by decide +kernel : ∀ t : Fin grid0.N, _)

/-- What a grid point stores is its tile of the product. -/
theorem point (c : Dev nD) (t : Fin cfg0.N) (y) : k0_pay1 (iblk m c 0 t) (iblk m c 1 t) y
    = product (m ((c : Thread nD τ).loc main_arg0)) (m ((c : Thread nD τ).loc main_arg1)) (((cfg0.win 2).blk t).view.emb y) := by
  rw [product_apply]
  pointwise [k0_pay1]
  blk_point [iblk, V, idx t]
  have h8 : t.val / 16 = t.val / 8 / 2 := by omega
  rw [h8, pair_pair _ _ (by omega) (by omega), Nat.add_zero]

/-- The kernel's array is the product. -/
theorem final (c : Dev nD) : (dats m 0 c).arrAt 2 (cfgs 0).N
    = product (m ((c : Thread nD τ).loc main_arg0)) (m ((c : Thread nD τ).loc main_arg1)) := by
  refine (dats m 0 c).arrAt_eq_of_covers 2 _ (by decide +kernel) fun t _ y => ?_
  blk_simp
  rw [after0_2]; frame_out
  exact point m c t y

end Cert.UpFwd
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.ReferenceIdeal
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal
public import proofs.«01_k».proof.Proof.Gen.UpDwRefIdeal.Run
public import proofs.«01_k».proof.Proof.Gen.UpDwRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal
public import proofs.«01_k».proof.Proof.Gen.DownDxRefIdeal.Run
public import proofs.«01_k».proof.Proof.Gen.DownDxRefIdeal.Read
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal
public import proofs.«01_k».proof.Proof.Gen.DownDwRefIdeal.Run
public import proofs.«01_k».proof.Proof.Gen.DownDwRefIdeal.Read
public import proofs.«01_k».proof.Proof.Gen.Down
public import proofs.«01_k».proof.Proof.Gen.Down.Skeleton
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Launch
public import proofs.«01_k».proof.Proof.Gen.DownIdeal.Points
public import proofs.«01_k».proof.Proof.Gen.DownIdeal.Frame
public import proofs.«01_k».proof.Proof.Gen.DownIdeal.Value
public import proofs.«01_k».proof.Proof.Gen.DownRefIdeal
public import proofs.«01_k».proof.Proof.Gen.DownRefIdeal.Run
public import proofs.«01_k».proof.Proof.Gen.DownRefIdeal.Read
public import proofs.«01_k».proof.Proof.Gen.HgrnInDx
public import proofs.«01_k».proof.Proof.Gen.HgrnInDx.Skeleton
public import proofs.«01_k».proof.Proof.Gen.HgrnInDx.Launch
public import proofs.«01_k».proof.Proof.Gen.HgrnInDx.Points
public import proofs.«01_k».proof.Proof.Gen.HgrnInDx.Frame
public import proofs.«01_k».proof.Proof.Gen.HgrnInDxIdeal
public import proofs.«01_k».proof.Proof.Gen.HgrnInDxIdeal.Skeleton
public import proofs.«01_k».proof.Proof.Gen.HgrnInDxIdeal.Launch
public import proofs.«01_k».proof.Proof.Gen.HgrnInDxIdeal.Points
public import proofs.«01_k».proof.Proof.Gen.HgrnInDxIdeal.Frame
public import proofs.«01_k».proof.Proof.Gen.HgrnInDxIdeal.Value
public import proofs.«01_k».proof.Proof.Gen.HgrnInDxRefIdeal
public import proofs.«01_k».proof.Proof.Gen.HgrnInDxRefIdeal.Run
public import proofs.«01_k».proof.Proof.Gen.HgrnInDxRefIdeal.Read
public import proofs.«01_k».proof.Proof.Gen.HgrnInDw
public import proofs.«01_k».proof.Proof.Gen.HgrnInDw.Skeleton
public import proofs.«01_k».proof.Proof.Gen.HgrnInDw.Launch
public import proofs.«01_k».proof.Proof.Gen.HgrnInDw.Points
public import proofs.«01_k».proof.Proof.Gen.HgrnInDw.Frame
public import proofs.«01_k».proof.Proof.Gen.HgrnInDwIdeal
public import proofs.«01_k».proof.Proof.Gen.HgrnInDwIdeal.Skeleton
public import proofs.«01_k».proof.Proof.Gen.HgrnInDwIdeal.Launch
public import proofs.«01_k».proof.Proof.Gen.HgrnInDwIdeal.Points
public import proofs.«01_k».proof.Proof.Gen.HgrnInDwIdeal.Frame
public import proofs.«01_k».proof.Proof.Gen.HgrnInDwIdeal.Value
public import proofs.«01_k».proof.Proof.Gen.HgrnInDwRefIdeal
public import proofs.«01_k».proof.Proof.Gen.HgrnInDwRefIdeal.Run
public import proofs.«01_k».proof.Proof.Gen.HgrnInDwRefIdeal.Read
public import proofs.«01_k».proof.Proof.Gen.HgrnIn
public import proofs.«01_k».proof.Proof.Gen.HgrnIn.Skeleton
public import proofs.«01_k».proof.Proof.Gen.HgrnIn.Launch
public import proofs.«01_k».proof.Proof.Gen.HgrnIn.Points
public import proofs.«01_k».proof.Proof.Gen.HgrnIn.Frame
public import proofs.«01_k».proof.Proof.Gen.HgrnInIdeal
public import proofs.«01_k».proof.Proof.Gen.HgrnInIdeal.Skeleton
public import proofs.«01_k».proof.Proof.Gen.HgrnInIdeal.Launch
public import proofs.«01_k».proof.Proof.Gen.HgrnInIdeal.Points
public import proofs.«01_k».proof.Proof.Gen.HgrnInIdeal.Frame
public import proofs.«01_k».proof.Proof.Gen.HgrnInIdeal.Value
public import proofs.«01_k».proof.Proof.Gen.HgrnInRefIdeal
public import proofs.«01_k».proof.Proof.Gen.HgrnInRefIdeal.Run
public import proofs.«01_k».proof.Proof.Gen.HgrnInRefIdeal.Read
public import proofs.«01_k».proof.Proof.Gen.ConvInDx
public import proofs.«01_k».proof.Proof.Gen.ConvInDx.Skeleton
public import proofs.«01_k».proof.Proof.Gen.ConvInDx.Launch
public import proofs.«01_k».proof.Proof.Gen.ConvInDx.Points
public import proofs.«01_k».proof.Proof.Gen.ConvInDx.Frame
public import proofs.«01_k».proof.Proof.Gen.ConvInDxIdeal
public import proofs.«01_k».proof.Proof.Gen.ConvInDxIdeal.Skeleton
public import proofs.«01_k».proof.Proof.Gen.ConvInDxIdeal.Launch
public import proofs.«01_k».proof.Proof.Gen.ConvInDxIdeal.Points
public import proofs.«01_k».proof.Proof.Gen.ConvInDxIdeal.Frame
public import proofs.«01_k».proof.Proof.Gen.ConvInDxIdeal.Value
public import proofs.«01_k».proof.Proof.Gen.ConvInDxRefIdeal
public import proofs.«01_k».proof.Proof.Gen.ConvInDxRefIdeal.Run
public import proofs.«01_k».proof.Proof.Gen.ConvInDxRefIdeal.Read
public import proofs.«01_k».proof.Proof.Gen.ConvInDw
public import proofs.«01_k».proof.Proof.Gen.ConvInDw.Skeleton
public import proofs.«01_k».proof.Proof.Gen.ConvInDw.Launch
public import proofs.«01_k».proof.Proof.Gen.ConvInDw.Points
public import proofs.«01_k».proof.Proof.Gen.ConvInDw.Frame
public import proofs.«01_k».proof.Proof.Gen.ConvInDwIdeal
public import proofs.«01_k».proof.Proof.Gen.ConvInDwIdeal.Skeleton
public import proofs.«01_k».proof.Proof.Gen.ConvInDwIdeal.Launch
public import proofs.«01_k».proof.Proof.Gen.ConvInDwIdeal.Points
public import proofs.«01_k».proof.Proof.Gen.ConvInDwIdeal.Frame
public import proofs.«01_k».proof.Proof.Gen.ConvInDwIdeal.Value
public import proofs.«01_k».proof.Proof.Gen.ConvInDwRefIdeal
public import proofs.«01_k».proof.Proof.Gen.ConvInDwRefIdeal.Run
public import proofs.«01_k».proof.Proof.Gen.ConvInDwRefIdeal.Read
public import proofs.«01_k».proof.Proof.Gen.ConvIn
public import proofs.«01_k».proof.Proof.Gen.ConvIn.Skeleton
public import proofs.«01_k».proof.Proof.Gen.ConvIn.Launch
public import proofs.«01_k».proof.Proof.Gen.ConvIn.Points
public import proofs.«01_k».proof.Proof.Gen.ConvIn.Frame
public import proofs.«01_k».proof.Proof.Gen.ConvInIdeal
public import proofs.«01_k».proof.Proof.Gen.ConvInIdeal.Skeleton
public import proofs.«01_k».proof.Proof.Gen.ConvInIdeal.Launch
public import proofs.«01_k».proof.Proof.Gen.ConvInIdeal.Points
public import proofs.«01_k».proof.Proof.Gen.ConvInIdeal.Frame
public import proofs.«01_k».proof.Proof.Gen.ConvInIdeal.Value
public import proofs.«01_k».proof.Proof.Gen.ConvInRefIdeal
public import proofs.«01_k».proof.Proof.Gen.ConvInRefIdeal.Run
public import proofs.«01_k».proof.Proof.Gen.ConvInRefIdeal.Read
public import proofs.«01_k».proof.Proof.Gen.ConvOutDx
public import proofs.«01_k».proof.Proof.Gen.ConvOutDx.Skeleton
public import proofs.«01_k».proof.Proof.Gen.ConvOutDx.Launch
public import proofs.«01_k».proof.Proof.Gen.ConvOutDx.Points
public import proofs.«01_k».proof.Proof.Gen.ConvOutDx.Frame
public import proofs.«01_k».proof.Proof.Gen.ConvOutDxIdeal
public import proofs.«01_k».proof.Proof.Gen.ConvOutDxIdeal.Skeleton
public import proofs.«01_k».proof.Proof.Gen.ConvOutDxIdeal.Launch
public import proofs.«01_k».proof.Proof.Gen.ConvOutDxIdeal.Points
public import proofs.«01_k».proof.Proof.Gen.ConvOutDxIdeal.Frame
public import proofs.«01_k».proof.Proof.Gen.ConvOutDxIdeal.Value
public import proofs.«01_k».proof.Proof.Gen.ConvOutDxRefIdeal
public import proofs.«01_k».proof.Proof.Gen.ConvOutDxRefIdeal.Run
public import proofs.«01_k».proof.Proof.Gen.ConvOutDxRefIdeal.Read
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal
public import proofs.«01_k».proof.Proof.Gen.OutDwRefIdeal.Run
public import proofs.«01_k».proof.Proof.Gen.OutDwRefIdeal.Read
public import proofs.«01_k».proof.Proof.Gen.ConvOut
public import proofs.«01_k».proof.Proof.Gen.ConvOut.Skeleton
public import proofs.«01_k».proof.Proof.Gen.ConvOut.Launch
public import proofs.«01_k».proof.Proof.Gen.ConvOut.Points
public import proofs.«01_k».proof.Proof.Gen.ConvOut.Frame
public import proofs.«01_k».proof.Proof.Gen.ConvOutIdeal
public import proofs.«01_k».proof.Proof.Gen.ConvOutIdeal.Skeleton
public import proofs.«01_k».proof.Proof.Gen.ConvOutIdeal.Launch
public import proofs.«01_k».proof.Proof.Gen.ConvOutIdeal.Points
public import proofs.«01_k».proof.Proof.Gen.ConvOutIdeal.Frame
public import proofs.«01_k».proof.Proof.Gen.ConvOutIdeal.Value
public import proofs.«01_k».proof.Proof.Gen.ConvOutRefIdeal
public import proofs.«01_k».proof.Proof.Gen.ConvOutRefIdeal.Run
public import proofs.«01_k».proof.Proof.Gen.ConvOutRefIdeal.Read
public import proofs.«01_k».proof.Proof.Gen.HgrnOutDx
public import proofs.«01_k».proof.Proof.Gen.HgrnOutDx.Skeleton
public import proofs.«01_k».proof.Proof.Gen.HgrnOutDx.Launch
public import proofs.«01_k».proof.Proof.Gen.HgrnOutDx.Points
public import proofs.«01_k».proof.Proof.Gen.HgrnOutDx.Frame
public import proofs.«01_k».proof.Proof.Gen.HgrnOutDxIdeal
public import proofs.«01_k».proof.Proof.Gen.HgrnOutDxIdeal.Skeleton
public import proofs.«01_k».proof.Proof.Gen.HgrnOutDxIdeal.Launch
public import proofs.«01_k».proof.Proof.Gen.HgrnOutDxIdeal.Points
public import proofs.«01_k».proof.Proof.Gen.HgrnOutDxIdeal.Frame
public import proofs.«01_k».proof.Proof.Gen.HgrnOutDxIdeal.Value
public import proofs.«01_k».proof.Proof.Gen.HgrnOutDxRefIdeal
public import proofs.«01_k».proof.Proof.Gen.HgrnOutDxRefIdeal.Run
public import proofs.«01_k».proof.Proof.Gen.HgrnOutDxRefIdeal.Read
public import proofs.«01_k».proof.Proof.Gen.HgrnOut
public import proofs.«01_k».proof.Proof.Gen.HgrnOut.Skeleton
public import proofs.«01_k».proof.Proof.Gen.HgrnOut.Launch
public import proofs.«01_k».proof.Proof.Gen.HgrnOut.Points
public import proofs.«01_k».proof.Proof.Gen.HgrnOut.Frame
public import proofs.«01_k».proof.Proof.Gen.HgrnOutIdeal
public import proofs.«01_k».proof.Proof.Gen.HgrnOutIdeal.Skeleton
public import proofs.«01_k».proof.Proof.Gen.HgrnOutIdeal.Launch
public import proofs.«01_k».proof.Proof.Gen.HgrnOutIdeal.Points
public import proofs.«01_k».proof.Proof.Gen.HgrnOutIdeal.Frame
public import proofs.«01_k».proof.Proof.Gen.HgrnOutIdeal.Value
public import proofs.«01_k».proof.Proof.Gen.HgrnOutRefIdeal
public import proofs.«01_k».proof.Proof.Gen.HgrnOutRefIdeal.Run
public import proofs.«01_k».proof.Proof.Gen.HgrnOutRefIdeal.Read
public import proofs.«01_k».proof.Proof.Gen.PrenormBwd
public import proofs.«01_k».proof.Proof.Gen.PrenormBwd.Skeleton
public import proofs.«01_k».proof.Proof.Gen.PrenormBwd.Launch
public import proofs.«01_k».proof.Proof.Gen.PrenormBwd.Points
public import proofs.«01_k».proof.Proof.Gen.PrenormBwd.Frame
public import proofs.«01_k».proof.Proof.Gen.PrenormBwdIdeal
public import proofs.«01_k».proof.Proof.Gen.PrenormBwdIdeal.Skeleton
public import proofs.«01_k».proof.Proof.Gen.PrenormBwdIdeal.Launch
public import proofs.«01_k».proof.Proof.Gen.PrenormBwdIdeal.Points
public import proofs.«01_k».proof.Proof.Gen.PrenormBwdIdeal.Frame
public import proofs.«01_k».proof.Proof.Gen.PrenormBwdIdeal.Value
public import proofs.«01_k».proof.Proof.Gen.PrenormBwdRefIdeal
public import proofs.«01_k».proof.Proof.Gen.PrenormBwdRefIdeal.Run
public import proofs.«01_k».proof.Proof.Gen.PrenormBwdRefIdeal.Read
public import proofs.«01_k».proof.Proof.Gen.PrenormPostBwd
public import proofs.«01_k».proof.Proof.Gen.PrenormPostBwd.Skeleton
public import proofs.«01_k».proof.Proof.Gen.PrenormPostBwd.Launch
public import proofs.«01_k».proof.Proof.Gen.PrenormPostBwd.Points
public import proofs.«01_k».proof.Proof.Gen.PrenormPostBwd.Frame
public import proofs.«01_k».proof.Proof.Gen.PrenormPostBwdIdeal
public import proofs.«01_k».proof.Proof.Gen.PrenormPostBwdIdeal.Skeleton
public import proofs.«01_k».proof.Proof.Gen.PrenormPostBwdIdeal.Launch
public import proofs.«01_k».proof.Proof.Gen.PrenormPostBwdIdeal.Points
public import proofs.«01_k».proof.Proof.Gen.PrenormPostBwdIdeal.Frame
public import proofs.«01_k».proof.Proof.Gen.PrenormPostBwdIdeal.Value
public import proofs.«01_k».proof.Proof.Gen.PrenormPostBwdRefIdeal
public import proofs.«01_k».proof.Proof.Gen.PrenormPostBwdRefIdeal.Run
public import proofs.«01_k».proof.Proof.Gen.PrenormPostBwdRefIdeal.Read
public import proofs.«01_k».proof.Proof.Gen.PostLoss
public import proofs.«01_k».proof.Proof.Gen.PostLoss.Skeleton
public import proofs.«01_k».proof.Proof.Gen.PostLoss.Launch
public import proofs.«01_k».proof.Proof.Gen.PostLoss.Points
public import proofs.«01_k».proof.Proof.Gen.PostLoss.Frame
public import proofs.«01_k».proof.Proof.Gen.PostLossIdeal
public import proofs.«01_k».proof.Proof.Gen.PostLossIdeal.Skeleton
public import proofs.«01_k».proof.Proof.Gen.PostLossIdeal.Launch
public import proofs.«01_k».proof.Proof.Gen.PostLossIdeal.Points
public import proofs.«01_k».proof.Proof.Gen.PostLossIdeal.Frame
public import proofs.«01_k».proof.Proof.Gen.PostLossIdeal.Value
public import proofs.«01_k».proof.Proof.Gen.PostLossRefIdeal
public import proofs.«01_k».proof.Proof.Gen.PostLossRefIdeal.Run
public import proofs.«01_k».proof.Proof.Gen.PostLossRefIdeal.Read
public import proofs.«01_k».proof.Proof.Gen.Prenorm
public import proofs.«01_k».proof.Proof.Gen.Prenorm.Skeleton
public import proofs.«01_k».proof.Proof.Gen.Prenorm.Launch
public import proofs.«01_k».proof.Proof.Gen.Prenorm.Points
public import proofs.«01_k».proof.Proof.Gen.Prenorm.Frame
public import proofs.«01_k».proof.Proof.Gen.PrenormIdeal
public import proofs.«01_k».proof.Proof.Gen.PrenormIdeal.Skeleton
public import proofs.«01_k».proof.Proof.Gen.PrenormIdeal.Launch
public import proofs.«01_k».proof.Proof.Gen.PrenormIdeal.Points
public import proofs.«01_k».proof.Proof.Gen.PrenormIdeal.Frame
public import proofs.«01_k».proof.Proof.Gen.PrenormIdeal.Value
public import proofs.«01_k».proof.Proof.Gen.PrenormRefIdeal
public import proofs.«01_k».proof.Proof.Gen.PrenormRefIdeal.Run
public import proofs.«01_k».proof.Proof.Gen.PrenormRefIdeal.Read
public import proofs.«01_k».proof.Proof.Gen.PostPrenorm
public import proofs.«01_k».proof.Proof.Gen.PostPrenorm.Skeleton
public import proofs.«01_k».proof.Proof.Gen.PostPrenorm.Launch
public import proofs.«01_k».proof.Proof.Gen.PostPrenorm.Points
public import proofs.«01_k».proof.Proof.Gen.PostPrenorm.Frame
public import proofs.«01_k».proof.Proof.Gen.PostPrenormIdeal
public import proofs.«01_k».proof.Proof.Gen.PostPrenormIdeal.Skeleton
public import proofs.«01_k».proof.Proof.Gen.PostPrenormIdeal.Launch
public import proofs.«01_k».proof.Proof.Gen.PostPrenormIdeal.Points
public import proofs.«01_k».proof.Proof.Gen.PostPrenormIdeal.Frame
public import proofs.«01_k».proof.Proof.Gen.PostPrenormIdeal.Value
public import proofs.«01_k».proof.Proof.Gen.PostPrenormRefIdeal
public import proofs.«01_k».proof.Proof.Gen.PostPrenormRefIdeal.Run
public import proofs.«01_k».proof.Proof.Gen.PostPrenormRefIdeal.Read
public import proofs.«01_k».proof.Proof.Gen.Gate
public import proofs.«01_k».proof.Proof.Gen.Gate.Skeleton
public import proofs.«01_k».proof.Proof.Gen.Gate.Launch
public import proofs.«01_k».proof.Proof.Gen.Gate.Points
public import proofs.«01_k».proof.Proof.Gen.Gate.Frame
public import proofs.«01_k».proof.Proof.Gen.GateIdeal
public import proofs.«01_k».proof.Proof.Gen.GateIdeal.Skeleton
public import proofs.«01_k».proof.Proof.Gen.GateIdeal.Launch
public import proofs.«01_k».proof.Proof.Gen.GateIdeal.Points
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.Gen.AdamW
public import proofs.«01_k».proof.Proof.Gen.AdamW.Skeleton
public import proofs.«01_k».proof.Proof.Gen.AdamW.Launch
public import proofs.«01_k».proof.Proof.Gen.AdamW.Points
public import proofs.«01_k».proof.Proof.Gen.AdamW.Frame
public import proofs.«01_k».proof.Proof.Gen.AdamWIdeal
public import proofs.«01_k».proof.Proof.Gen.AdamWIdeal.Skeleton
public import proofs.«01_k».proof.Proof.Gen.AdamWIdeal.Launch
public import proofs.«01_k».proof.Proof.Gen.AdamWIdeal.Points
public import proofs.«01_k».proof.Proof.Gen.AdamWIdeal.Frame
public import proofs.«01_k».proof.Proof.Gen.AdamWIdeal.Value
public import proofs.«01_k».proof.Proof.Gen.AdamWRefIdeal
public import proofs.«01_k».proof.Proof.Gen.AdamWRefIdeal.Run
public import proofs.«01_k».proof.Proof.Gen.AdamWRefIdeal.Read
public import proofs.«01_k».proof.Proof.Gen.AdamWDown
public import proofs.«01_k».proof.Proof.Gen.AdamWDown.Skeleton
public import proofs.«01_k».proof.Proof.Gen.AdamWDown.Launch
public import proofs.«01_k».proof.Proof.Gen.AdamWDown.Points
public import proofs.«01_k».proof.Proof.Gen.AdamWDown.Frame
public import proofs.«01_k».proof.Proof.Gen.AdamWDownIdeal
public import proofs.«01_k».proof.Proof.Gen.AdamWDownIdeal.Skeleton
public import proofs.«01_k».proof.Proof.Gen.AdamWDownIdeal.Launch
public import proofs.«01_k».proof.Proof.Gen.AdamWDownIdeal.Points
public import proofs.«01_k».proof.Proof.Gen.AdamWDownIdeal.Frame
public import proofs.«01_k».proof.Proof.Gen.AdamWDownIdeal.Value
public import proofs.«01_k».proof.Proof.Gen.AdamWDownRefIdeal
public import proofs.«01_k».proof.Proof.Gen.AdamWDownRefIdeal.Run
public import proofs.«01_k».proof.Proof.Gen.AdamWDownRefIdeal.Read
public import proofs.«01_k».proof.Proof.Gen.AdamWConvIn
public import proofs.«01_k».proof.Proof.Gen.AdamWConvIn.Skeleton
public import proofs.«01_k».proof.Proof.Gen.AdamWConvIn.Launch
public import proofs.«01_k».proof.Proof.Gen.AdamWConvIn.Points
public import proofs.«01_k».proof.Proof.Gen.AdamWConvIn.Frame
public import proofs.«01_k».proof.Proof.Gen.AdamWConvInIdeal
public import proofs.«01_k».proof.Proof.Gen.AdamWConvInIdeal.Skeleton
public import proofs.«01_k».proof.Proof.Gen.AdamWConvInIdeal.Launch
public import proofs.«01_k».proof.Proof.Gen.AdamWConvInIdeal.Points
public import proofs.«01_k».proof.Proof.Gen.AdamWConvInIdeal.Frame
public import proofs.«01_k».proof.Proof.Gen.AdamWConvInIdeal.Value
public import proofs.«01_k».proof.Proof.Gen.AdamWConvInRefIdeal
public import proofs.«01_k».proof.Proof.Gen.AdamWConvInRefIdeal.Run
public import proofs.«01_k».proof.Proof.Gen.AdamWConvInRefIdeal.Read
public import proofs.«01_k».proof.Proof.Gen.AdamWConvOut
public import proofs.«01_k».proof.Proof.Gen.AdamWConvOut.Skeleton
public import proofs.«01_k».proof.Proof.Gen.AdamWConvOut.Launch
public import proofs.«01_k».proof.Proof.Gen.AdamWConvOut.Points
public import proofs.«01_k».proof.Proof.Gen.AdamWConvOut.Frame
public import proofs.«01_k».proof.Proof.Gen.AdamWConvOutIdeal
public import proofs.«01_k».proof.Proof.Gen.AdamWConvOutIdeal.Skeleton
public import proofs.«01_k».proof.Proof.Gen.AdamWConvOutIdeal.Launch
public import proofs.«01_k».proof.Proof.Gen.AdamWConvOutIdeal.Points
public import proofs.«01_k».proof.Proof.Gen.AdamWConvOutIdeal.Frame
public import proofs.«01_k».proof.Proof.Gen.AdamWConvOutIdeal.Value
public import proofs.«01_k».proof.Proof.Gen.AdamWConvOutRefIdeal
public import proofs.«01_k».proof.Proof.Gen.AdamWConvOutRefIdeal.Run
public import proofs.«01_k».proof.Proof.Gen.AdamWConvOutRefIdeal.Read
public import proofs.«01_k».proof.Proof.Gen.AdamWAda
public import proofs.«01_k».proof.Proof.Gen.AdamWAda.Skeleton
public import proofs.«01_k».proof.Proof.Gen.AdamWAda.Launch
public import proofs.«01_k».proof.Proof.Gen.AdamWAda.Points
public import proofs.«01_k».proof.Proof.Gen.AdamWAda.Frame
public import proofs.«01_k».proof.Proof.Gen.AdamWAdaIdeal
public import proofs.«01_k».proof.Proof.Gen.AdamWAdaIdeal.Skeleton
public import proofs.«01_k».proof.Proof.Gen.AdamWAdaIdeal.Launch
public import proofs.«01_k».proof.Proof.Gen.AdamWAdaIdeal.Points
public import proofs.«01_k».proof.Proof.Gen.AdamWAdaIdeal.Frame
public import proofs.«01_k».proof.Proof.Gen.AdamWAdaIdeal.Value
public import proofs.«01_k».proof.Proof.Gen.AdamWAdaRefIdeal
public import proofs.«01_k».proof.Proof.Gen.AdamWAdaRefIdeal.Run
public import proofs.«01_k».proof.Proof.Gen.AdamWAdaRefIdeal.Read
public import proofs.«01_k».proof.Proof.Gen.AdamWHgrnIn
public import proofs.«01_k».proof.Proof.Gen.AdamWHgrnIn.Skeleton
public import proofs.«01_k».proof.Proof.Gen.AdamWHgrnIn.Launch
public import proofs.«01_k».proof.Proof.Gen.AdamWHgrnIn.Points
public import proofs.«01_k».proof.Proof.Gen.AdamWHgrnIn.Frame
public import proofs.«01_k».proof.Proof.Gen.AdamWHgrnInIdeal
public import proofs.«01_k».proof.Proof.Gen.AdamWHgrnInIdeal.Skeleton
public import proofs.«01_k».proof.Proof.Gen.AdamWHgrnInIdeal.Launch
public import proofs.«01_k».proof.Proof.Gen.AdamWHgrnInIdeal.Points
public import proofs.«01_k».proof.Proof.Gen.AdamWHgrnInIdeal.Frame
public import proofs.«01_k».proof.Proof.Gen.AdamWHgrnInIdeal.Value
public import proofs.«01_k».proof.Proof.Gen.AdamWHgrnInRefIdeal
public import proofs.«01_k».proof.Proof.Gen.AdamWHgrnInRefIdeal.Run
public import proofs.«01_k».proof.Proof.Gen.AdamWHgrnInRefIdeal.Read
public import proofs.«01_k».proof.Proof.Gen.AdamWHgrnOut
public import proofs.«01_k».proof.Proof.Gen.AdamWHgrnOut.Skeleton
public import proofs.«01_k».proof.Proof.Gen.AdamWHgrnOut.Launch
public import proofs.«01_k».proof.Proof.Gen.AdamWHgrnOut.Points
public import proofs.«01_k».proof.Proof.Gen.AdamWHgrnOut.Frame
public import proofs.«01_k».proof.Proof.Gen.AdamWHgrnOutIdeal
public import proofs.«01_k».proof.Proof.Gen.AdamWHgrnOutIdeal.Skeleton
public import proofs.«01_k».proof.Proof.Gen.AdamWHgrnOutIdeal.Launch
public import proofs.«01_k».proof.Proof.Gen.AdamWHgrnOutIdeal.Points
public import proofs.«01_k».proof.Proof.Gen.AdamWHgrnOutIdeal.Frame
public import proofs.«01_k».proof.Proof.Gen.AdamWHgrnOutIdeal.Value
public import proofs.«01_k».proof.Proof.Gen.AdamWHgrnOutRefIdeal
public import proofs.«01_k».proof.Proof.Gen.AdamWHgrnOutRefIdeal.Run
public import proofs.«01_k».proof.Proof.Gen.AdamWHgrnOutRefIdeal.Read
public import proofs.«01_k».proof.Proof.Gen.AdamWSmall
public import proofs.«01_k».proof.Proof.Gen.AdamWSmall.Skeleton
public import proofs.«01_k».proof.Proof.Gen.AdamWSmall.Launch
public import proofs.«01_k».proof.Proof.Gen.AdamWSmall.Points
public import proofs.«01_k».proof.Proof.Gen.AdamWSmall.Frame
public import proofs.«01_k».proof.Proof.Gen.AdamWSmallIdeal
public import proofs.«01_k».proof.Proof.Gen.AdamWSmallIdeal.Skeleton
public import proofs.«01_k».proof.Proof.Gen.AdamWSmallIdeal.Launch
public import proofs.«01_k».proof.Proof.Gen.AdamWSmallIdeal.Points
public import proofs.«01_k».proof.Proof.Gen.AdamWSmallIdeal.Frame
public import proofs.«01_k».proof.Proof.Gen.AdamWSmallIdeal.Value
public import proofs.«01_k».proof.Proof.Gen.AdamWSmallRefIdeal
public import proofs.«01_k».proof.Proof.Gen.AdamWSmallRefIdeal.Run
public import proofs.«01_k».proof.Proof.Gen.AdamWSmallRefIdeal.Read
public import proofs.«01_k».proof.Proof.Gen.AdaWgrad
public import proofs.«01_k».proof.Proof.Gen.AdaWgrad.Skeleton
public import proofs.«01_k».proof.Proof.Gen.AdaWgrad.Launch
public import proofs.«01_k».proof.Proof.Gen.AdaWgrad.Points
public import proofs.«01_k».proof.Proof.Gen.AdaWgrad.Frame
public import proofs.«01_k».proof.Proof.Gen.AdaWgradIdeal
public import proofs.«01_k».proof.Proof.Gen.AdaWgradIdeal.Skeleton
public import proofs.«01_k».proof.Proof.Gen.AdaWgradIdeal.Launch
public import proofs.«01_k».proof.Proof.Gen.AdaWgradIdeal.Points
public import proofs.«01_k».proof.Proof.Gen.AdaWgradIdeal.Frame
public import proofs.«01_k».proof.Proof.Gen.AdaWgradIdeal.Value
public import proofs.«01_k».proof.Proof.Gen.AdaWgradRefIdeal
public import proofs.«01_k».proof.Proof.Gen.AdaWgradRefIdeal.Run
public import proofs.«01_k».proof.Proof.Gen.AdaWgradRefIdeal.Read
public import proofs.«01_k».proof.Proof.Gen.SumSmall
public import proofs.«01_k».proof.Proof.Gen.SumSmall.Skeleton
public import proofs.«01_k».proof.Proof.Gen.SumSmall.Launch
public import proofs.«01_k».proof.Proof.Gen.SumSmall.Points
public import proofs.«01_k».proof.Proof.Gen.SumSmall.Frame
public import proofs.«01_k».proof.Proof.Gen.SumSmallIdeal
public import proofs.«01_k».proof.Proof.Gen.SumSmallIdeal.Skeleton
public import proofs.«01_k».proof.Proof.Gen.SumSmallIdeal.Launch
public import proofs.«01_k».proof.Proof.Gen.SumSmallIdeal.Points
public import proofs.«01_k».proof.Proof.Gen.SumSmallIdeal.Frame
public import proofs.«01_k».proof.Proof.Gen.SumSmallIdeal.Value
public import proofs.«01_k».proof.Proof.Gen.SumSmallRefIdeal
public import proofs.«01_k».proof.Proof.Gen.SumSmallRefIdeal.Run
public import proofs.«01_k».proof.Proof.Gen.SumSmallRefIdeal.Read
public import proofs.«01_k».proof.Proof.Gen.GateBwd
public import proofs.«01_k».proof.Proof.Gen.GateBwd.Skeleton
public import proofs.«01_k».proof.Proof.Gen.GateBwd.Launch
public import proofs.«01_k».proof.Proof.Gen.GateBwd.Points
public import proofs.«01_k».proof.Proof.Gen.GateBwd.Frame
public import proofs.«01_k».proof.Proof.Gen.GateBwdIdeal
public import proofs.«01_k».proof.Proof.Gen.GateBwdIdeal.Skeleton
public import proofs.«01_k».proof.Proof.Gen.GateBwdIdeal.Launch
public import proofs.«01_k».proof.Proof.Gen.GateBwdIdeal.Points
public import proofs.«01_k».proof.Proof.Gen.GateBwdIdeal.Frame
public import proofs.«01_k».proof.Proof.Gen.GateBwdIdeal.Value
public import proofs.«01_k».proof.Proof.Gen.GateBwdRefIdeal
public import proofs.«01_k».proof.Proof.Gen.GateBwdRefIdeal.Run
public import proofs.«01_k».proof.Proof.Gen.GateBwdRefIdeal.Read
public import proofs.«01_k».proof.Proof.AdaWgradFin
public import proofs.«01_k».proof.Proof.AdamWAdaFin
public import proofs.«01_k».proof.Proof.AdamWConvInFin
public import proofs.«01_k».proof.Proof.AdamWConvOutFin
public import proofs.«01_k».proof.Proof.AdamWDownFin
public import proofs.«01_k».proof.Proof.AdamWFin
public import proofs.«01_k».proof.Proof.AdamWHgrnInFin
public import proofs.«01_k».proof.Proof.AdamWHgrnOutFin
public import proofs.«01_k».proof.Proof.AdamWSmallFin
public import proofs.«01_k».proof.Proof.ConvInDwFin
public import proofs.«01_k».proof.Proof.ConvInDxFin
public import proofs.«01_k».proof.Proof.ConvInFin
public import proofs.«01_k».proof.Proof.ConvOutDxFin
public import proofs.«01_k».proof.Proof.ConvOutFin
public import proofs.«01_k».proof.Proof.DownDwFin
public import proofs.«01_k».proof.Proof.DownDxFin
public import proofs.«01_k».proof.Proof.DownFin
public import proofs.«01_k».proof.Proof.GateBwdFin
public import proofs.«01_k».proof.Proof.GateFin
public import proofs.«01_k».proof.Proof.HgrnInDwFin
public import proofs.«01_k».proof.Proof.HgrnInDxFin
public import proofs.«01_k».proof.Proof.HgrnInFin
public import proofs.«01_k».proof.Proof.HgrnOutDxFin
public import proofs.«01_k».proof.Proof.HgrnOutFin
public import proofs.«01_k».proof.Proof.OutDwFin
public import proofs.«01_k».proof.Proof.PostLossFin
public import proofs.«01_k».proof.Proof.PostPrenormFin
public import proofs.«01_k».proof.Proof.PrenormBwdFin
public import proofs.«01_k».proof.Proof.PrenormFin
public import proofs.«01_k».proof.Proof.PrenormPostBwdFin
public import proofs.«01_k».proof.Proof.SumSmallFin
public import proofs.«01_k».proof.Proof.UpDwFin
public import proofs.«01_k».proof.Proof.UpDxFin
public import proofs.«01_k».proof.Proof.UpFwd
public import proofs.«01_k».proof.Proof.ConvRef
public import Idealize.ShloMosaic.Adequacy
public import Idealize.ShloMosaic.Init

@[expose] public section

set_option maxRecDepth 16384

noncomputable section

namespace Cert.Proof

open Idealize.ShloMosaic Idealize.SL.Sem Cert.Kernel

/-- The reference's frame: a straight line of host operations that declares no semaphore. -/
theorem convRefFrame [Cert.ReferenceIdeal.Facts] : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The convolution's gradient: the kernel's three arrays and the reference's are the same functions of the arguments. -/
theorem conv [Cert.KernelIdeal.Facts] [Cert.ReferenceIdeal.Facts] : Cert.algebraic_KernelIdeal_ReferenceIdeal := by
  intro m g m' g' _ h
  refine ⟨fun c => Cert.Conv.Ref.duArr (Cert.Conv.aD m c) (Cert.Conv.aU m c) (Cert.Conv.aW m c),
    fun c => Cert.Conv.Ref.dwArr (Cert.Conv.aD m c) (Cert.Conv.aU m c),
    fun c => Cert.Conv.Ref.dbArr (Cert.Conv.aD m c) (Cert.Conv.aU m c) (Cert.Conv.aW m c), ?_, ?_⟩
  · refine (θ_run _ _ _).mono (fun r hr c => ?_) (Cert.KernelIdeal.Value.run_blocks m g)
    obtain ⟨h4, h5, h6, ha⟩ := hr c
    exact ⟨h4.trans (Cert.Conv.final4 m c), h5.trans (Cert.Conv.final5 m c), h6.trans (Cert.Conv.final6 m c), ha⟩
  · refine (θ_run _ _ _).mono (fun r hr c => ?_) (Cert.ReferenceIdeal.Value.run m' g')
    obtain ⟨h4, h5, h6, ha⟩ := hr c
    obtain ⟨e0, e1, e2⟩ := h c
    have e0' : StableHlo.launchContents m' c (Proc.devRef .tc Cert.ReferenceIdeal.main_arg0) = Cert.Conv.aD m c := e0
    have e1' : StableHlo.launchContents m' c (Proc.devRef .tc Cert.ReferenceIdeal.main_arg1) = Cert.Conv.aU m c := e1
    have e2' : StableHlo.launchContents m' c (Proc.devRef .tc Cert.ReferenceIdeal.main_arg2) = Cert.Conv.aW m c := e2
    refine ⟨h4.trans ?_, h5.trans ?_, h6.trans ?_, ha⟩
    · refine (Cert.ReferenceIdeal.Read.val_main_v456_eq _).trans ?_
      rw [e0', e1', e2']
      exact funext fun y => Cert.Conv.Ref.v456_eq _ _ _ y
    · refine (Cert.ReferenceIdeal.Read.val_main_v457_eq _).trans ?_
      rw [e0', e1']
      exact funext fun y => Cert.Conv.Ref.v457_eq _ _ y
    · refine (Cert.ReferenceIdeal.Read.val_main_v459_eq _).trans ?_
      rw [e0', e1', e2']
      exact funext fun y => Cert.Conv.Ref.v459_eq _ _ _ y

/-- The feed-forward's first product, the gradient of its input: the reference's frame. -/
theorem upDxRefFrame [Cert.UpDxRefIdeal.Facts] : Cert.quiescent_UpDxRefIdeal := fun m ρ _ =>
  (θ_run Cert.UpDxRefIdeal.defs _ _).mono (fun r h => ⟨fun c => (h c).2, sem_eq_zero_of_no_sems (by decide) r.2⟩)
    (Cert.UpDxRefIdeal.Value.run (F := Ideal) m ρ)

/-- The feed-forward's first product, the gradient of its input: the kernel's result is the reference's. -/
theorem upDx [Cert.UpDxIdeal.Facts] [Cert.UpDxRefIdeal.Facts] : Cert.algebraic_UpDxIdeal_UpDxRefIdeal := by
  pair_intro
  · run_from Cert.UpDxIdeal.Value.run_blocks m g
  · run_from Cert.UpDxRefIdeal.Value.run (F := Ideal) m' g'
    refine Eq.trans ?_ (Cert.UpDxFin.final m c).symm
    exact Cert.UpDxRefIdeal.Read.val_main_v9_eq (F := Ideal) _ _

/-- The feed-forward's first product, the gradient of its weights: the reference's frame. -/
theorem upDwRefFrame [Cert.UpDwRefIdeal.Facts] : Cert.quiescent_UpDwRefIdeal := fun m ρ _ =>
  (θ_run Cert.UpDwRefIdeal.defs _ _).mono (fun r h => ⟨fun c => (h c).2, sem_eq_zero_of_no_sems (by decide) r.2⟩)
    (Cert.UpDwRefIdeal.Value.run (F := Ideal) m ρ)

/-- The feed-forward's first product, the gradient of its weights: the kernel's result is the reference's. -/
theorem upDw [Cert.UpDwIdeal.Facts] [Cert.UpDwRefIdeal.Facts] : Cert.algebraic_UpDwIdeal_UpDwRefIdeal := by
  pair_intro
  · run_from Cert.UpDwIdeal.Value.run_blocks m g
  · run_from Cert.UpDwRefIdeal.Value.run (F := Ideal) m' g'
    refine Eq.trans ?_ (Cert.UpDwFin.final m c).symm
    exact Cert.UpDwRefIdeal.Read.val_main_v10_eq (F := Ideal) _ _

/-- The feed-forward's first product: the reference's frame. -/
theorem upRefFrame [Cert.UpRefIdeal.Facts] : Cert.quiescent_UpRefIdeal := fun m ρ _ =>
  (θ_run Cert.UpRefIdeal.defs _ _).mono (fun r h => ⟨fun c => (h c).2, sem_eq_zero_of_no_sems (by decide) r.2⟩)
    (Cert.UpRefIdeal.Value.run (F := Ideal) m ρ)

/-- The feed-forward's first product: the kernel's result is the reference's. -/
theorem up [Cert.UpIdeal.Facts] [Cert.UpRefIdeal.Facts] : Cert.algebraic_UpIdeal_UpRefIdeal := by
  pair_intro
  · run_from Cert.UpIdeal.Value.run_blocks m g
  · run_from Cert.UpRefIdeal.Value.run (F := Ideal) m' g'
    refine Eq.trans ?_ (Cert.UpFwd.final m c).symm
    exact Cert.UpRefIdeal.Read.val_main_v8_eq (F := Ideal) _ _

/-- The second feed-forward product's gradient of its input: the reference's frame. -/
theorem downDxRefFrame [Cert.DownDxRefIdeal.Facts] : Cert.quiescent_DownDxRefIdeal := fun m ρ _ =>
  (θ_run Cert.DownDxRefIdeal.defs _ _).mono (fun r h => ⟨fun c => (h c).2, sem_eq_zero_of_no_sems (by decide) r.2⟩)
    (Cert.DownDxRefIdeal.Value.run (F := Ideal) m ρ)

/-- The second feed-forward product's gradient of its input: the kernel's result is the reference's. -/
theorem downDx [Cert.DownDxIdeal.Facts] [Cert.DownDxRefIdeal.Facts] : Cert.algebraic_DownDxIdeal_DownDxRefIdeal := by
  pair_intro
  · run_from Cert.DownDxIdeal.Value.run_blocks m g
  · run_from Cert.DownDxRefIdeal.Value.run (F := Ideal) m' g'
    refine Eq.trans ?_ (Cert.DownDxFin.final m c).symm
    exact Cert.DownDxRefIdeal.Read.val_main_v7_eq (F := Ideal) _ _

/-- The second feed-forward product's gradient of its weights: the reference's frame. -/
theorem downDwRefFrame [Cert.DownDwRefIdeal.Facts] : Cert.quiescent_DownDwRefIdeal := fun m ρ _ =>
  (θ_run Cert.DownDwRefIdeal.defs _ _).mono (fun r h => ⟨fun c => (h c).2, sem_eq_zero_of_no_sems (by decide) r.2⟩)
    (Cert.DownDwRefIdeal.Value.run (F := Ideal) m ρ)

/-- The second feed-forward product's gradient of its weights: the kernel's result is the reference's. -/
theorem downDw [Cert.DownDwIdeal.Facts] [Cert.DownDwRefIdeal.Facts] : Cert.algebraic_DownDwIdeal_DownDwRefIdeal := by
  pair_intro
  · run_from Cert.DownDwIdeal.Value.run_blocks m g
  · run_from Cert.DownDwRefIdeal.Value.run (F := Ideal) m' g'
    refine Eq.trans ?_ (Cert.DownDwFin.final m c).symm
    exact Cert.DownDwRefIdeal.Read.val_main_v7_eq (F := Ideal) _ _

/-- The second feed-forward product: the reference's frame. -/
theorem downRefFrame [Cert.DownRefIdeal.Facts] : Cert.quiescent_DownRefIdeal := fun m ρ _ =>
  (θ_run Cert.DownRefIdeal.defs _ _).mono (fun r h => ⟨fun c => (h c).2, sem_eq_zero_of_no_sems (by decide) r.2⟩)
    (Cert.DownRefIdeal.Value.run (F := Ideal) m ρ)

/-- The second feed-forward product: the kernel's result is the reference's. -/
theorem down [Cert.DownIdeal.Facts] [Cert.DownRefIdeal.Facts] : Cert.algebraic_DownIdeal_DownRefIdeal := by
  pair_intro
  · run_from Cert.DownIdeal.Value.run_blocks m g
  · run_from Cert.DownRefIdeal.Value.run (F := Ideal) m' g'
    refine Eq.trans ?_ (Cert.DownFin.final m c).symm
    exact Cert.DownRefIdeal.Read.val_main_v4_eq (F := Ideal) _ _

/-- The recurrence's first product's gradient of its input: the reference's frame. -/
theorem hgrnInDxRefFrame [Cert.HgrnInDxRefIdeal.Facts] : Cert.quiescent_HgrnInDxRefIdeal := fun m ρ _ =>
  (θ_run Cert.HgrnInDxRefIdeal.defs _ _).mono (fun r h => ⟨fun c => (h c).2, sem_eq_zero_of_no_sems (by decide) r.2⟩)
    (Cert.HgrnInDxRefIdeal.Value.run (F := Ideal) m ρ)

/-- The recurrence's first product's gradient of its input: the kernel's result is the reference's. -/
theorem hgrnInDx [Cert.HgrnInDxIdeal.Facts] [Cert.HgrnInDxRefIdeal.Facts] : Cert.algebraic_HgrnInDxIdeal_HgrnInDxRefIdeal := by
  pair_intro
  · run_from Cert.HgrnInDxIdeal.Value.run_blocks m g
  · run_from Cert.HgrnInDxRefIdeal.Value.run (F := Ideal) m' g'
    refine Eq.trans ?_ (Cert.HgrnInDxFin.final m c).symm
    exact Cert.HgrnInDxRefIdeal.Read.val_main_v16_eq (F := Ideal) _ _ _

/-- The recurrence's first product's gradient of its weights: the reference's frame. -/
theorem hgrnInDwRefFrame [Cert.HgrnInDwRefIdeal.Facts] : Cert.quiescent_HgrnInDwRefIdeal := fun m ρ _ =>
  (θ_run Cert.HgrnInDwRefIdeal.defs _ _).mono (fun r h => ⟨fun c => (h c).2, sem_eq_zero_of_no_sems (by decide) r.2⟩)
    (Cert.HgrnInDwRefIdeal.Value.run (F := Ideal) m ρ)

/-- The recurrence's first product's gradient of its weights: the kernel's result is the reference's. -/
theorem hgrnInDw [Cert.HgrnInDwIdeal.Facts] [Cert.HgrnInDwRefIdeal.Facts] : Cert.algebraic_HgrnInDwIdeal_HgrnInDwRefIdeal := by
  pair_intro
  · run_from Cert.HgrnInDwIdeal.Value.run_blocks m g
  · run_from Cert.HgrnInDwRefIdeal.Value.run (F := Ideal) m' g'
    refine (Cert.HgrnInDwRefIdeal.Read.val_main_v17_eq (F := Ideal) _ _ _).trans ?_
    rw [(hagree c).2.1, (hagree c).2.2]
    exact (Cert.HgrnInDwFin.final m c).symm

/-- The recurrence's first product: the reference's frame. -/
theorem hgrnInRefFrame [Cert.HgrnInRefIdeal.Facts] : Cert.quiescent_HgrnInRefIdeal := fun m ρ _ =>
  (θ_run Cert.HgrnInRefIdeal.defs _ _).mono (fun r h => ⟨fun c => (h c).2, sem_eq_zero_of_no_sems (by decide) r.2⟩)
    (Cert.HgrnInRefIdeal.Value.run (F := Ideal) m ρ)

/-- The recurrence's first product: the kernel's result is the reference's. -/
theorem hgrnIn [Cert.HgrnInIdeal.Facts] [Cert.HgrnInRefIdeal.Facts] : Cert.algebraic_HgrnInIdeal_HgrnInRefIdeal := by
  pair_intro
  · run_from Cert.HgrnInIdeal.Value.run_blocks m g
  · run_from Cert.HgrnInRefIdeal.Value.run (F := Ideal) m' g'
    refine Eq.trans ?_ (Cert.HgrnInFin.final m c).symm
    exact Cert.HgrnInRefIdeal.Read.val_main_v4_eq (F := Ideal) _ _

/-- The convolution branch's first product's gradient of its input: the reference's frame. -/
theorem convInDxRefFrame [Cert.ConvInDxRefIdeal.Facts] : Cert.quiescent_ConvInDxRefIdeal := fun m ρ _ =>
  (θ_run Cert.ConvInDxRefIdeal.defs _ _).mono (fun r h => ⟨fun c => (h c).2, sem_eq_zero_of_no_sems (by decide) r.2⟩)
    (Cert.ConvInDxRefIdeal.Value.run (F := Ideal) m ρ)

/-- The convolution branch's first product's gradient of its input: the kernel's result is the reference's. -/
theorem convInDx [Cert.ConvInDxIdeal.Facts] [Cert.ConvInDxRefIdeal.Facts] : Cert.algebraic_ConvInDxIdeal_ConvInDxRefIdeal := by
  pair_intro
  · run_from Cert.ConvInDxIdeal.Value.run_blocks m g
  · run_from Cert.ConvInDxRefIdeal.Value.run (F := Ideal) m' g'
    refine Eq.trans ?_ (Cert.ConvInDxFin.final m c).symm
    exact Cert.ConvInDxRefIdeal.Read.val_main_v6_eq (F := Ideal) _ _

/-- The convolution branch's first product's gradient of its weights: the reference's frame. -/
theorem convInDwRefFrame [Cert.ConvInDwRefIdeal.Facts] : Cert.quiescent_ConvInDwRefIdeal := fun m ρ _ =>
  (θ_run Cert.ConvInDwRefIdeal.defs _ _).mono (fun r h => ⟨fun c => (h c).2, sem_eq_zero_of_no_sems (by decide) r.2⟩)
    (Cert.ConvInDwRefIdeal.Value.run (F := Ideal) m ρ)

/-- The convolution branch's first product's gradient of its weights: the kernel's result is the reference's. -/
theorem convInDw [Cert.ConvInDwIdeal.Facts] [Cert.ConvInDwRefIdeal.Facts] : Cert.algebraic_ConvInDwIdeal_ConvInDwRefIdeal := by
  pair_intro
  · run_from Cert.ConvInDwIdeal.Value.run_blocks m g
  · run_from Cert.ConvInDwRefIdeal.Value.run (F := Ideal) m' g'
    refine Eq.trans ?_ (Cert.ConvInDwFin.final m c).symm
    exact Cert.ConvInDwRefIdeal.Read.val_main_v7_eq (F := Ideal) _ _

/-- The convolution branch's first product: the reference's frame. -/
theorem convInRefFrame [Cert.ConvInRefIdeal.Facts] : Cert.quiescent_ConvInRefIdeal := fun m ρ _ =>
  (θ_run Cert.ConvInRefIdeal.defs _ _).mono (fun r h => ⟨fun c => (h c).2, sem_eq_zero_of_no_sems (by decide) r.2⟩)
    (Cert.ConvInRefIdeal.Value.run (F := Ideal) m ρ)

/-- The convolution branch's first product: the kernel's result is the reference's. -/
theorem convIn [Cert.ConvInIdeal.Facts] [Cert.ConvInRefIdeal.Facts] : Cert.algebraic_ConvInIdeal_ConvInRefIdeal := by
  pair_intro
  · run_from Cert.ConvInIdeal.Value.run_blocks m g
  · run_from Cert.ConvInRefIdeal.Value.run (F := Ideal) m' g'
    refine Eq.trans ?_ (Cert.ConvInFin.final m c).symm
    exact Cert.ConvInRefIdeal.Read.val_main_v6_eq (F := Ideal) _ _ _

/-- The convolution branch's last product's gradient of its input: the reference's frame. -/
theorem convOutDxRefFrame [Cert.ConvOutDxRefIdeal.Facts] : Cert.quiescent_ConvOutDxRefIdeal := fun m ρ _ =>
  (θ_run Cert.ConvOutDxRefIdeal.defs _ _).mono (fun r h => ⟨fun c => (h c).2, sem_eq_zero_of_no_sems (by decide) r.2⟩)
    (Cert.ConvOutDxRefIdeal.Value.run (F := Ideal) m ρ)

/-- The convolution branch's last product's gradient of its input: the kernel's result is the reference's. -/
theorem convOutDx [Cert.ConvOutDxIdeal.Facts] [Cert.ConvOutDxRefIdeal.Facts] : Cert.algebraic_ConvOutDxIdeal_ConvOutDxRefIdeal := by
  pair_intro
  · run_from Cert.ConvOutDxIdeal.Value.run_blocks m g
  · run_from Cert.ConvOutDxRefIdeal.Value.run (F := Ideal) m' g'
    refine Eq.trans ?_ (Cert.ConvOutDxFin.final m c).symm
    exact Cert.ConvOutDxRefIdeal.Read.val_main_v6_eq (F := Ideal) _ _

/-- The convolution branch's and the recurrence's last products' gradients of their weights: the reference's frame. -/
theorem outDwRefFrame [Cert.OutDwRefIdeal.Facts] : Cert.quiescent_OutDwRefIdeal := fun m ρ _ =>
  (θ_run Cert.OutDwRefIdeal.defs _ _).mono (fun r h => ⟨fun c => (h c).2, sem_eq_zero_of_no_sems (by decide) r.2⟩)
    (Cert.OutDwRefIdeal.Value.run (F := Ideal) m ρ)

/-- The convolution branch's and the recurrence's last products' gradients of their weights: the kernel's result is the reference's. -/
theorem outDw [Cert.OutDwIdeal.Facts] [Cert.OutDwRefIdeal.Facts] : Cert.algebraic_OutDwIdeal_OutDwRefIdeal := by
  pair_intro
  · run_from Cert.OutDwIdeal.Value.run_blocks m g
  · run_from Cert.OutDwRefIdeal.Value.run (F := Ideal) m' g'
    refine Eq.trans ?_ (Cert.OutDwFin.final m c).symm
    exact Cert.OutDwRefIdeal.Read.val_main_v7_eq (F := Ideal) _ _

/-- The convolution branch's last product: the reference's frame. -/
theorem convOutRefFrame [Cert.ConvOutRefIdeal.Facts] : Cert.quiescent_ConvOutRefIdeal := fun m ρ _ =>
  (θ_run Cert.ConvOutRefIdeal.defs _ _).mono (fun r h => ⟨fun c => (h c).2, sem_eq_zero_of_no_sems (by decide) r.2⟩)
    (Cert.ConvOutRefIdeal.Value.run (F := Ideal) m ρ)

/-- The convolution branch's last product: the kernel's result is the reference's. -/
theorem convOut [Cert.ConvOutIdeal.Facts] [Cert.ConvOutRefIdeal.Facts] : Cert.algebraic_ConvOutIdeal_ConvOutRefIdeal := by
  pair_intro
  · run_from Cert.ConvOutIdeal.Value.run_blocks m g
  · run_from Cert.ConvOutRefIdeal.Value.run (F := Ideal) m' g'
    refine Eq.trans ?_ (Cert.ConvOutFin.final m c).symm
    exact Cert.ConvOutRefIdeal.Read.val_main_v6_eq (F := Ideal) _ _ _

/-- The recurrence's last product's gradient of its input: the reference's frame. -/
theorem hgrnOutDxRefFrame [Cert.HgrnOutDxRefIdeal.Facts] : Cert.quiescent_HgrnOutDxRefIdeal := fun m ρ _ =>
  (θ_run Cert.HgrnOutDxRefIdeal.defs _ _).mono (fun r h => ⟨fun c => (h c).2, sem_eq_zero_of_no_sems (by decide) r.2⟩)
    (Cert.HgrnOutDxRefIdeal.Value.run (F := Ideal) m ρ)

/-- The recurrence's last product's gradient of its input: the kernel's result is the reference's. -/
theorem hgrnOutDx [Cert.HgrnOutDxIdeal.Facts] [Cert.HgrnOutDxRefIdeal.Facts] : Cert.algebraic_HgrnOutDxIdeal_HgrnOutDxRefIdeal := by
  pair_intro
  · run_from Cert.HgrnOutDxIdeal.Value.run_blocks m g
  · run_from Cert.HgrnOutDxRefIdeal.Value.run (F := Ideal) m' g'
    refine Eq.trans ?_ (Cert.HgrnOutDxFin.final m c).symm
    exact Cert.HgrnOutDxRefIdeal.Read.val_main_v6_eq (F := Ideal) _ _

/-- The recurrence's last product: the reference's frame. -/
theorem hgrnOutRefFrame [Cert.HgrnOutRefIdeal.Facts] : Cert.quiescent_HgrnOutRefIdeal := fun m ρ _ =>
  (θ_run Cert.HgrnOutRefIdeal.defs _ _).mono (fun r h => ⟨fun c => (h c).2, sem_eq_zero_of_no_sems (by decide) r.2⟩)
    (Cert.HgrnOutRefIdeal.Value.run (F := Ideal) m ρ)

/-- The recurrence's last product: the kernel's result is the reference's. -/
theorem hgrnOut [Cert.HgrnOutIdeal.Facts] [Cert.HgrnOutRefIdeal.Facts] : Cert.algebraic_HgrnOutIdeal_HgrnOutRefIdeal := by
  pair_intro
  · run_from Cert.HgrnOutIdeal.Value.run_blocks m g
  · run_from Cert.HgrnOutRefIdeal.Value.run (F := Ideal) m' g'
    refine Eq.trans ?_ (Cert.HgrnOutFin.final m c).symm
    exact Cert.HgrnOutRefIdeal.Read.val_main_v4_eq (F := Ideal) _ _

/-- The first norm's backward pass: the reference's frame. -/
theorem prenormBwdRefFrame [Cert.PrenormBwdRefIdeal.Facts] : Cert.quiescent_PrenormBwdRefIdeal := fun m ρ _ =>
  (θ_run Cert.PrenormBwdRefIdeal.defs _ _).mono (fun r h => ⟨fun c => (h c).2.2.2.2, sem_eq_zero_of_no_sems (by decide) r.2⟩)
    (Cert.PrenormBwdRefIdeal.Value.run (F := Ideal) m ρ)

/-- The first norm's backward pass: the kernel's result is the reference's. -/
theorem prenormBwd [Cert.PrenormBwdIdeal.Facts] [Cert.PrenormBwdRefIdeal.Facts] : Cert.algebraic_PrenormBwdIdeal_PrenormBwdRefIdeal := by
  pair_intro
  · run_from Cert.PrenormBwdIdeal.Value.run_blocks m g
  · refine (θ_run _ _ _).mono (fun r hr c => ?_) (Cert.PrenormBwdRefIdeal.Value.run (F := Ideal) m' g')
    obtain ⟨h0, h1, h2, h3, ha⟩ := hr c
    refine ⟨h0.trans ?_, h1.trans ?_, h2.trans ?_, h3.trans ?_, ha⟩
    · refine (Cert.PrenormBwdRefIdeal.Read.val_main_v49_eq (F := Ideal) m' c).trans ?_
      rw [(hagree c).1, (hagree c).2.1, (hagree c).2.2.1, (hagree c).2.2.2.1, (hagree c).2.2.2.2]
      exact (Cert.PrenormBwdFin.final_dx m c).symm
    · refine (Cert.PrenormBwdRefIdeal.Read.val_main_v24_eq (F := Ideal) _).trans ?_
      rw [(hagree c).1]
      exact (Cert.PrenormBwdFin.final_dsh m c).symm
    · refine (Cert.PrenormBwdRefIdeal.Read.val_main_v27_eq (F := Ideal) _ _ _).trans ?_
      rw [(hagree c).1, (hagree c).2.1, (hagree c).2.2.2.1]
      exact (Cert.PrenormBwdFin.final_dsc m c).symm
    · refine (Cert.PrenormBwdRefIdeal.Read.val_main_v32_eq (F := Ideal) _ _ _).trans ?_
      rw [(hagree c).1, (hagree c).2.1, (hagree c).2.2.2.2]
      exact (Cert.PrenormBwdFin.final_dg m c).symm

/-- The norm's backward pass with the gated branch's before it: the reference's frame. -/
theorem prenormPostBwdRefFrame [Cert.PrenormPostBwdRefIdeal.Facts] : Cert.quiescent_PrenormPostBwdRefIdeal := fun m ρ _ =>
  (θ_run Cert.PrenormPostBwdRefIdeal.defs _ _).mono (fun r h => ⟨fun c => (h c).2.2.2.2.2.2.2.2, sem_eq_zero_of_no_sems (by decide) r.2⟩)
    (Cert.PrenormPostBwdRefIdeal.Value.run (F := Ideal) m ρ)

set_option maxHeartbeats 1000000 in
/-- The norm's backward pass with the gated branch's before it: the kernel's result is the reference's. -/
theorem prenormPostBwd [Cert.PrenormPostBwdIdeal.Facts] [Cert.PrenormPostBwdRefIdeal.Facts] : Cert.algebraic_PrenormPostBwdIdeal_PrenormPostBwdRefIdeal := by
  pair_intro
  · run_from Cert.PrenormPostBwdIdeal.Value.run_blocks m g
  · refine (θ_run _ _ _).mono (fun r hr c => ?_) (Cert.PrenormPostBwdRefIdeal.Value.run (F := Ideal) m' g')
    obtain ⟨h0, h1, h2, h3, h4, h5, h6, h7, ha⟩ := hr c
    refine ⟨h0.trans ?_, h1.trans ?_, h2.trans ?_, h3.trans ?_, h4.trans ?_, h5.trans ?_, h6.trans ?_, h7.trans ?_, ha⟩
    · refine (Cert.PrenormPostBwdRefIdeal.Read.val_main_v49_eq (F := Ideal) m' c).trans ?_
      rw [(hagree c).1, (hagree c).2.1, (hagree c).2.2.1, (hagree c).2.2.2.1, (hagree c).2.2.2.2.1]
      exact (Cert.PrenormPostBwdFin.final_dx m c).symm
    · refine (Cert.PrenormPostBwdRefIdeal.Read.val_main_v24_eq (F := Ideal) _).trans ?_
      rw [(hagree c).1]
      exact (Cert.PrenormPostBwdFin.final_dsh m c).symm
    · refine (Cert.PrenormPostBwdRefIdeal.Read.val_main_v27_eq (F := Ideal) _ _ _).trans ?_
      rw [(hagree c).1, (hagree c).2.1, (hagree c).2.2.2.1]
      exact (Cert.PrenormPostBwdFin.final_dsc m c).symm
    · refine (Cert.PrenormPostBwdRefIdeal.Read.val_main_v32_eq (F := Ideal) _ _ _).trans ?_
      rw [(hagree c).1, (hagree c).2.1, (hagree c).2.2.2.2.1]
      exact (Cert.PrenormPostBwdFin.final_dg m c).symm
    · refine (Cert.PrenormPostBwdRefIdeal.Read.val_main_v93_eq (F := Ideal) m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.PrenormPostBwdFin.final_dy m c).symm
    · refine (Cert.PrenormPostBwdRefIdeal.Read.val_main_v73_eq (F := Ideal) m' c).trans ?_
      rw [(hagree c).1, (hagree c).2.1, (hagree c).2.2.1, (hagree c).2.2.2.1, (hagree c).2.2.2.2.1, (hagree c).2.2.2.2.2.1, (hagree c).2.2.2.2.2.2.1]
      exact (Cert.PrenormPostBwdFin.final_dgate m c).symm
    · refine (Cert.PrenormPostBwdRefIdeal.Read.val_main_v76_eq (F := Ideal) m' c).trans ?_
      rw [(hagree c).1, (hagree c).2.1, (hagree c).2.2.1, (hagree c).2.2.2.1, (hagree c).2.2.2.2.1, (hagree c).2.2.2.2.2.1, (hagree c).2.2.2.2.2.2.2]
      exact (Cert.PrenormPostBwdFin.final_dgp m c).symm
    · refine (Cert.PrenormPostBwdRefIdeal.Read.val_main_v95_eq (F := Ideal) m' c).trans ?_
      rw [(hagree c).1, (hagree c).2.1, (hagree c).2.2.1, (hagree c).2.2.2.1, (hagree c).2.2.2.2.1, (hagree c).2.2.2.2.2.1, (hagree c).2.2.2.2.2.2.1, (hagree c).2.2.2.2.2.2.2]
      exact (Cert.PrenormPostBwdFin.final_db m c).symm

/-- The last norm with the loss: the reference's frame. -/
theorem postLossRefFrame [Cert.PostLossRefIdeal.Facts] : Cert.quiescent_PostLossRefIdeal := fun m ρ _ =>
  (θ_run Cert.PostLossRefIdeal.defs _ _).mono (fun r h => ⟨fun c => (h c).2.2.2.2.2, sem_eq_zero_of_no_sems (by decide) r.2⟩)
    (Cert.PostLossRefIdeal.Value.run (F := Ideal) m ρ)

set_option maxHeartbeats 1000000 in
/-- The last norm with the loss: the kernel's result is the reference's. -/
theorem postLoss [Cert.PostLossIdeal.Facts] [Cert.PostLossRefIdeal.Facts] : Cert.algebraic_PostLossIdeal_PostLossRefIdeal := by
  pair_intro
  · run_from Cert.PostLossIdeal.Value.run_blocks m g
  · refine (θ_run _ _ _).mono (fun r hr c => ?_) (Cert.PostLossRefIdeal.Value.run (F := Ideal) m' g')
    obtain ⟨h0, h1, h2, h3, h4, ha⟩ := hr c
    refine ⟨h0.trans ?_, h1.trans ?_, h2.trans ?_, h3.trans ?_, h4.trans ?_, ha⟩
    · refine (Cert.PostLossRefIdeal.Read.val_main_v32_eq (F := Ideal) _ _ _ _ _).trans ?_
      rw [(hagree c).1, (hagree c).2.1, (hagree c).2.2.1, (hagree c).2.2.2.1, (hagree c).2.2.2.2]
      exact (Cert.PostLossFin.final_dx m c).symm
    · refine (Cert.PostLossRefIdeal.Read.val_main_v75_eq (F := Ideal) _ _ _ _ _).trans ?_
      rw [(hagree c).1, (hagree c).2.1, (hagree c).2.2.1, (hagree c).2.2.2.1, (hagree c).2.2.2.2]
      exact (Cert.PostLossFin.final_err m c).symm
    · refine (Cert.PostLossRefIdeal.Read.val_main_v76_eq (F := Ideal) m' c).trans ?_
      rw [(hagree c).1, (hagree c).2.1, (hagree c).2.2.1, (hagree c).2.2.2.1, (hagree c).2.2.2.2]
      exact (Cert.PostLossFin.final_dy m c).symm
    · refine (Cert.PostLossRefIdeal.Read.val_main_v37_eq (F := Ideal) _ _ _ _ _).trans ?_
      rw [(hagree c).1, (hagree c).2.1, (hagree c).2.2.1, (hagree c).2.2.2.1, (hagree c).2.2.2.2]
      exact (Cert.PostLossFin.final_dgate m c).symm
    · refine (Cert.PostLossRefIdeal.Read.val_main_v40_eq (F := Ideal) _ _ _ _ _).trans ?_
      rw [(hagree c).1, (hagree c).2.1, (hagree c).2.2.1, (hagree c).2.2.2.1, (hagree c).2.2.2.2]
      exact (Cert.PostLossFin.final_dg m c).symm

/-- A norm before a product: the reference's frame. -/
theorem prenormRefFrame [Cert.PrenormRefIdeal.Facts] : Cert.quiescent_PrenormRefIdeal := fun m ρ _ =>
  (θ_run Cert.PrenormRefIdeal.defs _ _).mono (fun r h => ⟨fun c => (h c).2, sem_eq_zero_of_no_sems (by decide) r.2⟩)
    (Cert.PrenormRefIdeal.Value.run (F := Ideal) m ρ)

/-- A norm before a product: the kernel's result is the reference's. -/
theorem prenorm [Cert.PrenormIdeal.Facts] [Cert.PrenormRefIdeal.Facts] : Cert.algebraic_PrenormIdeal_PrenormRefIdeal := by
  pair_intro
  · run_from Cert.PrenormIdeal.Value.run_blocks m g
  · run_from Cert.PrenormRefIdeal.Value.run (F := Ideal) m' g'
    refine Eq.trans ?_ (Cert.PrenormFin.final m c).symm
    exact Cert.PrenormRefIdeal.Read.val_main_v18_eq (F := Ideal) _ _ _ _

/-- A gated branch added to the residual, with the next norm: the reference's frame. -/
theorem postPrenormRefFrame [Cert.PostPrenormRefIdeal.Facts] : Cert.quiescent_PostPrenormRefIdeal := fun m ρ _ =>
  (θ_run Cert.PostPrenormRefIdeal.defs _ _).mono (fun r h => ⟨fun c => (h c).2.2, sem_eq_zero_of_no_sems (by decide) r.2⟩)
    (Cert.PostPrenormRefIdeal.Value.run (F := Ideal) m ρ)

/-- A gated branch added to the residual, with the next norm: the kernel's result is the reference's. -/
theorem postPrenorm [Cert.PostPrenormIdeal.Facts] [Cert.PostPrenormRefIdeal.Facts] : Cert.algebraic_PostPrenormIdeal_PostPrenormRefIdeal := by
  pair_intro
  · run_from Cert.PostPrenormIdeal.Value.run_blocks m g
  · refine (θ_run _ _ _).mono (fun r hr c => ?_) (Cert.PostPrenormRefIdeal.Value.run (F := Ideal) m' g')
    obtain ⟨h0, h1, ha⟩ := hr c
    refine ⟨h0.trans ?_, h1.trans ?_, ha⟩
    · refine (Cert.PostPrenormRefIdeal.Read.val_main_v14_eq (F := Ideal) _ _ _ _).trans ?_
      rw [(hagree c).1, (hagree c).2.1, (hagree c).2.2.1, (hagree c).2.2.2.1]
      exact (Cert.PostPrenormFin.final_res m c).symm
    · refine (Cert.PostPrenormRefIdeal.Read.val_main_v33_eq (F := Ideal) _ _ _ _ _ _ _).trans ?_
      rw [(hagree c).1, (hagree c).2.1, (hagree c).2.2.1, (hagree c).2.2.2.1, (hagree c).2.2.2.2.1, (hagree c).2.2.2.2.2.1, (hagree c).2.2.2.2.2.2]
      exact (Cert.PostPrenormFin.final_next m c).symm

/-- The recurrence's output norm and gate: the reference's frame. -/
theorem gateRefFrame [Cert.GateRefIdeal.Facts] : Cert.quiescent_GateRefIdeal := fun m ρ _ =>
  (θ_run Cert.GateRefIdeal.defs _ _).mono (fun r h => ⟨fun c => (h c).2, sem_eq_zero_of_no_sems (by decide) r.2⟩)
    (Cert.GateRefIdeal.Value.run (F := Ideal) m ρ)

/-- The recurrence's output norm and gate: the kernel's result is the reference's. -/
theorem gate [Cert.GateIdeal.Facts] [Cert.GateRefIdeal.Facts] : Cert.algebraic_GateIdeal_GateRefIdeal := by
  pair_intro
  · run_from Cert.GateIdeal.Value.run_blocks m g
  · run_from Cert.GateRefIdeal.Value.run (F := Ideal) m' g'
    refine Eq.trans ?_ (Cert.GateFin.final m c).symm
    exact Cert.GateRefIdeal.Read.val_main_v18_eq (F := Ideal) _ _ _

/-- The optimiser's step of the feed-forward's first weights: the reference's frame. -/
theorem adamWRefFrame [Cert.AdamWRefIdeal.Facts] : Cert.quiescent_AdamWRefIdeal := fun m ρ _ =>
  (θ_run Cert.AdamWRefIdeal.defs _ _).mono (fun r h => ⟨fun c => (h c).2.2.2, sem_eq_zero_of_no_sems (by decide) r.2⟩)
    (Cert.AdamWRefIdeal.Value.run (F := Ideal) m ρ)

/-- The optimiser's step of the feed-forward's first weights: the kernel's result is the reference's. -/
theorem adamW [Cert.AdamWIdeal.Facts] [Cert.AdamWRefIdeal.Facts] : Cert.algebraic_AdamWIdeal_AdamWRefIdeal := by
  pair_intro
  · run_from Cert.AdamWIdeal.Value.run_blocks m g
  · refine (θ_run _ _ _).mono (fun r hr c => ?_) (Cert.AdamWRefIdeal.Value.run (F := Ideal) m' g')
    obtain ⟨h0, h1, h2, ha⟩ := hr c
    refine ⟨h0.trans ?_, h1.trans ?_, h2.trans ?_, ha⟩
    · refine (Cert.AdamWRefIdeal.Read.val_main_v23_eq (F := Ideal) _ _ _ _).trans ?_
      rw [(hagree c).1, (hagree c).2.1, (hagree c).2.2.1, (hagree c).2.2.2.1]
      exact (Cert.AdamWFin.final_upd m c).symm
    · refine (Cert.AdamWRefIdeal.Read.val_main_v4_eq (F := Ideal) _ _).trans ?_
      rw [(hagree c).2.1, (hagree c).2.2.1]
      exact (Cert.AdamWFin.final_mom m c).symm
    · refine (Cert.AdamWRefIdeal.Read.val_main_v10_eq (F := Ideal) _ _).trans ?_
      rw [(hagree c).2.1, (hagree c).2.2.2.1]
      exact (Cert.AdamWFin.final_var m c).symm

/-- The optimiser's step of the feed-forward's second weights: the reference's frame. -/
theorem adamWDownRefFrame [Cert.AdamWDownRefIdeal.Facts] : Cert.quiescent_AdamWDownRefIdeal := fun m ρ _ =>
  (θ_run Cert.AdamWDownRefIdeal.defs _ _).mono (fun r h => ⟨fun c => (h c).2.2.2, sem_eq_zero_of_no_sems (by decide) r.2⟩)
    (Cert.AdamWDownRefIdeal.Value.run (F := Ideal) m ρ)

/-- The optimiser's step of the feed-forward's second weights: the kernel's result is the reference's. -/
theorem adamWDown [Cert.AdamWDownIdeal.Facts] [Cert.AdamWDownRefIdeal.Facts] : Cert.algebraic_AdamWDownIdeal_AdamWDownRefIdeal := by
  pair_intro
  · run_from Cert.AdamWDownIdeal.Value.run_blocks m g
  · refine (θ_run _ _ _).mono (fun r hr c => ?_) (Cert.AdamWDownRefIdeal.Value.run (F := Ideal) m' g')
    obtain ⟨h0, h1, h2, ha⟩ := hr c
    refine ⟨h0.trans ?_, h1.trans ?_, h2.trans ?_, ha⟩
    · refine (Cert.AdamWDownRefIdeal.Read.val_main_v23_eq (F := Ideal) _ _ _ _).trans ?_
      rw [(hagree c).1, (hagree c).2.1, (hagree c).2.2.1, (hagree c).2.2.2.1]
      exact (Cert.AdamWDownFin.final_upd m c).symm
    · refine (Cert.AdamWDownRefIdeal.Read.val_main_v4_eq (F := Ideal) _ _).trans ?_
      rw [(hagree c).2.1, (hagree c).2.2.1]
      exact (Cert.AdamWDownFin.final_mom m c).symm
    · refine (Cert.AdamWDownRefIdeal.Read.val_main_v10_eq (F := Ideal) _ _).trans ?_
      rw [(hagree c).2.1, (hagree c).2.2.2.1]
      exact (Cert.AdamWDownFin.final_var m c).symm

/-- The optimiser's step of the convolution branch's first weights: the reference's frame. -/
theorem adamWConvInRefFrame [Cert.AdamWConvInRefIdeal.Facts] : Cert.quiescent_AdamWConvInRefIdeal := fun m ρ _ =>
  (θ_run Cert.AdamWConvInRefIdeal.defs _ _).mono (fun r h => ⟨fun c => (h c).2.2.2, sem_eq_zero_of_no_sems (by decide) r.2⟩)
    (Cert.AdamWConvInRefIdeal.Value.run (F := Ideal) m ρ)

/-- The optimiser's step of the convolution branch's first weights: the kernel's result is the reference's. -/
theorem adamWConvIn [Cert.AdamWConvInIdeal.Facts] [Cert.AdamWConvInRefIdeal.Facts] : Cert.algebraic_AdamWConvInIdeal_AdamWConvInRefIdeal := by
  pair_intro
  · run_from Cert.AdamWConvInIdeal.Value.run_blocks m g
  · refine (θ_run _ _ _).mono (fun r hr c => ?_) (Cert.AdamWConvInRefIdeal.Value.run (F := Ideal) m' g')
    obtain ⟨h0, h1, h2, ha⟩ := hr c
    refine ⟨h0.trans ?_, h1.trans ?_, h2.trans ?_, ha⟩
    · refine (Cert.AdamWConvInRefIdeal.Read.val_main_v23_eq (F := Ideal) _ _ _ _).trans ?_
      rw [(hagree c).1, (hagree c).2.1, (hagree c).2.2.1, (hagree c).2.2.2.1]
      exact (Cert.AdamWConvInFin.final_upd m c).symm
    · refine (Cert.AdamWConvInRefIdeal.Read.val_main_v4_eq (F := Ideal) _ _).trans ?_
      rw [(hagree c).2.1, (hagree c).2.2.1]
      exact (Cert.AdamWConvInFin.final_mom m c).symm
    · refine (Cert.AdamWConvInRefIdeal.Read.val_main_v10_eq (F := Ideal) _ _).trans ?_
      rw [(hagree c).2.1, (hagree c).2.2.2.1]
      exact (Cert.AdamWConvInFin.final_var m c).symm

/-- The optimiser's step of the convolution branch's last weights: the reference's frame. -/
theorem adamWConvOutRefFrame [Cert.AdamWConvOutRefIdeal.Facts] : Cert.quiescent_AdamWConvOutRefIdeal := fun m ρ _ =>
  (θ_run Cert.AdamWConvOutRefIdeal.defs _ _).mono (fun r h => ⟨fun c => (h c).2.2.2, sem_eq_zero_of_no_sems (by decide) r.2⟩)
    (Cert.AdamWConvOutRefIdeal.Value.run (F := Ideal) m ρ)

/-- The optimiser's step of the convolution branch's last weights: the kernel's result is the reference's. -/
theorem adamWConvOut [Cert.AdamWConvOutIdeal.Facts] [Cert.AdamWConvOutRefIdeal.Facts] : Cert.algebraic_AdamWConvOutIdeal_AdamWConvOutRefIdeal := by
  pair_intro
  · run_from Cert.AdamWConvOutIdeal.Value.run_blocks m g
  · refine (θ_run _ _ _).mono (fun r hr c => ?_) (Cert.AdamWConvOutRefIdeal.Value.run (F := Ideal) m' g')
    obtain ⟨h0, h1, h2, ha⟩ := hr c
    refine ⟨h0.trans ?_, h1.trans ?_, h2.trans ?_, ha⟩
    · refine (Cert.AdamWConvOutRefIdeal.Read.val_main_v23_eq (F := Ideal) _ _ _ _).trans ?_
      rw [(hagree c).1, (hagree c).2.1, (hagree c).2.2.1, (hagree c).2.2.2.1]
      exact (Cert.AdamWConvOutFin.final_upd m c).symm
    · refine (Cert.AdamWConvOutRefIdeal.Read.val_main_v4_eq (F := Ideal) _ _).trans ?_
      rw [(hagree c).2.1, (hagree c).2.2.1]
      exact (Cert.AdamWConvOutFin.final_mom m c).symm
    · refine (Cert.AdamWConvOutRefIdeal.Read.val_main_v10_eq (F := Ideal) _ _).trans ?_
      rw [(hagree c).2.1, (hagree c).2.2.2.1]
      exact (Cert.AdamWConvOutFin.final_var m c).symm

/-- The optimiser's step of the conditioning weights: the reference's frame. -/
theorem adamWAdaRefFrame [Cert.AdamWAdaRefIdeal.Facts] : Cert.quiescent_AdamWAdaRefIdeal := fun m ρ _ =>
  (θ_run Cert.AdamWAdaRefIdeal.defs _ _).mono (fun r h => ⟨fun c => (h c).2.2.2, sem_eq_zero_of_no_sems (by decide) r.2⟩)
    (Cert.AdamWAdaRefIdeal.Value.run (F := Ideal) m ρ)

/-- The optimiser's step of the conditioning weights: the kernel's result is the reference's. -/
theorem adamWAda [Cert.AdamWAdaIdeal.Facts] [Cert.AdamWAdaRefIdeal.Facts] : Cert.algebraic_AdamWAdaIdeal_AdamWAdaRefIdeal := by
  pair_intro
  · run_from Cert.AdamWAdaIdeal.Value.run_blocks m g
  · refine (θ_run _ _ _).mono (fun r hr c => ?_) (Cert.AdamWAdaRefIdeal.Value.run (F := Ideal) m' g')
    obtain ⟨h0, h1, h2, ha⟩ := hr c
    refine ⟨h0.trans ?_, h1.trans ?_, h2.trans ?_, ha⟩
    · refine (Cert.AdamWAdaRefIdeal.Read.val_main_v23_eq (F := Ideal) _ _ _ _).trans ?_
      rw [(hagree c).1, (hagree c).2.1, (hagree c).2.2.1, (hagree c).2.2.2]
      exact (Cert.AdamWAdaFin.final_upd m c).symm
    · refine (Cert.AdamWAdaRefIdeal.Read.val_main_v4_eq (F := Ideal) _ _).trans ?_
      rw [(hagree c).2.1, (hagree c).2.2.1]
      exact (Cert.AdamWAdaFin.final_mom m c).symm
    · refine (Cert.AdamWAdaRefIdeal.Read.val_main_v10_eq (F := Ideal) _ _).trans ?_
      rw [(hagree c).2.1, (hagree c).2.2.2]
      exact (Cert.AdamWAdaFin.final_var m c).symm

/-- The optimiser's step of the recurrence's first weights: the reference's frame. -/
theorem adamWHgrnInRefFrame [Cert.AdamWHgrnInRefIdeal.Facts] : Cert.quiescent_AdamWHgrnInRefIdeal := fun m ρ _ =>
  (θ_run Cert.AdamWHgrnInRefIdeal.defs _ _).mono (fun r h => ⟨fun c => (h c).2.2.2, sem_eq_zero_of_no_sems (by decide) r.2⟩)
    (Cert.AdamWHgrnInRefIdeal.Value.run (F := Ideal) m ρ)

/-- The optimiser's step of the recurrence's first weights: the kernel's result is the reference's. -/
theorem adamWHgrnIn [Cert.AdamWHgrnInIdeal.Facts] [Cert.AdamWHgrnInRefIdeal.Facts] : Cert.algebraic_AdamWHgrnInIdeal_AdamWHgrnInRefIdeal := by
  pair_intro
  · run_from Cert.AdamWHgrnInIdeal.Value.run_blocks m g
  · refine (θ_run _ _ _).mono (fun r hr c => ?_) (Cert.AdamWHgrnInRefIdeal.Value.run (F := Ideal) m' g')
    obtain ⟨h0, h1, h2, ha⟩ := hr c
    refine ⟨h0.trans ?_, h1.trans ?_, h2.trans ?_, ha⟩
    · refine (Cert.AdamWHgrnInRefIdeal.Read.val_main_v23_eq (F := Ideal) _ _ _ _).trans ?_
      rw [(hagree c).1, (hagree c).2.1, (hagree c).2.2.1, (hagree c).2.2.2]
      exact (Cert.AdamWHgrnInFin.final_upd m c).symm
    · refine (Cert.AdamWHgrnInRefIdeal.Read.val_main_v4_eq (F := Ideal) _ _).trans ?_
      rw [(hagree c).2.1, (hagree c).2.2.1]
      exact (Cert.AdamWHgrnInFin.final_mom m c).symm
    · refine (Cert.AdamWHgrnInRefIdeal.Read.val_main_v10_eq (F := Ideal) _ _).trans ?_
      rw [(hagree c).2.1, (hagree c).2.2.2]
      exact (Cert.AdamWHgrnInFin.final_var m c).symm

/-- The optimiser's step of the recurrence's last weights: the reference's frame. -/
theorem adamWHgrnOutRefFrame [Cert.AdamWHgrnOutRefIdeal.Facts] : Cert.quiescent_AdamWHgrnOutRefIdeal := fun m ρ _ =>
  (θ_run Cert.AdamWHgrnOutRefIdeal.defs _ _).mono (fun r h => ⟨fun c => (h c).2.2.2, sem_eq_zero_of_no_sems (by decide) r.2⟩)
    (Cert.AdamWHgrnOutRefIdeal.Value.run (F := Ideal) m ρ)

/-- The optimiser's step of the recurrence's last weights: the kernel's result is the reference's. -/
theorem adamWHgrnOut [Cert.AdamWHgrnOutIdeal.Facts] [Cert.AdamWHgrnOutRefIdeal.Facts] : Cert.algebraic_AdamWHgrnOutIdeal_AdamWHgrnOutRefIdeal := by
  pair_intro
  · run_from Cert.AdamWHgrnOutIdeal.Value.run_blocks m g
  · refine (θ_run _ _ _).mono (fun r hr c => ?_) (Cert.AdamWHgrnOutRefIdeal.Value.run (F := Ideal) m' g')
    obtain ⟨h0, h1, h2, ha⟩ := hr c
    refine ⟨h0.trans ?_, h1.trans ?_, h2.trans ?_, ha⟩
    · refine (Cert.AdamWHgrnOutRefIdeal.Read.val_main_v23_eq (F := Ideal) _ _ _ _).trans ?_
      rw [(hagree c).1, (hagree c).2.1, (hagree c).2.2.1, (hagree c).2.2.2]
      exact (Cert.AdamWHgrnOutFin.final_upd m c).symm
    · refine (Cert.AdamWHgrnOutRefIdeal.Read.val_main_v4_eq (F := Ideal) _ _).trans ?_
      rw [(hagree c).2.1, (hagree c).2.2.1]
      exact (Cert.AdamWHgrnOutFin.final_mom m c).symm
    · refine (Cert.AdamWHgrnOutRefIdeal.Read.val_main_v10_eq (F := Ideal) _ _).trans ?_
      rw [(hagree c).2.1, (hagree c).2.2.2]
      exact (Cert.AdamWHgrnOutFin.final_var m c).symm

/-- The optimiser's step of the small weights: the reference's frame. -/
theorem adamWSmallRefFrame [Cert.AdamWSmallRefIdeal.Facts] : Cert.quiescent_AdamWSmallRefIdeal := fun m ρ _ =>
  (θ_run Cert.AdamWSmallRefIdeal.defs _ _).mono (fun r h => ⟨fun c => (h c).2.2.2, sem_eq_zero_of_no_sems (by decide) r.2⟩)
    (Cert.AdamWSmallRefIdeal.Value.run (F := Ideal) m ρ)

/-- The optimiser's step of the small weights: the kernel's result is the reference's. -/
theorem adamWSmall [Cert.AdamWSmallIdeal.Facts] [Cert.AdamWSmallRefIdeal.Facts] : Cert.algebraic_AdamWSmallIdeal_AdamWSmallRefIdeal := by
  pair_intro
  · run_from Cert.AdamWSmallIdeal.Value.run_blocks m g
  · refine (θ_run _ _ _).mono (fun r hr c => ?_) (Cert.AdamWSmallRefIdeal.Value.run (F := Ideal) m' g')
    obtain ⟨h0, h1, h2, ha⟩ := hr c
    refine ⟨h0.trans ?_, h1.trans ?_, h2.trans ?_, ha⟩
    · refine (Cert.AdamWSmallRefIdeal.Read.val_main_v23_eq (F := Ideal) _ _ _ _).trans ?_
      rw [(hagree c).1, (hagree c).2.1, (hagree c).2.2.1, (hagree c).2.2.2]
      exact (Cert.AdamWSmallFin.final_upd m c).symm
    · refine (Cert.AdamWSmallRefIdeal.Read.val_main_v4_eq (F := Ideal) _ _).trans ?_
      rw [(hagree c).2.1, (hagree c).2.2.1]
      exact (Cert.AdamWSmallFin.final_mom m c).symm
    · refine (Cert.AdamWSmallRefIdeal.Read.val_main_v10_eq (F := Ideal) _ _).trans ?_
      rw [(hagree c).2.1, (hagree c).2.2.2]
      exact (Cert.AdamWSmallFin.final_var m c).symm

/-- The gradient of the conditioning weights: the reference's frame. -/
theorem adaWgradRefFrame [Cert.AdaWgradRefIdeal.Facts] : Cert.quiescent_AdaWgradRefIdeal := fun m ρ _ =>
  (θ_run Cert.AdaWgradRefIdeal.defs _ _).mono (fun r h => ⟨fun c => (h c).2, sem_eq_zero_of_no_sems (by decide) r.2⟩)
    (Cert.AdaWgradRefIdeal.Value.run (F := Ideal) m ρ)

/-- The gradient of the conditioning weights: the kernel's result is the reference's. -/
theorem adaWgrad [Cert.AdaWgradIdeal.Facts] [Cert.AdaWgradRefIdeal.Facts] : Cert.algebraic_AdaWgradIdeal_AdaWgradRefIdeal := by
  pair_intro
  · run_from Cert.AdaWgradIdeal.Value.run_blocks m g
  · run_from Cert.AdaWgradRefIdeal.Value.run (F := Ideal) m' g'
    refine Eq.trans ?_ (Cert.AdaWgradFin.final m c).symm
    exact Cert.AdaWgradRefIdeal.Read.val_main_v7_eq (F := Ideal) _ _

/-- The sum of the devices' small gradients: the reference's frame. -/
theorem sumSmallRefFrame [Cert.SumSmallRefIdeal.Facts] : Cert.quiescent_SumSmallRefIdeal := fun m ρ _ =>
  (θ_run Cert.SumSmallRefIdeal.defs _ _).mono (fun r h => ⟨fun c => (h c).2, sem_eq_zero_of_no_sems (by decide) r.2⟩)
    (Cert.SumSmallRefIdeal.Value.run (F := Ideal) m ρ)

/-- The sum of the devices' small gradients: the kernel's result is the reference's. -/
theorem sumSmall [Cert.SumSmallIdeal.Facts] [Cert.SumSmallRefIdeal.Facts] : Cert.algebraic_SumSmallIdeal_SumSmallRefIdeal := by
  pair_intro
  · run_from Cert.SumSmallIdeal.Value.run_blocks m g
  · refine (θ_run _ _ _).mono (fun r hr c => ?_) (Cert.SumSmallRefIdeal.Value.run (F := Ideal) m' g')
    obtain ⟨h0, ha⟩ := hr c
    refine ⟨h0.trans ?_, ha⟩
    · refine (Cert.SumSmallRefIdeal.Read.val_main_v0_eq (F := Ideal) _).trans ?_
      rw [(hagree c)]
      exact (Cert.SumSmallFin.final m c).symm

/-- The recurrence's output norm's and gate's backward pass: the reference's frame. -/
theorem gateBwdRefFrame [Cert.GateBwdRefIdeal.Facts] : Cert.quiescent_GateBwdRefIdeal := fun m ρ _ =>
  (θ_run Cert.GateBwdRefIdeal.defs _ _).mono (fun r h => ⟨fun c => (h c).2.2.2, sem_eq_zero_of_no_sems (by decide) r.2⟩)
    (Cert.GateBwdRefIdeal.Value.run (F := Ideal) m ρ)

/-- The recurrence's output norm's and gate's backward pass: the kernel's result is the reference's. -/
theorem gateBwd [Cert.GateBwdIdeal.Facts] [Cert.GateBwdRefIdeal.Facts] : Cert.algebraic_GateBwdIdeal_GateBwdRefIdeal := by
  pair_intro
  · run_from Cert.GateBwdIdeal.Value.run_blocks m g
  · refine (θ_run _ _ _).mono (fun r hr c => ?_) (Cert.GateBwdRefIdeal.Value.run (F := Ideal) m' g')
    obtain ⟨h0, h1, h2, ha⟩ := hr c
    refine ⟨h0.trans ?_, h1.trans ?_, h2.trans ?_, ha⟩
    · refine (Cert.GateBwdRefIdeal.Read.val_main_v40_eq (F := Ideal) m' c).trans ?_
      rw [(hagree c).1, (hagree c).2.1, (hagree c).2.2.1, (hagree c).2.2.2]
      exact (Cert.GateBwdFin.final_do m c).symm
    · refine (Cert.GateBwdRefIdeal.Read.val_main_v45_eq (F := Ideal) _ _ _ _).trans ?_
      rw [(hagree c).1, (hagree c).2.1, (hagree c).2.2.1, (hagree c).2.2.2]
      exact (Cert.GateBwdFin.final_dgp m c).symm
    · refine (Cert.GateBwdRefIdeal.Read.val_main_v23_eq (F := Ideal) _ _ _).trans ?_
      rw [(hagree c).1, (hagree c).2.1, (hagree c).2.2.1]
      exact (Cert.GateBwdFin.final_dgn m c).symm

theorem claim : Cert.Claim := ⟨Cert.Kernel.Gen.facts, Cert.KernelIdeal.Gen.facts, Cert.ReferenceIdeal.Gen.facts,
  Cert.UpDx.Gen.facts, Cert.UpDxIdeal.Gen.facts, Cert.UpDxRefIdeal.Gen.facts,
  Cert.UpDw.Gen.facts, Cert.UpDwIdeal.Gen.facts, Cert.UpDwRefIdeal.Gen.facts,
  Cert.Up.Gen.facts, Cert.UpIdeal.Gen.facts, Cert.UpRefIdeal.Gen.facts,
  Cert.DownDx.Gen.facts, Cert.DownDxIdeal.Gen.facts, Cert.DownDxRefIdeal.Gen.facts,
  Cert.DownDw.Gen.facts, Cert.DownDwIdeal.Gen.facts, Cert.DownDwRefIdeal.Gen.facts,
  Cert.Down.Gen.facts, Cert.DownIdeal.Gen.facts, Cert.DownRefIdeal.Gen.facts,
  Cert.HgrnInDx.Gen.facts, Cert.HgrnInDxIdeal.Gen.facts, Cert.HgrnInDxRefIdeal.Gen.facts,
  Cert.HgrnInDw.Gen.facts, Cert.HgrnInDwIdeal.Gen.facts, Cert.HgrnInDwRefIdeal.Gen.facts,
  Cert.HgrnIn.Gen.facts, Cert.HgrnInIdeal.Gen.facts, Cert.HgrnInRefIdeal.Gen.facts,
  Cert.ConvInDx.Gen.facts, Cert.ConvInDxIdeal.Gen.facts, Cert.ConvInDxRefIdeal.Gen.facts,
  Cert.ConvInDw.Gen.facts, Cert.ConvInDwIdeal.Gen.facts, Cert.ConvInDwRefIdeal.Gen.facts,
  Cert.ConvIn.Gen.facts, Cert.ConvInIdeal.Gen.facts, Cert.ConvInRefIdeal.Gen.facts,
  Cert.ConvOutDx.Gen.facts, Cert.ConvOutDxIdeal.Gen.facts, Cert.ConvOutDxRefIdeal.Gen.facts,
  Cert.OutDw.Gen.facts, Cert.OutDwIdeal.Gen.facts, Cert.OutDwRefIdeal.Gen.facts,
  Cert.ConvOut.Gen.facts, Cert.ConvOutIdeal.Gen.facts, Cert.ConvOutRefIdeal.Gen.facts,
  Cert.HgrnOutDx.Gen.facts, Cert.HgrnOutDxIdeal.Gen.facts, Cert.HgrnOutDxRefIdeal.Gen.facts,
  Cert.HgrnOut.Gen.facts, Cert.HgrnOutIdeal.Gen.facts, Cert.HgrnOutRefIdeal.Gen.facts,
  Cert.PrenormBwd.Gen.facts, Cert.PrenormBwdIdeal.Gen.facts, Cert.PrenormBwdRefIdeal.Gen.facts,
  Cert.PrenormPostBwd.Gen.facts, Cert.PrenormPostBwdIdeal.Gen.facts, Cert.PrenormPostBwdRefIdeal.Gen.facts,
  Cert.PostLoss.Gen.facts, Cert.PostLossIdeal.Gen.facts, Cert.PostLossRefIdeal.Gen.facts,
  Cert.Prenorm.Gen.facts, Cert.PrenormIdeal.Gen.facts, Cert.PrenormRefIdeal.Gen.facts,
  Cert.PostPrenorm.Gen.facts, Cert.PostPrenormIdeal.Gen.facts, Cert.PostPrenormRefIdeal.Gen.facts,
  Cert.Gate.Gen.facts, Cert.GateIdeal.Gen.facts, Cert.GateRefIdeal.Gen.facts,
  Cert.AdamW.Gen.facts, Cert.AdamWIdeal.Gen.facts, Cert.AdamWRefIdeal.Gen.facts,
  Cert.AdamWDown.Gen.facts, Cert.AdamWDownIdeal.Gen.facts, Cert.AdamWDownRefIdeal.Gen.facts,
  Cert.AdamWConvIn.Gen.facts, Cert.AdamWConvInIdeal.Gen.facts, Cert.AdamWConvInRefIdeal.Gen.facts,
  Cert.AdamWConvOut.Gen.facts, Cert.AdamWConvOutIdeal.Gen.facts, Cert.AdamWConvOutRefIdeal.Gen.facts,
  Cert.AdamWAda.Gen.facts, Cert.AdamWAdaIdeal.Gen.facts, Cert.AdamWAdaRefIdeal.Gen.facts,
  Cert.AdamWHgrnIn.Gen.facts, Cert.AdamWHgrnInIdeal.Gen.facts, Cert.AdamWHgrnInRefIdeal.Gen.facts,
  Cert.AdamWHgrnOut.Gen.facts, Cert.AdamWHgrnOutIdeal.Gen.facts, Cert.AdamWHgrnOutRefIdeal.Gen.facts,
  Cert.AdamWSmall.Gen.facts, Cert.AdamWSmallIdeal.Gen.facts, Cert.AdamWSmallRefIdeal.Gen.facts,
  Cert.AdaWgrad.Gen.facts, Cert.AdaWgradIdeal.Gen.facts, Cert.AdaWgradRefIdeal.Gen.facts,
  Cert.SumSmall.Gen.facts, Cert.SumSmallIdeal.Gen.facts, Cert.SumSmallRefIdeal.Gen.facts,
  Cert.GateBwd.Gen.facts, Cert.GateBwdIdeal.Gen.facts, Cert.GateBwdRefIdeal.Gen.facts,
  fun m ρ _ => Cert.Kernel.Gen.frame m ρ, fun m ρ _ => Cert.KernelIdeal.Gen.frame m ρ, convRefFrame,
  fun m ρ _ => Cert.UpDx.Gen.frame m ρ, fun m ρ _ => Cert.UpDxIdeal.Gen.frame m ρ, upDxRefFrame,
  fun m ρ _ => Cert.UpDw.Gen.frame m ρ, fun m ρ _ => Cert.UpDwIdeal.Gen.frame m ρ, upDwRefFrame,
  fun m ρ _ => Cert.Up.Gen.frame m ρ, fun m ρ _ => Cert.UpIdeal.Gen.frame m ρ, upRefFrame,
  fun m ρ _ => Cert.DownDx.Gen.frame m ρ, fun m ρ _ => Cert.DownDxIdeal.Gen.frame m ρ, downDxRefFrame,
  fun m ρ _ => Cert.DownDw.Gen.frame m ρ, fun m ρ _ => Cert.DownDwIdeal.Gen.frame m ρ, downDwRefFrame,
  fun m ρ _ => Cert.Down.Gen.frame m ρ, fun m ρ _ => Cert.DownIdeal.Gen.frame m ρ, downRefFrame,
  fun m ρ _ => Cert.HgrnInDx.Gen.frame m ρ, fun m ρ _ => Cert.HgrnInDxIdeal.Gen.frame m ρ, hgrnInDxRefFrame,
  fun m ρ _ => Cert.HgrnInDw.Gen.frame m ρ, fun m ρ _ => Cert.HgrnInDwIdeal.Gen.frame m ρ, hgrnInDwRefFrame,
  fun m ρ _ => Cert.HgrnIn.Gen.frame m ρ, fun m ρ _ => Cert.HgrnInIdeal.Gen.frame m ρ, hgrnInRefFrame,
  fun m ρ _ => Cert.ConvInDx.Gen.frame m ρ, fun m ρ _ => Cert.ConvInDxIdeal.Gen.frame m ρ, convInDxRefFrame,
  fun m ρ _ => Cert.ConvInDw.Gen.frame m ρ, fun m ρ _ => Cert.ConvInDwIdeal.Gen.frame m ρ, convInDwRefFrame,
  fun m ρ _ => Cert.ConvIn.Gen.frame m ρ, fun m ρ _ => Cert.ConvInIdeal.Gen.frame m ρ, convInRefFrame,
  fun m ρ _ => Cert.ConvOutDx.Gen.frame m ρ, fun m ρ _ => Cert.ConvOutDxIdeal.Gen.frame m ρ, convOutDxRefFrame,
  fun m ρ _ => Cert.OutDw.Gen.frame m ρ, fun m ρ _ => Cert.OutDwIdeal.Gen.frame m ρ, outDwRefFrame,
  fun m ρ _ => Cert.ConvOut.Gen.frame m ρ, fun m ρ _ => Cert.ConvOutIdeal.Gen.frame m ρ, convOutRefFrame,
  fun m ρ _ => Cert.HgrnOutDx.Gen.frame m ρ, fun m ρ _ => Cert.HgrnOutDxIdeal.Gen.frame m ρ, hgrnOutDxRefFrame,
  fun m ρ _ => Cert.HgrnOut.Gen.frame m ρ, fun m ρ _ => Cert.HgrnOutIdeal.Gen.frame m ρ, hgrnOutRefFrame,
  fun m ρ _ => Cert.PrenormBwd.Gen.frame m ρ, fun m ρ _ => Cert.PrenormBwdIdeal.Gen.frame m ρ, prenormBwdRefFrame,
  fun m ρ _ => Cert.PrenormPostBwd.Gen.frame m ρ, fun m ρ _ => Cert.PrenormPostBwdIdeal.Gen.frame m ρ, prenormPostBwdRefFrame,
  fun m ρ _ => Cert.PostLoss.Gen.frame m ρ, fun m ρ _ => Cert.PostLossIdeal.Gen.frame m ρ, postLossRefFrame,
  fun m ρ _ => Cert.Prenorm.Gen.frame m ρ, fun m ρ _ => Cert.PrenormIdeal.Gen.frame m ρ, prenormRefFrame,
  fun m ρ _ => Cert.PostPrenorm.Gen.frame m ρ, fun m ρ _ => Cert.PostPrenormIdeal.Gen.frame m ρ, postPrenormRefFrame,
  fun m ρ _ => Cert.Gate.Gen.frame m ρ, fun m ρ _ => Cert.GateIdeal.Gen.frame m ρ, gateRefFrame,
  fun m ρ _ => Cert.AdamW.Gen.frame m ρ, fun m ρ _ => Cert.AdamWIdeal.Gen.frame m ρ, adamWRefFrame,
  fun m ρ _ => Cert.AdamWDown.Gen.frame m ρ, fun m ρ _ => Cert.AdamWDownIdeal.Gen.frame m ρ, adamWDownRefFrame,
  fun m ρ _ => Cert.AdamWConvIn.Gen.frame m ρ, fun m ρ _ => Cert.AdamWConvInIdeal.Gen.frame m ρ, adamWConvInRefFrame,
  fun m ρ _ => Cert.AdamWConvOut.Gen.frame m ρ, fun m ρ _ => Cert.AdamWConvOutIdeal.Gen.frame m ρ, adamWConvOutRefFrame,
  fun m ρ _ => Cert.AdamWAda.Gen.frame m ρ, fun m ρ _ => Cert.AdamWAdaIdeal.Gen.frame m ρ, adamWAdaRefFrame,
  fun m ρ _ => Cert.AdamWHgrnIn.Gen.frame m ρ, fun m ρ _ => Cert.AdamWHgrnInIdeal.Gen.frame m ρ, adamWHgrnInRefFrame,
  fun m ρ _ => Cert.AdamWHgrnOut.Gen.frame m ρ, fun m ρ _ => Cert.AdamWHgrnOutIdeal.Gen.frame m ρ, adamWHgrnOutRefFrame,
  fun m ρ _ => Cert.AdamWSmall.Gen.frame m ρ, fun m ρ _ => Cert.AdamWSmallIdeal.Gen.frame m ρ, adamWSmallRefFrame,
  fun m ρ _ => Cert.AdaWgrad.Gen.frame m ρ, fun m ρ _ => Cert.AdaWgradIdeal.Gen.frame m ρ, adaWgradRefFrame,
  fun m ρ _ => Cert.SumSmall.Gen.frame m ρ, fun m ρ _ => Cert.SumSmallIdeal.Gen.frame m ρ, sumSmallRefFrame,
  fun m ρ _ => Cert.GateBwd.Gen.frame m ρ, fun m ρ _ => Cert.GateBwdIdeal.Gen.frame m ρ, gateBwdRefFrame,
  trivial, conv, trivial, upDx, trivial, upDw, trivial, up, trivial, downDx, trivial, downDw, trivial, down, trivial, hgrnInDx, trivial, hgrnInDw, trivial, hgrnIn, trivial, convInDx, trivial, convInDw, trivial, convIn, trivial, convOutDx, trivial, outDw, trivial, convOut, trivial, hgrnOutDx, trivial, hgrnOut, trivial, prenormBwd, trivial, prenormPostBwd, trivial, postLoss, trivial, prenorm, trivial, postPrenorm, trivial, gate, trivial, adamW, trivial, adamWDown, trivial, adamWConvIn, trivial, adamWConvOut, trivial, adamWAda, trivial, adamWHgrnIn, trivial, adamWHgrnOut, trivial, adamWSmall, trivial, adaWgrad, trivial, sumSmall, trivial, gateBwd⟩

end Cert.Proof

end
